-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v257)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v257) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_v9) = v2 c
          ∧ r.2.mem ((c.tc : Thread Cert.Reference2Ideal.nD Cert.Reference2Ideal.τ).loc Cert.Reference2Ideal.main_v12) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v20) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)) (v5 : (c : Dev Cert.Kernel3Ideal.nD) → Buf (Elt Ideal) ((c.tc : Thread Cert.Kernel3Ideal.nD Cert.Kernel3Ideal.τ).loc Cert.Kernel3Ideal.main_v3_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_v3_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_v12) = v3 c
          ∧ r.2.mem ((c.tc : Thread Cert.Reference3Ideal.nD Cert.Reference3Ideal.τ).loc Cert.Reference3Ideal.main_v15) = v4 c
          ∧ r.2.mem ((c.tc : Thread Cert.Reference3Ideal.nD Cert.Reference3Ideal.τ).loc Cert.Reference3Ideal.main_v18) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x16384x8x2x64 : Shape := ⟨5, ![2, 16384, 8, 2, 64]⟩
abbrev S2x16384x8x128 : Shape := ⟨4, ![2, 16384, 8, 128]⟩
abbrev S32x8 : Shape := ⟨2, ![32, 8]⟩
abbrev S1x64 : Shape := ⟨2, ![1, 64]⟩
abbrev S1x128 : Shape := ⟨2, ![1, 128]⟩
abbrev S_ : Shape := ⟨0, ![]⟩

class Facts : Prop where
  bcast_S_S2x16384x8x2x64 : S_.BroadcastsInDim S2x16384x8x2x64 (![] : Fin 0 → Fin S2x16384x8x2x64.rank)
  reducesTo_S2x16384x8x2x64_S_d0_1_2_3_4 : S2x16384x8x2x64.ReducesTo [0, 1, 2, 3, 4] S_
  h_S_ : 0 < S_.numel
  bcast_S_S2x16384x8x128 : S_.BroadcastsInDim S2x16384x8x128 (![] : Fin 0 → Fin S2x16384x8x128.rank)
  reducesTo_S2x16384x8x128_S_d0_1_2_3 : S2x16384x8x128.ReducesTo [0, 1, 2, 3] S_
  bcast_S_S32x8 : S_.BroadcastsInDim S32x8 (![] : Fin 0 → Fin S32x8.rank)
  reducesTo_S32x8_S_d0_1 : S32x8.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S1x64 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  main_v38

def fn_part1 {F : FTy → Type} [FloatOps F] (main_arg4 : FVec F S1x64 .f32) (main_arg5 : FVec F S1x64 .f32) (main_arg6 : FVec F S1x64 .f32) (main_arg7 : FVec F S1x64 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S2x16384x8x2x64 .f32) (main_arg1 : FVec F S2x16384x8x2x64 .f32) (main_arg2 : FVec F S2x16384x8x128 .f32) (main_arg3 : FVec F S32x8 .f32) (main_arg4 : FVec F S1x64 .f32) (main_arg5 : FVec F S1x64 .f32) (main_arg6 : FVec F S1x64 .f32) (main_arg7 : FVec F S1x64 .f32) (main_arg8 : FVec F S1x128 .f32) : IVec S_ 1 :=
  let main_v0 : FVec F S2x16384x8x2x64 .f32 := Host.absf main_arg0
  let main_cst : FVec F S_ .f32 := constant S_ .f32 0x7F800000#32
  let main_v1 : FVec F S2x16384x8x2x64 .f32 := broadcastInDim S2x16384x8x2x64 ![] bcast_S_S2x16384x8x2x64 main_cst
  let main_v2 : IVec S2x16384x8x2x64 1 := cmpf .olt main_v0 main_v1
  let main_c : IVec S_ 1 := constantI S_ 1 1#1
  let main_v3 : IVec S_ 1 := (fun x v => Host.reduce IntOp.andi x v reducesTo_S2x16384x8x2x64_S_d0_1_2_3_4 h_S_) main_v2 main_c
  let main_v4 : FVec F S2x16384x8x2x64 .f32 := Host.absf main_arg1
  let main_cst_0 : FVec F S_ .f32 := constant S_ .f32 0x7F800000#32
  let main_v5 : FVec F S2x16384x8x2x64 .f32 := broadcastInDim S2x16384x8x2x64 ![] bcast_S_S2x16384x8x2x64 main_cst_0
  let main_v6 : IVec S2x16384x8x2x64 1 := cmpf .olt main_v4 main_v5
  let main_c_1 : IVec S_ 1 := constantI S_ 1 1#1
  let main_v7 : IVec S_ 1 := (fun x v => Host.reduce IntOp.andi x v reducesTo_S2x16384x8x2x64_S_d0_1_2_3_4 h_S_) main_v6 main_c_1
  let main_v8 : IVec S_ 1 := andi main_v3 main_v7
  let main_v9 : FVec F S2x16384x8x128 .f32 := Host.absf main_arg2
  let main_cst_2 : FVec F S_ .f32 := constant S_ .f32 0x7F800000#32
  let main_v10 : FVec F S2x16384x8x128 .f32 := broadcastInDim S2x16384x8x128 ![] bcast_S_S2x16384x8x128 main_cst_2
  let main_v11 : IVec S2x16384x8x128 1 := cmpf .olt main_v9 main_v10
  let main_c_3 : IVec S_ 1 := constantI S_ 1 1#1
  let main_v12 : IVec S_ 1 := (fun x v => Host.reduce IntOp.andi x v reducesTo_S2x16384x8x128_S_d0_1_2_3 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_arg6 main_arg7 main_v13 main_v16
-- ==== Kernel.lean ====
abbrev S2x16384x8x2x64 : Shape := ⟨5, ![2, 16384, 8, 2, 64]⟩
abbrev S2x16384x8x128 : Shape := ⟨4, ![2, 16384, 8, 128]⟩
abbrev S32x8 : Shape := ⟨2, ![32, 8]⟩
abbrev S1x64 : Shape := ⟨2, ![1, 64]⟩
abbrev S1x128 : Shape := ⟨2, ![1, 128]⟩
abbrev S64 : Shape := ⟨1, ![64]⟩
abbrev S_ : Shape := ⟨0, ![]⟩
abbrev S1 : Shape := ⟨1, ![1]⟩
abbrev S32768x8x128 : Shape := ⟨3, ![32768, 8, 128]⟩
abbrev S8x128x32768 : Shape := ⟨3, ![8, 128, 32768]⟩
abbrev S32768x1024 : Shape := ⟨2, ![32768, 1024]⟩
abbrev S128 : Shape := ⟨1, ![128]⟩
abbrev S1x8 : Shape := ⟨2, ![1, 8]⟩
abbrev S8 : Shape := ⟨1, ![8]⟩
abbrev S1536x1024 : Shape := ⟨2, ![1536, 1024]⟩
abbrev S1x1536x1024 : Shape := ⟨3, ![1, 1536, 1024]⟩
abbrev S32x8x1x1 : Shape := ⟨4, ![32, 8, 1, 1]⟩
abbrev S1x8x1x1 : Shape := ⟨4, ![1, 8, 1, 1]⟩
abbrev S8x1x1 : Shape := ⟨3, ![8, 1, 1]⟩
abbrev S8x1536x1024 : Shape := ⟨3, ![8, 1536, 1024]⟩
abbrev S8x3x512x1024 : Shape := ⟨4, ![8, 3, 512, 1024]⟩
abbrev S128x1 : Shape := ⟨2, ![128, 1]⟩
abbrev S128x1024 : Shape := ⟨2, ![128, 1024]⟩
abbrev S1x128x1024 : Shape := ⟨3, ![1, 128, 1024]⟩
abbrev S16384x128 : Shape := ⟨2, ![16384, 128]⟩
abbrev S1x128x16384 : Shape := ⟨3, ![1, 128, 16384]⟩
abbrev S1x3x512x1024 : Shape := ⟨4, ![1, 3, 512, 1024]⟩
abbrev S1024x128 : Shape := ⟨2, ![1024, 128]⟩
abbrev S128x2048 : Shape := ⟨2, ![128, 2048]⟩
abbrev S512x2048 : Shape := ⟨2, ![512, 2048]⟩
abbrev S1x2048 : Shape := ⟨2, ![1, 2048]⟩
abbrev S144x2048 : Shape := ⟨2, ![144, 2048]⟩
abbrev S16x512 : Shape := ⟨2, ![16, 512]⟩
abbrev S512x128 : Shape := ⟨2, ![512, 128]⟩
abbrev S1x128x512 : Shape := ⟨3, ![1, 128, 512]⟩
abbrev S128x512 : Shape := ⟨2, ![128, 512]⟩
abbrev S144x512 : Shape := ⟨2, ![144, 512]⟩
abbrev S512x512 : Shape := ⟨2, ![512, 512]⟩
abbrev S1x512 : Shape := ⟨2, ![1, 512]⟩
abbrev S512 : Shape := ⟨1, ![512]⟩
abbrev S1x1x512x1024 : Shape := ⟨4, ![1, 1, 512, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 438
  | .vmem => 16
  | .smem => 1
  | _ => 0

abbrev hbmTy0_0 (i : Nat) : BufTy := match i % 128 with
  | 0 => ⟨S2x16384x8x2x64, .f32⟩
  | 1 => ⟨S2x16384x8x2x64, .f32⟩
  | 2 => ⟨S2x16384x8x128, .f32⟩
  | 3 => ⟨S32x8, .f32⟩
  | 4 => ⟨S1x64, .f32⟩
  | 5 => ⟨S1x64, .f32⟩
  | 6 => ⟨S1x64, .f32⟩
  | 7 => ⟨S1x64, .f32⟩
  | 8 => ⟨S1x128, .f32⟩
  | 9 => ⟨S64, .f32⟩
  | 10 => ⟨S64, .f32⟩
  | 11 => ⟨S64, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S1, .f32⟩
  | 25 => ⟨S_, .f32⟩
  | 26 => ⟨S2x16384x8x2x64, .f32⟩
  | 27 => ⟨S2x16384x8x2x64, .f32⟩
  | 28 => ⟨S_, .f32⟩
  | 29 => ⟨S_, .f32⟩
  | 30 => ⟨S_, .f32⟩
  | 31 => ⟨S_, .f32⟩
  | 32 => ⟨S2x16384x8x2x64, .f32⟩
  | 33 => ⟨S2x16384x8x2x64, .f32⟩
  | 34 => ⟨S32768x8x128, .f32⟩
  | 35 => ⟨S8x128x32768, .f32⟩
  | 36 => ⟨S8x128x32768, .bf16⟩
  | 37 => ⟨S32768x1024, .f32⟩
  | 38 => ⟨S32768x1024, .bf16⟩
  | 39 => ⟨S32768x8x128, .f32⟩
  | 40 => ⟨S8x128x32768, .f32⟩
  | 41 => ⟨S8x128x32768, .bf16⟩
  | 42 => ⟨S128, .f32⟩
  | 43 => ⟨S1x128, .f32⟩
  | 44 => ⟨S_, .i32⟩
  | 45 => ⟨S_, .i32⟩
  | 46 => ⟨S_, .i32⟩
  | 47 => ⟨S_, .i32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x8, .f32⟩
  | 86 => ⟨S8, .f32⟩
  | 87 => ⟨S1536x1024, .i32⟩
  | 88 => ⟨S1536x1024, .i32⟩
  | 89 => ⟨S_, .i32⟩
  | 90 => ⟨S1536x1024, .i32⟩
  | 91 => ⟨S1536x1024, .i32⟩
  | 92 => ⟨S1536x1024, .i32⟩
  | 93 => ⟨S1536x1024, .i32⟩
  | 94 => ⟨S_, .i32⟩
  | 95 => ⟨S1536x1024, .i32⟩
  | 96 => ⟨S1536x1024, .i32⟩
  | 97 => ⟨S1536x1024, .f32⟩
  | 98 => ⟨S_, .f32⟩
  | 99 => ⟨S1536x1024, .f32⟩
  | 100 => ⟨S1536x1024, .f32⟩
  | 101 => ⟨S1536x1024, .f32⟩
  | 102 => ⟨S_, .f32⟩
  | 103 => ⟨S1536x1024, .f32⟩
  | 104 => ⟨S1536x1024, .f32⟩
  | 105 => ⟨S_, .f32⟩
  | 106 => ⟨S1536x1024, .f32⟩
  | 107 => ⟨S1536x1024, .f32⟩
  | 108 => ⟨S1536x1024, .i32⟩
  | 109 => ⟨S_, .i32⟩
  | 110 => ⟨S1536x1024, .i32⟩
  | 111 => ⟨S1536x1024, .i32⟩
  | 112 => ⟨S_, .i32⟩
  | 113 => ⟨S1536x1024, .i32⟩
  | 114 => ⟨S1536x1024, .i32⟩
  | 115 => ⟨S_, .i32⟩
  | 116 => ⟨S1536x1024, .i32⟩
  | 117 => ⟨S1536x1024, .i1⟩
  | 118 => ⟨S_, .i32⟩
  | 119 => ⟨S_, .i32⟩
  | 120 => ⟨S1536x1024, .i32⟩
  | 121 => ⟨S1536x1024, .i32⟩
  | 122 => ⟨S1536x1024, .i32⟩
  | 123 => ⟨S_, .i32⟩
  | 124 => ⟨S1536x1024, .i32⟩
  | 125 => ⟨S1536x1024, .i1⟩
  | 126 => ⟨S1536x1024, .i32⟩
  | 127 => ⟨S1536x1024, .i32⟩
  | _ => ⟨S2x16384x8x2x64, .f32⟩

abbrev hbmTy0_1 (i : Nat) : BufTy := match i % 128 with
  | 0 => ⟨S1536x1024, .i32⟩
  | 1 => ⟨S1x1536x1024, .i32⟩
  | 2 => ⟨S1x8, .f32⟩
  | 3 => ⟨S32x8, .f32⟩
  | 4 => ⟨S32x8, .f32⟩
  | 5 => ⟨S32x8x1x1, .f32⟩
  | 6 => ⟨S1x8x1x1, .f32⟩
  | 7 => ⟨S8x1x1, .f32⟩
  | 8 => ⟨S8x1536x1024, .f32⟩
  | 9 => ⟨S_, .i32⟩
  | 10 => ⟨S1x1536x1024, .i32⟩
  | 11 => ⟨S1x1536x1024, .i1⟩
  | 12 => ⟨S1x8x1x1, .f32⟩
  | 13 => ⟨S8x1x1, .f32⟩
  | 14 => ⟨S8x1536x1024, .i1⟩
  | 15 => ⟨S8x1536x1024, .f32⟩
  | 16 => ⟨S8x1536x1024, .f32⟩
  | 17 => ⟨S_, .i32⟩
  | 18 => ⟨S1x1536x1024, .i32⟩
  | 19 => ⟨S1x1536x1024, .i1⟩
  | 20 => ⟨S1x8x1x1, .f32⟩
  | 21 => ⟨S8x1x1, .f32⟩
  | 22 => ⟨S8x1536x1024, .i1⟩
  | 23 => ⟨S8x1536x1024, .f32⟩
  | 24 => ⟨S8x1536x1024, .f32⟩
  | 25 => ⟨S_, .i32⟩
  | 26 => ⟨S1x1536x1024, .i32⟩
  | 27 => ⟨S1x1536x1024, .i1⟩
  | 28 => ⟨S1x8x1x1, .f32⟩
  | 29 => ⟨S8x1x1, .f32⟩
  | 30 => ⟨S8x1536x1024, .i1⟩
  | 31 => ⟨S8x1536x1024, .f32⟩
  | 32 => ⟨S8x1536x1024, .f32⟩
  | 33 => ⟨S_, .i32⟩
  | 34 => ⟨S1x1536x1024, .i32⟩
  | 35 => ⟨S1x1536x1024, .i1⟩
  | 36 => ⟨S1x8x1x1, .f32⟩
  | 37 => ⟨S8x1x1, .f32⟩
  | 38 => ⟨S8x1536x1024, .i1⟩
  | 39 => ⟨S8x1536x1024, .f32⟩
  | 40 => ⟨S8x1536x1024, .f32⟩
  | 41 => ⟨S_, .i32⟩
  | 42 => ⟨S1x1536x1024, .i32⟩
  | 43 => ⟨S1x1536x1024, .i1⟩
  | 44 => ⟨S1x8x1x1, .f32⟩
  | 45 => ⟨S8x1x1, .f32⟩
  | 46 => ⟨S8x1536x1024, .i1⟩
  | 47 => ⟨S8x1536x1024, .f32⟩
  | 48 => ⟨S8x1536x1024, .f32⟩
  | 49 => ⟨S_, .i32⟩
  | 50 => ⟨S1x1536x1024, .i32⟩
  | 51 => ⟨S1x1536x1024, .i1⟩
  | 52 => ⟨S1x8x1x1, .f32⟩
  | 53 => ⟨S8x1x1, .f32⟩
  | 54 => ⟨S8x1536x1024, .i1⟩
  | 55 => ⟨S8x1536x1024, .f32⟩
  | 56 => ⟨S8x1536x1024, .f32⟩
  | 57 => ⟨S_, .i32⟩
  | 58 => ⟨S1x1536x1024, .i32⟩
  | 59 => ⟨S1x1536x1024, .i1⟩
  | 60 => ⟨S1x8x1x1, .f32⟩
  | 61 => ⟨S8x1x1, .f32⟩
  | 62 => ⟨S8x1536x1024, .i1⟩
  | 63 => ⟨S8x1536x1024, .f32⟩
  | 64 => ⟨S8x1536x1024, .f32⟩
  | 65 => ⟨S_, .i32⟩
  | 66 => ⟨S1x1536x1024, .i32⟩
  | 67 => ⟨S1x1536x1024, .i1⟩
  | 68 => ⟨S1x8x1x1, .f32⟩
  | 69 => ⟨S8x1x1, .f32⟩
  | 70 => ⟨S8x1536x1024, .i1⟩
  | 71 => ⟨S8x1536x1024, .f32⟩
  | 72 => ⟨S8x1536x1024, .f32⟩
  | 73 => ⟨S_, .i32⟩
  | 74 => ⟨S1x1536x1024, .i32⟩
  | 75 => ⟨S1x1536x1024, .i1⟩
  | 76 => ⟨S1x8x1x1, .f32⟩
  | 77 => ⟨S8x1x1, .f32⟩
  | 78 => ⟨S8x1536x1024, .i1⟩
  | 79 => ⟨S8x1536x1024, .f32⟩
  | 80 => ⟨S8x1536x1024, .f32⟩
  | 81 => ⟨S_, .i32⟩
  | 82 => ⟨S1x1536x1024, .i32⟩
  | 83 => ⟨S1x1536x1024, .i1⟩
  | 84 => ⟨S1x8x1x1, .f32⟩
  | 85 => ⟨S8x1x1, .f32⟩
  | 86 => ⟨S8x1536x1024, .i1⟩
  | 87 => ⟨S8x1536x1024, .f32⟩
  | 88 => ⟨S8x1536x1024, .f32⟩
  | 89 => ⟨S_, .i32⟩
  | 90 => ⟨S1x1536x1024, .i32⟩
  | 91 => ⟨S1x1536x1024, .i1⟩
  | 92 => ⟨S1x8x1x1, .f32⟩
  | 93 => ⟨S8x1x1, .f32⟩
  | 94 => ⟨S8x1536x1024, .i1⟩
  | 95 => ⟨S8x1536x1024, .f32⟩
  | 96 => ⟨S8x1536x1024, .f32⟩
  | 97 => ⟨S_, .i32⟩
  | 98 => ⟨S1x1536x1024, .i32⟩
  | 99 => ⟨S1x1536x1024, .i1⟩
  | 100 => ⟨S1x8x1x1, .f32⟩
  | 101 => ⟨S8x1x1, .f32⟩
  | 102 => ⟨S8x1536x1024, .i1⟩
  | 103 => ⟨S8x1536x1024, .f32⟩
  | 104 => ⟨S8x1536x1024, .f32⟩
  | 105 => ⟨S_, .i32⟩
  | 106 => ⟨S1x1536x1024, .i32⟩
  | 107 => ⟨S1x1536x1024, .i1⟩
  | 108 => ⟨S1x8x1x1, .f32⟩
  | 109 => ⟨S8x1x1, .f32⟩
  | 110 => ⟨S8x1536x1024, .i1⟩
  | 111 => ⟨S8x1536x1024, .f32⟩
  | 112 => ⟨S8x1536x1024, .f32⟩
  | 113 => ⟨S_, .i32⟩
  | 114 => ⟨S1x1536x1024, .i32⟩
  | 115 => ⟨S1x1536x1024, .i1⟩
  | 116 => ⟨S1x8x1x1, .f32⟩
  | 117 => ⟨S8x1x1, .f32⟩
  | 118 => ⟨S8x1536x1024, .i1⟩
  | 119 => ⟨S8x1536x1024, .f32⟩
  | 120 => ⟨S8x1536x1024, .f32⟩
  | 121 => ⟨S_, .i32⟩
  | 122 => ⟨S1x1536x1024, .i32⟩
  | 123 => ⟨S1x1536x1024, .i1⟩
  | 124 => ⟨S1x8x1x1, .f32⟩
  | 125 => ⟨S8x1x1, .f32⟩
  | 126 => ⟨S8x1536x1024, .i1⟩
  | 127 => ⟨S8x1536x1024, .f32⟩
  | _ => ⟨S2x16384x8x2x64, .f32⟩

abbrev hbmTy0_2 (i : Nat) : BufTy := match i % 128 with
  | 0 => ⟨S8x1536x1024, .f32⟩
  | 1 => ⟨S_, .i32⟩
  | 2 => ⟨S1x1536x1024, .i32⟩
  | 3 => ⟨S1x1536x1024, .i1⟩
  | 4 => ⟨S1x8x1x1, .f32⟩
  | 5 => ⟨S8x1x1, .f32⟩
  | 6 => ⟨S8x1536x1024, .i1⟩
  | 7 => ⟨S8x1536x1024, .f32⟩
  | 8 => ⟨S8x1536x1024, .f32⟩
  | 9 => ⟨S_, .i32⟩
  | 10 => ⟨S1x1536x1024, .i32⟩
  | 11 => ⟨S1x1536x1024, .i1⟩
  | 12 => ⟨S1x8x1x1, .f32⟩
  | 13 => ⟨S8x1x1, .f32⟩
  | 14 => ⟨S8x1536x1024, .i1⟩
  | 15 => ⟨S8x1536x1024, .f32⟩
  | 16 => ⟨S8x1536x1024, .f32⟩
  | 17 => ⟨S_, .i32⟩
  | 18 => ⟨S1x1536x1024, .i32⟩
  | 19 => ⟨S1x1536x1024, .i1⟩
  | 20 => ⟨S1x8x1x1, .f32⟩
  | 21 => ⟨S8x1x1, .f32⟩
  | 22 => ⟨S8x1536x1024, .i1⟩
  | 23 => ⟨S8x1536x1024, .f32⟩
  | 24 => ⟨S8x1536x1024, .f32⟩
  | 25 => ⟨S_, .i32⟩
  | 26 => ⟨S1x1536x1024, .i32⟩
  | 27 => ⟨S1x1536x1024, .i1⟩
  | 28 => ⟨S1x8x1x1, .f32⟩
  | 29 => ⟨S8x1x1, .f32⟩
  | 30 => ⟨S8x1536x1024, .i1⟩
  | 31 => ⟨S8x1536x1024, .f32⟩
  | 32 => ⟨S8x1536x1024, .f32⟩
  | 33 => ⟨S_, .i32⟩
  | 34 => ⟨S1x1536x1024, .i32⟩
  | 35 => ⟨S1x1536x1024, .i1⟩
  | 36 => ⟨S1x8x1x1, .f32⟩
  | 37 => ⟨S8x1x1, .f32⟩
  | 38 => ⟨S8x1536x1024, .i1⟩
  | 39 => ⟨S8x1536x1024, .f32⟩
  | 40 => ⟨S8x1536x1024, .f32⟩
  | 41 => ⟨S_, .i32⟩
  | 42 => ⟨S1x1536x1024, .i32⟩
  | 43 => ⟨S1x1536x1024, .i1⟩
  | 44 => ⟨S1x8x1x1, .f32⟩
  | 45 => ⟨S8x1x1, .f32⟩
  | 46 => ⟨S8x1536x1024, .i1⟩
  | 47 => ⟨S8x1536x1024, .f32⟩
  | 48 => ⟨S8x1536x1024, .f32⟩
  | 49 => ⟨S_, .i32⟩
  | 50 => ⟨S1x1536x1024, .i32⟩
  | 51 => ⟨S1x1536x1024, .i1⟩
  | 52 => ⟨S1x8x1x1, .f32⟩
  | 53 => ⟨S8x1x1, .f32⟩
  | 54 => ⟨S8x1536x1024, .i1⟩
  | 55 => ⟨S8x1536x1024, .f32⟩
  | 56 => ⟨S8x1536x1024, .f32⟩
  | 57 => ⟨S_, .i32⟩
  | 58 => ⟨S1x1536x1024, .i32⟩
  | 59 => ⟨S1x1536x1024, .i1⟩
  | 60 => ⟨S1x8x1x1, .f32⟩
  | 61 => ⟨S8x1x1, .f32⟩
  | 62 => ⟨S8x1536x1024, .i1⟩
  | 63 => ⟨S8x1536x1024, .f32⟩
  | 64 => ⟨S8x1536x1024, .f32⟩
  | 65 => ⟨S_, .i32⟩
  | 66 => ⟨S1x1536x1024, .i32⟩
  | 67 => ⟨S1x1536x1024, .i1⟩
  | 68 => ⟨S1x8x1x1, .f32⟩
  | 69 => ⟨S8x1x1, .f32⟩
  | 70 => ⟨S8x1536x1024, .i1⟩
  | 71 => ⟨S8x1536x1024, .f32⟩
  | 72 => ⟨S8x1536x1024, .f32⟩
  | 73 => ⟨S_, .i32⟩
  | 74 => ⟨S1x1536x1024, .i32⟩
  | 75 => ⟨S1x1536x1024, .i1⟩
  | 76 => ⟨S1x8x1x1, .f32⟩
  | 77 => ⟨S8x1x1, .f32⟩
  | 78 => ⟨S8x1536x1024, .i1⟩
  | 79 => ⟨S8x1536x1024, .f32⟩
  | 80 => ⟨S8x1536x1024, .f32⟩
  | 81 => ⟨S_, .i32⟩
  | 82 => ⟨S1x1536x1024, .i32⟩
  | 83 => ⟨S1x1536x1024, .i1⟩
  | 84 => ⟨S1x8x1x1, .f32⟩
  | 85 => ⟨S8x1x1, .f32⟩
  | 86 => ⟨S8x1536x1024, .i1⟩
  | 87 => ⟨S8x1536x1024, .f32⟩
  | 88 => ⟨S8x1536x1024, .f32⟩
  | 89 => ⟨S_, .i32⟩
  | 90 => ⟨S1x1536x1024, .i32⟩
  | 91 => ⟨S1x1536x1024, .i1⟩
  | 92 => ⟨S1x8x1x1, .f32⟩
  | 93 => ⟨S8x1x1, .f32⟩
  | 94 => ⟨S8x1536x1024, .i1⟩
  | 95 => ⟨S8x1536x1024, .f32⟩
  | 96 => ⟨S8x1536x1024, .f32⟩
  | 97 => ⟨S_, .i32⟩
  | 98 => ⟨S1x1536x1024, .i32⟩
  | 99 => ⟨S1x1536x1024, .i1⟩
  | 100 => ⟨S1x8x1x1, .f32⟩
  | 101 => ⟨S8x1x1, .f32⟩
  | 102 => ⟨S8x1536x1024, .i1⟩
  | 103 => ⟨S8x1536x1024, .f32⟩
  | 104 => ⟨S8x1536x1024, .f32⟩
  | 105 => ⟨S_, .i32⟩
  | 106 => ⟨S1x1536x1024, .i32⟩
  | 107 => ⟨S1x1536x1024, .i1⟩
  | 108 => ⟨S1x8x1x1, .f32⟩
  | 109 => ⟨S8x1x1, .f32⟩
  | 110 => ⟨S8x1536x1024, .i1⟩
  | 111 => ⟨S8x1536x1024, .f32⟩
  | 112 => ⟨S8x1536x1024, .f32⟩
  | 113 => ⟨S_, .i32⟩
  | 114 => ⟨S1x1536x1024, .i32⟩
  | 115 => ⟨S1x1536x1024, .i1⟩
  | 116 => ⟨S1x8x1x1, .f32⟩
  | 117 => ⟨S8x1x1, .f32⟩
  | 118 => ⟨S8x1536x1024, .i1⟩
  | 119 => ⟨S8x1536x1024, .f32⟩
  | 120 => ⟨S8x1536x1024, .f32⟩
  | 121 => ⟨S_, .i32⟩
  | 122 => ⟨S1x1536x1024, .i32⟩
  | 123 => ⟨S1x1536x1024, .i1⟩
  | 124 => ⟨S1x8x1x1, .f32⟩
  | 125 => ⟨S8x1x1, .f32⟩
  | 126 => ⟨S8x1536x1024, .i1⟩
  | 127 => ⟨S8x1536x1024, .f32⟩
  | _ => ⟨S2x16384x8x2x64, .f32⟩

abbrev hbmTy0_3 (i : Nat) : BufTy := match i % 128 with
  | 0 => ⟨S8x1536x1024, .f32⟩
  | 1 => ⟨S_, .i32⟩
  | 2 => ⟨S_, .i32⟩
  | 3 => ⟨S1536x1024, .i32⟩
  | 4 => ⟨S1536x1024, .i32⟩
  | 5 => ⟨S1536x1024, .i32⟩
  | 6 => ⟨S_, .i32⟩
  | 7 => ⟨S1536x1024, .i32⟩
  | 8 => ⟨S1536x1024, .i1⟩
  | 9 => ⟨S1536x1024, .i32⟩
  | 10 => ⟨S1536x1024, .i32⟩
  | 11 => ⟨S_, .i32⟩
  | 12 => ⟨S1536x1024, .i32⟩
  | 13 => ⟨S1536x1024, .i1⟩
  | 14 => ⟨S1536x1024, .i1⟩
  | 15 => ⟨S_, .i32⟩
  | 16 => ⟨S1536x1024, .i32⟩
  | 17 => ⟨S1536x1024, .i32⟩
  | 18 => ⟨S1536x1024, .i32⟩
  | 19 => ⟨S_, .i32⟩
  | 20 => ⟨S_, .i32⟩
  | 21 => ⟨S1536x1024, .i32⟩
  | 22 => ⟨S1536x1024, .i32⟩
  | 23 => ⟨S1536x1024, .i32⟩
  | 24 => ⟨S_, .i32⟩
  | 25 => ⟨S1536x1024, .i32⟩
  | 26 => ⟨S1536x1024, .i1⟩
  | 27 => ⟨S1536x1024, .i32⟩
  | 28 => ⟨S1536x1024, .i32⟩
  | 29 => ⟨S_, .i32⟩
  | 30 => ⟨S1536x1024, .i32⟩
  | 31 => ⟨S1536x1024, .i1⟩
  | 32 => ⟨S1536x1024, .i1⟩
  | 33 => ⟨S_, .i32⟩
  | 34 => ⟨S1536x1024, .i32⟩
  | 35 => ⟨S1536x1024, .i32⟩
  | 36 => ⟨S1536x1024, .i32⟩
  | 37 => ⟨S1536x1024, .i1⟩
  | 38 => ⟨S1x1536x1024, .i1⟩
  | 39 => ⟨S_, .f32⟩
  | 40 => ⟨S_, .f32⟩
  | 41 => ⟨S8x1536x1024, .i1⟩
  | 42 => ⟨S8x1536x1024, .f32⟩
  | 43 => ⟨S8x1536x1024, .f32⟩
  | 44 => ⟨S_, .f32⟩
  | 45 => ⟨S_, .f32⟩
  | 46 => ⟨S_, .f32⟩
  | 47 => ⟨S_, .f32⟩
  | 48 => ⟨S8x1536x1024, .f32⟩
  | 49 => ⟨S8x1536x1024, .f32⟩
  | 50 => ⟨S8x3x512x1024, .f32⟩
  | 51 => ⟨S128x1, .f32⟩
  | 52 => ⟨S128x1024, .f32⟩
  | 53 => ⟨S32768x1024, .bf16⟩
  | _ => ⟨S2x16384x8x2x64, .f32⟩

abbrev hbmTy (i : Nat) : BufTy := match i / 128 with
  | 0 => hbmTy0_0 i
  | 1 => hbmTy0_1 i
  | 2 => hbmTy0_2 i
  | 3 => hbmTy0_3 i
  | _ => ⟨S2x16384x8x2x64, .f32⟩

abbrev bufTy : (tb : Table) → Fin (tcTables nBuf tb) → BufTy
  | .hbm, ⟨i, _⟩ => hbmTy i
  | .local _ .vmem, ⟨0, _⟩ => ⟨S1x128x1024, .bf16⟩
  | .local _ .vmem, ⟨1, _⟩ => ⟨S1x128x1024, .bf16⟩
  | .local _ .vmem, ⟨2, _⟩ => ⟨S16384x128, .bf16⟩
  | .local _ .vmem, ⟨3, _⟩ => ⟨S16384x128, .bf16⟩
  | .local _ .vmem, ⟨4, _⟩ => ⟨S1x128x16384, .bf16⟩
  | .local _ .vmem, ⟨5, _⟩ => ⟨S1x128x16384, .bf16⟩
  | .local _ .vmem, ⟨6, _⟩ => ⟨S1x3x512x1024, .f32⟩
  | .local _ .vmem, ⟨7, _⟩ => ⟨S1x3x512x1024, .f32⟩
  | .local _ .vmem, ⟨8, _⟩ => ⟨S128x1024, .f32⟩
  | .local _ .vmem, ⟨9, _⟩ => ⟨S1024x128, .bf16⟩
  | .local _ .vmem, ⟨10, _⟩ => ⟨S1024x128, .bf16⟩
  | .local _ .vmem, ⟨11, _⟩ => ⟨S128x2048, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S144x2048, .f32⟩
  | .local _ .smem, ⟨0, _⟩ => ⟨S1, .f32⟩
  | _, _ => ⟨S2x16384x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_c_10 : Ref sig .tc := ⟨.hbm, 59, rfl⟩
abbrev main_v38 : Ref sig .tc := ⟨.hbm, 60, rfl⟩
abbrev main_c_11 : Ref sig .tc := ⟨.hbm, 61, rfl⟩
abbrev main_c_12 : Ref sig .tc := ⟨.hbm, 62, rfl⟩
abbrev main_v39 : Ref sig .tc := ⟨.hbm, 63, rfl⟩
abbrev main_c_13 : Ref sig .tc := ⟨.hbm, 64, rfl⟩
abbrev main_c_14 : Ref sig .tc := ⟨.hbm, 65, rfl⟩
abbrev main_v40 : Ref sig .tc := ⟨.hbm, 66, rfl⟩
abbrev main_c_15 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_16 : Ref sig .tc := ⟨.hbm, 72, rfl⟩
abbrev main_v45 : Ref sig .tc := ⟨.hbm, 73, rfl⟩
abbrev main_c_17 : Ref sig .tc := ⟨.hbm, 74, rfl⟩
abbrev main_v46 : Ref sig .tc := ⟨.hbm, 75, rfl⟩
abbrev main_v47 : Ref sig .tc := ⟨.hbm, 76, rfl⟩
abbrev main_c_18 : Ref sig .tc := ⟨.hbm, 77, rfl⟩
abbrev main_c_19 : Ref sig .tc := ⟨.hbm, 78, rfl⟩
abbrev main_v48 : Ref sig .tc := ⟨.hbm, 79, rfl⟩
abbrev main_c_20 : Ref sig .tc := ⟨.hbm, 80, rfl⟩
abbrev main_c_21 : Ref sig .tc := ⟨.hbm, 81, rfl⟩
abbrev main_v49 : Ref sig .tc := ⟨.hbm, 82, rfl⟩
abbrev main_c_22 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_23 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_24 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_25 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_26 : Ref sig .tc := ⟨.hbm, 102, rfl⟩
abbrev main_v65 : Ref sig .tc := ⟨.hbm, 103, rfl⟩
abbrev main_v66 : Ref sig .tc := ⟨.hbm, 104, rfl⟩
abbrev main_cst_27 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_28 : Ref sig .tc := ⟨.hbm, 109, rfl⟩
abbrev main_v70 : Ref sig .tc := ⟨.hbm, 110, rfl⟩
abbrev main_v71 : Ref sig .tc := ⟨.hbm, 111, rfl⟩
abbrev main_c_29 : Ref sig .tc := ⟨.hbm, 112, rfl⟩
abbrev main_v72 : Ref sig .tc := ⟨.hbm, 113, rfl⟩
abbrev main_v73 : Ref sig .tc := ⟨.hbm, 114, rfl⟩
abbrev main_c_30 : Ref sig .tc := ⟨.hbm, 115, rfl⟩
abbrev main_v74 : Ref sig .tc := ⟨.hbm, 116, rfl⟩
abbrev main_v75 : Ref sig .tc := ⟨.hbm, 117, rfl⟩
abbrev main_c_31 : Ref sig .tc := ⟨.hbm, 118, rfl⟩
abbrev main_c_32 : Ref sig .tc := ⟨.hbm, 119, rfl⟩
abbrev main_call2_v0 : Ref sig .tc := ⟨.hbm, 120, rfl⟩
abbrev main_call2_v1 : Ref sig .tc := ⟨.hbm, 121, rfl⟩
abbrev main_v76 : Ref sig .tc := ⟨.hbm, 122, rfl⟩
abbrev main_c_33 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_34 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_call4_v0 : Ref sig .tc := ⟨.hbm, 142, rfl⟩
abbrev main_call4_v1 : Ref sig .tc := ⟨.hbm, 143, rfl⟩
abbrev main_v94 : Ref sig .tc := ⟨.hbm, 144, rfl⟩
abbrev main_c_35 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call5_v0 : Ref sig .tc := ⟨.hbm, 150, rfl⟩
abbrev main_call5_v1 : Ref sig .tc := ⟨.hbm, 151, rfl⟩
abbrev main_v99 : Ref sig .tc := ⟨.hbm, 152, rfl⟩
abbrev main_c_36 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_call6_v0 : Ref sig .tc := ⟨.hbm, 158, rfl⟩
abbrev main_call6_v1 : Ref sig .tc := ⟨.hbm, 159, rfl⟩
abbrev main_v104 : Ref sig .tc := ⟨.hbm, 160, rfl⟩
abbrev main_c_37 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_call7_v0 : Ref sig .tc := ⟨.hbm, 166, rfl⟩
abbrev main_call7_v1 : Ref sig .tc := ⟨.hbm, 167, rfl⟩
abbrev main_v109 : Ref sig .tc := ⟨.hbm, 168, rfl⟩
abbrev main_c_38 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_call8_v0 : Ref sig .tc := ⟨.hbm, 174, rfl⟩
abbrev main_call8_v1 : Ref sig .tc := ⟨.hbm, 175, rfl⟩
abbrev main_v114 : Ref sig .tc := ⟨.hbm, 176, rfl⟩
abbrev main_c_39 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_call9_v0 : Ref sig .tc := ⟨.hbm, 182, rfl⟩
abbrev main_call9_v1 : Ref sig .tc := ⟨.hbm, 183, rfl⟩
abbrev main_v119 : Ref sig .tc := ⟨.hbm, 184, rfl⟩
abbrev main_c_40 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_call10_v0 : Ref sig .tc := ⟨.hbm, 190, rfl⟩
abbrev main_call10_v1 : Ref sig .tc := ⟨.hbm, 191, rfl⟩
abbrev main_v124 : Ref sig .tc := ⟨.hbm, 192, rfl⟩
abbrev main_c_41 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_call11_v0 : Ref sig .tc := ⟨.hbm, 198, rfl⟩
abbrev main_call11_v1 : Ref sig .tc := ⟨.hbm, 199, rfl⟩
abbrev main_v129 : Ref sig .tc := ⟨.hbm, 200, rfl⟩
abbrev main_c_42 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_call12_v0 : Ref sig .tc := ⟨.hbm, 206, rfl⟩
abbrev main_call12_v1 : Ref sig .tc := ⟨.hbm, 207, rfl⟩
abbrev main_v134 : Ref sig .tc := ⟨.hbm, 208, rfl⟩
abbrev main_c_43 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_call13_v0 : Ref sig .tc := ⟨.hbm, 214, rfl⟩
abbrev main_call13_v1 : Ref sig .tc := ⟨.hbm, 215, rfl⟩
abbrev main_v139 : Ref sig .tc := ⟨.hbm, 216, rfl⟩
abbrev main_c_44 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_call14_v0 : Ref sig .tc := ⟨.hbm, 222, rfl⟩
abbrev main_call14_v1 : Ref sig .tc := ⟨.hbm, 223, rfl⟩
abbrev main_v144 : Ref sig .tc := ⟨.hbm, 224, rfl⟩
abbrev main_c_45 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_call15_v0 : Ref sig .tc := ⟨.hbm, 230, rfl⟩
abbrev main_call15_v1 : Ref sig .tc := ⟨.hbm, 231, rfl⟩
abbrev main_v149 : Ref sig .tc := ⟨.hbm, 232, rfl⟩
abbrev main_c_46 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_call16_v0 : Ref sig .tc := ⟨.hbm, 238, rfl⟩
abbrev main_call16_v1 : Ref sig .tc := ⟨.hbm, 239, rfl⟩
abbrev main_v154 : Ref sig .tc := ⟨.hbm, 240, rfl⟩
abbrev main_c_47 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_call17_v0 : Ref sig .tc := ⟨.hbm, 246, rfl⟩
abbrev main_call17_v1 : Ref sig .tc := ⟨.hbm, 247, rfl⟩
abbrev main_v159 : Ref sig .tc := ⟨.hbm, 248, rfl⟩
abbrev main_c_48 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_call18_v0 : Ref sig .tc := ⟨.hbm, 254, rfl⟩
abbrev main_call18_v1 : Ref sig .tc := ⟨.hbm, 255, rfl⟩
abbrev main_v164 : Ref sig .tc := ⟨.hbm, 256, rfl⟩
abbrev main_c_49 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_call19_v0 : Ref sig .tc := ⟨.hbm, 262, rfl⟩
abbrev main_call19_v1 : Ref sig .tc := ⟨.hbm, 263, rfl⟩
abbrev main_v169 : Ref sig .tc := ⟨.hbm, 264, rfl⟩
abbrev main_c_50 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_call20_v0 : Ref sig .tc := ⟨.hbm, 270, rfl⟩
abbrev main_call20_v1 : Ref sig .tc := ⟨.hbm, 271, rfl⟩
abbrev main_v174 : Ref sig .tc := ⟨.hbm, 272, rfl⟩
abbrev main_c_51 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_call21_v0 : Ref sig .tc := ⟨.hbm, 278, rfl⟩
abbrev main_call21_v1 : Ref sig .tc := ⟨.hbm, 279, rfl⟩
abbrev main_v179 : Ref sig .tc := ⟨.hbm, 280, rfl⟩
abbrev main_c_52 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_call22_v0 : Ref sig .tc := ⟨.hbm, 286, rfl⟩
abbrev main_call22_v1 : Ref sig .tc := ⟨.hbm, 287, rfl⟩
abbrev main_v184 : Ref sig .tc := ⟨.hbm, 288, rfl⟩
abbrev main_c_53 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_call23_v0 : Ref sig .tc := ⟨.hbm, 294, rfl⟩
abbrev main_call23_v1 : Ref sig .tc := ⟨.hbm, 295, rfl⟩
abbrev main_v189 : Ref sig .tc := ⟨.hbm, 296, rfl⟩
abbrev main_c_54 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_call24_v0 : Ref sig .tc := ⟨.hbm, 302, rfl⟩
abbrev main_call24_v1 : Ref sig .tc := ⟨.hbm, 303, rfl⟩
abbrev main_v194 : Ref sig .tc := ⟨.hbm, 304, rfl⟩
abbrev main_c_55 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_call25_v0 : Ref sig .tc := ⟨.hbm, 310, rfl⟩
abbrev main_call25_v1 : Ref sig .tc := ⟨.hbm, 311, rfl⟩
abbrev main_v199 : Ref sig .tc := ⟨.hbm, 312, rfl⟩
abbrev main_c_56 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_call26_v0 : Ref sig .tc := ⟨.hbm, 318, rfl⟩
abbrev main_call26_v1 : Ref sig .tc := ⟨.hbm, 319, rfl⟩
abbrev main_v204 : Ref sig .tc := ⟨.hbm, 320, rfl⟩
abbrev main_c_57 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_v208 : Ref sig .tc := ⟨.hbm, 325, rfl⟩
abbrev main_call27_v0 : Ref sig .tc := ⟨.hbm, 326, rfl⟩
abbrev main_call27_v1 : Ref sig .tc := ⟨.hbm, 327, rfl⟩
abbrev main_v209 : Ref sig .tc := ⟨.hbm, 328, rfl⟩
abbrev main_c_58 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_call28_v0 : Ref sig .tc := ⟨.hbm, 334, rfl⟩
abbrev main_call28_v1 : Ref sig .tc := ⟨.hbm, 335, rfl⟩
abbrev main_v214 : Ref sig .tc := ⟨.hbm, 336, rfl⟩
abbrev main_c_59 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_call29_v0 : Ref sig .tc := ⟨.hbm, 342, rfl⟩
abbrev main_call29_v1 : Ref sig .tc := ⟨.hbm, 343, rfl⟩
abbrev main_v219 : Ref sig .tc := ⟨.hbm, 344, rfl⟩
abbrev main_c_60 : Ref sig .tc := ⟨.hbm, 345, rfl⟩
abbrev main_v220 : Ref sig .tc := ⟨.hbm, 346, rfl⟩
abbrev main_v221 : Ref sig .tc := ⟨.hbm, 347, rfl⟩
abbrev main_v222 : Ref sig .tc := ⟨.hbm, 348, rfl⟩
abbrev main_v223 : Ref sig .tc := ⟨.hbm, 349, rfl⟩
abbrev main_call30_v0 : Ref sig .tc := ⟨.hbm, 350, rfl⟩
abbrev main_call30_v1 : Ref sig .tc := ⟨.hbm, 351, rfl⟩
abbrev main_v224 : Ref sig .tc := ⟨.hbm, 352, rfl⟩
abbrev main_c_61 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_v228 : Ref sig .tc := ⟨.hbm, 357, rfl⟩
abbrev main_call31_v0 : Ref sig .tc := ⟨.hbm, 358, rfl⟩
abbrev main_call31_v1 : Ref sig .tc := ⟨.hbm, 359, rfl⟩
abbrev main_v229 : Ref sig .tc := ⟨.hbm, 360, rfl⟩
abbrev main_c_62 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_call32_v0 : Ref sig .tc := ⟨.hbm, 366, rfl⟩
abbrev main_call32_v1 : Ref sig .tc := ⟨.hbm, 367, rfl⟩
abbrev main_v234 : Ref sig .tc := ⟨.hbm, 368, rfl⟩
abbrev main_c_63 : Ref sig .tc := ⟨.hbm, 369, rfl⟩
abbrev main_v235 : Ref sig .tc := ⟨.hbm, 370, rfl⟩
abbrev main_v236 : Ref sig .tc := ⟨.hbm, 371, rfl⟩
abbrev main_v237 : Ref sig .tc := ⟨.hbm, 372, rfl⟩
abbrev main_v238 : Ref sig .tc := ⟨.hbm, 373, rfl⟩
abbrev main_call33_v0 : Ref sig .tc := ⟨.hbm, 374, rfl⟩
abbrev main_call33_v1 : Ref sig .tc := ⟨.hbm, 375, rfl⟩
abbrev main_v239 : Ref sig .tc := ⟨.hbm, 376, rfl⟩
abbrev main_c_64 : Ref sig .tc := ⟨.hbm, 377, rfl⟩
abbrev main_v240 : Ref sig .tc := ⟨.hbm, 378, rfl⟩
abbrev main_v241 : Ref sig .tc := ⟨.hbm, 379, rfl⟩
abbrev main_v242 : Ref sig .tc := ⟨.hbm, 380, rfl⟩
abbrev main_v243 : Ref sig .tc := ⟨.hbm, 381, rfl⟩
abbrev main_call34_v0 : Ref sig .tc := ⟨.hbm, 382, rfl⟩
abbrev main_call34_v1 : Ref sig .tc := ⟨.hbm, 383, rfl⟩
abbrev main_v244 : Ref sig .tc := ⟨.hbm, 384, rfl⟩
abbrev main_c_65 : Ref sig .tc := ⟨.hbm, 385, rfl⟩
abbrev main_call35_v0 : Ref sig .tc := ⟨.hbm, 386, rfl⟩
abbrev main_call35_v1 : Ref sig .tc := ⟨.hbm, 387, rfl⟩
abbrev main_call35_v2 : Ref sig .tc := ⟨.hbm, 388, rfl⟩
abbrev main_call35_v3 : Ref sig .tc := ⟨.hbm, 389, rfl⟩
abbrev main_call35_v4 : Ref sig .tc := ⟨.hbm, 390, rfl⟩
abbrev main_call35_v5 : Ref sig .tc := ⟨.hbm, 391, rfl⟩
abbrev main_call35_v6 : Ref sig .tc := ⟨.hbm, 392, rfl⟩
abbrev main_call35_v7 : Ref sig .tc := ⟨.hbm, 393, rfl⟩
abbrev main_call35_v8 : Ref sig .tc := ⟨.hbm, 394, rfl⟩
abbrev main_call35_c : Ref sig .tc := ⟨.hbm, 395, rfl⟩
abbrev main_call35_v9 : Ref sig .tc := ⟨.hbm, 396, rfl⟩
abbrev main_call35_v10 : Ref sig .tc := ⟨.hbm, 397, rfl⟩
abbrev main_call35_v11 : Ref sig .tc := ⟨.hbm, 398, rfl⟩
abbrev main_call35_c_0 : Ref sig .tc := ⟨.hbm, 399, rfl⟩
abbrev main_call35_v12 : Ref sig .tc := ⟨.hbm, 400, rfl⟩
abbrev main_call35_v13 : Ref sig .tc := ⟨.hbm, 401, rfl⟩
abbrev main_v245 : Ref sig .tc := ⟨.hbm, 402, rfl⟩
abbrev main_c_66 : Ref sig .tc := ⟨.hbm, 403, rfl⟩
abbrev main_call36_v0 : Ref sig .tc := ⟨.hbm, 404, rfl⟩
abbrev main_call36_v1 : Ref sig .tc := ⟨.hbm, 405, rfl⟩
abbrev main_call36_v2 : Ref sig .tc := ⟨.hbm, 406, rfl⟩
abbrev main_call36_v3 : Ref sig .tc := ⟨.hbm, 407, rfl⟩
abbrev main_call36_v4 : Ref sig .tc := ⟨.hbm, 408, rfl⟩
abbrev main_call36_v5 : Ref sig .tc := ⟨.hbm, 409, rfl⟩
abbrev main_call36_v6 : Ref sig .tc := ⟨.hbm, 410, rfl⟩
abbrev main_call36_v7 : Ref sig .tc := ⟨.hbm, 411, rfl⟩
abbrev main_call36_v8 : Ref sig .tc := ⟨.hbm, 412, rfl⟩
abbrev main_call36_c : Ref sig .tc := ⟨.hbm, 413, rfl⟩
abbrev main_call36_v9 : Ref sig .tc := ⟨.hbm, 414, rfl⟩
abbrev main_call36_v10 : Ref sig .tc := ⟨.hbm, 415, rfl⟩
abbrev main_call36_v11 : Ref sig .tc := ⟨.hbm, 416, rfl⟩
abbrev main_call36_c_0 : Ref sig .tc := ⟨.hbm, 417, rfl⟩
abbrev main_call36_v12 : Ref sig .tc := ⟨.hbm, 418, rfl⟩
abbrev main_call36_v13 : Ref sig .tc := ⟨.hbm, 419, rfl⟩
abbrev main_v246 : Ref sig .tc := ⟨.hbm, 420, rfl⟩
abbrev main_v247 : Ref sig .tc := ⟨.hbm, 421, rfl⟩
abbrev main_v248 : Ref sig .tc := ⟨.hbm, 422, rfl⟩
abbrev main_cst_67 : Ref sig .tc := ⟨.hbm, 423, rfl⟩
abbrev main_call37_v0 : Ref sig .tc := ⟨.hbm, 424, rfl⟩
abbrev main_call37_v1 : Ref sig .tc := ⟨.hbm, 425, rfl⟩
abbrev main_call37_v2 : Ref sig .tc := ⟨.hbm, 426, rfl⟩
abbrev main_v249 : Ref sig .tc := ⟨.hbm, 427, rfl⟩
abbrev main_cst_68 : Ref sig .tc := ⟨.hbm, 428, rfl⟩
abbrev main_v250 : Ref sig .tc := ⟨.hbm, 429, rfl⟩
abbrev main_cst_69 : Ref sig .tc := ⟨.hbm, 430, rfl⟩
abbrev main_v251 : Ref sig .tc := ⟨.hbm, 431, rfl⟩
abbrev main_v252 : Ref sig .tc := ⟨.hbm, 432, rfl⟩
abbrev main_v253 : Ref sig .tc := ⟨.hbm, 433, rfl⟩
abbrev main_v254 : Ref sig .tc := ⟨.hbm, 434, rfl⟩
abbrev main_v255 : Ref sig .tc := ⟨.hbm, 435, rfl⟩
abbrev main_v256 : Ref sig .tc := ⟨.hbm, 436, rfl⟩
abbrev main_v257 : Ref sig .tc := ⟨.hbm, 437, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 16], ![false, false, false]⟩

def k0_mult1 : BitVec 32 :=
  let c0_i32 : BitVec 32 := 0#32
  c0_i32
@[reducible] def k0_t1_loop (i : grid0.Coords) : Scf.Loop 32 :=
  let c0_i32_21 : BitVec 32 := 0#32
  let arg2 : BitVec 32 := BitVec.ofNat 32 (i 2).val
  let c1_i32 : BitVec 32 := 1#32
  let v34 : BitVec 32 := Scalar.subi arg2 c1_i32
  let c0_i32_19 : BitVec 32 := 0#32
  let v35 : BitVec 32 := Scalar.maxsi v34 c0_i32_19
  let v36 : BitVec 32 := Scalar.subi v35 c0_i32_21
  let c1_i32_22 : BitVec 32 := 1#32
  let v38 : BitVec 32 := Scalar.divsi v36 c1_i32_22
  let v39 : BitVec 32 := Scalar.muli v38 c1_i32_22
  let v40 : BitVec 32 := Scalar.addi c0_i32_21 v39
  let c1_i32_23 : BitVec 32 := 1#32
  ⟨c0_i32_21, v40, c1_i32_23⟩
def k0_mult2 (i : grid0.Coords) (k0_t1 : Fin (k0_t1_loop i).trips) : BitVec 32 :=
  let c2_i32_135 : BitVec 32 := 2#32
  let c0_i32_21 : BitVec 32 := 0#32
  let c1_i32_23 : BitVec 32 := 1#32
  let arg15 : BitVec 32 := Scf.iv c0_i32_21 c1_i32_23 k0_t1
  let v256 : BitVec 32 := Scalar.muli c2_i32_135 arg15
  let c1_i32_136 : BitVec 32 := 1#32
  let v257 : BitVec 32 := Scalar.addi v256 c1_i32_136
  let c512_i32_137 : BitVec 32 := 512#32
  let v258 : BitVec 32 := Scalar.muli v257 c512_i32_137
  v258
def k0_off1 (i : grid0.Coords) (k0_t1 : Fin (k0_t1_loop i).trips) (c1_i32_136 : BitVec 32) : Fin 2 → Nat :=
  let c2_i32_135 : BitVec 32 := 2#32
  let c0_i32_21 : BitVec 32 := 0#32
  let c1_i32_23 : BitVec 32 := 1#32
  let arg15 : BitVec 32 := Scf.iv c0_i32_21 c1_i32_23 k0_t1
  let v256 : BitVec 32 := Scalar.muli c2_i32_135 arg15
  let v257 : BitVec 32 := Scalar.addi v256 c1_i32_136
  let c512_i32_137 : BitVec 32 := 512#32
  let v258 : BitVec 32 := Scalar.muli v257 c512_i32_137
  let v259 : BitVec 32 := v258
  let v260 : Index := Scalar.indexCast v259
  let c0_138 : Index := 0#32
  ![v260.toNat, 0]
def k0_mult3 (i : grid0.Coords) (k0_t1 : Fin (k0_t1_loop i).trips) : BitVec 32 :=
  let c2_i32_144 : BitVec 32 := 2#32
  let c0_i32_21 : BitVec 32 := 0#32
  let c1_i32_23 : BitVec 32 := 1#32
  let arg15 : BitVec 32 := Scf.iv c0_i32_21 c1_i32_23 k0_t1
  let v268 : BitVec 32 := Scalar.muli c2_i32_144 arg15
  let c512_i32_145 : BitVec 32 := 512#32
  let v269 : BitVec 32 := Scalar.muli v268 c512_i32_145
  v269
def k0_off2 (i : grid0.Coords) (k0_t1 : Fin (k0_t1_loop i).trips) : Fin 3 → Nat :=
  let c0_146 : Index := 0#32
  let c0_147 : Index := 0#32
  let c2_i32_144 : BitVec 32 := 2#32
  let c0_i32_21 : BitVec 32 := 0#32
  let c1_i32_23 : BitVec 32 := 1#32
  let arg15 : BitVec 32 := Scf.iv c0_i32_21 c1_i32_23 k0_t1
  let v268 : BitVec 32 := Scalar.muli c2_i32_144 arg15
  let c512_i32_145 : BitVec 32 := 512#32
  let v269 : BitVec 32 := Scalar.muli v268 c512_i32_145
  let v270 : BitVec 32 := v269
  let v271 : Index := Scalar.indexCast v270
  ![0, 0, v271.toNat]
def k0_mult4 (i : grid0.Coords) (k0_t1 : Fin (k0_t1_loop i).trips) : BitVec 32 :=
  let c2_i32_196 : BitVec 32 := 2#32
  let c0_i32_21 : BitVec 32 := 0#32
  let c1_i32_23 : BitVec 32 := 1#32
  let arg15 : BitVec 32 := Scf.iv c0_i32_21 c1_i32_23 k0_t1
  let v363 : BitVec 32 := Scalar.muli c2_i32_196 arg15
  let c2_i32_197 : BitVec 32 := 2#32
  let v364 : BitVec 32 := Scalar.addi v363 c2_i32_197
  let c512_i32_198 : BitVec 32 := 512#32
  let v365 : BitVec 32 := Scalar.muli v364 c512_i32_198
  v365
def k0_mult5 (i : grid0.Coords) (k0_t1 : Fin (k0_t1_loop i).trips) : BitVec 32 :=
  let c2_i32_205 : BitVec 32 := 2#32
  let c0_i32_21 : BitVec 32 := 0#32
  let c1_i32_23 : BitVec 32 := 1#32
  let arg15 : BitVec 32 := Scf.iv c0_i32_21 c1_i32_23 k0_t1
  let v375 : BitVec 32 := Scalar.muli c2_i32_205 arg15
  let c1_i32_206 : BitVec 32 := 1#32
  let v376 : BitVec 32 := Scalar.addi v375 c1_i32_206
  let c512_i32_207 : BitVec 32 := 512#32
  let v377 : BitVec 32 := Scalar.muli v376 c512_i32_207
  v377
def k0_off3 (i : grid0.Coords) (k0_t1 : Fin (k0_t1_loop i).trips) : Fin 3 → Nat :=
  let c0_208 : Index := 0#32
  let c0_209 : Index := 0#32
  let c2_i32_205 : BitVec 32 := 2#32
  let c0_i32_21 : BitVec 32 := 0#32
  let c1_i32_23 : BitVec 32 := 1#32
  let arg15 : BitVec 32 := Scf.iv c0_i32_21 c1_i32_23 k0_t1
  let v375 : BitVec 32 := Scalar.muli c2_i32_205 arg15
  let c1_i32_206 : BitVec 32 := 1#32
  let v376 : BitVec 32 := Scalar.addi v375 c1_i32_206
  let c512_i32_207 : BitVec 32 := 512#32
  let v377 : BitVec 32 := Scalar.muli v376 c512_i32_207
  let v378 : BitVec 32 := v377
  let v379 : Index := Scalar.indexCast v378
  ![0, 0, v379.toNat]
@[reducible] def k0_t2_loop (i : grid0.Coords) : Scf.Loop 32 :=
  let c0_i32_21 : BitVec 32 := 0#32
  let arg2 : BitVec 32 := BitVec.ofNat 32 (i 2).val
  let c1_i32 : BitVec 32 := 1#32
  let v34 : BitVec 32 := Scalar.subi arg2 c1_i32
  let c0_i32_19 : BitVec 32 := 0#32
  let v35 : BitVec 32 := Scalar.maxsi v34 c0_i32_19
  let v36 : BitVec 32 := Scalar.subi v35 c0_i32_21
  let c1_i32_22 : BitVec 32 := 1#32
  let v38 : BitVec 32 := Scalar.divsi v36 c1_i32_22
  let v39 : BitVec 32 := Scalar.muli v38 c1_i32_22
  let v40 : BitVec 32 := Scalar.addi c0_i32_21 v39
  let v37 : BitVec 32 := Scalar.addi c0_i32_21 v36
  let c1_i32_24 : BitVec 32 := 1#32
  ⟨v40, v37, c1_i32_24⟩
def k0_mult6 (i : grid0.Coords) (k0_t2 : Fin (k0_t2_loop i).trips) : BitVec 32 :=
  let c2_i32_135 : BitVec 32 := 2#32
  let c0_i32_21 : BitVec 32 := 0#32
  let arg2 : BitVec 32 := BitVec.ofNat 32 (i 2).val
  let c1_i32 : BitVec 32 := 1#32
  let v34 : BitVec 32 := Scalar.subi arg2 c1_i32
  let c0_i32_19 : BitVec 32 := 0#32
  let v35 : BitVec 32 := Scalar.maxsi v34 c0_i32_19
  let v36 : BitVec 32 := Scalar.subi v35 c0_i32_21
  let c1_i32_22 : BitVec 32 := 1#32
  let v38 : BitVec 32 := Scalar.divsi v36 c1_i32_22
  let v39 : BitVec 32 := Scalar.muli v38 c1_i32_22
  let v40 : BitVec 32 := Scalar.addi c0_i32_21 v39
  let c1_i32_24 : BitVec 32 := 1#32
  let arg15 : BitVec 32 := Scf.iv v40 c1_i32_24 k0_t2
  let v256 : BitVec 32 := Scalar.muli c2_i32_135 arg15
  let c1_i32_136 : BitVec 32 := 1#32
  let v257 : BitVec 32 := Scalar.addi v256 c1_i32_136
  let c512_i32_137 : BitVec 32 := 512#32
  let v258 : BitVec 32 := Scalar.muli v257 c512_i32_137
  v258
def k0_off4 (i : grid0.Coords) (k0_t2 : Fin (k0_t2_loop i).trips) (c1_i32_136 : BitVec 32) : Fin 2 → Nat :=
  let c2_i32_135 : BitVec 32 := 2#32
  let c0_i32_21 : BitVec 32 := 0#32
  let arg2 : BitVec 32 := BitVec.ofNat 32 (i 2).val
  let c1_i32 : BitVec 32 := 1#32
  let v34 : BitVec 32 := Scalar.subi arg2 c1_i32
  let c0_i32_19 : BitVec 32 := 0#32
  let v35 : BitVec 32 := Scalar.maxsi v34 c0_i32_19
  let v36 : BitVec 32 := Scalar.subi v35 c0_i32_21
  let c1_i32_22 : BitVec 32 := 1#32
  let v38 : BitVec 32 := Scalar.divsi v36 c1_i32_22
  let v39 : BitVec 32 := Scalar.muli v38 c1_i32_22
  let v40 : BitVec 32 := Scalar.addi c0_i32_21 v39
  let c1_i32_24 : BitVec 32 := 1#32
  let arg15 : BitVec 32 := Scf.iv v40 c1_i32_24 k0_t2
  let v256 : BitVec 32 := Scalar.muli c2_i32_135 arg15
  let v257 : BitVec 32 := Scalar.addi v256 c1_i32_136
  let c512_i32_137 : BitVec 32 := 512#32
  let v258 : BitVec 32 := Scalar.muli v257 c512_i32_137
  let v259 : BitVec 32 := v258
  let v260 : Index := Scalar.indexCast v259
  let c0_138 : Index := 0#32
  ![v260.toNat, 0]
def k0_mult7 (i : grid0.Coords) (k0_t2 : Fin (k0_t2_loop i).trips) : BitVec 32 :=
  let c2_i32_144 : BitVec 32 := 2#32
  let c0_i32_21 : BitVec 32 := 0#32
  let arg2 : BitVec 32 := BitVec.ofNat 32 (i 2).val
  let c1_i32 : BitVec 32 := 1#32
  let v34 : BitVec 32 := Scalar.subi arg2 c1_i32
  let c0_i32_19 : BitVec 32 := 0#32
  let v35 : BitVec 32 := Scalar.maxsi v34 c0_i32_19
  let v36 : BitVec 32 := Scalar.subi v35 c0_i32_21
  let c1_i32_22 : BitVec 32 := 1#32
  let v38 : BitVec 32 := Scalar.divsi v36 c1_i32_22
  let v39 : BitVec 32 := Scalar.muli v38 c1_i32_22
  let v40 : BitVec 32 := Scalar.addi c0_i32_21 v39
  let c1_i32_24 : BitVec 32 := 1#32
  let arg15 : BitVec 32 := Scf.iv v40 c1_i32_24 k0_t2
  let v268 : BitVec 32 := Scalar.muli c2_i32_144 arg15
  let c512_i32_145 : BitVec 32 := 512#32
  let v269 : BitVec 32 := Scalar.muli v268 c512_i32_145
  v269
def k0_off5 (i : grid0.Coords) (k0_t2 : Fin (k0_t2_loop i).trips) : Fin 3 → Nat :=
  let c0_146 : Index := 0#32
  let c0_147 : Index := 0#32
  let c2_i32_144 : BitVec 32 := 2#32
  let c0_i32_21 : BitVec 32 := 0#32
  let arg2 : BitVec 32 := BitVec.ofNat 32 (i 2).val
  let c1_i32 : BitVec 32 := 1#32
  let v34 : BitVec 32 := Scalar.subi arg2 c1_i32
  let c0_i32_19 : BitVec 32 := 0#32
  let v35 : BitVec 32 := Scalar.maxsi v34 c0_i32_19
  let v36 : BitVec 32 := Scalar.subi v35 c0_i32_21
  let c1_i32_22 : BitVec 32 := 1#32
  let v38 : BitVec 32 := Scalar.divsi v36 c1_i32_22
  let v39 : BitVec 32 := Scalar.muli v38 c1_i32_22
  let v40 : BitVec 32 := Scalar.addi c0_i32_21 v39
  let c1_i32_24 : BitVec 32 := 1#32
  let arg15 : BitVec 32 := Scf.iv v40 c1_i32_24 k0_t2
  let v268 : BitVec 32 := Scalar.muli c2_i32_144 arg15
  let c512_i32_145 : BitVec 32 := 512#32
  let v269 : BitVec 32 := Scalar.muli v268 c512_i32_145
  let v270 : BitVec 32 := v269
  let v271 : Index := Scalar.indexCast v270
  ![0, 0, v271.toNat]
def k0_mult8 (i : grid0.Coords) (k0_t2 : Fin (k0_t2_loop i).trips) : BitVec 32 :=
  let c2_i32_196 : BitVec 32 := 2#32
  let c0_i32_21 : BitVec 32 := 0#32
  let arg2 : BitVec 32 := BitVec.ofNat 32 (i 2).val
  let c1_i32 : BitVec 32 := 1#32
  let v34 : BitVec 32 := Scalar.subi arg2 c1_i32
  let c0_i32_19 : BitVec 32 := 0#32
  let v35 : BitVec 32 := Scalar.maxsi v34 c0_i32_19
  let v36 : BitVec 32 := Scalar.subi v35 c0_i32_21
  let c1_i32_22 : BitVec 32 := 1#32
  let v38 : BitVec 32 := Scalar.divsi v36 c1_i32_22
  let v39 : BitVec 32 := Scalar.muli v38 c1_i32_22
  let v40 : BitVec 32 := Scalar.addi c0_i32_21 v39
  let c1_i32_24 : BitVec 32 := 1#32
  let arg15 : BitVec 32 := Scf.iv v40 c1_i32_24 k0_t2
  let v363 : BitVec 32 := Scalar.muli c2_i32_196 arg15
  let c2_i32_197 : BitVec 32 := 2#32
  let v364 : BitVec 32 := Scalar.addi v363 c2_i32_197
  let c512_i32_198 : BitVec 32 := 512#32
  let v365 : BitVec 32 := Scalar.muli v364 c512_i32_198
  v365
def k0_mult9 (i : grid0.Coords) (k0_t2 : Fin (k0_t2_loop i).trips) : BitVec 32 :=
  let c2_i32_205 : BitVec 32 := 2#32
  let c0_i32_21 : BitVec 32 := 0#32
  let arg2 : BitVec 32 := BitVec.ofNat 32 (i 2).val
  let c1_i32 : BitVec 32 := 1#32
  let v34 : BitVec 32 := Scalar.subi arg2 c1_i32
  let c0_i32_19 : BitVec 32 := 0#32
  let v35 : BitVec 32 := Scalar.maxsi v34 c0_i32_19
  let v36 : BitVec 32 := Scalar.subi v35 c0_i32_21
  let c1_i32_22 : BitVec 32 := 1#32
  let v38 : BitVec 32 := Scalar.divsi v36 c1_i32_22
  let v39 : BitVec 32 := Scalar.muli v38 c1_i32_22
  let v40 : BitVec 32 := Scalar.addi c0_i32_21 v39
  let c1_i32_24 : BitVec 32 := 1#32
  let arg15 : BitVec 32 := Scf.iv v40 c1_i32_24 k0_t2
  let v375 : BitVec 32 := Scalar.muli c2_i32_205 arg15
  let c1_i32_206 : BitVec 32 := 1#32
  let v376 : BitVec 32 := Scalar.addi v375 c1_i32_206
  let c512_i32_207 : BitVec 32 := 512#32
  let v377 : BitVec 32 := Scalar.muli v376 c512_i32_207
  v377
def k0_off6 (i : grid0.Coords) (k0_t2 : Fin (k0_t2_loop i).trips) : Fin 3 → Nat :=
  let c0_208 : Index := 0#32
  let c0_209 : Index := 0#32
  let c2_i32_205 : BitVec 32 := 2#32
  let c0_i32_21 : BitVec 32 := 0#32
  let arg2 : BitVec 32 := BitVec.ofNat 32 (i 2).val
  let c1_i32 : BitVec 32 := 1#32
  let v34 : BitVec 32 := Scalar.subi arg2 c1_i32
  let c0_i32_19 : BitVec 32 := 0#32
  let v35 : BitVec 32 := Scalar.maxsi v34 c0_i32_19
  let v36 : BitVec 32 := Scalar.subi v35 c0_i32_21
  let c1_i32_22 : BitVec 32 := 1#32
  let v38 : BitVec 32 := Scalar.divsi v36 c1_i32_22
  let v39 : BitVec 32 := Scalar.muli v38 c1_i32_22
  let v40 : BitVec 32 := Scalar.addi c0_i32_21 v39
  let c1_i32_24 : BitVec 32 := 1#32
  let arg15 : BitVec 32 := Scf.iv v40 c1_i32_24 k0_t2
  let v375 : BitVec 32 := Scalar.muli c2_i32_205 arg15
  let c1_i32_206 : BitVec 32 := 1#32
  let v376 : BitVec 32 := Scalar.addi v375 c1_i32_206
  let c512_i32_207 : BitVec 32 := 512#32
  let v377 : BitVec 32 := Scalar.muli v376 c512_i32_207
  let v378 : BitVec 32 := v377
  let v379 : Index := Scalar.indexCast v378
  ![0, 0, v379.toNat]
def k0_cond1 (i : grid0.Coords) : BitVec 1 :=
  let arg2 : BitVec 32 := BitVec.ofNat 32 (i 2).val
  let c0_i32_25 : BitVec 32 := 0#32
  let v41 : BitVec 1 := Scalar.cmpi .sgt arg2 c0_i32_25
  let v42 : BitVec 32 := Scalar.extui v41
  let c0_i32_26 : BitVec 32 := 0#32
  let v43 : BitVec 1 := Scalar.cmpi .ne v42 c0_i32_26
  v43

def k0_mult10 (i : grid0.Coords) : BitVec 32 :=
  let c2_i32_135 : BitVec 32 := 2#32
  let arg2 : BitVec 32 := BitVec.ofNat 32 (i 2).val
  let v256 : BitVec 32 := Scalar.muli c2_i32_135 arg2
  let c1_i32_136 : BitVec 32 := 1#32
  let v257 : BitVec 32 := Scalar.subi v256 c1_i32_136
  let c512_i32_137 : BitVec 32 := 512#32
  let v258 : BitVec 32 := Scalar.muli v257 c512_i32_137
  v258
def k0_off7 (i : grid0.Coords) : Fin 2 → Nat :=
  let c2_i32_135 : BitVec 32 := 2#32
  let arg2 : BitVec 32 := BitVec.ofNat 32 (i 2).val
  let v256 : BitVec 32 := Scalar.muli c2_i32_135 arg2
  let c1_i32_136 : BitVec 32 := 1#32
  let v257 : BitVec 32 := Scalar.subi v256 c1_i32_136
  let c512_i32_137 : BitVec 32 := 512#32
  let v258 : BitVec 32 := Scalar.muli v257 c512_i32_137
  let v259 : BitVec 32 := v258
  let v260 : Index := Scalar.indexCast v259
  let c0_138 : Index := 0#32
  ![v260.toNat, 0]
def k0_mult11 (i : grid0.Coords) : BitVec 32 :=
  let c2_i32_144 : BitVec 32 := 2#32
  let arg2 : BitVec 32 := BitVec.ofNat 32 (i 2).val
  let v268 : BitVec 32 := Scalar.muli c2_i32_144 arg2
  let c2_i32_145 : BitVec 32 := 2#32
  let v269 : BitVec 32 := Scalar.subi v268 c2_i32_145
  let c512_i32_146 : BitVec 32 := 512#32
  let v270 : BitVec 32 := Scalar.muli v269 c512_i32_146
  v270
def k0_off8 (i : grid0.Coords) (c2_i32_145 : BitVec 32) : Fin 3 → Nat :=
  let c0_147 : Index := 0#32
  let c0_148 : Index := 0#32
  let c2_i32_144 : BitVec 32 := 2#32
  let arg2 : BitVec 32 := BitVec.ofNat 32 (i 2).val
  let v268 : BitVec 32 := Scalar.muli c2_i32_144 arg2
  let v269 : BitVec 32 := Scalar.subi v268 c2_i32_145
  let c512_i32_146 : BitVec 32 := 512#32
  let v270 : BitVec 32 := Scalar.muli v269 c512_i32_146
  let v271 : BitVec 32 := v270
  let v272 : Index := Scalar.indexCast v271
  ![0, 0, v272.toNat]
def k0_mult12 (i : grid0.Coords) : BitVec 32 :=
  let c2_i32_197 : BitVec 32 := 2#32
  let arg2 : BitVec 32 := BitVec.ofNat 32 (i 2).val
  let v364 : BitVec 32 := Scalar.muli c2_i32_197 arg2
  let c512_i32_198 : BitVec 32 := 512#32
  let v365 : BitVec 32 := Scalar.muli v364 c512_i32_198
  v365
def k0_off9 (i : grid0.Coords) : Fin 2 → Nat :=
  let c2_i32_197 : BitVec 32 := 2#32
  let arg2 : BitVec 32 := BitVec.ofNat 32 (i 2).val
  let v364 : BitVec 32 := Scalar.muli c2_i32_197 arg2
  let c512_i32_198 : BitVec 32 := 512#32
  let v365 : BitVec 32 := Scalar.muli v364 c512_i32_198
  let v366 : BitVec 32 := v365
  let v367 : Index := Scalar.indexCast v366
  let c0_199 : Index := 0#32
  ![v367.toNat, 0]
def k0_mult13 (i : grid0.Coords) : BitVec 32 :=
  let c2_i32_205 : BitVec 32 := 2#32
  let arg2 : BitVec 32 := BitVec.ofNat 32 (i 2).val
  let v375 : BitVec 32 := Scalar.muli c2_i32_205 arg2
  let c1_i32_206 : BitVec 32 := 1#32
  let v376 : BitVec 32 := Scalar.subi v375 c1_i32_206
  let c512_i32_211 : BitVec 32 := 512#32
  let v379 : BitVec 32 := Scalar.muli v376 c512_i32_211
  v379
def k0_mult14 (i : grid0.Coords) : BitVec 32 :=
  let c2_i32 : BitVec 32 := 2#32
  let arg2 : BitVec 32 := BitVec.ofNat 32 (i 2).val
  let v44 : BitVec 32 := Scalar.muli c2_i32 arg2
  let c1_i32_27 : BitVec 32 := 1#32
  let v45 : BitVec 32 := Scalar.addi v44 c1_i32_27
  let c512_i32 : BitVec 32 := 512#32
  let v46 : BitVec 32 := Scalar.muli v45 c512_i32
  v46
def k0_off10 (i : grid0.Coords) : Fin 2 → Nat :=
  let c2_i32 : BitVec 32 := 2#32
  let arg2 : BitVec 32 := BitVec.ofNat 32 (i 2).val
  let v44 : BitVec 32 := Scalar.muli c2_i32 arg2
  let c1_i32_27 : BitVec 32 := 1#32
  let v45 : BitVec 32 := Scalar.addi v44 c1_i32_27
  let c512_i32 : BitVec 32 := 512#32
  let v46 : BitVec 32 := Scalar.muli v45 c512_i32
  let v47 : BitVec 32 := v46
  let v48 : Index := Scalar.indexCast v47
  let c0_28 : Index := 0#32
  ![v48.toNat, 0]
def k0_mult15 (i : grid0.Coords) : BitVec 32 :=
  let c2_i32_37 : BitVec 32 := 2#32
  let arg2 : BitVec 32 := BitVec.ofNat 32 (i 2).val
  let v61 : BitVec 32 := Scalar.muli c2_i32_37 arg2
  let c512_i32_41 : BitVec 32 := 512#32
  let v64 : BitVec 32 := Scalar.muli v61 c512_i32_41
  v64
def k0_off11 (i : grid0.Coords) : Fin 3 → Nat :=
  let c0_42 : Index := 0#32
  let c0_43 : Index := 0#32
  let c2_i32_37 : BitVec 32 := 2#32
  let arg2 : BitVec 32 := BitVec.ofNat 32 (i 2).val
  let v61 : BitVec 32 := Scalar.muli c2_i32_37 arg2
  let c512_i32_41 : BitVec 32 := 512#32
  let v64 : BitVec 32 := Scalar.muli v61 c512_i32_41
  let v65 : BitVec 32 := v64
  let v66 : Index := Scalar.indexCast v65
  ![0, 0, v66.toNat]
def k0_mult16 (i : grid0.Coords) : BitVec 32 :=
  let c2_i32_92 : BitVec 32 := 2#32
  let arg2 : BitVec 32 := BitVec.ofNat 32 (i 2).val
  let v166 : BitVec 32 := Scalar.muli c2_i32_92 arg2
  let c1_i32_93 : BitVec 32 := 1#32
  let v167 : BitVec 32 := Scalar.addi v166 c1_i32_93
  let c512_i32_97 : BitVec 32 := 512#32
  let v170 : BitVec 32 := Scalar.muli v167 c512_i32_97
  v170
def k0_off12 (i : grid0.Coords) : Fin 3 → Nat :=
  let c0_98 : Index := 0#32
  let c0_99 : Index := 0#32
  let c2_i32_92 : BitVec 32 := 2#32
  let arg2 : BitVec 32 := BitVec.ofNat 32 (i 2).val
  let v166 : BitVec 32 := Scalar.muli c2_i32_92 arg2
  let c1_i32_93 : BitVec 32 := 1#32
  let v167 : BitVec 32 := Scalar.addi v166 c1_i32_93
  let c512_i32_97 : BitVec 32 := 512#32
  let v170 : BitVec 32 := Scalar.muli v167 c512_i32_97
  let v171 : BitVec 32 := v170
  let v172 : Index := Scalar.indexCast v171
  ![0, 0, v172.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x3x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x8x2x64 : Shape := ⟨5, ![2, 16384, 8, 2, 64]⟩
abbrev S2x16384x8x128 : Shape := ⟨4, ![2, 16384, 8, 128]⟩
abbrev S32x8 : Shape := ⟨2, ![32, 8]⟩
abbrev S1x64 : Shape := ⟨2, ![1, 64]⟩
abbrev S1x128 : Shape := ⟨2, ![1, 128]⟩
abbrev S64 : Shape := ⟨1, ![64]⟩
abbrev S_ : Shape := ⟨0, ![]⟩
abbrev S16384 : Shape := ⟨1, ![16384]⟩
abbrev S2x2x8x16384x16384 : Shape := ⟨5, ![2, 2, 8, 16384, 16384]⟩
abbrev S1x16384 : Shape := ⟨2, ![1, 16384]⟩
abbrev S16384x1 : Shape := ⟨2, ![16384, 1]⟩
abbrev S16384x16384 : Shape := ⟨2, ![16384, 16384]⟩
abbrev S16384x16384x1 : Shape := ⟨3, ![16384, 16384, 1]⟩
abbrev S16384x16384x8 : Shape := ⟨3, ![16384, 16384, 8]⟩
abbrev S8x16384x16384 : Shape := ⟨3, ![8, 16384, 16384]⟩
abbrev S1x1x8x16384x16384 : Shape := ⟨5, ![1, 1, 8, 16384, 16384]⟩
abbrev S2x2x8x16384 : Shape := ⟨4, ![2, 2, 8, 16384]⟩
abbrev S2x2x8x16384x1 : Shape := ⟨5, ![2, 2, 8, 16384, 1]⟩
abbrev S2x1x8x16384x16384 : Shape := ⟨5, ![2, 1, 8, 16384, 16384]⟩
abbrev S2x8x16384x16384 : Shape := ⟨4, ![2, 8, 16384, 16384]⟩
abbrev S2x8x128x16384 : Shape := ⟨4, ![2, 8, 128, 16384]⟩
abbrev S2x16384x8 : Shape := ⟨3, ![2, 16384, 8]⟩
abbrev S2x16384x8x1 : Shape := ⟨4, ![2, 16384, 8, 1]⟩
abbrev S128 : Shape := ⟨1, ![128]⟩
abbrev S1x1x1x128 : Shape := ⟨4, ![1, 1, 1, 128]⟩
abbrev S32768x1024 : Shape := ⟨2, ![32768, 1024]⟩

abbrev nBuf : Space → Nat
  | .hbm => 174
  | .vmem => 0
  | .smem => 0
  | _ => 0

abbrev hbmTy0_0 (i : Nat) : BufTy := match i % 128 with
  | 0 => ⟨S2x16384x8x2x64, .f32⟩
  | 1 => ⟨S2x16384x8x2x64, .f32⟩
  | 2 => ⟨S2x16384x8x128, .f32⟩
  | 3 => ⟨S32x8, .f32⟩
  | 4 => ⟨S1x64, .f32⟩
  | 5 => ⟨S1x64, .f32⟩
  | 6 => ⟨S1x64, .f32⟩
  | 7 => ⟨S1x64, .f32⟩
  | 8 => ⟨S1x128, .f32⟩
  | 9 => ⟨S64, .f32⟩
  | 10 => ⟨S64, .f32⟩
  | 11 => ⟨S64, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S16384, .i32⟩
  | 25 => ⟨S2x2x8x16384x16384, .f32⟩
  | 26 => ⟨S_, .f32⟩
  | 27 => ⟨S2x2x8x16384x16384, .f32⟩
  | 28 => ⟨S2x2x8x16384x16384, .f32⟩
  | 29 => ⟨S1x16384, .i32⟩
  | 30 => ⟨S16384x1, .i32⟩
  | 31 => ⟨S16384x16384, .i32⟩
  | 32 => ⟨S16384x16384, .i32⟩
  | 33 => ⟨S16384x16384, .i32⟩
  | 34 => ⟨S16384x16384, .i32⟩
  | 35 => ⟨S_, .i32⟩
  | 36 => ⟨S16384x16384, .i32⟩
  | 37 => ⟨S16384x16384, .i32⟩
  | 38 => ⟨S16384x16384, .f32⟩
  | 39 => ⟨S_, .f32⟩
  | 40 => ⟨S16384x16384, .f32⟩
  | 41 => ⟨S16384x16384, .f32⟩
  | 42 => ⟨S16384x16384, .f32⟩
  | 43 => ⟨S_, .f32⟩
  | 44 => ⟨S16384x16384, .f32⟩
  | 45 => ⟨S16384x16384, .f32⟩
  | 46 => ⟨S_, .f32⟩
  | 47 => ⟨S16384x16384, .f32⟩
  | 48 => ⟨S16384x16384, .f32⟩
  | 49 => ⟨S16384x16384, .i32⟩
  | 50 => ⟨S_, .i32⟩
  | 51 => ⟨S16384x16384, .i32⟩
  | 52 => ⟨S16384x16384, .i32⟩
  | 53 => ⟨S_, .i32⟩
  | 54 => ⟨S16384x16384, .i32⟩
  | 55 => ⟨S16384x16384, .i32⟩
  | 56 => ⟨S_, .i32⟩
  | 57 => ⟨S16384x16384, .i32⟩
  | 58 => ⟨S16384x16384, .i1⟩
  | 59 => ⟨S_, .i32⟩
  | 60 => ⟨S_, .i32⟩
  | 61 => ⟨S16384x16384, .i32⟩
  | 62 => ⟨S16384x16384, .i32⟩
  | 63 => ⟨S16384x16384, .i32⟩
  | 64 => ⟨S_, .i32⟩
  | 65 => ⟨S16384x16384, .i32⟩
  | 66 => ⟨S16384x16384, .i1⟩
  | 67 => ⟨S16384x16384, .i32⟩
  | 68 => ⟨S16384x16384, .i32⟩
  | 69 => ⟨S16384x16384, .i32⟩
  | 70 => ⟨S_, .i32⟩
  | 71 => ⟨S16384x16384, .i32⟩
  | 72 => ⟨S16384x16384, .i1⟩
  | 73 => ⟨S_, .i32⟩
  | 74 => ⟨S16384x16384, .i32⟩
  | 75 => ⟨S16384x16384, .i32⟩
  | 76 => ⟨S16384x16384, .i32⟩
  | 77 => ⟨S16384x16384x1, .i32⟩
  | 78 => ⟨S16384x16384x8, .f32⟩
  | 79 => ⟨S8x16384x16384, .f32⟩
  | 80 => ⟨S1x16384, .i32⟩
  | 81 => ⟨S_, .i32⟩
  | 82 => ⟨S_, .i32⟩
  | 83 => ⟨S1x16384, .i32⟩
  | 84 => ⟨S1x16384, .i32⟩
  | 85 => ⟨S1x16384, .i32⟩
  | 86 => ⟨S_, .i32⟩
  | 87 => ⟨S1x16384, .i32⟩
  | 88 => ⟨S1x16384, .i1⟩
  | 89 => ⟨S1x16384, .i32⟩
  | 90 => ⟨S1x16384, .i32⟩
  | 91 => ⟨S_, .i32⟩
  | 92 => ⟨S1x16384, .i32⟩
  | 93 => ⟨S1x16384, .i1⟩
  | 94 => ⟨S1x16384, .i1⟩
  | 95 => ⟨S_, .i32⟩
  | 96 => ⟨S1x16384, .i32⟩
  | 97 => ⟨S1x16384, .i32⟩
  | 98 => ⟨S1x16384, .i32⟩
  | 99 => ⟨S16384x1, .i32⟩
  | 100 => ⟨S_, .i32⟩
  | 101 => ⟨S_, .i32⟩
  | 102 => ⟨S16384x1, .i32⟩
  | 103 => ⟨S16384x1, .i32⟩
  | 104 => ⟨S16384x1, .i32⟩
  | 105 => ⟨S_, .i32⟩
  | 106 => ⟨S16384x1, .i32⟩
  | 107 => ⟨S16384x1, .i1⟩
  | 108 => ⟨S16384x1, .i32⟩
  | 109 => ⟨S16384x1, .i32⟩
  | 110 => ⟨S_, .i32⟩
  | 111 => ⟨S16384x1, .i32⟩
  | 112 => ⟨S16384x1, .i1⟩
  | 113 => ⟨S16384x1, .i1⟩
  | 114 => ⟨S_, .i32⟩
  | 115 => ⟨S16384x1, .i32⟩
  | 116 => ⟨S16384x1, .i32⟩
  | 117 => ⟨S16384x1, .i32⟩
  | 118 => ⟨S16384x16384, .i32⟩
  | 119 => ⟨S16384x16384, .i32⟩
  | 120 => ⟨S16384x16384, .i1⟩
  | 121 => ⟨S1x1x8x16384x16384, .f32⟩
  | 122 => ⟨S2x2x8x16384x16384, .f32⟩
  | 123 => ⟨S2x2x8x16384x16384, .f32⟩
  | 124 => ⟨S_, .f32⟩
  | 125 => ⟨S_, .f32⟩
  | 126 => ⟨S2x2x8x16384x16384, .i1⟩
  | 127 => ⟨S2x2x8x16384x16384, .f32⟩
  | _ => ⟨S2x16384x8x2x64, .f32⟩

abbrev hbmTy0_1 (i : Nat) : BufTy := match i % 128 with
  | 0 => ⟨S2x2x8x16384x16384, .f32⟩
  | 1 => ⟨S_, .f32⟩
  | 2 => ⟨S2x2x8x16384, .f32⟩
  | 3 => ⟨S_, .f32⟩
  | 4 => ⟨S2x2x8x16384, .f32⟩
  | 5 => ⟨S2x2x8x16384, .f32⟩
  | 6 => ⟨S2x2x8x16384x1, .f32⟩
  | 7 => ⟨S2x2x8x16384x16384, .f32⟩
  | 8 => ⟨S2x2x8x16384x16384, .f32⟩
  | 9 => ⟨S2x2x8x16384x16384, .f32⟩
  | 10 => ⟨S_, .f32⟩
  | 11 => ⟨S2x2x8x16384, .f32⟩
  | 12 => ⟨S2x2x8x16384x1, .f32⟩
  | 13 => ⟨S2x2x8x16384x16384, .f32⟩
  | 14 => ⟨S2x2x8x16384x16384, .f32⟩
  | 15 => ⟨S2x1x8x16384x16384, .f32⟩
  | 16 => ⟨S2x8x16384x16384, .f32⟩
  | 17 => ⟨S2x1x8x16384x16384, .f32⟩
  | 18 => ⟨S2x8x16384x16384, .f32⟩
  | 19 => ⟨S2x8x16384x16384, .f32⟩
  | 20 => ⟨S2x8x16384x16384, .f32⟩
  | 21 => ⟨S2x8x16384x16384, .f32⟩
  | 22 => ⟨S2x8x128x16384, .f32⟩
  | 23 => ⟨S2x16384x8x128, .f32⟩
  | 24 => ⟨S2x16384x8x128, .f32⟩
  | 25 => ⟨S_, .f32⟩
  | 26 => ⟨S2x16384x8, .f32⟩
  | 27 => ⟨S2x16384x8x1, .f32⟩
  | 28 => ⟨S_, .f32⟩
  | 29 => ⟨S2x16384x8x1, .f32⟩
  | 30 => ⟨S2x16384x8x1, .f32⟩
  | 31 => ⟨S_, .f32⟩
  | 32 => ⟨S2x16384x8x1, .f32⟩
  | 33 => ⟨S2x16384x8x1, .f32⟩
  | 34 => ⟨S2x16384x8x1, .f32⟩
  | 35 => ⟨S2x16384x8x128, .f32⟩
  | 36 => ⟨S2x16384x8x128, .f32⟩
  | 37 => ⟨S128, .f32⟩
  | 38 => ⟨S1x1x1x128, .f32⟩
  | 39 => ⟨S2x16384x8x128, .f32⟩
  | 40 => ⟨S2x16384x8x128, .f32⟩
  | 41 => ⟨S_, .f32⟩
  | 42 => ⟨S2x16384x8x128, .f32⟩
  | 43 => ⟨S2x16384x8x128, .f32⟩
  | 44 => ⟨S32768x1024, .f32⟩
  | 45 => ⟨S32768x1024, .bf16⟩
  | _ => ⟨S2x16384x8x2x64, .f32⟩

abbrev hbmTy (i : Nat) : BufTy := match i / 128 with
  | 0 => hbmTy0_0 i
  | 1 => hbmTy0_1 i
  | _ => ⟨S2x16384x8x2x64, .f32⟩

abbrev bufTy : (tb : Table) → Fin (tcTables nBuf tb) → BufTy
  | .hbm, ⟨i, _⟩ => hbmTy i
  | _, _ => ⟨S2x16384x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_c_10 : Ref sig .tc := ⟨.hbm, 60, rfl⟩
abbrev main_call0_v0 : Ref sig .tc := ⟨.hbm, 61, rfl⟩
abbrev main_call0_v1 : Ref sig .tc := ⟨.hbm, 62, rfl⟩
abbrev main_v39 : Ref sig .tc := ⟨.hbm, 63, rfl⟩
abbrev main_c_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_12 : Ref sig .tc := ⟨.hbm, 70, rfl⟩
abbrev main_v45 : Ref sig .tc := ⟨.hbm, 71, rfl⟩
abbrev main_v46 : Ref sig .tc := ⟨.hbm, 72, rfl⟩
abbrev main_c_13 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_14 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_c : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_0 : Ref sig .tc := ⟨.hbm, 95, rfl⟩
abbrev main_call2_v12 : Ref sig .tc := ⟨.hbm, 96, rfl⟩
abbrev main_call2_v13 : Ref sig .tc := ⟨.hbm, 97, rfl⟩
abbrev main_v54 : Ref sig .tc := ⟨.hbm, 98, rfl⟩
abbrev main_v55 : Ref sig .tc := ⟨.hbm, 99, rfl⟩
abbrev main_c_15 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_c : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_0 : Ref sig .tc := ⟨.hbm, 114, rfl⟩
abbrev main_call3_v12 : Ref sig .tc := ⟨.hbm, 115, rfl⟩
abbrev main_call3_v13 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_cst_16 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v63 : Ref sig .tc := ⟨.hbm, 128, rfl⟩
abbrev main_cst_17 : Ref sig .tc := ⟨.hbm, 129, rfl⟩
abbrev main_v64 : Ref sig .tc := ⟨.hbm, 130, rfl⟩
abbrev main_cst_18 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_cst_19 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_cst_20 : Ref sig .tc := ⟨.hbm, 153, rfl⟩
abbrev main_v85 : Ref sig .tc := ⟨.hbm, 154, rfl⟩
abbrev main_v86 : Ref sig .tc := ⟨.hbm, 155, rfl⟩
abbrev main_cst_21 : Ref sig .tc := ⟨.hbm, 156, rfl⟩
abbrev main_v87 : Ref sig .tc := ⟨.hbm, 157, rfl⟩
abbrev main_v88 : Ref sig .tc := ⟨.hbm, 158, rfl⟩
abbrev main_cst_22 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_23 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩

abbrev nD : Nat := 1
abbrev τ : Topo := Topo.v7x

variable {F : FTy → Type} [FloatOps F]
-- ==== Kernel2.lean ====
abbrev S2x16384x2048 : Shape := ⟨3, ![2, 16384, 2048]⟩
abbrev S1x2048x4096 : Shape := ⟨3, ![1, 2048, 4096]⟩
abbrev S32768x2048 : Shape := ⟨2, ![32768, 2048]⟩
abbrev S2048x4096 : Shape := ⟨2, ![2048, 4096]⟩
abbrev S32768x1024 : Shape := ⟨2, ![32768, 1024]⟩
abbrev S32768x8x128 : Shape := ⟨3, ![32768, 8, 128]⟩
abbrev S8x128x32768 : Shape := ⟨3, ![8, 128, 32768]⟩
abbrev S512x2048 : Shape := ⟨2, ![512, 2048]⟩
abbrev S512x1024 : Shape := ⟨2, ![512, 1024]⟩
abbrev S512x8x128 : Shape := ⟨3, ![512, 8, 128]⟩
abbrev S8x128x512 : Shape := ⟨3, ![8, 128, 512]⟩
abbrev S2048x1024 : Shape := ⟨2, ![2048, 1024]⟩
abbrev S512x128 : Shape := ⟨2, ![512, 128]⟩
abbrev S128x512 : Shape := ⟨2, ![128, 512]⟩
abbrev S1x128x512 : Shape := ⟨3, ![1, 128, 512]⟩
abbrev S512x1x128 : Shape := ⟨3, ![512, 1, 128]⟩

abbrev nBuf : Space → Nat
  | .hbm => 11
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S1x2048x4096, .f32⟩
  | .hbm, ⟨2, _⟩ => ⟨S32768x2048, .f32⟩
  | .hbm, ⟨3, _⟩ => ⟨S2048x4096, .f32⟩
  | .hbm, ⟨4, _⟩ => ⟨S2048x4096, .bf16⟩
  | .hbm, ⟨5, _⟩ => ⟨S32768x1024, .f32⟩
  | .hbm, ⟨6, _⟩ => ⟨S32768x8x128, .f32⟩
  | .hbm, ⟨7, _⟩ => ⟨S32768x8x128, .f32⟩
  | .hbm, ⟨8, _⟩ => ⟨S32768x1024, .bf16⟩
  | .hbm, ⟨9, _⟩ => ⟨S8x128x32768, .bf16⟩
  | .hbm, ⟨10, _⟩ => ⟨S8x128x32768, .bf16⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S512x1024, .f32⟩
  | .local _ .vmem, ⟨4, _⟩ => ⟨S512x1024, .f32⟩
  | .local _ .vmem, ⟨5, _⟩ => ⟨S512x8x128, .f32⟩
  | .local _ .vmem, ⟨6, _⟩ => ⟨S512x8x128, .f32⟩
  | .local _ .vmem, ⟨7, _⟩ => ⟨S512x8x128, .f32⟩
  | .local _ .vmem, ⟨8, _⟩ => ⟨S512x8x128, .f32⟩
  | .local _ .vmem, ⟨9, _⟩ => ⟨S512x1024, .bf16⟩
  | .local _ .vmem, ⟨10, _⟩ => ⟨S512x1024, .bf16⟩
  | .local _ .vmem, ⟨11, _⟩ => ⟨S8x128x512, .bf16⟩
  | .local _ .vmem, ⟨12, _⟩ => ⟨S8x128x512, .bf16⟩
  | .local _ .vmem, ⟨13, _⟩ => ⟨S8x128x512, .bf16⟩
  | .local _ .vmem, ⟨14, _⟩ => ⟨S8x128x512, .bf16⟩
  | .local _ .vmem, ⟨15, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_v3_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![64, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_6 : BitVec 32 := 0#32
  let v18 : BitVec 1 := Scalar.cmpi .ne v17 c0_i32_6
  v18

def k0_cond5 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_7 : BitVec 32 := 0#32
  let v21 : BitVec 1 := Scalar.cmpi .ne v20 c0_i32_7
  v21

def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2x16384x2048 : Shape := ⟨3, ![2, 16384, 2048]⟩
abbrev S1x2048x4096 : Shape := ⟨3, ![1, 2048, 4096]⟩
abbrev S2048x4096 : Shape := ⟨2, ![2048, 4096]⟩
abbrev S2x16384x4096 : Shape := ⟨3, ![2, 16384, 4096]⟩
abbrev S2x16384x1024 : Shape := ⟨3, ![2, 16384, 1024]⟩
abbrev S32768x1024 : Shape := ⟨2, ![32768, 1024]⟩
abbrev S32768x8x128 : Shape := ⟨3, ![32768, 8, 128]⟩
abbrev S_ : Shape := ⟨0, ![]⟩
abbrev S8x128x32768 : Shape := ⟨3, ![8, 128, 32768]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x2048x4096, .f32⟩
  | .hbm, ⟨2, _⟩ => ⟨S2048x4096, .f32⟩
  | .hbm, ⟨3, _⟩ => ⟨S2x16384x4096, .f32⟩
  | .hbm, ⟨4, _⟩ => ⟨S2x16384x1024, .f32⟩
  | .hbm, ⟨5, _⟩ => ⟨S32768x1024, .f32⟩
  | .hbm, ⟨6, _⟩ => ⟨S2x16384x1024, .f32⟩
  | .hbm, ⟨7, _⟩ => ⟨S32768x8x128, .f32⟩
  | .hbm, ⟨8, _⟩ => ⟨S2x16384x1024, .f32⟩
  | .hbm, ⟨9, _⟩ => ⟨S32768x8x128, .f32⟩
  | .hbm, ⟨10, _⟩ => ⟨S2x16384x1024, .f32⟩
  | .hbm, ⟨11, _⟩ => ⟨S32768x8x128, .f32⟩
  | .hbm, ⟨12, _⟩ => ⟨S2x16384x1024, .f32⟩
  | .hbm, ⟨13, _⟩ => ⟨S32768x1024, .f32⟩
  | .hbm, ⟨14, _⟩ => ⟨S32768x1024, .bf16⟩
  | .hbm, ⟨15, _⟩ => ⟨S_, .f32⟩
  | .hbm, ⟨16, _⟩ => ⟨S32768x8x128, .f32⟩
  | .hbm, ⟨17, _⟩ => ⟨S32768x8x128, .f32⟩
  | .hbm, ⟨18, _⟩ => ⟨S_, .f32⟩
  | .hbm, ⟨19, _⟩ => ⟨S32768x8x128, .f32⟩
  | .hbm, ⟨20, _⟩ => ⟨S32768x8x128, .f32⟩
  | .hbm, ⟨21, _⟩ => ⟨S8x128x32768, .f32⟩
  | .hbm, ⟨22, _⟩ => ⟨S8x128x32768, .bf16⟩
  | .hbm, ⟨23, _⟩ => ⟨S8x128x32768, .f32⟩
  | .hbm, ⟨24, _⟩ => ⟨S8x128x32768, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel3.lean ====
abbrev S8x64x2048 : Shape := ⟨3, ![8, 64, 2048]⟩
abbrev S1x2048x4096 : Shape := ⟨3, ![1, 2048, 4096]⟩
abbrev S512x2048 : Shape := ⟨2, ![512, 2048]⟩
abbrev S2048x4096 : Shape := ⟨2, ![2048, 4096]⟩
abbrev S512x1024 : Shape := ⟨2, ![512, 1024]⟩
abbrev S512x8x128 : Shape := ⟨3, ![512, 8, 128]⟩
abbrev S2048x1024 : Shape := ⟨2, ![2048, 1024]⟩
abbrev S512x128 : Shape := ⟨2, ![512, 128]⟩
abbrev S512x1x128 : Shape := ⟨3, ![512, 1, 128]⟩

abbrev nBuf : Space → Nat
  | .hbm => 11
  | .vmem => 9
  | .smem => 0
  | _ => 0

abbrev bufTy : (tb : Table) → Fin (tcTables nBuf tb) → BufTy
  | .hbm, ⟨0, _⟩ => ⟨S8x64x2048, .f32⟩
  | .hbm, ⟨1, _⟩ => ⟨S1x2048x4096, .f32⟩
  | .hbm, ⟨2, _⟩ => ⟨S512x2048, .f32⟩
  | .hbm, ⟨3, _⟩ => ⟨S2048x4096, .f32⟩
  | .hbm, ⟨4, _⟩ => ⟨S2048x4096, .bf16⟩
  | .hbm, ⟨5, _⟩ => ⟨S512x1024, .f32⟩
  | .hbm, ⟨6, _⟩ => ⟨S512x8x128, .f32⟩
  | .hbm, ⟨7, _⟩ => ⟨S512x8x128, .f32⟩
  | .hbm, ⟨8, _⟩ => ⟨S512x1024, .bf16⟩
  | .hbm, ⟨9, _⟩ => ⟨S512x1024, .bf16⟩
  | .hbm, ⟨10, _⟩ => ⟨S512x1024, .bf16⟩
  | .local _ .vmem, ⟨0, _⟩ => ⟨S512x2048, .f32⟩
  | .local _ .vmem, ⟨1, _⟩ => ⟨S2048x4096, .bf16⟩
  | .local _ .vmem, ⟨2, _⟩ => ⟨S512x1024, .f32⟩
  | .local _ .vmem, ⟨3, _⟩ => ⟨S512x8x128, .f32⟩
  | .local _ .vmem, ⟨4, _⟩ => ⟨S512x8x128, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_v3_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_6 : BitVec 32 := 0#32
  let v18 : BitVec 1 := Scalar.cmpi .ne v17 c0_i32_6
  v18

def k0_cond5 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_7 : BitVec 32 := 0#32
  let v21 : BitVec 1 := Scalar.cmpi .ne v20 c0_i32_7
  v21

def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference3Ideal.lean ====
abbrev S8x64x2048 : Shape := ⟨3, ![8, 64, 2048]⟩
abbrev S1x2048x4096 : Shape := ⟨3, ![1, 2048, 4096]⟩
abbrev S2048x4096 : Shape := ⟨2, ![2048, 4096]⟩
abbrev S8x64x4096 : Shape := ⟨3, ![8, 64, 4096]⟩
abbrev S8x64x1024 : Shape := ⟨3, ![8, 64, 1024]⟩
abbrev S512x1024 : Shape := ⟨2, ![512, 1024]⟩
abbrev S512x8x128 : Shape := ⟨3, ![512, 8, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S1x2048x4096, .f32⟩
  | .hbm, ⟨2, _⟩ => ⟨S2048x4096, .f32⟩
  | .hbm, ⟨3, _⟩ => ⟨S8x64x4096, .f32⟩
  | .hbm, ⟨4, _⟩ => ⟨S8x64x1024, .f32⟩
  | .hbm, ⟨5, _⟩ => ⟨S512x1024, .f32⟩
  | .hbm, ⟨6, _⟩ => ⟨S8x64x1024, .f32⟩
  | .hbm, ⟨7, _⟩ => ⟨S512x1024, .f32⟩
  | .hbm, ⟨8, _⟩ => ⟨S8x64x1024, .f32⟩
  | .hbm, ⟨9, _⟩ => ⟨S512x8x128, .f32⟩
  | .hbm, ⟨10, _⟩ => ⟨S8x64x1024, .f32⟩
  | .hbm, ⟨11, _⟩ => ⟨S512x8x128, .f32⟩
  | .hbm, ⟨12, _⟩ => ⟨S8x64x1024, .f32⟩
  | .hbm, ⟨13, _⟩ => ⟨S512x1024, .f32⟩
  | .hbm, ⟨14, _⟩ => ⟨S512x1024, .bf16⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .bf16⟩
  | .hbm, ⟨19, _⟩ => ⟨S8x64x1024, .f32⟩
  | .hbm, ⟨20, _⟩ => ⟨S512x1024, .f32⟩
  | .hbm, ⟨21, _⟩ => ⟨S512x1024, .bf16⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Proof.Attn.Setup.lean ====
/-
What the two runs of the attention body share: which grid points visit the conditional pair of key tiles, the
staging memrefs at a point, and the scratch buffers.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

/-- The body's branch: the query tile is not the first. -/
abbrev cond (i : grid0.Coords) : Prop := k0_cond1 i = 1#1

/-- It is taken at the points whose last coordinate is at least one. -/
theorem cond_iff : ∀ t : Fin cfg0.N, cond (grid0.coords t) ↔ 1 ≤ t.val % 16 :=
  (by decide +kernel : ∀ t : Fin grid0.N, cond (grid0.coords t) ↔ 1 ≤ t.val % 16)

/-- One staging buffer of the output window. -/
abbrev outView : View sig .tc .vmem S1024x128 .bf16 := (Memref.whole cc0_stg6_0 : Memref sig .tc .vmem S1024x128 .bf16).view

/-- Window 0's staging memref at a point. -/
abbrev stg0 (t : Fin cfg0.N) : Memref sig .tc .smem S1 .f32 := win0_0.stage (cfg0.slots t 0)
/-- It is a whole buffer. -/
abbrev hstg0 (t : Fin cfg0.N) : (stg0 t).IsWhole := hstage0_0 ((cfg0.slots t 0).cast nbuf0_0)
/-- Window 1's staging memref at a point. -/
abbrev stg1 (t : Fin cfg0.N) : Memref sig .tc .vmem S1x128x1024 .bf16 := win0_1.stage (cfg0.slots t 1)
/-- It is a whole buffer. -/
abbrev hstg1 (t : Fin cfg0.N) : (stg1 t).IsWhole := hstage0_1 ((cfg0.slots t 1).cast nbuf0_1)
/-- Window 2's staging memref at a point. -/
abbrev stg2 (t : Fin cfg0.N) : Memref sig .tc .vmem S16384x128 .bf16 := win0_2.stage (cfg0.slots t 2)
/-- It is a whole buffer. -/
abbrev hstg2 (t : Fin cfg0.N) : (stg2 t).IsWhole := hstage0_2 ((cfg0.slots t 2).cast nbuf0_2)
/-- Window 3's staging memref at a point. -/
abbrev stg3 (t : Fin cfg0.N) : Memref sig .tc .vmem S1x128x16384 .bf16 := win0_3.stage (cfg0.slots t 3)
/-- It is a whole buffer. -/
abbrev hstg3 (t : Fin cfg0.N) : (stg3 t).IsWhole := hstage0_3 ((cfg0.slots t 3).cast nbuf0_3)
/-- Window 4's staging memref at a point. -/
abbrev stg4 (t : Fin cfg0.N) : Memref sig .tc .vmem S1x3x512x1024 .f32 := win0_4.stage (cfg0.slots t 4)
/-- It is a whole buffer. -/
abbrev hstg4 (t : Fin cfg0.N) : (stg4 t).IsWhole := hstage0_4 ((cfg0.slots t 4).cast nbuf0_4)
/-- Window 5's staging memref at a point. -/
abbrev stg5 (t : Fin cfg0.N) : Memref sig .tc .vmem S128x1024 .f32 := win0_5.stage (cfg0.slots t 5)
/-- It is a whole buffer. -/
abbrev hstg5 (t : Fin cfg0.N) : (stg5 t).IsWhole := hstage0_5 ((cfg0.slots t 5).cast nbuf0_5)
/-- Window 6's staging memref at a point. -/
abbrev stg6 (t : Fin cfg0.N) : Memref sig .tc .vmem S1024x128 .bf16 := win0_6.stage (cfg0.slots t 6)
/-- It is a whole buffer. -/
abbrev hstg6 (t : Fin cfg0.N) : (stg6 t).IsWhole := hstage0_6 ((cfg0.slots t 6).cast nbuf0_6)
/-- Scratch buffer 0. -/
abbrev scr0 : Memref sig .tc .vmem S128x2048 .bf16 := Memref.whole cc0_scratch0
/-- Scratch buffer 1. -/
abbrev scr1 : Memref sig .tc .vmem S512x2048 .f32 := Memref.whole cc0_scratch1
/-- Scratch buffer 2. -/
abbrev scr2 : Memref sig .tc .vmem S512x2048 .f32 := Memref.whole cc0_scratch2
/-- Scratch buffer 3. -/
abbrev scr3 : Memref sig .tc .vmem S1x2048 .f32 := Memref.whole cc0_scratch3
/-- Scratch buffer 4. -/
abbrev scr4 : Memref sig .tc .vmem S144x2048 .f32 := Memref.whole cc0_scratch4

/-- The pipeline's invariant: the scratch buffers at some contents, beside the generator register. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

end Cert.KernelIdeal.Attn

end
-- ==== Proof.Attn.RunA.lean ====
/-
The body at a grid point whose query tile is the first: the conditional pair of key tiles is not visited.
-/
module

public import proofs.«01_k».proof.Proof.Attn.Setup

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

-- the run's proof term is large
set_option maxHeartbeats 1200000 in
/-- The body at a grid point whose query tile is the first: the conditional pair of key tiles is not visited. The body runs from its input windows at `x0 … x5`, its output window and its scratch at anything (the second
    score buffer at `y`) to the same inputs, the scratch at anything, and the output window overwritten by the
    pieces the run finds. -/
noncomputable def firstRun (c : Dev nD) (i : grid0.Coords) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole) (hc0 : ¬cond i)
    (x0 : Vec F S1 .f32) (x1 : Vec F S1x128x1024 .bf16) (x2 : Vec F S16384x128 .bf16) (x3 : Vec F S1x128x16384 .bf16) (x4 : Vec F S1x3x512x1024 .f32) (x5 : Vec F S128x1024 .f32) (y : Vec F S512x2048 .f32) :
    { L6 : List (View.Piece (Elt F) S1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__flash_kernel i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__flash_kernel_eq_skeleton]; unfold cc0__flash_kernel_skel
    simp only [k0_part19_eq_skeleton, k0_part20_eq_skeleton, k0_part13_eq_skeleton, k0_part14_eq_skeleton, k0_part15_eq_skeleton, k0_part16_eq_skeleton, k0_part17_eq_skeleton, k0_part18_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%fs2, %hfs2, HS2⟩, ⟨%ds3, %fs3, -, HS3⟩, ⟨%ds4, %fs4, -, HS4⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg12.eq_unread hfs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Attn

end
-- ==== Proof.Attn.RunB.lean ====
/-
The body at a grid point whose query tile is a later one: the conditional pair of key tiles is visited.
-/
module

public import proofs.«01_k».proof.Proof.Attn.Setup

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

-- the run's proof term is large
set_option maxHeartbeats 1200000 in
/-- The body at a grid point whose query tile is a later one: the conditional pair of key tiles is visited. The body runs from its input windows at `x0 … x5`, its output window and its scratch at anything (the second
    score buffer at `y`) to the same inputs, the scratch at anything, and the output window overwritten by the
    pieces the run finds. -/
noncomputable def laterRun (c : Dev nD) (i : grid0.Coords) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole) (hc0 : cond i)
    (x0 : Vec F S1 .f32) (x1 : Vec F S1x128x1024 .bf16) (x2 : Vec F S16384x128 .bf16) (x3 : Vec F S1x128x16384 .bf16) (x4 : Vec F S1x3x512x1024 .f32) (x5 : Vec F S128x1024 .f32) (y : Vec F S512x2048 .f32) :
    { L6 : List (View.Piece (Elt F) S1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__flash_kernel i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__flash_kernel_eq_skeleton]; unfold cc0__flash_kernel_skel
    simp only [k0_part19_eq_skeleton, k0_part20_eq_skeleton, k0_part13_eq_skeleton, k0_part14_eq_skeleton, k0_part15_eq_skeleton, k0_part16_eq_skeleton, k0_part17_eq_skeleton, k0_part18_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%fs2, %hfs2, HS2⟩, ⟨%ds3, %fs3, -, HS3⟩, ⟨%ds4, %fs4, -, HS4⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg12.eq_unread hfs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Attn

end
-- ==== Proof.Attn.Frame.lean ====
/-
The frame of the attention call: the body at any grid point, the launch, and the argument arrays unchanged.
The body theorem also names what the output block holds, for the value proof.
-/
module

public import proofs.«01_k».proof.Proof.Attn.RunA
public import proofs.«01_k».proof.Proof.Attn.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces the first run stores into the output window at point `t`, the second score buffer entering at `y`. -/
def firstPieces (c : Dev nD) (t : Fin cfg0.N) (h0 : ¬1 ≤ t.val % 16) (y : Vec F S512x2048 .f32) : List (View.Piece (Elt F) S1024x128 .bf16) :=
  (firstRun c (grid0.coords t) (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) (fun h => h0 ((cond_iff t).mp h)) (iblk m c 0 t) (iblk m c 1 t) (iblk m c 2 t) (iblk m c 3 t) (iblk m c 4 t) (iblk m c 5 t) y).1

/-- They cover the output block. -/
theorem firstPieces_cover (c : Dev nD) (t : Fin cfg0.N) (h0 : ¬1 ≤ t.val % 16) (y : Vec F S512x2048 .f32) (z : S1024x128.Idx) :
    ∃ pc ∈ firstPieces m c t h0 y, z ∈ pc.1.set :=
  View.cover_of_tiledL (firstRun c (grid0.coords t) (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) (fun h => h0 ((cond_iff t).mp h)) (iblk m c 0 t) (iblk m c 1 t) (iblk m c 2 t) (iblk m c 3 t) (iblk m c 4 t) (iblk m c 5 t) y).1 S1024x128.size (by sl_kernel_rfl) z

/-- The pieces the later run stores into the output window at point `t`, the second score buffer entering at `y`. -/
def laterPieces (c : Dev nD) (t : Fin cfg0.N) (h0 : 1 ≤ t.val % 16) (y : Vec F S512x2048 .f32) : List (View.Piece (Elt F) S1024x128 .bf16) :=
  (laterRun c (grid0.coords t) (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) ((cond_iff t).mpr h0) (iblk m c 0 t) (iblk m c 1 t) (iblk m c 2 t) (iblk m c 3 t) (iblk m c 4 t) (iblk m c 5 t) y).1

/-- They cover the output block. -/
theorem laterPieces_cover (c : Dev nD) (t : Fin cfg0.N) (h0 : 1 ≤ t.val % 16) (y : Vec F S512x2048 .f32) (z : S1024x128.Idx) :
    ∃ pc ∈ laterPieces m c t h0 y, z ∈ pc.1.set :=
  View.cover_of_tiledL (laterRun c (grid0.coords t) (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) ((cond_iff t).mpr h0) (iblk m c 0 t) (iblk m c 1 t) (iblk m c 2 t) (iblk m c 3 t) (iblk m c 4 t) (iblk m c 5 t) y).1 S1024x128.size (by sl_kernel_rfl) z

/-- What the body leaves in the output window's buffer at point `t`. -/
def bodyOut (c : Dev nD) (t : Fin cfg0.N) (y : Vec F S512x2048 .f32) : Vec F S1024x128 .bf16 :=
  if h0 : 1 ≤ t.val % 16 then outView.read (Elt F) (outView.writes (Elt F) outView.junk (laterPieces m c t h0 y))
  else outView.read (Elt F) (outView.writes (Elt F) outView.junk (firstPieces m c t h0 y))

/-- The pipeline's proof data: the arrays as the region finds them, the inputs' blocks left in place, the output
    blocks at `out`. -/
def dats (out : Dev nD → Fin cfg0.N → Vec F S1024x128 .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out c t
  Φ _ := Pipeline.ΦA spec0 c
  q _ := fullShare
  owed _ := 0

variable (out : Dev nD → Fin cfg0.N → Vec F S1024x128 .bf16)

/-- The arrays are the region-entry contents. -/
theorem A_eq (c : Dev nD) (w : Fin cfg0.W) : (dats m out 0 c).A w = V m c (Pipeline.arrRef spec0 w) := by
  dsimp only [dats]

theorem after_0 (c : Dev nD) (t : Fin cfg0.N) : (dats m out 0 c).after 0 t = iblk m c 0 t := by dsimp only [dats]
theorem after_1 (c : Dev nD) (t : Fin cfg0.N) : (dats m out 0 c).after 1 t = iblk m c 1 t := by dsimp only [dats]
theorem after_2 (c : Dev nD) (t : Fin cfg0.N) : (dats m out 0 c).after 2 t = iblk m c 2 t := by dsimp only [dats]
theorem after_3 (c : Dev nD) (t : Fin cfg0.N) : (dats m out 0 c).after 3 t = iblk m c 3 t := by dsimp only [dats]
theorem after_4 (c : Dev nD) (t : Fin cfg0.N) : (dats m out 0 c).after 4 t = iblk m c 4 t := by dsimp only [dats]
theorem after_5 (c : Dev nD) (t : Fin cfg0.N) : (dats m out 0 c).after 5 t = iblk m c 5 t := by dsimp only [dats]
theorem after_6 (c : Dev nD) (t : Fin cfg0.N) : (dats m out 0 c).after 6 t = out c t := by dsimp only [dats]

theorem before_0 (c : Dev nD) (t : Fin cfg0.N) (d) : (dats m out 0 c).before 0 t d = iblk m c 0 t :=
  before0_0_of m (dats m out 0 c) (A_eq m out c 0) (after_0 m out c) t d
theorem before_1 (c : Dev nD) (t : Fin cfg0.N) (d) : (dats m out 0 c).before 1 t d = iblk m c 1 t :=
  before0_1_of m (dats m out 0 c) (A_eq m out c 1) (after_1 m out c) t d
theorem before_2 (c : Dev nD) (t : Fin cfg0.N) (d) : (dats m out 0 c).before 2 t d = iblk m c 2 t :=
  before0_2_of m (dats m out 0 c) (A_eq m out c 2) (after_2 m out c) t d
theorem before_3 (c : Dev nD) (t : Fin cfg0.N) (d) : (dats m out 0 c).before 3 t d = iblk m c 3 t :=
  before0_3_of m (dats m out 0 c) (A_eq m out c 3) (after_3 m out c) t d
theorem before_4 (c : Dev nD) (t : Fin cfg0.N) (d) : (dats m out 0 c).before 4 t d = iblk m c 4 t :=
  before0_4_of m (dats m out 0 c) (A_eq m out c 4) (after_4 m out c) t d
theorem before_5 (c : Dev nD) (t : Fin cfg0.N) (d) : (dats m out 0 c).before 5 t d = iblk m c 5 t :=
  before0_5_of m (dats m out 0 c) (A_eq m out c 5) (after_5 m out c) t d

set_option maxHeartbeats 2400000 in
/-- The body at any point: from its input blocks to the same blocks and the output block `bodyOut m c t y`, whatever
    the second score buffer held (`y`). -/
theorem sound_core (c : Dev nD) (t : Fin cfg0.N) (O : sProp 𝕄) :
    iprop(Pipeline.ΦA spec0 c ∗ O ∗ owns (c : Thread nD τ) (stg0 t) fullShare (iblk m c 0 t) ∗ owns (c : Thread nD τ) (stg1 t) fullShare (iblk m c 1 t) ∗ owns (c : Thread nD τ) (stg2 t) fullShare (iblk m c 2 t) ∗ owns (c : Thread nD τ) (stg3 t) fullShare (iblk m c 3 t) ∗ owns (c : Thread nD τ) (stg4 t) fullShare (iblk m c 4 t) ∗ owns (c : Thread nD τ) (stg5 t) fullShare (iblk m c 5 t) ∗ (∃ d, owns (c : Thread nD τ) (stg6 t) fullShare d))
    ⊢ wp frame (wpE (defs₀ (F := F)) Variants.none c none) Set.univ (bodyAt0 t) (fun _ =>
      iprop(Pipeline.ΦA spec0 c ∗ O ∗ owns (c : Thread nD τ) (stg0 t) fullShare (iblk m c 0 t) ∗ owns (c : Thread nD τ) (stg1 t) fullShare (iblk m c 1 t) ∗ owns (c : Thread nD τ) (stg2 t) fullShare (iblk m c 2 t) ∗ owns (c : Thread nD τ) (stg3 t) fullShare (iblk m c 3 t) ∗ owns (c : Thread nD τ) (stg4 t) fullShare (iblk m c 4 t) ∗ owns (c : Thread nD τ) (stg5 t) fullShare (iblk m c 5 t) ∗ (∃ y, owns (c : Thread nD τ) (stg6 t) fullShare (bodyOut m c t y)))) := by
  unfold bodyAt0
  rw [PhiA_eq]
  by_cases h0 : 1 ≤ t.val % 16
  · iintro ⟨⟨⟨HS0, HS1, ⟨%y, HS2⟩, HS3, HS4⟩, Hg⟩, Ho, H0, H1, H2, H3, H4, H5, H6⟩
    iapply ((laterRun c (grid0.coords t) (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) ((cond_iff t).mpr h0) (iblk m c 0 t) (iblk m c 1 t) (iblk m c 2 t) (iblk m c 3 t) (iblk m c 4 t) (iblk m c 5 t) y).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, ⟨%e6, H6⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists y
    unfold owns; iexists _; isplitr
    swap; · iexact H6
    ipureintro
    rw [bodyOut, dif_pos h0]
    exact View.read_writes_of_cover _ _ _ _ _ (laterPieces_cover m c t h0 y)
  · iintro ⟨⟨⟨HS0, HS1, ⟨%y, HS2⟩, HS3, HS4⟩, Hg⟩, Ho, H0, H1, H2, H3, H4, H5, H6⟩
    iapply ((firstRun c (grid0.coords t) (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) (fun h => h0 ((cond_iff t).mp h)) (iblk m c 0 t) (iblk m c 1 t) (iblk m c 2 t) (iblk m c 3 t) (iblk m c 4 t) (iblk m c 5 t) y).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, ⟨%e6, H6⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists y
    unfold owns; iexists _; isplitr
    swap; · iexact H6
    ipureintro
    rw [bodyOut, dif_neg h0]
    exact View.read_writes_of_cover _ _ _ _ _ (firstPieces_cover m c t h0 y)

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The output window, forgotten. -/
def forgetOut : Fin cfg0.W → Bool := fun w => match w with
  | ⟨6, _⟩ => true
  | _ => false

/-- The body in the pipeline's terms, nothing said of the output block. -/
theorem sound_forget (c : Dev nD) (t : Fin cfg0.N) :
    iprop((dats m out 0 c).Φ t.castSucc ∗ (dats m out 0 c).owesAt () t.castSucc
    ∗ (∃ d, owns (c : Thread nD τ) (stg0 t) fullShare ((dats m out 0 c).before 0 t d))
    ∗ (∃ d, owns (c : Thread nD τ) (stg1 t) fullShare ((dats m out 0 c).before 1 t d))
    ∗ (∃ d, owns (c : Thread nD τ) (stg2 t) fullShare ((dats m out 0 c).before 2 t d))
    ∗ (∃ d, owns (c : Thread nD τ) (stg3 t) fullShare ((dats m out 0 c).before 3 t d))
    ∗ (∃ d, owns (c : Thread nD τ) (stg4 t) fullShare ((dats m out 0 c).before 4 t d))
    ∗ (∃ d, owns (c : Thread nD τ) (stg5 t) fullShare ((dats m out 0 c).before 5 t d))
    ∗ (∃ d, owns (c : Thread nD τ) (stg6 t) fullShare d))
    ⊢ wp frame (wpE (defs₀ (F := F)) Variants.none c none) Set.univ (bodyAt0 t) (fun _ => iprop((dats m out 0 c).Φ t.succ ∗ (dats m out 0 c).owesAt () t.succ
    ∗ owns (c : Thread nD τ) (stg0 t) fullShare ((dats m out 0 c).after 0 t)
    ∗ owns (c : Thread nD τ) (stg1 t) fullShare ((dats m out 0 c).after 1 t)
    ∗ owns (c : Thread nD τ) (stg2 t) fullShare ((dats m out 0 c).after 2 t)
    ∗ owns (c : Thread nD τ) (stg3 t) fullShare ((dats m out 0 c).after 3 t)
    ∗ owns (c : Thread nD τ) (stg4 t) fullShare ((dats m out 0 c).after 4 t)
    ∗ owns (c : Thread nD τ) (stg5 t) fullShare ((dats m out 0 c).after 5 t)
    ∗ (∃ d, owns (c : Thread nD τ) (stg6 t) fullShare d))) := by
  simp only [before_0, before_1, before_2, before_3, before_4, before_5]
  rw [show (dats m out 0 c).Φ t.succ = Pipeline.ΦA spec0 c from rfl,
    show (dats m out 0 c).owesAt () t.succ = (dats m out 0 c).owesAt () t.castSucc from rfl,
    after_0, after_1, after_2, after_3, after_4, after_5]
  rw [show (dats m out 0 c).Φ t.castSucc = Pipeline.ΦA spec0 c from rfl]
  iintro ⟨HP, Ho, ⟨%d0, H0⟩, ⟨%d1, H1⟩, ⟨%d2, H2⟩, ⟨%d3, H3⟩, ⟨%d4, H4⟩, ⟨%d5, H5⟩, ⟨%d6, H6⟩⟩
  iapply (wp_wand_r Idealize.ShloMosaic.frame (wpE (defs₀ (F := F)) Variants.none c none) Set.univ)
  isplitl [HP Ho H0 H1 H2 H3 H4 H5 H6]
  · iapply (sound_core m c t ((dats m out 0 c).owesAt () t.castSucc))
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · iintro %_ ⟨HP, Ho, H0, H1, H2, H3, H4, H5, ⟨%y, H6⟩⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The library's body obligation, nothing said of the output block. -/
theorem obligation_forget (c : Dev nD) :
    BodyObligation (dats (F := F) m out 0 c) (defs₀ (F := F)) Variants.none () Set.univ forgetOut := fun t => by
  rw [bigSep_W0, bigSep_W0, defs₀_row]
  exact triple_restated (sound_forget m out c t) rfl .rfl fun _ => .rfl

/-- The body in the pipeline's terms, the output block at `out`. -/
theorem sound_exact (hout : ∀ c t y, bodyOut m c t y = out c t) (c : Dev nD) (t : Fin cfg0.N) :
    iprop((dats m out 0 c).Φ t.castSucc ∗ (dats m out 0 c).owesAt () t.castSucc
    ∗ (∃ d, owns (c : Thread nD τ) (stg0 t) fullShare ((dats m out 0 c).before 0 t d))
    ∗ (∃ d, owns (c : Thread nD τ) (stg1 t) fullShare ((dats m out 0 c).before 1 t d))
    ∗ (∃ d, owns (c : Thread nD τ) (stg2 t) fullShare ((dats m out 0 c).before 2 t d))
    ∗ (∃ d, owns (c : Thread nD τ) (stg3 t) fullShare ((dats m out 0 c).before 3 t d))
    ∗ (∃ d, owns (c : Thread nD τ) (stg4 t) fullShare ((dats m out 0 c).before 4 t d))
    ∗ (∃ d, owns (c : Thread nD τ) (stg5 t) fullShare ((dats m out 0 c).before 5 t d))
    ∗ (∃ d, owns (c : Thread nD τ) (stg6 t) fullShare ((dats m out 0 c).before 6 t d)))
    ⊢ wp frame (wpE (defs₀ (F := F)) Variants.none c none) Set.univ (bodyAt0 t) (fun _ => iprop((dats m out 0 c).Φ t.succ ∗ (dats m out 0 c).owesAt () t.succ
    ∗ owns (c : Thread nD τ) (stg0 t) fullShare ((dats m out 0 c).after 0 t)
    ∗ owns (c : Thread nD τ) (stg1 t) fullShare ((dats m out 0 c).after 1 t)
    ∗ owns (c : Thread nD τ) (stg2 t) fullShare ((dats m out 0 c).after 2 t)
    ∗ owns (c : Thread nD τ) (stg3 t) fullShare ((dats m out 0 c).after 3 t)
    ∗ owns (c : Thread nD τ) (stg4 t) fullShare ((dats m out 0 c).after 4 t)
    ∗ owns (c : Thread nD τ) (stg5 t) fullShare ((dats m out 0 c).after 5 t)
    ∗ owns (c : Thread nD τ) (stg6 t) fullShare ((dats m out 0 c).after 6 t))) := by
  simp only [before_0, before_1, before_2, before_3, before_4, before_5]
  rw [show (dats m out 0 c).Φ t.succ = Pipeline.ΦA spec0 c from rfl,
    show (dats m out 0 c).owesAt () t.succ = (dats m out 0 c).owesAt () t.castSucc from rfl,
    after_0, after_1, after_2, after_3, after_4, after_5, after_6]
  rw [show (dats m out 0 c).Φ t.castSucc = Pipeline.ΦA spec0 c from rfl]
  iintro ⟨HP, Ho, ⟨%d0, H0⟩, ⟨%d1, H1⟩, ⟨%d2, H2⟩, ⟨%d3, H3⟩, ⟨%d4, H4⟩, ⟨%d5, H5⟩, ⟨%d6, H6⟩⟩
  iapply (wp_wand_r Idealize.ShloMosaic.frame (wpE (defs₀ (F := F)) Variants.none c none) Set.univ)
  isplitl [HP Ho H0 H1 H2 H3 H4 H5 H6]
  · iapply (sound_core m c t ((dats m out 0 c).owesAt () t.castSucc))
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · iintro %_ ⟨HP, Ho, H0, H1, H2, H3, H4, H5, ⟨%y, H6⟩⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← hout c t y]; iexact H6

/-- The library's body obligation, the output block at `out`. -/
theorem obligation_exact (hout : ∀ c t y, bodyOut m c t y = out c t) (c : Dev nD) :
    BodyObligation (dats (F := F) m out 0 c) (defs₀ (F := F)) Variants.none () Set.univ := fun t => by
  rw [bigSep_W0, bigSep_W0, defs₀_row]
  exact triple_restated (sound_exact m out hout c t) rfl .rfl fun _ => .rfl

-- the launch theorem's implicit arguments are found by unifying its conclusion with this one
set_option backward.isDefEq.respectTransparency.types false in
/-- The launch, the output forgotten: every other unscoped buffer ends as the region found it, every semaphore
    counter at zero. -/
theorem launch_forget : θ_run defs (onTc (τ := τ) (main (F := F))) (s₀ m ρ)
    (fun r => (Pipeline.RDat.FramePost cfg0 (fun c => (dats m out 0 c).toRForget forgetOut) (V m)) r ∧ r.2.sem = fun _ => 0) :=
  Pipeline.θ_run_frame_forget (Q' := _) cfgs (dats m out) (0 : Fin 1) launch0 defs₀ Variants.none forgetOut m ρ main
    (hbody := fun c => (obligation_forget m out c).loose) (hshare := fun c => (dats m out 0 c).share_full fun _ => rfl)
    (howed := fun _ _ => rfl) (V := V m) (hmain := hmain m Variants.none) (hA := A_eq m out) (hΦ := fun _ _ => rfl)

set_option backward.isDefEq.respectTransparency.types false in
/-- The launch, the output blocks at `out`. -/
theorem launch_exact (hout : ∀ c t y, bodyOut m c t y = out c t) :
    θ_run defs (onTc (τ := τ) (main (F := F))) (s₀ m ρ)
    (fun r => (Pipeline.FramePost cfgs (dats m out) 0 (V m)) r ∧ r.2.sem = fun _ => 0) :=
  Pipeline.θ_run_frame (Q' := _) cfgs (dats m out) (0 : Fin 1) launch0 defs₀ Variants.none m ρ main
    (hbody := fun c => (obligation_exact m out hout c).loose) (hshare := fun c => (dats m out 0 c).share_full fun _ => rfl)
    (howed := fun _ _ => rfl) (V := V m) (hmain := hmain m Variants.none) (hA := A_eq m out) (hΦ := fun _ _ => rfl)

/-- THE FRAME: the program runs to its end, the argument arrays unchanged, the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩)
    (launch_forget m ρ (fun _ _ => outView.read (Elt F) outView.junk))

end Cert.KernelIdeal.Attn

end
-- ==== Proof.Attn.Online.lean ====
module

public import Idealize.ShloMosaic.PureOps.Ideal
public import Mathlib.Algebra.BigOperators.Fin
import Mathlib.Tactic.Ring
import Mathlib.Tactic.FieldSimp

/-!
# The online softmax of one column

A query column meets its keys tile by tile.  It keeps a running maximum `m` and, for each row `e`, an accumulator
`a e`, and it rescales the accumulators whenever the maximum grows.  `St m a T` says that the accumulators are the plain
sums `T e = ∑ w_k V_{e,k}` of the weights `w_k = 2 ^ s_k`, all divided by the one number `2 ^ m`.  Everything a column
returns is a quotient of two accumulators, in which that number cancels.
-/

@[expose] public section

noncomputable section

namespace Cert.Attn

open Idealize.ShloMosaic

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The score `s` of a key has the weight `w`: a masked key weighs nothing, a real score `x` weighs `2 ^ x`. -/
def Sc (s : EReal) (w : ℝ) : Prop := (s = ⊥ ∧ w = 0) ∨ ∃ x : ℝ, s = (x : EReal) ∧ w = Real.rpow 2 x

theorem Sc.nonneg {s : EReal} {w : ℝ} (h : Sc s w) : 0 ≤ w := by
  rcases h with ⟨_, rfl⟩ | ⟨x, _, rfl⟩
  · exact le_refl _
  · exact (Real.rpow_pos_of_pos (by norm_num) x).le

theorem Sc.pos {s : EReal} {w : ℝ} (h : Sc s w) (hs : s ≠ ⊥) : 0 < w := by
  rcases h with ⟨h, rfl⟩ | ⟨x, _, rfl⟩
  · exact absurd h hs
  · exact Real.rpow_pos_of_pos (by norm_num) x

/-- A column before any key (`m = ⊥`), or with the sums `T` scaled by `2 ^ (-M)`. -/
def St {ι : Type*} (m : EReal) (a : ι → EReal) (T : ι → ℝ) : Prop :=
  (m = ⊥ ∧ (∀ e, a e = 0) ∧ ∀ e, T e = 0) ∨
    ∃ M : ℝ, m = (M : EReal) ∧ ∀ e, a e = ((Real.rpow 2 (-M) * T e : ℝ) : EReal)

theorem St.start {ι : Type*} : St (ι := ι) ⊥ (fun _ => 0) (fun _ => 0) :=
  Or.inl ⟨rfl, fun _ => rfl, fun _ => rfl⟩

/-- The maximum of scores none of which is `+∞` is not `+∞`. -/
theorem fold_max_ne_top {κ : Type*} (u : Finset κ) (s : κ → EReal) (hs : ∀ r, s r ≠ ⊤) : u.fold max ⊥ s ≠ ⊤ := by
  classical
  induction u using Finset.induction_on with
  | empty => simp
  | insert a u ha ih =>
    rw [Finset.fold_insert ha]
    intro h
    rcases max_eq_top.mp h with h | h
    · exact hs a h
    · exact ih h

theorem le_fold_max {κ : Type*} (u : Finset κ) (s : κ → EReal) (r : κ) (hr : r ∈ u) : s r ≤ u.fold max ⊥ s :=
  (Finset.le_fold_max (s r)).mpr (Or.inr ⟨r, hr, le_refl _⟩)

theorem rpow_sub_split (x M : ℝ) : Real.rpow 2 (x - M) = Real.rpow 2 (-M) * Real.rpow 2 x := by
  have h : (x - M) = -M + x := by ring
  rw [h]
  exact Real.rpow_add (by norm_num) (-M) x

/-- The exponential of a score less a real number. -/
theorem Sc.exp2_sub {s : EReal} {w : ℝ} (h : Sc s w) (M : ℝ) :
    Ideal.exp2 (s - (M : EReal)) = ((Real.rpow 2 (-M) * w : ℝ) : EReal) := by
  rcases h with ⟨rfl, rfl⟩ | ⟨x, rfl, rfl⟩
  · rw [EReal.bot_sub, Ideal.exp2_bot, mul_zero, EReal.coe_zero]
  · rw [← EReal.coe_sub, Ideal.exp2_coe, rpow_sub_split]

theorem Sc.ne_top {s : EReal} {w : ℝ} (h : Sc s w) : s ≠ ⊤ := by
  rcases h with ⟨rfl, _⟩ | ⟨x, rfl, _⟩
  · exact bot_ne_top
  · exact EReal.coe_ne_top x

/-- **One tile.**  The new maximum, the rescaled accumulators and the tile's own terms are again a column's state, for
the sums with the tile's weights added. -/
theorem St.step {ι κ : Type*} [Fintype κ] {m : EReal} {a : ι → EReal} {T : ι → ℝ} (h : St m a T)
    (s : κ → EReal) (w : κ → ℝ) (hs : ∀ r, Sc (s r) (w r)) (hr : ∃ r, s r ≠ ⊥) (V : ι → κ → ℝ) :
    St (max m (Finset.univ.fold max ⊥ s))
      (fun e => Ideal.exp2 (m - max m (Finset.univ.fold max ⊥ s)) * a e
        + ∑ r, (V e r : EReal) * Ideal.exp2 (s r - max m (Finset.univ.fold max ⊥ s)))
      (fun e => T e + ∑ r, V e r * w r) := by
  obtain ⟨r₀, hr₀⟩ := hr
  have hmt : m ≠ ⊤ := by
    rcases h with ⟨rfl, _⟩ | ⟨M, rfl, _⟩
    · exact bot_ne_top
    · exact EReal.coe_ne_top M
  obtain ⟨M', hM'⟩ : ∃ M' : ℝ, max m (Finset.univ.fold max ⊥ s) = (M' : EReal) := by
    have ht : max m (Finset.univ.fold max ⊥ s) ≠ ⊤ := by
      intro h'
      rcases max_eq_top.mp h' with h' | h'
      · exact hmt h'
      · exact fold_max_ne_top _ s (fun r => (hs r).ne_top) h'
    have hb : max m (Finset.univ.fold max ⊥ s) ≠ ⊥ := by
      intro h'
      have := le_fold_max Finset.univ s r₀ (Finset.mem_univ _)
      rw [(max_eq_bot.mp h').2] at this
      exact hr₀ (le_bot_iff.mp this)
    exact ⟨_, (EReal.coe_toReal ht hb).symm⟩
  rw [hM']
  refine Or.inr ⟨M', rfl, fun e => ?_⟩
  have hsum : (∑ r, (V e r : EReal) * Ideal.exp2 (s r - (M' : EReal)))
      = ((Real.rpow 2 (-M') * ∑ r, V e r * w r : ℝ) : EReal) := by
    rw [Finset.mul_sum, coe_sum]
    refine Finset.sum_congr rfl fun r _ => ?_
    rw [(hs r).exp2_sub, ← EReal.coe_mul]
    congr 1
    ring
  have hold : Ideal.exp2 (m - (M' : EReal)) * a e = ((Real.rpow 2 (-M') * T e : ℝ) : EReal) := by
    rcases h with ⟨rfl, ha, hT⟩ | ⟨M, rfl, ha⟩
    · rw [ha, hT, mul_zero, mul_zero, EReal.coe_zero]
    · rw [ha, ← EReal.coe_sub, Ideal.exp2_coe, ← EReal.coe_mul, rpow_sub_split]
      have hc : Real.rpow 2 M * Real.rpow 2 (-M) = 1 := by
        have := Real.rpow_add (x := 2) (by norm_num) M (-M)
        rw [add_neg_cancel, Real.rpow_zero] at this
        exact this.symm
      congr 1
      calc Real.rpow 2 (-M') * Real.rpow 2 M * (Real.rpow 2 (-M) * T e)
          = Real.rpow 2 (-M') * (Real.rpow 2 M * Real.rpow 2 (-M)) * T e := by ring
        _ = Real.rpow 2 (-M') * T e := by rw [hc, mul_one]
  show Ideal.exp2 (m - (M' : EReal)) * a e + (∑ r, (V e r : EReal) * Ideal.exp2 (s r - (M' : EReal)))
    = ((Real.rpow 2 (-M') * (T e + ∑ r, V e r * w r) : ℝ) : EReal)
  rw [hold, hsum, ← EReal.coe_add]
  congr 1
  ring

/-- A quotient of two accumulators is the quotient of their sums. -/
theorem St.quot {ι : Type*} {m : EReal} {a : ι → EReal} {T : ι → ℝ} (h : St m a T) (e l : ι) (hl : T l ≠ 0) :
    Ideal.div (a e) (a l) = ((T e / T l : ℝ) : EReal) := by
  rcases h with ⟨_, _, hT⟩ | ⟨M, _, ha⟩
  · exact absurd (hT l) hl
  · have hp : Real.rpow 2 (-M) ≠ 0 := (Real.rpow_pos_of_pos (by norm_num) (-M)).ne'
    rw [ha, ha, Ideal.div_coe (mul_ne_zero hp hl), ← EReal.coe_mul]
    congr 1
    field_simp

end Cert.Attn
-- ==== Proof.Attn.Block.lean ====
/-
One block of 512 query columns meets one tile of 512 keys: the new maximum and the rescaled accumulators, read at an
index, and the state of every column of the block after the tile.
-/
module

public import proofs.«01_k».proof.Proof.Attn.Setup
public import proofs.«01_k».proof.Proof.Attn.Online
public import Idealize.ShloMosaic.Lib.Pointwise
public import Idealize.ShloMosaic.PureOps.Ideal.Laws

@[expose] public section

set_option maxRecDepth 16384

noncomputable section

namespace Cert.KernelIdeal.Attn

open Idealize.ShloMosaic Idealize.ShloMosaic.TcCoe Idealize.ShloMosaic.Tactic
open Cert.KernelIdeal.Gen Cert.Attn

/-- The maximum of each column once the tile's scores `s` are seen. -/
def mUp (s : FVec Ideal S512x512 .f32) (m : FVec Ideal S1x512 .f32) : FVec Ideal S1x512 .f32 :=
  maximumf m (shapeCast S1x512 (multiReduction .maximumf [0] S512 s 0xFF800000#32 reduces_S512x512_S512 (.inl rfl) rfl)
    shapeCasts_S512_S1x512)

/-- The accumulators of each column once the tile's scores `s` and values `vt` are seen. -/
def aUp (vt : FVec Ideal S144x512 .bf16) (s : FVec Ideal S512x512 .f32) (m : FVec Ideal S1x512 .f32)
    (a : FVec Ideal S144x512 .f32) : FVec Ideal S144x512 .f32 :=
  addf (mulf (broadcastTo S144x512 (exp2 (subf m (mUp s m))) broadcasts_S1x512_S144x512) a)
    (matmul dot_S144x512_S512x512_S144x512_1_0_0_1_n_n none vt
      (truncf .bf16 (exp2 (subf s (broadcastTo S512x512 (mUp s m) broadcasts_S1x512_S512x512))) bitsLt_bf16_f32)
      (constant S144x512 .f32 0x00000000#32))

theorem ofBits_neg_inf : Ideal.ofBits .f32 0xFF800000#32 = (⊥ : EReal) := by
  simp [Ideal.ofBits, Ideal.ieee]

theorem mUp_apply (s : FVec Ideal S512x512 .f32) (m : FVec Ideal S1x512 .f32) (j : Fin 512) :
    mUp s m (ix2 0 j) = max (m (ix2 0 j)) (Finset.univ.fold max ⊥ fun r : Fin 512 => s (ix2 r j)) := by
  pointwise [mUp]
  rw [ofBits_neg_inf]

theorem aUp_apply (vt : FVec Ideal S144x512 .bf16) (s : FVec Ideal S512x512 .f32) (m : FVec Ideal S1x512 .f32)
    (a : FVec Ideal S144x512 .f32) (e : Fin 144) (j : Fin 512) :
    aUp vt s m a (ix2 e j) = Ideal.exp2 (m (ix2 0 j) - mUp s m (ix2 0 j)) * a (ix2 e j)
      + ∑ r : Fin 512, vt (ix2 e r) * Ideal.exp2 (s (ix2 r j) - mUp s m (ix2 0 j)) := by
  pointwise [aUp]
  rfl

/-- Every column of a block has seen the keys whose sums are `T`: `St` at each. -/
def BlkSt (m : FVec Ideal S1x512 .f32) (a : FVec Ideal S144x512 .f32) (T : Fin 512 → Fin 144 → ℝ) : Prop :=
  ∀ j : Fin 512, St (m (ix2 0 j)) (fun e => a (ix2 e j)) (T j)

/-- The tile step of a block. -/
theorem BlkSt.up {m : FVec Ideal S1x512 .f32} {a : FVec Ideal S144x512 .f32} {T : Fin 512 → Fin 144 → ℝ}
    (h : BlkSt m a T) {vt : FVec Ideal S144x512 .bf16} {s : FVec Ideal S512x512 .f32}
    {V : Fin 144 → Fin 512 → ℝ} {w : Fin 512 → Fin 512 → ℝ}
    (hV : ∀ e r, vt (ix2 e r) = ((V e r : ℝ) : EReal))
    (hs : ∀ r j, Sc (s (ix2 r j)) (w r j)) (hr : ∀ j, ∃ r, s (ix2 r j) ≠ ⊥) :
    BlkSt (mUp s m) (aUp vt s m a) fun j e => T j e + ∑ r : Fin 512, V e r * w r j := by
  intro j
  have := (h j).step (fun r => s (ix2 r j)) (fun r => w r j) (fun r => hs r j) (hr j) V
  rw [mUp_apply]
  simp only [aUp_apply, hV, mUp_apply]
  exact this

end Cert.KernelIdeal.Attn
-- ==== Proof.Attn.Loads.lean ====
/-
Loads after stores: a load through the last store's own rectangle, and one apart from it.
-/
module

public import proofs.«01_k».proof.Proof.Attn.Block
public import Idealize.ShloMosaic.Lib.Pipeline.ReadBack

@[expose] public section

set_option maxRecDepth 16384

noncomputable section

namespace Cert.KernelIdeal.Attn

open Idealize.ShloMosaic Idealize.ShloMosaic.TcCoe Idealize.ShloMosaic.Tactic
open Cert.KernelIdeal.Gen Cert.Attn

/-- A load through the last write's own rectangle reads that write's payload. -/
theorem readAt_hit {sig : RefSig} {κ : Kind} {sp : Space} {s : Shape} {e : EltTy} {Val : EltTy → Type}
    (v : View sig κ sp s e) (f : v.ty.Contents Val) (r : Rect s) (w : r.shape.Idx → Val e)
    (L : List (View.Piece Val s e)) : v.readAt Val r.toLoadRect (v.writes Val f (⟨r, w⟩ :: L)) = w :=
  funext fun j => View.read_writes_cons_emb v f r w L j

/-- A load apart from the last write's rectangle reads the earlier writes. -/
theorem readAt_skip {sig : RefSig} {κ : Kind} {sp : Space} {s : Shape} {e : EltTy} {Val : EltTy → Type}
    (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) :=
  View.readAt_writes_of_forall_not_mem v (v.writes Val f L) [⟨r, w⟩] B fun j p hp => by
    rw [List.mem_singleton.mp hp]; exact LoadRect.idx_not_mem_of_disj h j

/-- Block of 512 columns of the maxima. -/
abbrev rm (o : ℕ) (h : ∀ a, (![0, o] : Fin 2 → ℕ) a + S1x512.size a ≤ S1x2048.size a) : Rect S1x2048 :=
  Rect.unit ![0, o] S1x512.size h
/-- Block of 512 columns of the accumulators. -/
abbrev ra (o : ℕ) (h : ∀ a, (![0, o] : Fin 2 → ℕ) a + S144x512.size a ≤ S144x2048.size a) : Rect S144x2048 :=
  Rect.unit ![0, o] S144x512.size h
/-- Block of 512 columns of the scores. -/
abbrev rs (o : ℕ) (h : ∀ a, (![0, o] : Fin 2 → ℕ) a + S512x512.size a ≤ S512x2048.size a) : Rect S512x2048 :=
  Rect.unit ![0, o] S512x512.size h

example : LoadRect.disj (rm 512 (by decide)) (rm 0 (by decide)).toLoadRect = true := by rfl
example : LoadRect.disj (ra 512 (by decide)) (ra 1024 (by decide)).toLoadRect = true := by decide

end Cert.KernelIdeal.Attn
-- ==== Proof.Attn.Trip.lean ====
/-
One trip of the key loop: what it leaves in the score buffers, the maxima and the accumulators.
-/
module

public import proofs.«01_k».proof.Proof.Attn.Loads

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (𝒱 : Variants) (c : Dev nD) (bd : Option 𝒱.V) (i : grid0.Coords) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole)
  (arg2 : BitVec 32) (v24 : FVec Ideal S16x512 .bf16) (v30 : FVec Ideal S512x2048 .f32)
  (X_arg5 : BufTy.Contents (Elt Ideal) arg5.view.ty) (X_arg6 : BufTy.Contents (Elt Ideal) arg6.view.ty) (X_arg10 : BufTy.Contents (Elt Ideal) arg10.view.ty)
  (k : Fin (k0_t1_loop i).trips)
  (f_arg11 : BufTy.Contents (Elt Ideal) arg11.view.ty) (f_arg12 : BufTy.Contents (Elt Ideal) arg12.view.ty)
  (f_arg13 : BufTy.Contents (Elt Ideal) arg13.view.ty) (f_arg14 : BufTy.Contents (Elt Ideal) arg14.view.ty)

/-- The trip's pieces. -/
abbrev trL := tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14

/-- A stored payload: new maxima. -/
theorem pm296 : trip_k0_t1.sl.v296 arg11 arg13 f_arg11 f_arg13
    = mUp (arg11.view.readAt (Elt Ideal) (rs 0 (by decide)).toLoadRect f_arg11) (arg13.view.readAt (Elt Ideal) (rm 0 (by decide)).toLoadRect f_arg13) := by
  simp only [trip_k0_t1.sl.v296, trip_k0_t1.sl.v279, trip_k0_t1.sl.v278, trip_k0_t1.sl.v277, mUp, shapeCast_id]

/-- A stored payload: new accumulators. -/
theorem pa293 : trip_k0_t1.sl.v293 i arg6 arg11 arg13 arg14 v24 X_arg6 k f_arg11 f_arg13 f_arg14
    = aUp (trip_k0_t1.sl.v274 i arg6 v24 X_arg6 k) (arg11.view.readAt (Elt Ideal) (rs 0 (by decide)).toLoadRect f_arg11) (arg13.view.readAt (Elt Ideal) (rm 0 (by decide)).toLoadRect f_arg13) (arg14.view.readAt (Elt Ideal) (ra 0 (by decide)).toLoadRect f_arg14) := by
  simp only [trip_k0_t1.sl.v293, trip_k0_t1.sl.v290, trip_k0_t1.sl.v288, trip_k0_t1.sl.v287, trip_k0_t1.sl.v281, trip_k0_t1.sl.v280, trip_k0_t1.sl.v279, trip_k0_t1.sl.v278, trip_k0_t1.sl.v277, trip_k0_t1.sl.v289, trip_k0_t1.sl.v285, trip_k0_t1.sl.v284, trip_k0_t1.sl.v283, trip_k0_t1.sl.v282, trip_k0_t1.sl.cst_155, aUp, mUp, shapeCast_id]

/-- A stored payload: new maxima. -/
theorem pm318 : trip_k0_t1.sl.v318 arg11 arg13 f_arg11 f_arg13
    = mUp (arg11.view.readAt (Elt Ideal) (rs 512 (by decide)).toLoadRect f_arg11) (arg13.view.readAt (Elt Ideal) (rm 512 (by decide)).toLoadRect f_arg13) := by
  simp only [trip_k0_t1.sl.v318, trip_k0_t1.sl.v301, trip_k0_t1.sl.v298, trip_k0_t1.sl.v300, trip_k0_t1.sl.v299, mUp, shapeCast_id]

/-- A stored payload: new accumulators. -/
theorem pa315 : trip_k0_t1.sl.v315 i arg6 arg11 arg13 arg14 v24 X_arg6 k f_arg11 f_arg13 f_arg14
    = aUp (trip_k0_t1.sl.v274 i arg6 v24 X_arg6 k) (arg11.view.readAt (Elt Ideal) (rs 512 (by decide)).toLoadRect f_arg11) (arg13.view.readAt (Elt Ideal) (rm 512 (by decide)).toLoadRect f_arg13) (arg14.view.readAt (Elt Ideal) (ra 512 (by decide)).toLoadRect f_arg14) := by
  simp only [trip_k0_t1.sl.v315, trip_k0_t1.sl.v312, trip_k0_t1.sl.v310, trip_k0_t1.sl.v309, trip_k0_t1.sl.v303, trip_k0_t1.sl.v302, trip_k0_t1.sl.v298, trip_k0_t1.sl.v301, trip_k0_t1.sl.v300, trip_k0_t1.sl.v299, trip_k0_t1.sl.v308, trip_k0_t1.sl.v311, trip_k0_t1.sl.v307, trip_k0_t1.sl.v306, trip_k0_t1.sl.v305, trip_k0_t1.sl.v304, trip_k0_t1.sl.cst_155, aUp, mUp, shapeCast_id]

/-- A stored payload: new maxima. -/
theorem pm340 : trip_k0_t1.sl.v340 arg11 arg13 f_arg11 f_arg13
    = mUp (arg11.view.readAt (Elt Ideal) (rs 1024 (by decide)).toLoadRect f_arg11) (arg13.view.readAt (Elt Ideal) (rm 1024 (by decide)).toLoadRect f_arg13) := by
  simp only [trip_k0_t1.sl.v340, trip_k0_t1.sl.v323, trip_k0_t1.sl.v320, trip_k0_t1.sl.v322, trip_k0_t1.sl.v321, mUp, shapeCast_id]

/-- A stored payload: new accumulators. -/
theorem pa337 : trip_k0_t1.sl.v337 i arg6 arg11 arg13 arg14 v24 X_arg6 k f_arg11 f_arg13 f_arg14
    = aUp (trip_k0_t1.sl.v274 i arg6 v24 X_arg6 k) (arg11.view.readAt (Elt Ideal) (rs 1024 (by decide)).toLoadRect f_arg11) (arg13.view.readAt (Elt Ideal) (rm 1024 (by decide)).toLoadRect f_arg13) (arg14.view.readAt (Elt Ideal) (ra 1024 (by decide)).toLoadRect f_arg14) := by
  simp only [trip_k0_t1.sl.v337, trip_k0_t1.sl.v334, trip_k0_t1.sl.v332, trip_k0_t1.sl.v331, trip_k0_t1.sl.v325, trip_k0_t1.sl.v324, trip_k0_t1.sl.v320, trip_k0_t1.sl.v323, trip_k0_t1.sl.v322, trip_k0_t1.sl.v321, trip_k0_t1.sl.v330, trip_k0_t1.sl.v333, trip_k0_t1.sl.v329, trip_k0_t1.sl.v328, trip_k0_t1.sl.v327, trip_k0_t1.sl.v326, trip_k0_t1.sl.cst_155, aUp, mUp, shapeCast_id]

/-- A stored payload: new maxima. -/
theorem pm362 : trip_k0_t1.sl.v362 arg11 arg13 f_arg11 f_arg13
    = mUp (arg11.view.readAt (Elt Ideal) (rs 1536 (by decide)).toLoadRect f_arg11) (arg13.view.readAt (Elt Ideal) (rm 1536 (by decide)).toLoadRect f_arg13) := by
  simp only [trip_k0_t1.sl.v362, trip_k0_t1.sl.v345, trip_k0_t1.sl.v342, trip_k0_t1.sl.v344, trip_k0_t1.sl.v343, mUp, shapeCast_id]

/-- A stored payload: new accumulators. -/
theorem pa359 : trip_k0_t1.sl.v359 i arg6 arg11 arg13 arg14 v24 X_arg6 k f_arg11 f_arg13 f_arg14
    = aUp (trip_k0_t1.sl.v274 i arg6 v24 X_arg6 k) (arg11.view.readAt (Elt Ideal) (rs 1536 (by decide)).toLoadRect f_arg11) (arg13.view.readAt (Elt Ideal) (rm 1536 (by decide)).toLoadRect f_arg13) (arg14.view.readAt (Elt Ideal) (ra 1536 (by decide)).toLoadRect f_arg14) := by
  simp only [trip_k0_t1.sl.v359, trip_k0_t1.sl.v356, trip_k0_t1.sl.v354, trip_k0_t1.sl.v353, trip_k0_t1.sl.v347, trip_k0_t1.sl.v346, trip_k0_t1.sl.v342, trip_k0_t1.sl.v345, trip_k0_t1.sl.v344, trip_k0_t1.sl.v343, trip_k0_t1.sl.v352, trip_k0_t1.sl.v355, trip_k0_t1.sl.v351, trip_k0_t1.sl.v350, trip_k0_t1.sl.v349, trip_k0_t1.sl.v348, trip_k0_t1.sl.cst_155, aUp, mUp, shapeCast_id]

/-- A stored payload: new maxima. -/
theorem pm404 : trip_k0_t1.sl.v404 i arg5 arg10 arg11 arg12 arg13 X_arg5 X_arg10 k f_arg11 f_arg13
    = mUp (trip_k0_t1.sl.v383 i arg5 arg10 arg12 X_arg5 X_arg10 k) (trip_k0_t1.sl.v384 arg11 arg13 f_arg11 f_arg13) := by
  simp only [trip_k0_t1.sl.v404, trip_k0_t1.sl.v387, trip_k0_t1.sl.v386, trip_k0_t1.sl.v385, mUp, shapeCast_id]

/-- A stored payload: new accumulators. -/
theorem pa401 : trip_k0_t1.sl.v401 i arg5 arg6 arg10 arg11 arg12 arg13 arg14 v24 X_arg5 X_arg6 X_arg10 k f_arg11 f_arg13 f_arg14
    = aUp (trip_k0_t1.sl.v382 i arg6 v24 X_arg6 k) (trip_k0_t1.sl.v383 i arg5 arg10 arg12 X_arg5 X_arg10 k) (trip_k0_t1.sl.v384 arg11 arg13 f_arg11 f_arg13) (trip_k0_t1.sl.v394 i arg6 arg11 arg13 arg14 v24 X_arg6 k f_arg11 f_arg13 f_arg14) := by
  simp only [trip_k0_t1.sl.v401, trip_k0_t1.sl.v398, trip_k0_t1.sl.v396, trip_k0_t1.sl.v395, trip_k0_t1.sl.v389, trip_k0_t1.sl.v388, trip_k0_t1.sl.v387, trip_k0_t1.sl.v386, trip_k0_t1.sl.v385, trip_k0_t1.sl.v397, trip_k0_t1.sl.v393, trip_k0_t1.sl.v392, trip_k0_t1.sl.v391, trip_k0_t1.sl.v390, trip_k0_t1.sl.cst_155, aUp, mUp, shapeCast_id]

/-- A stored payload: new maxima. -/
theorem pm426 : trip_k0_t1.sl.v426 i arg5 arg10 arg11 arg12 arg13 X_arg5 X_arg10 k f_arg11 f_arg13
    = mUp (trip_k0_t1.sl.v405 i arg5 arg10 arg12 X_arg5 X_arg10 k) (trip_k0_t1.sl.v406 i arg5 arg10 arg11 arg12 arg13 X_arg5 X_arg10 k f_arg11 f_arg13) := by
  simp only [trip_k0_t1.sl.v426, trip_k0_t1.sl.v409, trip_k0_t1.sl.v408, trip_k0_t1.sl.v407, mUp, shapeCast_id]

/-- A stored payload: new accumulators. -/
theorem pa423 : trip_k0_t1.sl.v423 i arg5 arg6 arg10 arg11 arg12 arg13 arg14 v24 X_arg5 X_arg6 X_arg10 k f_arg11 f_arg13 f_arg14
    = aUp (trip_k0_t1.sl.v382 i arg6 v24 X_arg6 k) (trip_k0_t1.sl.v405 i arg5 arg10 arg12 X_arg5 X_arg10 k) (trip_k0_t1.sl.v406 i arg5 arg10 arg11 arg12 arg13 X_arg5 X_arg10 k f_arg11 f_arg13) (trip_k0_t1.sl.v416 i arg5 arg6 arg10 arg11 arg12 arg13 arg14 v24 X_arg5 X_arg6 X_arg10 k f_arg11 f_arg13 f_arg14) := by
  simp only [trip_k0_t1.sl.v423, trip_k0_t1.sl.v420, trip_k0_t1.sl.v418, trip_k0_t1.sl.v417, trip_k0_t1.sl.v411, trip_k0_t1.sl.v410, trip_k0_t1.sl.v409, trip_k0_t1.sl.v408, trip_k0_t1.sl.v407, trip_k0_t1.sl.v419, trip_k0_t1.sl.v415, trip_k0_t1.sl.v414, trip_k0_t1.sl.v413, trip_k0_t1.sl.v412, trip_k0_t1.sl.cst_155, aUp, mUp, shapeCast_id]

/-- A stored payload: new maxima. -/
theorem pm448 : trip_k0_t1.sl.v448 i arg5 arg10 arg11 arg12 arg13 X_arg5 X_arg10 k f_arg11 f_arg13
    = mUp (trip_k0_t1.sl.v427 i arg5 arg10 arg12 X_arg5 X_arg10 k) (trip_k0_t1.sl.v428 i arg5 arg10 arg11 arg12 arg13 X_arg5 X_arg10 k f_arg11 f_arg13) := by
  simp only [trip_k0_t1.sl.v448, trip_k0_t1.sl.v431, trip_k0_t1.sl.v430, trip_k0_t1.sl.v429, mUp, shapeCast_id]

/-- A stored payload: new accumulators. -/
theorem pa445 : trip_k0_t1.sl.v445 i arg5 arg6 arg10 arg11 arg12 arg13 arg14 v24 X_arg5 X_arg6 X_arg10 k f_arg11 f_arg13 f_arg14
    = aUp (trip_k0_t1.sl.v382 i arg6 v24 X_arg6 k) (trip_k0_t1.sl.v427 i arg5 arg10 arg12 X_arg5 X_arg10 k) (trip_k0_t1.sl.v428 i arg5 arg10 arg11 arg12 arg13 X_arg5 X_arg10 k f_arg11 f_arg13) (trip_k0_t1.sl.v438 i arg5 arg6 arg10 arg11 arg12 arg13 arg14 v24 X_arg5 X_arg6 X_arg10 k f_arg11 f_arg13 f_arg14) := by
  simp only [trip_k0_t1.sl.v445, trip_k0_t1.sl.v442, trip_k0_t1.sl.v440, trip_k0_t1.sl.v439, trip_k0_t1.sl.v433, trip_k0_t1.sl.v432, trip_k0_t1.sl.v431, trip_k0_t1.sl.v430, trip_k0_t1.sl.v429, trip_k0_t1.sl.v441, trip_k0_t1.sl.v437, trip_k0_t1.sl.v436, trip_k0_t1.sl.v435, trip_k0_t1.sl.v434, trip_k0_t1.sl.cst_155, aUp, mUp, shapeCast_id]

/-- A stored payload: new maxima. -/
theorem pm453 : k0_pay114 (trip_k0_t1.sl.v453 i arg5 arg10 arg11 arg12 arg13 X_arg5 X_arg10 k f_arg11 f_arg13)
    = mUp (trip_k0_t1.sl.v449 i arg5 arg10 arg12 X_arg5 X_arg10 k) (trip_k0_t1.sl.v450 i arg5 arg10 arg11 arg12 arg13 X_arg5 X_arg10 k f_arg11 f_arg13) := by
  simp only [k0_pay114, trip_k0_t1.sl.v453, trip_k0_t1.sl.v452, trip_k0_t1.sl.v451, mUp, shapeCast_id]

/-- A stored payload: new accumulators. -/
theorem pa467 : trip_k0_t1.sl.v467 i arg5 arg6 arg10 arg11 arg12 arg13 arg14 v24 X_arg5 X_arg6 X_arg10 k f_arg11 f_arg13 f_arg14
    = aUp (trip_k0_t1.sl.v382 i arg6 v24 X_arg6 k) (trip_k0_t1.sl.v449 i arg5 arg10 arg12 X_arg5 X_arg10 k) (trip_k0_t1.sl.v450 i arg5 arg10 arg11 arg12 arg13 X_arg5 X_arg10 k f_arg11 f_arg13) (trip_k0_t1.sl.v460 i arg5 arg6 arg10 arg11 arg12 arg13 arg14 v24 X_arg5 X_arg6 X_arg10 k f_arg11 f_arg13 f_arg14) := by
  simp only [trip_k0_t1.sl.v467, trip_k0_t1.sl.v464, trip_k0_t1.sl.v462, trip_k0_t1.sl.v461, trip_k0_t1.sl.v455, trip_k0_t1.sl.v454, trip_k0_t1.sl.v453, trip_k0_t1.sl.v452, trip_k0_t1.sl.v451, trip_k0_t1.sl.v463, trip_k0_t1.sl.v459, trip_k0_t1.sl.v458, trip_k0_t1.sl.v457, trip_k0_t1.sl.v456, trip_k0_t1.sl.cst_155, aUp, mUp, shapeCast_id]

/-- Columns 0 to 511: the maxima after the trip. -/
theorem trip_m0 : arg13.view.readAt (Elt Ideal) (rm 0 (by decide)).toLoadRect (arg13.view.writes (Elt Ideal) f_arg13 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.1)
    = mUp (arg12.view.readCov (trip_k0_t1.sl.HW_arg12_1 i arg5 arg10 X_arg5 X_arg10 k) (rs 0 (by decide)).toLoadRect) (mUp (arg11.view.readAt (Elt Ideal) (rs 0 (by decide)).toLoadRect f_arg11) (arg13.view.readAt (Elt Ideal) (rm 0 (by decide)).toLoadRect f_arg13)) := by
  delta trL tripL_k0_t1 trip_k0_t1
  dsimp only
  rw [readAt_skip (h := rfl), trip_k0_t1.sl.HW_arg13_7, readAt_skip (h := rfl), trip_k0_t1.sl.HW_arg13_6, readAt_skip (h := rfl), trip_k0_t1.sl.HW_arg13_5, readAt_hit, pm404, trip_k0_t1.sl.v383, trip_k0_t1.sl.v384, trip_k0_t1.sl.HW_arg13_4, View.readCov_skip (h := rfl), View.readCov_skip (h := rfl), View.readCov_skip (h := rfl), View.readCov_cons_toLoadRect, pm296]

/-- Columns 0 to 511: the accumulators after the trip. -/
theorem trip_a0 : arg14.view.readAt (Elt Ideal) (ra 0 (by decide)).toLoadRect (arg14.view.writes (Elt Ideal) f_arg14 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.2)
    = aUp (trip_k0_t1.sl.v382 i arg6 v24 X_arg6 k) (arg12.view.readCov (trip_k0_t1.sl.HW_arg12_1 i arg5 arg10 X_arg5 X_arg10 k) (rs 0 (by decide)).toLoadRect) (mUp (arg11.view.readAt (Elt Ideal) (rs 0 (by decide)).toLoadRect f_arg11) (arg13.view.readAt (Elt Ideal) (rm 0 (by decide)).toLoadRect f_arg13)) (aUp (trip_k0_t1.sl.v274 i arg6 v24 X_arg6 k) (arg11.view.readAt (Elt Ideal) (rs 0 (by decide)).toLoadRect f_arg11) (arg13.view.readAt (Elt Ideal) (rm 0 (by decide)).toLoadRect f_arg13) (arg14.view.readAt (Elt Ideal) (ra 0 (by decide)).toLoadRect f_arg14)) := by
  delta trL tripL_k0_t1 trip_k0_t1
  dsimp only
  rw [readAt_skip (h := rfl), trip_k0_t1.sl.HW_arg14_7, readAt_skip (h := rfl), trip_k0_t1.sl.HW_arg14_6, readAt_skip (h := rfl), trip_k0_t1.sl.HW_arg14_5, readAt_hit, pa401, trip_k0_t1.sl.v383, trip_k0_t1.sl.v384, trip_k0_t1.sl.HW_arg13_4, View.readCov_skip (h := rfl), View.readCov_skip (h := rfl), View.readCov_skip (h := rfl), View.readCov_cons_toLoadRect, pm296, trip_k0_t1.sl.v394, trip_k0_t1.sl.HW_arg14_4, View.readCov_skip (h := rfl), View.readCov_skip (h := rfl), View.readCov_skip (h := rfl), View.readCov_cons_toLoadRect, pa293]

/-- Columns 512 to 1023: the maxima after the trip. -/
theorem trip_m512 : arg13.view.readAt (Elt Ideal) (rm 512 (by decide)).toLoadRect (arg13.view.writes (Elt Ideal) f_arg13 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.1)
    = mUp (arg12.view.readCov (trip_k0_t1.sl.HW_arg12_1 i arg5 arg10 X_arg5 X_arg10 k) (rs 512 (by decide)).toLoadRect) (mUp (arg11.view.readAt (Elt Ideal) (rs 512 (by decide)).toLoadRect f_arg11) (arg13.view.readAt (Elt Ideal) (rm 512 (by decide)).toLoadRect f_arg13)) := by
  delta trL tripL_k0_t1 trip_k0_t1
  dsimp only
  rw [readAt_skip (h := rfl), trip_k0_t1.sl.HW_arg13_7, readAt_skip (h := rfl), trip_k0_t1.sl.HW_arg13_6, readAt_hit, pm426, trip_k0_t1.sl.v405, trip_k0_t1.sl.v406, trip_k0_t1.sl.HW_arg13_5, View.readCov_skip (h := rfl), trip_k0_t1.sl.HW_arg13_4, View.readCov_skip (h := rfl), View.readCov_skip (h := rfl), View.readCov_cons_toLoadRect, pm318]

/-- Columns 512 to 1023: the accumulators after the trip. -/
theorem trip_a512 : arg14.view.readAt (Elt Ideal) (ra 512 (by decide)).toLoadRect (arg14.view.writes (Elt Ideal) f_arg14 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.2)
    = aUp (trip_k0_t1.sl.v382 i arg6 v24 X_arg6 k) (arg12.view.readCov (trip_k0_t1.sl.HW_arg12_1 i arg5 arg10 X_arg5 X_arg10 k) (rs 512 (by decide)).toLoadRect) (mUp (arg11.view.readAt (Elt Ideal) (rs 512 (by decide)).toLoadRect f_arg11) (arg13.view.readAt (Elt Ideal) (rm 512 (by decide)).toLoadRect f_arg13)) (aUp (trip_k0_t1.sl.v274 i arg6 v24 X_arg6 k) (arg11.view.readAt (Elt Ideal) (rs 512 (by decide)).toLoadRect f_arg11) (arg13.view.readAt (Elt Ideal) (rm 512 (by decide)).toLoadRect f_arg13) (arg14.view.readAt (Elt Ideal) (ra 512 (by decide)).toLoadRect f_arg14)) := by
  delta trL tripL_k0_t1 trip_k0_t1
  dsimp only
  rw [readAt_skip (h := rfl), trip_k0_t1.sl.HW_arg14_7, readAt_skip (h := rfl), trip_k0_t1.sl.HW_arg14_6, readAt_hit, pa423, trip_k0_t1.sl.v405, trip_k0_t1.sl.v406, trip_k0_t1.sl.HW_arg13_5, View.readCov_skip (h := rfl), trip_k0_t1.sl.HW_arg13_4, View.readCov_skip (h := rfl), View.readCov_skip (h := rfl), View.readCov_cons_toLoadRect, pm318, trip_k0_t1.sl.v416, trip_k0_t1.sl.HW_arg14_5, View.readCov_skip (h := rfl), trip_k0_t1.sl.HW_arg14_4, View.readCov_skip (h := rfl), View.readCov_skip (h := rfl), View.readCov_cons_toLoadRect, pa315]

/-- Columns 1024 to 1535: the maxima after the trip. -/
theorem trip_m1024 : arg13.view.readAt (Elt Ideal) (rm 1024 (by decide)).toLoadRect (arg13.view.writes (Elt Ideal) f_arg13 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.1)
    = mUp (arg12.view.readCov (trip_k0_t1.sl.HW_arg12_1 i arg5 arg10 X_arg5 X_arg10 k) (rs 1024 (by decide)).toLoadRect) (mUp (arg11.view.readAt (Elt Ideal) (rs 1024 (by decide)).toLoadRect f_arg11) (arg13.view.readAt (Elt Ideal) (rm 1024 (by decide)).toLoadRect f_arg13)) := by
  delta trL tripL_k0_t1 trip_k0_t1
  dsimp only
  rw [readAt_skip (h := rfl), trip_k0_t1.sl.HW_arg13_7, readAt_hit, pm448, trip_k0_t1.sl.v427, trip_k0_t1.sl.v428, trip_k0_t1.sl.HW_arg13_6, View.readCov_skip (h := rfl), trip_k0_t1.sl.HW_arg13_5, View.readCov_skip (h := rfl), trip_k0_t1.sl.HW_arg13_4, View.readCov_skip (h := rfl), View.readCov_cons_toLoadRect, pm340]

/-- Columns 1024 to 1535: the accumulators after the trip. -/
theorem trip_a1024 : arg14.view.readAt (Elt Ideal) (ra 1024 (by decide)).toLoadRect (arg14.view.writes (Elt Ideal) f_arg14 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.2)
    = aUp (trip_k0_t1.sl.v382 i arg6 v24 X_arg6 k) (arg12.view.readCov (trip_k0_t1.sl.HW_arg12_1 i arg5 arg10 X_arg5 X_arg10 k) (rs 1024 (by decide)).toLoadRect) (mUp (arg11.view.readAt (Elt Ideal) (rs 1024 (by decide)).toLoadRect f_arg11) (arg13.view.readAt (Elt Ideal) (rm 1024 (by decide)).toLoadRect f_arg13)) (aUp (trip_k0_t1.sl.v274 i arg6 v24 X_arg6 k) (arg11.view.readAt (Elt Ideal) (rs 1024 (by decide)).toLoadRect f_arg11) (arg13.view.readAt (Elt Ideal) (rm 1024 (by decide)).toLoadRect f_arg13) (arg14.view.readAt (Elt Ideal) (ra 1024 (by decide)).toLoadRect f_arg14)) := by
  delta trL tripL_k0_t1 trip_k0_t1
  dsimp only
  rw [readAt_skip (h := rfl), trip_k0_t1.sl.HW_arg14_7, readAt_hit, pa445, trip_k0_t1.sl.v427, trip_k0_t1.sl.v428, trip_k0_t1.sl.HW_arg13_6, View.readCov_skip (h := rfl), trip_k0_t1.sl.HW_arg13_5, View.readCov_skip (h := rfl), trip_k0_t1.sl.HW_arg13_4, View.readCov_skip (h := rfl), View.readCov_cons_toLoadRect, pm340, trip_k0_t1.sl.v438, trip_k0_t1.sl.HW_arg14_6, View.readCov_skip (h := rfl), trip_k0_t1.sl.HW_arg14_5, View.readCov_skip (h := rfl), trip_k0_t1.sl.HW_arg14_4, View.readCov_skip (h := rfl), View.readCov_cons_toLoadRect, pa337]

/-- Columns 1536 to 2047: the maxima after the trip. -/
theorem trip_m1536 : arg13.view.readAt (Elt Ideal) (rm 1536 (by decide)).toLoadRect (arg13.view.writes (Elt Ideal) f_arg13 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.1)
    = mUp (arg12.view.readCov (trip_k0_t1.sl.HW_arg12_1 i arg5 arg10 X_arg5 X_arg10 k) (rs 1536 (by decide)).toLoadRect) (mUp (arg11.view.readAt (Elt Ideal) (rs 1536 (by decide)).toLoadRect f_arg11) (arg13.view.readAt (Elt Ideal) (rm 1536 (by decide)).toLoadRect f_arg13)) := by
  delta trL tripL_k0_t1 trip_k0_t1
  dsimp only
  rw [readAt_hit, pm453, trip_k0_t1.sl.v449, trip_k0_t1.sl.v450, trip_k0_t1.sl.HW_arg13_7, View.readCov_skip (h := rfl), trip_k0_t1.sl.HW_arg13_6, View.readCov_skip (h := rfl), trip_k0_t1.sl.HW_arg13_5, View.readCov_skip (h := rfl), trip_k0_t1.sl.HW_arg13_4, View.readCov_cons_toLoadRect, pm362]

/-- Columns 1536 to 2047: the accumulators after the trip. -/
theorem trip_a1536 : arg14.view.readAt (Elt Ideal) (ra 1536 (by decide)).toLoadRect (arg14.view.writes (Elt Ideal) f_arg14 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.2)
    = aUp (trip_k0_t1.sl.v382 i arg6 v24 X_arg6 k) (arg12.view.readCov (trip_k0_t1.sl.HW_arg12_1 i arg5 arg10 X_arg5 X_arg10 k) (rs 1536 (by decide)).toLoadRect) (mUp (arg11.view.readAt (Elt Ideal) (rs 1536 (by decide)).toLoadRect f_arg11) (arg13.view.readAt (Elt Ideal) (rm 1536 (by decide)).toLoadRect f_arg13)) (aUp (trip_k0_t1.sl.v274 i arg6 v24 X_arg6 k) (arg11.view.readAt (Elt Ideal) (rs 1536 (by decide)).toLoadRect f_arg11) (arg13.view.readAt (Elt Ideal) (rm 1536 (by decide)).toLoadRect f_arg13) (arg14.view.readAt (Elt Ideal) (ra 1536 (by decide)).toLoadRect f_arg14)) := by
  delta trL tripL_k0_t1 trip_k0_t1
  dsimp only
  rw [readAt_hit, pa467, trip_k0_t1.sl.v449, trip_k0_t1.sl.v450, trip_k0_t1.sl.HW_arg13_7, View.readCov_skip (h := rfl), trip_k0_t1.sl.HW_arg13_6, View.readCov_skip (h := rfl), trip_k0_t1.sl.HW_arg13_5, View.readCov_skip (h := rfl), trip_k0_t1.sl.HW_arg13_4, View.readCov_cons_toLoadRect, pm362, trip_k0_t1.sl.v460, trip_k0_t1.sl.HW_arg14_7, View.readCov_skip (h := rfl), trip_k0_t1.sl.HW_arg14_6, View.readCov_skip (h := rfl), trip_k0_t1.sl.HW_arg14_5, View.readCov_skip (h := rfl), trip_k0_t1.sl.HW_arg14_4, View.readCov_cons_toLoadRect, pa359]

end Cert.KernelIdeal.Attn
-- ==== Proof.Attn.State.lean ====
/-
The state between key tiles, in coordinates: scores, values, and the four blocks of 512 query columns.
-/
module

public import proofs.«01_k».proof.Proof.Attn.Loads
public import Idealize.ShloMosaic.Lib.WritesUnit

@[expose] public section

set_option maxRecDepth 16384

noncomputable section

namespace Cert.KernelIdeal.Attn

open Idealize.ShloMosaic Idealize.ShloMosaic.TcCoe Idealize.ShloMosaic.Tactic
open Cert.KernelIdeal.Gen Cert.Attn

section loads
variable {sig : RefSig} {κ : Kind} {sp : Space} {e : EltTy} {Val : EltTy → Type}

/-- A load of a box of a two-axis buffer, at an index. -/
theorem readAt_ix2 {n0 n1 m0 m1 : ℕ} (v : View sig κ sp ⟨2, ![n0, n1]⟩ e) (f : v.ty.Contents Val)
    {off : Fin 2 → ℕ} (inb : ∀ a, off a + (⟨2, ![m0, m1]⟩ : Shape).size a ≤ (⟨2, ![n0, n1]⟩ : Shape).size a) {p q : ℕ} (h : off = ![p, q])
    (r : Fin m0) (j : Fin m1) (hp : p + r.val < n0) (hq : q + j.val < n1) :
    v.readAt Val (Rect.unit (s := ⟨2, ![n0, n1]⟩) off (⟨2, ![m0, m1]⟩ : Shape).size inb).toLoadRect f (ix2 r j)
      = v.read Val f (ix2 ⟨p + r.val, hp⟩ ⟨q + j.val, hq⟩) := by
  subst h
  rw [View.readAt_apply]
  congr 1
  funext a
  refine Fin.cases ?_ (fun a => Fin.cases ?_ (fun a => a.elim0) a) a
  · exact Fin.ext (show p + 1 * r.val = p + r.val by omega)
  · exact Fin.ext (show q + 1 * j.val = q + j.val by omega)

/-- A load of a box of a three-axis buffer, at an index. -/
theorem readAt_ix3 {n0 n1 n2 m0 m1 m2 : ℕ} (v : View sig κ sp ⟨3, ![n0, n1, n2]⟩ e) (f : v.ty.Contents Val)
    {off : Fin 3 → ℕ} (inb : ∀ a, off a + (⟨3, ![m0, m1, m2]⟩ : Shape).size a ≤ (⟨3, ![n0, n1, n2]⟩ : Shape).size a) {o p q : ℕ} (h : off = ![o, p, q])
    (l : Fin m0) (r : Fin m1) (j : Fin m2) (ho : o + l.val < n0) (hp : p + r.val < n1) (hq : q + j.val < n2) :
    v.readAt Val (Rect.unit (s := ⟨3, ![n0, n1, n2]⟩) off (⟨3, ![m0, m1, m2]⟩ : Shape).size inb).toLoadRect f (ix3 l r j)
      = v.read Val f (ix3 ⟨o + l.val, ho⟩ ⟨p + r.val, hp⟩ ⟨q + j.val, hq⟩) := by
  subst h
  rw [View.readAt_apply]
  congr 1
  funext a
  refine Fin.cases ?_ (fun a => Fin.cases ?_ (fun a => Fin.cases ?_ (fun a => a.elim0) a) a) a
  · exact Fin.ext (show o + 1 * l.val = o + l.val by omega)
  · exact Fin.ext (show p + 1 * r.val = p + r.val by omega)
  · exact Fin.ext (show q + 1 * j.val = q + j.val by omega)

/-- A load of a box of a four-axis buffer, at an index. -/
theorem readAt_ix4 {n0 n1 n2 n3 m0 m1 m2 m3 : ℕ} (v : View sig κ sp ⟨4, ![n0, n1, n2, n3]⟩ e) (f : v.ty.Contents Val)
    {off : Fin 4 → ℕ} (inb : ∀ a, off a + (⟨4, ![m0, m1, m2, m3]⟩ : Shape).size a ≤ (⟨4, ![n0, n1, n2, n3]⟩ : Shape).size a) {o p q u : ℕ} (h : off = ![o, p, q, u])
    (l : Fin m0) (r : Fin m1) (j : Fin m2) (z : Fin m3) (ho : o + l.val < n0) (hp : p + r.val < n1) (hq : q + j.val < n2) (hu : u + z.val < n3) :
    v.readAt Val (Rect.unit (s := ⟨4, ![n0, n1, n2, n3]⟩) off (⟨4, ![m0, m1, m2, m3]⟩ : Shape).size inb).toLoadRect f (ix4 l r j z)
      = v.read Val f (ix4 ⟨o + l.val, ho⟩ ⟨p + r.val, hp⟩ ⟨q + j.val, hq⟩ ⟨u + z.val, hu⟩) := by
  subst h
  rw [View.readAt_apply]
  congr 1
  funext a
  refine Fin.cases ?_ (fun a => Fin.cases ?_ (fun a => Fin.cases ?_ (fun a => Fin.cases ?_ (fun a => a.elim0) a) a) a) a
  · exact Fin.ext (show o + 1 * l.val = o + l.val by omega)
  · exact Fin.ext (show p + 1 * r.val = p + r.val by omega)
  · exact Fin.ext (show q + 1 * j.val = q + j.val by omega)
  · exact Fin.ext (show u + 1 * z.val = u + z.val by omega)

/-- A buffer whose last write filled it reads that write, through any load. -/
theorem read_fill {s : Shape} (v : View sig κ sp s e) (f : v.ty.Contents Val) {off : Fin s.rank → ℕ}
    (inb : ∀ a, off a + s.size a ≤ s.size a) (w : (Rect.unit off s.size inb).shape.Idx → Val e) (L : List (View.Piece Val s e)) :
    v.read Val (v.writes Val f (⟨Rect.unit off s.size inb, w⟩ :: L)) = w := by
  funext y
  exact View.read_writes_cons_unit_of_mem v f inb w L y y rfl fun a => by have := inb a; omega

end loads

/-- The scores of a tile of 512 keys. -/
def qk (kt : FVec Ideal S512x128 .bf16) (q : FVec Ideal S128x2048 .bf16) : FVec Ideal S512x2048 .f32 :=
  matmul dot_S512x128_S128x2048_S512x2048_1_0_0_1_n_n none kt q (constant S512x2048 .f32 0x00000000#32)

theorem qk_apply (kt : FVec Ideal S512x128 .bf16) (q : FVec Ideal S128x2048 .bf16) (r : Fin 512) (c : Fin 2048) :
    qk kt q (ix2 r c) = ∑ d : Fin 128, kt (ix2 r d) * q (ix2 d c) := by
  pointwise [qk]

/-- The scores of a tile of 512 keys against 512 query columns. -/
def qkH (kt : FVec Ideal S512x128 .bf16) (q : FVec Ideal S128x512 .bf16) : FVec Ideal S512x512 .f32 :=
  matmul dot_S512x128_S128x512_S512x512_1_0_0_1_n_n none kt q (constant S512x512 .f32 0x00000000#32)

theorem qkH_apply (kt : FVec Ideal S512x128 .bf16) (q : FVec Ideal S128x512 .bf16) (r : Fin 512) (c : Fin 512) :
    qkH kt q (ix2 r c) = ∑ d : Fin 128, kt (ix2 r d) * q (ix2 d c) := by
  pointwise [qkH]

/-- The values of a tile of 512 keys, and sixteen rows below them. -/
def vtile (x : FVec Ideal S1x128x512 .bf16) (ones : FVec Ideal S16x512 .bf16) : FVec Ideal S144x512 .bf16 :=
  concatenate S144x512 0 [⟨S128x512, shapeCast S128x512 x shapeCasts_S1x128x512_S128x512⟩, ⟨S16x512, ones⟩] concatenates_S128x512_S16x512_S144x512_d0

theorem vtile_apply (x : FVec Ideal S1x128x512 .bf16) (ones : FVec Ideal S16x512 .bf16) (e : Fin 144) (r : Fin 512) :
    vtile x ones (ix2 e r) = if h : e.val < 128 then x (ix3 0 ⟨e.val, h⟩ r) else ones (ix2 ⟨e.val - 128, by omega⟩ r) := by
  pointwise [vtile]

/-- The score of key `n` for query column `c`, from real keys and queries. -/
def Rsc (K : ℕ → Fin 128 → ℝ) (Q : Fin 128 → ℕ → ℝ) (n c : ℕ) : ℝ := ∑ d, K n d * Q d c

/-- The value rows and, below them, rows of ones. -/
def Vext (V : Fin 128 → ℕ → ℝ) (e : Fin 144) (n : ℕ) : ℝ := if h : e.val < 128 then V ⟨e.val, h⟩ n else 1

/-- The weighted sums over the first `N` keys. -/
def Tsum (V : Fin 128 → ℕ → ℝ) (W : ℕ → ℕ → ℝ) (N c : ℕ) (e : Fin 144) : ℝ := ∑ n ∈ Finset.range N, Vext V e n * W n c

theorem Tsum_add (V : Fin 128 → ℕ → ℝ) (W : ℕ → ℕ → ℝ) (N c : ℕ) (e : Fin 144) :
    Tsum V W (N + 512) c e = Tsum V W N c e + ∑ r : Fin 512, Vext V e (N + r.val) * W (N + r.val) c := by
  unfold Tsum
  rw [Finset.sum_range_add, Finset.sum_range (fun x => Vext V e (N + x) * W (N + x) c)]

/-- A tile step of one block of columns, starting at column `o`. -/
theorem BlkSt.tile {V : Fin 128 → ℕ → ℝ} {W : ℕ → ℕ → ℝ} {N o : ℕ} {m : FVec Ideal S1x512 .f32} {a : FVec Ideal S144x512 .f32}
    (h : BlkSt m a fun j => Tsum V W N (o + j.val)) {vt : FVec Ideal S144x512 .bf16} {s : FVec Ideal S512x512 .f32}
    (hV : ∀ e r, vt (ix2 e r) = ((Vext V e (N + r.val) : ℝ) : EReal))
    (hs : ∀ r j, Sc (s (ix2 r j)) (W (N + r.val) (o + j.val))) (hr : ∀ j, ∃ r, s (ix2 r j) ≠ ⊥) :
    BlkSt (mUp s m) (aUp vt s m a) fun j => Tsum V W (N + 512) (o + j.val) := by
  have := h.up (w := fun r j => W (N + r.val) (o + j.val)) hV hs hr
  have e : (fun j : Fin 512 => Tsum V W (N + 512) (o + j.val))
      = fun j e => Tsum V W N (o + j.val) e + ∑ r : Fin 512, Vext V e (N + r.val) * W (N + r.val) (o + j.val) := by
    funext j e
    exact Tsum_add ..
  rw [e]
  exact this

/-- The four blocks of columns have seen the first `N` keys. -/
structure StAll (v13 : View sig .tc .vmem S1x2048 .f32) (v14 : View sig .tc .vmem S144x2048 .f32)
    (f13 : v13.ty.Contents (Elt Ideal)) (f14 : v14.ty.Contents (Elt Ideal)) (T : ℕ → Fin 144 → ℝ) : Prop where
  b0 : BlkSt (v13.readAt (Elt Ideal) (rm 0 (by decide)).toLoadRect f13) (v14.readAt (Elt Ideal) (ra 0 (by decide)).toLoadRect f14) fun j => T (0 + j.val)
  b1 : BlkSt (v13.readAt (Elt Ideal) (rm 512 (by decide)).toLoadRect f13) (v14.readAt (Elt Ideal) (ra 512 (by decide)).toLoadRect f14) fun j => T (512 + j.val)
  b2 : BlkSt (v13.readAt (Elt Ideal) (rm 1024 (by decide)).toLoadRect f13) (v14.readAt (Elt Ideal) (ra 1024 (by decide)).toLoadRect f14) fun j => T (1024 + j.val)
  b3 : BlkSt (v13.readAt (Elt Ideal) (rm 1536 (by decide)).toLoadRect f13) (v14.readAt (Elt Ideal) (ra 1536 (by decide)).toLoadRect f14) fun j => T (1536 + j.val)

/-- A score buffer holds the scores of the 512 keys from `N` on. -/
def Raws (K : ℕ → Fin 128 → ℝ) (Q : Fin 128 → ℕ → ℝ) (N : ℕ) (S : FVec Ideal S512x2048 .f32) : Prop :=
  ∀ (r : Fin 512) (c : Fin 2048), S (ix2 r c) = ((Rsc K Q (N + r.val) c.val : ℝ) : EReal)

/-- What a block reads from such a buffer. -/
theorem Raws.blk {K : ℕ → Fin 128 → ℝ} {Q : Fin 128 → ℕ → ℝ} {N : ℕ} {v : View sig .tc .vmem S512x2048 .f32}
    {f : v.ty.Contents (Elt Ideal)} (h : Raws K Q N (v.read (Elt Ideal) f)) (o : ℕ) (ho) (r j : Fin 512) :
    v.readAt (Elt Ideal) (rs o ho).toLoadRect f (ix2 r j) = ((Rsc K Q (N + r.val) (o + j.val) : ℝ) : EReal) := by
  have h1 : o + 512 ≤ 2048 := ho 1
  have := readAt_ix2 v f (m0 := 512) (m1 := 512) ho rfl r j (by omega) (by omega)
  refine this.trans ?_
  have := h ⟨0 + r.val, by omega⟩ ⟨o + j.val, by omega⟩
  rw [this]
  simp

/-- The product of real tiles is the real score. -/
theorem qk_raws {K : ℕ → Fin 128 → ℝ} {Q : Fin 128 → ℕ → ℝ} {N : ℕ} {kt : FVec Ideal S512x128 .bf16} {q : FVec Ideal S128x2048 .bf16}
    (hk : ∀ (r : Fin 512) (d : Fin 128), kt (ix2 r d) = ((K (N + r.val) d : ℝ) : EReal))
    (hq : ∀ (d : Fin 128) (c : Fin 2048), q (ix2 d c) = ((Q d c.val : ℝ) : EReal)) : Raws K Q N (qk kt q) := by
  intro r c
  rw [qk_apply, Rsc, coe_sum]
  refine Finset.sum_congr rfl fun d _ => ?_
  rw [hk, hq, EReal.coe_mul]

/-- The value tile of real values over rows of ones. -/
theorem vtile_real {V : Fin 128 → ℕ → ℝ} {N : ℕ} {x : FVec Ideal S1x128x512 .bf16} {ones : FVec Ideal S16x512 .bf16}
    (hx : ∀ (e : Fin 128) (r : Fin 512), x (ix3 0 e r) = ((V e (N + r.val) : ℝ) : EReal)) (h1 : ∀ i, ones i = ((1 : ℝ) : EReal))
    (e : Fin 144) (r : Fin 512) : vtile x ones (ix2 e r) = ((Vext V e (N + r.val) : ℝ) : EReal) := by
  rw [vtile_apply, Vext]
  split
  · exact hx _ _
  · exact h1 _

/-- A real score weighs two to its power. -/
theorem Sc.real {s : EReal} {x w : ℝ} (hs : s = (x : EReal)) (hw : w = Real.rpow 2 x) : Sc s w := Or.inr ⟨x, hs, hw⟩

end Cert.KernelIdeal.Attn
-- ==== Proof.Attn.TripState.lean ====
/-
One trip of the key loop keeps the state: it takes the scores of tile `2k`, adds tiles `2k` and `2k + 1` to every
column's sums, and leaves the scores of tile `2k + 2`.
-/
module

public import proofs.«01_k».proof.Proof.Attn.Trip
public import proofs.«01_k».proof.Proof.Attn.State

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (𝒱 : Variants) (c : Dev nD) (bd : Option 𝒱.V) (i : grid0.Coords) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole)
  (arg2 : BitVec 32) (v24 : FVec Ideal S16x512 .bf16) (v30 : FVec Ideal S512x2048 .f32)
  (X_arg5 : BufTy.Contents (Elt Ideal) arg5.view.ty) (X_arg6 : BufTy.Contents (Elt Ideal) arg6.view.ty) (X_arg10 : BufTy.Contents (Elt Ideal) arg10.view.ty)
  (k : Fin (k0_t1_loop i).trips)
  (f_arg11 : BufTy.Contents (Elt Ideal) arg11.view.ty) (f_arg12 : BufTy.Contents (Elt Ideal) arg12.view.ty)
  (f_arg13 : BufTy.Contents (Elt Ideal) arg13.view.ty) (f_arg14 : BufTy.Contents (Elt Ideal) arg14.view.ty)

variable {K : ℕ → Fin 128 → ℝ} {Q : Fin 128 → ℕ → ℝ} {V : Fin 128 → ℕ → ℝ} {W : ℕ → ℕ → ℝ}

/-- The key tile a load takes. -/
theorem keys_real (h5 : ∀ (n : ℕ) (hn : n < 16384) (d : Fin 128), arg5.view.read (Elt Ideal) X_arg5 (ix2 ⟨n, hn⟩ d) = ((K n d : ℝ) : EReal))
    {off : Fin 2 → ℕ} (inb) {N : ℕ} (ho : off = ![N, 0]) (r : Fin 512) (d : Fin 128) :
    arg5.view.readAt (Elt Ideal) (Rect.unit (s := S16384x128) off S512x128.size inb).toLoadRect X_arg5 (ix2 r d) = ((K (N + r.val) d : ℝ) : EReal) := by
  have hN : N + 512 ≤ 16384 := by have := inb 0; rw [ho] at this; exact this
  refine (readAt_ix2 arg5.view X_arg5 (m0 := 512) (m1 := 128) inb ho r d (by omega) (by omega)).trans ?_
  rw [h5]
  simp

/-- The value tile a load takes. -/
theorem vals_real (h6 : ∀ (e : Fin 128) (n : ℕ) (hn : n < 16384), arg6.view.read (Elt Ideal) X_arg6 (ix3 0 e ⟨n, hn⟩) = ((V e n : ℝ) : EReal))
    {off : Fin 3 → ℕ} (inb) {N : ℕ} (ho : off = ![0, 0, N]) (e : Fin 128) (r : Fin 512) :
    arg6.view.readAt (Elt Ideal) (Rect.unit (s := S1x128x16384) off S1x128x512.size inb).toLoadRect X_arg6 (ix3 0 e r) = ((V e (N + r.val) : ℝ) : EReal) := by
  have hN : N + 512 ≤ 16384 := by have := inb 2; rw [ho] at this; exact this
  refine (readAt_ix3 arg6.view X_arg6 (m0 := 1) (m1 := 128) (m2 := 512) inb ho 0 e r (by omega) (by omega) (by omega)).trans ?_
  have := h6 e (N + r.val) (by omega)
  rw [← this]
  congr 1
  funext a
  refine Fin.cases ?_ (fun a => Fin.cases ?_ (fun a => Fin.cases ?_ (fun a => a.elim0) a) a) a
  · rfl
  · exact Fin.ext (show 0 + e.val = e.val by omega)
  · rfl

/-- All the query columns, loaded. -/
theorem query_real (h10 : ∀ (d : Fin 128) (c : Fin 2048), arg10.view.read (Elt Ideal) X_arg10 (ix2 d c) = ((Q d c.val : ℝ) : EReal))
    (inb) (d : Fin 128) (c : Fin 2048) :
    arg10.view.readAt (Elt Ideal) (Rect.unit (s := S128x2048) ![0, 0] S128x2048.size inb).toLoadRect X_arg10 (ix2 d c) = ((Q d c.val : ℝ) : EReal) := by
  refine (readAt_ix2 arg10.view X_arg10 (m0 := 128) (m1 := 2048) inb rfl d c (by omega) (by omega)).trans ?_
  rw [← h10 d c]
  congr 1
  funext a
  refine Fin.cases ?_ (fun a => Fin.cases ?_ (fun a => a.elim0) a) a
  · exact Fin.ext (show 0 + d.val = d.val by omega)
  · exact Fin.ext (show 0 + c.val = c.val by omega)

variable (h5 : ∀ (n : ℕ) (hn : n < 16384) (d : Fin 128), arg5.view.read (Elt Ideal) X_arg5 (ix2 ⟨n, hn⟩ d) = ((K n d : ℝ) : EReal))
  (h6 : ∀ (e : Fin 128) (n : ℕ) (hn : n < 16384), arg6.view.read (Elt Ideal) X_arg6 (ix3 0 e ⟨n, hn⟩) = ((V e n : ℝ) : EReal))
  (h10 : ∀ (d : Fin 128) (c : Fin 2048), arg10.view.read (Elt Ideal) X_arg10 (ix2 d c) = ((Q d c.val : ℝ) : EReal))
  (h24 : ∀ j, v24 j = ((1 : ℝ) : EReal))
  (o11 : k0_off1 i k 1#32 = ![1024 * k.val + 512, 0]) (o12 : k0_off1 i k 2#32 = ![1024 * k.val + 1024, 0])
  (o2 : k0_off2 i k = ![0, 0, 1024 * k.val]) (o3 : k0_off3 i k = ![0, 0, 1024 * k.val + 512])
  (hW : ∀ n c, n < 1024 * k.val + 1024 → W n c = Real.rpow 2 (Rsc K Q n c))

include h5 h10 o11 in
/-- The trip's own scores. -/
theorem trip_raw1 : Raws K Q (1024 * k.val + 512) (arg12.view.read (Elt Ideal) (arg12.view.writes (Elt Ideal) arg12.view.junk (trip_k0_t1.sl.HW_arg12_1 i arg5 arg10 X_arg5 X_arg10 k))) := by
  unfold trip_k0_t1.sl.HW_arg12_1
  have e : trip_k0_t1.sl.v267 i arg5 arg10 X_arg5 X_arg10 k = qk (trip_k0_t1.sl.v262 i arg5 X_arg5 k) (arg10.view.readAt (Elt Ideal) (Rect.unit (s := S128x2048) ![0, 0] S128x2048.size (by decide)).toLoadRect X_arg10) := by
    simp only [trip_k0_t1.sl.v267, trip_k0_t1.sl.v264, trip_k0_t1.sl.cst_141, qk, shapeCast_id]
  rw [e]
  refine (congrArg (Raws K Q _) (read_fill _ _ _ _ _)).mpr (qk_raws (fun r d => ?_) (query_real _ _ h10 _))
  simp only [trip_k0_t1.sl.v262, shapeCast_id]
  exact keys_real _ _ h5 _ o11 r d

include h5 h10 o12 in
/-- The next trip's scores. -/
theorem trip_raw2 : Raws K Q (1024 * (k.val + 1)) (arg11.view.read (Elt Ideal) (arg11.view.writes (Elt Ideal) f_arg11 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).1)) := by
  delta trL tripL_k0_t1 trip_k0_t1
  dsimp only
  have e : trip_k0_t1.sl.v374 i arg5 arg10 X_arg5 X_arg10 k = qk (trip_k0_t1.sl.v369 i arg5 X_arg5 k) (arg10.view.readAt (Elt Ideal) (Rect.unit (s := S128x2048) ![0, 0] S128x2048.size (by decide)).toLoadRect X_arg10) := by
    simp only [trip_k0_t1.sl.v374, trip_k0_t1.sl.v371, trip_k0_t1.sl.cst_141, qk, shapeCast_id]
  rw [e]
  refine (congrArg (Raws K Q _) (read_fill _ _ _ _ _)).mpr (qk_raws (fun r d => ?_) (query_real _ _ h10 _))
  simp only [trip_k0_t1.sl.v369, shapeCast_id]
  exact keys_real _ _ h5 _ o12 r d

include h6 h24 o2 in
/-- The values of the trip's first tile. -/
theorem trip_v1 (e : Fin 144) (r : Fin 512) : trip_k0_t1.sl.v274 i arg6 v24 X_arg6 k (ix2 e r) = ((Vext V e (1024 * k.val + r.val) : ℝ) : EReal) := by
  have : trip_k0_t1.sl.v274 i arg6 v24 X_arg6 k = vtile (arg6.view.readAt (Elt Ideal) (Rect.unit (s := S1x128x16384) (k0_off2 i k) S1x128x512.size (k0_off2_inb i k)).toLoadRect X_arg6) v24 := by
    simp only [trip_k0_t1.sl.v274, trip_k0_t1.sl.v273, vtile]
  rw [this]
  exact vtile_real (fun e r => vals_real _ _ h6 _ o2 e r) h24 e r

include h6 h24 o3 in
/-- The values of the trip's second tile. -/
theorem trip_v2 (e : Fin 144) (r : Fin 512) : trip_k0_t1.sl.v382 i arg6 v24 X_arg6 k (ix2 e r) = ((Vext V e (1024 * k.val + 512 + r.val) : ℝ) : EReal) := by
  have : trip_k0_t1.sl.v382 i arg6 v24 X_arg6 k = vtile (arg6.view.readAt (Elt Ideal) (Rect.unit (s := S1x128x16384) (k0_off3 i k) S1x128x512.size (k0_off3_inb i k)).toLoadRect X_arg6) v24 := by
    simp only [trip_k0_t1.sl.v382, trip_k0_t1.sl.v381, vtile]
  rw [this]
  exact vtile_real (fun e r => vals_real _ _ h6 _ o3 e r) h24 e r

include h5 h6 h10 h24 o11 o2 o3 hW in
/-- The sums after the trip. -/
theorem trip_st (hR : Raws K Q (1024 * k.val) (arg11.view.read (Elt Ideal) f_arg11))
    (hS : StAll arg13.view arg14.view f_arg13 f_arg14 (Tsum V W (1024 * k.val))) :
    StAll arg13.view arg14.view (arg13.view.writes (Elt Ideal) f_arg13 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.1) (arg14.view.writes (Elt Ideal) f_arg14 (trL 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 k f_arg11 f_arg12 f_arg13 f_arg14).2.2.2) (Tsum V W (1024 * (k.val + 1))) := by
  have hv1 := trip_v1 i arg6 v24 X_arg6 k h6 h24 o2
  have hv2 := trip_v2 i arg6 v24 X_arg6 k h6 h24 o3
  have hr := trip_raw1 i arg5 arg10 arg12 X_arg5 X_arg10 k h5 h10 o11
  have key : ∀ (o : ℕ) (ho) (m : FVec Ideal S1x512 .f32) (a : FVec Ideal S144x512 .f32), BlkSt m a (fun j => Tsum V W (1024 * k.val) (o + j.val)) →
      BlkSt (mUp (arg12.view.readCov (trip_k0_t1.sl.HW_arg12_1 i arg5 arg10 X_arg5 X_arg10 k) (rs o ho).toLoadRect) (mUp (arg11.view.readAt (Elt Ideal) (rs o ho).toLoadRect f_arg11) m))
        (aUp (trip_k0_t1.sl.v382 i arg6 v24 X_arg6 k) (arg12.view.readCov (trip_k0_t1.sl.HW_arg12_1 i arg5 arg10 X_arg5 X_arg10 k) (rs o ho).toLoadRect)
          (mUp (arg11.view.readAt (Elt Ideal) (rs o ho).toLoadRect f_arg11) m) (aUp (trip_k0_t1.sl.v274 i arg6 v24 X_arg6 k) (arg11.view.readAt (Elt Ideal) (rs o ho).toLoadRect f_arg11) m a))
        (fun j => Tsum V W (1024 * (k.val + 1)) (o + j.val)) := by
    intro o ho m a h
    have h1 := h.tile hv1 (s := arg11.view.readAt (Elt Ideal) (rs o ho).toLoadRect f_arg11)
      (fun r j => Sc.real (hR.blk o ho r j) (hW _ _ (by omega))) (fun j => ⟨0, by rw [hR.blk o ho 0 j]; exact EReal.coe_ne_bot _⟩)
    have h2 := h1.tile hv2 (s := arg12.view.readCov (trip_k0_t1.sl.HW_arg12_1 i arg5 arg10 X_arg5 X_arg10 k) (rs o ho).toLoadRect)
      (fun r j => Sc.real (hr.blk o ho r j) (hW _ _ (by omega))) (fun j => ⟨0, by rw [View.readCov, hr.blk o ho 0 j]; exact EReal.coe_ne_bot _⟩)
    exact h2
  refine ⟨?_, ?_, ?_, ?_⟩
  · rw [trip_m0, trip_a0]; exact key 0 _ _ _ hS.b0
  · rw [trip_m512, trip_a512]; exact key 512 _ _ _ hS.b1
  · rw [trip_m1024, trip_a1024]; exact key 1024 _ _ _ hS.b2
  · rw [trip_m1536, trip_a1536]; exact key 1536 _ _ _ hS.b3

end Cert.KernelIdeal.Attn
-- ==== Proof.Attn.LoopState.lean ====
/-
The key loop keeps the state: after `n` trips every column has seen the first `1024 n` keys.
-/
module

public import proofs.«01_k».proof.Proof.Attn.TripState

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (𝒱 : Variants) (c : Dev nD) (bd : Option 𝒱.V) (i : grid0.Coords) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole)
  (arg2 : BitVec 32) (v24 : FVec Ideal S16x512 .bf16) (v30 : FVec Ideal S512x2048 .f32)
  (X_arg5 : BufTy.Contents (Elt Ideal) arg5.view.ty) (X_arg6 : BufTy.Contents (Elt Ideal) arg6.view.ty) (X_arg10 : BufTy.Contents (Elt Ideal) arg10.view.ty)
  (G11 : BufTy.Contents (Elt Ideal) arg11.view.ty) (G12 : BufTy.Contents (Elt Ideal) arg12.view.ty)
  (G13 : BufTy.Contents (Elt Ideal) arg13.view.ty) (G14 : BufTy.Contents (Elt Ideal) arg14.view.ty)

variable {K : ℕ → Fin 128 → ℝ} {Q : Fin 128 → ℕ → ℝ} {V : Fin 128 → ℕ → ℝ} {W : ℕ → ℕ → ℝ}
  (h5 : ∀ (n : ℕ) (hn : n < 16384) (d : Fin 128), arg5.view.read (Elt Ideal) X_arg5 (ix2 ⟨n, hn⟩ d) = ((K n d : ℝ) : EReal))
  (h6 : ∀ (e : Fin 128) (n : ℕ) (hn : n < 16384), arg6.view.read (Elt Ideal) X_arg6 (ix3 0 e ⟨n, hn⟩) = ((V e n : ℝ) : EReal))
  (h10 : ∀ (d : Fin 128) (c : Fin 2048), arg10.view.read (Elt Ideal) X_arg10 (ix2 d c) = ((Q d c.val : ℝ) : EReal))
  (h24 : ∀ j, v24 j = ((1 : ℝ) : EReal))
  (o11 : ∀ k, k0_off1 i k 1#32 = ![1024 * k.val + 512, 0]) (o12 : ∀ k, k0_off1 i k 2#32 = ![1024 * k.val + 1024, 0])
  (o2 : ∀ k, k0_off2 i k = ![0, 0, 1024 * k.val]) (o3 : ∀ k, k0_off3 i k = ![0, 0, 1024 * k.val + 512])
  (hW : ∀ n c, n < 1024 * (k0_t1_loop i).trips → W n c = Real.rpow 2 (Rsc K Q n c))

include h5 h6 h10 h24 o11 o12 o2 o3 hW in
theorem loop_state (hR : Raws K Q 0 (arg11.view.read (Elt Ideal) G11)) (hS : StAll arg13.view arg14.view G13 G14 (Tsum V W 0)) (n : ℕ)
    (hn : n ≤ (k0_t1_loop i).trips) :
    Raws K Q (1024 * n) (arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 G11 G12 G13 G14 n).1))
      ∧ StAll arg13.view arg14.view (arg13.view.writes (Elt Ideal) G13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 G11 G12 G13 G14 n).2.2.1)
          (arg14.view.writes (Elt Ideal) G14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 G11 G12 G13 G14 n).2.2.2) (Tsum V W (1024 * n)) := by
  induction n with
  | zero => exact ⟨hR, hS⟩
  | succ n ih =>
    obtain ⟨ihR, ihS⟩ := ih (by omega)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 G11 G12 G13 G14 ⟨n, by omega⟩
    dsimp only at e
    rw [e]
    dsimp only
    rw [View.writes_append, View.writes_append, View.writes_append]
    have hW' : ∀ m c, m < 1024 * n + 1024 → W m c = Real.rpow 2 (Rsc K Q m c) := fun m c h => hW m c (by omega)
    exact ⟨trip_raw2 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 ⟨n, by omega⟩ _ _ _ _ h5 h10 (o12 ⟨n, by omega⟩),
      trip_st 𝒱 c bd i arg3 harg3 arg4 harg4 arg5 harg5 arg6 harg6 arg7 harg7 arg8 harg8 arg9 harg9 arg10 harg10 arg11 harg11 arg12 harg12 arg13 harg13 arg14 harg14 arg2 v24 v30 X_arg5 X_arg6 X_arg10 ⟨n, by omega⟩ _ _ _ _ h5 h6 h10 h24 (o11 ⟨n, by omega⟩) (o2 ⟨n, by omega⟩) (o3 ⟨n, by omega⟩) hW' ihR ihS⟩

end Cert.KernelIdeal.Attn
-- ==== Proof.Attn.Tiles.lean ====
/-
A tile of keys against the four blocks of query columns, one block stored after another.
-/
module

public import proofs.«01_k».proof.Proof.Attn.LoopState

@[expose] public section

set_option maxRecDepth 16384

noncomputable section

namespace Cert.KernelIdeal.Attn

open Idealize.ShloMosaic Idealize.ShloMosaic.TcCoe Idealize.ShloMosaic.Tactic
open Cert.KernelIdeal.Gen Cert.Attn

/-- The scores of a block weigh `W`, and every column has a score that is not masked. -/
def Scs (W : ℕ → ℕ → ℝ) (N o : ℕ) (s : FVec Ideal S512x512 .f32) : Prop :=
  (∀ r j : Fin 512, Sc (s (ix2 r j)) (W (N + r.val) (o + j.val))) ∧ ∀ j : Fin 512, ∃ r : Fin 512, s (ix2 r j) ≠ ⊥

/-- A load of a block just stored. -/
theorem cov_hit {sig : RefSig} {κ : Kind} {sp : Space} {s : Shape} {e : EltTy} {Val : EltTy → Type} [∀ e, Inhabited (Val e)]
    (v : View sig κ sp s e) (r : Rect s) (w : r.shape.Idx → Val e)
    (L : List (View.Piece Val s e)) : v.readAt Val r.toLoadRect (v.writes Val v.junk (⟨r, w⟩ :: L)) = w := readAt_hit v _ r w L

variable {v13 : View sig .tc .vmem S1x2048 .f32} {v14 : View sig .tc .vmem S144x2048 .f32}
variable {V : Fin 128 → ℕ → ℝ} {W : ℕ → ℕ → ℝ}

/-- One tile: the four blocks in turn. -/
theorem StAll.tile4 {N : ℕ} {M : List (View.Piece (Elt Ideal) S1x2048 .f32)} {A : List (View.Piece (Elt Ideal) S144x2048 .f32)}
    (h : StAll v13 v14 (v13.writes (Elt Ideal) v13.junk M) (v14.writes (Elt Ideal) v14.junk A) (Tsum V W N))
    {vt : FVec Ideal S144x512 .bf16} (hV : ∀ e r, vt (ix2 e r) = ((Vext V e (N + r.val) : ℝ) : EReal))
    {s0 s1 s2 s3 : FVec Ideal S512x512 .f32} (h0 : Scs W N 0 s0) (h1 : Scs W N 512 s1) (h2 : Scs W N 1024 s2) (h3 : Scs W N 1536 s3)
    {m0 m1 m2 m3 l0 l1 l2 l3 : FVec Ideal S1x512 .f32} {a0 a1 a2 a3 k0 k1 k2 k3 : FVec Ideal S144x512 .f32}
    (em0 : m0 = mUp s0 l0) (ea0 : a0 = aUp vt s0 l0 k0) (em1 : m1 = mUp s1 l1) (ea1 : a1 = aUp vt s1 l1 k1)
    (em2 : m2 = mUp s2 l2) (ea2 : a2 = aUp vt s2 l2 k2) (em3 : m3 = mUp s3 l3) (ea3 : a3 = aUp vt s3 l3 k3)
    (el0 : l0 = v13.readCov M (rm 0 (by decide)).toLoadRect) (ek0 : k0 = v14.readCov A (ra 0 (by decide)).toLoadRect)
    (el1 : l1 = v13.readCov (⟨rm 0 (by decide), m0⟩ :: M) (rm 512 (by decide)).toLoadRect)
    (ek1 : k1 = v14.readCov (⟨ra 0 (by decide), a0⟩ :: A) (ra 512 (by decide)).toLoadRect)
    (el2 : l2 = v13.readCov (⟨rm 512 (by decide), m1⟩ :: ⟨rm 0 (by decide), m0⟩ :: M) (rm 1024 (by decide)).toLoadRect)
    (ek2 : k2 = v14.readCov (⟨ra 512 (by decide), a1⟩ :: ⟨ra 0 (by decide), a0⟩ :: A) (ra 1024 (by decide)).toLoadRect)
    (el3 : l3 = v13.readCov (⟨rm 1024 (by decide), m2⟩ :: ⟨rm 512 (by decide), m1⟩ :: ⟨rm 0 (by decide), m0⟩ :: M) (rm 1536 (by decide)).toLoadRect)
    (ek3 : k3 = v14.readCov (⟨ra 1024 (by decide), a2⟩ :: ⟨ra 512 (by decide), a1⟩ :: ⟨ra 0 (by decide), a0⟩ :: A) (ra 1536 (by decide)).toLoadRect) :
    StAll v13 v14
      (v13.writes (Elt Ideal) v13.junk (⟨rm 1536 (by decide), m3⟩ :: ⟨rm 1024 (by decide), m2⟩ :: ⟨rm 512 (by decide), m1⟩ :: ⟨rm 0 (by decide), m0⟩ :: M))
      (v14.writes (Elt Ideal) v14.junk (⟨ra 1536 (by decide), a3⟩ :: ⟨ra 1024 (by decide), a2⟩ :: ⟨ra 512 (by decide), a1⟩ :: ⟨ra 0 (by decide), a0⟩ :: A))
      (Tsum V W (N + 512)) := by
  rw [View.readCov_skip (h := rfl)] at el1 ek1
  rw [View.readCov_skip (h := rfl), View.readCov_skip (h := rfl)] at el2 ek2
  rw [View.readCov_skip (h := rfl), View.readCov_skip (h := rfl), View.readCov_skip (h := rfl)] at el3 ek3
  refine ⟨?_, ?_, ?_, ?_⟩
  · rw [readAt_skip (h := rfl), readAt_skip (h := rfl), readAt_skip (h := rfl), readAt_hit, readAt_skip (h := rfl), readAt_skip (h := rfl), readAt_skip (h := rfl), readAt_hit, em0, ea0, el0, ek0]
    exact h.b0.tile hV h0.1 h0.2
  · rw [readAt_skip (h := rfl), readAt_skip (h := rfl), readAt_hit, readAt_skip (h := rfl), readAt_skip (h := rfl), readAt_hit, em1, ea1, el1, ek1]
    exact h.b1.tile hV h1.1 h1.2
  · rw [readAt_skip (h := rfl), readAt_hit, readAt_skip (h := rfl), readAt_hit, em2, ea2, el2, ek2]
    exact h.b2.tile hV h2.1 h2.2
  · rw [readAt_hit, readAt_hit, em3, ea3, el3, ek3]
    exact h.b3.tile hV h3.1 h3.2

/-- The last tile: only the second half of each head's columns meets it; for the others its keys weigh nothing. -/
theorem StAll.tile2 {N : ℕ} {M : List (View.Piece (Elt Ideal) S1x2048 .f32)} {A : List (View.Piece (Elt Ideal) S144x2048 .f32)}
    (h : StAll v13 v14 (v13.writes (Elt Ideal) v13.junk M) (v14.writes (Elt Ideal) v14.junk A) (Tsum V W N))
    {vt : FVec Ideal S144x512 .bf16} (hV : ∀ e r, vt (ix2 e r) = ((Vext V e (N + r.val) : ℝ) : EReal))
    {s1 s3 : FVec Ideal S512x512 .f32} (h1 : Scs W N 512 s1) (h3 : Scs W N 1536 s3)
    (z0 : ∀ r j : Fin 512, W (N + r.val) (0 + j.val) = 0) (z2 : ∀ r j : Fin 512, W (N + r.val) (1024 + j.val) = 0)
    {m1 l1 l3 : FVec Ideal S1x512 .f32} {a1 a3 k1 k3 : FVec Ideal S144x512 .f32}
    (em1 : m1 = mUp s1 l1) (ea1 : a1 = aUp vt s1 l1 k1) (ea3 : a3 = aUp vt s3 l3 k3)
    (el1 : l1 = v13.readCov M (rm 512 (by decide)).toLoadRect) (ek1 : k1 = v14.readCov A (ra 512 (by decide)).toLoadRect)
    (el3 : l3 = v13.readCov (⟨rm 512 (by decide), m1⟩ :: M) (rm 1536 (by decide)).toLoadRect)
    (ek3 : k3 = v14.readCov (⟨ra 512 (by decide), a1⟩ :: A) (ra 1536 (by decide)).toLoadRect) :
    ∃ m3, StAll v13 v14
      (v13.writes (Elt Ideal) v13.junk (⟨rm 1536 (by decide), m3⟩ :: ⟨rm 512 (by decide), m1⟩ :: M))
      (v14.writes (Elt Ideal) v14.junk (⟨ra 1536 (by decide), a3⟩ :: ⟨ra 512 (by decide), a1⟩ :: A))
      (Tsum V W (N + 512)) := by
  rw [View.readCov_skip (h := rfl)] at el3 ek3
  have z : ∀ o, (∀ r j : Fin 512, W (N + r.val) (o + j.val) = 0) →
      (fun j : Fin 512 => Tsum V W (N + 512) (o + j.val)) = fun j : Fin 512 => Tsum V W N (o + j.val) := by
    intro o hz
    funext j e
    rw [Tsum_add, Finset.sum_eq_zero fun r _ => by rw [hz r j, mul_zero], add_zero]
  refine ⟨mUp s3 l3, ?_, ?_, ?_, ?_⟩
  · rw [readAt_skip (h := rfl), readAt_skip (h := rfl), readAt_skip (h := rfl), readAt_skip (h := rfl), z 0 z0]
    exact h.b0
  · rw [readAt_skip (h := rfl), readAt_hit, readAt_skip (h := rfl), readAt_hit, em1, ea1, el1, ek1]
    exact h.b1.tile hV h1.1 h1.2
  · rw [readAt_skip (h := rfl), readAt_skip (h := rfl), readAt_skip (h := rfl), readAt_skip (h := rfl), z 1024 z2]
    exact h.b2
  · rw [readAt_hit, readAt_hit, ea3, el3, ek3]
    exact h.b3.tile hV h3.1 h3.2

/-- A block of 512 columns of a tile's bias. -/
def bslice (x : FVec Ideal S1x1x512x1024 .f32) (o : ℕ) (h : S512x1024.Slices ![0, o] S512x512) : FVec Ideal S512x512 .f32 :=
  extractStridedSlice S512x512 ![0, o] (shapeCast S512x1024 x shapeCasts_S1x1x512x1024_S512x1024) h

end Cert.KernelIdeal.Attn
-- ==== Proof.Attn.Start.lean ====
/-
Where the sums start: the query columns laid out for both heads, the maxima at `-∞`, the accumulators at zero.
-/
module

public import proofs.«01_k».proof.Proof.Attn.Tiles

@[expose] public section

set_option maxRecDepth 16384

noncomputable section

namespace Cert.KernelIdeal.Attn

open Idealize.ShloMosaic Idealize.ShloMosaic.TcCoe Idealize.ShloMosaic.Tactic
open Cert.KernelIdeal.Gen Cert.Attn

/-- The queries of both heads as columns: the first head's in the upper half of the depth, the second's below. -/
def Qm (q : Fin 128 → ℕ → ℝ) (d : Fin 128) (c : ℕ) : ℝ :=
  if c < 1024 then (if d.val < 64 then q d c else 0) else if 64 ≤ d.val then q d (c - 1024) else 0

theorem slt64 : ∀ d : Fin 128, IntOp.cmpi CmpIPredicate.slt (BitVec.ofNat 32 d.val) 64#32 = if d.val < 64 then 1#1 else 0#1 := by decide +kernel
theorem sge64 : ∀ d : Fin 128, IntOp.cmpi CmpIPredicate.sge (BitVec.ofNat 32 d.val) 64#32 = if 64 ≤ d.val then 1#1 else 0#1 := by decide +kernel

theorem p107_apply (v : Vec Ideal S1x128x1024 .bf16) (d : Fin 128) (r : Fin 1024) :
    k0_pay107 v (ix2 d r) = if d.val < 64 then v (ix3 0 d r) else 0 := by
  pointwise [k0_pay107, k0_pay105, k0_pay106]
  rw [slt64]
  split <;> rfl

theorem p108_apply (v : Vec Ideal S1x128x1024 .bf16) (d : Fin 128) (r : Fin 1024) :
    k0_pay108 v (ix2 d r) = if 64 ≤ d.val then v (ix3 0 d r) else 0 := by
  pointwise [k0_pay108, k0_pay105, k0_pay106]
  rw [sge64]
  split <;> rfl

theorem p109_apply (j : Fin 2048) : k0_pay109 (F := Ideal) (ix2 0 j) = ⊥ := by
  pointwise [k0_pay109]
  rfl

theorem p110_apply (e : Fin 144) (j : Fin 2048) : k0_pay110 (F := Ideal) (ix2 e j) = 0 := by
  pointwise [k0_pay110]

theorem p111_apply (i) : k0_pay111 (F := Ideal) i = ((1 : ℝ) : EReal) := by
  pointwise [k0_pay111]
  rfl

/-- The query block as loaded. -/
theorem qload {arg4 : Memref sig .tc .vmem S1x128x1024 .bf16} {harg4 : arg4.IsWhole} {x1 : Vec Ideal S1x128x1024 .bf16} {inb} :
    arg4.view.readAt (Elt Ideal) (Rect.unit (s := S1x128x1024) ![0, 0, 0] S1x128x1024.size inb).toLoadRect (harg4.unread x1) = x1 := by
  funext j
  rw [View.readAt_apply, harg4.read_unread]
  congr 1
  funext a
  refine Fin.cases ?_ (fun a => Fin.cases ?_ (fun a => Fin.cases ?_ (fun a => a.elim0) a) a) a
  · exact Fin.ext (show 0 + 1 * (j 0).val = (j 0).val by omega)
  · exact Fin.ext (show 0 + 1 * (j 1).val = (j 1).val by omega)
  · exact Fin.ext (show 0 + 1 * (j 2).val = (j 2).val by omega)

/-- The query columns once both halves are stored. -/
theorem queries {q : Fin 128 → ℕ → ℝ} {v : View sig .tc .vmem S128x2048 .bf16} {x1 : Vec Ideal S1x128x1024 .bf16}
    (h1 : ∀ (d : Fin 128) (r : Fin 1024), x1 (ix3 0 d r) = ((q d r.val : ℝ) : EReal)) {inb0 inb1}
    (d : Fin 128) (c : Fin 2048) :
    v.read (Elt Ideal) (v.writes (Elt Ideal) v.junk
      [⟨Rect.unit (s := S128x2048) ![0, 1024] S128x1024.size inb1, k0_pay108 x1⟩, ⟨Rect.unit (s := S128x2048) ![0, 0] S128x1024.size inb0, k0_pay107 x1⟩]) (ix2 d c)
      = ((Qm q d c.val : ℝ) : EReal) := by
  by_cases hc : c.val < 1024
  · rw [View.read_writes_cons_unit_of_not_mem v v.junk inb1 _ _ (ix2 d c) rfl 1 (Or.inl hc),
      View.read_writes_cons_unit_of_mem (Val := Elt Ideal) v v.junk inb0 (k0_pay107 x1) [] (ix2 d c) (ix2 d ⟨c.val, hc⟩) rfl
        (Fin.forall_fin_two.mpr ⟨(Nat.zero_add _).symm, (Nat.zero_add _).symm⟩)]
    refine (p107_apply x1 d ⟨c.val, hc⟩).trans ?_
    rw [Qm, if_pos hc]
    split
    · exact h1 _ _
    · rfl
  · have hc' : c.val - 1024 < 1024 := by omega
    rw [View.read_writes_cons_unit_of_mem (Val := Elt Ideal) v v.junk inb1 (k0_pay108 x1) _ (ix2 d c) (ix2 d ⟨c.val - 1024, hc'⟩) rfl
        (Fin.forall_fin_two.mpr ⟨(Nat.zero_add _).symm, show c.val = 1024 + (c.val - 1024) by omega⟩)]
    refine (p108_apply x1 d ⟨c.val - 1024, hc'⟩).trans ?_
    rw [Qm, if_neg hc]
    split
    · exact h1 _ _
    · rfl

variable {V : Fin 128 → ℕ → ℝ} {W : ℕ → ℕ → ℝ} {K : ℕ → Fin 128 → ℝ} {Q : Fin 128 → ℕ → ℝ} {N : ℕ}

/-- The state before any key. -/
theorem start_state {v13 : View sig .tc .vmem S1x2048 .f32} {v14 : View sig .tc .vmem S144x2048 .f32} {inb0 inb1} :
    StAll v13 v14 (v13.writes (Elt Ideal) v13.junk [⟨Rect.unit (s := S1x2048) ![0, 0] S1x2048.size inb0, k0_pay109 (F := Ideal)⟩])
      (v14.writes (Elt Ideal) v14.junk [⟨Rect.unit (s := S144x2048) ![0, 0] S144x2048.size inb1, k0_pay110 (F := Ideal)⟩]) (Tsum V W 0) := by
  have hT : ∀ c, Tsum V W 0 c = fun _ => 0 := fun c => by funext e; simp [Tsum]
  have key : ∀ (o : ℕ) (h) (h'), BlkSt
      (v13.readAt (Elt Ideal) (rm o h).toLoadRect (v13.writes (Elt Ideal) v13.junk [⟨Rect.unit (s := S1x2048) ![0, 0] S1x2048.size inb0, k0_pay109 (F := Ideal)⟩]))
      (v14.readAt (Elt Ideal) (ra o h').toLoadRect (v14.writes (Elt Ideal) v14.junk [⟨Rect.unit (s := S144x2048) ![0, 0] S144x2048.size inb1, k0_pay110 (F := Ideal)⟩]))
      fun j => Tsum V W 0 (o + j.val) := by
    intro o h h' j
    have ho : o + 512 ≤ 2048 := h 1
    have e1 := readAt_ix2 v13 (v13.writes (Elt Ideal) v13.junk [⟨Rect.unit (s := S1x2048) ![0, 0] S1x2048.size inb0, k0_pay109 (F := Ideal)⟩]) (m0 := 1) (m1 := 512) h rfl 0 j (by simp) (by omega)
    have e2 := fun e : Fin 144 => readAt_ix2 v14 (v14.writes (Elt Ideal) v14.junk [⟨Rect.unit (s := S144x2048) ![0, 0] S144x2048.size inb1, k0_pay110 (F := Ideal)⟩]) (m0 := 144) (m1 := 512) h' rfl e j (by omega) (by omega)
    rw [read_fill] at e1
    have e1' := e1.trans (p109_apply _)
    have e2' : ∀ e : Fin 144, _ = (0 : EReal) := fun e => (e2 e).trans (by rw [read_fill]; exact p110_apply _ _)
    have e3 : (fun e : Fin 144 => v14.readAt (Elt Ideal) (ra o h').toLoadRect (v14.writes (Elt Ideal) v14.junk [⟨Rect.unit (s := S144x2048) ![0, 0] S144x2048.size inb1, k0_pay110 (F := Ideal)⟩]) (ix2 e j)) = fun _ => 0 := funext e2'
    have e4 : v13.readAt (Elt Ideal) (rm o h).toLoadRect (v13.writes (Elt Ideal) v13.junk [⟨Rect.unit (s := S1x2048) ![0, 0] S1x2048.size inb0, k0_pay109 (F := Ideal)⟩]) (ix2 0 j) = ⊥ := e1'
    beta_reduce
    rw [e4, e3, hT]
    exact St.start
  exact ⟨key 0 _ _, key 512 _ _, key 1024 _ _, key 1536 _ _⟩

/-- A block of scores, in coordinates. -/
def SR (K : ℕ → Fin 128 → ℝ) (Q : Fin 128 → ℕ → ℝ) (N o : ℕ) (s : FVec Ideal S512x512 .f32) : Prop :=
  ∀ r j : Fin 512, s (ix2 r j) = ((Rsc K Q (N + r.val) (o + j.val) : ℝ) : EReal)

/-- Unbiased scores. -/
theorem SR.scs {o : ℕ} {s : FVec Ideal S512x512 .f32} (h : SR K Q N o s)
    (hW : ∀ n c, n < N + 512 → W n c = Real.rpow 2 (Rsc K Q n c)) : Scs W N o s :=
  ⟨fun r j => Sc.real (h r j) (hW _ _ (by omega)), fun j => ⟨0, by rw [h 0 j]; exact EReal.coe_ne_bot _⟩⟩

theorem bslice_apply (x : FVec Ideal S1x1x512x1024 .f32) (o : ℕ) (h) (r j : Fin 512) (hj : o + j.val < 1024) :
    bslice x o h (ix2 r j) = x (ix4 0 0 r ⟨o + j.val, hj⟩) := by
  pointwise [bslice]

/-- A bias tile as loaded. -/
theorem bload {arg7 : Memref sig .tc .vmem S1x3x512x1024 .f32} {harg7 : arg7.IsWhole} {x4 : Vec Ideal S1x3x512x1024 .f32} {k : ℕ} (hk : k < 3) {inb}
    (r : Fin 512) (j : Fin 1024) :
    arg7.view.readAt (Elt Ideal) (Rect.unit (s := S1x3x512x1024) ![0, k, 0, 0] S1x1x512x1024.size inb).toLoadRect (harg7.unread x4) (ix4 0 0 r j)
      = x4 (ix4 0 ⟨k, hk⟩ r j) := by
  refine (readAt_ix4 arg7.view (harg7.unread x4) (m0 := 1) (m1 := 1) (m2 := 512) (m3 := 1024) inb rfl 0 0 r j (by simp) (by simpa using hk) (by omega) (by omega)).trans ?_
  rw [harg7.read_unread]
  congr 1
  funext a
  refine Fin.cases ?_ (fun a => Fin.cases ?_ (fun a => Fin.cases ?_ (fun a => Fin.cases ?_ (fun a => a.elim0) a) a) a) a
  · rfl
  · rfl
  · exact Fin.ext (show 0 + r.val = r.val by omega)
  · exact Fin.ext (show 0 + j.val = j.val by omega)

/-- Biased scores. -/
theorem SR.biased {arg7 : Memref sig .tc .vmem S1x3x512x1024 .f32} {harg7 : arg7.IsWhole} {x4 : Vec Ideal S1x3x512x1024 .f32} {k : ℕ} (hk : k < 3) {inb}
    {o o' : ℕ} {h'} {s : FVec Ideal S512x512 .f32} (h : SR K Q N o s) (ho : o % 1024 = o') (ho' : o' + 512 ≤ 1024)
    (hb : ∀ (r : Fin 512) (c : ℕ), Sc (((Rsc K Q (N + r.val) c : ℝ) : EReal) + x4 (ix4 0 ⟨k, hk⟩ r ⟨c % 1024, Nat.mod_lt _ (by omega)⟩)) (W (N + r.val) c))
    (hx : ∀ j : Fin 512, ∃ r : Fin 512, x4 (ix4 0 ⟨k, hk⟩ r ⟨o' + j.val, by omega⟩) ≠ ⊥) :
    Scs W N o (addf s (bslice (arg7.view.readAt (Elt Ideal) (Rect.unit (s := S1x3x512x1024) ![0, k, 0, 0] S1x1x512x1024.size inb).toLoadRect (harg7.unread x4)) o' h')) := by
  have e : ∀ r j : Fin 512, (addf s (bslice (arg7.view.readAt (Elt Ideal) (Rect.unit (s := S1x3x512x1024) ![0, k, 0, 0] S1x1x512x1024.size inb).toLoadRect (harg7.unread x4)) o' h')) (ix2 r j)
      = ((Rsc K Q (N + r.val) (o + j.val) : ℝ) : EReal) + x4 (ix4 0 ⟨k, hk⟩ r ⟨o' + j.val, by omega⟩) := by
    intro r j
    show s (ix2 r j) + bslice _ o' h' (ix2 r j) = _
    rw [h r j, bslice_apply _ o' h' r j (by omega), bload hk r]
  refine ⟨fun r j => ?_, fun j => ?_⟩
  · rw [e]
    have := hb r (o + j.val)
    have e' : (⟨(o + j.val) % 1024, Nat.mod_lt _ (by omega)⟩ : Fin 1024) = ⟨o' + j.val, by omega⟩ := Fin.ext (by show (o + j.val) % 1024 = o' + j.val; omega)
    rw [e'] at this
    exact this
  · obtain ⟨r, hr⟩ := hx j
    refine ⟨r, ?_⟩
    rw [e]
    intro hbot
    rcases EReal.add_eq_bot_iff.mp hbot with h1 | h1
    · exact EReal.coe_ne_bot _ h1
    · exact hr h1

/-- The product of a real key tile with 512 real query columns. -/
theorem qkH_real {o : ℕ} {kt : FVec Ideal S512x128 .bf16} {q : FVec Ideal S128x512 .bf16}
    (hk : ∀ (r : Fin 512) (d : Fin 128), kt (ix2 r d) = ((K (N + r.val) d : ℝ) : EReal))
    (hq : ∀ (d : Fin 128) (j : Fin 512), q (ix2 d j) = ((Q d (o + j.val) : ℝ) : EReal)) : SR K Q N o (qkH kt q) := by
  intro r c
  rw [qkH_apply, Rsc, coe_sum]
  refine Finset.sum_congr rfl fun d _ => ?_
  rw [hk, hq, EReal.coe_mul]

/-- What the launch hands the body at query tile `T`, in real numbers: queries `q`, keys `K`, values `V`, and the weights
`W` that the scores and the bias tiles stand for. -/
structure Ins (T : ℕ) (x1 : Vec Ideal S1x128x1024 .bf16) (x2 : Vec Ideal S16384x128 .bf16) (x3 : Vec Ideal S1x128x16384 .bf16) (x4 : Vec Ideal S1x3x512x1024 .f32)
    (q : Fin 128 → ℕ → ℝ) (K : ℕ → Fin 128 → ℝ) (V : Fin 128 → ℕ → ℝ) (W : ℕ → ℕ → ℝ) : Prop where
  h1 : ∀ (d : Fin 128) (r : Fin 1024), x1 (ix3 0 d r) = ((q d r.val : ℝ) : EReal)
  h2 : ∀ (n : ℕ) (hn : n < 16384) (d : Fin 128), x2 (ix2 ⟨n, hn⟩ d) = ((K n d : ℝ) : EReal)
  h3 : ∀ (e : Fin 128) (n : ℕ) (hn : n < 16384), x3 (ix3 0 e ⟨n, hn⟩) = ((V e n : ℝ) : EReal)
  hW : ∀ n c, n + 512 < 1024 * T → W n c = Real.rpow 2 (Rsc K (Qm q) n c)
  hb : ∀ (k : Fin 3) (r : Fin 512) (c n : ℕ), n + 512 = 1024 * T + 512 * k.val + r.val →
    Sc (((Rsc K (Qm q) n c : ℝ) : EReal) + x4 (ix4 0 k r ⟨c % 1024, Nat.mod_lt _ (by omega)⟩)) (W n c)
  hx : ∀ (k : Fin 3) (c : Fin 1024), (k.val = 2 → 512 ≤ c.val) → ∃ r : Fin 512, x4 (ix4 0 k r c) ≠ ⊥
  hz : ∀ (r : Fin 512) (c : ℕ), c % 1024 < 512 → W (1024 * T + 512 + r.val) c = 0

end Cert.KernelIdeal.Attn
-- ==== Proof.Attn.ScoreLoads.lean ====
/-
What a tile step reads from a score buffer: the scores a product has just stored there, whole or in blocks.
-/
module

public import proofs.«01_k».proof.Proof.Attn.Start
public import proofs.«01_k».proof.Proof.Attn.TripState

@[expose] public section

set_option maxRecDepth 16384

noncomputable section

namespace Cert.KernelIdeal.Attn

open Idealize.ShloMosaic Idealize.ShloMosaic.TcCoe Idealize.ShloMosaic.Tactic
open Cert.KernelIdeal.Gen Cert.Attn

variable {K : ℕ → Fin 128 → ℝ} {Q : Fin 128 → ℕ → ℝ} {N : ℕ}

/-- A block of a buffer of scores. -/
theorem Raws.sr {v : View sig .tc .vmem S512x2048 .f32} {f : v.ty.Contents (Elt Ideal)} (h : Raws K Q N (v.read (Elt Ideal) f)) (o : ℕ) (ho) :
    SR K Q N o (v.readAt (Elt Ideal) (rs o ho).toLoadRect f) := fun r j => h.blk o ho r j

/-- A block of a buffer just filled with scores. -/
theorem SR.fill {v : View sig .tc .vmem S512x2048 .f32} {L : List (View.Piece (Elt Ideal) S512x2048 .f32)} {w : FVec Ideal S512x2048 .f32}
    (h : Raws K Q N w) {inb} (o : ℕ) (ho) :
    SR K Q N o (v.readAt (Elt Ideal) (rs o ho).toLoadRect (v.writes (Elt Ideal) v.junk (⟨Rect.unit (s := S512x2048) ![0, 0] S512x2048.size inb, w⟩ :: L))) :=
  Raws.sr ((congrArg (Raws K Q N) (read_fill _ _ _ _ _)).mpr h) o ho

/-- A block just stored. -/
theorem SR.hit {v : View sig .tc .vmem S512x2048 .f32} {L : List (View.Piece (Elt Ideal) S512x2048 .f32)} {o : ℕ} {w : FVec Ideal S512x512 .f32}
    (h : SR K Q N o w) (ho) :
    SR K Q N o (v.readAt (Elt Ideal) (rs o ho).toLoadRect (v.writes (Elt Ideal) v.junk (⟨rs o ho, w⟩ :: L))) :=
  by rw [readAt_hit]; exact h

/-- The block at 512, with the one at 1536 stored after it. -/
theorem SR.skip {v : View sig .tc .vmem S512x2048 .f32} {L : List (View.Piece (Elt Ideal) S512x2048 .f32)} {w w' : FVec Ideal S512x512 .f32}
    (h : SR K Q N 512 w) (ho) (ho') :
    SR K Q N 512 (v.readAt (Elt Ideal) (rs 512 ho).toLoadRect (v.writes (Elt Ideal) v.junk (⟨rs 1536 ho', w'⟩ :: ⟨rs 512 ho, w⟩ :: L))) :=
  by rw [readAt_skip (h := rfl), readAt_hit]; exact h

/-- A product written with its casts is the product. -/
theorem cast_qk (x : FVec Ideal S512x128 .bf16) (q : FVec Ideal S128x2048 .bf16) (h h') :
    shapeCast S512x2048 (matmul dot_S512x128_S128x2048_S512x2048_1_0_0_1_n_n none (shapeCast S512x128 x h) q (constant S512x2048 .f32 0x00000000#32)) h' = qk x q := by
  simp only [shapeCast_id, qk]

theorem p119_qk (x : FVec Ideal S512x128 .bf16) (q : FVec Ideal S128x512 .bf16) : k0_pay119 x q = qkH x q := by
  simp only [k0_pay119, k0_pay118, shapeCast_id, qkH]

theorem p120_qk (x : FVec Ideal S512x128 .bf16) (q : FVec Ideal S128x512 .bf16) : k0_pay120 x q = qkH x q := by
  simp only [k0_pay120, k0_pay118, shapeCast_id, qkH]

/-- 512 query columns as loaded. -/
theorem query_blk {arg10 : Memref sig .tc .vmem S128x2048 .bf16} {X : BufTy.Contents (Elt Ideal) arg10.view.ty}
    (h10 : ∀ (d : Fin 128) (c : Fin 2048), arg10.view.read (Elt Ideal) X (ix2 d c) = ((Q d c.val : ℝ) : EReal)) (o : ℕ) (inb) (d : Fin 128) (j : Fin 512) :
    arg10.view.readAt (Elt Ideal) (Rect.unit (s := S128x2048) ![0, o] S128x512.size inb).toLoadRect X (ix2 d j) = ((Q d (o + j.val) : ℝ) : EReal) := by
  have h1 : o + 512 ≤ 2048 := inb 1
  refine (readAt_ix2 arg10.view X (m0 := 128) (m1 := 512) inb rfl d j (by omega) (by omega)).trans ?_
  rw [h10]
  simp

end Cert.KernelIdeal.Attn
-- ==== Proof.Attn.Output.lean ====
/-
From the accumulators to the output block: the two heads' quotients, their difference, the norm and the gain.
-/
module

public import proofs.«01_k».proof.Proof.Attn.ScoreLoads

@[expose] public section

set_option maxRecDepth 16384

noncomputable section

namespace Cert.KernelIdeal.Attn

open Idealize.ShloMosaic Idealize.ShloMosaic.TcCoe Idealize.ShloMosaic.Tactic
open Cert.KernelIdeal.Gen Cert.Attn

/-- The quotient of two accumulators of a column, from the state of the sums. -/
theorem StAll.quot {v13 : View sig .tc .vmem S1x2048 .f32} {v14 : View sig .tc .vmem S144x2048 .f32}
    {f13 : v13.ty.Contents (Elt Ideal)} {f14 : v14.ty.Contents (Elt Ideal)} {T : ℕ → Fin 144 → ℝ}
    (h : StAll v13 v14 f13 f14 T) (inb) (e l : Fin 144) (c : Fin 2048) (hl : T c.val l ≠ 0) :
    Ideal.div (v14.readAt (Elt Ideal) (Rect.unit (s := S144x2048) ![0, 0] S144x2048.size inb).toLoadRect f14 (ix2 e c))
      (v14.readAt (Elt Ideal) (Rect.unit (s := S144x2048) ![0, 0] S144x2048.size inb).toLoadRect f14 (ix2 l c)) = ((T c.val e / T c.val l : ℝ) : EReal) := by
  have hA : ∀ e : Fin 144, v14.readAt (Elt Ideal) (Rect.unit (s := S144x2048) ![0, 0] S144x2048.size inb).toLoadRect f14 (ix2 e c) = v14.read (Elt Ideal) f14 (ix2 e c) := by
    intro e
    refine (readAt_ix2 v14 f14 (m0 := 144) (m1 := 2048) inb rfl e c (by omega) (by omega)).trans ?_
    congr 1
    funext a
    refine Fin.cases ?_ (fun a => Fin.cases ?_ (fun a => a.elim0) a) a
    · exact Fin.ext (show 0 + e.val = e.val by omega)
    · exact Fin.ext (show 0 + c.val = c.val by omega)
  have key : ∀ (o : ℕ) (ho) (ho') (hs : BlkSt (v13.readAt (Elt Ideal) (rm o ho).toLoadRect f13) (v14.readAt (Elt Ideal) (ra o ho').toLoadRect f14) fun j => T (o + j.val))
      (j : Fin 512) (hj : c.val = o + j.val),
      Ideal.div (v14.read (Elt Ideal) f14 (ix2 e c)) (v14.read (Elt Ideal) f14 (ix2 l c)) = ((T c.val e / T c.val l : ℝ) : EReal) := by
    intro o ho ho' hs j hj
    have hq := (hs j).quot e l (by show T (o + j.val) l ≠ 0; rw [← hj]; exact hl)
    have hB : ∀ e : Fin 144, v14.readAt (Elt Ideal) (ra o ho').toLoadRect f14 (ix2 e j) = v14.read (Elt Ideal) f14 (ix2 e c) := by
      intro e
      refine (readAt_ix2 v14 f14 (m0 := 144) (m1 := 512) ho' rfl e j (by omega) (by omega)).trans ?_
      congr 1
      funext a
      refine Fin.cases ?_ (fun a => Fin.cases ?_ (fun a => a.elim0) a) a
      · exact Fin.ext (show 0 + e.val = e.val by omega)
      · exact Fin.ext (show o + j.val = c.val by omega)
    rw [hB, hB] at hq
    rw [hj]
    exact hq
  rw [hA, hA]
  have hc := c.isLt
  by_cases h1 : c.val < 512
  · exact key 0 _ _ h.b0 ⟨c.val, h1⟩ (by simp)
  by_cases h2 : c.val < 1024
  · exact key 512 _ _ h.b1 ⟨c.val - 512, by omega⟩ (by show c.val = 512 + (c.val - 512); omega)
  by_cases h3 : c.val < 1536
  · exact key 1024 _ _ h.b2 ⟨c.val - 1024, by omega⟩ (by show c.val = 1024 + (c.val - 1024); omega)
  · exact key 1536 _ _ h.b3 ⟨c.val - 1536, by omega⟩ (by show c.val = 1536 + (c.val - 1536); omega)

theorem p1_apply (a g : FVec Ideal S128x1024 .f32) (s : Elt Ideal .f32) (e : Fin 128) (r : Fin 1024) :
    k0_pay1 a g s (ix2 r e) = a (ix2 e r) * (g (ix2 e r) * s) := by
  pointwise [k0_pay1]

theorem p153_apply (g : FVec Ideal S128x1024 .f32) : k0_pay153 g = g := by
  simp only [k0_pay153, shapeCast_id]

/-- The norm, the gain and the scale of a row `D` of differences. -/
def normed (D : Fin 128 → ℝ) (e : Fin 128) : EReal :=
  ((D e : ℝ) : EReal) * Ideal.rsqrt (Ideal.div (∑ x : Fin 128, ((D x : ℝ) : EReal) * ((D x : ℝ) : EReal)) (Ideal.ofBits FTy.f32 0x43000000#32)
    + Ideal.ofBits FTy.f32 0x3727C5AC#32)

theorem p152_apply (A : FVec Ideal S144x2048 .f32) (l : ℝ) (r : Fin 1024) (p0 p1 : Fin 128 → ℝ)
    (h0 : ∀ e : Fin 128, Ideal.div (A (ix2 ⟨e.val, by omega⟩ ⟨r.val, by omega⟩)) (A (ix2 128 ⟨r.val, by omega⟩)) = ((p0 e : ℝ) : EReal))
    (h1 : ∀ e : Fin 128, Ideal.div (A (ix2 ⟨e.val, by omega⟩ ⟨1024 + r.val, by omega⟩)) (A (ix2 128 ⟨1024 + r.val, by omega⟩)) = ((p1 e : ℝ) : EReal))
    (e : Fin 128) : k0_pay152 (F := Ideal) A (((l : ℝ) : EReal)) (ix2 e r) = normed (fun e => p0 e - l * p1 e) e := by
  pointwise [k0_pay152]
  simp only [h0, h1, ← EReal.coe_mul, ← EReal.coe_sub]
  simp only [normed, ← EReal.coe_mul]

/-- The two heads' weighted averages of value column `e`, the second taken `l` times from the first. -/
def dif (V : Fin 128 → ℕ → ℝ) (W : ℕ → ℕ → ℝ) (N : ℕ) (l : ℝ) (r : ℕ) (e : Fin 128) : ℝ :=
  Tsum V W N r ⟨e.val, by omega⟩ / Tsum V W N r 128 - l * (Tsum V W N (1024 + r) ⟨e.val, by omega⟩ / Tsum V W N (1024 + r) 128)

/-- The output block from the state after the last tile step. -/
theorem out_apply {v13 : View sig .tc .vmem S1x2048 .f32} {v14 : View sig .tc .vmem S144x2048 .f32}
    {f13 : v13.ty.Contents (Elt Ideal)} {f14 : v14.ty.Contents (Elt Ideal)} {V : Fin 128 → ℕ → ℝ} {W : ℕ → ℕ → ℝ} {N : ℕ}
    (h : StAll v13 v14 f13 f14 (Tsum V W N)) (hl : ∀ c < 2048, Tsum V W N c 128 ≠ 0) (inb) (l : ℝ) (g : FVec Ideal S128x1024 .f32) (s : Elt Ideal .f32)
    (r : Fin 1024) (e : Fin 128) :
    k0_pay1 (F := Ideal) (k0_pay152 (F := Ideal) (v14.readAt (Elt Ideal) (Rect.unit (s := S144x2048) ![0, 0] S144x2048.size inb).toLoadRect f14) ((l : ℝ) : EReal)) (k0_pay153 g) s (ix2 r e)
      = normed (dif V W N l r.val) e * (g (ix2 e r) * s) := by
  rw [p1_apply, p153_apply]
  rw [p152_apply _ l r (fun e => Tsum V W N r.val ⟨e.val, by omega⟩ / Tsum V W N r.val 128)
    (fun e => Tsum V W N (1024 + r.val) ⟨e.val, by omega⟩ / Tsum V W N (1024 + r.val) 128)
    (fun e => h.quot inb ⟨e.val, by omega⟩ 128 ⟨r.val, by omega⟩ (hl _ (by omega)))
    (fun e => h.quot inb ⟨e.val, by omega⟩ 128 ⟨1024 + r.val, by omega⟩ (hl _ (by show 1024 + r.val < 2048; omega)))]
  rfl

end Cert.KernelIdeal.Attn
-- ==== Proof.Attn.Offs.lean ====
/-
Where the body's loads lie: the trip count of the key loop and the offsets of its key and value tiles.
-/
module

public import proofs.«01_k».proof.Proof.Attn.Setup

@[expose] public section

set_option maxRecDepth 16384

namespace Cert.KernelIdeal.Attn

open Idealize.ShloMosaic Cert.KernelIdeal.Gen

theorem trips1 : ∀ t : Fin cfg0.N, (k0_t1_loop (grid0.coords t)).trips = t.val % 16 - 1 :=
  (by decide +kernel : ∀ t : Fin grid0.N, (k0_t1_loop (grid0.coords t)).trips = t.val % 16 - 1)

theorem trips2 : ∀ t : Fin cfg0.N, (k0_t2_loop (grid0.coords t)).trips = 0 :=
  (by decide +kernel : ∀ t : Fin grid0.N, (k0_t2_loop (grid0.coords t)).trips = 0)

theorem off1_1 : ∀ (t : Fin cfg0.N) (k : Fin (k0_t1_loop (grid0.coords t)).trips), k0_off1 (grid0.coords t) k 1#32 = ![1024 * k.val + 512, 0] :=
  (by decide +kernel : ∀ (t : Fin grid0.N) (k : Fin (k0_t1_loop (grid0.coords t)).trips), k0_off1 (grid0.coords t) k 1#32 = ![1024 * k.val + 512, 0])

theorem off1_2 : ∀ (t : Fin cfg0.N) (k : Fin (k0_t1_loop (grid0.coords t)).trips), k0_off1 (grid0.coords t) k 2#32 = ![1024 * k.val + 1024, 0] :=
  (by decide +kernel : ∀ (t : Fin grid0.N) (k : Fin (k0_t1_loop (grid0.coords t)).trips), k0_off1 (grid0.coords t) k 2#32 = ![1024 * k.val + 1024, 0])

theorem off2_0 : ∀ (t : Fin cfg0.N) (k : Fin (k0_t1_loop (grid0.coords t)).trips), k0_off2 (grid0.coords t) k = ![0, 0, 1024 * k.val] :=
  (by decide +kernel : ∀ (t : Fin grid0.N) (k : Fin (k0_t1_loop (grid0.coords t)).trips), k0_off2 (grid0.coords t) k = ![0, 0, 1024 * k.val])

theorem off3_0 : ∀ (t : Fin cfg0.N) (k : Fin (k0_t1_loop (grid0.coords t)).trips), k0_off3 (grid0.coords t) k = ![0, 0, 1024 * k.val + 512] :=
  (by decide +kernel : ∀ (t : Fin grid0.N) (k : Fin (k0_t1_loop (grid0.coords t)).trips), k0_off3 (grid0.coords t) k = ![0, 0, 1024 * k.val + 512])

theorem off7_0 : ∀ t : Fin cfg0.N, 1 ≤ t.val % 16 → k0_off7 (grid0.coords t) = ![1024 * (t.val % 16) - 512, 0] :=
  (by decide +kernel : ∀ t : Fin grid0.N, 1 ≤ t.val % 16 → k0_off7 (grid0.coords t) = ![1024 * (t.val % 16) - 512, 0])

theorem off8_2 : ∀ t : Fin cfg0.N, 1 ≤ t.val % 16 → k0_off8 (grid0.coords t) 2#32 = ![0, 0, 1024 * (t.val % 16) - 1024] :=
  (by decide +kernel : ∀ t : Fin grid0.N, 1 ≤ t.val % 16 → k0_off8 (grid0.coords t) 2#32 = ![0, 0, 1024 * (t.val % 16) - 1024])

theorem off8_1 : ∀ t : Fin cfg0.N, 1 ≤ t.val % 16 → k0_off8 (grid0.coords t) 1#32 = ![0, 0, 1024 * (t.val % 16) - 512] :=
  (by decide +kernel : ∀ t : Fin grid0.N, 1 ≤ t.val % 16 → k0_off8 (grid0.coords t) 1#32 = ![0, 0, 1024 * (t.val % 16) - 512])

theorem off9_0 : ∀ t : Fin cfg0.N, k0_off9 (grid0.coords t) = ![1024 * (t.val % 16), 0] :=
  (by decide +kernel : ∀ t : Fin grid0.N, k0_off9 (grid0.coords t) = ![1024 * (t.val % 16), 0])

theorem off10_0 : ∀ t : Fin cfg0.N, k0_off10 (grid0.coords t) = ![1024 * (t.val % 16) + 512, 0] :=
  (by decide +kernel : ∀ t : Fin grid0.N, k0_off10 (grid0.coords t) = ![1024 * (t.val % 16) + 512, 0])

theorem off11_0 : ∀ t : Fin cfg0.N, k0_off11 (grid0.coords t) = ![0, 0, 1024 * (t.val % 16)] :=
  (by decide +kernel : ∀ t : Fin grid0.N, k0_off11 (grid0.coords t) = ![0, 0, 1024 * (t.val % 16)])

theorem off12_0 : ∀ t : Fin cfg0.N, k0_off12 (grid0.coords t) = ![0, 0, 1024 * (t.val % 16) + 512] :=
  (by decide +kernel : ∀ t : Fin grid0.N, k0_off12 (grid0.coords t) = ![0, 0, 1024 * (t.val % 16) + 512])

end Cert.KernelIdeal.Attn
-- ==== Proof.Attn.LaterA.lean ====
/-
The later body's first two peeled tiles: tile `2q - 2`, without bias, and tile `2q - 1` with its bias.
-/
module

public import proofs.«01_k».proof.Proof.Attn.Tiles
public import proofs.«01_k».proof.Proof.Attn.RunB

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (c : Dev nD) (i : grid0.Coords) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole) (hc0 : cond i)
  (x0 : Vec Ideal S1 .f32) (x1 : Vec Ideal S1x128x1024 .bf16) (x2 : Vec Ideal S16384x128 .bf16) (x3 : Vec Ideal S1x128x16384 .bf16) (x4 : Vec Ideal S1x3x512x1024 .f32) (x5 : Vec Ideal S128x1024 .f32) (y : Vec Ideal S512x2048 .f32)

variable {K : ℕ → Fin 128 → ℝ} {Q : Fin 128 → ℕ → ℝ} {V : Fin 128 → ℕ → ℝ} {W : ℕ → ℕ → ℝ} {N : ℕ}

/-- The pieces stored before the peeled tiles. -/
abbrev laterL11 : List (View.Piece (Elt Ideal) S512x2048 .f32) :=
  ((pb_k0_t2 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (laterRun.sl.v40 i) (harg5.unread x2) (harg6.unread x3) (arg10.view.writes (Elt Ideal) arg10.view.junk (laterRun.sl.HS0_2 c arg4 harg4 x1)) (arg11.view.writes (Elt Ideal) arg11.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).1 ++ laterRun.sl.HS1_1 c arg4 harg4 arg5 harg5 arg10 x1 x2)) (arg12.view.writes (Elt Ideal) (harg12.unread y) (pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.1) (arg13.view.writes (Elt Ideal) arg13.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.1 ++ laterRun.sl.HS3_1)) (arg14.view.writes (Elt Ideal) arg14.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.2 ++ laterRun.sl.HS4_1)) (Scf.trips (k0_t2_loop i).lb (k0_t2_loop i).ub (k0_t2_loop i).st)).1 ++ ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).1 ++ laterRun.sl.HS1_1 c arg4 harg4 arg5 harg5 arg10 x1 x2))

/-- The pieces stored before the peeled tiles. -/
abbrev laterL12 : List (View.Piece (Elt Ideal) S512x2048 .f32) :=
  ((pb_k0_t2 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (laterRun.sl.v40 i) (harg5.unread x2) (harg6.unread x3) (arg10.view.writes (Elt Ideal) arg10.view.junk (laterRun.sl.HS0_2 c arg4 harg4 x1)) (arg11.view.writes (Elt Ideal) arg11.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).1 ++ laterRun.sl.HS1_1 c arg4 harg4 arg5 harg5 arg10 x1 x2)) (arg12.view.writes (Elt Ideal) (harg12.unread y) (pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.1) (arg13.view.writes (Elt Ideal) arg13.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.1 ++ laterRun.sl.HS3_1)) (arg14.view.writes (Elt Ideal) arg14.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.2 ++ laterRun.sl.HS4_1)) (Scf.trips (k0_t2_loop i).lb (k0_t2_loop i).ub (k0_t2_loop i).st)).2.1 ++ (pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.1)

/-- The pieces stored before the peeled tiles. -/
abbrev laterL13 : List (View.Piece (Elt Ideal) S1x2048 .f32) :=
  ((pb_k0_t2 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (laterRun.sl.v40 i) (harg5.unread x2) (harg6.unread x3) (arg10.view.writes (Elt Ideal) arg10.view.junk (laterRun.sl.HS0_2 c arg4 harg4 x1)) (arg11.view.writes (Elt Ideal) arg11.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).1 ++ laterRun.sl.HS1_1 c arg4 harg4 arg5 harg5 arg10 x1 x2)) (arg12.view.writes (Elt Ideal) (harg12.unread y) (pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.1) (arg13.view.writes (Elt Ideal) arg13.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.1 ++ laterRun.sl.HS3_1)) (arg14.view.writes (Elt Ideal) arg14.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.2 ++ laterRun.sl.HS4_1)) (Scf.trips (k0_t2_loop i).lb (k0_t2_loop i).ub (k0_t2_loop i).st)).2.2.1 ++ ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.1 ++ laterRun.sl.HS3_1))

/-- The pieces stored before the peeled tiles. -/
abbrev laterL14 : List (View.Piece (Elt Ideal) S144x2048 .f32) :=
  ((pb_k0_t2 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (laterRun.sl.v40 i) (harg5.unread x2) (harg6.unread x3) (arg10.view.writes (Elt Ideal) arg10.view.junk (laterRun.sl.HS0_2 c arg4 harg4 x1)) (arg11.view.writes (Elt Ideal) arg11.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).1 ++ laterRun.sl.HS1_1 c arg4 harg4 arg5 harg5 arg10 x1 x2)) (arg12.view.writes (Elt Ideal) (harg12.unread y) (pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.1) (arg13.view.writes (Elt Ideal) arg13.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.1 ++ laterRun.sl.HS3_1)) (arg14.view.writes (Elt Ideal) arg14.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.2 ++ laterRun.sl.HS4_1)) (Scf.trips (k0_t2_loop i).lb (k0_t2_loop i).ub (k0_t2_loop i).st)).2.2.2 ++ ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop i).lb (k0_t1_loop i).ub (k0_t1_loop i).st)).2.2.2 ++ laterRun.sl.HS4_1))

/-- Tile `2q - 2`. -/
theorem later_tileA (h : StAll arg13.view arg14.view (arg13.view.writes (Elt Ideal) arg13.view.junk (laterL13 c i arg3 harg3 arg4 harg4 arg5 harg5 arg6 harg6 arg7 harg7 arg8 harg8 arg9 harg9 arg10 harg10 arg11 harg11 arg12 harg12 arg13 harg13 arg14 harg14 x1 x2 x3 y)) (arg14.view.writes (Elt Ideal) arg14.view.junk (laterL14 c i arg3 harg3 arg4 harg4 arg5 harg5 arg6 harg6 arg7 harg7 arg8 harg8 arg9 harg9 arg10 harg10 arg11 harg11 arg12 harg12 arg13 harg13 arg14 harg14 x1 x2 x3 y)) (Tsum V W N))
    (hV : ∀ e r, (vtile (arg6.view.readAt (Elt Ideal) (Rect.unit (s := S1x128x16384) (k0_off8 i 2#32) S1x128x512.size (k0_off8_inb i hc0 1)).toLoadRect (harg6.unread x3)) k0_pay111) (ix2 e r) = ((Vext V e (N + r.val) : ℝ) : EReal))
    (h0 : Scs W N 0 (laterRun.sl.v276 c i arg3 harg3 arg4 harg4 arg5 harg5 arg6 harg6 arg7 harg7 arg8 harg8 arg9 harg9 arg10 harg10 arg11 harg11 arg12 harg12 arg13 harg13 arg14 harg14 x1 x2 x3 y))
    (h1 : Scs W N 512 (laterRun.sl.v298 c i arg3 harg3 arg4 harg4 arg5 harg5 arg6 harg6 arg7 harg7 arg8 harg8 arg9 harg9 arg10 harg10 arg11 harg11 arg12 harg12 arg13 harg13 arg14 harg14 x1 x2 x3 y))
    (h2 : Scs W N 1024 (laterRun.sl.v320 c i arg3 harg3 arg4 harg4 arg5 harg5 arg6 harg6 arg7 harg7 arg8 harg8 arg9 harg9 arg10 harg10 arg11 harg11 arg12 harg12 arg13 harg13 arg14 harg14 x1 x2 x3 y))
    (h3 : Scs W N 1536 (laterRun.sl.v342 c i arg3 harg3 arg4 harg4 arg5 harg5 arg6 harg6 arg7 harg7 arg8 harg8 arg9 harg9 arg10 harg10 arg11 harg11 arg12 harg12 arg13 harg13 arg14 harg14 x1 x2 x3 y))
    : StAll arg13.view arg14.view (arg13.view.writes (Elt Ideal) arg13.view.junk (laterRun.sl.HS3_4 c i arg3 harg3 arg4 harg4 arg5 harg5 arg6 harg6 arg7 harg7 arg8 harg8 arg9 harg9 arg10 harg10 arg11 harg11 arg12 harg12 arg13 harg13 arg14 harg14 x1 x2 x3 y)) (arg14.view.writes (Elt Ideal) arg14.view.junk (laterRun.sl.HS4_4 c i arg3 harg3 arg4 harg4 arg5 harg5 arg6 harg6 arg7 harg7 arg8 harg8 arg9 harg9 arg10 harg10 arg11 harg11 arg12 harg12 arg13 harg13 arg14 harg14 hc0 x1 x2 x3 y)) (Tsum V W (N + 512)) := by
  have em0 : (laterRun.sl.v297 c i arg3 harg3 arg4 harg4 arg5 harg5 arg6 harg6 arg7 harg7 arg8 harg8 arg9 harg9 arg10 harg10 arg11 harg11 arg12 harg12 arg13 harg13 arg14 harg14 x1 x2 x3 y) = mUp (laterRun.sl.v276 c i arg3 harg3 arg4 harg4 arg5 harg5 arg6 harg6 arg7 harg7 arg8 harg8 arg9 harg9 arg10 harg10 arg11 harg11 arg12 harg12 arg13 harg13 arg14 harg14 x1 x2 x3 y) (laterRun.sl.v277 c i arg3 harg3 arg4 harg4 arg5 harg5 arg6 harg6 arg7 harg7 arg8 harg8 arg9 harg9 arg10 harg10 arg11 harg11 arg12 harg12 arg13 harg13 arg14 harg14 x1 x2 x3 y) := by simp only [laterRun.sl.v297, laterRun.sl.v280, laterRun.sl.v279, laterRun.sl.v278, mUp, shapeCast_id]
  have ea0 : (laterRun.sl.v294 c i arg3 harg3 arg4 harg4 arg5 harg5 arg6 harg6 arg7 harg7 arg8 harg8 arg9 harg9 arg10 harg10 arg11 harg11 arg12 harg12 arg13 harg13 arg14 harg14 hc0 x1 x2 x3 y) = aUp (vtile (arg6.view.readAt (Elt Ideal) (Rect.unit (s := S1x128x16384) (k0_off8 i 2#32) S1x128x512.size (k0_off8_inb i hc0 1)).toLoadRect (harg6.unread x3)) k0_pay111) (laterRun.sl.v276 c i arg3 harg3 arg4 harg4 arg5 harg5 arg6 harg6 arg7 harg7 arg8 harg8 arg9 harg9 arg10 harg10 arg11 harg11 arg12 harg12 arg13 harg13 arg14 harg14 x1 x2 x3 y) (laterRun.sl.v277 c i arg3 harg3 arg4 harg4 arg5 harg5 arg6 harg6 arg7 harg7 arg8 harg8 arg9 harg9 arg10 harg10 arg11 harg11 arg12 harg12 arg13 harg13 arg14 harg14 x1 x2 x3 y) (laterRun.sl.v287 c i arg3 harg3 arg4 harg4 arg5 harg5 arg6 harg6 arg7 harg7 arg8 harg8 arg9 harg9 arg10 harg10 arg11 harg11 arg12 harg12 arg13 harg13 arg14 harg14 x1 x2 x3 y) := by simp only [laterRun.sl.v294, laterRun.sl.v291, laterRun.sl.v289, laterRun.sl.v288, laterRun.sl.v282, laterRun.sl.v281, laterRun.sl.v280, laterRun.sl.v279, laterRun.sl.v278, laterRun.sl.v290, laterRun.sl.v275, laterRun.sl.v274, laterRun.sl.v286, laterRun.sl.v285, laterRun.sl.v284, laterRun.sl.v283, laterRun.sl.cst_156, aUp, mUp, vtile, shapeCast_id]
  have el0 : (laterRun.sl.v277 c i arg3 harg3 arg4 harg4 arg5 harg5 arg6 harg6 arg7 harg7 arg8 harg8 arg9 harg9 arg10 harg10 arg11 harg11 arg12 harg12 arg13 harg13 arg14 harg14 x1 x2 x3 y) = arg13.view.readCov ((laterL13 c i arg3 harg3 arg4 harg4 arg5 harg5 arg6 harg6 arg7 harg7 arg8 harg8 arg9 harg9 arg10 harg10 arg11 harg11 arg12 harg12 arg13 harg13 arg14 harg14 x1 x2 x3 y)) (rm 0 (by decide)).toLoadRect := by
    delta laterRun.sl.v277
    with_reducible rfl
  have ek0 : (laterRun.sl.v287 c i arg3 harg3 arg4 harg4 arg5 harg5 arg6 harg6 arg7 harg7 arg8 harg8 arg9 harg9 arg10 harg10 arg11 harg11 arg12 harg12 arg13 harg13 arg14 harg14 x1 x2 x3 y) = arg14.view.readCov ((laterL14 c i arg3 harg3 arg4 harg4 arg5 harg5 arg6 harg6 arg7 harg7 arg8 harg8 arg9 harg9 arg10 harg10 arg11 harg11 arg12 harg12 arg13 harg13 arg14 harg14 x1 x2 x3 y)) (ra 0 (by decide)).toLoadRect := by
    delta laterRun.sl.v287
    with_reducible rfl
  have em1 : (laterRun.sl.v319 c i arg3 harg3 arg4 harg4 arg5 harg5 arg6 harg6 arg7 harg7 arg8 harg8 arg9 harg9 arg10 harg10 arg11 harg11 arg12 harg12 arg13 harg13 arg14 harg14 x1 x2 x3 y) = mUp (laterRun.sl.v298 c i arg3 harg3 arg4 harg4 arg5 harg5 arg6 harg6 arg7 harg7 arg8 harg8 arg9 harg9 arg10 harg10 arg11 harg11 arg12 harg12 arg13 harg13 arg14 harg14 x1 x2 x3 y) (laterRun.sl.v299 c i arg3 harg3 arg4 harg4 arg5 harg5 arg6 harg6 arg7 harg7 arg8 harg8 arg9 harg9 arg10 harg10 arg11 harg11 arg12 harg12 arg13 harg13 arg14 harg14 x1 x2 x3 y) := by simp only [laterRun.sl.v319, laterRun.sl.v302, laterRun.sl.v301, laterRun.sl.v300, mUp, shapeCast_id]
  have ea1 : (laterRun.sl.v316 c i arg3 harg3 arg4 harg4 arg5 harg5 arg6 harg6 arg7 harg7 arg8 harg8 arg9 harg9 arg10 harg10 arg11 harg11 arg12 harg12 arg13 harg13 arg14 harg14 hc0 x1 x2 x3 y) = aUp (vtile (arg6.view.readAt (Elt Ideal) (Rect.unit (s := S1x128x16384) (k0_off8 i 2#32) S1x128x512.size (k0_off8_inb i hc0 1)).toLoadRect (harg6.unread x3)) k0_pay111) (laterRun.sl.v298 c i arg3 harg3 arg4 harg4 arg5 harg5 arg6 harg6 arg7 harg7 arg8 harg8 arg9 harg9 arg10 harg10 arg11 harg11 arg12 harg12 arg13 harg13 arg14 harg14 x1 x2 x3 y) (laterRun.sl.v299 c i arg3 harg3 arg4 harg4 arg5 harg5 arg6 harg6 arg7 harg7 arg8 harg8 arg9 harg9 arg10 harg10 arg11 harg11 arg12 harg12 arg13 harg13 arg14 harg14 x1 x2 x3 y) (laterRun.sl.v309 c i arg3 harg3 arg4 harg4 arg5 harg5 arg6 harg6 arg7 harg7 arg8 harg8 arg9 harg9 arg10 harg10 arg11 harg11 arg12 harg12 arg13 harg13 arg14 harg14 hc0 x1 x2 x3 y) := by simp only [laterRun.sl.v316, laterRun.sl.v313, laterRun.sl.v311, laterRun.sl.v310, laterRun.sl.v304, laterRun.sl.v303, laterRun.sl.v302, laterRun.sl.v301, laterRun.sl.v300, laterRun.sl.v312, laterRun.sl.v275, laterRun.sl.v274, laterRun.sl.v308, laterRun.sl.v307, laterRun.sl.v306, laterRun.sl.v305, laterRun.sl.cst_156, aUp, mUp, vtile, shapeCast_id]
  have el1 : (laterRun.sl.v299 c i arg3 harg3 arg4 harg4 arg5 harg5 arg6 harg6 arg7 harg7 arg8 harg8 arg9 harg9 arg10 harg10 arg11 harg11 arg12 harg12 arg13 harg13 arg14 harg14 x1 x2 x3 y) = arg13.view.readCov (⟨rm 0 (by decide), (laterRun.sl.v297 c i arg3 harg3 arg4 harg4 arg5 harg5 arg6 harg6 arg7 harg7 arg8 harg8 arg9 harg9 arg10 harg10 arg11 harg11 arg12 harg12 arg13 harg13 arg14 harg14 x1 x2 x3 y)⟩ :: (laterL13 c i arg3 harg3 arg4 harg4 arg5 harg5 arg6 harg6 arg7 harg7 arg8 harg8 arg9 harg9 arg10 harg10 arg11 harg11 arg12 harg12 arg13 harg13 arg14 harg14 x1 x2 x3 y)) (rm 512 (by decide)).toLoadRect := by
    delta laterRun.sl.v299 laterRun.sl.HS3_1_1
    with_reducible rfl
  have ek1 : (laterRun.sl.v309 c i arg3 harg3 arg4 harg4 arg5 harg5 arg6 harg6 arg7 harg7 arg8 harg8 arg9 harg9 arg10 harg10 arg11 harg11 arg12 harg12 arg13 harg13 arg14 harg14 hc0 x1 x2 x3 y) = arg14.view.readCov (⟨ra 0 (by decide), (laterRun.sl.v294 c i arg3 harg3 arg4 harg4 arg5 harg5 arg6 harg6 arg7 harg7 arg8 harg8 arg9 harg9 arg10 harg10 arg11 harg11 arg12 harg12 arg13 harg13 arg14 harg14 hc0 x1 x2 x3 y)⟩ :: (laterL14 c i arg3 harg3 arg4 harg4 arg5 harg5 arg6 harg6 arg7 harg7 arg8 harg8 arg9 harg9 arg10 harg10 arg11 harg11 arg12 harg12 arg13 harg13 arg14 harg14 x1 x2 x3 y)) (ra 512 (by decide)).toLoadRect := by
    delta laterRun.sl.v309 laterRun.sl.HS4_1_1
    with_reducible rfl
  have em2 : (laterRun.sl.v341 c i arg3 harg3 arg4 harg4 arg5 harg5 arg6 harg6 arg7 harg7 arg8 harg8 arg9 harg9 arg10 harg10 arg11 harg11 arg12 harg12 arg13 harg13 arg14 harg14 x1 x2 x3 y) = mUp (laterRun.sl.v320 c i arg3 harg3 arg4 harg4 arg5 harg5 arg6 harg6 arg7 harg7 arg8 harg8 arg9 harg9 arg10 harg10 arg11 harg11 arg12 harg12 arg13 harg13 arg14 harg14 x1 x2 x3 y) (laterRun.sl.v321 c i arg3 harg3 arg4 harg4 arg5 harg5 arg6 harg6 arg7 harg7 arg8 harg8 arg9 harg9 arg10 harg10 arg11 harg11 arg12 harg12 arg13 harg13 arg14 harg14 x1 x2 x3 y) := by simp only [laterRun.sl.v341, laterRun.sl.v324, laterRun.sl.v323, laterRun.sl.v322, mUp, shapeCast_id]
  have ea2 : (laterRun.sl.v338 c i arg3 harg3 arg4 harg4 arg5 harg5 arg6 harg6 arg7 harg7 arg8 harg8 arg9 harg9 arg10 harg10 arg11 harg11 arg12 harg12 arg13 harg13 arg14 harg14 hc0 x1 x2 x3 y) = aUp (vtile (arg6.view.readAt (Elt Ideal) (Rect.unit (s := S1x128x16384) (k0_off8 i 2#32) S1x128x512.size (k0_off8_inb i hc0 1)).toLoadRect (harg6.unread x3)) k0_pay111) (laterRun.sl.v320 c i arg3 harg3 arg4 harg4 arg5 harg5 arg6 harg6 arg7 harg7 arg8 harg8 arg9 harg9 arg10 harg10 arg11 harg11 arg12 harg12 arg13 harg13 arg14 harg14 x1 x2 x3 y) (laterRun.sl.v321 c i arg3 harg3 arg4 harg4 arg5 harg5 arg6 harg6 arg7 harg7 arg8 harg8 arg9 harg9 arg10 harg10 arg11 harg11 arg12 harg12 arg13 harg13 arg14 harg14 x1 x2 x3 y) (laterRun.sl.v331 c i arg3 harg3 arg4 harg4 arg5 harg5 arg6 harg6 arg7 harg7 arg8 harg8 arg9 harg9 arg10 harg10 arg11 harg11 arg12 harg12 arg13 harg13 arg14 harg14 hc0 x1 x2 x3 y) := by simp only [laterRun.sl.v338, laterRun.sl.v335, laterRun.sl.v333, laterRun.sl.v332, laterRun.sl.v326, laterRun.sl.v325, laterRun.sl.v324, laterRun.sl.v323, laterRun.sl.v322, laterRun.sl.v334, laterRun.sl.v275, laterRun.sl.v274, laterRun.sl.v330, laterRun.sl.v329, laterRun.sl.v328, laterRun.sl.v327, laterRun.sl.cst_156, aUp, mUp, vtile, shapeCast_id]
  have el2 : (laterRun.sl.v321 c i arg3 harg3 arg4 harg4 arg5 harg5 arg6 harg6 arg7 harg7 arg8 harg8 arg9 harg9 arg10 harg10 arg11 harg11 arg12 harg12 arg13 harg13 arg14 harg14 x1 x2 x3 y) = arg13.view.readCov (⟨rm 512 (by decide), (laterRun.sl.v319 c i arg3 harg3 arg4 harg4 arg5 harg5 arg6 harg6 arg7 harg7 arg8 harg8 arg9 harg9 arg10 harg10 arg11 harg11 arg12 harg12 arg13 harg13 arg14 harg14 x1 x2 x3 y)⟩ :: ⟨rm 0 (by decide), (laterRun.sl.v297 c i arg3 harg3 arg4 harg4 arg5 harg5 arg6 harg6 arg7 harg7 arg8 harg8 arg9 harg9 arg10 harg10 arg11 harg11 arg12 harg12 arg13 harg13 arg14 harg14 x1 x2 x3 y)⟩ :: (laterL13 c i arg3 harg3 arg4 harg4 arg5 harg5 arg6 harg6 arg7 harg7 arg8 harg8 arg9 harg9 arg10 harg10 arg11 harg11 arg12 harg12 arg13 harg13 arg14 harg14 x1 x2 x3 y)) (rm 1024 (by decide)).toLoadRect := by
    delta laterRun.sl.v321 laterRun.sl.HS3_2 laterRun.sl.HS3_1_1
    with_reducible rfl
  have ek2 : (laterRun.sl.v331 c i arg3 harg3 arg4 harg4 arg5 harg5 arg6 harg6 arg7 harg7 arg8 harg8 arg9 harg9 arg10 harg10 arg11 harg11 arg12 harg12 arg13 harg13 arg14 harg14 hc0 x1 x2 x3 y) = arg14.view.readCov (⟨ra 512 (by decide), (laterRun.sl.v316 c i arg3 harg3 arg4 harg4 arg5 harg5 arg6 harg6 arg7 harg7 arg8 harg8 arg9 harg9 arg10 harg10 arg11 harg11 arg12 harg12 arg13 harg13 arg14 harg14 hc0 x1 x2 x3 y)⟩ :: ⟨ra 0 (by decide), (laterRun.sl.v294 c i arg3 harg3 arg4 harg4 arg5 harg5 arg6 harg6 arg7 harg7 arg8 harg8 arg9 harg9 arg10 harg10 arg11 harg11 arg12 harg12 arg13 harg13 arg14 harg14 hc0 x1 x2 x3 y)⟩ :: (laterL14 c i arg3 harg3 arg4 harg4 arg5 harg5 arg6 harg6 arg7 harg7 arg8 harg8 arg9 harg9 arg10 harg10 arg11 harg11 arg12 harg12 arg13 harg13 arg14 harg14 x1 x2 x3 y)) (ra 1024 (by decide)).toLoadRect := by
    delta laterRun.sl.v331 laterRun.sl.HS4_2 laterRun.sl.HS4_1_1
    with_reducible rfl
  have em3 : (laterRun.sl.v363 c i arg3 harg3 arg4 harg4 arg5 harg5 arg6 harg6 arg7 harg7 arg8 harg8 arg9 harg9 arg10 harg10 arg11 harg11 arg12 harg12 arg13 harg13 arg14 harg14 x1 x2 x3 y) = mUp (laterRun.sl.v342 c i arg3 harg3 arg4 harg4 arg5 harg5 arg6 harg6 arg7 harg7 arg8 harg8 arg9 harg9 arg10 harg10 arg11 harg11 arg12 harg12 arg13 harg13 arg14 harg14 x1 x2 x3 y) (laterRun.sl.v343 c i arg3 harg3 arg4 harg4 arg5 harg5 arg6 harg6 arg7 harg7 arg8 harg8 arg9 harg9 arg10 harg10 arg11 harg11 arg12 harg12 arg13 harg13 arg14 harg14 x1 x2 x3 y) := by simp only [laterRun.sl.v363, laterRun.sl.v346, laterRun.sl.v345, laterRun.sl.v344, mUp, shapeCast_id]
  have ea3 : (laterRun.sl.v360 c i arg3 harg3 arg4 harg4 arg5 harg5 arg6 harg6 arg7 harg7 arg8 harg8 arg9 harg9 arg10 harg10 arg11 harg11 arg12 harg12 arg13 harg13 arg14 harg14 hc0 x1 x2 x3 y) = aUp (vtile (arg6.view.readAt (Elt Ideal) (Rect.unit (s := S1x128x16384) (k0_off8 i 2#32) S1x128x512.size (k0_off8_inb i hc0 1)).toLoadRect (harg6.unread x3)) k0_pay111) (laterRun.sl.v342 c i arg3 harg3 arg4 harg4 arg5 harg5 arg6 harg6 arg7 harg7 arg8 harg8 arg9 harg9 arg10 harg10 arg11 harg11 arg12 harg12 arg13 harg13 arg14 harg14 x1 x2 x3 y) (laterRun.sl.v343 c i arg3 harg3 arg4 harg4 arg5 harg5 arg6 harg6 arg7 harg7 arg8 harg8 arg9 harg9 arg10 harg10 arg11 harg11 arg12 harg12 arg13 harg13 arg14 harg14 x1 x2 x3 y) (laterRun.sl.v353 c i arg3 harg3 arg4 harg4 arg5 harg5 arg6 harg6 arg7 harg7 arg8 harg8 arg9 harg9 arg10 harg10 arg11 harg11 arg12 harg12 arg13 harg13 arg14 harg14 hc0 x1 x2 x3 y) := by simp only [laterRun.sl.v360, laterRun.sl.v357, laterRun.sl.v355, laterRun.sl.v354, laterRun.sl.v348, laterRun.sl.v347, laterRun.sl.v346, laterRun.sl.v345, laterRun.sl.v344, laterRun.sl.v356, laterRun.sl.v275, laterRun.sl.v274, laterRun.sl.v352, laterRun.sl.v351, laterRun.sl.v350, laterRun.sl.v349, laterRun.sl.cst_156, aUp, mUp, vtile, shapeCast_id]
  have el3 : (laterRun.sl.v343 c i arg3 harg3 arg4 harg4 arg5 harg5 arg6 harg6 arg7 harg7 arg8 harg8 arg9 harg9 arg10 harg10 arg11 harg11 arg12 harg12 arg13 harg13 arg14 harg14 x1 x2 x3 y) = arg13.view.readCov (⟨rm 1024 (by decide), (laterRun.sl.v341 c i arg3 harg3 arg4 harg4 arg5 harg5 arg6 harg6 arg7 harg7 arg8 harg8 arg9 harg9 arg10 harg10 arg11 harg11 arg12 harg12 arg13 harg13 arg14 harg14 x1 x2 x3 y)⟩ :: ⟨rm 512 (by decide), (laterRun.sl.v319 c i arg3 harg3 arg4 harg4 arg5 harg5 arg6 harg6 arg7 harg7 arg8 harg8 arg9 harg9 arg10 harg10 arg11 harg11 arg12 harg12 arg13 harg13 arg14 harg14 x1 x2 x3 y)⟩ :: ⟨rm 0 (by decide), (laterRun.sl.v297 c i arg3 harg3 arg4 harg4 arg5 harg5 arg6 harg6 arg7 harg7 arg8 harg8 arg9 harg9 arg10 harg10 arg11 harg11 arg12 harg12 arg13 harg13 arg14 harg14 x1 x2 x3 y)⟩ :: (laterL13 c i arg3 harg3 arg4 harg4 arg5 harg5 arg6 harg6 arg7 harg7 arg8 harg8 arg9 harg9 arg10 harg10 arg11 harg11 arg12 harg12 arg13 harg13 arg14 harg14 x1 x2 x3 y)) (rm 1536 (by decide)).toLoadRect := by
    delta laterRun.sl.v343 laterRun.sl.HS3_3 laterRun.sl.HS3_2 laterRun.sl.HS3_1_1
    with_reducible rfl
  have ek3 : (laterRun.sl.v353 c i arg3 harg3 arg4 harg4 arg5 harg5 arg6 harg6 arg7 harg7 arg8 harg8 arg9 harg9 arg10 harg10 arg11 harg11 arg12 harg12 arg13 harg13 arg14 harg14 hc0 x1 x2 x3 y) = arg14.view.readCov (⟨ra 1024 (by decide), (laterRun.sl.v338 c i arg3 harg3 arg4 harg4 arg5 harg5 arg6 harg6 arg7 harg7 arg8 harg8 arg9 harg9 arg10 harg10 arg11 harg11 arg12 harg12 arg13 harg13 arg14 harg14 hc0 x1 x2 x3 y)⟩ :: ⟨ra 512 (by decide), (laterRun.sl.v316 c i arg3 harg3 arg4 harg4 arg5 harg5 arg6 harg6 arg7 harg7 arg8 harg8 arg9 harg9 arg10 harg10 arg11 harg11 arg12 harg12 arg13 harg13 arg14 harg14 hc0 x1 x2 x3 y)⟩ :: ⟨ra 0 (by decide), (laterRun.sl.v294 c i arg3 harg3 arg4 harg4 arg5 harg5 arg6 harg6 arg7 harg7 arg8 harg8 arg9 harg9 arg10 harg10 arg11 harg11 arg12 harg12 arg13 harg13 arg14 harg14 hc0 x1 x2 x3 y)⟩ :: (laterL14 c i arg3 harg3 arg4 harg4 arg5 harg5 arg6 harg6 arg7 harg7 arg8 harg8 arg9 harg9 arg10 harg10 arg11 harg11 arg12 harg12 arg13 harg13 arg14 harg14 x1 x2 x3 y)) (ra 1536 (by decide)).toLoadRect := by
    delta laterRun.sl.v353 laterRun.sl.HS4_3 laterRun.sl.HS4_2 laterRun.sl.HS4_1_1
    with_reducible rfl
  have eM : (laterRun.sl.HS3_4 c i arg3 harg3 arg4 harg4 arg5 harg5 arg6 harg6 arg7 harg7 arg8 harg8 arg9 harg9 arg10 harg10 arg11 harg11 arg12 harg12 arg13 harg13 arg14 harg14 x1 x2 x3 y) = ⟨rm 1536 (by decide), (laterRun.sl.v363 c i arg3 harg3 arg4 harg4 arg5 harg5 arg6 harg6 arg7 harg7 arg8 harg8 arg9 harg9 arg10 harg10 arg11 harg11 arg12 harg12 arg13 harg13 arg14 harg14 x1 x2 x3 y)⟩ :: ⟨rm 1024 (by decide), (laterRun.sl.v341 c i arg3 harg3 arg4 harg4 arg5 harg5 arg6 harg6 arg7 harg7 arg8 harg8 arg9 harg9 arg10 harg10 arg11 harg11 arg12 harg12 arg13 harg13 arg14 harg14 x1 x2 x3 y)⟩ :: ⟨rm 512 (by decide), (laterRun.sl.v319 c i arg3 harg3 arg4 harg4 arg5 harg5 arg6 harg6 arg7 harg7 arg8 harg8 arg9 harg9 arg10 harg10 arg11 harg11 arg12 harg12 arg13 harg13 arg14 harg14 x1 x2 x3 y)⟩ :: ⟨rm 0 (by decide), (laterRun.sl.v297 c i arg3 harg3 arg4 harg4 arg5 harg5 arg6 harg6 arg7 harg7 arg8 harg8 arg9 harg9 arg10 harg10 arg11 harg11 arg12 harg12 arg13 harg13 arg14 harg14 x1 x2 x3 y)⟩ :: (laterL13 c i arg3 harg3 arg4 harg4 arg5 harg5 arg6 harg6 arg7 harg7 arg8 harg8 arg9 harg9 arg10 harg10 arg11 harg11 arg12 harg12 arg13 harg13 arg14 harg14 x1 x2 x3 y) := by
    delta laterRun.sl.HS3_4 laterRun.sl.HS3_3 laterRun.sl.HS3_2 laterRun.sl.HS3_1_1
    with_reducible rfl
  have eA : (laterRun.sl.HS4_4 c i arg3 harg3 arg4 harg4 arg5 harg5 arg6 harg6 arg7 harg7 arg8 harg8 arg9 harg9 arg10 harg10 arg11 harg11 arg12 harg12 arg13 harg13 arg14 harg14 hc0 x1 x2 x3 y) = ⟨ra 1536 (by decide), (laterRun.sl.v360 c i arg3 harg3 arg4 harg4 arg5 harg5 arg6 harg6 arg7 harg7 arg8 harg8 arg9 harg9 arg10 harg10 arg11 harg11 arg12 harg12 arg13 harg13 arg14 harg14 hc0 x1 x2 x3 y)⟩ :: ⟨ra 1024 (by decide), (laterRun.sl.v338 c i arg3 harg3 arg4 harg4 arg5 harg5 arg6 harg6 arg7 harg7 arg8 harg8 arg9 harg9 arg10 harg10 arg11 harg11 arg12 harg12 arg13 harg13 arg14 harg14 hc0 x1 x2 x3 y)⟩ :: ⟨ra 512 (by decide), (laterRun.sl.v316 c i arg3 harg3 arg4 harg4 arg5 harg5 arg6 harg6 arg7 harg7 arg8 harg8 arg9 harg9 arg10 harg10 arg11 harg11 arg12 harg12 arg13 harg13 arg14 harg14 hc0 x1 x2 x3 y)⟩ :: ⟨ra 0 (by decide), (laterRun.sl.v294 c i arg3 harg3 arg4 harg4 arg5 harg5 arg6 harg6 arg7 harg7 arg8 harg8 arg9 harg9 arg10 harg10 arg11 harg11 arg12 harg12 arg13 harg13 arg14 harg14 hc0 x1 x2 x3 y)⟩ :: (laterL14 c i arg3 harg3 arg4 harg4 arg5 harg5 arg6 harg6 arg7 harg7 arg8 harg8 arg9 harg9 arg10 harg10 arg11 harg11 arg12 harg12 arg13 harg13 arg14 harg14 x1 x2 x3 y) := by
    delta laterRun.sl.HS4_4 laterRun.sl.HS4_3 laterRun.sl.HS4_2 laterRun.sl.HS4_1_1
    with_reducible rfl
  rw [eM, eA]
  exact StAll.tile4 (M := (laterL13 c i arg3 harg3 arg4 harg4 arg5 harg5 arg6 harg6 arg7 harg7 arg8 harg8 arg9 harg9 arg10 harg10 arg11 harg11 arg12 harg12 arg13 harg13 arg14 harg14 x1 x2 x3 y)) (A := (laterL14 c i arg3 harg3 arg4 harg4 arg5 harg5 arg6 harg6 arg7 harg7 arg8 harg8 arg9 harg9 arg10 harg10 arg11 harg11 arg12 harg12 arg13 harg13 arg14 harg14 x1 x2 x3 y)) h hV h0 h1 h2 h3 em0 ea0 em1 ea1 em2 ea2 em3 ea3 el0 ek0 el1 ek1 el2 ek2 el3 ek3

/-- Tile `2q - 1`. -/
theorem later_tileB (h : StAll arg13.view arg14.view (arg13.view.writes (Elt Ideal) arg13.view.junk (laterRun.sl.HS3_4 c i arg3 harg3 arg4 harg4 arg5 harg5 arg6 harg6 arg7 harg7 arg8 harg8 arg9 harg9 arg10 harg10 arg11 harg11 arg12 harg12 arg13 harg13 arg14 harg14 x1 x2 x3 y)) (arg14.view.writes (Elt Ideal) arg14.view.junk (laterRun.sl.HS4_4 c i arg3 harg3 arg4 harg4 arg5 harg5 arg6 harg6 arg7 harg7 arg8 harg8 arg9 harg9 arg10 harg10 arg11 harg11 arg12 harg12 arg13 harg13 arg14 harg14 hc0 x1 x2 x3 y)) (Tsum V W N))
    (hV : ∀ e r, (vtile (arg6.view.readAt (Elt Ideal) (Rect.unit (s := S1x128x16384) (k0_off8 i 1#32) S1x128x512.size (k0_off8_inb i hc0 0)).toLoadRect (harg6.unread x3)) k0_pay111) (ix2 e r) = ((Vext V e (N + r.val) : ℝ) : EReal))
    (h0 : Scs W N 0 (addf (laterRun.sl.v385 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 0 slices_S512x1024_o0_0_S512x512)))
    (h1 : Scs W N 512 (addf (laterRun.sl.v409 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 512 slices_S512x1024_o0_512_S512x512)))
    (h2 : Scs W N 1024 (addf (laterRun.sl.v433 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 0 slices_S512x1024_o0_0_S512x512)))
    (h3 : Scs W N 1536 (addf (laterRun.sl.v457 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 512 slices_S512x1024_o0_512_S512x512)))
    : StAll arg13.view arg14.view (arg13.view.writes (Elt Ideal) arg13.view.junk (laterRun.sl.HS3_8 c i arg3 harg3 arg4 harg4 arg5 harg5 arg6 harg6 arg7 harg7 arg8 harg8 arg9 harg9 arg10 harg10 arg11 harg11 arg12 harg12 arg13 harg13 arg14 harg14 hc0 x1 x2 x3 x4 y)) (arg14.view.writes (Elt Ideal) arg14.view.junk (laterRun.sl.HS4_8 c i arg3 harg3 arg4 harg4 arg5 harg5 arg6 harg6 arg7 harg7 arg8 harg8 arg9 harg9 arg10 harg10 arg11 harg11 arg12 harg12 arg13 harg13 arg14 harg14 hc0 x1 x2 x3 x4 y)) (Tsum V W (N + 512)) := by
  have em0 : (laterRun.sl.v408 c i arg3 harg3 arg4 harg4 arg5 harg5 arg6 harg6 arg7 harg7 arg8 harg8 arg9 harg9 arg10 harg10 arg11 harg11 arg12 harg12 arg13 harg13 arg14 harg14 hc0 x1 x2 x3 x4 y) = mUp (addf (laterRun.sl.v385 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 0 slices_S512x1024_o0_0_S512x512)) (laterRun.sl.v388 c i arg3 harg3 arg4 harg4 arg5 harg5 arg6 harg6 arg7 harg7 arg8 harg8 arg9 harg9 arg10 harg10 arg11 harg11 arg12 harg12 arg13 harg13 arg14 harg14 x1 x2 x3 y) := by simp only [laterRun.sl.v408, laterRun.sl.v391, laterRun.sl.v390, laterRun.sl.v389, laterRun.sl.v387, laterRun.sl.v386, laterRun.sl.v378, mUp, bslice, shapeCast_id]
  have ea0 : (laterRun.sl.v405 c i arg3 harg3 arg4 harg4 arg5 harg5 arg6 harg6 arg7 harg7 arg8 harg8 arg9 harg9 arg10 harg10 arg11 harg11 arg12 harg12 arg13 harg13 arg14 harg14 hc0 x1 x2 x3 x4 y) = aUp (vtile (arg6.view.readAt (Elt Ideal) (Rect.unit (s := S1x128x16384) (k0_off8 i 1#32) S1x128x512.size (k0_off8_inb i hc0 0)).toLoadRect (harg6.unread x3)) k0_pay111) (addf (laterRun.sl.v385 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 0 slices_S512x1024_o0_0_S512x512)) (laterRun.sl.v388 c i arg3 harg3 arg4 harg4 arg5 harg5 arg6 harg6 arg7 harg7 arg8 harg8 arg9 harg9 arg10 harg10 arg11 harg11 arg12 harg12 arg13 harg13 arg14 harg14 x1 x2 x3 y) (laterRun.sl.v398 c i arg3 harg3 arg4 harg4 arg5 harg5 arg6 harg6 arg7 harg7 arg8 harg8 arg9 harg9 arg10 harg10 arg11 harg11 arg12 harg12 arg13 harg13 arg14 harg14 hc0 x1 x2 x3 y) := by simp only [laterRun.sl.v405, laterRun.sl.v402, laterRun.sl.v400, laterRun.sl.v399, laterRun.sl.v393, laterRun.sl.v392, laterRun.sl.v391, laterRun.sl.v390, laterRun.sl.v389, laterRun.sl.v387, laterRun.sl.v386, laterRun.sl.v378, laterRun.sl.v401, laterRun.sl.v384, laterRun.sl.v383, laterRun.sl.v397, laterRun.sl.v396, laterRun.sl.v395, laterRun.sl.v394, laterRun.sl.cst_156, aUp, mUp, bslice, vtile, shapeCast_id]
  have el0 : (laterRun.sl.v388 c i arg3 harg3 arg4 harg4 arg5 harg5 arg6 harg6 arg7 harg7 arg8 harg8 arg9 harg9 arg10 harg10 arg11 harg11 arg12 harg12 arg13 harg13 arg14 harg14 x1 x2 x3 y) = arg13.view.readCov ((laterRun.sl.HS3_4 c i arg3 harg3 arg4 harg4 arg5 harg5 arg6 harg6 arg7 harg7 arg8 harg8 arg9 harg9 arg10 harg10 arg11 harg11 arg12 harg12 arg13 harg13 arg14 harg14 x1 x2 x3 y)) (rm 0 (by decide)).toLoadRect := by
    delta laterRun.sl.v388
    with_reducible rfl
  have ek0 : (laterRun.sl.v398 c i arg3 harg3 arg4 harg4 arg5 harg5 arg6 harg6 arg7 harg7 arg8 harg8 arg9 harg9 arg10 harg10 arg11 harg11 arg12 harg12 arg13 harg13 arg14 harg14 hc0 x1 x2 x3 y) = arg14.view.readCov ((laterRun.sl.HS4_4 c i arg3 harg3 arg4 harg4 arg5 harg5 arg6 harg6 arg7 harg7 arg8 harg8 arg9 harg9 arg10 harg10 arg11 harg11 arg12 harg12 arg13 harg13 arg14 harg14 hc0 x1 x2 x3 y)) (ra 0 (by decide)).toLoadRect := by
    delta laterRun.sl.v398
    with_reducible rfl
  have em1 : (laterRun.sl.v432 c i arg3 harg3 arg4 harg4 arg5 harg5 arg6 harg6 arg7 harg7 arg8 harg8 arg9 harg9 arg10 harg10 arg11 harg11 arg12 harg12 arg13 harg13 arg14 harg14 hc0 x1 x2 x3 x4 y) = mUp (addf (laterRun.sl.v409 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 512 slices_S512x1024_o0_512_S512x512)) (laterRun.sl.v412 c i arg3 harg3 arg4 harg4 arg5 harg5 arg6 harg6 arg7 harg7 arg8 harg8 arg9 harg9 arg10 harg10 arg11 harg11 arg12 harg12 arg13 harg13 arg14 harg14 hc0 x1 x2 x3 x4 y) := by simp only [laterRun.sl.v432, laterRun.sl.v415, laterRun.sl.v414, laterRun.sl.v413, laterRun.sl.v411, laterRun.sl.v410, laterRun.sl.v378, mUp, bslice, shapeCast_id]
  have ea1 : (laterRun.sl.v429 c i arg3 harg3 arg4 harg4 arg5 harg5 arg6 harg6 arg7 harg7 arg8 harg8 arg9 harg9 arg10 harg10 arg11 harg11 arg12 harg12 arg13 harg13 arg14 harg14 hc0 x1 x2 x3 x4 y) = aUp (vtile (arg6.view.readAt (Elt Ideal) (Rect.unit (s := S1x128x16384) (k0_off8 i 1#32) S1x128x512.size (k0_off8_inb i hc0 0)).toLoadRect (harg6.unread x3)) k0_pay111) (addf (laterRun.sl.v409 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 512 slices_S512x1024_o0_512_S512x512)) (laterRun.sl.v412 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v422 c i arg3 harg3 arg4 harg4 arg5 harg5 arg6 harg6 arg7 harg7 arg8 harg8 arg9 harg9 arg10 harg10 arg11 harg11 arg12 harg12 arg13 harg13 arg14 harg14 hc0 x1 x2 x3 x4 y) := by simp only [laterRun.sl.v429, laterRun.sl.v426, laterRun.sl.v424, laterRun.sl.v423, laterRun.sl.v417, laterRun.sl.v416, laterRun.sl.v415, laterRun.sl.v414, laterRun.sl.v413, laterRun.sl.v411, laterRun.sl.v410, laterRun.sl.v378, laterRun.sl.v425, laterRun.sl.v384, laterRun.sl.v383, laterRun.sl.v421, laterRun.sl.v420, laterRun.sl.v419, laterRun.sl.v418, laterRun.sl.cst_156, aUp, mUp, bslice, vtile, shapeCast_id]
  have el1 : (laterRun.sl.v412 c i arg3 harg3 arg4 harg4 arg5 harg5 arg6 harg6 arg7 harg7 arg8 harg8 arg9 harg9 arg10 harg10 arg11 harg11 arg12 harg12 arg13 harg13 arg14 harg14 hc0 x1 x2 x3 x4 y) = arg13.view.readCov (⟨rm 0 (by decide), (laterRun.sl.v408 c i arg3 harg3 arg4 harg4 arg5 harg5 arg6 harg6 arg7 harg7 arg8 harg8 arg9 harg9 arg10 harg10 arg11 harg11 arg12 harg12 arg13 harg13 arg14 harg14 hc0 x1 x2 x3 x4 y)⟩ :: (laterRun.sl.HS3_4 c i arg3 harg3 arg4 harg4 arg5 harg5 arg6 harg6 arg7 harg7 arg8 harg8 arg9 harg9 arg10 harg10 arg11 harg11 arg12 harg12 arg13 harg13 arg14 harg14 x1 x2 x3 y)) (rm 512 (by decide)).toLoadRect := by
    delta laterRun.sl.v412 laterRun.sl.HS3_5
    with_reducible rfl
  have ek1 : (laterRun.sl.v422 c i arg3 harg3 arg4 harg4 arg5 harg5 arg6 harg6 arg7 harg7 arg8 harg8 arg9 harg9 arg10 harg10 arg11 harg11 arg12 harg12 arg13 harg13 arg14 harg14 hc0 x1 x2 x3 x4 y) = arg14.view.readCov (⟨ra 0 (by decide), (laterRun.sl.v405 c i arg3 harg3 arg4 harg4 arg5 harg5 arg6 harg6 arg7 harg7 arg8 harg8 arg9 harg9 arg10 harg10 arg11 harg11 arg12 harg12 arg13 harg13 arg14 harg14 hc0 x1 x2 x3 x4 y)⟩ :: (laterRun.sl.HS4_4 c i arg3 harg3 arg4 harg4 arg5 harg5 arg6 harg6 arg7 harg7 arg8 harg8 arg9 harg9 arg10 harg10 arg11 harg11 arg12 harg12 arg13 harg13 arg14 harg14 hc0 x1 x2 x3 y)) (ra 512 (by decide)).toLoadRect := by
    delta laterRun.sl.v422 laterRun.sl.HS4_5
    with_reducible rfl
  have em2 : (laterRun.sl.v456 c i arg3 harg3 arg4 harg4 arg5 harg5 arg6 harg6 arg7 harg7 arg8 harg8 arg9 harg9 arg10 harg10 arg11 harg11 arg12 harg12 arg13 harg13 arg14 harg14 hc0 x1 x2 x3 x4 y) = mUp (addf (laterRun.sl.v433 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 0 slices_S512x1024_o0_0_S512x512)) (laterRun.sl.v436 c i arg3 harg3 arg4 harg4 arg5 harg5 arg6 harg6 arg7 harg7 arg8 harg8 arg9 harg9 arg10 harg10 arg11 harg11 arg12 harg12 arg13 harg13 arg14 harg14 hc0 x1 x2 x3 x4 y) := by simp only [laterRun.sl.v456, laterRun.sl.v439, laterRun.sl.v438, laterRun.sl.v437, laterRun.sl.v435, laterRun.sl.v386, laterRun.sl.v378, mUp, bslice, shapeCast_id]
  have ea2 : (laterRun.sl.v453 c i arg3 harg3 arg4 harg4 arg5 harg5 arg6 harg6 arg7 harg7 arg8 harg8 arg9 harg9 arg10 harg10 arg11 harg11 arg12 harg12 arg13 harg13 arg14 harg14 hc0 x1 x2 x3 x4 y) = aUp (vtile (arg6.view.readAt (Elt Ideal) (Rect.unit (s := S1x128x16384) (k0_off8 i 1#32) S1x128x512.size (k0_off8_inb i hc0 0)).toLoadRect (harg6.unread x3)) k0_pay111) (addf (laterRun.sl.v433 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 0 slices_S512x1024_o0_0_S512x512)) (laterRun.sl.v436 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v446 c i arg3 harg3 arg4 harg4 arg5 harg5 arg6 harg6 arg7 harg7 arg8 harg8 arg9 harg9 arg10 harg10 arg11 harg11 arg12 harg12 arg13 harg13 arg14 harg14 hc0 x1 x2 x3 x4 y) := by simp only [laterRun.sl.v453, laterRun.sl.v450, laterRun.sl.v448, laterRun.sl.v447, laterRun.sl.v441, laterRun.sl.v440, laterRun.sl.v439, laterRun.sl.v438, laterRun.sl.v437, laterRun.sl.v435, laterRun.sl.v386, laterRun.sl.v378, laterRun.sl.v449, laterRun.sl.v384, laterRun.sl.v383, laterRun.sl.v445, laterRun.sl.v444, laterRun.sl.v443, laterRun.sl.v442, laterRun.sl.cst_156, aUp, mUp, bslice, vtile, shapeCast_id]
  have el2 : (laterRun.sl.v436 c i arg3 harg3 arg4 harg4 arg5 harg5 arg6 harg6 arg7 harg7 arg8 harg8 arg9 harg9 arg10 harg10 arg11 harg11 arg12 harg12 arg13 harg13 arg14 harg14 hc0 x1 x2 x3 x4 y) = arg13.view.readCov (⟨rm 512 (by decide), (laterRun.sl.v432 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨rm 0 (by decide), (laterRun.sl.v408 c i arg3 harg3 arg4 harg4 arg5 harg5 arg6 harg6 arg7 harg7 arg8 harg8 arg9 harg9 arg10 harg10 arg11 harg11 arg12 harg12 arg13 harg13 arg14 harg14 hc0 x1 x2 x3 x4 y)⟩ :: (laterRun.sl.HS3_4 c i arg3 harg3 arg4 harg4 arg5 harg5 arg6 harg6 arg7 harg7 arg8 harg8 arg9 harg9 arg10 harg10 arg11 harg11 arg12 harg12 arg13 harg13 arg14 harg14 x1 x2 x3 y)) (rm 1024 (by decide)).toLoadRect := by
    delta laterRun.sl.v436 laterRun.sl.HS3_6 laterRun.sl.HS3_5
    with_reducible rfl
  have ek2 : (laterRun.sl.v446 c i arg3 harg3 arg4 harg4 arg5 harg5 arg6 harg6 arg7 harg7 arg8 harg8 arg9 harg9 arg10 harg10 arg11 harg11 arg12 harg12 arg13 harg13 arg14 harg14 hc0 x1 x2 x3 x4 y) = arg14.view.readCov (⟨ra 512 (by decide), (laterRun.sl.v429 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨ra 0 (by decide), (laterRun.sl.v405 c i arg3 harg3 arg4 harg4 arg5 harg5 arg6 harg6 arg7 harg7 arg8 harg8 arg9 harg9 arg10 harg10 arg11 harg11 arg12 harg12 arg13 harg13 arg14 harg14 hc0 x1 x2 x3 x4 y)⟩ :: (laterRun.sl.HS4_4 c i arg3 harg3 arg4 harg4 arg5 harg5 arg6 harg6 arg7 harg7 arg8 harg8 arg9 harg9 arg10 harg10 arg11 harg11 arg12 harg12 arg13 harg13 arg14 harg14 hc0 x1 x2 x3 y)) (ra 1024 (by decide)).toLoadRect := by
    delta laterRun.sl.v446 laterRun.sl.HS4_6 laterRun.sl.HS4_5
    with_reducible rfl
  have em3 : (k0_pay117 (laterRun.sl.v463 c i arg3 harg3 arg4 harg4 arg5 harg5 arg6 harg6 arg7 harg7 arg8 harg8 arg9 harg9 arg10 harg10 arg11 harg11 arg12 harg12 arg13 harg13 arg14 harg14 hc0 x1 x2 x3 x4 y)) = mUp (addf (laterRun.sl.v457 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 512 slices_S512x1024_o0_512_S512x512)) (laterRun.sl.v460 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay117, laterRun.sl.v463, laterRun.sl.v462, laterRun.sl.v461, laterRun.sl.v459, laterRun.sl.v410, laterRun.sl.v378, mUp, bslice, shapeCast_id]
  have ea3 : (k0_pay116 (laterRun.sl.v474 c i arg3 harg3 arg4 harg4 arg5 harg5 arg6 harg6 arg7 harg7 arg8 harg8 arg9 harg9 arg10 harg10 arg11 harg11 arg12 harg12 arg13 harg13 arg14 harg14 hc0 x1 x2 x3 x4 y)) = aUp (vtile (arg6.view.readAt (Elt Ideal) (Rect.unit (s := S1x128x16384) (k0_off8 i 1#32) S1x128x512.size (k0_off8_inb i hc0 0)).toLoadRect (harg6.unread x3)) k0_pay111) (addf (laterRun.sl.v457 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 0, 0, 0] S1x1x512x1024.size inb_S1x3x512x1024_S1x1x512x1024_0_0_0_0).toLoadRect (harg7.unread x4)) 512 slices_S512x1024_o0_512_S512x512)) (laterRun.sl.v460 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v470 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay116, laterRun.sl.v474, laterRun.sl.v472, laterRun.sl.v471, laterRun.sl.v465, laterRun.sl.v464, laterRun.sl.v463, laterRun.sl.v462, laterRun.sl.v461, laterRun.sl.v459, laterRun.sl.v410, laterRun.sl.v378, laterRun.sl.v473, laterRun.sl.v384, laterRun.sl.v383, laterRun.sl.v469, laterRun.sl.v468, laterRun.sl.v467, laterRun.sl.v466, laterRun.sl.cst_156, aUp, mUp, bslice, vtile, shapeCast_id]
  have el3 : (laterRun.sl.v460 c i arg3 harg3 arg4 harg4 arg5 harg5 arg6 harg6 arg7 harg7 arg8 harg8 arg9 harg9 arg10 harg10 arg11 harg11 arg12 harg12 arg13 harg13 arg14 harg14 hc0 x1 x2 x3 x4 y) = arg13.view.readCov (⟨rm 1024 (by decide), (laterRun.sl.v456 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨rm 512 (by decide), (laterRun.sl.v432 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨rm 0 (by decide), (laterRun.sl.v408 c i arg3 harg3 arg4 harg4 arg5 harg5 arg6 harg6 arg7 harg7 arg8 harg8 arg9 harg9 arg10 harg10 arg11 harg11 arg12 harg12 arg13 harg13 arg14 harg14 hc0 x1 x2 x3 x4 y)⟩ :: (laterRun.sl.HS3_4 c i arg3 harg3 arg4 harg4 arg5 harg5 arg6 harg6 arg7 harg7 arg8 harg8 arg9 harg9 arg10 harg10 arg11 harg11 arg12 harg12 arg13 harg13 arg14 harg14 x1 x2 x3 y)) (rm 1536 (by decide)).toLoadRect := by
    delta laterRun.sl.v460 laterRun.sl.HS3_7 laterRun.sl.HS3_6 laterRun.sl.HS3_5
    with_reducible rfl
  have ek3 : (laterRun.sl.v470 c i arg3 harg3 arg4 harg4 arg5 harg5 arg6 harg6 arg7 harg7 arg8 harg8 arg9 harg9 arg10 harg10 arg11 harg11 arg12 harg12 arg13 harg13 arg14 harg14 hc0 x1 x2 x3 x4 y) = arg14.view.readCov (⟨ra 1024 (by decide), (laterRun.sl.v453 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨ra 512 (by decide), (laterRun.sl.v429 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨ra 0 (by decide), (laterRun.sl.v405 c i arg3 harg3 arg4 harg4 arg5 harg5 arg6 harg6 arg7 harg7 arg8 harg8 arg9 harg9 arg10 harg10 arg11 harg11 arg12 harg12 arg13 harg13 arg14 harg14 hc0 x1 x2 x3 x4 y)⟩ :: (laterRun.sl.HS4_4 c i arg3 harg3 arg4 harg4 arg5 harg5 arg6 harg6 arg7 harg7 arg8 harg8 arg9 harg9 arg10 harg10 arg11 harg11 arg12 harg12 arg13 harg13 arg14 harg14 hc0 x1 x2 x3 y)) (ra 1536 (by decide)).toLoadRect := by
    delta laterRun.sl.v470 laterRun.sl.HS4_7 laterRun.sl.HS4_6 laterRun.sl.HS4_5
    with_reducible rfl
  have eM : (laterRun.sl.HS3_8 c i arg3 harg3 arg4 harg4 arg5 harg5 arg6 harg6 arg7 harg7 arg8 harg8 arg9 harg9 arg10 harg10 arg11 harg11 arg12 harg12 arg13 harg13 arg14 harg14 hc0 x1 x2 x3 x4 y) = ⟨rm 1536 (by decide), (k0_pay117 (laterRun.sl.v463 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨rm 1024 (by decide), (laterRun.sl.v456 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨rm 512 (by decide), (laterRun.sl.v432 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨rm 0 (by decide), (laterRun.sl.v408 c i arg3 harg3 arg4 harg4 arg5 harg5 arg6 harg6 arg7 harg7 arg8 harg8 arg9 harg9 arg10 harg10 arg11 harg11 arg12 harg12 arg13 harg13 arg14 harg14 hc0 x1 x2 x3 x4 y)⟩ :: (laterRun.sl.HS3_4 c i arg3 harg3 arg4 harg4 arg5 harg5 arg6 harg6 arg7 harg7 arg8 harg8 arg9 harg9 arg10 harg10 arg11 harg11 arg12 harg12 arg13 harg13 arg14 harg14 x1 x2 x3 y) := by
    delta laterRun.sl.HS3_8 laterRun.sl.HS3_7 laterRun.sl.HS3_6 laterRun.sl.HS3_5
    with_reducible rfl
  have eA : (laterRun.sl.HS4_8 c i arg3 harg3 arg4 harg4 arg5 harg5 arg6 harg6 arg7 harg7 arg8 harg8 arg9 harg9 arg10 harg10 arg11 harg11 arg12 harg12 arg13 harg13 arg14 harg14 hc0 x1 x2 x3 x4 y) = ⟨ra 1536 (by decide), (k0_pay116 (laterRun.sl.v474 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨ra 1024 (by decide), (laterRun.sl.v453 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨ra 512 (by decide), (laterRun.sl.v429 c i arg3 harg3 arg4 harg4 arg5 harg5 arg6 harg6 arg7 harg7 arg8 harg8 arg9 harg9 arg10 harg10 arg11 harg11 arg12 harg12 arg13 harg13 arg14 harg14 hc0 x1 x2 x3 x4 y)⟩ :: ⟨ra 0 (by decide), (laterRun.sl.v405 c i arg3 harg3 arg4 harg4 arg5 harg5 arg6 harg6 arg7 harg7 arg8 harg8 arg9 harg9 arg10 harg10 arg11 harg11 arg12 harg12 arg13 harg13 arg14 harg14 hc0 x1 x2 x3 x4 y)⟩ :: (laterRun.sl.HS4_4 c i arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.HS4_8 laterRun.sl.HS4_7 laterRun.sl.HS4_6 laterRun.sl.HS4_5
    with_reducible rfl
  rw [eM, eA]
  exact StAll.tile4 (M := (laterRun.sl.HS3_4 c i arg3 harg3 arg4 harg4 arg5 harg5 arg6 harg6 arg7 harg7 arg8 harg8 arg9 harg9 arg10 harg10 arg11 harg11 arg12 harg12 arg13 harg13 arg14 harg14 x1 x2 x3 y)) (A := (laterRun.sl.HS4_4 c i arg3 harg3 arg4 harg4 arg5 harg5 arg6 harg6 arg7 harg7 arg8 harg8 arg9 harg9 arg10 harg10 arg11 harg11 arg12 harg12 arg13 harg13 arg14 harg14 hc0 x1 x2 x3 y)) h hV h0 h1 h2 h3 em0 ea0 em1 ea1 em2 ea2 em3 ea3 el0 ek0 el1 ek1 el2 ek2 el3 ek3

end Cert.KernelIdeal.Attn
-- ==== Proof.Attn.LaterLoop.lean ====
/-
The later body: its query columns and its key loop.
-/
module

public import proofs.«01_k».proof.Proof.Attn.Start
public import proofs.«01_k».proof.Proof.Attn.Offs
public import proofs.«01_k».proof.Proof.Attn.LaterA

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (c : Dev nD) (t : Fin cfg0.N) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole) (hc0 : cond (grid0.coords t))
  (x0 : Vec Ideal S1 .f32) (x1 : Vec Ideal S1x128x1024 .bf16) (x2 : Vec Ideal S16384x128 .bf16) (x3 : Vec Ideal S1x128x16384 .bf16) (x4 : Vec Ideal S1x3x512x1024 .f32) (x5 : Vec Ideal S128x1024 .f32) (y : Vec Ideal S512x2048 .f32)

variable {K : ℕ → Fin 128 → ℝ} {q : Fin 128 → ℕ → ℝ} {V : Fin 128 → ℕ → ℝ} {W : ℕ → ℕ → ℝ} {N : ℕ}

/-- The query columns the body lays out. -/
theorem laterRun_q (hIn : Ins (t.val % 16) x1 x2 x3 x4 q K V W) (d : Fin 128) (c' : Fin 2048) :
    arg10.view.read (Elt Ideal) (arg10.view.writes (Elt Ideal) arg10.view.junk (laterRun.sl.HS0_2 c arg4 harg4 x1)) (ix2 d c') = ((Qm q d c'.val : ℝ) : EReal) := by
  delta laterRun.sl.HS0_2
  rw [qload]
  exact queries hIn.h1 d c'

/-- The state when the key loop is over. -/
theorem laterRun_loop (hIn : Ins (t.val % 16) x1 x2 x3 x4 q K V W) :
    Raws K (Qm q) (1024 * (t.val % 16 - 1)) (arg11.view.read (Elt Ideal) (arg11.view.writes (Elt Ideal) arg11.view.junk (laterL11 c (grid0.coords t) arg3 harg3 arg4 harg4 arg5 harg5 arg6 harg6 arg7 harg7 arg8 harg8 arg9 harg9 arg10 harg10 arg11 harg11 arg12 harg12 arg13 harg13 arg14 harg14 x1 x2 x3 y)))
    ∧ StAll arg13.view arg14.view (arg13.view.writes (Elt Ideal) arg13.view.junk (laterL13 c (grid0.coords t) arg3 harg3 arg4 harg4 arg5 harg5 arg6 harg6 arg7 harg7 arg8 harg8 arg9 harg9 arg10 harg10 arg11 harg11 arg12 harg12 arg13 harg13 arg14 harg14 x1 x2 x3 y)) (arg14.view.writes (Elt Ideal) arg14.view.junk (laterL14 c (grid0.coords t) arg3 harg3 arg4 harg4 arg5 harg5 arg6 harg6 arg7 harg7 arg8 harg8 arg9 harg9 arg10 harg10 arg11 harg11 arg12 harg12 arg13 harg13 arg14 harg14 x1 x2 x3 y)) (Tsum V W (1024 * (t.val % 16 - 1))) := by
  have h5 : ∀ (n : ℕ) (hn : n < 16384) (d : Fin 128), arg5.view.read (Elt Ideal) (harg5.unread x2) (ix2 ⟨n, hn⟩ d) = ((K n d : ℝ) : EReal) := by
    rw [harg5.read_unread]; exact hIn.h2
  have h6 : ∀ (e : Fin 128) (n : ℕ) (hn : n < 16384), arg6.view.read (Elt Ideal) (harg6.unread x3) (ix3 0 e ⟨n, hn⟩) = ((V e n : ℝ) : EReal) := by
    rw [harg6.read_unread]; exact hIn.h3
  have h10 := laterRun_q c t arg4 harg4 arg10 x1 x2 x3 x4 hIn
  have hR0 : Raws K (Qm q) 0 (arg11.view.read (Elt Ideal) (arg11.view.writes (Elt Ideal) arg11.view.junk (laterRun.sl.HS1_1 c arg4 harg4 arg5 harg5 arg10 x1 x2))) := by
    delta laterRun.sl.HS1_1
    have e : k0_pay113 (laterRun.sl.r c arg4 harg4 arg5 harg5 arg10 x1 x2) = qk (arg5.view.readAt (Elt Ideal) (Rect.unit (s := S16384x128) ![0, 0] S512x128.size inb_S16384x128_S512x128_0_0).toLoadRect (harg5.unread x2)) (laterRun.sl.v29 c arg4 harg4 arg10 x1) := by
      simp only [k0_pay113, laterRun.sl.r, k0_pay112, qk, shapeCast_id]
    rw [e]
    refine (congrArg (Raws K (Qm q) 0) (read_fill _ _ _ _ _)).mpr (qk_raws (fun r d => ?_) (fun d c' => ?_))
    · have := keys_real _ _ h5 inb_S16384x128_S512x128_0_0 rfl r d
      exact this
    · delta laterRun.sl.v29 View.readCov
      exact query_real _ _ h10 _ d c'
  have hS0 : StAll arg13.view arg14.view (arg13.view.writes (Elt Ideal) arg13.view.junk laterRun.sl.HS3_1) (arg14.view.writes (Elt Ideal) arg14.view.junk laterRun.sl.HS4_1) (Tsum V W 0) := by
    delta laterRun.sl.HS3_1 laterRun.sl.HS4_1
    exact start_state
  obtain ⟨hR, hS⟩ := loop_state Variants.none c none (grid0.coords t) arg3 harg3 arg4 harg4 arg5 harg5 arg6 harg6 arg7 harg7 arg8 harg8 arg9 harg9 arg10 harg10 arg11 harg11 arg12 harg12 arg13 harg13 arg14 harg14 (BitVec.ofNat 32 ↑((grid0.coords t) 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) h5 h6 h10 p111_apply (off1_1 t) (off1_2 t) (off2_0 t) (off3_0 t)
    (fun n c' hn => hIn.hW n c' (by rw [trips1 t] at hn; omega)) hR0 hS0 (Scf.trips (k0_t1_loop (grid0.coords t)).lb (k0_t1_loop (grid0.coords t)).ub (k0_t1_loop (grid0.coords t)).st) le_rfl
  have ht1 : (Scf.trips (k0_t1_loop (grid0.coords t)).lb (k0_t1_loop (grid0.coords t)).ub (k0_t1_loop (grid0.coords t)).st) = t.val % 16 - 1 := trips1 t
  have hz2 : Scf.trips (k0_t2_loop (grid0.coords t)).lb (k0_t2_loop (grid0.coords t)).ub (k0_t2_loop (grid0.coords t)).st = 0 := trips2 t
  have e11 : laterL11 c (grid0.coords t) arg3 harg3 arg4 harg4 arg5 harg5 arg6 harg6 arg7 harg7 arg8 harg8 arg9 harg9 arg10 harg10 arg11 harg11 arg12 harg12 arg13 harg13 arg14 harg14 x1 x2 x3 y = (pb_k0_t1 Variants.none c none (grid0.coords t) arg3 harg3 arg4 harg4 arg5 harg5 arg6 harg6 arg7 harg7 arg8 harg8 arg9 harg9 arg10 harg10 arg11 harg11 arg12 harg12 arg13 harg13 arg14 harg14 (BitVec.ofNat 32 ↑((grid0.coords t) 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop (grid0.coords t)).lb (k0_t1_loop (grid0.coords t)).ub (k0_t1_loop (grid0.coords t)).st)).1 ++ (laterRun.sl.HS1_1 c arg4 harg4 arg5 harg5 arg10 x1 x2) := by
    delta laterL11; rw [hz2, pb_k0_t2.eq_1]; simp only [List.nil_append]
  have e13 : laterL13 c (grid0.coords t) arg3 harg3 arg4 harg4 arg5 harg5 arg6 harg6 arg7 harg7 arg8 harg8 arg9 harg9 arg10 harg10 arg11 harg11 arg12 harg12 arg13 harg13 arg14 harg14 x1 x2 x3 y = (pb_k0_t1 Variants.none c none (grid0.coords t) arg3 harg3 arg4 harg4 arg5 harg5 arg6 harg6 arg7 harg7 arg8 harg8 arg9 harg9 arg10 harg10 arg11 harg11 arg12 harg12 arg13 harg13 arg14 harg14 (BitVec.ofNat 32 ↑((grid0.coords t) 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop (grid0.coords t)).lb (k0_t1_loop (grid0.coords t)).ub (k0_t1_loop (grid0.coords t)).st)).2.2.1 ++ laterRun.sl.HS3_1 := by
    delta laterL13; rw [hz2, pb_k0_t2.eq_1]; simp only [List.nil_append]
  have e14 : laterL14 c (grid0.coords t) arg3 harg3 arg4 harg4 arg5 harg5 arg6 harg6 arg7 harg7 arg8 harg8 arg9 harg9 arg10 harg10 arg11 harg11 arg12 harg12 arg13 harg13 arg14 harg14 x1 x2 x3 y = (pb_k0_t1 Variants.none c none (grid0.coords t) arg3 harg3 arg4 harg4 arg5 harg5 arg6 harg6 arg7 harg7 arg8 harg8 arg9 harg9 arg10 harg10 arg11 harg11 arg12 harg12 arg13 harg13 arg14 harg14 (BitVec.ofNat 32 ↑((grid0.coords t) 2)) k0_pay111 (laterRun.sl.r c arg4 harg4 arg5 harg5 arg10 x1 x2) (harg5.unread x2) (harg6.unread x3) (arg10.view.writes (Elt Ideal) arg10.view.junk (laterRun.sl.HS0_2 c arg4 harg4 x1)) (arg11.view.writes (Elt Ideal) arg11.view.junk (laterRun.sl.HS1_1 c arg4 harg4 arg5 harg5 arg10 x1 x2)) (harg12.unread y) (arg13.view.writes (Elt Ideal) arg13.view.junk laterRun.sl.HS3_1) (arg14.view.writes (Elt Ideal) arg14.view.junk laterRun.sl.HS4_1) (Scf.trips (k0_t1_loop (grid0.coords t)).lb (k0_t1_loop (grid0.coords t)).ub (k0_t1_loop (grid0.coords t)).st)).2.2.2 ++ laterRun.sl.HS4_1 := by
    delta laterL14; rw [hz2, pb_k0_t2.eq_1]; simp only [List.nil_append]
  rw [e11, e13, e14, View.writes_append, View.writes_append, View.writes_append, ← ht1]
  exact ⟨hR, hS⟩

end Cert.KernelIdeal.Attn
-- ==== Proof.Attn.LaterB.lean ====
/-
The later body's last two tiles, `2q` and `2q + 1`, each with its bias.
-/
module

public import proofs.«01_k».proof.Proof.Attn.LaterA

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (c : Dev nD) (i : grid0.Coords) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole) (hc0 : cond i)
  (x0 : Vec Ideal S1 .f32) (x1 : Vec Ideal S1x128x1024 .bf16) (x2 : Vec Ideal S16384x128 .bf16) (x3 : Vec Ideal S1x128x16384 .bf16) (x4 : Vec Ideal S1x3x512x1024 .f32) (x5 : Vec Ideal S128x1024 .f32) (y : Vec Ideal S512x2048 .f32)

variable {K : ℕ → Fin 128 → ℝ} {Q : Fin 128 → ℕ → ℝ} {V : Fin 128 → ℕ → ℝ} {W : ℕ → ℕ → ℝ} {N : ℕ}

/-- Tile `2q`. -/
theorem later_tileC (h : StAll arg13.view arg14.view (arg13.view.writes (Elt Ideal) arg13.view.junk (laterRun.sl.HS3_8 c i arg3 harg3 arg4 harg4 arg5 harg5 arg6 harg6 arg7 harg7 arg8 harg8 arg9 harg9 arg10 harg10 arg11 harg11 arg12 harg12 arg13 harg13 arg14 harg14 hc0 x1 x2 x3 x4 y)) (arg14.view.writes (Elt Ideal) arg14.view.junk (laterRun.sl.HS4_8 c i arg3 harg3 arg4 harg4 arg5 harg5 arg6 harg6 arg7 harg7 arg8 harg8 arg9 harg9 arg10 harg10 arg11 harg11 arg12 harg12 arg13 harg13 arg14 harg14 hc0 x1 x2 x3 x4 y)) (Tsum V W N))
    (hV : ∀ e r, (vtile (arg6.view.readAt (Elt Ideal) (Rect.unit (s := S1x128x16384) (k0_off11 i) S1x128x512.size (k0_off11_inb i)).toLoadRect (harg6.unread x3)) k0_pay111) (ix2 e r) = ((Vext V e (N + r.val) : ℝ) : EReal))
    (h0 : Scs W N 0 (addf (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)))
    (h1 : Scs W N 512 (addf (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)))
    (h2 : Scs W N 1024 (addf (laterRun.sl.v118 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)))
    (h3 : Scs W N 1536 (addf (laterRun.sl.v142 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)))
    : StAll arg13.view arg14.view (arg13.view.writes (Elt Ideal) arg13.view.junk (laterRun.sl.HS3_12 c i arg3 harg3 arg4 harg4 arg5 harg5 arg6 harg6 arg7 harg7 arg8 harg8 arg9 harg9 arg10 harg10 arg11 harg11 arg12 harg12 arg13 harg13 arg14 harg14 hc0 x1 x2 x3 x4 y)) (arg14.view.writes (Elt Ideal) arg14.view.junk (laterRun.sl.HS4_12 c i arg3 harg3 arg4 harg4 arg5 harg5 arg6 harg6 arg7 harg7 arg8 harg8 arg9 harg9 arg10 harg10 arg11 harg11 arg12 harg12 arg13 harg13 arg14 harg14 hc0 x1 x2 x3 x4 y)) (Tsum V W (N + 512)) := by
  have em0 : (k0_pay126 (View.readAt (Elt Ideal) arg7.view (Rect.unit (s := S1x3x512x1024) ![0, 1, 0, 0] S1x1x512x1024.size inb_S1x3x512x1024_S1x1x512x1024_0_1_0_0).toLoadRect (harg7.unread x4)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y)) = mUp (addf (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay126, k0_pay124, k0_pay123, k0_pay121, mUp, bslice, shapeCast_id]
  have ea0 : (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v83 c i arg3 harg3 arg4 harg4 arg5 harg5 arg6 harg6 arg7 harg7 arg8 harg8 arg9 harg9 arg10 harg10 arg11 harg11 arg12 harg12 arg13 harg13 arg14 harg14 hc0 x1 x2 x3 x4 y)) = aUp (vtile (arg6.view.readAt (Elt Ideal) (Rect.unit (s := S1x128x16384) (k0_off11 i) S1x128x512.size (k0_off11_inb i)).toLoadRect (harg6.unread x3)) k0_pay111) (addf (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v83 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay125, k0_pay124, k0_pay123, k0_pay121, k0_pay122, aUp, mUp, bslice, vtile, shapeCast_id]
  have el0 : (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y) = arg13.view.readCov ((laterRun.sl.HS3_8 c i arg3 harg3 arg4 harg4 arg5 harg5 arg6 harg6 arg7 harg7 arg8 harg8 arg9 harg9 arg10 harg10 arg11 harg11 arg12 harg12 arg13 harg13 arg14 harg14 hc0 x1 x2 x3 x4 y)) (rm 0 (by decide)).toLoadRect := by
    delta laterRun.sl.v73
    with_reducible rfl
  have ek0 : (laterRun.sl.v83 c i arg3 harg3 arg4 harg4 arg5 harg5 arg6 harg6 arg7 harg7 arg8 harg8 arg9 harg9 arg10 harg10 arg11 harg11 arg12 harg12 arg13 harg13 arg14 harg14 hc0 x1 x2 x3 x4 y) = arg14.view.readCov ((laterRun.sl.HS4_8 c i arg3 harg3 arg4 harg4 arg5 harg5 arg6 harg6 arg7 harg7 arg8 harg8 arg9 harg9 arg10 harg10 arg11 harg11 arg12 harg12 arg13 harg13 arg14 harg14 hc0 x1 x2 x3 x4 y)) (ra 0 (by decide)).toLoadRect := by
    delta laterRun.sl.v83
    with_reducible rfl
  have em1 : (k0_pay131 (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (laterRun.sl.r_4 c arg7 harg7 x4) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y)) = mUp (addf (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay131, k0_pay129, k0_pay128, laterRun.sl.r_4, k0_pay127, k0_pay121, mUp, bslice, shapeCast_id]
  have ea1 : (k0_pay130 (laterRun.sl.r_3 i arg6 harg6 x3) (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (laterRun.sl.r_4 c arg7 harg7 x4) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v107 c i arg3 harg3 arg4 harg4 arg5 harg5 arg6 harg6 arg7 harg7 arg8 harg8 arg9 harg9 arg10 harg10 arg11 harg11 arg12 harg12 arg13 harg13 arg14 harg14 hc0 x1 x2 x3 x4 y)) = aUp (vtile (arg6.view.readAt (Elt Ideal) (Rect.unit (s := S1x128x16384) (k0_off11 i) S1x128x512.size (k0_off11_inb i)).toLoadRect (harg6.unread x3)) k0_pay111) (addf (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v107 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay130, k0_pay129, k0_pay128, laterRun.sl.r_3, k0_pay122, laterRun.sl.r_4, k0_pay127, k0_pay121, aUp, mUp, bslice, vtile, shapeCast_id]
  have el1 : (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y) = arg13.view.readCov (⟨rm 0 (by decide), (k0_pay126 (View.readAt (Elt Ideal) arg7.view (Rect.unit (s := S1x3x512x1024) ![0, 1, 0, 0] S1x1x512x1024.size inb_S1x3x512x1024_S1x1x512x1024_0_1_0_0).toLoadRect (harg7.unread x4)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS3_8 c i arg3 harg3 arg4 harg4 arg5 harg5 arg6 harg6 arg7 harg7 arg8 harg8 arg9 harg9 arg10 harg10 arg11 harg11 arg12 harg12 arg13 harg13 arg14 harg14 hc0 x1 x2 x3 x4 y)) (rm 512 (by decide)).toLoadRect := by
    delta laterRun.sl.v97 laterRun.sl.HS3_9
    with_reducible rfl
  have ek1 : (laterRun.sl.v107 c i arg3 harg3 arg4 harg4 arg5 harg5 arg6 harg6 arg7 harg7 arg8 harg8 arg9 harg9 arg10 harg10 arg11 harg11 arg12 harg12 arg13 harg13 arg14 harg14 hc0 x1 x2 x3 x4 y) = arg14.view.readCov (⟨ra 0 (by decide), (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v83 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS4_8 c i arg3 harg3 arg4 harg4 arg5 harg5 arg6 harg6 arg7 harg7 arg8 harg8 arg9 harg9 arg10 harg10 arg11 harg11 arg12 harg12 arg13 harg13 arg14 harg14 hc0 x1 x2 x3 x4 y)) (ra 512 (by decide)).toLoadRect := by
    delta laterRun.sl.v107 laterRun.sl.HS4_9
    with_reducible rfl
  have em2 : (k0_pay136 (laterRun.sl.r_5 c i arg3 harg3 arg4 harg4 arg5 harg5 arg6 harg6 arg7 harg7 arg8 harg8 arg9 harg9 arg10 harg10 arg11 harg11 arg12 harg12 arg13 harg13 arg14 harg14 hc0 x1 x2 x3 x4 y)) = mUp (addf (laterRun.sl.v118 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)) (laterRun.sl.v121 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay136, laterRun.sl.r_5, k0_pay133, k0_pay132, laterRun.sl.r_2, k0_pay121, mUp, bslice, shapeCast_id]
  have ea2 : (k0_pay135 (laterRun.sl.r_6 c i arg3 harg3 arg4 harg4 arg5 harg5 arg6 harg6 arg7 harg7 arg8 harg8 arg9 harg9 arg10 harg10 arg11 harg11 arg12 harg12 arg13 harg13 arg14 harg14 hc0 x1 x2 x3 x4 y)) = aUp (vtile (arg6.view.readAt (Elt Ideal) (Rect.unit (s := S1x128x16384) (k0_off11 i) S1x128x512.size (k0_off11_inb i)).toLoadRect (harg6.unread x3)) k0_pay111) (addf (laterRun.sl.v118 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)) (laterRun.sl.v121 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v131 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay135, laterRun.sl.r_6, k0_pay134, k0_pay133, k0_pay132, laterRun.sl.r_2, k0_pay121, laterRun.sl.r_3, k0_pay122, aUp, mUp, bslice, vtile, shapeCast_id]
  have el2 : (laterRun.sl.v121 c i arg3 harg3 arg4 harg4 arg5 harg5 arg6 harg6 arg7 harg7 arg8 harg8 arg9 harg9 arg10 harg10 arg11 harg11 arg12 harg12 arg13 harg13 arg14 harg14 hc0 x1 x2 x3 x4 y) = arg13.view.readCov (⟨rm 512 (by decide), (k0_pay131 (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (laterRun.sl.r_4 c arg7 harg7 x4) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨rm 0 (by decide), (k0_pay126 (View.readAt (Elt Ideal) arg7.view (Rect.unit (s := S1x3x512x1024) ![0, 1, 0, 0] S1x1x512x1024.size inb_S1x3x512x1024_S1x1x512x1024_0_1_0_0).toLoadRect (harg7.unread x4)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS3_8 c i arg3 harg3 arg4 harg4 arg5 harg5 arg6 harg6 arg7 harg7 arg8 harg8 arg9 harg9 arg10 harg10 arg11 harg11 arg12 harg12 arg13 harg13 arg14 harg14 hc0 x1 x2 x3 x4 y)) (rm 1024 (by decide)).toLoadRect := by
    delta laterRun.sl.v121 laterRun.sl.HS3_10 laterRun.sl.HS3_9
    with_reducible rfl
  have ek2 : (laterRun.sl.v131 c i arg3 harg3 arg4 harg4 arg5 harg5 arg6 harg6 arg7 harg7 arg8 harg8 arg9 harg9 arg10 harg10 arg11 harg11 arg12 harg12 arg13 harg13 arg14 harg14 hc0 x1 x2 x3 x4 y) = arg14.view.readCov (⟨ra 512 (by decide), (k0_pay130 (laterRun.sl.r_3 i arg6 harg6 x3) (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (laterRun.sl.r_4 c arg7 harg7 x4) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v107 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨ra 0 (by decide), (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v83 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS4_8 c i arg3 harg3 arg4 harg4 arg5 harg5 arg6 harg6 arg7 harg7 arg8 harg8 arg9 harg9 arg10 harg10 arg11 harg11 arg12 harg12 arg13 harg13 arg14 harg14 hc0 x1 x2 x3 x4 y)) (ra 1024 (by decide)).toLoadRect := by
    delta laterRun.sl.v131 laterRun.sl.HS4_10 laterRun.sl.HS4_9
    with_reducible rfl
  have em3 : (k0_pay140 (laterRun.sl.r_2 c arg7 harg7 x4) (laterRun.sl.v142 c i arg3 harg3 arg4 harg4 arg5 harg5 arg6 harg6 arg7 harg7 arg8 harg8 arg9 harg9 arg10 harg10 arg11 harg11 arg12 harg12 arg13 harg13 arg14 harg14 hc0 x1 x2 x3 y) (laterRun.sl.v145 c i arg3 harg3 arg4 harg4 arg5 harg5 arg6 harg6 arg7 harg7 arg8 harg8 arg9 harg9 arg10 harg10 arg11 harg11 arg12 harg12 arg13 harg13 arg14 harg14 hc0 x1 x2 x3 x4 y)) = mUp (addf (laterRun.sl.v142 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)) (laterRun.sl.v145 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay140, k0_pay138, k0_pay137, laterRun.sl.r_2, k0_pay121, mUp, bslice, shapeCast_id]
  have ea3 : (k0_pay139 (laterRun.sl.r_2 c arg7 harg7 x4) (laterRun.sl.r_3 i arg6 harg6 x3) (laterRun.sl.v142 c i arg3 harg3 arg4 harg4 arg5 harg5 arg6 harg6 arg7 harg7 arg8 harg8 arg9 harg9 arg10 harg10 arg11 harg11 arg12 harg12 arg13 harg13 arg14 harg14 hc0 x1 x2 x3 y) (laterRun.sl.v145 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v155 c i arg3 harg3 arg4 harg4 arg5 harg5 arg6 harg6 arg7 harg7 arg8 harg8 arg9 harg9 arg10 harg10 arg11 harg11 arg12 harg12 arg13 harg13 arg14 harg14 hc0 x1 x2 x3 x4 y)) = aUp (vtile (arg6.view.readAt (Elt Ideal) (Rect.unit (s := S1x128x16384) (k0_off11 i) S1x128x512.size (k0_off11_inb i)).toLoadRect (harg6.unread x3)) k0_pay111) (addf (laterRun.sl.v142 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)) (laterRun.sl.v145 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v155 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay139, k0_pay138, k0_pay137, laterRun.sl.r_2, k0_pay121, laterRun.sl.r_3, k0_pay122, aUp, mUp, bslice, vtile, shapeCast_id]
  have el3 : (laterRun.sl.v145 c i arg3 harg3 arg4 harg4 arg5 harg5 arg6 harg6 arg7 harg7 arg8 harg8 arg9 harg9 arg10 harg10 arg11 harg11 arg12 harg12 arg13 harg13 arg14 harg14 hc0 x1 x2 x3 x4 y) = arg13.view.readCov (⟨rm 1024 (by decide), (k0_pay136 (laterRun.sl.r_5 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨rm 512 (by decide), (k0_pay131 (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (laterRun.sl.r_4 c arg7 harg7 x4) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨rm 0 (by decide), (k0_pay126 (View.readAt (Elt Ideal) arg7.view (Rect.unit (s := S1x3x512x1024) ![0, 1, 0, 0] S1x1x512x1024.size inb_S1x3x512x1024_S1x1x512x1024_0_1_0_0).toLoadRect (harg7.unread x4)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS3_8 c i arg3 harg3 arg4 harg4 arg5 harg5 arg6 harg6 arg7 harg7 arg8 harg8 arg9 harg9 arg10 harg10 arg11 harg11 arg12 harg12 arg13 harg13 arg14 harg14 hc0 x1 x2 x3 x4 y)) (rm 1536 (by decide)).toLoadRect := by
    delta laterRun.sl.v145 laterRun.sl.HS3_11 laterRun.sl.HS3_10 laterRun.sl.HS3_9
    with_reducible rfl
  have ek3 : (laterRun.sl.v155 c i arg3 harg3 arg4 harg4 arg5 harg5 arg6 harg6 arg7 harg7 arg8 harg8 arg9 harg9 arg10 harg10 arg11 harg11 arg12 harg12 arg13 harg13 arg14 harg14 hc0 x1 x2 x3 x4 y) = arg14.view.readCov (⟨ra 1024 (by decide), (k0_pay135 (laterRun.sl.r_6 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨ra 512 (by decide), (k0_pay130 (laterRun.sl.r_3 i arg6 harg6 x3) (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (laterRun.sl.r_4 c arg7 harg7 x4) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v107 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨ra 0 (by decide), (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v83 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS4_8 c i arg3 harg3 arg4 harg4 arg5 harg5 arg6 harg6 arg7 harg7 arg8 harg8 arg9 harg9 arg10 harg10 arg11 harg11 arg12 harg12 arg13 harg13 arg14 harg14 hc0 x1 x2 x3 x4 y)) (ra 1536 (by decide)).toLoadRect := by
    delta laterRun.sl.v155 laterRun.sl.HS4_11 laterRun.sl.HS4_10 laterRun.sl.HS4_9
    with_reducible rfl
  have eM : (laterRun.sl.HS3_12 c i arg3 harg3 arg4 harg4 arg5 harg5 arg6 harg6 arg7 harg7 arg8 harg8 arg9 harg9 arg10 harg10 arg11 harg11 arg12 harg12 arg13 harg13 arg14 harg14 hc0 x1 x2 x3 x4 y) = ⟨rm 1536 (by decide), (k0_pay140 (laterRun.sl.r_2 c arg7 harg7 x4) (laterRun.sl.v142 c i arg3 harg3 arg4 harg4 arg5 harg5 arg6 harg6 arg7 harg7 arg8 harg8 arg9 harg9 arg10 harg10 arg11 harg11 arg12 harg12 arg13 harg13 arg14 harg14 hc0 x1 x2 x3 y) (laterRun.sl.v145 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨rm 1024 (by decide), (k0_pay136 (laterRun.sl.r_5 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨rm 512 (by decide), (k0_pay131 (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (laterRun.sl.r_4 c arg7 harg7 x4) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨rm 0 (by decide), (k0_pay126 (View.readAt (Elt Ideal) arg7.view (Rect.unit (s := S1x3x512x1024) ![0, 1, 0, 0] S1x1x512x1024.size inb_S1x3x512x1024_S1x1x512x1024_0_1_0_0).toLoadRect (harg7.unread x4)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS3_8 c i arg3 harg3 arg4 harg4 arg5 harg5 arg6 harg6 arg7 harg7 arg8 harg8 arg9 harg9 arg10 harg10 arg11 harg11 arg12 harg12 arg13 harg13 arg14 harg14 hc0 x1 x2 x3 x4 y) := by
    delta laterRun.sl.HS3_12 laterRun.sl.HS3_11 laterRun.sl.HS3_10 laterRun.sl.HS3_9
    with_reducible rfl
  have eA : (laterRun.sl.HS4_12 c i arg3 harg3 arg4 harg4 arg5 harg5 arg6 harg6 arg7 harg7 arg8 harg8 arg9 harg9 arg10 harg10 arg11 harg11 arg12 harg12 arg13 harg13 arg14 harg14 hc0 x1 x2 x3 x4 y) = ⟨ra 1536 (by decide), (k0_pay139 (laterRun.sl.r_2 c arg7 harg7 x4) (laterRun.sl.r_3 i arg6 harg6 x3) (laterRun.sl.v142 c i arg3 harg3 arg4 harg4 arg5 harg5 arg6 harg6 arg7 harg7 arg8 harg8 arg9 harg9 arg10 harg10 arg11 harg11 arg12 harg12 arg13 harg13 arg14 harg14 hc0 x1 x2 x3 y) (laterRun.sl.v145 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v155 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨ra 1024 (by decide), (k0_pay135 (laterRun.sl.r_6 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨ra 512 (by decide), (k0_pay130 (laterRun.sl.r_3 i arg6 harg6 x3) (laterRun.sl.v94 c i arg3 harg3 arg4 harg4 arg5 harg5 arg6 harg6 arg7 harg7 arg8 harg8 arg9 harg9 arg10 harg10 arg11 harg11 arg12 harg12 arg13 harg13 arg14 harg14 hc0 x1 x2 x3 y) (laterRun.sl.r_4 c arg7 harg7 x4) (laterRun.sl.v97 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v107 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨ra 0 (by decide), (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (laterRun.sl.v70 c i arg3 harg3 arg4 harg4 arg5 harg5 arg6 harg6 arg7 harg7 arg8 harg8 arg9 harg9 arg10 harg10 arg11 harg11 arg12 harg12 arg13 harg13 arg14 harg14 hc0 x1 x2 x3 y) (laterRun.sl.v73 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v83 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS4_8 c i arg3 harg3 arg4 harg4 arg5 harg5 arg6 harg6 arg7 harg7 arg8 harg8 arg9 harg9 arg10 harg10 arg11 harg11 arg12 harg12 arg13 harg13 arg14 harg14 hc0 x1 x2 x3 x4 y) := by
    delta laterRun.sl.HS4_12 laterRun.sl.HS4_11 laterRun.sl.HS4_10 laterRun.sl.HS4_9
    with_reducible rfl
  rw [eM, eA]
  exact StAll.tile4 (M := (laterRun.sl.HS3_8 c i arg3 harg3 arg4 harg4 arg5 harg5 arg6 harg6 arg7 harg7 arg8 harg8 arg9 harg9 arg10 harg10 arg11 harg11 arg12 harg12 arg13 harg13 arg14 harg14 hc0 x1 x2 x3 x4 y)) (A := (laterRun.sl.HS4_8 c i arg3 harg3 arg4 harg4 arg5 harg5 arg6 harg6 arg7 harg7 arg8 harg8 arg9 harg9 arg10 harg10 arg11 harg11 arg12 harg12 arg13 harg13 arg14 harg14 hc0 x1 x2 x3 x4 y)) h hV h0 h1 h2 h3 em0 ea0 em1 ea1 em2 ea2 em3 ea3 el0 ek0 el1 ek1 el2 ek2 el3 ek3

/-- Tile `2q + 1`, met by the second half of each head's columns. -/
theorem later_tileD (h : StAll arg13.view arg14.view (arg13.view.writes (Elt Ideal) arg13.view.junk (laterRun.sl.HS3_12 c i arg3 harg3 arg4 harg4 arg5 harg5 arg6 harg6 arg7 harg7 arg8 harg8 arg9 harg9 arg10 harg10 arg11 harg11 arg12 harg12 arg13 harg13 arg14 harg14 hc0 x1 x2 x3 x4 y)) (arg14.view.writes (Elt Ideal) arg14.view.junk (laterRun.sl.HS4_12 c i arg3 harg3 arg4 harg4 arg5 harg5 arg6 harg6 arg7 harg7 arg8 harg8 arg9 harg9 arg10 harg10 arg11 harg11 arg12 harg12 arg13 harg13 arg14 harg14 hc0 x1 x2 x3 x4 y)) (Tsum V W N))
    (hV : ∀ e r, (vtile (arg6.view.readAt (Elt Ideal) (Rect.unit (s := S1x128x16384) (k0_off12 i) S1x128x512.size (k0_off12_inb i)).toLoadRect (harg6.unread x3)) k0_pay111) (ix2 e r) = ((Vext V e (N + r.val) : ℝ) : EReal))
    (h0 : Scs W N 512 (addf (laterRun.sl.v176 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)))
    (h1 : Scs W N 1536 (addf (laterRun.sl.v200 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)))
    (z0 : ∀ r j : Fin 512, W (N + r.val) (0 + j.val) = 0) (z2 : ∀ r j : Fin 512, W (N + r.val) (1024 + j.val) = 0)
    : ∃ M, StAll arg13.view arg14.view (arg13.view.writes (Elt Ideal) arg13.view.junk M) (arg14.view.writes (Elt Ideal) arg14.view.junk (laterRun.sl.HS4_14 c i arg3 harg3 arg4 harg4 arg5 harg5 arg6 harg6 arg7 harg7 arg8 harg8 arg9 harg9 arg10 harg10 arg11 harg11 arg12 harg12 arg13 harg13 arg14 harg14 hc0 x1 x2 x3 x4 y)) (Tsum V W (N + 512)) := by
  have em0 : (k0_pay146 (laterRun.sl.r_7 c arg7 harg7 x4) (laterRun.sl.v176 c i arg3 harg3 arg4 harg4 arg5 harg5 arg6 harg6 arg7 harg7 arg8 harg8 arg9 harg9 arg10 harg10 arg11 harg11 arg12 harg12 arg13 harg13 arg14 harg14 hc0 x1 x2 x3 y) (laterRun.sl.v179 c i arg3 harg3 arg4 harg4 arg5 harg5 arg6 harg6 arg7 harg7 arg8 harg8 arg9 harg9 arg10 harg10 arg11 harg11 arg12 harg12 arg13 harg13 arg14 harg14 hc0 x1 x2 x3 x4 y)) = mUp (addf (laterRun.sl.v176 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)) (laterRun.sl.v179 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay146, k0_pay144, k0_pay143, laterRun.sl.r_7, k0_pay141, mUp, bslice, shapeCast_id]
  have ea0 : (k0_pay145 k0_pay111 (laterRun.sl.r_7 c arg7 harg7 x4) (View.readAt (Elt Ideal) arg6.view (Rect.unit (s := S1x128x16384) (k0_off12 i) S1x128x512.size (k0_off12_inb i)).toLoadRect (harg6.unread x3)) (laterRun.sl.v176 c i arg3 harg3 arg4 harg4 arg5 harg5 arg6 harg6 arg7 harg7 arg8 harg8 arg9 harg9 arg10 harg10 arg11 harg11 arg12 harg12 arg13 harg13 arg14 harg14 hc0 x1 x2 x3 y) (laterRun.sl.v179 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v189 c i arg3 harg3 arg4 harg4 arg5 harg5 arg6 harg6 arg7 harg7 arg8 harg8 arg9 harg9 arg10 harg10 arg11 harg11 arg12 harg12 arg13 harg13 arg14 harg14 hc0 x1 x2 x3 x4 y)) = aUp (vtile (arg6.view.readAt (Elt Ideal) (Rect.unit (s := S1x128x16384) (k0_off12 i) S1x128x512.size (k0_off12_inb i)).toLoadRect (harg6.unread x3)) k0_pay111) (addf (laterRun.sl.v176 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)) (laterRun.sl.v179 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v189 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay145, k0_pay144, k0_pay143, k0_pay142, laterRun.sl.r_7, k0_pay141, aUp, mUp, bslice, vtile, shapeCast_id]
  have el0 : (laterRun.sl.v179 c i arg3 harg3 arg4 harg4 arg5 harg5 arg6 harg6 arg7 harg7 arg8 harg8 arg9 harg9 arg10 harg10 arg11 harg11 arg12 harg12 arg13 harg13 arg14 harg14 hc0 x1 x2 x3 x4 y) = arg13.view.readCov ((laterRun.sl.HS3_12 c i arg3 harg3 arg4 harg4 arg5 harg5 arg6 harg6 arg7 harg7 arg8 harg8 arg9 harg9 arg10 harg10 arg11 harg11 arg12 harg12 arg13 harg13 arg14 harg14 hc0 x1 x2 x3 x4 y)) (rm 512 (by decide)).toLoadRect := by
    delta laterRun.sl.v179
    with_reducible rfl
  have ek0 : (laterRun.sl.v189 c i arg3 harg3 arg4 harg4 arg5 harg5 arg6 harg6 arg7 harg7 arg8 harg8 arg9 harg9 arg10 harg10 arg11 harg11 arg12 harg12 arg13 harg13 arg14 harg14 hc0 x1 x2 x3 x4 y) = arg14.view.readCov ((laterRun.sl.HS4_12 c i arg3 harg3 arg4 harg4 arg5 harg5 arg6 harg6 arg7 harg7 arg8 harg8 arg9 harg9 arg10 harg10 arg11 harg11 arg12 harg12 arg13 harg13 arg14 harg14 hc0 x1 x2 x3 x4 y)) (ra 512 (by decide)).toLoadRect := by
    delta laterRun.sl.v189
    with_reducible rfl
  have ea1 : (k0_pay150 (laterRun.sl.r_8 i arg6 harg6 x3) (laterRun.sl.r_9 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.r_10 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.r_11 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v213 c i arg3 harg3 arg4 harg4 arg5 harg5 arg6 harg6 arg7 harg7 arg8 harg8 arg9 harg9 arg10 harg10 arg11 harg11 arg12 harg12 arg13 harg13 arg14 harg14 hc0 x1 x2 x3 x4 y)) = aUp (vtile (arg6.view.readAt (Elt Ideal) (Rect.unit (s := S1x128x16384) (k0_off12 i) S1x128x512.size (k0_off12_inb i)).toLoadRect (harg6.unread x3)) k0_pay111) (addf (laterRun.sl.v200 c i arg3 harg3 arg4 harg4 arg5 harg5 arg6 harg6 arg7 harg7 arg8 harg8 arg9 harg9 arg10 harg10 arg11 harg11 arg12 harg12 arg13 harg13 arg14 harg14 hc0 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)) (laterRun.sl.v203 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v213 c i arg3 harg3 arg4 harg4 arg5 harg5 arg6 harg6 arg7 harg7 arg8 harg8 arg9 harg9 arg10 harg10 arg11 harg11 arg12 harg12 arg13 harg13 arg14 harg14 hc0 x1 x2 x3 x4 y) := by simp only [k0_pay150, laterRun.sl.r_8, k0_pay142, laterRun.sl.r_9, k0_pay147, laterRun.sl.r_7, k0_pay141, laterRun.sl.r_10, k0_pay148, laterRun.sl.r_11, k0_pay149, aUp, mUp, bslice, vtile, shapeCast_id]
  have el1 : (laterRun.sl.v203 c i arg3 harg3 arg4 harg4 arg5 harg5 arg6 harg6 arg7 harg7 arg8 harg8 arg9 harg9 arg10 harg10 arg11 harg11 arg12 harg12 arg13 harg13 arg14 harg14 hc0 x1 x2 x3 x4 y) = arg13.view.readCov (⟨rm 512 (by decide), (k0_pay146 (laterRun.sl.r_7 c arg7 harg7 x4) (laterRun.sl.v176 c i arg3 harg3 arg4 harg4 arg5 harg5 arg6 harg6 arg7 harg7 arg8 harg8 arg9 harg9 arg10 harg10 arg11 harg11 arg12 harg12 arg13 harg13 arg14 harg14 hc0 x1 x2 x3 y) (laterRun.sl.v179 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS3_12 c i arg3 harg3 arg4 harg4 arg5 harg5 arg6 harg6 arg7 harg7 arg8 harg8 arg9 harg9 arg10 harg10 arg11 harg11 arg12 harg12 arg13 harg13 arg14 harg14 hc0 x1 x2 x3 x4 y)) (rm 1536 (by decide)).toLoadRect := by
    delta laterRun.sl.v203 laterRun.sl.HS3_13
    with_reducible rfl
  have ek1 : (laterRun.sl.v213 c i arg3 harg3 arg4 harg4 arg5 harg5 arg6 harg6 arg7 harg7 arg8 harg8 arg9 harg9 arg10 harg10 arg11 harg11 arg12 harg12 arg13 harg13 arg14 harg14 hc0 x1 x2 x3 x4 y) = arg14.view.readCov (⟨ra 512 (by decide), (k0_pay145 k0_pay111 (laterRun.sl.r_7 c arg7 harg7 x4) (View.readAt (Elt Ideal) arg6.view (Rect.unit (s := S1x128x16384) (k0_off12 i) S1x128x512.size (k0_off12_inb i)).toLoadRect (harg6.unread x3)) (laterRun.sl.v176 c i arg3 harg3 arg4 harg4 arg5 harg5 arg6 harg6 arg7 harg7 arg8 harg8 arg9 harg9 arg10 harg10 arg11 harg11 arg12 harg12 arg13 harg13 arg14 harg14 hc0 x1 x2 x3 y) (laterRun.sl.v179 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v189 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS4_12 c i arg3 harg3 arg4 harg4 arg5 harg5 arg6 harg6 arg7 harg7 arg8 harg8 arg9 harg9 arg10 harg10 arg11 harg11 arg12 harg12 arg13 harg13 arg14 harg14 hc0 x1 x2 x3 x4 y)) (ra 1536 (by decide)).toLoadRect := by
    delta laterRun.sl.v213 laterRun.sl.HS4_13
    with_reducible rfl
  have eA : (laterRun.sl.HS4_14 c i arg3 harg3 arg4 harg4 arg5 harg5 arg6 harg6 arg7 harg7 arg8 harg8 arg9 harg9 arg10 harg10 arg11 harg11 arg12 harg12 arg13 harg13 arg14 harg14 hc0 x1 x2 x3 x4 y) = ⟨ra 1536 (by decide), (k0_pay150 (laterRun.sl.r_8 i arg6 harg6 x3) (laterRun.sl.r_9 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.r_10 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.r_11 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v213 c i arg3 harg3 arg4 harg4 arg5 harg5 arg6 harg6 arg7 harg7 arg8 harg8 arg9 harg9 arg10 harg10 arg11 harg11 arg12 harg12 arg13 harg13 arg14 harg14 hc0 x1 x2 x3 x4 y))⟩ :: ⟨ra 512 (by decide), (k0_pay145 k0_pay111 (laterRun.sl.r_7 c arg7 harg7 x4) (View.readAt (Elt Ideal) arg6.view (Rect.unit (s := S1x128x16384) (k0_off12 i) S1x128x512.size (k0_off12_inb i)).toLoadRect (harg6.unread x3)) (laterRun.sl.v176 c i arg3 harg3 arg4 harg4 arg5 harg5 arg6 harg6 arg7 harg7 arg8 harg8 arg9 harg9 arg10 harg10 arg11 harg11 arg12 harg12 arg13 harg13 arg14 harg14 hc0 x1 x2 x3 y) (laterRun.sl.v179 c i arg3 harg3 arg4 harg4 arg5 harg5 arg6 harg6 arg7 harg7 arg8 harg8 arg9 harg9 arg10 harg10 arg11 harg11 arg12 harg12 arg13 harg13 arg14 harg14 hc0 x1 x2 x3 x4 y) (laterRun.sl.v189 c i arg3 harg3 arg4 harg4 arg5 harg5 arg6 harg6 arg7 harg7 arg8 harg8 arg9 harg9 arg10 harg10 arg11 harg11 arg12 harg12 arg13 harg13 arg14 harg14 hc0 x1 x2 x3 x4 y))⟩ :: (laterRun.sl.HS4_12 c i arg3 harg3 arg4 harg4 arg5 harg5 arg6 harg6 arg7 harg7 arg8 harg8 arg9 harg9 arg10 harg10 arg11 harg11 arg12 harg12 arg13 harg13 arg14 harg14 hc0 x1 x2 x3 x4 y) := by
    delta laterRun.sl.HS4_14 laterRun.sl.HS4_13
    with_reducible rfl
  rw [eA]
  obtain ⟨m3, h3'⟩ := StAll.tile2 (M := (laterRun.sl.HS3_12 c i arg3 harg3 arg4 harg4 arg5 harg5 arg6 harg6 arg7 harg7 arg8 harg8 arg9 harg9 arg10 harg10 arg11 harg11 arg12 harg12 arg13 harg13 arg14 harg14 hc0 x1 x2 x3 x4 y)) (A := (laterRun.sl.HS4_12 c i arg3 harg3 arg4 harg4 arg5 harg5 arg6 harg6 arg7 harg7 arg8 harg8 arg9 harg9 arg10 harg10 arg11 harg11 arg12 harg12 arg13 harg13 arg14 harg14 hc0 x1 x2 x3 x4 y)) h hV h0 h1 z0 z2 em0 ea0 ea1 el0 ek0 el1 ek1
  exact ⟨_, h3'⟩

end Cert.KernelIdeal.Attn
-- ==== Proof.Attn.LaterDone.lean ====
/-
The later body: its four tile steps after the key loop.
-/
module

public import proofs.«01_k».proof.Proof.Attn.ScoreLoads
public import proofs.«01_k».proof.Proof.Attn.LaterLoop
public import proofs.«01_k».proof.Proof.Attn.LaterB

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (c : Dev nD) (t : Fin cfg0.N) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole) (hc0 : cond (grid0.coords t))
  (x0 : Vec Ideal S1 .f32) (x1 : Vec Ideal S1x128x1024 .bf16) (x2 : Vec Ideal S16384x128 .bf16) (x3 : Vec Ideal S1x128x16384 .bf16) (x4 : Vec Ideal S1x3x512x1024 .f32) (x5 : Vec Ideal S128x1024 .f32) (y : Vec Ideal S512x2048 .f32)

variable {K : ℕ → Fin 128 → ℝ} {q : Fin 128 → ℕ → ℝ} {V : Fin 128 → ℕ → ℝ} {W : ℕ → ℕ → ℝ} {N : ℕ}

/-- The state after tile step A of the body. -/
theorem laterRun_stA (hIn : Ins (t.val % 16) x1 x2 x3 x4 q K V W) (hT : 1 ≤ t.val % 16) :
    StAll arg13.view arg14.view (arg13.view.writes (Elt Ideal) arg13.view.junk (laterRun.sl.HS3_4 c (grid0.coords t) arg3 harg3 arg4 harg4 arg5 harg5 arg6 harg6 arg7 harg7 arg8 harg8 arg9 harg9 arg10 harg10 arg11 harg11 arg12 harg12 arg13 harg13 arg14 harg14 x1 x2 x3 y)) (arg14.view.writes (Elt Ideal) arg14.view.junk (laterRun.sl.HS4_4 c (grid0.coords t) arg3 harg3 arg4 harg4 arg5 harg5 arg6 harg6 arg7 harg7 arg8 harg8 arg9 harg9 arg10 harg10 arg11 harg11 arg12 harg12 arg13 harg13 arg14 harg14 hc0 x1 x2 x3 y)) (Tsum V W ((1024 * (t.val % 16 - 1)) + 512)) := by
  obtain ⟨hR, hS⟩ := laterRun_loop c t arg3 harg3 arg4 harg4 arg5 harg5 arg6 harg6 arg7 harg7 arg8 harg8 arg9 harg9 arg10 harg10 arg11 harg11 arg12 harg12 arg13 harg13 arg14 harg14 x1 x2 x3 x4 y hIn
  have h5 : ∀ (n : ℕ) (hn : n < 16384) (d : Fin 128), arg5.view.read (Elt Ideal) (harg5.unread x2) (ix2 ⟨n, hn⟩ d) = ((K n d : ℝ) : EReal) := by
    rw [harg5.read_unread]; exact hIn.h2
  have h6 : ∀ (e : Fin 128) (n : ℕ) (hn : n < 16384), arg6.view.read (Elt Ideal) (harg6.unread x3) (ix3 0 e ⟨n, hn⟩) = ((V e n : ℝ) : EReal) := by
    rw [harg6.read_unread]; exact hIn.h3
  have h10 := laterRun_q c t arg4 harg4 arg10 x1 x2 x3 x4 hIn
  have s0 : SR K (Qm q) (1024 * (t.val % 16 - 1)) 0 (laterRun.sl.v276 c (grid0.coords t) arg3 harg3 arg4 harg4 arg5 harg5 arg6 harg6 arg7 harg7 arg8 harg8 arg9 harg9 arg10 harg10 arg11 harg11 arg12 harg12 arg13 harg13 arg14 harg14 x1 x2 x3 y) := by
    have e : (laterRun.sl.v276 c (grid0.coords t) arg3 harg3 arg4 harg4 arg5 harg5 arg6 harg6 arg7 harg7 arg8 harg8 arg9 harg9 arg10 harg10 arg11 harg11 arg12 harg12 arg13 harg13 arg14 harg14 x1 x2 x3 y) = arg11.view.readCov (laterL11 c (grid0.coords t) arg3 harg3 arg4 harg4 arg5 harg5 arg6 harg6 arg7 harg7 arg8 harg8 arg9 harg9 arg10 harg10 arg11 harg11 arg12 harg12 arg13 harg13 arg14 harg14 x1 x2 x3 y) (rs 0 (by decide)).toLoadRect := by
      delta laterRun.sl.v276 laterL11; with_reducible rfl
    rw [e]
    delta View.readCov
    exact Raws.sr hR 0 _
  have s1 : SR K (Qm q) (1024 * (t.val % 16 - 1)) 512 (laterRun.sl.v298 c (grid0.coords t) arg3 harg3 arg4 harg4 arg5 harg5 arg6 harg6 arg7 harg7 arg8 harg8 arg9 harg9 arg10 harg10 arg11 harg11 arg12 harg12 arg13 harg13 arg14 harg14 x1 x2 x3 y) := by
    have e : (laterRun.sl.v298 c (grid0.coords t) arg3 harg3 arg4 harg4 arg5 harg5 arg6 harg6 arg7 harg7 arg8 harg8 arg9 harg9 arg10 harg10 arg11 harg11 arg12 harg12 arg13 harg13 arg14 harg14 x1 x2 x3 y) = arg11.view.readCov (laterL11 c (grid0.coords t) arg3 harg3 arg4 harg4 arg5 harg5 arg6 harg6 arg7 harg7 arg8 harg8 arg9 harg9 arg10 harg10 arg11 harg11 arg12 harg12 arg13 harg13 arg14 harg14 x1 x2 x3 y) (rs 512 (by decide)).toLoadRect := by
      delta laterRun.sl.v298 laterL11; with_reducible rfl
    rw [e]
    delta View.readCov
    exact Raws.sr hR 512 _
  have s2 : SR K (Qm q) (1024 * (t.val % 16 - 1)) 1024 (laterRun.sl.v320 c (grid0.coords t) arg3 harg3 arg4 harg4 arg5 harg5 arg6 harg6 arg7 harg7 arg8 harg8 arg9 harg9 arg10 harg10 arg11 harg11 arg12 harg12 arg13 harg13 arg14 harg14 x1 x2 x3 y) := by
    have e : (laterRun.sl.v320 c (grid0.coords t) arg3 harg3 arg4 harg4 arg5 harg5 arg6 harg6 arg7 harg7 arg8 harg8 arg9 harg9 arg10 harg10 arg11 harg11 arg12 harg12 arg13 harg13 arg14 harg14 x1 x2 x3 y) = arg11.view.readCov (laterL11 c (grid0.coords t) arg3 harg3 arg4 harg4 arg5 harg5 arg6 harg6 arg7 harg7 arg8 harg8 arg9 harg9 arg10 harg10 arg11 harg11 arg12 harg12 arg13 harg13 arg14 harg14 x1 x2 x3 y) (rs 1024 (by decide)).toLoadRect := by
      delta laterRun.sl.v320 laterL11; with_reducible rfl
    rw [e]
    delta View.readCov
    exact Raws.sr hR 1024 _
  have s3 : SR K (Qm q) (1024 * (t.val % 16 - 1)) 1536 (laterRun.sl.v342 c (grid0.coords t) arg3 harg3 arg4 harg4 arg5 harg5 arg6 harg6 arg7 harg7 arg8 harg8 arg9 harg9 arg10 harg10 arg11 harg11 arg12 harg12 arg13 harg13 arg14 harg14 x1 x2 x3 y) := by
    have e : (laterRun.sl.v342 c (grid0.coords t) arg3 harg3 arg4 harg4 arg5 harg5 arg6 harg6 arg7 harg7 arg8 harg8 arg9 harg9 arg10 harg10 arg11 harg11 arg12 harg12 arg13 harg13 arg14 harg14 x1 x2 x3 y) = arg11.view.readCov (laterL11 c (grid0.coords t) arg3 harg3 arg4 harg4 arg5 harg5 arg6 harg6 arg7 harg7 arg8 harg8 arg9 harg9 arg10 harg10 arg11 harg11 arg12 harg12 arg13 harg13 arg14 harg14 x1 x2 x3 y) (rs 1536 (by decide)).toLoadRect := by
      delta laterRun.sl.v342 laterL11; with_reducible rfl
    rw [e]
    delta View.readCov
    exact Raws.sr hR 1536 _
  exact later_tileA c (grid0.coords t) arg3 harg3 arg4 harg4 arg5 harg5 arg6 harg6 arg7 harg7 arg8 harg8 arg9 harg9 arg10 harg10 arg11 harg11 arg12 harg12 arg13 harg13 arg14 harg14 hc0 x1 x2 x3 y hS (fun e r => vtile_real (fun e r => vals_real _ _ h6 _ ((off8_2 t hT).trans (by congr 3; omega)) e r) p111_apply e r) (s0.scs (fun n c' hn => hIn.hW n c' (by omega))) (s1.scs (fun n c' hn => hIn.hW n c' (by omega))) (s2.scs (fun n c' hn => hIn.hW n c' (by omega))) (s3.scs (fun n c' hn => hIn.hW n c' (by omega)))

/-- The state after tile step B of the body. -/
theorem laterRun_stB (hIn : Ins (t.val % 16) x1 x2 x3 x4 q K V W) (hT : 1 ≤ t.val % 16) :
    StAll arg13.view arg14.view (arg13.view.writes (Elt Ideal) arg13.view.junk (laterRun.sl.HS3_8 c (grid0.coords t) arg3 harg3 arg4 harg4 arg5 harg5 arg6 harg6 arg7 harg7 arg8 harg8 arg9 harg9 arg10 harg10 arg11 harg11 arg12 harg12 arg13 harg13 arg14 harg14 hc0 x1 x2 x3 x4 y)) (arg14.view.writes (Elt Ideal) arg14.view.junk (laterRun.sl.HS4_8 c (grid0.coords t) arg3 harg3 arg4 harg4 arg5 harg5 arg6 harg6 arg7 harg7 arg8 harg8 arg9 harg9 arg10 harg10 arg11 harg11 arg12 harg12 arg13 harg13 arg14 harg14 hc0 x1 x2 x3 x4 y)) (Tsum V W (((1024 * (t.val % 16 - 1)) + 512) + 512)) := by
  have h5 : ∀ (n : ℕ) (hn : n < 16384) (d : Fin 128), arg5.view.read (Elt Ideal) (harg5.unread x2) (ix2 ⟨n, hn⟩ d) = ((K n d : ℝ) : EReal) := by
    rw [harg5.read_unread]; exact hIn.h2
  have h6 : ∀ (e : Fin 128) (n : ℕ) (hn : n < 16384), arg6.view.read (Elt Ideal) (harg6.unread x3) (ix3 0 e ⟨n, hn⟩) = ((V e n : ℝ) : EReal) := by
    rw [harg6.read_unread]; exact hIn.h3
  have h10 := laterRun_q c t arg4 harg4 arg10 x1 x2 x3 x4 hIn
  have hF : Raws K (Qm q) ((1024 * (t.val % 16 - 1)) + 512) (laterRun.sl.v267 c (grid0.coords t) arg4 harg4 arg5 harg5 arg10 hc0 x1 x2) := by
    delta laterRun.sl.v267 laterRun.sl.v264 laterRun.sl.v262 laterRun.sl.cst_141
    refine (congrArg (Raws K (Qm q) ((1024 * (t.val % 16 - 1)) + 512)) (cast_qk _ _ _ _)).mpr (qk_raws (fun r d => ?_) (fun d c' => ?_))
    · exact keys_real _ _ h5 _ ((off7_0 t hT).trans (by congr 1; omega)) r d
    · delta laterRun.sl.v263 View.readCov
      exact query_real _ _ h10 _ d c'
  have s0 : SR K (Qm q) ((1024 * (t.val % 16 - 1)) + 512) 0 (laterRun.sl.v385 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v385 laterRun.sl.HS2_1 View.readCov
    exact SR.fill hF 0 _
  have s1 : SR K (Qm q) ((1024 * (t.val % 16 - 1)) + 512) 512 (laterRun.sl.v409 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v409 laterRun.sl.HS2_1 View.readCov
    exact SR.fill hF 512 _
  have s2 : SR K (Qm q) ((1024 * (t.val % 16 - 1)) + 512) 1024 (laterRun.sl.v433 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v433 laterRun.sl.HS2_1 View.readCov
    exact SR.fill hF 1024 _
  have s3 : SR K (Qm q) ((1024 * (t.val % 16 - 1)) + 512) 1536 (laterRun.sl.v457 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v457 laterRun.sl.HS2_1 View.readCov
    exact SR.fill hF 1536 _
  exact later_tileB c (grid0.coords t) arg3 harg3 arg4 harg4 arg5 harg5 arg6 harg6 arg7 harg7 arg8 harg8 arg9 harg9 arg10 harg10 arg11 harg11 arg12 harg12 arg13 harg13 arg14 harg14 hc0 x1 x2 x3 x4 y (laterRun_stA c t arg3 harg3 arg4 harg4 arg5 harg5 arg6 harg6 arg7 harg7 arg8 harg8 arg9 harg9 arg10 harg10 arg11 harg11 arg12 harg12 arg13 harg13 arg14 harg14 hc0 x1 x2 x3 x4 y hIn hT) (fun e r => vtile_real (fun e r => vals_real _ _ h6 _ ((off8_1 t hT).trans (by congr 3; omega)) e r) p111_apply e r) (s0.biased (k := 0) (by omega) (o' := 0) (by norm_num) (by norm_num) (fun r c' => hIn.hb 0 r c' _ (by show _ = 1024 * (t.val % 16) + 512 * 0 + r.val; omega)) (fun j => hIn.hx 0 _ (fun h => by simp at h))) (s1.biased (k := 0) (by omega) (o' := 512) (by norm_num) (by norm_num) (fun r c' => hIn.hb 0 r c' _ (by show _ = 1024 * (t.val % 16) + 512 * 0 + r.val; omega)) (fun j => hIn.hx 0 _ (fun h => by simp at h))) (s2.biased (k := 0) (by omega) (o' := 0) (by norm_num) (by norm_num) (fun r c' => hIn.hb 0 r c' _ (by show _ = 1024 * (t.val % 16) + 512 * 0 + r.val; omega)) (fun j => hIn.hx 0 _ (fun h => by simp at h))) (s3.biased (k := 0) (by omega) (o' := 512) (by norm_num) (by norm_num) (fun r c' => hIn.hb 0 r c' _ (by show _ = 1024 * (t.val % 16) + 512 * 0 + r.val; omega)) (fun j => hIn.hx 0 _ (fun h => by simp at h)))

/-- The state after tile step C of the body. -/
theorem laterRun_stC (hIn : Ins (t.val % 16) x1 x2 x3 x4 q K V W) (hT : 1 ≤ t.val % 16) :
    StAll arg13.view arg14.view (arg13.view.writes (Elt Ideal) arg13.view.junk (laterRun.sl.HS3_12 c (grid0.coords t) arg3 harg3 arg4 harg4 arg5 harg5 arg6 harg6 arg7 harg7 arg8 harg8 arg9 harg9 arg10 harg10 arg11 harg11 arg12 harg12 arg13 harg13 arg14 harg14 hc0 x1 x2 x3 x4 y)) (arg14.view.writes (Elt Ideal) arg14.view.junk (laterRun.sl.HS4_12 c (grid0.coords t) arg3 harg3 arg4 harg4 arg5 harg5 arg6 harg6 arg7 harg7 arg8 harg8 arg9 harg9 arg10 harg10 arg11 harg11 arg12 harg12 arg13 harg13 arg14 harg14 hc0 x1 x2 x3 x4 y)) (Tsum V W (((1024 * (t.val % 16 - 1)) + 512 + 512) + 512)) := by
  have h5 : ∀ (n : ℕ) (hn : n < 16384) (d : Fin 128), arg5.view.read (Elt Ideal) (harg5.unread x2) (ix2 ⟨n, hn⟩ d) = ((K n d : ℝ) : EReal) := by
    rw [harg5.read_unread]; exact hIn.h2
  have h6 : ∀ (e : Fin 128) (n : ℕ) (hn : n < 16384), arg6.view.read (Elt Ideal) (harg6.unread x3) (ix3 0 e ⟨n, hn⟩) = ((V e n : ℝ) : EReal) := by
    rw [harg6.read_unread]; exact hIn.h3
  have h10 := laterRun_q c t arg4 harg4 arg10 x1 x2 x3 x4 hIn
  have hF : Raws K (Qm q) ((1024 * (t.val % 16 - 1)) + 512 + 512) (laterRun.sl.v374 c (grid0.coords t) arg4 harg4 arg5 harg5 arg10 hc0 x1 x2) := by
    delta laterRun.sl.v374 laterRun.sl.v371 laterRun.sl.v369 laterRun.sl.cst_141
    refine (congrArg (Raws K (Qm q) ((1024 * (t.val % 16 - 1)) + 512 + 512)) (cast_qk _ _ _ _)).mpr (qk_raws (fun r d => ?_) (fun d c' => ?_))
    · exact keys_real _ _ h5 _ ((off9_0 t).trans (by congr 1; omega)) r d
    · delta laterRun.sl.v263 View.readCov
      exact query_real _ _ h10 _ d c'
  have s0 : SR K (Qm q) ((1024 * (t.val % 16 - 1)) + 512 + 512) 0 (laterRun.sl.v70 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v70 laterRun.sl.HS1_1_1 View.readCov
    exact SR.fill hF 0 _
  have s1 : SR K (Qm q) ((1024 * (t.val % 16 - 1)) + 512 + 512) 512 (laterRun.sl.v94 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v94 laterRun.sl.HS1_1_1 View.readCov
    exact SR.fill hF 512 _
  have s2 : SR K (Qm q) ((1024 * (t.val % 16 - 1)) + 512 + 512) 1024 (laterRun.sl.v118 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v118 laterRun.sl.HS1_1_1 View.readCov
    exact SR.fill hF 1024 _
  have s3 : SR K (Qm q) ((1024 * (t.val % 16 - 1)) + 512 + 512) 1536 (laterRun.sl.v142 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v142 laterRun.sl.HS1_1_1 View.readCov
    exact SR.fill hF 1536 _
  exact later_tileC c (grid0.coords t) arg3 harg3 arg4 harg4 arg5 harg5 arg6 harg6 arg7 harg7 arg8 harg8 arg9 harg9 arg10 harg10 arg11 harg11 arg12 harg12 arg13 harg13 arg14 harg14 hc0 x1 x2 x3 x4 y (laterRun_stB c t arg3 harg3 arg4 harg4 arg5 harg5 arg6 harg6 arg7 harg7 arg8 harg8 arg9 harg9 arg10 harg10 arg11 harg11 arg12 harg12 arg13 harg13 arg14 harg14 hc0 x1 x2 x3 x4 y hIn hT) (fun e r => vtile_real (fun e r => vals_real _ _ h6 _ ((off11_0 t).trans (by congr 3; omega)) e r) p111_apply e r) (s0.biased (k := 1) (by omega) (o' := 0) (by norm_num) (by norm_num) (fun r c' => hIn.hb 1 r c' _ (by show _ = 1024 * (t.val % 16) + 512 * 1 + r.val; omega)) (fun j => hIn.hx 1 _ (fun h => by simp at h))) (s1.biased (k := 1) (by omega) (o' := 512) (by norm_num) (by norm_num) (fun r c' => hIn.hb 1 r c' _ (by show _ = 1024 * (t.val % 16) + 512 * 1 + r.val; omega)) (fun j => hIn.hx 1 _ (fun h => by simp at h))) (s2.biased (k := 1) (by omega) (o' := 0) (by norm_num) (by norm_num) (fun r c' => hIn.hb 1 r c' _ (by show _ = 1024 * (t.val % 16) + 512 * 1 + r.val; omega)) (fun j => hIn.hx 1 _ (fun h => by simp at h))) (s3.biased (k := 1) (by omega) (o' := 512) (by norm_num) (by norm_num) (fun r c' => hIn.hb 1 r c' _ (by show _ = 1024 * (t.val % 16) + 512 * 1 + r.val; omega)) (fun j => hIn.hx 1 _ (fun h => by simp at h)))

/-- The state after tile step D of the body. -/
theorem laterRun_stD (hIn : Ins (t.val % 16) x1 x2 x3 x4 q K V W) (hT : 1 ≤ t.val % 16) :
    ∃ M, StAll arg13.view arg14.view (arg13.view.writes (Elt Ideal) arg13.view.junk M) (arg14.view.writes (Elt Ideal) arg14.view.junk (laterRun.sl.HS4_14 c (grid0.coords t) arg3 harg3 arg4 harg4 arg5 harg5 arg6 harg6 arg7 harg7 arg8 harg8 arg9 harg9 arg10 harg10 arg11 harg11 arg12 harg12 arg13 harg13 arg14 harg14 hc0 x1 x2 x3 x4 y)) (Tsum V W (((1024 * (t.val % 16 - 1)) + 512 + 512 + 512) + 512)) := by
  have h5 : ∀ (n : ℕ) (hn : n < 16384) (d : Fin 128), arg5.view.read (Elt Ideal) (harg5.unread x2) (ix2 ⟨n, hn⟩ d) = ((K n d : ℝ) : EReal) := by
    rw [harg5.read_unread]; exact hIn.h2
  have h6 : ∀ (e : Fin 128) (n : ℕ) (hn : n < 16384), arg6.view.read (Elt Ideal) (harg6.unread x3) (ix3 0 e ⟨n, hn⟩) = ((V e n : ℝ) : EReal) := by
    rw [harg6.read_unread]; exact hIn.h3
  have h10 := laterRun_q c t arg4 harg4 arg10 x1 x2 x3 x4 hIn
  have s0 : SR K (Qm q) ((1024 * (t.val % 16 - 1)) + 512 + 512 + 512) 512 (laterRun.sl.v176 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v176 laterRun.sl.HS2_3 View.readCov
    refine SR.skip ((congrArg (SR K (Qm q) ((1024 * (t.val % 16 - 1)) + 512 + 512 + 512) 512) (p119_qk _ _)).mpr (qkH_real (fun r d => ?_) (fun d j => ?_))) _ _
    · exact keys_real _ _ h5 _ ((off10_0 t).trans (by congr 1; omega)) r d
    · delta laterRun.sl.v51 View.readCov
      exact query_blk h10 512 _ d j
  have s1 : SR K (Qm q) ((1024 * (t.val % 16 - 1)) + 512 + 512 + 512) 1536 (laterRun.sl.v200 c (grid0.coords t) arg3 harg3 arg4 harg4 arg5 harg5 arg6 harg6 arg7 harg7 arg8 harg8 arg9 harg9 arg10 harg10 arg11 harg11 arg12 harg12 arg13 harg13 arg14 harg14 hc0 x1 x2 x3 y) := by
    delta laterRun.sl.v200 laterRun.sl.HS2_3 laterRun.sl.r_1 View.readCov
    refine SR.hit ((congrArg (SR K (Qm q) ((1024 * (t.val % 16 - 1)) + 512 + 512 + 512) 1536) (p120_qk _ _)).mpr (qkH_real (fun r d => ?_) (fun d j => ?_))) _
    · exact keys_real _ _ h5 _ ((off10_0 t).trans (by congr 1; omega)) r d
    · delta laterRun.sl.v56 View.readCov
      exact query_blk h10 1536 _ d j
  exact later_tileD c (grid0.coords t) arg3 harg3 arg4 harg4 arg5 harg5 arg6 harg6 arg7 harg7 arg8 harg8 arg9 harg9 arg10 harg10 arg11 harg11 arg12 harg12 arg13 harg13 arg14 harg14 hc0 x1 x2 x3 x4 y (laterRun_stC c t arg3 harg3 arg4 harg4 arg5 harg5 arg6 harg6 arg7 harg7 arg8 harg8 arg9 harg9 arg10 harg10 arg11 harg11 arg12 harg12 arg13 harg13 arg14 harg14 hc0 x1 x2 x3 x4 y hIn hT) (fun e r => vtile_real (fun e r => vals_real _ _ h6 _ ((off12_0 t).trans (by congr 3; omega)) e r) p111_apply e r) (s0.biased (k := 2) (by omega) (o' := 512) (by norm_num) (by norm_num) (fun r c' => hIn.hb 2 r c' _ (by show _ = 1024 * (t.val % 16) + 512 * 2 + r.val; omega)) (fun j => hIn.hx 2 _ (fun _ => by show 512 ≤ 512 + j.val; omega))) (s1.biased (k := 2) (by omega) (o' := 512) (by norm_num) (by norm_num) (fun r c' => hIn.hb 2 r c' _ (by show _ = 1024 * (t.val % 16) + 512 * 2 + r.val; omega)) (fun j => hIn.hx 2 _ (fun _ => by show 512 ≤ 512 + j.val; omega))) (fun r j => by have := hIn.hz r (0 + j.val) (by omega); rw [← this]; congr 1; omega) (fun r j => by have := hIn.hz r (1024 + j.val) (by omega); rw [← this]; congr 1; omega)

end Cert.KernelIdeal.Attn
-- ==== Proof.Attn.First.lean ====
/-
The first body's two tiles, `0` and `1`, each with its bias.
-/
module

public import proofs.«01_k».proof.Proof.Attn.Tiles
public import proofs.«01_k».proof.Proof.Attn.RunA

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (c : Dev nD) (i : grid0.Coords) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole) (hc0 : ¬cond i)
  (x0 : Vec Ideal S1 .f32) (x1 : Vec Ideal S1x128x1024 .bf16) (x2 : Vec Ideal S16384x128 .bf16) (x3 : Vec Ideal S1x128x16384 .bf16) (x4 : Vec Ideal S1x3x512x1024 .f32) (x5 : Vec Ideal S128x1024 .f32) (y : Vec Ideal S512x2048 .f32)

variable {K : ℕ → Fin 128 → ℝ} {Q : Fin 128 → ℕ → ℝ} {V : Fin 128 → ℕ → ℝ} {W : ℕ → ℕ → ℝ} {N : ℕ}

/-- The pieces stored before the peeled tiles. -/
abbrev firstL11 : List (View.Piece (Elt Ideal) S512x2048 .f32) :=
  (pb_k0_t2 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (firstRun.sl.v40 i) (harg5.unread x2) (harg6.unread x3) (arg10.view.writes (Elt Ideal) arg10.view.junk (firstRun.sl.HS0_2 c arg4 harg4 x1)) (arg11.view.writes (Elt Ideal) arg11.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).1 ++ firstRun.sl.HS1_1 c arg4 harg4 arg5 harg5 arg10 x1 x2)) (arg12.view.writes (Elt Ideal) (harg12.unread y) (pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.1) (arg13.view.writes (Elt Ideal) arg13.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.2.1 ++ firstRun.sl.HS3_1)) (arg14.view.writes (Elt Ideal) arg14.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.2.2 ++ firstRun.sl.HS4_1)) (Scf.trips (k0_t2_loop i).lb (k0_t2_loop i).ub (k0_t2_loop i).st)).1 ++ ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).1 ++ firstRun.sl.HS1_1 c arg4 harg4 arg5 harg5 arg10 x1 x2)

/-- The pieces stored before the peeled tiles. -/
abbrev firstL13 : List (View.Piece (Elt Ideal) S1x2048 .f32) :=
  ((pb_k0_t2 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (firstRun.sl.v40 i) (harg5.unread x2) (harg6.unread x3) (arg10.view.writes (Elt Ideal) arg10.view.junk (firstRun.sl.HS0_2 c arg4 harg4 x1)) (arg11.view.writes (Elt Ideal) arg11.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).1 ++ firstRun.sl.HS1_1 c arg4 harg4 arg5 harg5 arg10 x1 x2)) (arg12.view.writes (Elt Ideal) (harg12.unread y) (pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.1) (arg13.view.writes (Elt Ideal) arg13.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.2.1 ++ firstRun.sl.HS3_1)) (arg14.view.writes (Elt Ideal) arg14.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.2.2 ++ firstRun.sl.HS4_1)) (Scf.trips (k0_t2_loop i).lb (k0_t2_loop i).ub (k0_t2_loop i).st)).2.2.1 ++ ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.2.1 ++ firstRun.sl.HS3_1))

/-- The pieces stored before the peeled tiles. -/
abbrev firstL14 : List (View.Piece (Elt Ideal) S144x2048 .f32) :=
  ((pb_k0_t2 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (firstRun.sl.v40 i) (harg5.unread x2) (harg6.unread x3) (arg10.view.writes (Elt Ideal) arg10.view.junk (firstRun.sl.HS0_2 c arg4 harg4 x1)) (arg11.view.writes (Elt Ideal) arg11.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).1 ++ firstRun.sl.HS1_1 c arg4 harg4 arg5 harg5 arg10 x1 x2)) (arg12.view.writes (Elt Ideal) (harg12.unread y) (pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.1) (arg13.view.writes (Elt Ideal) arg13.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.2.1 ++ firstRun.sl.HS3_1)) (arg14.view.writes (Elt Ideal) arg14.view.junk ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.2.2 ++ firstRun.sl.HS4_1)) (Scf.trips (k0_t2_loop i).lb (k0_t2_loop i).ub (k0_t2_loop i).st)).2.2.2 ++ ((pb_k0_t1 Variants.none c none i arg3 harg3 arg4 harg4 arg5 harg5 arg6 harg6 arg7 harg7 arg8 harg8 arg9 harg9 arg10 harg10 arg11 harg11 arg12 harg12 arg13 harg13 arg14 harg14 (BitVec.ofNat 32 ↑(i 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop i).lb (k0_t1_loop i).ub (k0_t1_loop i).st)).2.2.2 ++ firstRun.sl.HS4_1))

/-- Tile `0`. -/
theorem first_tileC (h : StAll arg13.view arg14.view (arg13.view.writes (Elt Ideal) arg13.view.junk (firstL13 c i arg3 harg3 arg4 harg4 arg5 harg5 arg6 harg6 arg7 harg7 arg8 harg8 arg9 harg9 arg10 harg10 arg11 harg11 arg12 harg12 arg13 harg13 arg14 harg14 x1 x2 x3 y)) (arg14.view.writes (Elt Ideal) arg14.view.junk (firstL14 c i arg3 harg3 arg4 harg4 arg5 harg5 arg6 harg6 arg7 harg7 arg8 harg8 arg9 harg9 arg10 harg10 arg11 harg11 arg12 harg12 arg13 harg13 arg14 harg14 x1 x2 x3 y)) (Tsum V W N))
    (hV : ∀ e r, (vtile (arg6.view.readAt (Elt Ideal) (Rect.unit (s := S1x128x16384) (k0_off11 i) S1x128x512.size (k0_off11_inb i)).toLoadRect (harg6.unread x3)) k0_pay111) (ix2 e r) = ((Vext V e (N + r.val) : ℝ) : EReal))
    (h0 : Scs W N 0 (addf (firstRun.sl.v70 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)))
    (h1 : Scs W N 512 (addf (firstRun.sl.v94 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)))
    (h2 : Scs W N 1024 (addf (firstRun.sl.v118 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)))
    (h3 : Scs W N 1536 (addf (firstRun.sl.v142 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)))
    : StAll arg13.view arg14.view (arg13.view.writes (Elt Ideal) arg13.view.junk (firstRun.sl.HS3_4 c i arg3 harg3 arg4 harg4 arg5 harg5 arg6 harg6 arg7 harg7 arg8 harg8 arg9 harg9 arg10 harg10 arg11 harg11 arg12 harg12 arg13 harg13 arg14 harg14 x1 x2 x3 x4 y)) (arg14.view.writes (Elt Ideal) arg14.view.junk (firstRun.sl.HS4_4 c i arg3 harg3 arg4 harg4 arg5 harg5 arg6 harg6 arg7 harg7 arg8 harg8 arg9 harg9 arg10 harg10 arg11 harg11 arg12 harg12 arg13 harg13 arg14 harg14 x1 x2 x3 x4 y)) (Tsum V W (N + 512)) := by
  have em0 : (k0_pay126 (View.readAt (Elt Ideal) arg7.view (Rect.unit (s := S1x3x512x1024) ![0, 1, 0, 0] S1x1x512x1024.size inb_S1x3x512x1024_S1x1x512x1024_0_1_0_0).toLoadRect (harg7.unread x4)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y)) = mUp (addf (firstRun.sl.v70 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)) (firstRun.sl.v73 c i arg3 harg3 arg4 harg4 arg5 harg5 arg6 harg6 arg7 harg7 arg8 harg8 arg9 harg9 arg10 harg10 arg11 harg11 arg12 harg12 arg13 harg13 arg14 harg14 x1 x2 x3 y) := by simp only [k0_pay126, k0_pay124, k0_pay123, k0_pay121, mUp, bslice, shapeCast_id]
  have ea0 : (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y) (firstRun.sl.v83 c i arg3 harg3 arg4 harg4 arg5 harg5 arg6 harg6 arg7 harg7 arg8 harg8 arg9 harg9 arg10 harg10 arg11 harg11 arg12 harg12 arg13 harg13 arg14 harg14 x1 x2 x3 y)) = aUp (vtile (arg6.view.readAt (Elt Ideal) (Rect.unit (s := S1x128x16384) (k0_off11 i) S1x128x512.size (k0_off11_inb i)).toLoadRect (harg6.unread x3)) k0_pay111) (addf (firstRun.sl.v70 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)) (firstRun.sl.v73 c i arg3 harg3 arg4 harg4 arg5 harg5 arg6 harg6 arg7 harg7 arg8 harg8 arg9 harg9 arg10 harg10 arg11 harg11 arg12 harg12 arg13 harg13 arg14 harg14 x1 x2 x3 y) (firstRun.sl.v83 c i arg3 harg3 arg4 harg4 arg5 harg5 arg6 harg6 arg7 harg7 arg8 harg8 arg9 harg9 arg10 harg10 arg11 harg11 arg12 harg12 arg13 harg13 arg14 harg14 x1 x2 x3 y) := by simp only [k0_pay125, k0_pay124, k0_pay123, k0_pay121, k0_pay122, aUp, mUp, bslice, vtile, shapeCast_id]
  have el0 : (firstRun.sl.v73 c i arg3 harg3 arg4 harg4 arg5 harg5 arg6 harg6 arg7 harg7 arg8 harg8 arg9 harg9 arg10 harg10 arg11 harg11 arg12 harg12 arg13 harg13 arg14 harg14 x1 x2 x3 y) = arg13.view.readCov ((firstL13 c i arg3 harg3 arg4 harg4 arg5 harg5 arg6 harg6 arg7 harg7 arg8 harg8 arg9 harg9 arg10 harg10 arg11 harg11 arg12 harg12 arg13 harg13 arg14 harg14 x1 x2 x3 y)) (rm 0 (by decide)).toLoadRect := by
    delta firstRun.sl.v73
    with_reducible rfl
  have ek0 : (firstRun.sl.v83 c i arg3 harg3 arg4 harg4 arg5 harg5 arg6 harg6 arg7 harg7 arg8 harg8 arg9 harg9 arg10 harg10 arg11 harg11 arg12 harg12 arg13 harg13 arg14 harg14 x1 x2 x3 y) = arg14.view.readCov ((firstL14 c i arg3 harg3 arg4 harg4 arg5 harg5 arg6 harg6 arg7 harg7 arg8 harg8 arg9 harg9 arg10 harg10 arg11 harg11 arg12 harg12 arg13 harg13 arg14 harg14 x1 x2 x3 y)) (ra 0 (by decide)).toLoadRect := by
    delta firstRun.sl.v83
    with_reducible rfl
  have em1 : (k0_pay131 (firstRun.sl.v94 c i arg3 harg3 arg4 harg4 arg5 harg5 arg6 harg6 arg7 harg7 arg8 harg8 arg9 harg9 arg10 harg10 arg11 harg11 arg12 harg12 arg13 harg13 arg14 harg14 x1 x2 x3 y) (firstRun.sl.r_4 c arg7 harg7 x4) (firstRun.sl.v97 c i arg3 harg3 arg4 harg4 arg5 harg5 arg6 harg6 arg7 harg7 arg8 harg8 arg9 harg9 arg10 harg10 arg11 harg11 arg12 harg12 arg13 harg13 arg14 harg14 x1 x2 x3 x4 y)) = mUp (addf (firstRun.sl.v94 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)) (firstRun.sl.v97 c i arg3 harg3 arg4 harg4 arg5 harg5 arg6 harg6 arg7 harg7 arg8 harg8 arg9 harg9 arg10 harg10 arg11 harg11 arg12 harg12 arg13 harg13 arg14 harg14 x1 x2 x3 x4 y) := by simp only [k0_pay131, k0_pay129, k0_pay128, firstRun.sl.r_4, k0_pay127, k0_pay121, mUp, bslice, shapeCast_id]
  have ea1 : (k0_pay130 (firstRun.sl.r_3 i arg6 harg6 x3) (firstRun.sl.v94 c i arg3 harg3 arg4 harg4 arg5 harg5 arg6 harg6 arg7 harg7 arg8 harg8 arg9 harg9 arg10 harg10 arg11 harg11 arg12 harg12 arg13 harg13 arg14 harg14 x1 x2 x3 y) (firstRun.sl.r_4 c arg7 harg7 x4) (firstRun.sl.v97 c i arg3 harg3 arg4 harg4 arg5 harg5 arg6 harg6 arg7 harg7 arg8 harg8 arg9 harg9 arg10 harg10 arg11 harg11 arg12 harg12 arg13 harg13 arg14 harg14 x1 x2 x3 x4 y) (firstRun.sl.v107 c i arg3 harg3 arg4 harg4 arg5 harg5 arg6 harg6 arg7 harg7 arg8 harg8 arg9 harg9 arg10 harg10 arg11 harg11 arg12 harg12 arg13 harg13 arg14 harg14 x1 x2 x3 x4 y)) = aUp (vtile (arg6.view.readAt (Elt Ideal) (Rect.unit (s := S1x128x16384) (k0_off11 i) S1x128x512.size (k0_off11_inb i)).toLoadRect (harg6.unread x3)) k0_pay111) (addf (firstRun.sl.v94 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)) (firstRun.sl.v97 c i arg3 harg3 arg4 harg4 arg5 harg5 arg6 harg6 arg7 harg7 arg8 harg8 arg9 harg9 arg10 harg10 arg11 harg11 arg12 harg12 arg13 harg13 arg14 harg14 x1 x2 x3 x4 y) (firstRun.sl.v107 c i arg3 harg3 arg4 harg4 arg5 harg5 arg6 harg6 arg7 harg7 arg8 harg8 arg9 harg9 arg10 harg10 arg11 harg11 arg12 harg12 arg13 harg13 arg14 harg14 x1 x2 x3 x4 y) := by simp only [k0_pay130, k0_pay129, k0_pay128, firstRun.sl.r_3, k0_pay122, firstRun.sl.r_4, k0_pay127, k0_pay121, aUp, mUp, bslice, vtile, shapeCast_id]
  have el1 : (firstRun.sl.v97 c i arg3 harg3 arg4 harg4 arg5 harg5 arg6 harg6 arg7 harg7 arg8 harg8 arg9 harg9 arg10 harg10 arg11 harg11 arg12 harg12 arg13 harg13 arg14 harg14 x1 x2 x3 x4 y) = arg13.view.readCov (⟨rm 0 (by decide), (k0_pay126 (View.readAt (Elt Ideal) arg7.view (Rect.unit (s := S1x3x512x1024) ![0, 1, 0, 0] S1x1x512x1024.size inb_S1x3x512x1024_S1x1x512x1024_0_1_0_0).toLoadRect (harg7.unread x4)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y))⟩ :: (firstL13 c i arg3 harg3 arg4 harg4 arg5 harg5 arg6 harg6 arg7 harg7 arg8 harg8 arg9 harg9 arg10 harg10 arg11 harg11 arg12 harg12 arg13 harg13 arg14 harg14 x1 x2 x3 y)) (rm 512 (by decide)).toLoadRect := by
    delta firstRun.sl.v97 firstRun.sl.HS3_1_1
    with_reducible rfl
  have ek1 : (firstRun.sl.v107 c i arg3 harg3 arg4 harg4 arg5 harg5 arg6 harg6 arg7 harg7 arg8 harg8 arg9 harg9 arg10 harg10 arg11 harg11 arg12 harg12 arg13 harg13 arg14 harg14 x1 x2 x3 x4 y) = arg14.view.readCov (⟨ra 0 (by decide), (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y) (firstRun.sl.v83 c i arg3 harg3 arg4 harg4 arg5 harg5 arg6 harg6 arg7 harg7 arg8 harg8 arg9 harg9 arg10 harg10 arg11 harg11 arg12 harg12 arg13 harg13 arg14 harg14 x1 x2 x3 y))⟩ :: (firstL14 c i arg3 harg3 arg4 harg4 arg5 harg5 arg6 harg6 arg7 harg7 arg8 harg8 arg9 harg9 arg10 harg10 arg11 harg11 arg12 harg12 arg13 harg13 arg14 harg14 x1 x2 x3 y)) (ra 512 (by decide)).toLoadRect := by
    delta firstRun.sl.v107 firstRun.sl.HS4_1_1
    with_reducible rfl
  have em2 : (k0_pay136 (firstRun.sl.r_5 c i arg3 harg3 arg4 harg4 arg5 harg5 arg6 harg6 arg7 harg7 arg8 harg8 arg9 harg9 arg10 harg10 arg11 harg11 arg12 harg12 arg13 harg13 arg14 harg14 x1 x2 x3 x4 y)) = mUp (addf (firstRun.sl.v118 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)) (firstRun.sl.v121 c i arg3 harg3 arg4 harg4 arg5 harg5 arg6 harg6 arg7 harg7 arg8 harg8 arg9 harg9 arg10 harg10 arg11 harg11 arg12 harg12 arg13 harg13 arg14 harg14 x1 x2 x3 x4 y) := by simp only [k0_pay136, firstRun.sl.r_5, k0_pay133, k0_pay132, firstRun.sl.r_2, k0_pay121, mUp, bslice, shapeCast_id]
  have ea2 : (k0_pay135 (firstRun.sl.r_6 c i arg3 harg3 arg4 harg4 arg5 harg5 arg6 harg6 arg7 harg7 arg8 harg8 arg9 harg9 arg10 harg10 arg11 harg11 arg12 harg12 arg13 harg13 arg14 harg14 x1 x2 x3 x4 y)) = aUp (vtile (arg6.view.readAt (Elt Ideal) (Rect.unit (s := S1x128x16384) (k0_off11 i) S1x128x512.size (k0_off11_inb i)).toLoadRect (harg6.unread x3)) k0_pay111) (addf (firstRun.sl.v118 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 0 slices_S512x1024_o0_0_S512x512)) (firstRun.sl.v121 c i arg3 harg3 arg4 harg4 arg5 harg5 arg6 harg6 arg7 harg7 arg8 harg8 arg9 harg9 arg10 harg10 arg11 harg11 arg12 harg12 arg13 harg13 arg14 harg14 x1 x2 x3 x4 y) (firstRun.sl.v131 c i arg3 harg3 arg4 harg4 arg5 harg5 arg6 harg6 arg7 harg7 arg8 harg8 arg9 harg9 arg10 harg10 arg11 harg11 arg12 harg12 arg13 harg13 arg14 harg14 x1 x2 x3 x4 y) := by simp only [k0_pay135, firstRun.sl.r_6, k0_pay134, k0_pay133, k0_pay132, firstRun.sl.r_2, k0_pay121, firstRun.sl.r_3, k0_pay122, aUp, mUp, bslice, vtile, shapeCast_id]
  have el2 : (firstRun.sl.v121 c i arg3 harg3 arg4 harg4 arg5 harg5 arg6 harg6 arg7 harg7 arg8 harg8 arg9 harg9 arg10 harg10 arg11 harg11 arg12 harg12 arg13 harg13 arg14 harg14 x1 x2 x3 x4 y) = arg13.view.readCov (⟨rm 512 (by decide), (k0_pay131 (firstRun.sl.v94 c i arg3 harg3 arg4 harg4 arg5 harg5 arg6 harg6 arg7 harg7 arg8 harg8 arg9 harg9 arg10 harg10 arg11 harg11 arg12 harg12 arg13 harg13 arg14 harg14 x1 x2 x3 y) (firstRun.sl.r_4 c arg7 harg7 x4) (firstRun.sl.v97 c i arg3 harg3 arg4 harg4 arg5 harg5 arg6 harg6 arg7 harg7 arg8 harg8 arg9 harg9 arg10 harg10 arg11 harg11 arg12 harg12 arg13 harg13 arg14 harg14 x1 x2 x3 x4 y))⟩ :: ⟨rm 0 (by decide), (k0_pay126 (View.readAt (Elt Ideal) arg7.view (Rect.unit (s := S1x3x512x1024) ![0, 1, 0, 0] S1x1x512x1024.size inb_S1x3x512x1024_S1x1x512x1024_0_1_0_0).toLoadRect (harg7.unread x4)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y))⟩ :: (firstL13 c i arg3 harg3 arg4 harg4 arg5 harg5 arg6 harg6 arg7 harg7 arg8 harg8 arg9 harg9 arg10 harg10 arg11 harg11 arg12 harg12 arg13 harg13 arg14 harg14 x1 x2 x3 y)) (rm 1024 (by decide)).toLoadRect := by
    delta firstRun.sl.v121 firstRun.sl.HS3_2 firstRun.sl.HS3_1_1
    with_reducible rfl
  have ek2 : (firstRun.sl.v131 c i arg3 harg3 arg4 harg4 arg5 harg5 arg6 harg6 arg7 harg7 arg8 harg8 arg9 harg9 arg10 harg10 arg11 harg11 arg12 harg12 arg13 harg13 arg14 harg14 x1 x2 x3 x4 y) = arg14.view.readCov (⟨ra 512 (by decide), (k0_pay130 (firstRun.sl.r_3 i arg6 harg6 x3) (firstRun.sl.v94 c i arg3 harg3 arg4 harg4 arg5 harg5 arg6 harg6 arg7 harg7 arg8 harg8 arg9 harg9 arg10 harg10 arg11 harg11 arg12 harg12 arg13 harg13 arg14 harg14 x1 x2 x3 y) (firstRun.sl.r_4 c arg7 harg7 x4) (firstRun.sl.v97 c i arg3 harg3 arg4 harg4 arg5 harg5 arg6 harg6 arg7 harg7 arg8 harg8 arg9 harg9 arg10 harg10 arg11 harg11 arg12 harg12 arg13 harg13 arg14 harg14 x1 x2 x3 x4 y) (firstRun.sl.v107 c i arg3 harg3 arg4 harg4 arg5 harg5 arg6 harg6 arg7 harg7 arg8 harg8 arg9 harg9 arg10 harg10 arg11 harg11 arg12 harg12 arg13 harg13 arg14 harg14 x1 x2 x3 x4 y))⟩ :: ⟨ra 0 (by decide), (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y) (firstRun.sl.v83 c i arg3 harg3 arg4 harg4 arg5 harg5 arg6 harg6 arg7 harg7 arg8 harg8 arg9 harg9 arg10 harg10 arg11 harg11 arg12 harg12 arg13 harg13 arg14 harg14 x1 x2 x3 y))⟩ :: (firstL14 c i arg3 harg3 arg4 harg4 arg5 harg5 arg6 harg6 arg7 harg7 arg8 harg8 arg9 harg9 arg10 harg10 arg11 harg11 arg12 harg12 arg13 harg13 arg14 harg14 x1 x2 x3 y)) (ra 1024 (by decide)).toLoadRect := by
    delta firstRun.sl.v131 firstRun.sl.HS4_2 firstRun.sl.HS4_1_1
    with_reducible rfl
  have em3 : (k0_pay140 (firstRun.sl.r_2 c arg7 harg7 x4) (firstRun.sl.v142 c i arg3 harg3 arg4 harg4 arg5 harg5 arg6 harg6 arg7 harg7 arg8 harg8 arg9 harg9 arg10 harg10 arg11 harg11 arg12 harg12 arg13 harg13 arg14 harg14 x1 x2 x3 y) (firstRun.sl.v145 c i arg3 harg3 arg4 harg4 arg5 harg5 arg6 harg6 arg7 harg7 arg8 harg8 arg9 harg9 arg10 harg10 arg11 harg11 arg12 harg12 arg13 harg13 arg14 harg14 x1 x2 x3 x4 y)) = mUp (addf (firstRun.sl.v142 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)) (firstRun.sl.v145 c i arg3 harg3 arg4 harg4 arg5 harg5 arg6 harg6 arg7 harg7 arg8 harg8 arg9 harg9 arg10 harg10 arg11 harg11 arg12 harg12 arg13 harg13 arg14 harg14 x1 x2 x3 x4 y) := by simp only [k0_pay140, k0_pay138, k0_pay137, firstRun.sl.r_2, k0_pay121, mUp, bslice, shapeCast_id]
  have ea3 : (k0_pay139 (firstRun.sl.r_2 c arg7 harg7 x4) (firstRun.sl.r_3 i arg6 harg6 x3) (firstRun.sl.v142 c i arg3 harg3 arg4 harg4 arg5 harg5 arg6 harg6 arg7 harg7 arg8 harg8 arg9 harg9 arg10 harg10 arg11 harg11 arg12 harg12 arg13 harg13 arg14 harg14 x1 x2 x3 y) (firstRun.sl.v145 c i arg3 harg3 arg4 harg4 arg5 harg5 arg6 harg6 arg7 harg7 arg8 harg8 arg9 harg9 arg10 harg10 arg11 harg11 arg12 harg12 arg13 harg13 arg14 harg14 x1 x2 x3 x4 y) (firstRun.sl.v155 c i arg3 harg3 arg4 harg4 arg5 harg5 arg6 harg6 arg7 harg7 arg8 harg8 arg9 harg9 arg10 harg10 arg11 harg11 arg12 harg12 arg13 harg13 arg14 harg14 x1 x2 x3 x4 y)) = aUp (vtile (arg6.view.readAt (Elt Ideal) (Rect.unit (s := S1x128x16384) (k0_off11 i) S1x128x512.size (k0_off11_inb i)).toLoadRect (harg6.unread x3)) k0_pay111) (addf (firstRun.sl.v142 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 1, 0, 0] S1x1x512x1024.size inb_S1x3x512x1024_S1x1x512x1024_0_1_0_0).toLoadRect (harg7.unread x4)) 512 slices_S512x1024_o0_512_S512x512)) (firstRun.sl.v145 c i arg3 harg3 arg4 harg4 arg5 harg5 arg6 harg6 arg7 harg7 arg8 harg8 arg9 harg9 arg10 harg10 arg11 harg11 arg12 harg12 arg13 harg13 arg14 harg14 x1 x2 x3 x4 y) (firstRun.sl.v155 c i arg3 harg3 arg4 harg4 arg5 harg5 arg6 harg6 arg7 harg7 arg8 harg8 arg9 harg9 arg10 harg10 arg11 harg11 arg12 harg12 arg13 harg13 arg14 harg14 x1 x2 x3 x4 y) := by simp only [k0_pay139, k0_pay138, k0_pay137, firstRun.sl.r_2, k0_pay121, firstRun.sl.r_3, k0_pay122, aUp, mUp, bslice, vtile, shapeCast_id]
  have el3 : (firstRun.sl.v145 c i arg3 harg3 arg4 harg4 arg5 harg5 arg6 harg6 arg7 harg7 arg8 harg8 arg9 harg9 arg10 harg10 arg11 harg11 arg12 harg12 arg13 harg13 arg14 harg14 x1 x2 x3 x4 y) = arg13.view.readCov (⟨rm 1024 (by decide), (k0_pay136 (firstRun.sl.r_5 c i arg3 harg3 arg4 harg4 arg5 harg5 arg6 harg6 arg7 harg7 arg8 harg8 arg9 harg9 arg10 harg10 arg11 harg11 arg12 harg12 arg13 harg13 arg14 harg14 x1 x2 x3 x4 y))⟩ :: ⟨rm 512 (by decide), (k0_pay131 (firstRun.sl.v94 c i arg3 harg3 arg4 harg4 arg5 harg5 arg6 harg6 arg7 harg7 arg8 harg8 arg9 harg9 arg10 harg10 arg11 harg11 arg12 harg12 arg13 harg13 arg14 harg14 x1 x2 x3 y) (firstRun.sl.r_4 c arg7 harg7 x4) (firstRun.sl.v97 c i arg3 harg3 arg4 harg4 arg5 harg5 arg6 harg6 arg7 harg7 arg8 harg8 arg9 harg9 arg10 harg10 arg11 harg11 arg12 harg12 arg13 harg13 arg14 harg14 x1 x2 x3 x4 y))⟩ :: ⟨rm 0 (by decide), (k0_pay126 (View.readAt (Elt Ideal) arg7.view (Rect.unit (s := S1x3x512x1024) ![0, 1, 0, 0] S1x1x512x1024.size inb_S1x3x512x1024_S1x1x512x1024_0_1_0_0).toLoadRect (harg7.unread x4)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y))⟩ :: (firstL13 c i arg3 harg3 arg4 harg4 arg5 harg5 arg6 harg6 arg7 harg7 arg8 harg8 arg9 harg9 arg10 harg10 arg11 harg11 arg12 harg12 arg13 harg13 arg14 harg14 x1 x2 x3 y)) (rm 1536 (by decide)).toLoadRect := by
    delta firstRun.sl.v145 firstRun.sl.HS3_3 firstRun.sl.HS3_2 firstRun.sl.HS3_1_1
    with_reducible rfl
  have ek3 : (firstRun.sl.v155 c i arg3 harg3 arg4 harg4 arg5 harg5 arg6 harg6 arg7 harg7 arg8 harg8 arg9 harg9 arg10 harg10 arg11 harg11 arg12 harg12 arg13 harg13 arg14 harg14 x1 x2 x3 x4 y) = arg14.view.readCov (⟨ra 1024 (by decide), (k0_pay135 (firstRun.sl.r_6 c i arg3 harg3 arg4 harg4 arg5 harg5 arg6 harg6 arg7 harg7 arg8 harg8 arg9 harg9 arg10 harg10 arg11 harg11 arg12 harg12 arg13 harg13 arg14 harg14 x1 x2 x3 x4 y))⟩ :: ⟨ra 512 (by decide), (k0_pay130 (firstRun.sl.r_3 i arg6 harg6 x3) (firstRun.sl.v94 c i arg3 harg3 arg4 harg4 arg5 harg5 arg6 harg6 arg7 harg7 arg8 harg8 arg9 harg9 arg10 harg10 arg11 harg11 arg12 harg12 arg13 harg13 arg14 harg14 x1 x2 x3 y) (firstRun.sl.r_4 c arg7 harg7 x4) (firstRun.sl.v97 c i arg3 harg3 arg4 harg4 arg5 harg5 arg6 harg6 arg7 harg7 arg8 harg8 arg9 harg9 arg10 harg10 arg11 harg11 arg12 harg12 arg13 harg13 arg14 harg14 x1 x2 x3 x4 y) (firstRun.sl.v107 c i arg3 harg3 arg4 harg4 arg5 harg5 arg6 harg6 arg7 harg7 arg8 harg8 arg9 harg9 arg10 harg10 arg11 harg11 arg12 harg12 arg13 harg13 arg14 harg14 x1 x2 x3 x4 y))⟩ :: ⟨ra 0 (by decide), (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y) (firstRun.sl.v83 c i arg3 harg3 arg4 harg4 arg5 harg5 arg6 harg6 arg7 harg7 arg8 harg8 arg9 harg9 arg10 harg10 arg11 harg11 arg12 harg12 arg13 harg13 arg14 harg14 x1 x2 x3 y))⟩ :: (firstL14 c i arg3 harg3 arg4 harg4 arg5 harg5 arg6 harg6 arg7 harg7 arg8 harg8 arg9 harg9 arg10 harg10 arg11 harg11 arg12 harg12 arg13 harg13 arg14 harg14 x1 x2 x3 y)) (ra 1536 (by decide)).toLoadRect := by
    delta firstRun.sl.v155 firstRun.sl.HS4_3 firstRun.sl.HS4_2 firstRun.sl.HS4_1_1
    with_reducible rfl
  have eM : (firstRun.sl.HS3_4 c i arg3 harg3 arg4 harg4 arg5 harg5 arg6 harg6 arg7 harg7 arg8 harg8 arg9 harg9 arg10 harg10 arg11 harg11 arg12 harg12 arg13 harg13 arg14 harg14 x1 x2 x3 x4 y) = ⟨rm 1536 (by decide), (k0_pay140 (firstRun.sl.r_2 c arg7 harg7 x4) (firstRun.sl.v142 c i arg3 harg3 arg4 harg4 arg5 harg5 arg6 harg6 arg7 harg7 arg8 harg8 arg9 harg9 arg10 harg10 arg11 harg11 arg12 harg12 arg13 harg13 arg14 harg14 x1 x2 x3 y) (firstRun.sl.v145 c i arg3 harg3 arg4 harg4 arg5 harg5 arg6 harg6 arg7 harg7 arg8 harg8 arg9 harg9 arg10 harg10 arg11 harg11 arg12 harg12 arg13 harg13 arg14 harg14 x1 x2 x3 x4 y))⟩ :: ⟨rm 1024 (by decide), (k0_pay136 (firstRun.sl.r_5 c i arg3 harg3 arg4 harg4 arg5 harg5 arg6 harg6 arg7 harg7 arg8 harg8 arg9 harg9 arg10 harg10 arg11 harg11 arg12 harg12 arg13 harg13 arg14 harg14 x1 x2 x3 x4 y))⟩ :: ⟨rm 512 (by decide), (k0_pay131 (firstRun.sl.v94 c i arg3 harg3 arg4 harg4 arg5 harg5 arg6 harg6 arg7 harg7 arg8 harg8 arg9 harg9 arg10 harg10 arg11 harg11 arg12 harg12 arg13 harg13 arg14 harg14 x1 x2 x3 y) (firstRun.sl.r_4 c arg7 harg7 x4) (firstRun.sl.v97 c i arg3 harg3 arg4 harg4 arg5 harg5 arg6 harg6 arg7 harg7 arg8 harg8 arg9 harg9 arg10 harg10 arg11 harg11 arg12 harg12 arg13 harg13 arg14 harg14 x1 x2 x3 x4 y))⟩ :: ⟨rm 0 (by decide), (k0_pay126 (View.readAt (Elt Ideal) arg7.view (Rect.unit (s := S1x3x512x1024) ![0, 1, 0, 0] S1x1x512x1024.size inb_S1x3x512x1024_S1x1x512x1024_0_1_0_0).toLoadRect (harg7.unread x4)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y))⟩ :: (firstL13 c i arg3 harg3 arg4 harg4 arg5 harg5 arg6 harg6 arg7 harg7 arg8 harg8 arg9 harg9 arg10 harg10 arg11 harg11 arg12 harg12 arg13 harg13 arg14 harg14 x1 x2 x3 y) := by
    delta firstRun.sl.HS3_4 firstRun.sl.HS3_3 firstRun.sl.HS3_2 firstRun.sl.HS3_1_1
    with_reducible rfl
  have eA : (firstRun.sl.HS4_4 c i arg3 harg3 arg4 harg4 arg5 harg5 arg6 harg6 arg7 harg7 arg8 harg8 arg9 harg9 arg10 harg10 arg11 harg11 arg12 harg12 arg13 harg13 arg14 harg14 x1 x2 x3 x4 y) = ⟨ra 1536 (by decide), (k0_pay139 (firstRun.sl.r_2 c arg7 harg7 x4) (firstRun.sl.r_3 i arg6 harg6 x3) (firstRun.sl.v142 c i arg3 harg3 arg4 harg4 arg5 harg5 arg6 harg6 arg7 harg7 arg8 harg8 arg9 harg9 arg10 harg10 arg11 harg11 arg12 harg12 arg13 harg13 arg14 harg14 x1 x2 x3 y) (firstRun.sl.v145 c i arg3 harg3 arg4 harg4 arg5 harg5 arg6 harg6 arg7 harg7 arg8 harg8 arg9 harg9 arg10 harg10 arg11 harg11 arg12 harg12 arg13 harg13 arg14 harg14 x1 x2 x3 x4 y) (firstRun.sl.v155 c i arg3 harg3 arg4 harg4 arg5 harg5 arg6 harg6 arg7 harg7 arg8 harg8 arg9 harg9 arg10 harg10 arg11 harg11 arg12 harg12 arg13 harg13 arg14 harg14 x1 x2 x3 x4 y))⟩ :: ⟨ra 1024 (by decide), (k0_pay135 (firstRun.sl.r_6 c i arg3 harg3 arg4 harg4 arg5 harg5 arg6 harg6 arg7 harg7 arg8 harg8 arg9 harg9 arg10 harg10 arg11 harg11 arg12 harg12 arg13 harg13 arg14 harg14 x1 x2 x3 x4 y))⟩ :: ⟨ra 512 (by decide), (k0_pay130 (firstRun.sl.r_3 i arg6 harg6 x3) (firstRun.sl.v94 c i arg3 harg3 arg4 harg4 arg5 harg5 arg6 harg6 arg7 harg7 arg8 harg8 arg9 harg9 arg10 harg10 arg11 harg11 arg12 harg12 arg13 harg13 arg14 harg14 x1 x2 x3 y) (firstRun.sl.r_4 c arg7 harg7 x4) (firstRun.sl.v97 c i arg3 harg3 arg4 harg4 arg5 harg5 arg6 harg6 arg7 harg7 arg8 harg8 arg9 harg9 arg10 harg10 arg11 harg11 arg12 harg12 arg13 harg13 arg14 harg14 x1 x2 x3 x4 y) (firstRun.sl.v107 c i arg3 harg3 arg4 harg4 arg5 harg5 arg6 harg6 arg7 harg7 arg8 harg8 arg9 harg9 arg10 harg10 arg11 harg11 arg12 harg12 arg13 harg13 arg14 harg14 x1 x2 x3 x4 y))⟩ :: ⟨ra 0 (by decide), (k0_pay125 k0_pay111 (View.readAt (Elt Ideal) arg7.view (Rect.unit (s := S1x3x512x1024) ![0, 1, 0, 0] S1x1x512x1024.size inb_S1x3x512x1024_S1x1x512x1024_0_1_0_0).toLoadRect (harg7.unread x4)) (View.readAt (Elt Ideal) arg6.view (Rect.unit (s := S1x128x16384) (k0_off11 i) S1x128x512.size (k0_off11_inb i)).toLoadRect (harg6.unread x3)) (firstRun.sl.v70 c i arg3 harg3 arg4 harg4 arg5 harg5 arg6 harg6 arg7 harg7 arg8 harg8 arg9 harg9 arg10 harg10 arg11 harg11 arg12 harg12 arg13 harg13 arg14 harg14 x1 x2 x3 y) (firstRun.sl.v73 c i arg3 harg3 arg4 harg4 arg5 harg5 arg6 harg6 arg7 harg7 arg8 harg8 arg9 harg9 arg10 harg10 arg11 harg11 arg12 harg12 arg13 harg13 arg14 harg14 x1 x2 x3 y) (firstRun.sl.v83 c i arg3 harg3 arg4 harg4 arg5 harg5 arg6 harg6 arg7 harg7 arg8 harg8 arg9 harg9 arg10 harg10 arg11 harg11 arg12 harg12 arg13 harg13 arg14 harg14 x1 x2 x3 y))⟩ :: (firstL14 c i arg3 harg3 arg4 harg4 arg5 harg5 arg6 harg6 arg7 harg7 arg8 harg8 arg9 harg9 arg10 harg10 arg11 harg11 arg12 harg12 arg13 harg13 arg14 harg14 x1 x2 x3 y) := by
    delta firstRun.sl.HS4_4 firstRun.sl.HS4_3 firstRun.sl.HS4_2 firstRun.sl.HS4_1_1
    with_reducible rfl
  rw [eM, eA]
  exact StAll.tile4 (M := (firstL13 c i arg3 harg3 arg4 harg4 arg5 harg5 arg6 harg6 arg7 harg7 arg8 harg8 arg9 harg9 arg10 harg10 arg11 harg11 arg12 harg12 arg13 harg13 arg14 harg14 x1 x2 x3 y)) (A := (firstL14 c i arg3 harg3 arg4 harg4 arg5 harg5 arg6 harg6 arg7 harg7 arg8 harg8 arg9 harg9 arg10 harg10 arg11 harg11 arg12 harg12 arg13 harg13 arg14 harg14 x1 x2 x3 y)) h hV h0 h1 h2 h3 em0 ea0 em1 ea1 em2 ea2 em3 ea3 el0 ek0 el1 ek1 el2 ek2 el3 ek3

/-- Tile `1`, met by the second half of each head's columns. -/
theorem first_tileD (h : StAll arg13.view arg14.view (arg13.view.writes (Elt Ideal) arg13.view.junk (firstRun.sl.HS3_4 c i arg3 harg3 arg4 harg4 arg5 harg5 arg6 harg6 arg7 harg7 arg8 harg8 arg9 harg9 arg10 harg10 arg11 harg11 arg12 harg12 arg13 harg13 arg14 harg14 x1 x2 x3 x4 y)) (arg14.view.writes (Elt Ideal) arg14.view.junk (firstRun.sl.HS4_4 c i arg3 harg3 arg4 harg4 arg5 harg5 arg6 harg6 arg7 harg7 arg8 harg8 arg9 harg9 arg10 harg10 arg11 harg11 arg12 harg12 arg13 harg13 arg14 harg14 x1 x2 x3 x4 y)) (Tsum V W N))
    (hV : ∀ e r, (vtile (arg6.view.readAt (Elt Ideal) (Rect.unit (s := S1x128x16384) (k0_off12 i) S1x128x512.size (k0_off12_inb i)).toLoadRect (harg6.unread x3)) k0_pay111) (ix2 e r) = ((Vext V e (N + r.val) : ℝ) : EReal))
    (h0 : Scs W N 512 (addf (firstRun.sl.v176 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)))
    (h1 : Scs W N 1536 (addf (firstRun.sl.v200 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)))
    (z0 : ∀ r j : Fin 512, W (N + r.val) (0 + j.val) = 0) (z2 : ∀ r j : Fin 512, W (N + r.val) (1024 + j.val) = 0)
    : ∃ M, StAll arg13.view arg14.view (arg13.view.writes (Elt Ideal) arg13.view.junk M) (arg14.view.writes (Elt Ideal) arg14.view.junk (firstRun.sl.HS4_6 c i arg3 harg3 arg4 harg4 arg5 harg5 arg6 harg6 arg7 harg7 arg8 harg8 arg9 harg9 arg10 harg10 arg11 harg11 arg12 harg12 arg13 harg13 arg14 harg14 x1 x2 x3 x4 y)) (Tsum V W (N + 512)) := by
  have em0 : (k0_pay146 (firstRun.sl.r_7 c arg7 harg7 x4) (firstRun.sl.v176 c i arg3 harg3 arg4 harg4 arg5 harg5 arg6 harg6 arg7 harg7 arg8 harg8 arg9 harg9 arg10 harg10 arg11 harg11 arg12 harg12 arg13 harg13 arg14 harg14 x1 x2 x3 y) (firstRun.sl.v179 c i arg3 harg3 arg4 harg4 arg5 harg5 arg6 harg6 arg7 harg7 arg8 harg8 arg9 harg9 arg10 harg10 arg11 harg11 arg12 harg12 arg13 harg13 arg14 harg14 x1 x2 x3 x4 y)) = mUp (addf (firstRun.sl.v176 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)) (firstRun.sl.v179 c i arg3 harg3 arg4 harg4 arg5 harg5 arg6 harg6 arg7 harg7 arg8 harg8 arg9 harg9 arg10 harg10 arg11 harg11 arg12 harg12 arg13 harg13 arg14 harg14 x1 x2 x3 x4 y) := by simp only [k0_pay146, k0_pay144, k0_pay143, firstRun.sl.r_7, k0_pay141, mUp, bslice, shapeCast_id]
  have ea0 : (k0_pay145 k0_pay111 (firstRun.sl.r_7 c arg7 harg7 x4) (View.readAt (Elt Ideal) arg6.view (Rect.unit (s := S1x128x16384) (k0_off12 i) S1x128x512.size (k0_off12_inb i)).toLoadRect (harg6.unread x3)) (firstRun.sl.v176 c i arg3 harg3 arg4 harg4 arg5 harg5 arg6 harg6 arg7 harg7 arg8 harg8 arg9 harg9 arg10 harg10 arg11 harg11 arg12 harg12 arg13 harg13 arg14 harg14 x1 x2 x3 y) (firstRun.sl.v179 c i arg3 harg3 arg4 harg4 arg5 harg5 arg6 harg6 arg7 harg7 arg8 harg8 arg9 harg9 arg10 harg10 arg11 harg11 arg12 harg12 arg13 harg13 arg14 harg14 x1 x2 x3 x4 y) (firstRun.sl.v189 c i arg3 harg3 arg4 harg4 arg5 harg5 arg6 harg6 arg7 harg7 arg8 harg8 arg9 harg9 arg10 harg10 arg11 harg11 arg12 harg12 arg13 harg13 arg14 harg14 x1 x2 x3 x4 y)) = aUp (vtile (arg6.view.readAt (Elt Ideal) (Rect.unit (s := S1x128x16384) (k0_off12 i) S1x128x512.size (k0_off12_inb i)).toLoadRect (harg6.unread x3)) k0_pay111) (addf (firstRun.sl.v176 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)) (firstRun.sl.v179 c i arg3 harg3 arg4 harg4 arg5 harg5 arg6 harg6 arg7 harg7 arg8 harg8 arg9 harg9 arg10 harg10 arg11 harg11 arg12 harg12 arg13 harg13 arg14 harg14 x1 x2 x3 x4 y) (firstRun.sl.v189 c i arg3 harg3 arg4 harg4 arg5 harg5 arg6 harg6 arg7 harg7 arg8 harg8 arg9 harg9 arg10 harg10 arg11 harg11 arg12 harg12 arg13 harg13 arg14 harg14 x1 x2 x3 x4 y) := by simp only [k0_pay145, k0_pay144, k0_pay143, k0_pay142, firstRun.sl.r_7, k0_pay141, aUp, mUp, bslice, vtile, shapeCast_id]
  have el0 : (firstRun.sl.v179 c i arg3 harg3 arg4 harg4 arg5 harg5 arg6 harg6 arg7 harg7 arg8 harg8 arg9 harg9 arg10 harg10 arg11 harg11 arg12 harg12 arg13 harg13 arg14 harg14 x1 x2 x3 x4 y) = arg13.view.readCov ((firstRun.sl.HS3_4 c i arg3 harg3 arg4 harg4 arg5 harg5 arg6 harg6 arg7 harg7 arg8 harg8 arg9 harg9 arg10 harg10 arg11 harg11 arg12 harg12 arg13 harg13 arg14 harg14 x1 x2 x3 x4 y)) (rm 512 (by decide)).toLoadRect := by
    delta firstRun.sl.v179
    with_reducible rfl
  have ek0 : (firstRun.sl.v189 c i arg3 harg3 arg4 harg4 arg5 harg5 arg6 harg6 arg7 harg7 arg8 harg8 arg9 harg9 arg10 harg10 arg11 harg11 arg12 harg12 arg13 harg13 arg14 harg14 x1 x2 x3 x4 y) = arg14.view.readCov ((firstRun.sl.HS4_4 c i arg3 harg3 arg4 harg4 arg5 harg5 arg6 harg6 arg7 harg7 arg8 harg8 arg9 harg9 arg10 harg10 arg11 harg11 arg12 harg12 arg13 harg13 arg14 harg14 x1 x2 x3 x4 y)) (ra 512 (by decide)).toLoadRect := by
    delta firstRun.sl.v189
    with_reducible rfl
  have ea1 : (k0_pay150 (firstRun.sl.r_8 i arg6 harg6 x3) (firstRun.sl.r_9 c i arg3 harg3 arg4 harg4 arg5 harg5 arg6 harg6 arg7 harg7 arg8 harg8 arg9 harg9 arg10 harg10 arg11 harg11 arg12 harg12 arg13 harg13 arg14 harg14 x1 x2 x3 x4 y) (firstRun.sl.r_10 c i arg3 harg3 arg4 harg4 arg5 harg5 arg6 harg6 arg7 harg7 arg8 harg8 arg9 harg9 arg10 harg10 arg11 harg11 arg12 harg12 arg13 harg13 arg14 harg14 x1 x2 x3 x4 y) (firstRun.sl.r_11 c i arg3 harg3 arg4 harg4 arg5 harg5 arg6 harg6 arg7 harg7 arg8 harg8 arg9 harg9 arg10 harg10 arg11 harg11 arg12 harg12 arg13 harg13 arg14 harg14 x1 x2 x3 x4 y) (firstRun.sl.v213 c i arg3 harg3 arg4 harg4 arg5 harg5 arg6 harg6 arg7 harg7 arg8 harg8 arg9 harg9 arg10 harg10 arg11 harg11 arg12 harg12 arg13 harg13 arg14 harg14 x1 x2 x3 x4 y)) = aUp (vtile (arg6.view.readAt (Elt Ideal) (Rect.unit (s := S1x128x16384) (k0_off12 i) S1x128x512.size (k0_off12_inb i)).toLoadRect (harg6.unread x3)) k0_pay111) (addf (firstRun.sl.v200 c i arg3 harg3 arg4 harg4 arg5 harg5 arg6 harg6 arg7 harg7 arg8 harg8 arg9 harg9 arg10 harg10 arg11 harg11 arg12 harg12 arg13 harg13 arg14 harg14 x1 x2 x3 y) (bslice (arg7.view.readAt (Elt Ideal) (Rect.unit (s := S1x3x512x1024) ![0, 2, 0, 0] S1x1x512x1024.size inb_S1x3x512x1024_S1x1x512x1024_0_2_0_0).toLoadRect (harg7.unread x4)) 512 slices_S512x1024_o0_512_S512x512)) (firstRun.sl.v203 c i arg3 harg3 arg4 harg4 arg5 harg5 arg6 harg6 arg7 harg7 arg8 harg8 arg9 harg9 arg10 harg10 arg11 harg11 arg12 harg12 arg13 harg13 arg14 harg14 x1 x2 x3 x4 y) (firstRun.sl.v213 c i arg3 harg3 arg4 harg4 arg5 harg5 arg6 harg6 arg7 harg7 arg8 harg8 arg9 harg9 arg10 harg10 arg11 harg11 arg12 harg12 arg13 harg13 arg14 harg14 x1 x2 x3 x4 y) := by simp only [k0_pay150, firstRun.sl.r_8, k0_pay142, firstRun.sl.r_9, k0_pay147, firstRun.sl.r_7, k0_pay141, firstRun.sl.r_10, k0_pay148, firstRun.sl.r_11, k0_pay149, aUp, mUp, bslice, vtile, shapeCast_id]
  have el1 : (firstRun.sl.v203 c i arg3 harg3 arg4 harg4 arg5 harg5 arg6 harg6 arg7 harg7 arg8 harg8 arg9 harg9 arg10 harg10 arg11 harg11 arg12 harg12 arg13 harg13 arg14 harg14 x1 x2 x3 x4 y) = arg13.view.readCov (⟨rm 512 (by decide), (k0_pay146 (firstRun.sl.r_7 c arg7 harg7 x4) (firstRun.sl.v176 c i arg3 harg3 arg4 harg4 arg5 harg5 arg6 harg6 arg7 harg7 arg8 harg8 arg9 harg9 arg10 harg10 arg11 harg11 arg12 harg12 arg13 harg13 arg14 harg14 x1 x2 x3 y) (firstRun.sl.v179 c i arg3 harg3 arg4 harg4 arg5 harg5 arg6 harg6 arg7 harg7 arg8 harg8 arg9 harg9 arg10 harg10 arg11 harg11 arg12 harg12 arg13 harg13 arg14 harg14 x1 x2 x3 x4 y))⟩ :: (firstRun.sl.HS3_4 c i arg3 harg3 arg4 harg4 arg5 harg5 arg6 harg6 arg7 harg7 arg8 harg8 arg9 harg9 arg10 harg10 arg11 harg11 arg12 harg12 arg13 harg13 arg14 harg14 x1 x2 x3 x4 y)) (rm 1536 (by decide)).toLoadRect := by
    delta firstRun.sl.v203 firstRun.sl.HS3_5
    with_reducible rfl
  have ek1 : (firstRun.sl.v213 c i arg3 harg3 arg4 harg4 arg5 harg5 arg6 harg6 arg7 harg7 arg8 harg8 arg9 harg9 arg10 harg10 arg11 harg11 arg12 harg12 arg13 harg13 arg14 harg14 x1 x2 x3 x4 y) = arg14.view.readCov (⟨ra 512 (by decide), (k0_pay145 k0_pay111 (firstRun.sl.r_7 c arg7 harg7 x4) (View.readAt (Elt Ideal) arg6.view (Rect.unit (s := S1x128x16384) (k0_off12 i) S1x128x512.size (k0_off12_inb i)).toLoadRect (harg6.unread x3)) (firstRun.sl.v176 c i arg3 harg3 arg4 harg4 arg5 harg5 arg6 harg6 arg7 harg7 arg8 harg8 arg9 harg9 arg10 harg10 arg11 harg11 arg12 harg12 arg13 harg13 arg14 harg14 x1 x2 x3 y) (firstRun.sl.v179 c i arg3 harg3 arg4 harg4 arg5 harg5 arg6 harg6 arg7 harg7 arg8 harg8 arg9 harg9 arg10 harg10 arg11 harg11 arg12 harg12 arg13 harg13 arg14 harg14 x1 x2 x3 x4 y) (firstRun.sl.v189 c i arg3 harg3 arg4 harg4 arg5 harg5 arg6 harg6 arg7 harg7 arg8 harg8 arg9 harg9 arg10 harg10 arg11 harg11 arg12 harg12 arg13 harg13 arg14 harg14 x1 x2 x3 x4 y))⟩ :: (firstRun.sl.HS4_4 c i arg3 harg3 arg4 harg4 arg5 harg5 arg6 harg6 arg7 harg7 arg8 harg8 arg9 harg9 arg10 harg10 arg11 harg11 arg12 harg12 arg13 harg13 arg14 harg14 x1 x2 x3 x4 y)) (ra 1536 (by decide)).toLoadRect := by
    delta firstRun.sl.v213 firstRun.sl.HS4_5
    with_reducible rfl
  have eA : (firstRun.sl.HS4_6 c i arg3 harg3 arg4 harg4 arg5 harg5 arg6 harg6 arg7 harg7 arg8 harg8 arg9 harg9 arg10 harg10 arg11 harg11 arg12 harg12 arg13 harg13 arg14 harg14 x1 x2 x3 x4 y) = ⟨ra 1536 (by decide), (k0_pay150 (firstRun.sl.r_8 i arg6 harg6 x3) (firstRun.sl.r_9 c i arg3 harg3 arg4 harg4 arg5 harg5 arg6 harg6 arg7 harg7 arg8 harg8 arg9 harg9 arg10 harg10 arg11 harg11 arg12 harg12 arg13 harg13 arg14 harg14 x1 x2 x3 x4 y) (firstRun.sl.r_10 c i arg3 harg3 arg4 harg4 arg5 harg5 arg6 harg6 arg7 harg7 arg8 harg8 arg9 harg9 arg10 harg10 arg11 harg11 arg12 harg12 arg13 harg13 arg14 harg14 x1 x2 x3 x4 y) (firstRun.sl.r_11 c i arg3 harg3 arg4 harg4 arg5 harg5 arg6 harg6 arg7 harg7 arg8 harg8 arg9 harg9 arg10 harg10 arg11 harg11 arg12 harg12 arg13 harg13 arg14 harg14 x1 x2 x3 x4 y) (firstRun.sl.v213 c i arg3 harg3 arg4 harg4 arg5 harg5 arg6 harg6 arg7 harg7 arg8 harg8 arg9 harg9 arg10 harg10 arg11 harg11 arg12 harg12 arg13 harg13 arg14 harg14 x1 x2 x3 x4 y))⟩ :: ⟨ra 512 (by decide), (k0_pay145 k0_pay111 (firstRun.sl.r_7 c arg7 harg7 x4) (View.readAt (Elt Ideal) arg6.view (Rect.unit (s := S1x128x16384) (k0_off12 i) S1x128x512.size (k0_off12_inb i)).toLoadRect (harg6.unread x3)) (firstRun.sl.v176 c i arg3 harg3 arg4 harg4 arg5 harg5 arg6 harg6 arg7 harg7 arg8 harg8 arg9 harg9 arg10 harg10 arg11 harg11 arg12 harg12 arg13 harg13 arg14 harg14 x1 x2 x3 y) (firstRun.sl.v179 c i arg3 harg3 arg4 harg4 arg5 harg5 arg6 harg6 arg7 harg7 arg8 harg8 arg9 harg9 arg10 harg10 arg11 harg11 arg12 harg12 arg13 harg13 arg14 harg14 x1 x2 x3 x4 y) (firstRun.sl.v189 c i arg3 harg3 arg4 harg4 arg5 harg5 arg6 harg6 arg7 harg7 arg8 harg8 arg9 harg9 arg10 harg10 arg11 harg11 arg12 harg12 arg13 harg13 arg14 harg14 x1 x2 x3 x4 y))⟩ :: (firstRun.sl.HS4_4 c i arg3 harg3 arg4 harg4 arg5 harg5 arg6 harg6 arg7 harg7 arg8 harg8 arg9 harg9 arg10 harg10 arg11 harg11 arg12 harg12 arg13 harg13 arg14 harg14 x1 x2 x3 x4 y) := by
    delta firstRun.sl.HS4_6 firstRun.sl.HS4_5
    with_reducible rfl
  rw [eA]
  obtain ⟨m3, h3'⟩ := StAll.tile2 (M := (firstRun.sl.HS3_4 c i arg3 harg3 arg4 harg4 arg5 harg5 arg6 harg6 arg7 harg7 arg8 harg8 arg9 harg9 arg10 harg10 arg11 harg11 arg12 harg12 arg13 harg13 arg14 harg14 x1 x2 x3 x4 y)) (A := (firstRun.sl.HS4_4 c i arg3 harg3 arg4 harg4 arg5 harg5 arg6 harg6 arg7 harg7 arg8 harg8 arg9 harg9 arg10 harg10 arg11 harg11 arg12 harg12 arg13 harg13 arg14 harg14 x1 x2 x3 x4 y)) h hV h0 h1 z0 z2 em0 ea0 ea1 el0 ek0 el1 ek1
  exact ⟨_, h3'⟩

end Cert.KernelIdeal.Attn
-- ==== Proof.Attn.FirstLoop.lean ====
/-
The first body: its query columns, and its key loop, which makes no trip.
-/
module

public import proofs.«01_k».proof.Proof.Attn.Start
public import proofs.«01_k».proof.Proof.Attn.Offs
public import proofs.«01_k».proof.Proof.Attn.First

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (c : Dev nD) (t : Fin cfg0.N) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole) (hc0 : ¬cond (grid0.coords t))
  (x0 : Vec Ideal S1 .f32) (x1 : Vec Ideal S1x128x1024 .bf16) (x2 : Vec Ideal S16384x128 .bf16) (x3 : Vec Ideal S1x128x16384 .bf16) (x4 : Vec Ideal S1x3x512x1024 .f32) (x5 : Vec Ideal S128x1024 .f32) (y : Vec Ideal S512x2048 .f32)

variable {K : ℕ → Fin 128 → ℝ} {q : Fin 128 → ℕ → ℝ} {V : Fin 128 → ℕ → ℝ} {W : ℕ → ℕ → ℝ} {N : ℕ}

/-- The query columns the body lays out. -/
theorem firstRun_q (hIn : Ins (t.val % 16) x1 x2 x3 x4 q K V W) (d : Fin 128) (c' : Fin 2048) :
    arg10.view.read (Elt Ideal) (arg10.view.writes (Elt Ideal) arg10.view.junk (firstRun.sl.HS0_2 c arg4 harg4 x1)) (ix2 d c') = ((Qm q d c'.val : ℝ) : EReal) := by
  delta firstRun.sl.HS0_2
  rw [qload]
  exact queries hIn.h1 d c'

/-- The state when the key loop is over. -/
theorem firstRun_loop (hIn : Ins (t.val % 16) x1 x2 x3 x4 q K V W) :
    Raws K (Qm q) (1024 * (t.val % 16 - 1)) (arg11.view.read (Elt Ideal) (arg11.view.writes (Elt Ideal) arg11.view.junk (firstL11 c (grid0.coords t) arg3 harg3 arg4 harg4 arg5 harg5 arg6 harg6 arg7 harg7 arg8 harg8 arg9 harg9 arg10 harg10 arg11 harg11 arg12 harg12 arg13 harg13 arg14 harg14 x1 x2 x3 y)))
    ∧ StAll arg13.view arg14.view (arg13.view.writes (Elt Ideal) arg13.view.junk (firstL13 c (grid0.coords t) arg3 harg3 arg4 harg4 arg5 harg5 arg6 harg6 arg7 harg7 arg8 harg8 arg9 harg9 arg10 harg10 arg11 harg11 arg12 harg12 arg13 harg13 arg14 harg14 x1 x2 x3 y)) (arg14.view.writes (Elt Ideal) arg14.view.junk (firstL14 c (grid0.coords t) arg3 harg3 arg4 harg4 arg5 harg5 arg6 harg6 arg7 harg7 arg8 harg8 arg9 harg9 arg10 harg10 arg11 harg11 arg12 harg12 arg13 harg13 arg14 harg14 x1 x2 x3 y)) (Tsum V W (1024 * (t.val % 16 - 1))) := by
  have h5 : ∀ (n : ℕ) (hn : n < 16384) (d : Fin 128), arg5.view.read (Elt Ideal) (harg5.unread x2) (ix2 ⟨n, hn⟩ d) = ((K n d : ℝ) : EReal) := by
    rw [harg5.read_unread]; exact hIn.h2
  have h6 : ∀ (e : Fin 128) (n : ℕ) (hn : n < 16384), arg6.view.read (Elt Ideal) (harg6.unread x3) (ix3 0 e ⟨n, hn⟩) = ((V e n : ℝ) : EReal) := by
    rw [harg6.read_unread]; exact hIn.h3
  have h10 := firstRun_q c t arg4 harg4 arg10 x1 x2 x3 x4 hIn
  have hR0 : Raws K (Qm q) 0 (arg11.view.read (Elt Ideal) (arg11.view.writes (Elt Ideal) arg11.view.junk (firstRun.sl.HS1_1 c arg4 harg4 arg5 harg5 arg10 x1 x2))) := by
    delta firstRun.sl.HS1_1
    have e : k0_pay113 (firstRun.sl.r c arg4 harg4 arg5 harg5 arg10 x1 x2) = qk (arg5.view.readAt (Elt Ideal) (Rect.unit (s := S16384x128) ![0, 0] S512x128.size inb_S16384x128_S512x128_0_0).toLoadRect (harg5.unread x2)) (firstRun.sl.v29 c arg4 harg4 arg10 x1) := by
      simp only [k0_pay113, firstRun.sl.r, k0_pay112, qk, shapeCast_id]
    rw [e]
    refine (congrArg (Raws K (Qm q) 0) (read_fill _ _ _ _ _)).mpr (qk_raws (fun r d => ?_) (fun d c' => ?_))
    · have := keys_real _ _ h5 inb_S16384x128_S512x128_0_0 rfl r d
      exact this
    · delta firstRun.sl.v29 View.readCov
      exact query_real _ _ h10 _ d c'
  have hS0 : StAll arg13.view arg14.view (arg13.view.writes (Elt Ideal) arg13.view.junk firstRun.sl.HS3_1) (arg14.view.writes (Elt Ideal) arg14.view.junk firstRun.sl.HS4_1) (Tsum V W 0) := by
    delta firstRun.sl.HS3_1 firstRun.sl.HS4_1
    exact start_state
  obtain ⟨hR, hS⟩ := loop_state Variants.none c none (grid0.coords t) arg3 harg3 arg4 harg4 arg5 harg5 arg6 harg6 arg7 harg7 arg8 harg8 arg9 harg9 arg10 harg10 arg11 harg11 arg12 harg12 arg13 harg13 arg14 harg14 (BitVec.ofNat 32 ↑((grid0.coords t) 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) h5 h6 h10 p111_apply (off1_1 t) (off1_2 t) (off2_0 t) (off3_0 t)
    (fun n c' hn => hIn.hW n c' (by rw [trips1 t] at hn; omega)) hR0 hS0 (Scf.trips (k0_t1_loop (grid0.coords t)).lb (k0_t1_loop (grid0.coords t)).ub (k0_t1_loop (grid0.coords t)).st) le_rfl
  have ht1 : (Scf.trips (k0_t1_loop (grid0.coords t)).lb (k0_t1_loop (grid0.coords t)).ub (k0_t1_loop (grid0.coords t)).st) = t.val % 16 - 1 := trips1 t
  have hz2 : Scf.trips (k0_t2_loop (grid0.coords t)).lb (k0_t2_loop (grid0.coords t)).ub (k0_t2_loop (grid0.coords t)).st = 0 := trips2 t
  have e11 : firstL11 c (grid0.coords t) arg3 harg3 arg4 harg4 arg5 harg5 arg6 harg6 arg7 harg7 arg8 harg8 arg9 harg9 arg10 harg10 arg11 harg11 arg12 harg12 arg13 harg13 arg14 harg14 x1 x2 x3 y = (pb_k0_t1 Variants.none c none (grid0.coords t) arg3 harg3 arg4 harg4 arg5 harg5 arg6 harg6 arg7 harg7 arg8 harg8 arg9 harg9 arg10 harg10 arg11 harg11 arg12 harg12 arg13 harg13 arg14 harg14 (BitVec.ofNat 32 ↑((grid0.coords t) 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop (grid0.coords t)).lb (k0_t1_loop (grid0.coords t)).ub (k0_t1_loop (grid0.coords t)).st)).1 ++ (firstRun.sl.HS1_1 c arg4 harg4 arg5 harg5 arg10 x1 x2) := by
    delta firstL11; rw [hz2, pb_k0_t2.eq_1]; simp only [List.nil_append]
  have e13 : firstL13 c (grid0.coords t) arg3 harg3 arg4 harg4 arg5 harg5 arg6 harg6 arg7 harg7 arg8 harg8 arg9 harg9 arg10 harg10 arg11 harg11 arg12 harg12 arg13 harg13 arg14 harg14 x1 x2 x3 y = (pb_k0_t1 Variants.none c none (grid0.coords t) arg3 harg3 arg4 harg4 arg5 harg5 arg6 harg6 arg7 harg7 arg8 harg8 arg9 harg9 arg10 harg10 arg11 harg11 arg12 harg12 arg13 harg13 arg14 harg14 (BitVec.ofNat 32 ↑((grid0.coords t) 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop (grid0.coords t)).lb (k0_t1_loop (grid0.coords t)).ub (k0_t1_loop (grid0.coords t)).st)).2.2.1 ++ firstRun.sl.HS3_1 := by
    delta firstL13; rw [hz2, pb_k0_t2.eq_1]; simp only [List.nil_append]
  have e14 : firstL14 c (grid0.coords t) arg3 harg3 arg4 harg4 arg5 harg5 arg6 harg6 arg7 harg7 arg8 harg8 arg9 harg9 arg10 harg10 arg11 harg11 arg12 harg12 arg13 harg13 arg14 harg14 x1 x2 x3 y = (pb_k0_t1 Variants.none c none (grid0.coords t) arg3 harg3 arg4 harg4 arg5 harg5 arg6 harg6 arg7 harg7 arg8 harg8 arg9 harg9 arg10 harg10 arg11 harg11 arg12 harg12 arg13 harg13 arg14 harg14 (BitVec.ofNat 32 ↑((grid0.coords t) 2)) k0_pay111 (firstRun.sl.r c arg4 harg4 arg5 harg5 arg10 x1 x2) (harg5.unread x2) (harg6.unread x3) (arg10.view.writes (Elt Ideal) arg10.view.junk (firstRun.sl.HS0_2 c arg4 harg4 x1)) (arg11.view.writes (Elt Ideal) arg11.view.junk (firstRun.sl.HS1_1 c arg4 harg4 arg5 harg5 arg10 x1 x2)) (harg12.unread y) (arg13.view.writes (Elt Ideal) arg13.view.junk firstRun.sl.HS3_1) (arg14.view.writes (Elt Ideal) arg14.view.junk firstRun.sl.HS4_1) (Scf.trips (k0_t1_loop (grid0.coords t)).lb (k0_t1_loop (grid0.coords t)).ub (k0_t1_loop (grid0.coords t)).st)).2.2.2 ++ firstRun.sl.HS4_1 := by
    delta firstL14; rw [hz2, pb_k0_t2.eq_1]; simp only [List.nil_append]
  rw [e11, e13, e14, View.writes_append, View.writes_append, View.writes_append, ← ht1]
  exact ⟨hR, hS⟩

end Cert.KernelIdeal.Attn
-- ==== Proof.Attn.FirstDone.lean ====
/-
The first body: its two tile steps.
-/
module

public import proofs.«01_k».proof.Proof.Attn.ScoreLoads
public import proofs.«01_k».proof.Proof.Attn.FirstLoop

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (c : Dev nD) (t : Fin cfg0.N) (arg3 : Memref sig .tc .smem S1 .f32) (harg3 : arg3.IsWhole) (arg4 : Memref sig .tc .vmem S1x128x1024 .bf16) (harg4 : arg4.IsWhole) (arg5 : Memref sig .tc .vmem S16384x128 .bf16) (harg5 : arg5.IsWhole) (arg6 : Memref sig .tc .vmem S1x128x16384 .bf16) (harg6 : arg6.IsWhole) (arg7 : Memref sig .tc .vmem S1x3x512x1024 .f32) (harg7 : arg7.IsWhole) (arg8 : Memref sig .tc .vmem S128x1024 .f32) (harg8 : arg8.IsWhole) (arg9 : Memref sig .tc .vmem S1024x128 .bf16) (harg9 : arg9.IsWhole) (arg10 : Memref sig .tc .vmem S128x2048 .bf16) (harg10 : arg10.IsWhole) (arg11 : Memref sig .tc .vmem S512x2048 .f32) (harg11 : arg11.IsWhole) (arg12 : Memref sig .tc .vmem S512x2048 .f32) (harg12 : arg12.IsWhole) (arg13 : Memref sig .tc .vmem S1x2048 .f32) (harg13 : arg13.IsWhole) (arg14 : Memref sig .tc .vmem S144x2048 .f32) (harg14 : arg14.IsWhole) (hc0 : ¬cond (grid0.coords t))
  (x0 : Vec Ideal S1 .f32) (x1 : Vec Ideal S1x128x1024 .bf16) (x2 : Vec Ideal S16384x128 .bf16) (x3 : Vec Ideal S1x128x16384 .bf16) (x4 : Vec Ideal S1x3x512x1024 .f32) (x5 : Vec Ideal S128x1024 .f32) (y : Vec Ideal S512x2048 .f32)

variable {K : ℕ → Fin 128 → ℝ} {q : Fin 128 → ℕ → ℝ} {V : Fin 128 → ℕ → ℝ} {W : ℕ → ℕ → ℝ} {N : ℕ}

/-- The state after tile step C of the body. -/
theorem firstRun_stC (hIn : Ins (t.val % 16) x1 x2 x3 x4 q K V W) (hT : t.val % 16 = 0) :
    StAll arg13.view arg14.view (arg13.view.writes (Elt Ideal) arg13.view.junk (firstRun.sl.HS3_4 c (grid0.coords t) arg3 harg3 arg4 harg4 arg5 harg5 arg6 harg6 arg7 harg7 arg8 harg8 arg9 harg9 arg10 harg10 arg11 harg11 arg12 harg12 arg13 harg13 arg14 harg14 x1 x2 x3 x4 y)) (arg14.view.writes (Elt Ideal) arg14.view.junk (firstRun.sl.HS4_4 c (grid0.coords t) arg3 harg3 arg4 harg4 arg5 harg5 arg6 harg6 arg7 harg7 arg8 harg8 arg9 harg9 arg10 harg10 arg11 harg11 arg12 harg12 arg13 harg13 arg14 harg14 x1 x2 x3 x4 y)) (Tsum V W ((1024 * (t.val % 16 - 1)) + 512)) := by
  obtain ⟨hR, hS⟩ := firstRun_loop c t arg3 harg3 arg4 harg4 arg5 harg5 arg6 harg6 arg7 harg7 arg8 harg8 arg9 harg9 arg10 harg10 arg11 harg11 arg12 harg12 arg13 harg13 arg14 harg14 x1 x2 x3 x4 y hIn
  have h5 : ∀ (n : ℕ) (hn : n < 16384) (d : Fin 128), arg5.view.read (Elt Ideal) (harg5.unread x2) (ix2 ⟨n, hn⟩ d) = ((K n d : ℝ) : EReal) := by
    rw [harg5.read_unread]; exact hIn.h2
  have h6 : ∀ (e : Fin 128) (n : ℕ) (hn : n < 16384), arg6.view.read (Elt Ideal) (harg6.unread x3) (ix3 0 e ⟨n, hn⟩) = ((V e n : ℝ) : EReal) := by
    rw [harg6.read_unread]; exact hIn.h3
  have h10 := firstRun_q c t arg4 harg4 arg10 x1 x2 x3 x4 hIn
  have s0 : SR K (Qm q) (1024 * (t.val % 16 - 1)) 0 (firstRun.sl.v70 c (grid0.coords t) arg3 harg3 arg4 harg4 arg5 harg5 arg6 harg6 arg7 harg7 arg8 harg8 arg9 harg9 arg10 harg10 arg11 harg11 arg12 harg12 arg13 harg13 arg14 harg14 x1 x2 x3 y) := by
    have e : (firstRun.sl.v70 c (grid0.coords t) arg3 harg3 arg4 harg4 arg5 harg5 arg6 harg6 arg7 harg7 arg8 harg8 arg9 harg9 arg10 harg10 arg11 harg11 arg12 harg12 arg13 harg13 arg14 harg14 x1 x2 x3 y) = arg11.view.readCov (firstL11 c (grid0.coords t) arg3 harg3 arg4 harg4 arg5 harg5 arg6 harg6 arg7 harg7 arg8 harg8 arg9 harg9 arg10 harg10 arg11 harg11 arg12 harg12 arg13 harg13 arg14 harg14 x1 x2 x3 y) (rs 0 (by decide)).toLoadRect := by
      delta firstRun.sl.v70 firstL11; with_reducible rfl
    rw [e]
    delta View.readCov
    exact Raws.sr hR 0 _
  have s1 : SR K (Qm q) (1024 * (t.val % 16 - 1)) 512 (firstRun.sl.v94 c (grid0.coords t) arg3 harg3 arg4 harg4 arg5 harg5 arg6 harg6 arg7 harg7 arg8 harg8 arg9 harg9 arg10 harg10 arg11 harg11 arg12 harg12 arg13 harg13 arg14 harg14 x1 x2 x3 y) := by
    have e : (firstRun.sl.v94 c (grid0.coords t) arg3 harg3 arg4 harg4 arg5 harg5 arg6 harg6 arg7 harg7 arg8 harg8 arg9 harg9 arg10 harg10 arg11 harg11 arg12 harg12 arg13 harg13 arg14 harg14 x1 x2 x3 y) = arg11.view.readCov (firstL11 c (grid0.coords t) arg3 harg3 arg4 harg4 arg5 harg5 arg6 harg6 arg7 harg7 arg8 harg8 arg9 harg9 arg10 harg10 arg11 harg11 arg12 harg12 arg13 harg13 arg14 harg14 x1 x2 x3 y) (rs 512 (by decide)).toLoadRect := by
      delta firstRun.sl.v94 firstL11; with_reducible rfl
    rw [e]
    delta View.readCov
    exact Raws.sr hR 512 _
  have s2 : SR K (Qm q) (1024 * (t.val % 16 - 1)) 1024 (firstRun.sl.v118 c (grid0.coords t) arg3 harg3 arg4 harg4 arg5 harg5 arg6 harg6 arg7 harg7 arg8 harg8 arg9 harg9 arg10 harg10 arg11 harg11 arg12 harg12 arg13 harg13 arg14 harg14 x1 x2 x3 y) := by
    have e : (firstRun.sl.v118 c (grid0.coords t) arg3 harg3 arg4 harg4 arg5 harg5 arg6 harg6 arg7 harg7 arg8 harg8 arg9 harg9 arg10 harg10 arg11 harg11 arg12 harg12 arg13 harg13 arg14 harg14 x1 x2 x3 y) = arg11.view.readCov (firstL11 c (grid0.coords t) arg3 harg3 arg4 harg4 arg5 harg5 arg6 harg6 arg7 harg7 arg8 harg8 arg9 harg9 arg10 harg10 arg11 harg11 arg12 harg12 arg13 harg13 arg14 harg14 x1 x2 x3 y) (rs 1024 (by decide)).toLoadRect := by
      delta firstRun.sl.v118 firstL11; with_reducible rfl
    rw [e]
    delta View.readCov
    exact Raws.sr hR 1024 _
  have s3 : SR K (Qm q) (1024 * (t.val % 16 - 1)) 1536 (firstRun.sl.v142 c (grid0.coords t) arg3 harg3 arg4 harg4 arg5 harg5 arg6 harg6 arg7 harg7 arg8 harg8 arg9 harg9 arg10 harg10 arg11 harg11 arg12 harg12 arg13 harg13 arg14 harg14 x1 x2 x3 y) := by
    have e : (firstRun.sl.v142 c (grid0.coords t) arg3 harg3 arg4 harg4 arg5 harg5 arg6 harg6 arg7 harg7 arg8 harg8 arg9 harg9 arg10 harg10 arg11 harg11 arg12 harg12 arg13 harg13 arg14 harg14 x1 x2 x3 y) = arg11.view.readCov (firstL11 c (grid0.coords t) arg3 harg3 arg4 harg4 arg5 harg5 arg6 harg6 arg7 harg7 arg8 harg8 arg9 harg9 arg10 harg10 arg11 harg11 arg12 harg12 arg13 harg13 arg14 harg14 x1 x2 x3 y) (rs 1536 (by decide)).toLoadRect := by
      delta firstRun.sl.v142 firstL11; with_reducible rfl
    rw [e]
    delta View.readCov
    exact Raws.sr hR 1536 _
  exact first_tileC c (grid0.coords t) arg3 harg3 arg4 harg4 arg5 harg5 arg6 harg6 arg7 harg7 arg8 harg8 arg9 harg9 arg10 harg10 arg11 harg11 arg12 harg12 arg13 harg13 arg14 harg14 x1 x2 x3 x4 y hS (fun e r => vtile_real (fun e r => vals_real _ _ h6 _ ((off11_0 t).trans (by congr 3; omega)) e r) p111_apply e r) (s0.biased (k := 1) (by omega) (o' := 0) (by norm_num) (by norm_num) (fun r c' => hIn.hb 1 r c' _ (by show _ = 1024 * (t.val % 16) + 512 * 1 + r.val; omega)) (fun j => hIn.hx 1 _ (fun h => by simp at h))) (s1.biased (k := 1) (by omega) (o' := 512) (by norm_num) (by norm_num) (fun r c' => hIn.hb 1 r c' _ (by show _ = 1024 * (t.val % 16) + 512 * 1 + r.val; omega)) (fun j => hIn.hx 1 _ (fun h => by simp at h))) (s2.biased (k := 1) (by omega) (o' := 0) (by norm_num) (by norm_num) (fun r c' => hIn.hb 1 r c' _ (by show _ = 1024 * (t.val % 16) + 512 * 1 + r.val; omega)) (fun j => hIn.hx 1 _ (fun h => by simp at h))) (s3.biased (k := 1) (by omega) (o' := 512) (by norm_num) (by norm_num) (fun r c' => hIn.hb 1 r c' _ (by show _ = 1024 * (t.val % 16) + 512 * 1 + r.val; omega)) (fun j => hIn.hx 1 _ (fun h => by simp at h)))

/-- The state after tile step D of the body. -/
theorem firstRun_stD (hIn : Ins (t.val % 16) x1 x2 x3 x4 q K V W) (hT : t.val % 16 = 0) :
    ∃ M, StAll arg13.view arg14.view (arg13.view.writes (Elt Ideal) arg13.view.junk M) (arg14.view.writes (Elt Ideal) arg14.view.junk (firstRun.sl.HS4_6 c (grid0.coords t) arg3 harg3 arg4 harg4 arg5 harg5 arg6 harg6 arg7 harg7 arg8 harg8 arg9 harg9 arg10 harg10 arg11 harg11 arg12 harg12 arg13 harg13 arg14 harg14 x1 x2 x3 x4 y)) (Tsum V W (((1024 * (t.val % 16 - 1)) + 512) + 512)) := by
  have h5 : ∀ (n : ℕ) (hn : n < 16384) (d : Fin 128), arg5.view.read (Elt Ideal) (harg5.unread x2) (ix2 ⟨n, hn⟩ d) = ((K n d : ℝ) : EReal) := by
    rw [harg5.read_unread]; exact hIn.h2
  have h6 : ∀ (e : Fin 128) (n : ℕ) (hn : n < 16384), arg6.view.read (Elt Ideal) (harg6.unread x3) (ix3 0 e ⟨n, hn⟩) = ((V e n : ℝ) : EReal) := by
    rw [harg6.read_unread]; exact hIn.h3
  have h10 := firstRun_q c t arg4 harg4 arg10 x1 x2 x3 x4 hIn
  have s0 : SR K (Qm q) ((1024 * (t.val % 16 - 1)) + 512) 512 (firstRun.sl.v176 c (grid0.coords t) arg3 harg3 arg4 harg4 arg5 harg5 arg6 harg6 arg7 harg7 arg8 harg8 arg9 harg9 arg10 harg10 arg11 harg11 arg12 harg12 arg13 harg13 arg14 harg14 x1 x2 x3 y) := by
    delta firstRun.sl.v176 firstRun.sl.HS2_2 View.readCov
    refine SR.skip ((congrArg (SR K (Qm q) ((1024 * (t.val % 16 - 1)) + 512) 512) (p119_qk _ _)).mpr (qkH_real (fun r d => ?_) (fun d j => ?_))) _ _
    · exact keys_real _ _ h5 _ ((off10_0 t).trans (by congr 1; omega)) r d
    · delta firstRun.sl.v51 View.readCov
      exact query_blk h10 512 _ d j
  have s1 : SR K (Qm q) ((1024 * (t.val % 16 - 1)) + 512) 1536 (firstRun.sl.v200 c (grid0.coords t) arg3 harg3 arg4 harg4 arg5 harg5 arg6 harg6 arg7 harg7 arg8 harg8 arg9 harg9 arg10 harg10 arg11 harg11 arg12 harg12 arg13 harg13 arg14 harg14 x1 x2 x3 y) := by
    delta firstRun.sl.v200 firstRun.sl.HS2_2 firstRun.sl.r_1 View.readCov
    refine SR.hit ((congrArg (SR K (Qm q) ((1024 * (t.val % 16 - 1)) + 512) 1536) (p120_qk _ _)).mpr (qkH_real (fun r d => ?_) (fun d j => ?_))) _
    · exact keys_real _ _ h5 _ ((off10_0 t).trans (by congr 1; omega)) r d
    · delta firstRun.sl.v56 View.readCov
      exact query_blk h10 1536 _ d j
  exact first_tileD c (grid0.coords t) arg3 harg3 arg4 harg4 arg5 harg5 arg6 harg6 arg7 harg7 arg8 harg8 arg9 harg9 arg10 harg10 arg11 harg11 arg12 harg12 arg13 harg13 arg14 harg14 x1 x2 x3 x4 y (firstRun_stC c t arg3 harg3 arg4 harg4 arg5 harg5 arg6 harg6 arg7 harg7 arg8 harg8 arg9 harg9 arg10 harg10 arg11 harg11 arg12 harg12 arg13 harg13 arg14 harg14 x1 x2 x3 x4 y hIn hT) (fun e r => vtile_real (fun e r => vals_real _ _ h6 _ ((off12_0 t).trans (by congr 3; omega)) e r) p111_apply e r) (s0.biased (k := 2) (by omega) (o' := 512) (by norm_num) (by norm_num) (fun r c' => hIn.hb 2 r c' _ (by show _ = 1024 * (t.val % 16) + 512 * 2 + r.val; omega)) (fun j => hIn.hx 2 _ (fun _ => by show 512 ≤ 512 + j.val; omega))) (s1.biased (k := 2) (by omega) (o' := 512) (by norm_num) (by norm_num) (fun r c' => hIn.hb 2 r c' _ (by show _ = 1024 * (t.val % 16) + 512 * 2 + r.val; omega)) (fun j => hIn.hx 2 _ (fun _ => by show 512 ≤ 512 + j.val; omega))) (fun r j => by have := hIn.hz r (0 + j.val) (by omega); rw [← this]; congr 1; omega) (fun r j => by have := hIn.hz r (1024 + j.val) (by omega); rw [← this]; congr 1; omega)

end Cert.KernelIdeal.Attn
-- ==== Proof.Attn.OutValue.lean ====
/-
The block the body leaves at each grid point, as a value of the point's inputs.
-/
module

public import proofs.«01_k».proof.Proof.Attn.Output
public import proofs.«01_k».proof.Proof.Attn.LaterDone
public import proofs.«01_k».proof.Proof.Attn.FirstDone
public import proofs.«01_k».proof.Proof.Attn.Frame

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (m : (ℓ : Loc nD τ sig) → Buf (Elt Ideal) ℓ)

/-- The gain block as loaded. -/
theorem gload {arg8 : Memref sig .tc .vmem S128x1024 .f32} {harg8 : arg8.IsWhole} {x5 : Vec Ideal S128x1024 .f32} {inb} (e : Fin 128) (r : Fin 1024) :
    arg8.view.readAt (Elt Ideal) (Rect.unit (s := S128x1024) ![0, 0] S128x1024.size inb).toLoadRect (harg8.unread x5) (ix2 e r) = x5 (ix2 e r) := by
  refine (readAt_ix2 arg8.view (harg8.unread x5) (m0 := 128) (m1 := 1024) inb rfl e r (by omega) (by omega)).trans ?_
  rw [harg8.read_unread]
  congr 1
  funext a
  refine Fin.cases ?_ (fun a => Fin.cases ?_ (fun a => a.elim0) a) a
  · exact Fin.ext (show 0 + e.val = e.val by omega)
  · exact Fin.ext (show 0 + r.val = r.val by omega)

/-- The scalar as loaded. -/
theorem lload {arg3 : Memref sig .tc .smem S1 .f32} {harg3 : arg3.IsWhole} {x0 : Vec Ideal S1 .f32} {inb} (j) :
    arg3.view.readAt (Elt Ideal) (Rect.unit (s := S1) ![0] S1.size inb).toLoadRect (harg3.unread x0) j = x0 (ix1 0) := by
  rw [View.readAt_apply, harg3.read_unread]
  congr 1
  funext a
  have h3 : S1.size a = 1 := by fin_cases a; rfl
  have h1 := lt_of_lt_of_eq ((Rect.unit (s := S1) ![0] S1.size inb).idx j a).isLt h3
  have h2 := lt_of_lt_of_eq (ix1 (0 : Fin 1) a).isLt h3
  exact Fin.ext (by omega)

variable {K : ℕ → Fin 128 → ℝ} {q : Fin 128 → ℕ → ℝ} {V : Fin 128 → ℕ → ℝ} {W : ℕ → ℕ → ℝ}

theorem later_out (c : Dev nD) (t : Fin cfg0.N) (y : Vec Ideal S512x2048 .f32) (h0 : 1 ≤ t.val % 16)
    (hIn : Ins (t.val % 16) (iblk m c 1 t) (iblk m c 2 t) (iblk m c 3 t) (iblk m c 4 t) q K V W) (l : ℝ) (hlam : (iblk m c 0 t : Vec Ideal S1 .f32) (ix1 0) = ((l : ℝ) : EReal))
    (hl : ∀ c < 2048, Tsum V W (1024 * (t.val % 16) + 1024) c 128 ≠ 0) (r : Fin 1024) (e : Fin 128) :
    outView.read (Elt Ideal) (outView.writes (Elt Ideal) outView.junk (laterPieces (F := Ideal) m c t h0 y)) (ix2 r e)
      = normed (dif V W (1024 * (t.val % 16) + 1024) l r.val) e * ((show EReal from (iblk m c 5 t : Vec Ideal S128x1024 .f32) (ix2 e r)) * Ideal.ofBits FTy.f32 0x3F4CCCCD#32) := by
  obtain ⟨M, hS⟩ := laterRun_stD c t (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) ((cond_iff t).mpr h0) (iblk m c 1 t) (iblk m c 2 t) (iblk m c 3 t) (iblk m c 4 t) y hIn h0
  have hN : 1024 * (t.val % 16 - 1) + 512 + 512 + 512 + 512 = 1024 * (t.val % 16) + 1024 := by omega
  rw [hN] at hS
  have hp : laterPieces (F := Ideal) m c t h0 y = [⟨Rect.unit (s := S1024x128) ![0, 0] S1024x128.size inb_S1024x128_S1024x128_0_0,
      k0_pay1 (laterRun.sl.r_13 c (grid0.coords t) (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) ((cond_iff t).mpr h0) (iblk m c 0 t) (iblk m c 1 t) (iblk m c 2 t) (iblk m c 3 t) (iblk m c 4 t) y)
        (laterRun.sl.r_14 c (stg5 t) (hstg5 t) (iblk m c 5 t)) laterRun.sl.cst_132⟩] := by
    delta laterPieces laterRun; with_reducible rfl
  rw [hp, read_fill]
  delta laterRun.sl.r_13 laterRun.sl.r_14 laterRun.sl.v224 laterRun.sl.r_12 laterRun.sl.cst_132 View.readCov
  rw [lload, hlam]
  refine (out_apply hS hl _ l _ _ r e).trans ?_
  rw [gload]
  rfl

theorem first_out (c : Dev nD) (t : Fin cfg0.N) (y : Vec Ideal S512x2048 .f32) (h0 : ¬1 ≤ t.val % 16)
    (hIn : Ins (t.val % 16) (iblk m c 1 t) (iblk m c 2 t) (iblk m c 3 t) (iblk m c 4 t) q K V W) (l : ℝ) (hlam : (iblk m c 0 t : Vec Ideal S1 .f32) (ix1 0) = ((l : ℝ) : EReal))
    (hl : ∀ c < 2048, Tsum V W (1024 * (t.val % 16) + 1024) c 128 ≠ 0) (r : Fin 1024) (e : Fin 128) :
    outView.read (Elt Ideal) (outView.writes (Elt Ideal) outView.junk (firstPieces (F := Ideal) m c t h0 y)) (ix2 r e)
      = normed (dif V W (1024 * (t.val % 16) + 1024) l r.val) e * ((show EReal from (iblk m c 5 t : Vec Ideal S128x1024 .f32) (ix2 e r)) * Ideal.ofBits FTy.f32 0x3F4CCCCD#32) := by
  obtain ⟨M, hS⟩ := firstRun_stD c t (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) (iblk m c 1 t) (iblk m c 2 t) (iblk m c 3 t) (iblk m c 4 t) y hIn (by omega)
  have hN : 1024 * (t.val % 16 - 1) + 512 + 512 = 1024 * (t.val % 16) + 1024 := by omega
  rw [hN] at hS
  have hp : firstPieces (F := Ideal) m c t h0 y = [⟨Rect.unit (s := S1024x128) ![0, 0] S1024x128.size inb_S1024x128_S1024x128_0_0,
      k0_pay1 (firstRun.sl.r_13 c (grid0.coords t) (stg0 t) (hstg0 t) (stg1 t) (hstg1 t) (stg2 t) (hstg2 t) (stg3 t) (hstg3 t) (stg4 t) (hstg4 t) (stg5 t) (hstg5 t) (stg6 t) (hstg6 t) scr0 (Memref.isWhole_whole _) scr1 (Memref.isWhole_whole _) scr2 (Memref.isWhole_whole _) scr3 (Memref.isWhole_whole _) scr4 (Memref.isWhole_whole _) (iblk m c 0 t) (iblk m c 1 t) (iblk m c 2 t) (iblk m c 3 t) (iblk m c 4 t) y)
        (firstRun.sl.r_14 c (stg5 t) (hstg5 t) (iblk m c 5 t)) firstRun.sl.cst_132⟩] := by
    delta firstPieces firstRun; with_reducible rfl
  rw [hp, read_fill]
  delta firstRun.sl.r_13 firstRun.sl.r_14 firstRun.sl.v224 firstRun.sl.r_12 firstRun.sl.cst_132 View.readCov
  rw [lload, hlam]
  refine (out_apply hS hl _ l _ _ r e).trans ?_
  rw [gload]
  rfl

/-- The output block at a grid point. -/
theorem bodyOut_apply (c : Dev nD) (t : Fin cfg0.N) (y : Vec Ideal S512x2048 .f32)
    (hIn : Ins (t.val % 16) (iblk m c 1 t) (iblk m c 2 t) (iblk m c 3 t) (iblk m c 4 t) q K V W) (l : ℝ) (hlam : (iblk m c 0 t : Vec Ideal S1 .f32) (ix1 0) = ((l : ℝ) : EReal))
    (hl : ∀ c < 2048, Tsum V W (1024 * (t.val % 16) + 1024) c 128 ≠ 0) (r : Fin 1024) (e : Fin 128) :
    bodyOut (F := Ideal) m c t y (ix2 r e)
      = normed (dif V W (1024 * (t.val % 16) + 1024) l r.val) e * ((show EReal from (iblk m c 5 t : Vec Ideal S128x1024 .f32) (ix2 e r)) * Ideal.ofBits FTy.f32 0x3F4CCCCD#32) := by
  unfold bodyOut
  split
  · exact later_out m c t y _ hIn l hlam hl r e
  · exact first_out m c t y _ hIn l hlam hl r e

end Cert.KernelIdeal.Attn
-- ==== Proof.Attn.Gather.lean ====
/-
The reference's lookup of the bias table: the element a `gather` along the first axis reads.
-/
module

public import proofs.«01_k».proof.Proof.Gen.ReferenceIdeal.Read
public import Idealize.ShloMosaic.Lib.Pointwise

@[expose] public section

set_option maxRecDepth 65536

noncomputable section

namespace Cert.ReferenceIdeal.Attn

open Idealize.ShloMosaic Cert.ReferenceIdeal

theorem gather_at {α : Type} (x : S32x8.Idx → α) (idx : IVec S16384x16384x1 32) (q k : Fin 16384) (h : Fin 8)
    (n : Fin 32) (hn : idx (ix3 q k 0) = BitVec.ofNat 32 n.val) :
    Host.gather gather_S32x8_S16384x16384x1_S16384x16384x8_2_0_n_n_0_2_18 x idx (ix3 q k h) = x (ix2 n h) := by
  have hi : (gather_S32x8_S16384x16384x1_S16384x16384x8_2_0_n_n_0_2_18).operandIdx (ix3 q k h) idx = ix2 n h := by
    funext a
    refine Fin.cases ?_ (fun a => Fin.cases ?_ (fun a => a.elim0) a) a
    · apply Fin.ext
      show GatherDims.start _ _ idx 0 + GatherDims.batchCoord _ _ 0 + GatherDims.offCoord _ _ 0 = n.val
      have h1 : GatherDims.start (gather_S32x8_S16384x16384x1_S16384x16384x8_2_0_n_n_0_2_18) (ix3 q k h) idx 0 = n.val := by
        unfold GatherDims.start
        rw [dif_pos (by decide)]
        have e : (gather_S32x8_S16384x16384x1_S16384x16384x8_2_0_n_n_0_2_18).siIdx (ix3 q k h) ⟨(gather_S32x8_S16384x16384x1_S16384x16384x8_2_0_n_n_0_2_18).startIndexMap.idxOf 0, List.idxOf_lt_length_iff.2 (by decide)⟩ = ix3 q k 0 := by
          funext b
          refine Fin.cases ?_ (fun b => Fin.cases ?_ (fun b => Fin.cases ?_ (fun b => b.elim0) b) b) b
          · rfl
          · rfl
          · rfl
        rw [e, hn]
        have t : (BitVec.ofNat 32 n.val).toInt = (n.val : ℤ) := by
          rw [BitVec.toInt_eq_toNat_of_lt] <;> rw [BitVec.toNat_ofNat, Nat.mod_eq_of_lt (by omega)]; omega
        rw [t]
        show min ((n.val : ℤ)).toNat (32 - 1) = n.val
        omega
      rw [h1, GatherDims.batchCoord_eq_zero _ _ _ (by decide), GatherDims.offCoord_eq_zero _ _ _ (by decide)]
      rfl
    · apply Fin.ext
      show GatherDims.start _ _ idx 1 + GatherDims.batchCoord _ _ 1 + GatherDims.offCoord _ _ 1 = h.val
      have h1 : GatherDims.start (gather_S32x8_S16384x16384x1_S16384x16384x8_2_0_n_n_0_2_18) (ix3 q k h) idx 1 = 0 := by
        unfold GatherDims.start
        rw [dif_neg (by decide)]
      rw [h1, GatherDims.batchCoord_eq_zero _ _ _ (by decide)]
      unfold GatherDims.offCoord
      rw [dif_pos (by decide)]
      show 0 + 0 + h.val = h.val
      omega
  exact congrArg x hi

end Cert.ReferenceIdeal.Attn
-- ==== Proof.Attn.Bucket.lean ====
/-
The bucket of a relative position, and the floor division of the chunk mask, as both programs compute them on words.
-/
module

public import Idealize.ShloMosaic.PureOps.Ideal
public import Idealize.ShloMosaic.PureOps.Ideal.Laws
public import Mathlib.Analysis.SpecialFunctions.Log.Basic

@[expose] public section

noncomputable section

namespace Cert.Attn

open Idealize.ShloMosaic

theorem eight : Ideal.ofBits .f32 0x41000000#32 = ((8 : ℝ) : EReal) := by
  simp [Ideal.ofBits, Ideal.ieee, -EReal.coe_mul]; norm_num

theorem logc : Ideal.ofBits .f32 0x40317218#32 = ((11629080 / 4194304 : ℝ) : EReal) := by
  simp [Ideal.ofBits, Ideal.ieee, -EReal.coe_mul]; norm_num

/-- The bucket of the relative position `x` (a word). -/
def bk (x : BitVec 32) : BitVec 32 :=
  IntOp.addi (Scalar.select (IntOp.cmpi .sgt x 0#32) 16#32 0#32)
    (Scalar.select (IntOp.cmpi .slt (IntOp.absi x) 8#32) (IntOp.absi x)
      (IntOp.minsi (IntOp.addi 8#32 (Ideal.fptosi 32
        (Ideal.div (Ideal.log (Ideal.div (((IntOp.maxsi (IntOp.absi x) 1#32).toInt : ℝ) : EReal) (Ideal.ofBits .f32 0x41000000#32)))
          (Ideal.ofBits .f32 0x40317218#32) * Ideal.ofBits .f32 0x41000000#32))) 15#32))

/-- The logarithmic part of the bucket of a distance `a`: a natural number, seven or more from 513 on. -/
theorem log_part (a : ℕ) (h1 : 8 ≤ a) (h2 : a ≤ 16384) :
    ∃ n : ℕ, n < 2 ^ 30 ∧ (513 ≤ a → 7 ≤ n) ∧
      Ideal.fptosi 32 (Ideal.div (Ideal.log (Ideal.div (((a : ℤ) : ℝ) : EReal) (Ideal.ofBits .f32 0x41000000#32)))
          (Ideal.ofBits .f32 0x40317218#32) * Ideal.ofBits .f32 0x41000000#32) = BitVec.ofNat 32 n := by
  have ha : (8 : ℝ) ≤ (a : ℝ) := by exact_mod_cast h1
  have ha2 : (a : ℝ) ≤ 16384 := by exact_mod_cast h2
  have hx : (1 : ℝ) ≤ (a : ℝ) * (1 / 8) := by linarith
  have hl0 : 0 ≤ Real.log ((a : ℝ) * (1 / 8)) := Real.log_nonneg hx
  have hl1 : Real.log ((a : ℝ) * (1 / 8)) ≤ 2048 := by
    have := Real.log_le_sub_one_of_pos (show 0 < (a : ℝ) * (1 / 8) by linarith)
    linarith
  rw [eight, logc, Ideal.div_coe (by norm_num), Ideal.div_coe (by norm_num), ← EReal.coe_mul, Ideal.log_coe,
    if_neg (by push_cast; linarith), ← EReal.coe_mul, ← EReal.coe_mul]
  set f : ℝ := Real.log (((a : ℤ) : ℝ) * (1 / 8)) * (1 / (11629080 / 4194304)) * 8 with hf
  have hcast : ((a : ℤ) : ℝ) = (a : ℝ) := by push_cast; rfl
  rw [hcast] at hf
  have hf0 : 0 ≤ f := by rw [hf]; positivity
  have hf1 : f < 2 ^ 30 := by rw [hf]; norm_num; nlinarith
  refine ⟨⌊f⌋₊, ?_, ?_, ?_⟩
  · rw [Nat.floor_lt hf0]; exact_mod_cast hf1
  · intro h513
    rw [Nat.le_floor_iff hf0]
    have h5 : (513 : ℝ) ≤ (a : ℝ) := by exact_mod_cast h513
    have h6 : Real.log 64 ≤ Real.log ((a : ℝ) * (1 / 8)) := Real.log_le_log (by norm_num) (by linarith)
    have h7 : Real.log 64 = 6 * Real.log 2 := by
      rw [show (64 : ℝ) = 2 ^ 6 by norm_num, Real.log_pow]; norm_num
    have h8 := Real.one_sub_inv_le_log_of_pos (show (0 : ℝ) < 2 by norm_num)
    norm_num at h8
    rw [hf]; push_cast; norm_num; nlinarith
  · have hfl : ⌊f⌋ = ((⌊f⌋₊ : ℕ) : ℤ) := (Int.natCast_floor_eq_floor hf0).symm
    have hlt : ⌊f⌋₊ < 2 ^ 30 := by rw [Nat.floor_lt hf0]; exact_mod_cast hf1
    show BitVec.ofInt 32 (max _ (min _ (if 0 ≤ f then ⌊f⌋ else ⌈f⌉))) = _
    rw [if_pos hf0, hfl]
    have : max (-((2 ^ (32 - 1) : ℕ) : ℤ)) (min (((2 ^ (32 - 1) : ℕ) : ℤ) - 1) ((⌊f⌋₊ : ℕ) : ℤ)) = ((⌊f⌋₊ : ℕ) : ℤ) := by
      rw [min_eq_right (by norm_num; omega), max_eq_right (by norm_num)]
    rw [this]; exact BitVec.ofInt_natCast 32 _

theorem big_part (a : ℕ) (h1 : 8 ≤ a) (h2 : a ≤ 16384) :
    ∃ n : ℕ, 8 ≤ n ∧ n ≤ 15 ∧ (513 ≤ a → n = 15) ∧
      IntOp.minsi (IntOp.addi 8#32 (Ideal.fptosi 32
        (Ideal.div (Ideal.log (Ideal.div (((a : ℤ) : ℝ) : EReal) (Ideal.ofBits .f32 0x41000000#32)))
          (Ideal.ofBits .f32 0x40317218#32) * Ideal.ofBits .f32 0x41000000#32))) 15#32 = BitVec.ofNat 32 n := by
  obtain ⟨n, hn, hf, he⟩ := log_part a h1 h2
  rw [he]
  refine ⟨min (8 + n) 15, by omega, by omega, by omega, ?_⟩
  have e : IntOp.addi 8#32 (BitVec.ofNat 32 n) = BitVec.ofNat 32 (8 + n) := by
    apply BitVec.eq_of_toNat_eq; simp [IntOp.addi]
  have t : (BitVec.ofNat 32 (8 + n)).toInt = ((8 + n : ℕ) : ℤ) := by
    rw [BitVec.toInt_eq_toNat_of_lt] <;> rw [BitVec.toNat_ofNat, Nat.mod_eq_of_lt (by omega)]; omega
  rw [e]
  unfold IntOp.minsi
  rw [BitVec.slt_eq_decide, t]
  have t15 : (15#32 : BitVec 32).toInt = 15 := by decide
  rw [t15]
  by_cases h : 8 + n < 15
  · rw [min_eq_left h.le, if_pos (by simpa using (by exact_mod_cast h : ((8 + n : ℕ) : ℤ) < 15))]
  · rw [min_eq_right (by omega), if_neg (by simp; omega)]

/-- The absolute value of a small integer's word. -/
theorem absi_ofInt (z : ℤ) (h : z.natAbs ≤ 16384) : IntOp.absi (BitVec.ofInt 32 z) = BitVec.ofNat 32 z.natAbs := by
  have t : (BitVec.ofInt 32 z).toInt = z := by rw [BitVec.toInt_ofInt]; exact Int.bmod_eq_of_le (by omega) (by omega)
  unfold IntOp.absi
  rw [BitVec.msb_eq_toInt, t]
  by_cases hz : z < 0
  · rw [if_pos (by simpa using hz), ← BitVec.ofInt_neg, show -z = ((z.natAbs : ℕ) : ℤ) by omega, BitVec.ofInt_natCast]
  · rw [if_neg (by simpa using hz)]
    conv_lhs => rw [show z = ((z.natAbs : ℕ) : ℤ) by omega, BitVec.ofInt_natCast]

/-- The bucket is a row of the table; a position more than 512 behind is in bucket 15. -/
theorem bk_spec (z : ℤ) (h : z.natAbs ≤ 16384) :
    (bk (BitVec.ofInt 32 z)).toNat < 32 ∧ (z ≤ -513 → bk (BitVec.ofInt 32 z) = 15#32) := by
  have t : (BitVec.ofInt 32 z).toInt = z := by rw [BitVec.toInt_ofInt]; exact Int.bmod_eq_of_le (by omega) (by omega)
  have ta : (BitVec.ofNat 32 z.natAbs).toInt = (z.natAbs : ℤ) := by
    rw [BitVec.toInt_eq_toNat_of_lt] <;> rw [BitVec.toNat_ofNat, Nat.mod_eq_of_lt (by omega)]; omega
  have hs : ∃ s : ℕ, s ≤ 16 ∧ (z ≤ 0 → s = 0) ∧ Scalar.select (IntOp.cmpi .sgt (BitVec.ofInt 32 z) 0#32) 16#32 0#32 = BitVec.ofNat 32 s := by
    have hc : IntOp.cmpi .sgt (BitVec.ofInt 32 z) 0#32 = BitVec.ofBool (decide (0 < z)) := by
      show BitVec.ofBool (BitVec.slt 0#32 (BitVec.ofInt 32 z)) = _
      rw [BitVec.slt_eq_decide, t]; rfl
    rw [hc]
    by_cases hz : 0 < z
    · exact ⟨16, le_refl _, fun h => absurd h (by omega), by rw [decide_eq_true hz]; rfl⟩
    · exact ⟨0, by omega, fun _ => rfl, by rw [decide_eq_false hz]; rfl⟩
  obtain ⟨s, s1, s2, hs⟩ := hs
  have hl : ∃ n : ℕ, n ≤ 15 ∧ (513 ≤ z.natAbs → n = 15) ∧
      Scalar.select (IntOp.cmpi .slt (IntOp.absi (BitVec.ofInt 32 z)) 8#32) (IntOp.absi (BitVec.ofInt 32 z))
      (IntOp.minsi (IntOp.addi 8#32 (Ideal.fptosi 32
        (Ideal.div (Ideal.log (Ideal.div (((IntOp.maxsi (IntOp.absi (BitVec.ofInt 32 z)) 1#32).toInt : ℝ) : EReal) (Ideal.ofBits .f32 0x41000000#32)))
          (Ideal.ofBits .f32 0x40317218#32) * Ideal.ofBits .f32 0x41000000#32))) 15#32) = BitVec.ofNat 32 n := by
    rw [absi_ofInt z h]
    have hc : IntOp.cmpi .slt (BitVec.ofNat 32 z.natAbs) 8#32 = BitVec.ofBool (decide (z.natAbs < 8)) := by
      show BitVec.ofBool (BitVec.slt _ _) = _
      rw [BitVec.slt_eq_decide, ta]
      congr 1
      have : (8#32 : BitVec 32).toInt = 8 := by decide
      rw [this]
      simp only [decide_eq_decide]; omega
    rw [hc]
    by_cases h8 : z.natAbs < 8
    · exact ⟨z.natAbs, by omega, fun h => by omega, by rw [decide_eq_true h8]; rfl⟩
    · have hm : IntOp.maxsi (BitVec.ofNat 32 z.natAbs) 1#32 = BitVec.ofNat 32 z.natAbs := by
        unfold IntOp.maxsi
        rw [BitVec.slt_eq_decide, ta]
        have : (1#32 : BitVec 32).toInt = 1 := by decide
        rw [this, decide_eq_true (show (1 : ℤ) < (z.natAbs : ℤ) by omega), if_pos rfl]
      rw [hm, ta]
      obtain ⟨n, n1, n2, n3, n4⟩ := big_part z.natAbs (by omega) h
      exact ⟨n, n2, n3, by rw [decide_eq_false h8, n4]; rfl⟩
  obtain ⟨n, n1, n2, hn⟩ := hl
  unfold bk
  rw [hs, hn]
  have e : IntOp.addi (BitVec.ofNat 32 s) (BitVec.ofNat 32 n) = BitVec.ofNat 32 (s + n) := by
    apply BitVec.eq_of_toNat_eq; simp [IntOp.addi]
  rw [e]
  refine ⟨by rw [BitVec.toNat_ofNat, Nat.mod_eq_of_lt (by omega)]; omega, fun hz => ?_⟩
  rw [s2 (by omega), n2 (by omega)]

/-- The row of the bias table of a relative position. -/
def row (z : ℤ) : Fin 32 := ⟨(bk (BitVec.ofInt 32 z)).toNat % 32, Nat.mod_lt _ (by decide)⟩

theorem row_far (z : ℤ) (h : z.natAbs ≤ 16384) (hz : z ≤ -513) : row z = 15 := by
  apply Fin.ext
  show (bk (BitVec.ofInt 32 z)).toNat % 32 = 15
  rw [(bk_spec z h).2 hz]; rfl

theorem bk_eq (z : ℤ) (h : z.natAbs ≤ 16384) : bk (BitVec.ofInt 32 z) = BitVec.ofNat 32 (row z).val := by
  apply BitVec.eq_of_toNat_eq
  have := (bk_spec z h).1
  rw [BitVec.toNat_ofNat]
  show _ = (bk (BitVec.ofInt 32 z)).toNat % 32 % 2 ^ 32
  omega

/-- Python's floor division by 64 of a word, as printed: the quotient toward zero, one less where signs differ. -/
def fd (w : BitVec 32) : BitVec 32 :=
  Scalar.select
    (IntOp.andi
      (IntOp.cmpi .ne (if w = 0 then (0 : BitVec 32) else if BitVec.msb w = true then -1 else 1)
        (if (64#32 : BitVec 32) = 0 then (0 : BitVec 32) else if BitVec.msb (64#32 : BitVec 32) = true then -1 else 1))
      (IntOp.cmpi .ne (IntOp.remsi ArithUnit.host w 64#32) 0#32))
    (IntOp.subi (IntOp.divsi ArithUnit.host w 64#32) 1#32)
    (IntOp.divsi ArithUnit.host w 64#32)

theorem fd_ofNat (n : ℕ) (h : n < 32768) : fd (BitVec.ofNat 32 n) = BitVec.ofNat 32 (n / 64) := by
  have hc : ¬ IntOp.SDivCorner (BitVec.ofNat 32 n) (64#32) := by
    unfold IntOp.SDivCorner
    rintro (h | ⟨_, h⟩)
    · exact absurd h (by decide)
    · exact absurd h (by decide)
  have hm : (BitVec.ofNat 32 n).msb = false := by
    rw [BitVec.msb_eq_decide, BitVec.toNat_ofNat, Nat.mod_eq_of_lt (by omega)]; simp; omega
  have hd : IntOp.divsi ArithUnit.host (BitVec.ofNat 32 n) 64#32 = BitVec.ofNat 32 (n / 64) := by
    unfold IntOp.divsi
    rw [if_neg hc, BitVec.sdiv_eq, hm]
    show BitVec.udiv _ _ = _
    apply BitVec.eq_of_toNat_eq
    show ((BitVec.ofNat 32 n) / 64#32).toNat = _
    rw [BitVec.toNat_udiv, BitVec.toNat_ofNat, BitVec.toNat_ofNat, BitVec.toNat_ofNat, Nat.mod_eq_of_lt (by omega : n < 2 ^ 32), Nat.mod_eq_of_lt (by omega : n / 64 < 2 ^ 32)]
  have hr : IntOp.remsi ArithUnit.host (BitVec.ofNat 32 n) 64#32 = BitVec.ofNat 32 (n % 64) := by
    unfold IntOp.remsi
    rw [if_neg hc, BitVec.srem_eq, hm]
    show BitVec.umod _ _ = _
    apply BitVec.eq_of_toNat_eq
    show ((BitVec.ofNat 32 n) % 64#32).toNat = _
    rw [BitVec.toNat_umod, BitVec.toNat_ofNat, BitVec.toNat_ofNat, BitVec.toNat_ofNat, Nat.mod_eq_of_lt (by omega : n < 2 ^ 32), Nat.mod_eq_of_lt (by omega : n % 64 < 2 ^ 32)]
  unfold fd
  rw [hd, hr, hm]
  by_cases h0 : n = 0
  · subst h0; decide
  · have hn0 : ¬ (BitVec.ofNat 32 n = 0) := by
      intro h
      have := congrArg BitVec.toNat h
      rw [BitVec.toNat_ofNat, Nat.mod_eq_of_lt (by omega)] at this
      exact h0 (by simpa using this)
    rw [if_neg hn0, if_neg (by decide), if_neg (by decide), if_neg (by decide)]
    have : ∀ x : BitVec 1, IntOp.andi (IntOp.cmpi .ne (1 : BitVec 32) 1) x = 0#1 := by decide
    rw [this]; rfl

theorem mask_iff (a b : ℕ) (ha : a < 32768) (hb : b < 32768) :
    IntOp.cmpi .sle (fd (BitVec.ofNat 32 a)) (fd (BitVec.ofNat 32 b)) = BitVec.ofBool (decide (a / 64 ≤ b / 64)) := by
  rw [fd_ofNat a ha, fd_ofNat b hb]
  show BitVec.ofBool (BitVec.sle _ _) = _
  have t : ∀ x : ℕ, x < 32768 → (BitVec.ofNat 32 x).toInt = (x : ℤ) := fun x hx => by
    rw [BitVec.toInt_eq_toNat_of_lt] <;> rw [BitVec.toNat_ofNat, Nat.mod_eq_of_lt (by omega)]; omega
  rw [BitVec.sle_eq_decide, t _ (by omega), t _ (by omega)]
  congr 1
  simp only [decide_eq_decide]; omega

end Cert.Attn
-- ==== Proof.Attn.RefBias.lean ====
/-
The reference's bias row and chunk mask, at an index.
-/
module

public import proofs.«01_k».proof.Proof.Attn.Gather
public import proofs.«01_k».proof.Proof.Attn.Bucket

@[expose] public section

set_option maxRecDepth 65536

noncomputable section

namespace Cert.ReferenceIdeal.Attn

open Idealize.ShloMosaic Cert.ReferenceIdeal Cert.ReferenceIdeal.Read Cert.Attn

/-- A difference of two positions, as a word. -/
theorem sub_ofNat (a b : ℕ) : IntOp.subi (BitVec.ofNat 32 a) (BitVec.ofNat 32 b) = BitVec.ofInt 32 ((a : ℤ) - b) := by
  apply BitVec.eq_of_toInt_eq
  show (BitVec.ofNat 32 a - BitVec.ofNat 32 b).toInt = _
  rw [BitVec.toInt_sub, BitVec.toInt_ofInt, BitVec.toInt_ofNat', BitVec.toInt_ofNat', Int.bmod_sub_bmod, Int.sub_bmod_bmod]

theorem v20_at (q k : Fin 16384) : val_main_v20 (F := Ideal) (ix2 q k) = BitVec.ofInt 32 ((k.val : ℤ) - q.val) := by
  rw [val_main_v20_apply, val_main_v18_apply, val_main_v19_apply, val_main_v16_apply, val_main_v17_apply, val_main_v12_apply, val_main_v12_apply]
  exact sub_ofNat _ _

theorem v44_at (q k : Fin 16384) : val_main_v44 (F := Ideal) (ix2 q k) = bk (val_main_v20 (F := Ideal) (ix2 q k)) := by
  simp only [val_main_v12_apply, val_main_cst_2_apply, val_main_v16_apply, val_main_v17_apply, val_main_v18_apply, val_main_v19_apply, val_main_v21_apply, val_main_c_apply, val_main_v22_apply, val_main_v23_apply, val_main_v24_apply, val_main_cst_3_apply, val_main_v25_apply, val_main_v26_apply, val_main_v27_apply, val_main_cst_4_apply, val_main_v28_apply, val_main_v29_apply, val_main_cst_5_apply, val_main_v30_apply, val_main_v31_apply, val_main_v32_apply, val_main_c_6_apply, val_main_v33_apply, val_main_v34_apply, val_main_c_7_apply, val_main_v35_apply, val_main_v36_apply, val_main_c_8_apply, val_main_v37_apply, val_main_v38_apply, val_main_c_9_apply, val_main_c_10_apply, val_main_call0_v0_apply, val_main_call0_v1_apply, val_main_v39_apply, val_main_c_11_apply, val_main_v40_apply, val_main_v41_apply, val_main_v42_apply, val_main_v43_apply, val_main_v44_apply]
  rfl

theorem v49_at (q k : Fin 16384) : val_main_v49 (F := Ideal) (ix2 q k) = BitVec.ofNat 32 (row ((k.val : ℤ) - q.val)).val := by
  have e : val_main_v44 (F := Ideal) (ix2 q k) = BitVec.ofNat 32 (row ((k.val : ℤ) - q.val)).val := by
    rw [v44_at, v20_at, bk_eq _ (by omega)]
  rw [val_main_v49_apply, val_main_v46_apply, val_main_v48_apply, e]
  have hz : IntOp.cmpi .slt (BitVec.ofNat 32 (row ((k.val : ℤ) - q.val)).val) (val_main_v45 (F := Ideal) (ix2 q k)) = 0#1 := by
    show IntOp.cmpi .slt (BitVec.ofNat 32 (row ((k.val : ℤ) - q.val)).val) 0#32 = 0#1
    generalize row ((k.val : ℤ) - q.val) = n
    revert n; decide
  rw [hz]; rfl

/-- The bias of query `q` and key `k` of head `h`. -/
theorem v52_at (x3 : (⟨S32x8, .f32⟩ : BufTy).Contents (Elt Ideal)) (h : Fin 8) (q k : Fin 16384) :
    val_main_v52 (F := Ideal) x3 (ix3 h q k) = x3 (ix2 (row ((k.val : ℤ) - q.val)) h) := by
  rw [val_main_v52_apply]
  show Host.gather gather_S32x8_S16384x16384x1_S16384x16384x8_2_0_n_n_0_2_18 x3 (val_main_v50 (F := Ideal)) (idx_main_v52 (ix3 h q k)) = _
  have ei : idx_main_v52 (ix3 h q k) = ix3 q k h := by
    funext a; refine Fin.cases ?_ (fun a => Fin.cases ?_ (fun a => Fin.cases ?_ (fun a => a.elim0) a) a) a <;> rfl
  rw [ei]
  refine gather_at x3 _ q k h _ ?_
  rw [val_main_v50_apply]
  have ej : idx_main_v50 (ix3 q k 0) = ix2 q k := by
    funext a; refine Fin.cases ?_ (fun a => Fin.cases ?_ (fun a => a.elim0) a) a <;> rfl
  rw [ej]
  exact v49_at q k

/-- The chunk mask. -/
theorem v59_at (q k : Fin 16384) : val_main_v59 (F := Ideal) (ix2 q k) = BitVec.ofBool (decide (k.val / 64 ≤ q.val / 64)) := by
  rw [← mask_iff _ _ (by omega) (by omega)]
  simp only [val_main_v53_apply, val_main_c_14_apply, val_main_call2_v0_apply, val_main_call2_v1_apply, val_main_call2_v2_apply, val_main_call2_v5_apply, val_main_call2_v6_apply, val_main_call2_v7_apply, val_main_call2_v8_apply, val_main_call2_c_apply, val_main_call2_v9_apply, val_main_call2_v10_apply, val_main_call2_v11_apply, val_main_call2_c_0_apply, val_main_call2_v12_apply, val_main_call2_v13_apply, val_main_v54_apply, val_main_v55_apply, val_main_c_15_apply, val_main_call3_v0_apply, val_main_call3_v1_apply, val_main_call3_v2_apply, val_main_call3_v5_apply, val_main_call3_v6_apply, val_main_call3_v7_apply, val_main_call3_v8_apply, val_main_call3_c_apply, val_main_call3_v9_apply, val_main_call3_v10_apply, val_main_call3_v11_apply, val_main_call3_c_0_apply, val_main_call3_v12_apply, val_main_call3_v13_apply, val_main_v56_apply, val_main_v57_apply, val_main_v58_apply, val_main_v59_apply]
  rfl

end Cert.ReferenceIdeal.Attn
-- ==== Proof.Attn.RefScore.lean ====
/-
The reference's masked scores and their largest, at an index.
-/
module

public import proofs.«01_k».proof.Proof.Attn.RefBias
public import Idealize.ShloMosaic.PureOps.Reduce
public import Idealize.ShloMosaic.PureOps.Ideal.Laws

@[expose] public section

set_option maxRecDepth 65536

noncomputable section

namespace Cert.ReferenceIdeal.Attn

open Idealize.ShloMosaic Cert.ReferenceIdeal Cert.ReferenceIdeal.Gen Cert.ReferenceIdeal.Read Cert.Attn

variable (X0 X1 : S2x16384x8x2x64.Idx → ℝ) (X3 : S32x8.Idx → ℝ)

theorem eighth : Ideal.ofBits .f32 0x3E000000#32 = ((1 / 8 : ℝ) : EReal) := by
  simp [Ideal.ofBits, Ideal.ieee, -EReal.coe_mul]; norm_num

theorem bot_bits : Ideal.ofBits .f32 0xFF800000#32 = (⊥ : EReal) := by
  simp [Ideal.ofBits, Ideal.ieee]

theorem coe_sum' {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The score of key `k` for query `q`: the scaled product and the bias of their distance. -/
def score (b m : Fin 2) (h : Fin 8) (q k : Fin 16384) : ℝ :=
  (∑ d : Fin 64, X0 (ix5 b q h m d) * X1 (ix5 b k h m d)) * (1 / 8) + X3 (ix2 (row ((k.val : ℤ) - q.val)) h)

theorem v15_at (b m : Fin 2) (h : Fin 8) (q k : Fin 16384) :
    val_main_v15 (F := Ideal) (fun i => ((X0 i : ℝ) : EReal)) (fun i => ((X1 i : ℝ) : EReal)) (ix5 b m h q k) =
      (((∑ d : Fin 64, X0 (ix5 b q h m d) * X1 (ix5 b k h m d)) * (1 / 8) : ℝ) : EReal) := by
  rw [val_main_v15_apply, val_main_v13_apply, val_main_v14_apply]
  have e : ∀ d : Fin 64, ((X0 (lidx_main_v13 (ix5 b m h q k) d) : ℝ) : EReal) * ((X1 (ridx_main_v13 (ix5 b m h q k) d) : ℝ) : EReal)
      = ((X0 (ix5 b q h m d) * X1 (ix5 b k h m d) : ℝ) : EReal) := by
    intro d
    rw [← EReal.coe_mul]
    have e1 : lidx_main_v13 (ix5 b m h q k) d = ix5 b q h m d := by
      funext a
      match a with | ⟨0, _⟩ => rfl | ⟨1, _⟩ => rfl | ⟨2, _⟩ => rfl | ⟨3, _⟩ => rfl | ⟨4, _⟩ => rfl
    have e2 : ridx_main_v13 (ix5 b m h q k) d = ix5 b k h m d := by
      funext a
      match a with | ⟨0, _⟩ => rfl | ⟨1, _⟩ => rfl | ⟨2, _⟩ => rfl | ⟨3, _⟩ => rfl | ⟨4, _⟩ => rfl
    rw [e1, e2]
  rw [Finset.sum_congr rfl fun d _ => e d, coe_sum']
  show _ * Ideal.ofBits .f32 0x3E000000#32 = _
  rw [eighth, ← EReal.coe_mul]

/-- The masked score. -/
theorem v63_at (b m : Fin 2) (h : Fin 8) (q k : Fin 16384) :
    val_main_v63 (F := Ideal) (fun i => ((X0 i : ℝ) : EReal)) (fun i => ((X1 i : ℝ) : EReal)) (fun i => ((X3 i : ℝ) : EReal)) (ix5 b m h q k) =
      if k.val / 64 ≤ q.val / 64 then ((score X0 X1 X3 b m h q k : ℝ) : EReal) else ⊥ := by
  rw [val_main_v63_apply, val_main_call4_v1_apply, val_main_call4_v2_apply, val_main_v62_apply, val_main_v61_apply, val_main_v60_apply, v15_at]
  have e1 : idx_main_call4_v1 (ix5 b m h q k) = ix2 q k := by
    funext a
    match a with | ⟨0, _⟩ => rfl | ⟨1, _⟩ => rfl
  have e2 : idx_main_v60 (idx_main_v61 (ix5 b m h q k)) = ix3 h q k := by
    funext a
    match a with | ⟨0, _⟩ => rfl | ⟨1, _⟩ => rfl | ⟨2, _⟩ => rfl
  rw [e1, e2, v59_at, v52_at]
  by_cases hm : k.val / 64 ≤ q.val / 64
  · rw [if_pos hm, decide_eq_true hm]
    show ((_ : ℝ) : EReal) + ((_ : ℝ) : EReal) = _
    rw [← EReal.coe_add]
    rfl
  · rw [if_neg hm, decide_eq_false hm]
    exact bot_bits

/-- The largest masked score of a query is a real number. -/
theorem v66_at (b m : Fin 2) (h : Fin 8) (q : Fin 16384) :
    ∃ M : ℝ, val_main_v66 (F := Ideal) (fun i => ((X0 i : ℝ) : EReal)) (fun i => ((X1 i : ℝ) : EReal)) (fun i => ((X3 i : ℝ) : EReal)) (ix4 b m h q) = (M : EReal) := by
  have hlt : ∀ i, val_main_v63 (F := Ideal) (fun i => ((X0 i : ℝ) : EReal)) (fun i => ((X1 i : ℝ) : EReal)) (fun i => ((X3 i : ℝ) : EReal)) i < (⊤ : EReal) := by
    intro i
    obtain ⟨b, m, h, q, k, rfl⟩ : ∃ (b m : Fin 2) (h : Fin 8) (q k : Fin 16384), i = ix5 b m h q k := ⟨i 0, i 1, i 2, i 3, i 4, by
      funext a
      match a with | ⟨0, _⟩ => rfl | ⟨1, _⟩ => rfl | ⟨2, _⟩ => rfl | ⟨3, _⟩ => rfl | ⟨4, _⟩ => rfl⟩
    rw [v63_at]
    split
    · exact EReal.coe_lt_top _
    · exact bot_lt_top
  have hq := v63_at X0 X1 X3 b m h q q
  rw [if_pos le_rfl] at hq
  rw [val_main_v66_apply, val_main_v65_apply]
  unfold val_main_v64
  generalize val_main_v63 (F := Ideal) (fun i => ((X0 i : ℝ) : EReal)) (fun i => ((X1 i : ℝ) : EReal)) (fun i => ((X3 i : ℝ) : EReal)) = y at *
  have hb : (⊥ : EReal) = Ideal.ofBits .f32 0xFF800000#32 := bot_bits.symm
  show ∃ M : ℝ, max (Ideal.ofBits .f32 0xFF800000#32) (Host.reduce (fun a b : EReal => max a b) y (fun _ => Ideal.ofBits .f32 0xFF800000#32) reducesTo_S2x2x8x16384x16384_S2x2x8x16384_d4 h_S_ (ix4 b m h q)) = (M : EReal)
  rw [bot_bits, Host.reduce_eq_fold, max_eq_right bot_le]
  set v := Finset.fold (fun a b : EReal => max a b) ⊥ y (Finset.univ.filter fun i => reducesTo_S2x2x8x16384x16384_S2x2x8x16384_d4.drop i = ix4 b m h q) with hv
  have h1 : v < ⊤ := by
    rw [hv]; exact (Finset.fold_max_lt _).2 ⟨bot_lt_top, fun i _ => hlt i⟩
  have h2 : ⊥ < v := by
    rw [hv]
    refine (Finset.lt_fold_max _).2 (Or.inr ⟨ix5 b m h q q, ?_, ?_⟩)
    · rw [Finset.mem_filter]
      refine ⟨Finset.mem_univ _, ?_⟩
      funext a
      match a with | ⟨0, _⟩ => rfl | ⟨1, _⟩ => rfl | ⟨2, _⟩ => rfl | ⟨3, _⟩ => rfl
    · rw [hq]; exact EReal.bot_lt_coe _
  exact ⟨v.toReal, (EReal.coe_toReal h1.ne h2.ne').symm⟩

end Cert.ReferenceIdeal.Attn
-- ==== Proof.Attn.RefSoft.lean ====
/-
The reference's softmax weights, at an index: exponentials of the scores over any fixed number, each over their sum.
-/
module

public import proofs.«01_k».proof.Proof.Attn.RefScore

@[expose] public section

set_option maxRecDepth 65536

noncomputable section

namespace Cert.ReferenceIdeal.Attn

open Idealize.ShloMosaic Cert.ReferenceIdeal Cert.ReferenceIdeal.Gen Cert.ReferenceIdeal.Read Cert.Attn

variable (X0 X1 : S2x16384x8x2x64.Idx → ℝ) (X3 : S32x8.Idx → ℝ)

/-- The weight of key `k` before normalisation: the exponential of its score over the far keys' bias. -/
def wt (b m : Fin 2) (h : Fin 8) (q k : Fin 16384) : ℝ :=
  if k.val / 64 ≤ q.val / 64 then Real.exp (score X0 X1 X3 b m h q k - X3 (ix2 15 h)) else 0

theorem wt_nonneg (b m : Fin 2) (h : Fin 8) (q k : Fin 16384) : 0 ≤ wt X0 X1 X3 b m h q k := by
  unfold wt; split
  · exact (Real.exp_pos _).le
  · exact le_rfl

theorem wt_sum_pos (b m : Fin 2) (h : Fin 8) (q : Fin 16384) : 0 < ∑ k, wt X0 X1 X3 b m h q k := by
  refine Finset.sum_pos' (fun k _ => wt_nonneg X0 X1 X3 b m h q k) ⟨q, Finset.mem_univ _, ?_⟩
  unfold wt; rw [if_pos le_rfl]; exact Real.exp_pos _

theorem v70_at (b m : Fin 2) (h : Fin 8) (q k : Fin 16384) {M : ℝ} (hM : val_main_v66 (F := Ideal) (fun i => ((X0 i : ℝ) : EReal)) (fun i => ((X1 i : ℝ) : EReal)) (fun i => ((X3 i : ℝ) : EReal)) (ix4 b m h q) = (M : EReal)) :
    val_main_v70 (F := Ideal) (fun i => ((X0 i : ℝ) : EReal)) (fun i => ((X1 i : ℝ) : EReal)) (fun i => ((X3 i : ℝ) : EReal)) (ix5 b m h q k) =
      ((Real.exp (X3 (ix2 15 h) - M) * wt X0 X1 X3 b m h q k : ℝ) : EReal) := by
  rw [val_main_v70_apply, val_main_v69_apply, val_main_v68_apply, val_main_v67_apply, v63_at]
  have e : idx_main_v67 (idx_main_v68 (ix5 b m h q k)) = ix4 b m h q := by
    funext a
    match a with | ⟨0, _⟩ => rfl | ⟨1, _⟩ => rfl | ⟨2, _⟩ => rfl | ⟨3, _⟩ => rfl
  rw [e, hM]
  unfold wt
  show Ideal.exp ((if k.val / 64 ≤ q.val / 64 then ((score X0 X1 X3 b m h q k : ℝ) : EReal) else ⊥) - (M : EReal)) = _
  by_cases hm : k.val / 64 ≤ q.val / 64
  · rw [if_pos hm, if_pos hm, ← Real.exp_add]
    rw [← EReal.coe_sub, Ideal.exp_coe]
    refine congrArg (fun x : ℝ => ((Real.exp x : ℝ) : EReal)) ?_
    ring
  · rw [if_neg hm, if_neg hm, mul_zero]
    rw [EReal.bot_sub, Ideal.exp_bot]; rfl

/-- The softmax weight of key `k`. -/
def prob (b m : Fin 2) (h : Fin 8) (q k : Fin 16384) : ℝ := wt X0 X1 X3 b m h q k / ∑ k', wt X0 X1 X3 b m h q k'

theorem v74_at (b m : Fin 2) (h : Fin 8) (q k : Fin 16384) :
    val_main_v74 (F := Ideal) (fun i => ((X0 i : ℝ) : EReal)) (fun i => ((X1 i : ℝ) : EReal)) (fun i => ((X3 i : ℝ) : EReal)) (ix5 b m h q k) =
      ((prob X0 X1 X3 b m h q k : ℝ) : EReal) := by
  obtain ⟨M, hM⟩ := v66_at X0 X1 X3 b m h q
  rw [val_main_v74_apply, val_main_v73_apply, val_main_v72_apply, val_main_v71_apply, v70_at X0 X1 X3 b m h q k hM]
  have e : idx_main_v72 (idx_main_v73 (ix5 b m h q k)) = ix4 b m h q := by
    funext a
    match a with | ⟨0, _⟩ => rfl | ⟨1, _⟩ => rfl | ⟨2, _⟩ => rfl | ⟨3, _⟩ => rfl
  have e2 : ∀ k', idx_main_v71 (ix4 b m h q) k' = ix5 b m h q k' := by
    intro k'; funext a
    match a with | ⟨0, _⟩ => rfl | ⟨1, _⟩ => rfl | ⟨2, _⟩ => rfl | ⟨3, _⟩ => rfl | ⟨4, _⟩ => rfl
  rw [e, Finset.sum_congr rfl fun k' _ => by rw [e2, v70_at X0 X1 X3 b m h q k' hM], coe_sum']
  have hz : (val_main_cst_19 (F := Ideal)) (Shape.Idx.first h_S_) = (0 : EReal) := by
    show Ideal.ofBits .f32 0x00000000#32 = 0
    simp [Ideal.ofBits, Ideal.ieee]
  rw [hz]
  show Ideal.div ((Real.exp (X3 (ix2 15 h) - M) * wt X0 X1 X3 b m h q k : ℝ) : EReal)
    ((0 : EReal) + ((∑ k', Real.exp (X3 (ix2 15 h) - M) * wt X0 X1 X3 b m h q k' : ℝ) : EReal)) = _
  rw [zero_add, ← Finset.mul_sum]
  have hp := wt_sum_pos X0 X1 X3 b m h q
  have he := Real.exp_pos (X3 (ix2 15 h) - M)
  rw [Ideal.div_coe (by positivity), ← EReal.coe_mul]
  unfold prob
  refine congrArg (fun x : ℝ => (x : EReal)) ?_
  field_simp

end Cert.ReferenceIdeal.Attn
-- ==== Proof.Attn.RefOut.lean ====
/-
The reference's result at an index: the difference of the two halves' attention, normalised over its 128 components.
-/
module

public import proofs.«01_k».proof.Proof.Attn.RefSoft

@[expose] public section

set_option maxRecDepth 65536

noncomputable section

namespace Cert.ReferenceIdeal.Attn

open Idealize.ShloMosaic Cert.ReferenceIdeal Cert.ReferenceIdeal.Gen Cert.ReferenceIdeal.Read Cert.Attn

variable (X0 X1 : S2x16384x8x2x64.Idx → ℝ) (X2 : S2x16384x8x128.Idx → ℝ) (X3 : S32x8.Idx → ℝ)
variable (x4 x5 x6 x7 : (⟨S1x64, .f32⟩ : BufTy).Contents (Elt Ideal)) (x8 : (⟨S1x128, .f32⟩ : BufTy).Contents (Elt Ideal)) (l : ℝ)

/-- One half's attention. -/
def half (b m : Fin 2) (h : Fin 8) (q : Fin 16384) (e : Fin 128) : ℝ :=
  (∑ k, X2 (ix4 b k h e) * wt X0 X1 X3 b m h q k) / ∑ k, wt X0 X1 X3 b m h q k

/-- The first half's attention less `l` times the second's. -/
def diff (b : Fin 2) (h : Fin 8) (q : Fin 16384) (e : Fin 128) : ℝ :=
  half X0 X1 X2 X3 b 0 h q e - l * half X0 X1 X2 X3 b 1 h q e

theorem v81_at (hl : ∀ i, val_main_v11 (F := Ideal) x4 x5 x6 x7 i = (l : EReal)) (b : Fin 2) (h : Fin 8) (q k : Fin 16384) :
    val_main_v81 (F := Ideal) (fun i => ((X0 i : ℝ) : EReal)) (fun i => ((X1 i : ℝ) : EReal)) (fun i => ((X3 i : ℝ) : EReal)) x4 x5 x6 x7 (ix4 b h q k) =
      ((prob X0 X1 X3 b 0 h q k - l * prob X0 X1 X3 b 1 h q k : ℝ) : EReal) := by
  rw [val_main_v81_apply, val_main_v80_apply, val_main_v76_apply, val_main_v75_apply, val_main_v78_apply, val_main_v77_apply, val_main_v79_apply, hl]
  have e0 : idx_main_v75 (idx_main_v76 (ix4 b h q k)) = ix5 b 0 h q k := by
    funext a
    match a with
    | ⟨0, _⟩ => exact Fin.ext (show (((b.val * 8 + h.val) * 16384 + q.val) * 16384 + k.val) / 2147483648 = b.val by omega)
    | ⟨1, _⟩ => rfl
    | ⟨2, _⟩ => exact Fin.ext (show (((b.val * 8 + h.val) * 16384 + q.val) * 16384 + k.val) / 268435456 % 8 = h.val by omega)
    | ⟨3, _⟩ => exact Fin.ext (show (((b.val * 8 + h.val) * 16384 + q.val) * 16384 + k.val) / 16384 % 16384 = q.val by omega)
    | ⟨4, _⟩ => exact Fin.ext (show (((b.val * 8 + h.val) * 16384 + q.val) * 16384 + k.val) % 16384 = k.val by omega)
  have e1 : idx_main_v77 (idx_main_v78 (ix4 b h q k)) = ix5 b 1 h q k := by
    funext a
    match a with
    | ⟨0, _⟩ => exact Fin.ext (show (((b.val * 8 + h.val) * 16384 + q.val) * 16384 + k.val) / 2147483648 = b.val by omega)
    | ⟨1, _⟩ => rfl
    | ⟨2, _⟩ => exact Fin.ext (show (((b.val * 8 + h.val) * 16384 + q.val) * 16384 + k.val) / 268435456 % 8 = h.val by omega)
    | ⟨3, _⟩ => exact Fin.ext (show (((b.val * 8 + h.val) * 16384 + q.val) * 16384 + k.val) / 16384 % 16384 = q.val by omega)
    | ⟨4, _⟩ => exact Fin.ext (show (((b.val * 8 + h.val) * 16384 + q.val) * 16384 + k.val) % 16384 = k.val by omega)
  rw [e0, e1, v74_at, v74_at]
  rw [EReal.coe_sub, EReal.coe_mul]
  rfl

theorem v83_at (hl : ∀ i, val_main_v11 (F := Ideal) x4 x5 x6 x7 i = (l : EReal)) (b : Fin 2) (h : Fin 8) (q : Fin 16384) (e : Fin 128) :
    val_main_v83 (F := Ideal) (fun i => ((X0 i : ℝ) : EReal)) (fun i => ((X1 i : ℝ) : EReal)) (fun i => ((X2 i : ℝ) : EReal)) (fun i => ((X3 i : ℝ) : EReal)) x4 x5 x6 x7 (ix4 b q h e) =
      ((diff X0 X1 X2 X3 l b h q e : ℝ) : EReal) := by
  rw [val_main_v83_apply, val_main_v82_apply]
  have e0 : idx_main_v83 (ix4 b q h e) = ix4 b h e q := by
    funext a
    match a with | ⟨0, _⟩ => rfl | ⟨1, _⟩ => rfl | ⟨2, _⟩ => rfl | ⟨3, _⟩ => rfl
  have e1 : ∀ k, lidx_main_v82 (ix4 b h e q) k = ix4 b k h e := by
    intro k; funext a
    match a with | ⟨0, _⟩ => rfl | ⟨1, _⟩ => rfl | ⟨2, _⟩ => rfl | ⟨3, _⟩ => rfl
  have e2 : ∀ k, ridx_main_v82 (ix4 b h e q) k = ix4 b h q k := by
    intro k; funext a
    match a with | ⟨0, _⟩ => rfl | ⟨1, _⟩ => rfl | ⟨2, _⟩ => rfl | ⟨3, _⟩ => rfl
  rw [e0]
  have s : ∀ k, ((X2 (lidx_main_v82 (ix4 b h e q) k) : ℝ) : EReal) * val_main_v81 (F := Ideal) (fun i => ((X0 i : ℝ) : EReal)) (fun i => ((X1 i : ℝ) : EReal)) (fun i => ((X3 i : ℝ) : EReal)) x4 x5 x6 x7 (ridx_main_v82 (ix4 b h e q) k)
      = ((X2 (ix4 b k h e) * (prob X0 X1 X3 b 0 h q k - l * prob X0 X1 X3 b 1 h q k) : ℝ) : EReal) := by
    intro k
    rw [e1, e2, v81_at X0 X1 X3 x4 x5 x6 x7 l hl, EReal.coe_mul]
  rw [Finset.sum_congr rfl fun k _ => s k, coe_sum']
  refine congrArg (fun x : ℝ => (x : EReal)) ?_
  unfold diff half prob
  rw [Finset.sum_div, Finset.sum_div, Finset.mul_sum, ← Finset.sum_sub_distrib]
  refine Finset.sum_congr rfl fun k _ => ?_
  ring

/-- The result. -/
theorem v101_at (hl : ∀ i, val_main_v11 (F := Ideal) x4 x5 x6 x7 i = (l : EReal)) (b : Fin 2) (h : Fin 8) (q : Fin 16384) (e : Fin 128) :
    val_main_v101 (F := Ideal) (fun i => ((X0 i : ℝ) : EReal)) (fun i => ((X1 i : ℝ) : EReal)) (fun i => ((X2 i : ℝ) : EReal)) (fun i => ((X3 i : ℝ) : EReal)) x4 x5 x6 x7 x8
        (ix2 ⟨b.val * 16384 + q.val, by omega⟩ ⟨h.val * 128 + e.val, by omega⟩) =
      ((diff X0 X1 X2 X3 l b h q e : ℝ) : EReal) * Ideal.rsqrt (Ideal.div (∑ x, ((diff X0 X1 X2 X3 l b h q x : ℝ) : EReal) * ((diff X0 X1 X2 X3 l b h q x : ℝ) : EReal))
          (Ideal.ofBits .f32 0x43000000#32) + Ideal.ofBits .f32 0x3727C5AC#32)
        * (show EReal from x8 (ix2 0 e)) * Ideal.ofBits .f32 0x3F4CCCCD#32 := by
  rw [val_main_v101_apply, val_main_v100_apply]
  have e0 : idx_main_v100 (ix2 ⟨b.val * 16384 + q.val, by omega⟩ ⟨h.val * 128 + e.val, by omega⟩) = ix4 b q h e := by
    funext a
    match a with
    | ⟨0, _⟩ => exact Fin.ext (show ((b.val * 16384 + q.val) * 1024 + (h.val * 128 + e.val)) / 16777216 = b.val by omega)
    | ⟨1, _⟩ => exact Fin.ext (show ((b.val * 16384 + q.val) * 1024 + (h.val * 128 + e.val)) / 1024 % 16384 = q.val by omega)
    | ⟨2, _⟩ => exact Fin.ext (show ((b.val * 16384 + q.val) * 1024 + (h.val * 128 + e.val)) / 128 % 8 = h.val by omega)
    | ⟨3, _⟩ => exact Fin.ext (show ((b.val * 16384 + q.val) * 1024 + (h.val * 128 + e.val)) % 128 = e.val by omega)
  rw [e0, val_main_v99_apply, val_main_v97_apply, val_main_v93_apply, val_main_v92_apply, val_main_v91_apply, val_main_v90_apply, val_main_v88_apply, val_main_v86_apply,
    val_main_v85_apply, val_main_v96_apply, val_main_v95_apply, val_main_v94_apply, v83_at X0 X1 X2 X3 x4 x5 x6 x7 l hl]
  have e1 : ∀ x, idx_main_v85 (idx_main_v86 (idx_main_v92 (ix4 b q h e))) x = ix4 b q h x := by
    intro x; funext a
    match a with | ⟨0, _⟩ => rfl | ⟨1, _⟩ => rfl | ⟨2, _⟩ => rfl | ⟨3, _⟩ => rfl
  have e2 : idx_main_v94 (idx_main_v95 (idx_main_v96 (ix4 b q h e))) = ix2 0 e := by
    funext a
    match a with
    | ⟨0, _⟩ => rfl
    | ⟨1, _⟩ => exact Fin.ext (show e.val % 128 = e.val by omega)
  have s : ∀ x, val_main_v84 (F := Ideal) (fun i => ((X0 i : ℝ) : EReal)) (fun i => ((X1 i : ℝ) : EReal)) (fun i => ((X2 i : ℝ) : EReal)) (fun i => ((X3 i : ℝ) : EReal)) x4 x5 x6 x7 (idx_main_v85 (idx_main_v86 (idx_main_v92 (ix4 b q h e))) x)
      = (show EReal from ((diff X0 X1 X2 X3 l b h q x : ℝ) : EReal) * ((diff X0 X1 X2 X3 l b h q x : ℝ) : EReal)) := by
    intro x
    rw [e1, val_main_v84_apply, v83_at X0 X1 X2 X3 x4 x5 x6 x7 l hl]
    rfl
  rw [e2, Finset.sum_congr rfl fun x _ => s x]
  have hz : (val_main_cst_20 (F := Ideal)) (Shape.Idx.first h_S_) = (0 : EReal) := by
    show Ideal.ofBits .f32 0x00000000#32 = 0
    simp [Ideal.ofBits, Ideal.ieee]
  rw [hz, zero_add]
  rfl

/-- A sum over a vector's indices is one over its positions. -/
theorem sum_vec (f : S64.Idx → EReal) : ∑ j, f j = ∑ x : Fin 64, f (ix1 x) := by
  let e : Fin 64 ≃ S64.Idx := ⟨fun x => ix1 x, fun j => j 0, fun _ => rfl, fun j => by
    funext a
    match a with | ⟨0, _⟩ => rfl⟩
  exact (Equiv.sum_comp e f).symm

theorem dot_at (Y Z : S1x64.Idx → ℝ) (y z : S64.Idx → EReal) (hy : ∀ x : Fin 64, y (ix1 x) = ((Y (ix2 0 x) : ℝ) : EReal)) (hz : ∀ x : Fin 64, z (ix1 x) = ((Z (ix2 0 x) : ℝ) : EReal)) :
    Ideal.ofBits .f32 0x00000000#32 + ∑ j, y j * z j = ∑ x : Fin 64, ((Y (ix2 0 x) : ℝ) : EReal) * ((Z (ix2 0 x) : ℝ) : EReal) := by
  have h0 : Ideal.ofBits .f32 0x00000000#32 = (0 : EReal) := by
    simp [Ideal.ofBits, Ideal.ieee]
  rw [h0, zero_add, sum_vec]
  exact Finset.sum_congr rfl fun x _ => by rw [hy, hz]

theorem vec_idx (x : Fin 64) : idx_main_v0 (ix1 x) = ix2 0 x := by
  funext a
  match a with
  | ⟨0, _⟩ => rfl
  | ⟨1, _⟩ => exact Fin.ext (show x.val % 64 = x.val by omega)

/-- The second half's weight, from the four vectors it is made of. -/
theorem v11_at (Y4 Y5 Y6 Y7 : S1x64.Idx → ℝ) (i : S_.Idx) :
    val_main_v11 (F := Ideal) (fun i => ((Y4 i : ℝ) : EReal)) (fun i => ((Y5 i : ℝ) : EReal)) (fun i => ((Y6 i : ℝ) : EReal)) (fun i => ((Y7 i : ℝ) : EReal)) i =
      Ideal.exp (∑ x : Fin 64, ((Y4 (ix2 0 x) : ℝ) : EReal) * ((Y5 (ix2 0 x) : ℝ) : EReal))
        - Ideal.exp (∑ x : Fin 64, ((Y6 (ix2 0 x) : ℝ) : EReal) * ((Y7 (ix2 0 x) : ℝ) : EReal)) + Ideal.ofBits .f32 0x3E4CCCCD#32 := by
  rw [val_main_v11_apply, val_main_v10_apply, val_main_v4_apply, val_main_v9_apply, val_main_v3_apply, val_main_v8_apply]
  have h1 := dot_at Y4 Y5 (val_main_v0 (F := Ideal) (fun i => ((Y4 i : ℝ) : EReal))) (val_main_v1 (F := Ideal) (fun i => ((Y5 i : ℝ) : EReal)))
    (fun x => by rw [val_main_v0_apply, vec_idx]) (fun x => by rw [val_main_v1_apply]; exact congrArg (fun i => ((Y5 i : ℝ) : EReal)) (vec_idx x))
  have h2 := dot_at Y6 Y7 (val_main_v5 (F := Ideal) (fun i => ((Y6 i : ℝ) : EReal))) (val_main_v6 (F := Ideal) (fun i => ((Y7 i : ℝ) : EReal)))
    (fun x => by rw [val_main_v5_apply]; exact congrArg (fun i => ((Y6 i : ℝ) : EReal)) (vec_idx x)) (fun x => by rw [val_main_v6_apply]; exact congrArg (fun i => ((Y7 i : ℝ) : EReal)) (vec_idx x))
  rw [← h1, ← h2]
  rfl

end Cert.ReferenceIdeal.Attn
-- ==== Proof.Attn.Weights.lean ====
/-
The kernel's weights, as sums over its own blocks of keys, and the reference's, as softmax weights over all keys: the
same numbers.
-/
module

public import proofs.«01_k».proof.Proof.Attn.OutValue
public import proofs.«01_k».proof.Proof.Attn.RefOut

@[expose] public section

set_option maxRecDepth 65536

noncomputable section

namespace Cert.Attn

open Idealize.ShloMosaic
open Cert.KernelIdeal.Attn
open Cert.ReferenceIdeal.Attn (score wt half diff wt_sum_pos)

variable (X0 X1 : Cert.ReferenceIdeal.S2x16384x8x2x64.Idx → ℝ) (X2 : Cert.ReferenceIdeal.S2x16384x8x128.Idx → ℝ) (X3 : Cert.ReferenceIdeal.S32x8.Idx → ℝ)
variable (b : Fin 2) (h : Fin 8) (T : ℕ)

/-- The keys of batch `b` and head `h`, both halves in a row. -/
def keys (n : ℕ) (d : Fin 128) : ℝ :=
  if hn : n < 16384 then X1 (ix5 b ⟨n, hn⟩ h ⟨d.val / 64, by omega⟩ ⟨d.val % 64, by omega⟩) else 0

/-- The queries of block `T`, scaled. -/
def query (d : Fin 128) (r : ℕ) : ℝ :=
  if hr : 1024 * T + r < 16384 then X0 (ix5 b ⟨1024 * T + r, hr⟩ h ⟨d.val / 64, by omega⟩ ⟨d.val % 64, by omega⟩) * (1 / 8) * (1 / Real.log 2) else 0

/-- The values of batch `b` and head `h`. -/
def vals (e : Fin 128) (n : ℕ) : ℝ := if hn : n < 16384 then X2 (ix4 b ⟨n, hn⟩ h e) else 0

/-- The bias of key `n` for query `p`, over the far keys'. -/
def over (n p : ℕ) : ℝ := X3 (ix2 (row ((n : ℤ) - (p : ℤ))) h) - X3 (ix2 15 h)

/-- The weight of key `n` for column `c` of the block. -/
def weight (n c : ℕ) : ℝ :=
  if n / 64 ≤ (1024 * T + c % 1024) / 64 then
    Real.rpow 2 (Rsc (keys X1 b h) (Qm (query X0 b h T)) n c + over X3 h n (1024 * T + c % 1024) * (1 / Real.log 2))
  else 0

theorem weight_far (hT : T < 16) (n c : ℕ) (hn : n + 512 < 1024 * T) :
    weight X0 X1 X3 b h T n c = Real.rpow 2 (Rsc (keys X1 b h) (Qm (query X0 b h T)) n c) := by
  have hc : c % 1024 < 1024 := Nat.mod_lt _ (by norm_num)
  unfold weight over
  rw [if_pos (by omega), row_far _ (by omega) (by omega), sub_self, zero_mul, add_zero]

theorem weight_zero (r c : ℕ) (hc : c % 1024 < 512) : weight X0 X1 X3 b h T (1024 * T + 512 + r) c = 0 := by
  unfold weight
  rw [if_neg (by omega)]

/-- The product over the 128 components of both halves, the other half's queries zeroed, is the product over the 64 of one. -/
theorem Rsc_eq (n c : ℕ) (hn : n < 16384) (hc : c < 2048) (hp : 1024 * T + c % 1024 < 16384) :
    Rsc (keys X1 b h) (Qm (query X0 b h T)) n c =
      (∑ d : Fin 64, X0 (ix5 b ⟨1024 * T + c % 1024, hp⟩ h ⟨c / 1024, by omega⟩ d) * X1 (ix5 b ⟨n, hn⟩ h ⟨c / 1024, by omega⟩ d)) * (1 / 8) * (1 / Real.log 2) := by
  unfold Rsc
  rw [show (∑ d : Fin 128, keys X1 b h n d * Qm (query X0 b h T) d c) = ∑ d : Fin (64 + 64), keys X1 b h n d * Qm (query X0 b h T) d c from rfl, Fin.sum_univ_add]
  rw [Finset.sum_mul, Finset.sum_mul]
  by_cases h0 : c < 1024
  · have z : ∑ d : Fin 64, keys X1 b h n (Fin.natAdd 64 d) * Qm (query X0 b h T) (Fin.natAdd 64 d) c = 0 := by
      refine Finset.sum_eq_zero fun d _ => ?_
      unfold Qm
      rw [if_pos h0, if_neg (by show ¬ 64 + d.val < 64; omega), mul_zero]
    rw [z, add_zero]
    refine Finset.sum_congr rfl fun d _ => ?_
    have e1 : 1024 * T + c < 16384 := by omega
    have ei : (⟨1024 * T + c % 1024, hp⟩ : Fin 16384) = ⟨1024 * T + c, e1⟩ := Fin.ext (by show 1024 * T + c % 1024 = 1024 * T + c; omega)
    have em : (⟨c / 1024, by omega⟩ : Fin 2) = ⟨(Fin.castAdd 64 d).val / 64, by show d.val / 64 < 2; omega⟩ := Fin.ext (by show c / 1024 = d.val / 64; omega)
    have ed : d = ⟨(Fin.castAdd 64 d).val % 64, by omega⟩ := Fin.ext (by show d.val = d.val % 64; omega)
    unfold Qm keys query
    rw [if_pos h0, if_pos (show (Fin.castAdd 64 d).val < 64 from d.isLt), dif_pos hn, dif_pos e1, ei, em]
    rw [← ed]
    ring
  · have z : ∑ d : Fin 64, keys X1 b h n (Fin.castAdd 64 d) * Qm (query X0 b h T) (Fin.castAdd 64 d) c = 0 := by
      refine Finset.sum_eq_zero fun d _ => ?_
      unfold Qm
      rw [if_neg h0, if_neg (by show ¬ 64 ≤ d.val; omega), mul_zero]
    rw [z, zero_add]
    refine Finset.sum_congr rfl fun d _ => ?_
    have e1 : 1024 * T + (c - 1024) < 16384 := by omega
    have ei : (⟨1024 * T + c % 1024, hp⟩ : Fin 16384) = ⟨1024 * T + (c - 1024), e1⟩ := Fin.ext (by show 1024 * T + c % 1024 = 1024 * T + (c - 1024); omega)
    have em : (⟨c / 1024, by omega⟩ : Fin 2) = ⟨(Fin.natAdd 64 d).val / 64, by show (64 + d.val) / 64 < 2; omega⟩ := Fin.ext (by show c / 1024 = (64 + d.val) / 64; omega)
    have ed : d = ⟨(Fin.natAdd 64 d).val % 64, by omega⟩ := Fin.ext (by show d.val = (64 + d.val) % 64; omega)
    unfold Qm keys query
    rw [if_neg h0, if_pos (show 64 ≤ (Fin.natAdd 64 d).val from Nat.le_add_right _ _), dif_pos hn, dif_pos e1, ei, em]
    rw [← ed]
    ring

theorem weight_eq (n c : ℕ) (hn : n < 16384) (hc : c < 2048) (hp : 1024 * T + c % 1024 < 16384) :
    weight X0 X1 X3 b h T n c = wt X0 X1 X3 b ⟨c / 1024, by omega⟩ h ⟨1024 * T + c % 1024, hp⟩ ⟨n, hn⟩ := by
  unfold weight wt
  by_cases hm : n / 64 ≤ (1024 * T + c % 1024) / 64
  · rw [if_pos hm, if_pos hm, Rsc_eq X0 X1 b h T n c hn hc hp, ← add_mul]
    have hl : Real.log 2 ≠ 0 := (Real.log_pos (by norm_num)).ne'
    rw [Real.rpow_eq_pow, Real.rpow_def_of_pos (by norm_num)]
    refine congrArg Real.exp ?_
    unfold over score
    field_simp
    ring
  · rw [if_neg hm, if_neg hm]

theorem Tsum_eq (c : ℕ) (e : Fin 144) (hT : T < 16) (hc : c < 2048) (hp : 1024 * T + c % 1024 < 16384) :
    Tsum (vals X2 b h) (weight X0 X1 X3 b h T) (1024 * T + 1024) c e =
      ∑ k : Fin 16384, Vext (vals X2 b h) e k.val * wt X0 X1 X3 b ⟨c / 1024, by omega⟩ h ⟨1024 * T + c % 1024, hp⟩ k := by
  have hsub : Finset.range (1024 * T + 1024) ⊆ Finset.range 16384 := Finset.range_subset_range.2 (by omega)
  unfold Tsum
  rw [Finset.sum_subset hsub (fun n _ hn => by
    have : ¬ n < 1024 * T + 1024 := fun h' => hn (Finset.mem_range.2 h')
    unfold weight
    rw [if_neg (by omega), mul_zero]), Finset.sum_range]
  refine Finset.sum_congr rfl fun k _ => ?_
  rw [weight_eq X0 X1 X3 b h T k.val c k.isLt hc hp]

theorem Tsum_one (c : ℕ) (hT : T < 16) (hc : c < 2048) (hp : 1024 * T + c % 1024 < 16384) :
    Tsum (vals X2 b h) (weight X0 X1 X3 b h T) (1024 * T + 1024) c 128 = ∑ k, wt X0 X1 X3 b ⟨c / 1024, by omega⟩ h ⟨1024 * T + c % 1024, hp⟩ k := by
  rw [Tsum_eq X0 X1 X2 X3 b h T c 128 hT hc hp]
  refine Finset.sum_congr rfl fun k _ => ?_
  unfold Vext
  rw [dif_neg (by decide), one_mul]

theorem Tsum_val (c : ℕ) (e : Fin 128) (he : e.val < 144) (hT : T < 16) (hc : c < 2048) (hp : 1024 * T + c % 1024 < 16384) :
    Tsum (vals X2 b h) (weight X0 X1 X3 b h T) (1024 * T + 1024) c ⟨e.val, he⟩ = ∑ k, X2 (ix4 b k h e) * wt X0 X1 X3 b ⟨c / 1024, by omega⟩ h ⟨1024 * T + c % 1024, hp⟩ k := by
  rw [Tsum_eq X0 X1 X2 X3 b h T c _ hT hc hp]
  refine Finset.sum_congr rfl fun k _ => ?_
  unfold Vext vals
  rw [dif_pos e.isLt, dif_pos k.isLt]

theorem Tsum_ne (c : ℕ) (hT : T < 16) (hc : c < 2048) : Tsum (vals X2 b h) (weight X0 X1 X3 b h T) (1024 * T + 1024) c 128 ≠ 0 := by
  have hp : 1024 * T + c % 1024 < 16384 := by have := Nat.mod_lt c (show 0 < 1024 by norm_num); omega
  rw [Tsum_one X0 X1 X2 X3 b h T c hT hc hp]
  exact (wt_sum_pos X0 X1 X3 b _ h _).ne'

/-- The difference of the halves, as the kernel sums it, is the reference's. -/
theorem dif_eq (l : ℝ) (r : ℕ) (hT : T < 16) (hr : r < 1024) (hp : 1024 * T + r < 16384) (e : Fin 128) :
    dif (vals X2 b h) (weight X0 X1 X3 b h T) (1024 * T + 1024) l r e = diff X0 X1 X2 X3 l b h ⟨1024 * T + r, hp⟩ e := by
  have p0 : 1024 * T + r % 1024 < 16384 := by omega
  have p1 : 1024 * T + (1024 + r) % 1024 < 16384 := by omega
  have i0 : (⟨1024 * T + r % 1024, p0⟩ : Fin 16384) = ⟨1024 * T + r, hp⟩ := Fin.ext (by show 1024 * T + r % 1024 = 1024 * T + r; omega)
  have i1 : (⟨1024 * T + (1024 + r) % 1024, p1⟩ : Fin 16384) = ⟨1024 * T + r, hp⟩ := Fin.ext (by show 1024 * T + (1024 + r) % 1024 = 1024 * T + r; omega)
  have m0 : (⟨r / 1024, by omega⟩ : Fin 2) = 0 := Fin.ext (by show r / 1024 = 0; omega)
  have m1 : (⟨(1024 + r) / 1024, by omega⟩ : Fin 2) = 1 := Fin.ext (by show (1024 + r) / 1024 = 1; omega)
  unfold dif diff half
  rw [Tsum_val X0 X1 X2 X3 b h T r e _ hT (by omega) p0, Tsum_one X0 X1 X2 X3 b h T r hT (by omega) p0,
    Tsum_val X0 X1 X2 X3 b h T (1024 + r) e _ hT (by omega) p1, Tsum_one X0 X1 X2 X3 b h T (1024 + r) hT (by omega) p1, i0, i1, m0, m1]

end Cert.Attn
-- ==== Proof.Attn.HostArgs.lean ====
/-
The arrays the host code hands the launch, read at an index: the queries, the keys, the values, the gain and the weight of the second half.
-/
module
public import proofs.«01_k».proof.Proof.Gen.KernelIdeal.Frame
public import Idealize.ShloMosaic.Lib.StableHlo.ReadAt
public import Idealize.ShloMosaic.Lib.Claim
public import Idealize.ShloMosaic.Lib.Pointwise
@[expose] public section
set_option maxRecDepth 65536
noncomputable section
namespace Cert.KernelIdeal.Attn
open Idealize.ShloMosaic Idealize.ShloMosaic.TcCoe Idealize.ShloMosaic.Tactic
open Idealize.SL Idealize.SL.RA
open Cert.KernelIdeal.Gen
open StableHlo (after)

variable (m : (ℓ : Loc nD τ sig) → Buf (Elt Ideal) ℓ) (c : Dev nD)

set_option maxHeartbeats 4000000

theorem V_lam : (V m c main_v12 : Vec Ideal S1 .f32) (ix1 0) =
    Ideal.exp (∑ x : Fin 64, (show EReal from m (c, Proc.tc.devRef main_arg4) (ix2 0 x)) * (show EReal from m (c, Proc.tc.devRef main_arg5) (ix2 0 x)))
      - Ideal.exp (∑ x : Fin 64, (show EReal from m (c, Proc.tc.devRef main_arg6) (ix2 0 x)) * (show EReal from m (c, Proc.tc.devRef main_arg7) (ix2 0 x)))
      + Ideal.ofBits FTy.f32 0x3E4CCCCD#32 := by
  unfold V
  after_reads_at

theorem V_q (h : Fin 8) (d : Fin 128) (n : Fin 32768) : (V m c main_v21 : Vec Ideal S8x128x32768 .bf16) (ix3 h d n) =
    (show EReal from m (c, Proc.tc.devRef main_arg0) (ix5 ⟨n.val / 16384, by omega⟩ ⟨n.val % 16384, by omega⟩ h ⟨d.val / 64, by omega⟩ ⟨d.val % 64, by omega⟩))
      * Ideal.ofBits FTy.f32 0x3E000000#32 * Ideal.div 1 (Ideal.log (Ideal.ofBits FTy.f32 0x40000000#32)) := by
  unfold V
  after_reads_at

theorem V_k (n : Fin 32768) (d : Fin 1024) : (V m c main_v23 : Vec Ideal S32768x1024 .bf16) (ix2 n d) =
    m (c, Proc.tc.devRef main_arg1) (ix5 ⟨n.val / 16384, by omega⟩ ⟨n.val % 16384, by omega⟩ ⟨d.val / 128, by omega⟩ ⟨d.val / 64 % 2, by omega⟩ ⟨d.val % 64, by omega⟩) := by
  unfold V
  after_reads_at

theorem V_v (h : Fin 8) (d : Fin 128) (n : Fin 32768) : (V m c main_v26 : Vec Ideal S8x128x32768 .bf16) (ix3 h d n) =
    m (c, Proc.tc.devRef main_arg2) (ix4 ⟨n.val / 16384, by omega⟩ ⟨n.val % 16384, by omega⟩ h d) := by
  unfold V
  after_reads_at

theorem V_g (e : Fin 128) (n : Fin 1024) : (V m c main_v256 : Vec Ideal S128x1024 .f32) (ix2 e n) =
    m (c, Proc.tc.devRef main_arg8) (ix2 0 e) := by
  unfold V
  after_reads_at

end Cert.KernelIdeal.Attn
-- ==== Proof.Attn.HostInv.lean ====
/-
The host code fills the bias table by thirty-one selections, one for each row of the bias. What is carried from one to
the next: an entry holds its own row's value once that row has been reached, row zero's value before.
-/
module
public import proofs.«01_k».proof.Proof.Gen.KernelIdeal.Frame
public import Idealize.ShloMosaic.Lib.StableHlo.ReadAt
public import Idealize.ShloMosaic.Lib.Claim
public import Idealize.ShloMosaic.Lib.Pointwise
@[expose] public section
set_option maxRecDepth 65536
noncomputable section
namespace Cert.KernelIdeal.Attn
open Idealize.ShloMosaic Idealize.ShloMosaic.TcCoe Idealize.ShloMosaic.Tactic
open Idealize.SL Idealize.SL.RA
open Cert.KernelIdeal.Gen
open StableHlo (after)

/-- What holds before the selection of row `k + 1`. -/
structure Inv (W : Valuation τ sig (Elt Ideal)) (w : Fin 1536 → Fin 1024 → BitVec 32) (D : Fin 32 → Fin 8 → EReal)
    (k : ℕ) (acc : Vec Ideal S8x1536x1024 .f32) : Prop where
  h82 : ∀ r y, (W main_v82 : IVec S1x1536x1024 32) (ix3 0 r y) = w r y
  h86 : ∀ k h, (W main_v86 : Vec Ideal S32x8x1x1 .f32) (ix4 k h 0 0) = D k h
  h53 : ∀ r y, (W main_v53 : IVec S1536x1024 32) (ix2 r y) = BitVec.ofNat 32 r.val
  h56 : ∀ r y, (W main_v56 : IVec S1536x1024 32) (ix2 r y) = IntOp.addi 512#32 (BitVec.ofNat 32 y.val)
  hacc : ∀ h r y, acc (ix3 h r y) = if (w r y).toNat ≤ k then D (Fin.ofNat 32 (w r y).toNat) h else D 0 h

theorem Inv.next {W W' : Valuation τ sig (Elt Ideal)} {w : Fin 1536 → Fin 1024 → BitVec 32} {D : Fin 32 → Fin 8 → EReal}
    {k : ℕ} {acc acc' : Vec Ideal S8x1536x1024 .f32} (H : Inv W w D k acc) (hk : k + 1 < 32)
    (e82 : W' main_v82 = W main_v82) (e86 : W' main_v86 = W main_v86) (e53 : W' main_v53 = W main_v53) (e56 : W' main_v56 = W main_v56)
    (ha : ∀ h r y, acc' (ix3 h r y) = Scalar.select (IntOp.cmpi .eq ((W main_v82 : IVec S1x1536x1024 32) (ix3 0 r y)) (BitVec.ofNat 32 (k + 1)))
      ((W main_v86 : Vec Ideal S32x8x1x1 .f32) (ix4 ⟨k + 1, hk⟩ h 0 0)) (acc (ix3 h r y))) :
    Inv W' w D (k + 1) acc' where
  h82 := by rw [e82]; exact H.h82
  h86 := by rw [e86]; exact H.h86
  h53 := by rw [e53]; exact H.h53
  h56 := by rw [e56]; exact H.h56
  hacc h r y := by
    rw [ha, H.h82, H.h86, H.hacc]
    by_cases e : w r y = BitVec.ofNat 32 (k + 1)
    · have e' : (w r y).toNat = k + 1 := by rw [e, BitVec.toNat_ofNat]; omega
      rw [e', if_pos le_rfl, e]
      have : IntOp.cmpi .eq (BitVec.ofNat 32 (k + 1)) (BitVec.ofNat 32 (k + 1)) = 1#1 := by simp [IntOp.cmpi]
      rw [this]
      show D ⟨k + 1, hk⟩ h = _
      congr 1
      exact Fin.ext (Nat.mod_eq_of_lt hk).symm
    · have e' : (w r y).toNat ≠ k + 1 := fun e' => e (by
        apply BitVec.eq_of_toNat_eq; rw [e', BitVec.toNat_ofNat]; omega)
      have : IntOp.cmpi .eq (w r y) (BitVec.ofNat 32 (k + 1)) = 0#1 := by
        show BitVec.ofBool (w r y == BitVec.ofNat 32 (k + 1)) = 0#1
        rw [beq_eq_false_iff_ne.2 e]; rfl
      rw [this]
      show (if (w r y).toNat ≤ k then _ else _) = _
      by_cases l : (w r y).toNat ≤ k
      · rw [if_pos l, if_pos (by omega)]
      · rw [if_neg l, if_neg (by omega)]

end Cert.KernelIdeal.Attn
-- ==== Proof.Attn.HostStart.lean ====
/-
The host code before the selections: the row every far key reads, the bucket of each entry, and what the first
selection leaves.
-/
module
public import proofs.«01_k».proof.Proof.Gen.KernelIdeal.Frame
public import Idealize.ShloMosaic.Lib.StableHlo.ReadAt
public import proofs.«01_k».proof.Proof.Attn.HostInv
public import proofs.«01_k».proof.Proof.Attn.Bucket
public import Idealize.ShloMosaic.Lib.Claim
public import Idealize.ShloMosaic.Lib.Pointwise
@[expose] public section
set_option maxRecDepth 65536
noncomputable section
namespace Cert.KernelIdeal.Attn
open Idealize.ShloMosaic Idealize.ShloMosaic.TcCoe Idealize.ShloMosaic.Tactic
open Idealize.SL Idealize.SL.RA
open Cert.KernelIdeal.Gen
open StableHlo (after)
variable (W : Valuation τ sig (Elt Ideal))

set_option maxHeartbeats 1000000
/-- The row the program slices for the far keys. -/
theorem v47_at (h0 : IntOp.addi ((W main_v40 : IVec S_ 32) ix0) ((W main_v42 : IVec S_ 32) ix0) = 15#32) : (after (List.take 15 hostOps0_4) W main_v47 : IVec S_ 32) ix0 = 15#32 := by
  simp only [hostOps0_4, List.take]
  after_reads_at
  simp only [id_eq, h0]
  decide

theorem slice_at (x : Vec Ideal S32x8 .f32) (s : Fin 2 → ℤ) (h0 : s 0 = 15) (h : Fin 8) (p : S1x8.rank = S32x8.rank)
    (p0 : Host.clampedStart S32x8 S1x8 p s 0 < 32) (p1 : Host.clampedStart S32x8 S1x8 p s 1 + h.val < 8) :
    x (ix2 ⟨Host.clampedStart S32x8 S1x8 p s 0, p0⟩ ⟨Host.clampedStart S32x8 S1x8 p s 1 + h.val, p1⟩) = x (ix2 15 h) := by
  have e0 : Host.clampedStart S32x8 S1x8 p s 0 = 15 := Host.clampedStart_of_le _ _ _ 15 h0 (show 15 + 1 ≤ 32 by decide)
  have e1 : Host.clampedStart S32x8 S1x8 p s 1 = 0 := by
    have := Host.clampedStart_le (s := S32x8) (t := S1x8) p s 1 (show 8 ≤ 8 from le_rfl)
    have e : S1x8.size (Fin.cast p.symm (1 : Fin 2)) = 8 := rfl
    have e' : S32x8.size (1 : Fin 2) = 8 := rfl
    rw [e, e'] at this
    omega
  have a : (⟨_, p0⟩ : Fin 32) = 15 := Fin.ext e0
  have b : (⟨_, p1⟩ : Fin 8) = h := Fin.ext (by show _ + h.val = h.val; omega)
  rw [a, b]

theorem cast_at (U : Valuation τ sig (Elt Ideal)) (e : (U main_v47 : IVec S_ 32) (Shape.Idx.first h_S_) = 15#32)
    (p : (Proc.tc.devRef (![main_v47, main_v50] (0 : Fin 2)) : DevRef τ sig).ty.Contents (Elt Ideal) = IVec S_ 32) : BitVec.toInt (cast p (U (Proc.tc.devRef (![main_v47, main_v50] (0 : Fin 2)))) (Shape.Idx.first h_S_)) = 15 := by
  refine Eq.trans (congrArg BitVec.toInt (show _ = 15#32 from e)) ?_
  decide

/-- The bias of the far keys: row fifteen. -/
theorem v52_at (h0 : IntOp.addi ((W main_v40 : IVec S_ 32) ix0) ((W main_v42 : IVec S_ 32) ix0) = 15#32) (h : Fin 8) : (after hostOps0_4 W main_v52 : Vec Ideal S8 .f32) (ix1 h) = W main_arg3 (ix2 15 h) := by
  after_reads_at
  refine slice_at _ _ ?_ h _ _ _
  refine cast_at _ ?_ _
  have i : (Shape.Idx.first h_S_ : S_.Idx) = ix0 := funext fun a => a.elim0
  rw [i]
  unfold StableHlo.upto
  exact v47_at W h0

abbrev pre4 : Valuation τ sig (Elt Ideal) := after hostOps0_4 (after hostOps0_3 (after hostOps0_2 (after hostOps0_1 (after hostOps0 W))))
abbrev pre7 (U : Valuation τ sig (Elt Ideal)) : Valuation τ sig (Elt Ideal) := after hostOps0_7 (after hostOps0_6 (after hostOps0_5 (after hostOps0_4 U)))
abbrev pre3 : Valuation τ sig (Elt Ideal) := after hostOps0_3 (after hostOps0_2 (after hostOps0_1 (after hostOps0 W)))

theorem v40_v42 : IntOp.addi ((pre3 W main_v40 : IVec S_ 32) ix0) ((pre3 W main_v42 : IVec S_ 32) ix0) = 15#32 := by
  have e0 : (pre3 W main_v40 : IVec S_ 32) ix0 = Scalar.select (IntOp.cmpi .sgt 4294966783#32 0#32) 16#32 0#32 := by
    after_reads_at
  have e1 : (pre3 W main_v42 : IVec S_ 32) ix0 = Scalar.select (IntOp.cmpi .slt (IntOp.absi 4294966783#32) 8#32) (IntOp.absi 4294966783#32)
      (IntOp.minsi (IntOp.addi 8#32 (Ideal.fptosi 32 (Ideal.div (Ideal.log (Ideal.div (((IntOp.maxsi (IntOp.absi 4294966783#32) 1#32).toInt : ℝ) : EReal) (Ideal.ofBits .f32 0x41000000#32)))
          (Ideal.ofBits .f32 0x40317218#32) * Ideal.ofBits .f32 0x41000000#32))) 15#32) := by
    after_reads_at
    rfl
  rw [e0, e1]
  have h := (Cert.Attn.bk_spec (-513) (by decide)).2 (by decide)
  rw [show BitVec.ofInt 32 (-513) = 4294966783#32 from by decide] at h
  unfold Cert.Attn.bk at h
  exact h

theorem pre3_arg3 : pre3 W main_arg3 = W main_arg3 := by after_reads_simp

theorem pre7_arg3 : pre7 W main_arg3 = W main_arg3 := by after_reads_simp

theorem pre7_v52 : pre7 W main_v52 = after hostOps0_4 W main_v52 := by after_reads_simp

theorem pre7_v53 (r : Fin 1536) (y : Fin 1024) : (pre7 W main_v53 : IVec S1536x1024 32) (ix2 r y) = BitVec.ofNat 32 r.val := by after_reads_at

theorem pre7_v56 (r : Fin 1536) (y : Fin 1024) : (pre7 W main_v56 : IVec S1536x1024 32) (ix2 r y) = IntOp.addi 512#32 (BitVec.ofNat 32 y.val) := by
  after_reads_at

/-- The word whose bucket entry `(r, y)` of the table holds. -/
def rel (r : Fin 1536) (y : Fin 1024) : BitVec 32 := IntOp.subi (BitVec.ofNat 32 r.val) (IntOp.addi 512#32 (BitVec.ofNat 32 y.val))

theorem pre7_bucket (r : Fin 1536) (y : Fin 1024) :
    IntOp.addi ((pre7 W main_v76 : IVec S1536x1024 32) (ix2 r y)) ((pre7 W main_v79 : IVec S1536x1024 32) (ix2 r y)) = Cert.Attn.bk (rel r y) := by
  have e0 : (pre7 W main_v76 : IVec S1536x1024 32) (ix2 r y) = Scalar.select (IntOp.cmpi .sgt (rel r y) 0#32) 16#32 0#32 := by
    unfold rel
    after_reads_at
  have e1 : (pre7 W main_v79 : IVec S1536x1024 32) (ix2 r y) = Scalar.select (IntOp.cmpi .slt (IntOp.absi (rel r y)) 8#32) (IntOp.absi (rel r y))
      (IntOp.minsi (IntOp.addi 8#32 (Ideal.fptosi 32 (Ideal.div (Ideal.log (Ideal.div (((IntOp.maxsi (IntOp.absi (rel r y)) 1#32).toInt : ℝ) : EReal) (Ideal.ofBits .f32 0x41000000#32)))
          (Ideal.ofBits .f32 0x40317218#32) * Ideal.ofBits .f32 0x41000000#32))) 15#32) := by
    unfold rel
    after_reads_at
    rfl
  rw [e0, e1]
  rfl

/-- The bias of row `k` over the far keys'. -/
def rowOver (x3 : Vec Ideal S32x8 .f32) (k : Fin 32) (h : Fin 8) : EReal := (show EReal from x3 (ix2 k h)) - (show EReal from x3 (ix2 15 h))

abbrev pre9 (U : Valuation τ sig (Elt Ideal)) : Valuation τ sig (Elt Ideal) := after hostOps0_9 (after hostOps0_8 U)

theorem step1 (w : Fin 1536 → Fin 1024 → BitVec 32) (x3 : Vec Ideal S32x8 .f32)
    (hw : ∀ r y, IntOp.addi ((W main_v76 : IVec S1536x1024 32) (ix2 r y)) ((W main_v79 : IVec S1536x1024 32) (ix2 r y)) = w r y)
    (h3 : W main_arg3 = x3) (h52 : ∀ h, (W main_v52 : Vec Ideal S8 .f32) (ix1 h) = x3 (ix2 15 h))
    (h53 : ∀ r y, (W main_v53 : IVec S1536x1024 32) (ix2 r y) = BitVec.ofNat 32 r.val)
    (h56 : ∀ r y, (W main_v56 : IVec S1536x1024 32) (ix2 r y) = IntOp.addi 512#32 (BitVec.ofNat 32 y.val)) :
    Inv (pre9 W) w (rowOver x3) 1 (pre9 W main_v94) := by
  have e86 : ∀ k h, (pre9 W main_v86 : Vec Ideal S32x8x1x1 .f32) (ix4 k h 0 0) = rowOver x3 k h := by
    intro k h
    have : (pre9 W main_v86 : Vec Ideal S32x8x1x1 .f32) (ix4 k h 0 0) = (show EReal from W main_arg3 (ix2 k h)) - (show EReal from W main_v52 (ix1 h)) := by
      after_reads_at
    rw [this, h3, h52]
    rfl
  have e82 : ∀ r y, (pre9 W main_v82 : IVec S1x1536x1024 32) (ix3 0 r y) = w r y := by
    intro r y
    rw [← hw]
    after_reads_at
    rfl
  have H : Inv (pre9 W) w (rowOver x3) 0 (fun i => rowOver x3 0 (i 0)) :=
    { h82 := e82
      h86 := e86
      h53 := by
        have : pre9 W main_v53 = W main_v53 := by after_reads_simp
        rw [this]; exact h53
      h56 := by
        have : pre9 W main_v56 = W main_v56 := by after_reads_simp
        rw [this]; exact h56
      hacc := fun h r y => by
        show rowOver x3 0 h = _
        by_cases l : (w r y).toNat ≤ 0
        · rw [if_pos l, Nat.le_zero.1 l]; rfl
        · rw [if_neg l] }
  refine H.next (by decide) rfl rfl rfl rfl fun h r y => ?_
  rw [e82, e86, ← hw]
  have : (pre9 W main_v94 : Vec Ideal S8x1536x1024 .f32) (ix3 h r y) = Scalar.select (IntOp.cmpi .eq (IntOp.addi (id (W main_v76 : IVec S1536x1024 32) (ix2 r y)) ((W main_v79 : IVec S1536x1024 32) (ix2 r y))) 1#32)
      ((show EReal from W main_arg3 (ix2 1 h)) - (show EReal from W main_v52 (ix1 h))) ((show EReal from W main_arg3 (ix2 0 h)) - (show EReal from W main_v52 (ix1 h))) := by
    after_reads_at
  rw [this, h3, h52]
  rfl

theorem start_inv : Inv (pre9 (pre7 (pre3 W))) (fun r y => Cert.Attn.bk (rel r y)) (rowOver (W main_arg3)) 1 (pre9 (pre7 (pre3 W)) main_v94) := by
  refine step1 _ _ _ (pre7_bucket _) ?_ (fun h => ?_) (pre7_v53 _) (pre7_v56 _)
  · rw [pre7_arg3, pre3_arg3]
  · rw [pre7_v52, v52_at _ (v40_v42 W), pre3_arg3]

end Cert.KernelIdeal.Attn
-- ==== Proof.Attn.HostEnd.lean ====
/-
The end of the host code that builds the bias table.
-/
module
public import proofs.«01_k».proof.Proof.Gen.KernelIdeal.Frame
public import Idealize.ShloMosaic.Lib.StableHlo.ReadAt
public import proofs.«01_k».proof.Proof.Attn.HostInv
public import proofs.«01_k».proof.Proof.Attn.Bucket
public import Idealize.ShloMosaic.Lib.Claim
public import Idealize.ShloMosaic.Lib.Pointwise
@[expose] public section
set_option maxRecDepth 65536
noncomputable section
namespace Cert.KernelIdeal.Attn
open Idealize.ShloMosaic Idealize.ShloMosaic.TcCoe Idealize.ShloMosaic.Tactic
open Idealize.SL Idealize.SL.RA
open Cert.KernelIdeal.Gen
open StableHlo (after)
variable (W : Valuation τ sig (Elt Ideal))

set_option maxHeartbeats 1000000
/-- The last operations of the host code: the mask over the table, and its scaling. -/
theorem end_at (h : Fin 8) (k : Fin 3) (r : Fin 512) (y : Fin 1024) :
    (after hostOps0_76 (after hostOps0_75 (after hostOps0_74 (after hostOps0_73 (after hostOps0_72 (after hostOps0_71 (after hostOps0_70 W)))))) main_v254 : Vec Ideal S8x3x512x1024 .f32) (ix4 h k r y) =
      Scalar.select (α := EReal) (IntOp.cmpi .sle (Cert.Attn.fd ((W main_v53 : IVec S1536x1024 32) (ix2 ⟨k.val * 512 + r.val, by omega⟩ y)))
        (Cert.Attn.fd ((W main_v56 : IVec S1536x1024 32) (ix2 ⟨k.val * 512 + r.val, by omega⟩ y))))
        ((W main_v244 : Vec Ideal S8x1536x1024 .f32) (ix3 h ⟨k.val * 512 + r.val, by omega⟩ y)) (Ideal.ofBits .f32 0xFF800000#32)
        * Ideal.div 1 (Ideal.log (Ideal.ofBits .f32 0x40000000#32)) := by
  unfold Cert.Attn.fd
  after_reads_at
  rfl

end Cert.KernelIdeal.Attn
-- ==== Proof.Attn.HostChainA.lean ====
/-
The selections of rows 2 to 9 of the bias table.
-/
module
public import proofs.«01_k».proof.Proof.Gen.KernelIdeal.Frame
public import Idealize.ShloMosaic.Lib.StableHlo.ReadAt
public import proofs.«01_k».proof.Proof.Attn.HostInv
public import Idealize.ShloMosaic.Lib.Claim
public import Idealize.ShloMosaic.Lib.Pointwise
@[expose] public section
set_option maxRecDepth 65536
noncomputable section
namespace Cert.KernelIdeal.Attn
open Idealize.ShloMosaic Idealize.ShloMosaic.TcCoe Idealize.ShloMosaic.Tactic
open Idealize.SL Idealize.SL.RA
open Cert.KernelIdeal.Gen
open StableHlo (after)

variable {W : Valuation τ sig (Elt Ideal)} {w : Fin 1536 → Fin 1024 → BitVec 32} {D : Fin 32 → Fin 8 → EReal}

set_option maxHeartbeats 1000000

theorem step2 (H : Inv W w D 1 (W main_v94)) : Inv (after hostOps0_11 (after hostOps0_10 W)) w D 2 (after hostOps0_11 (after hostOps0_10 W) main_v99) := by
  refine H.next (W' := after hostOps0_11 (after hostOps0_10 W)) (k := 1) (by decide) (by after_reads_simp) (by after_reads_simp) (by after_reads_simp) (by after_reads_simp) fun h r y => ?_
  after_reads_at

theorem step3 (H : Inv W w D 2 (W main_v99)) : Inv (after hostOps0_13 (after hostOps0_12 W)) w D 3 (after hostOps0_13 (after hostOps0_12 W) main_v104) := by
  refine H.next (W' := after hostOps0_13 (after hostOps0_12 W)) (k := 2) (by decide) (by after_reads_simp) (by after_reads_simp) (by after_reads_simp) (by after_reads_simp) fun h r y => ?_
  after_reads_at

theorem step4 (H : Inv W w D 3 (W main_v104)) : Inv (after hostOps0_15 (after hostOps0_14 W)) w D 4 (after hostOps0_15 (after hostOps0_14 W) main_v109) := by
  refine H.next (W' := after hostOps0_15 (after hostOps0_14 W)) (k := 3) (by decide) (by after_reads_simp) (by after_reads_simp) (by after_reads_simp) (by after_reads_simp) fun h r y => ?_
  after_reads_at

theorem step5 (H : Inv W w D 4 (W main_v109)) : Inv (after hostOps0_17 (after hostOps0_16 W)) w D 5 (after hostOps0_17 (after hostOps0_16 W) main_v114) := by
  refine H.next (W' := after hostOps0_17 (after hostOps0_16 W)) (k := 4) (by decide) (by after_reads_simp) (by after_reads_simp) (by after_reads_simp) (by after_reads_simp) fun h r y => ?_
  after_reads_at

theorem step6 (H : Inv W w D 5 (W main_v114)) : Inv (after hostOps0_19 (after hostOps0_18 W)) w D 6 (after hostOps0_19 (after hostOps0_18 W) main_v119) := by
  refine H.next (W' := after hostOps0_19 (after hostOps0_18 W)) (k := 5) (by decide) (by after_reads_simp) (by after_reads_simp) (by after_reads_simp) (by after_reads_simp) fun h r y => ?_
  after_reads_at

theorem step7 (H : Inv W w D 6 (W main_v119)) : Inv (after hostOps0_21 (after hostOps0_20 W)) w D 7 (after hostOps0_21 (after hostOps0_20 W) main_v124) := by
  refine H.next (W' := after hostOps0_21 (after hostOps0_20 W)) (k := 6) (by decide) (by after_reads_simp) (by after_reads_simp) (by after_reads_simp) (by after_reads_simp) fun h r y => ?_
  after_reads_at

theorem step8 (H : Inv W w D 7 (W main_v124)) : Inv (after hostOps0_23 (after hostOps0_22 W)) w D 8 (after hostOps0_23 (after hostOps0_22 W) main_v129) := by
  refine H.next (W' := after hostOps0_23 (after hostOps0_22 W)) (k := 7) (by decide) (by after_reads_simp) (by after_reads_simp) (by after_reads_simp) (by after_reads_simp) fun h r y => ?_
  after_reads_at

theorem step9 (H : Inv W w D 8 (W main_v129)) : Inv (after hostOps0_25 (after hostOps0_24 W)) w D 9 (after hostOps0_25 (after hostOps0_24 W) main_v134) := by
  refine H.next (W' := after hostOps0_25 (after hostOps0_24 W)) (k := 8) (by decide) (by after_reads_simp) (by after_reads_simp) (by after_reads_simp) (by after_reads_simp) fun h r y => ?_
  after_reads_at

end Cert.KernelIdeal.Attn
-- ==== Proof.Attn.HostChainB.lean ====
/-
The selections of rows 10 to 17 of the bias table.
-/
module
public import proofs.«01_k».proof.Proof.Gen.KernelIdeal.Frame
public import Idealize.ShloMosaic.Lib.StableHlo.ReadAt
public import proofs.«01_k».proof.Proof.Attn.HostInv
public import Idealize.ShloMosaic.Lib.Claim
public import Idealize.ShloMosaic.Lib.Pointwise
@[expose] public section
set_option maxRecDepth 65536
noncomputable section
namespace Cert.KernelIdeal.Attn
open Idealize.ShloMosaic Idealize.ShloMosaic.TcCoe Idealize.ShloMosaic.Tactic
open Idealize.SL Idealize.SL.RA
open Cert.KernelIdeal.Gen
open StableHlo (after)

variable {W : Valuation τ sig (Elt Ideal)} {w : Fin 1536 → Fin 1024 → BitVec 32} {D : Fin 32 → Fin 8 → EReal}

set_option maxHeartbeats 1000000

theorem step10 (H : Inv W w D 9 (W main_v134)) : Inv (after hostOps0_27 (after hostOps0_26 W)) w D 10 (after hostOps0_27 (after hostOps0_26 W) main_v139) := by
  refine H.next (W' := after hostOps0_27 (after hostOps0_26 W)) (k := 9) (by decide) (by after_reads_simp) (by after_reads_simp) (by after_reads_simp) (by after_reads_simp) fun h r y => ?_
  after_reads_at

theorem step11 (H : Inv W w D 10 (W main_v139)) : Inv (after hostOps0_29 (after hostOps0_28 W)) w D 11 (after hostOps0_29 (after hostOps0_28 W) main_v144) := by
  refine H.next (W' := after hostOps0_29 (after hostOps0_28 W)) (k := 10) (by decide) (by after_reads_simp) (by after_reads_simp) (by after_reads_simp) (by after_reads_simp) fun h r y => ?_
  after_reads_at

theorem step12 (H : Inv W w D 11 (W main_v144)) : Inv (after hostOps0_31 (after hostOps0_30 W)) w D 12 (after hostOps0_31 (after hostOps0_30 W) main_v149) := by
  refine H.next (W' := after hostOps0_31 (after hostOps0_30 W)) (k := 11) (by decide) (by after_reads_simp) (by after_reads_simp) (by after_reads_simp) (by after_reads_simp) fun h r y => ?_
  after_reads_at

theorem step13 (H : Inv W w D 12 (W main_v149)) : Inv (after hostOps0_33 (after hostOps0_32 W)) w D 13 (after hostOps0_33 (after hostOps0_32 W) main_v154) := by
  refine H.next (W' := after hostOps0_33 (after hostOps0_32 W)) (k := 12) (by decide) (by after_reads_simp) (by after_reads_simp) (by after_reads_simp) (by after_reads_simp) fun h r y => ?_
  after_reads_at

theorem step14 (H : Inv W w D 13 (W main_v154)) : Inv (after hostOps0_35 (after hostOps0_34 W)) w D 14 (after hostOps0_35 (after hostOps0_34 W) main_v159) := by
  refine H.next (W' := after hostOps0_35 (after hostOps0_34 W)) (k := 13) (by decide) (by after_reads_simp) (by after_reads_simp) (by after_reads_simp) (by after_reads_simp) fun h r y => ?_
  after_reads_at

theorem step15 (H : Inv W w D 14 (W main_v159)) : Inv (after hostOps0_37 (after hostOps0_36 W)) w D 15 (after hostOps0_37 (after hostOps0_36 W) main_v164) := by
  refine H.next (W' := after hostOps0_37 (after hostOps0_36 W)) (k := 14) (by decide) (by after_reads_simp) (by after_reads_simp) (by after_reads_simp) (by after_reads_simp) fun h r y => ?_
  after_reads_at

theorem step16 (H : Inv W w D 15 (W main_v164)) : Inv (after hostOps0_39 (after hostOps0_38 W)) w D 16 (after hostOps0_39 (after hostOps0_38 W) main_v169) := by
  refine H.next (W' := after hostOps0_39 (after hostOps0_38 W)) (k := 15) (by decide) (by after_reads_simp) (by after_reads_simp) (by after_reads_simp) (by after_reads_simp) fun h r y => ?_
  after_reads_at

theorem step17 (H : Inv W w D 16 (W main_v169)) : Inv (after hostOps0_41 (after hostOps0_40 W)) w D 17 (after hostOps0_41 (after hostOps0_40 W) main_v174) := by
  refine H.next (W' := after hostOps0_41 (after hostOps0_40 W)) (k := 16) (by decide) (by after_reads_simp) (by after_reads_simp) (by after_reads_simp) (by after_reads_simp) fun h r y => ?_
  after_reads_at

end Cert.KernelIdeal.Attn
-- ==== Proof.Attn.HostChainC.lean ====
/-
The selections of rows 18 to 24 of the bias table.
-/
module
public import proofs.«01_k».proof.Proof.Gen.KernelIdeal.Frame
public import Idealize.ShloMosaic.Lib.StableHlo.ReadAt
public import proofs.«01_k».proof.Proof.Attn.HostInv
public import Idealize.ShloMosaic.Lib.Claim
public import Idealize.ShloMosaic.Lib.Pointwise
@[expose] public section
set_option maxRecDepth 65536
noncomputable section
namespace Cert.KernelIdeal.Attn
open Idealize.ShloMosaic Idealize.ShloMosaic.TcCoe Idealize.ShloMosaic.Tactic
open Idealize.SL Idealize.SL.RA
open Cert.KernelIdeal.Gen
open StableHlo (after)

variable {W : Valuation τ sig (Elt Ideal)} {w : Fin 1536 → Fin 1024 → BitVec 32} {D : Fin 32 → Fin 8 → EReal}

set_option maxHeartbeats 1000000

theorem step18 (H : Inv W w D 17 (W main_v174)) : Inv (after hostOps0_43 (after hostOps0_42 W)) w D 18 (after hostOps0_43 (after hostOps0_42 W) main_v179) := by
  refine H.next (W' := after hostOps0_43 (after hostOps0_42 W)) (k := 17) (by decide) (by after_reads_simp) (by after_reads_simp) (by after_reads_simp) (by after_reads_simp) fun h r y => ?_
  after_reads_at

theorem step19 (H : Inv W w D 18 (W main_v179)) : Inv (after hostOps0_45 (after hostOps0_44 W)) w D 19 (after hostOps0_45 (after hostOps0_44 W) main_v184) := by
  refine H.next (W' := after hostOps0_45 (after hostOps0_44 W)) (k := 18) (by decide) (by after_reads_simp) (by after_reads_simp) (by after_reads_simp) (by after_reads_simp) fun h r y => ?_
  after_reads_at

theorem step20 (H : Inv W w D 19 (W main_v184)) : Inv (after hostOps0_47 (after hostOps0_46 W)) w D 20 (after hostOps0_47 (after hostOps0_46 W) main_v189) := by
  refine H.next (W' := after hostOps0_47 (after hostOps0_46 W)) (k := 19) (by decide) (by after_reads_simp) (by after_reads_simp) (by after_reads_simp) (by after_reads_simp) fun h r y => ?_
  after_reads_at

theorem step21 (H : Inv W w D 20 (W main_v189)) : Inv (after hostOps0_49 (after hostOps0_48 W)) w D 21 (after hostOps0_49 (after hostOps0_48 W) main_v194) := by
  refine H.next (W' := after hostOps0_49 (after hostOps0_48 W)) (k := 20) (by decide) (by after_reads_simp) (by after_reads_simp) (by after_reads_simp) (by after_reads_simp) fun h r y => ?_
  after_reads_at

theorem step22 (H : Inv W w D 21 (W main_v194)) : Inv (after hostOps0_51 (after hostOps0_50 W)) w D 22 (after hostOps0_51 (after hostOps0_50 W) main_v199) := by
  refine H.next (W' := after hostOps0_51 (after hostOps0_50 W)) (k := 21) (by decide) (by after_reads_simp) (by after_reads_simp) (by after_reads_simp) (by after_reads_simp) fun h r y => ?_
  after_reads_at

theorem step23 (H : Inv W w D 22 (W main_v199)) : Inv (after hostOps0_53 (after hostOps0_52 W)) w D 23 (after hostOps0_53 (after hostOps0_52 W) main_v204) := by
  refine H.next (W' := after hostOps0_53 (after hostOps0_52 W)) (k := 22) (by decide) (by after_reads_simp) (by after_reads_simp) (by after_reads_simp) (by after_reads_simp) fun h r y => ?_
  after_reads_at

theorem step24 (H : Inv W w D 23 (W main_v204)) : Inv (after hostOps0_55 (after hostOps0_54 W)) w D 24 (after hostOps0_55 (after hostOps0_54 W) main_v209) := by
  refine H.next (W' := after hostOps0_55 (after hostOps0_54 W)) (k := 23) (by decide) (by after_reads_simp) (by after_reads_simp) (by after_reads_simp) (by after_reads_simp) fun h r y => ?_
  after_reads_at

end Cert.KernelIdeal.Attn
-- ==== Proof.Attn.HostChainD.lean ====
/-
The selections of rows 25 to 31 of the bias table.
-/
module
public import proofs.«01_k».proof.Proof.Gen.KernelIdeal.Frame
public import Idealize.ShloMosaic.Lib.StableHlo.ReadAt
public import proofs.«01_k».proof.Proof.Attn.HostInv
public import Idealize.ShloMosaic.Lib.Claim
public import Idealize.ShloMosaic.Lib.Pointwise
@[expose] public section
set_option maxRecDepth 65536
noncomputable section
namespace Cert.KernelIdeal.Attn
open Idealize.ShloMosaic Idealize.ShloMosaic.TcCoe Idealize.ShloMosaic.Tactic
open Idealize.SL Idealize.SL.RA
open Cert.KernelIdeal.Gen
open StableHlo (after)

variable {W : Valuation τ sig (Elt Ideal)} {w : Fin 1536 → Fin 1024 → BitVec 32} {D : Fin 32 → Fin 8 → EReal}

set_option maxHeartbeats 1000000

theorem step25 (H : Inv W w D 24 (W main_v209)) : Inv (after hostOps0_57 (after hostOps0_56 W)) w D 25 (after hostOps0_57 (after hostOps0_56 W) main_v214) := by
  refine H.next (W' := after hostOps0_57 (after hostOps0_56 W)) (k := 24) (by decide) (by after_reads_simp) (by after_reads_simp) (by after_reads_simp) (by after_reads_simp) fun h r y => ?_
  after_reads_at

theorem step26 (H : Inv W w D 25 (W main_v214)) : Inv (after hostOps0_59 (after hostOps0_58 W)) w D 26 (after hostOps0_59 (after hostOps0_58 W) main_v219) := by
  refine H.next (W' := after hostOps0_59 (after hostOps0_58 W)) (k := 25) (by decide) (by after_reads_simp) (by after_reads_simp) (by after_reads_simp) (by after_reads_simp) fun h r y => ?_
  after_reads_at

theorem step27 (H : Inv W w D 26 (W main_v219)) : Inv (after hostOps0_61 (after hostOps0_60 W)) w D 27 (after hostOps0_61 (after hostOps0_60 W) main_v224) := by
  refine H.next (W' := after hostOps0_61 (after hostOps0_60 W)) (k := 26) (by decide) (by after_reads_simp) (by after_reads_simp) (by after_reads_simp) (by after_reads_simp) fun h r y => ?_
  after_reads_at

theorem step28 (H : Inv W w D 27 (W main_v224)) : Inv (after hostOps0_63 (after hostOps0_62 W)) w D 28 (after hostOps0_63 (after hostOps0_62 W) main_v229) := by
  refine H.next (W' := after hostOps0_63 (after hostOps0_62 W)) (k := 27) (by decide) (by after_reads_simp) (by after_reads_simp) (by after_reads_simp) (by after_reads_simp) fun h r y => ?_
  after_reads_at

theorem step29 (H : Inv W w D 28 (W main_v229)) : Inv (after hostOps0_65 (after hostOps0_64 W)) w D 29 (after hostOps0_65 (after hostOps0_64 W) main_v234) := by
  refine H.next (W' := after hostOps0_65 (after hostOps0_64 W)) (k := 28) (by decide) (by after_reads_simp) (by after_reads_simp) (by after_reads_simp) (by after_reads_simp) fun h r y => ?_
  after_reads_at

theorem step30 (H : Inv W w D 29 (W main_v234)) : Inv (after hostOps0_67 (after hostOps0_66 W)) w D 30 (after hostOps0_67 (after hostOps0_66 W) main_v239) := by
  refine H.next (W' := after hostOps0_67 (after hostOps0_66 W)) (k := 29) (by decide) (by after_reads_simp) (by after_reads_simp) (by after_reads_simp) (by after_reads_simp) fun h r y => ?_
  after_reads_at

theorem step31 (H : Inv W w D 30 (W main_v239)) : Inv (after hostOps0_69 (after hostOps0_68 W)) w D 31 (after hostOps0_69 (after hostOps0_68 W) main_v244) := by
  refine H.next (W' := after hostOps0_69 (after hostOps0_68 W)) (k := 30) (by decide) (by after_reads_simp) (by after_reads_simp) (by after_reads_simp) (by after_reads_simp) fun h r y => ?_
  after_reads_at

end Cert.KernelIdeal.Attn
-- ==== Proof.Attn.HostTable.lean ====
/-
The bias table the host code builds, at an entry.
-/
module
public import proofs.«01_k».proof.Proof.Gen.KernelIdeal.Frame
public import Idealize.ShloMosaic.Lib.StableHlo.ReadAt
public import proofs.«01_k».proof.Proof.Attn.HostStart
public import proofs.«01_k».proof.Proof.Attn.HostEnd
public import proofs.«01_k».proof.Proof.Attn.HostChainA
public import proofs.«01_k».proof.Proof.Attn.HostChainB
public import proofs.«01_k».proof.Proof.Attn.HostChainC
public import proofs.«01_k».proof.Proof.Attn.HostChainD
public import Idealize.ShloMosaic.Lib.Claim
public import Idealize.ShloMosaic.Lib.Pointwise
@[expose] public section
set_option maxRecDepth 65536
noncomputable section
namespace Cert.KernelIdeal.Attn
open Idealize.ShloMosaic Idealize.ShloMosaic.TcCoe Idealize.ShloMosaic.Tactic
open Idealize.SL Idealize.SL.RA
open Cert.KernelIdeal.Gen
open StableHlo (after)
variable (W : Valuation τ sig (Elt Ideal))

theorem after_app (l l' : List (HloOp τ sig (Elt Ideal))) : after (l ++ l') W = after l' (after l W) := by
  induction l generalizing W with
  | nil => rfl
  | cons a l ih => exact ih _

/-- What the host code has left when all rows are selected. -/
abbrev tables : Valuation τ sig (Elt Ideal) := after hostOps0_69 (after hostOps0_68 (after hostOps0_67 (after hostOps0_66 (after hostOps0_65 (after hostOps0_64 (after hostOps0_63 (after hostOps0_62 (after hostOps0_61 (after hostOps0_60 (after hostOps0_59 (after hostOps0_58 (after hostOps0_57 (after hostOps0_56 (after hostOps0_55 (after hostOps0_54 (after hostOps0_53 (after hostOps0_52 (after hostOps0_51 (after hostOps0_50 (after hostOps0_49 (after hostOps0_48 (after hostOps0_47 (after hostOps0_46 (after hostOps0_45 (after hostOps0_44 (after hostOps0_43 (after hostOps0_42 (after hostOps0_41 (after hostOps0_40 (after hostOps0_39 (after hostOps0_38 (after hostOps0_37 (after hostOps0_36 (after hostOps0_35 (after hostOps0_34 (after hostOps0_33 (after hostOps0_32 (after hostOps0_31 (after hostOps0_30 (after hostOps0_29 (after hostOps0_28 (after hostOps0_27 (after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (pre9 (pre7 (pre3 W))))))))))))))))))))))))))))))))))))))))))))))))))))))))))))))

theorem tables_inv : Inv (tables W) (fun r y => Cert.Attn.bk (rel r y)) (rowOver (W main_arg3)) 31 (tables W main_v244) :=
  step31 (step30 (step29 (step28 (step27 (step26 (step25 (step24 (step23 (step22 (step21 (step20 (step19 (step18 (step17 (step16 (step15 (step14 (step13 (step12 (step11 (step10 (step9 (step8 (step7 (step6 (step5 (step4 (step3 (step2 (start_inv W))))))))))))))))))))))))))))))

theorem after_all : after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76]) W = after hostOps0_76 (after hostOps0_75 (after hostOps0_74 (after hostOps0_73 (after hostOps0_72 (after hostOps0_71 (after hostOps0_70 (tables W))))))) := by
  simp only [List.flatten_cons, List.flatten_nil, List.append_nil, after_app]

theorem minus_inf : Ideal.ofBits .f32 0xFF800000#32 = (⊥ : EReal) := by
  simp [Ideal.ofBits, Ideal.ieee]

theorem addi_ofNat (y : ℕ) : IntOp.addi 512#32 (BitVec.ofNat 32 y) = BitVec.ofNat 32 (512 + y) := by
  unfold IntOp.addi
  rw [BitVec.ofNat_add]

theorem subi_ofNat (a b : ℕ) : IntOp.subi (BitVec.ofNat 32 a) (BitVec.ofNat 32 b) = BitVec.ofInt 32 ((a : ℤ) - b) := by
  apply BitVec.eq_of_toInt_eq
  show (BitVec.ofNat 32 a - BitVec.ofNat 32 b).toInt = _
  rw [BitVec.toInt_sub, BitVec.toInt_ofInt, BitVec.toInt_ofNat', BitVec.toInt_ofNat', Int.bmod_sub_bmod, Int.sub_bmod_bmod]

open Classical in
/-- The table, at slot `k`, row `r` and column `y` of head `h`: of key `512 k + r` and query `512 + y`, counted from
512 below the query block. -/
theorem V_table (m : (ℓ : Loc nD τ sig) → Buf (Elt Ideal) ℓ) (c : Dev nD) (h : Fin 8) (k : Fin 3) (r : Fin 512) (y : Fin 1024) :
    (V m c main_v254 : Vec Ideal S8x3x512x1024 .f32) (ix4 h k r y) =
      (show EReal from if (512 * k.val + r.val) / 64 ≤ (512 + y.val) / 64 then
        rowOver (m (c, Proc.tc.devRef main_arg3)) (Cert.Attn.row (((512 * k.val + r.val : ℕ) : ℤ) - ((512 + y.val : ℕ) : ℤ))) h else ⊥)
        * Ideal.div 1 (Ideal.log (Ideal.ofBits .f32 0x40000000#32)) := by
  have H := tables_inv (fun b => m (c, b))
  have e : k.val * 512 + r.val = 512 * k.val + r.val := by omega
  have hz : (((512 * k.val + r.val : ℕ) : ℤ) - ((512 + y.val : ℕ) : ℤ)).natAbs ≤ 16384 := by omega
  unfold V
  rw [after_all, end_at, H.h53, H.h56, H.hacc, addi_ofNat, Cert.Attn.mask_iff _ _ (by show k.val * 512 + r.val < 32768; omega) (by omega), minus_inf]
  have hr : rel ⟨k.val * 512 + r.val, by omega⟩ y = BitVec.ofInt 32 (((512 * k.val + r.val : ℕ) : ℤ) - ((512 + y.val : ℕ) : ℤ)) := by
    unfold rel
    rw [addi_ofNat, subi_ofNat]
    show BitVec.ofInt 32 (((k.val * 512 + r.val : ℕ) : ℤ) - ((512 + y.val : ℕ) : ℤ)) = _
    rw [e]
  have hb := (Cert.Attn.bk_spec _ hz).1
  rw [hr, if_pos (by omega)]
  show Scalar.select (BitVec.ofBool (decide ((k.val * 512 + r.val) / 64 ≤ (512 + y.val) / 64))) _ _ * _ = _
  rw [e]
  congr 1
  by_cases hm : (512 * k.val + r.val) / 64 ≤ (512 + y.val) / 64
  · rw [decide_eq_true hm, if_pos hm]; rfl
  · rw [decide_eq_false hm, if_neg hm]; rfl

end Cert.KernelIdeal.Attn
-- ==== Proof.Attn.Blocks.lean ====
/-
The blocks a grid point reads, at an index of the arrays they are cut from, and the blocks the results go to.
-/
module

public import proofs.«01_k».proof.Proof.Gen.KernelIdeal.Frame
public import proofs.«01_k».proof.Proof.Attn.Frame
public import Idealize.ShloMosaic.Lib.Pointwise
public import Idealize.ShloMosaic.Lib.Pipeline.Value

@[expose] public section

set_option maxRecDepth 65536

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

theorem lt_N : t.val < 256 := lt_of_lt_of_eq t.isLt N_0

theorem idx1 : win0_1.index t 0 = t.val / 16 % 8 ∧ win0_1.index t 1 = 0 ∧ win0_1.index t 2 = t.val / 128 * 16 + t.val % 16 :=
  (by decide +kernel : ∀ t : Fin grid0.N, win0_1.index t 0 = t.val / 16 % 8 ∧ win0_1.index t 1 = 0 ∧ win0_1.index t 2 = t.val / 128 * 16 + t.val % 16) t

theorem idx2 : win0_2.index t 0 = t.val / 128 ∧ win0_2.index t 1 = t.val / 16 % 8 :=
  (by decide +kernel : ∀ t : Fin grid0.N, win0_2.index t 0 = t.val / 128 ∧ win0_2.index t 1 = t.val / 16 % 8) t

theorem idx3 : win0_3.index t 0 = t.val / 16 % 8 ∧ win0_3.index t 1 = 0 ∧ win0_3.index t 2 = t.val / 128 :=
  (by decide +kernel : ∀ t : Fin grid0.N, win0_3.index t 0 = t.val / 16 % 8 ∧ win0_3.index t 1 = 0 ∧ win0_3.index t 2 = t.val / 128) t

theorem idx4 : win0_4.index t 0 = t.val / 16 % 8 ∧ win0_4.index t 1 = 0 ∧ win0_4.index t 2 = 0 ∧ win0_4.index t 3 = 0 :=
  (by decide +kernel : ∀ t : Fin grid0.N, win0_4.index t 0 = t.val / 16 % 8 ∧ win0_4.index t 1 = 0 ∧ win0_4.index t 2 = 0 ∧ win0_4.index t 3 = 0) t

theorem idx5 : win0_5.index t 0 = 0 ∧ win0_5.index t 1 = 0 :=
  (by decide +kernel : ∀ t : Fin grid0.N, win0_5.index t 0 = 0 ∧ win0_5.index t 1 = 0) t

theorem idx6 : win0_6.index t 0 = t.val / 128 * 16 + t.val % 16 ∧ win0_6.index t 1 = t.val / 16 % 8 :=
  (by decide +kernel : ∀ t : Fin grid0.N, win0_6.index t 0 = t.val / 128 * 16 + t.val % 16 ∧ win0_6.index t 1 = t.val / 16 % 8) t

theorem iblk0 : (iblk m c 0 t : Vec Ideal S1 .f32) (ix1 0) = (V m c main_v12 : Vec Ideal S1 .f32) (ix1 0) := by
  unfold iblk
  rw [View.read_apply]
  show V m c main_v12 _ = V m c main_v12 _
  refine congrArg (V m c main_v12) (funext fun a => ?_)
  match a with
  | ⟨0, _⟩ => exact Subsingleton.elim (α := Fin 1) _ _

theorem iblk1 (d : Fin 128) (r : Fin 1024) : (iblk m c 1 t : Vec Ideal S1x128x1024 .bf16) (ix3 0 d r) =
    (V m c main_v21 : Vec Ideal S8x128x32768 .bf16) (ix3 ⟨t.val / 16 % 8, by omega⟩ d ⟨(t.val / 128 * 16 + t.val % 16) * 1024 + r.val, by have := lt_N t; omega⟩) := by
  have hi := idx1 t
  unfold iblk
  rw [View.read_apply]
  show V m c main_v21 _ = V m c main_v21 _
  refine congrArg (V m c main_v21) (funext fun a => Fin.ext ?_)
  match a with
  | ⟨0, _⟩ => show win0_1.index t 0 * 1 + 1 * 0 = t.val / 16 % 8; rw [hi.1]; omega
  | ⟨1, _⟩ => show win0_1.index t 1 * 128 + 1 * d.val = d.val; rw [hi.2.1]; omega
  | ⟨2, _⟩ => show win0_1.index t 2 * 1024 + 1 * r.val = (t.val / 128 * 16 + t.val % 16) * 1024 + r.val; rw [hi.2.2]; omega

theorem iblk2 (n : Fin 16384) (d : Fin 128) : (iblk m c 2 t : Vec Ideal S16384x128 .bf16) (ix2 n d) =
    (V m c main_v23 : Vec Ideal S32768x1024 .bf16) (ix2 ⟨t.val / 128 * 16384 + n.val, by have := lt_N t; omega⟩ ⟨t.val / 16 % 8 * 128 + d.val, by omega⟩) := by
  have hi := idx2 t
  unfold iblk
  rw [View.read_apply]
  show V m c main_v23 _ = V m c main_v23 _
  refine congrArg (V m c main_v23) (funext fun a => Fin.ext ?_)
  match a with
  | ⟨0, _⟩ => show win0_2.index t 0 * 16384 + 1 * n.val = t.val / 128 * 16384 + n.val; rw [hi.1]; omega
  | ⟨1, _⟩ => show win0_2.index t 1 * 128 + 1 * d.val = t.val / 16 % 8 * 128 + d.val; rw [hi.2]; omega

theorem iblk3 (e : Fin 128) (n : Fin 16384) : (iblk m c 3 t : Vec Ideal S1x128x16384 .bf16) (ix3 0 e n) =
    (V m c main_v26 : Vec Ideal S8x128x32768 .bf16) (ix3 ⟨t.val / 16 % 8, by omega⟩ e ⟨t.val / 128 * 16384 + n.val, by have := lt_N t; omega⟩) := by
  have hi := idx3 t
  unfold iblk
  rw [View.read_apply]
  show V m c main_v26 _ = V m c main_v26 _
  refine congrArg (V m c main_v26) (funext fun a => Fin.ext ?_)
  match a with
  | ⟨0, _⟩ => show win0_3.index t 0 * 1 + 1 * 0 = t.val / 16 % 8; rw [hi.1]; omega
  | ⟨1, _⟩ => show win0_3.index t 1 * 128 + 1 * e.val = e.val; rw [hi.2.1]; omega
  | ⟨2, _⟩ => show win0_3.index t 2 * 16384 + 1 * n.val = t.val / 128 * 16384 + n.val; rw [hi.2.2]; omega

theorem iblk4 (k : Fin 3) (r : Fin 512) (y : Fin 1024) : (iblk m c 4 t : Vec Ideal S1x3x512x1024 .f32) (ix4 0 k r y) =
    (V m c main_v254 : Vec Ideal S8x3x512x1024 .f32) (ix4 ⟨t.val / 16 % 8, by omega⟩ k r y) := by
  have hi := idx4 t
  unfold iblk
  rw [View.read_apply]
  show V m c main_v254 _ = V m c main_v254 _
  refine congrArg (V m c main_v254) (funext fun a => Fin.ext ?_)
  match a with
  | ⟨0, _⟩ => show win0_4.index t 0 * 1 + 1 * 0 = t.val / 16 % 8; rw [hi.1]; omega
  | ⟨1, _⟩ => show win0_4.index t 1 * 3 + 1 * k.val = k.val; rw [hi.2.1]; omega
  | ⟨2, _⟩ => show win0_4.index t 2 * 512 + 1 * r.val = r.val; rw [hi.2.2.1]; omega
  | ⟨3, _⟩ => show win0_4.index t 3 * 1024 + 1 * y.val = y.val; rw [hi.2.2.2]; omega

theorem iblk5 (e : Fin 128) (r : Fin 1024) : (iblk m c 5 t : Vec Ideal S128x1024 .f32) (ix2 e r) = (V m c main_v256 : Vec Ideal S128x1024 .f32) (ix2 e r) := by
  have hi := idx5 t
  unfold iblk
  rw [View.read_apply]
  show V m c main_v256 _ = V m c main_v256 _
  refine congrArg (V m c main_v256) (funext fun a => Fin.ext ?_)
  match a with
  | ⟨0, _⟩ => show win0_5.index t 0 * 128 + 1 * e.val = e.val; rw [hi.1]; omega
  | ⟨1, _⟩ => show win0_5.index t 1 * 1024 + 1 * r.val = r.val; rw [hi.2]; omega

/-- The output block of a point, at an index of the result. -/
theorem blk6 (G : Vec Ideal S32768x1024 .bf16) (r : Fin 1024) (e : Fin 128) :
    (((cfg0.win 6).blk t).view.read (Elt Ideal) (show Buf (Elt Ideal) ((cfg0.win 6).arr.view.loc (c.tc : Thread nD τ)) from G) : Vec Ideal S1024x128 .bf16) (ix2 r e) =
      G (ix2 ⟨(t.val / 128 * 16 + t.val % 16) * 1024 + r.val, by have := lt_N t; omega⟩ ⟨t.val / 16 % 8 * 128 + e.val, by omega⟩) := by
  have hi := idx6 t
  rw [View.read_apply]
  show G _ = G _
  refine congrArg G (funext fun a => Fin.ext ?_)
  match a with
  | ⟨0, _⟩ => show win0_6.index t 0 * 1024 + 1 * r.val = (t.val / 128 * 16 + t.val % 16) * 1024 + r.val; rw [hi.1]; omega
  | ⟨1, _⟩ => show win0_6.index t 1 * 128 + 1 * e.val = t.val / 16 % 8 * 128 + e.val; rw [hi.2]; omega

/-- Every index of the result is in some point's block. -/
theorem blk6_cover (i : S32768x1024.Idx) : ∃ t : Fin cfg0.N, (cfg0.win 6).flush t = true ∧ i ∈ ((cfg0.win 6).blk t).view.set := by
  have h0 : (i 0 : Nat) < 32768 := (i 0).isLt
  have h1 : (i 1 : Nat) < 1024 := (i 1).isLt
  refine ⟨⟨((i 0 : Nat) / 16384) * 128 + ((i 1 : Nat) / 128) * 16 + (i 0 : Nat) / 1024 % 16, by rw [show cfg0.N = 256 from N_0]; omega⟩, flush0_6 _, ?_⟩
  generalize ht : (⟨((i 0 : Nat) / 16384) * 128 + ((i 1 : Nat) / 128) * 16 + (i 0 : Nat) / 1024 % 16, by rw [show cfg0.N = 256 from N_0]; omega⟩ : Fin cfg0.N) = t
  have hv : t.val = ((i 0 : Nat) / 16384) * 128 + ((i 1 : Nat) / 128) * 16 + (i 0 : Nat) / 1024 % 16 := by rw [← ht]
  have hi := idx6 t
  show i ∈ ((View.whole main_v257).slice (win0_6.rect t)).set
  rw [View.set_slice_whole, Rect.mem_set_unit]
  intro a
  match a with
  | ⟨0, _⟩ =>
    show win0_6.index t 0 * 1024 ≤ (i 0 : Nat) ∧ (i 0 : Nat) < win0_6.index t 0 * 1024 + 1024
    rw [hi.1]; omega
  | ⟨1, _⟩ =>
    show win0_6.index t 1 * 128 ≤ (i 1 : Nat) ∧ (i 1 : Nat) < win0_6.index t 1 * 128 + 128
    rw [hi.2]; omega

end Cert.KernelIdeal.Attn
-- ==== Proof.Attn.Match.lean ====
/-
The inputs of a grid point, over real arguments: what the loop needs of them, and the block the body leaves.
-/
module

public import proofs.«01_k».proof.Proof.Attn.Weights
public import proofs.«01_k».proof.Proof.Attn.HostArgs
public import proofs.«01_k».proof.Proof.Attn.HostTable
public import proofs.«01_k».proof.Proof.Attn.Blocks

@[expose] public section

set_option maxRecDepth 65536

noncomputable section

namespace Cert.KernelIdeal.Attn

open Idealize.ShloMosaic Idealize.ShloMosaic.TcCoe Idealize.SL.Sem
open Cert.KernelIdeal Cert.KernelIdeal.Gen Cert.Attn

variable (m : (ℓ : Loc nD τ sig) → Buf (Elt Ideal) ℓ) (c : Dev nD) (t : Fin cfg0.N)
variable (X0 X1 : S2x16384x8x2x64.Idx → ℝ) (X2 : S2x16384x8x128.Idx → ℝ) (X3 : S32x8.Idx → ℝ)

/-- The batch, the head and the query block of a grid point. -/
def pb : Fin 2 := ⟨t.val / 128, by have := lt_N t; omega⟩
def ph : Fin 8 := ⟨t.val / 16 % 8, by omega⟩

theorem two_bits : Ideal.ofBits FTy.f32 0x40000000#32 = ((2 : ℝ) : EReal) := by
  simp [Ideal.ofBits, Ideal.ieee, -EReal.coe_mul]
  norm_num

theorem per_log : Ideal.div 1 (Ideal.log (Ideal.ofBits FTy.f32 0x40000000#32)) = ((1 / Real.log 2 : ℝ) : EReal) := by
  have hl : Real.log 2 ≠ 0 := (Real.log_pos (by norm_num)).ne'
  rw [two_bits, Ideal.log_coe, if_neg (by norm_num), Ideal.div_coe hl, one_mul]

theorem idx5_cong {n0 n1 n2 n3 n4 : ℕ} {a a' : Fin n0} {b b' : Fin n1} {d d' : Fin n2} {e e' : Fin n3} {f f' : Fin n4}
    (h1 : a = a') (h2 : b = b') (h3 : d = d') (h4 : e = e') (h5 : f = f') : ix5 a b d e f = ix5 a' b' d' e' f' := by
  rw [h1, h2, h3, h4, h5]

theorem idx4_cong {n0 n1 n2 n3 : ℕ} {a a' : Fin n0} {b b' : Fin n1} {d d' : Fin n2} {e e' : Fin n3}
    (h1 : a = a') (h2 : b = b') (h3 : d = d') (h4 : e = e') : ix4 a b d e = ix4 a' b' d' e' := by
  rw [h1, h2, h3, h4]

variable (g0 : m (c, Proc.tc.devRef main_arg0) = fun i => ((X0 i : ℝ) : EReal))
variable (g1 : m (c, Proc.tc.devRef main_arg1) = fun i => ((X1 i : ℝ) : EReal))
variable (g2 : m (c, Proc.tc.devRef main_arg2) = fun i => ((X2 i : ℝ) : EReal))
variable (g3 : m (c, Proc.tc.devRef main_arg3) = fun i => ((X3 i : ℝ) : EReal))

include g0 in
theorem in_q (d : Fin 128) (r : Fin 1024) : (iblk m c 1 t : Vec Ideal S1x128x1024 .bf16) (ix3 0 d r) = ((query X0 (pb t) (ph t) (t.val % 16) d r.val : ℝ) : EReal) := by
  have hN := lt_N t
  refine ((iblk1 m c t d r).trans (V_q m c _ d _)).trans ?_
  rw [g0, per_log, Cert.ReferenceIdeal.Attn.eighth]
  have hr : 1024 * (t.val % 16) + r.val < 16384 := by omega
  unfold query
  rw [dif_pos hr, EReal.coe_mul, EReal.coe_mul]
  refine congrArg (fun z : EReal => z * ((1 / 8 : ℝ) : EReal) * ((1 / Real.log 2 : ℝ) : EReal)) ?_
  refine congrArg (fun i => ((X0 i : ℝ) : EReal)) (idx5_cong (Fin.ext ?_) (Fin.ext ?_) rfl rfl rfl)
  · show ((t.val / 128 * 16 + t.val % 16) * 1024 + r.val) / 16384 = t.val / 128
    omega
  · show ((t.val / 128 * 16 + t.val % 16) * 1024 + r.val) % 16384 = 1024 * (t.val % 16) + r.val
    omega

include g1 in
theorem in_k (n : ℕ) (hn : n < 16384) (d : Fin 128) : (iblk m c 2 t : Vec Ideal S16384x128 .bf16) (ix2 ⟨n, hn⟩ d) = ((keys X1 (pb t) (ph t) n d : ℝ) : EReal) := by
  have hN := lt_N t
  refine ((iblk2 m c t ⟨n, hn⟩ d).trans (V_k m c _ _)).trans ?_
  rw [g1]
  unfold keys
  rw [dif_pos hn]
  refine congrArg (fun i => ((X1 i : ℝ) : EReal)) (idx5_cong (Fin.ext ?_) (Fin.ext ?_) (Fin.ext ?_) (Fin.ext ?_) (Fin.ext ?_))
  · show (t.val / 128 * 16384 + n) / 16384 = t.val / 128
    omega
  · show (t.val / 128 * 16384 + n) % 16384 = n
    omega
  · show (t.val / 16 % 8 * 128 + d.val) / 128 = t.val / 16 % 8
    omega
  · show (t.val / 16 % 8 * 128 + d.val) / 64 % 2 = d.val / 64
    omega
  · show (t.val / 16 % 8 * 128 + d.val) % 64 = d.val % 64
    omega

include g2 in
theorem in_v (e : Fin 128) (n : ℕ) (hn : n < 16384) : (iblk m c 3 t : Vec Ideal S1x128x16384 .bf16) (ix3 0 e ⟨n, hn⟩) = ((vals X2 (pb t) (ph t) e n : ℝ) : EReal) := by
  have hN := lt_N t
  refine ((iblk3 m c t e ⟨n, hn⟩).trans (V_v m c _ _ _)).trans ?_
  rw [g2]
  unfold vals
  rw [dif_pos hn]
  refine congrArg (fun i => ((X2 i : ℝ) : EReal)) (idx4_cong (Fin.ext ?_) (Fin.ext ?_) rfl rfl)
  · show (t.val / 128 * 16384 + n) / 16384 = t.val / 128
    omega
  · show (t.val / 128 * 16384 + n) % 16384 = n
    omega

include g3 in
theorem in_b (k : Fin 3) (r : Fin 512) (y : Fin 1024) (hm : (512 * k.val + r.val) / 64 ≤ (512 + y.val) / 64) :
    (iblk m c 4 t : Vec Ideal S1x3x512x1024 .f32) (ix4 0 k r y) =
      (((X3 (ix2 (row (((512 * k.val + r.val : ℕ) : ℤ) - ((512 + y.val : ℕ) : ℤ))) (ph t)) - X3 (ix2 15 (ph t))) * (1 / Real.log 2) : ℝ) : EReal) := by
  refine ((iblk4 m c t k r y).trans (V_table m c _ k r y)).trans ?_
  rw [if_pos hm, per_log]
  unfold rowOver
  rw [g3, EReal.coe_mul, EReal.coe_sub]
  rfl

theorem in_m (k : Fin 3) (r : Fin 512) (y : Fin 1024) (hm : ¬ (512 * k.val + r.val) / 64 ≤ (512 + y.val) / 64) :
    (iblk m c 4 t : Vec Ideal S1x3x512x1024 .f32) (ix4 0 k r y) = (⊥ : EReal) := by
  refine ((iblk4 m c t k r y).trans (V_table m c _ k r y)).trans ?_
  rw [if_neg hm, per_log]
  exact EReal.bot_mul_coe_of_pos (one_div_pos.2 (Real.log_pos (by norm_num)))

include g0 g1 g2 g3 in
/-- The inputs of point `t` are those the loop is about. -/
theorem ins : Ins (t.val % 16) (iblk m c 1 t) (iblk m c 2 t) (iblk m c 3 t) (iblk m c 4 t)
    (query X0 (pb t) (ph t) (t.val % 16)) (keys X1 (pb t) (ph t)) (vals X2 (pb t) (ph t)) (weight X0 X1 X3 (pb t) (ph t) (t.val % 16)) where
  h1 d r := in_q m c t X0 g0 d r
  h2 n hn d := in_k m c t X1 g1 n hn d
  h3 e n hn := in_v m c t X2 g2 e n hn
  hW n y hn := weight_far X0 X1 X3 _ _ _ (by omega) n y hn
  hb k r y n hn := by
    have hy : y % 1024 < 1024 := Nat.mod_lt _ (by norm_num)
    by_cases hm : n / 64 ≤ (1024 * (t.val % 16) + y % 1024) / 64
    · refine Or.inr ⟨Rsc (keys X1 (pb t) (ph t)) (Qm (query X0 (pb t) (ph t) (t.val % 16))) n y + over X3 (ph t) n (1024 * (t.val % 16) + y % 1024) * (1 / Real.log 2), ?_, ?_⟩
      · rw [EReal.coe_add]
        refine congrArg (fun z : EReal => ((Rsc (keys X1 (pb t) (ph t)) (Qm (query X0 (pb t) (ph t) (t.val % 16))) n y : ℝ) : EReal) + z) ?_
        refine (in_b m c t X3 g3 k r ⟨y % 1024, hy⟩ (by show (512 * k.val + r.val) / 64 ≤ (512 + y % 1024) / 64; omega)).trans ?_
        unfold over
        have e : ((512 * k.val + r.val : ℕ) : ℤ) - ((512 + y % 1024 : ℕ) : ℤ) = (n : ℤ) - ((1024 * (t.val % 16) + y % 1024 : ℕ) : ℤ) := by omega
        show (((X3 (ix2 (row (((512 * k.val + r.val : ℕ) : ℤ) - ((512 + y % 1024 : ℕ) : ℤ))) (ph t)) - X3 (ix2 15 (ph t))) * (1 / Real.log 2) : ℝ) : EReal) = _
        rw [e]
      · unfold weight
        rw [if_pos hm]
    · refine Or.inl ⟨?_, ?_⟩
      · have e := in_m m c t k r ⟨y % 1024, hy⟩ (by show ¬ (512 * k.val + r.val) / 64 ≤ (512 + y % 1024) / 64; omega)
        refine (congrArg (fun z : EReal => ((Rsc (keys X1 (pb t) (ph t)) (Qm (query X0 (pb t) (ph t) (t.val % 16))) n y : ℝ) : EReal) + z) e).trans ?_
        exact EReal.add_bot _
      · unfold weight
        rw [if_neg hm]
  hx k y hk := by
    refine ⟨0, fun e => ?_⟩
    have e' := (in_b m c t X3 g3 k 0 y (by show (512 * k.val + 0) / 64 ≤ (512 + y.val) / 64; have := k.isLt; omega)).symm.trans e
    exact EReal.coe_ne_bot _ e'
  hz r y hy := weight_zero X0 X1 X3 _ _ _ r.val y hy

include g0 g1 g2 g3 in
/-- The block the body leaves at point `t`. -/
theorem body_at (l : ℝ) (hlam : (V m c main_v12 : Vec Ideal S1 .f32) (ix1 0) = ((l : ℝ) : EReal)) (y : Vec Ideal S512x2048 .f32) (r : Fin 1024) (e : Fin 128) :
    bodyOut (F := Ideal) m c t y (ix2 r e) =
      normed (fun x => Cert.ReferenceIdeal.Attn.diff X0 X1 X2 X3 l (pb t) (ph t) ⟨1024 * (t.val % 16) + r.val, by omega⟩ x) e
        * ((show EReal from m (c, Proc.tc.devRef main_arg8) (ix2 0 e)) * Ideal.ofBits FTy.f32 0x3F4CCCCD#32) := by
  refine (bodyOut_apply m c t y (ins m c t X0 X1 X2 X3 g0 g1 g2 g3) l ((iblk0 m c t).trans hlam)
    (fun y hy => Tsum_ne X0 X1 X2 X3 _ _ _ y (by omega) hy) r e).trans ?_
  rw [show (fun x => Cert.ReferenceIdeal.Attn.diff X0 X1 X2 X3 l (pb t) (ph t) ⟨1024 * (t.val % 16) + r.val, by omega⟩ x)
      = dif (vals X2 (pb t) (ph t)) (weight X0 X1 X3 (pb t) (ph t) (t.val % 16)) (1024 * (t.val % 16) + 1024) l r.val from
    funext fun x => (dif_eq X0 X1 X2 X3 _ _ _ l r.val (by omega) r.isLt _ x).symm]
  refine congrArg (fun z : EReal => normed _ e * (z * Ideal.ofBits FTy.f32 0x3F4CCCCD#32)) ?_
  exact (iblk5 m c t e r).trans (V_g m c e r)

end Cert.KernelIdeal.Attn
-- ==== Proof.Attn.Finite.lean ====
/-
What the precondition says: every entry of every argument but the gain is a real number.
-/
module

public import proofs.«01_k».proof.Defs
public import proofs.«01_k».proof.Proof.Gen.Pre_finite
public import Idealize.ShloMosaic.Lib.ReduceAll

@[expose] public section

noncomputable section

namespace Cert.Pre_finite.Attn

open Idealize.ShloMosaic Cert.Pre_finite

/-- A word of finite absolute value is a real number. -/
theorem real_of (x : EReal) (h : FloatOps.cmpf (F := Ideal) (φ := .f32) .olt (FloatOps.hostAbsf (F := Ideal) (φ := .f32) x) (FloatOps.ofBits (F := Ideal) .f32 0x7F800000#32) = 1#1) : ∃ r : ℝ, x = (r : EReal) := by
  have e : Ideal.ofBits .f32 0x7F800000#32 = (⊤ : EReal) := by simp [Ideal.ofBits, Ideal.ieee]
  have h' : FloatOps.cmpf (F := Ideal) (φ := .f32) .olt (FloatOps.hostAbsf (F := Ideal) (φ := .f32) x) (Ideal.ofBits .f32 0x7F800000#32) = 1#1 := h
  rw [e] at h'
  induction x with
  | bot => simp [FloatOps.cmpf, FloatOps.hostAbsf, Ideal.cmp] at h'
  | top => simp [FloatOps.cmpf, FloatOps.hostAbsf, Ideal.cmp] at h'
  | coe r => exact ⟨r, rfl⟩

/-- The scalar's one index. -/
def z0 : S_.Idx := fun a => a.elim0

instance : Subsingleton S_.Idx := ⟨fun a b => funext fun x => x.elim0⟩

variable [Facts]

theorem reals (a0 a1 : FVec Ideal S2x16384x8x2x64 .f32) (a2 : FVec Ideal S2x16384x8x128 .f32) (a3 : FVec Ideal S32x8 .f32) (a4 a5 a6 a7 : FVec Ideal S1x64 .f32) (a8 : FVec Ideal S1x128 .f32)
    (h : fn (F := Ideal) a0 a1 a2 a3 a4 a5 a6 a7 a8 = fun _ => 1#1) :
    (∃ X : S2x16384x8x2x64.Idx → ℝ, a0 = fun i => ((X i : ℝ) : EReal)) ∧ (∃ X : S2x16384x8x2x64.Idx → ℝ, a1 = fun i => ((X i : ℝ) : EReal))
      ∧ (∃ X : S2x16384x8x128.Idx → ℝ, a2 = fun i => ((X i : ℝ) : EReal)) ∧ (∃ X : S32x8.Idx → ℝ, a3 = fun i => ((X i : ℝ) : EReal))
      ∧ (∃ X : S1x64.Idx → ℝ, a4 = fun i => ((X i : ℝ) : EReal)) ∧ (∃ X : S1x64.Idx → ℝ, a5 = fun i => ((X i : ℝ) : EReal))
      ∧ (∃ X : S1x64.Idx → ℝ, a6 = fun i => ((X i : ℝ) : EReal)) ∧ (∃ X : S1x64.Idx → ℝ, a7 = fun i => ((X i : ℝ) : EReal)) := by
  have h0 := congrFun h z0
  dsimp only [fn, fn_part1, fn_part2] at h0
  simp only [andi, IntOp.andi_eq_one] at h0
  obtain ⟨⟨⟨⟨⟨⟨⟨p0, p1⟩, p2⟩, p3⟩, p4⟩, p5⟩, p6⟩, p7⟩ := h0
  refine ⟨?_, ?_, ?_, ?_, ?_, ?_, ?_, ?_⟩
  · choose X hX using fun i => real_of (a0 i) (Host.reduce_andi_all _ _ _ _ z0 p0 i)
    exact ⟨X, funext hX⟩
  · choose X hX using fun i => real_of (a1 i) (Host.reduce_andi_all _ _ _ _ z0 p1 i)
    exact ⟨X, funext hX⟩
  · choose X hX using fun i => real_of (a2 i) (Host.reduce_andi_all _ _ _ _ z0 p2 i)
    exact ⟨X, funext hX⟩
  · choose X hX using fun i => real_of (a3 i) (Host.reduce_andi_all _ _ _ _ z0 p3 i)
    exact ⟨X, funext hX⟩
  · choose X hX using fun i => real_of (a4 i) (Host.reduce_andi_all _ _ _ _ z0 p4 i)
    exact ⟨X, funext hX⟩
  · choose X hX using fun i => real_of (a5 i) (Host.reduce_andi_all _ _ _ _ z0 p5 i)
    exact ⟨X, funext hX⟩
  · choose X hX using fun i => real_of (a6 i) (Host.reduce_andi_all _ _ _ _ z0 p6 i)
    exact ⟨X, funext hX⟩
  · choose X hX using fun i => real_of (a7 i) (Host.reduce_andi_all _ _ _ _ z0 p7 i)
    exact ⟨X, funext hX⟩

end Cert.Pre_finite.Attn
-- ==== Proof.Attn.Whole.lean ====
/-
The whole result: over finite arguments the kernel ends with the reference's array.
-/
module

public import proofs.«01_k».proof.Proof.Attn.Match
public import proofs.«01_k».proof.Proof.Attn.Finite
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Init

@[expose] public section

set_option maxRecDepth 65536

noncomputable section

namespace Cert.KernelIdeal.Attn

open Idealize.ShloMosaic Idealize.ShloMosaic.TcCoe Idealize.SL.Sem
open Cert.KernelIdeal Cert.KernelIdeal.Gen Cert.Attn

variable (m : (ℓ : Loc nD τ sig) → Buf (Elt Ideal) ℓ) (ρ : Dev nD → PrngReg) (c : Dev nD)

/-- The reference's result over the kernel's arguments. -/
def G : Vec Ideal S32768x1024 .bf16 :=
  Cert.ReferenceIdeal.Read.val_main_v101 (F := Ideal) (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7)) (m (c, Proc.tc.devRef main_arg8))

/-- Block `t` of it. -/
def outG (c : Dev nD) (t : Fin cfg0.N) : Vec Ideal S1024x128 .bf16 :=
  ((cfg0.win 6).blk t).view.read (Elt Ideal) (show Buf (Elt Ideal) ((cfg0.win 6).arr.view.loc (c.tc : Thread nD τ)) from G m c)

theorem fifth : Ideal.ofBits FTy.f32 0x3E4CCCCD#32 = ((13421773 / 67108864 : ℝ) : EReal) := by
  simp [Ideal.ofBits, Ideal.ieee, -EReal.coe_mul]
  norm_num

/-- The scale of the second half is a real number. -/
theorem lam_real (Y4 Y5 Y6 Y7 : S1x64.Idx → ℝ) : ∃ l : ℝ,
    Ideal.exp (∑ x : Fin 64, ((Y4 (ix2 0 x) : ℝ) : EReal) * ((Y5 (ix2 0 x) : ℝ) : EReal))
        - Ideal.exp (∑ x : Fin 64, ((Y6 (ix2 0 x) : ℝ) : EReal) * ((Y7 (ix2 0 x) : ℝ) : EReal)) + Ideal.ofBits .f32 0x3E4CCCCD#32 = (l : EReal) := by
  have s : ∀ Y Z : S1x64.Idx → ℝ, (∑ x : Fin 64, ((Y (ix2 0 x) : ℝ) : EReal) * ((Z (ix2 0 x) : ℝ) : EReal)) = ((∑ x : Fin 64, Y (ix2 0 x) * Z (ix2 0 x) : ℝ) : EReal) := by
    intro Y Z
    rw [← Cert.ReferenceIdeal.Attn.coe_sum']
    exact Finset.sum_congr rfl fun x _ => (EReal.coe_mul _ _).symm
  refine ⟨Real.exp (∑ x : Fin 64, Y4 (ix2 0 x) * Y5 (ix2 0 x)) - Real.exp (∑ x : Fin 64, Y6 (ix2 0 x) * Y7 (ix2 0 x)) + 13421773 / 67108864, ?_⟩
  rw [s, s, Ideal.exp_coe, Ideal.exp_coe, fifth, EReal.coe_add, EReal.coe_sub]

theorem body_eq (h : Cert.Pre_KernelIdeal_finite (hPre_finite := Cert.Pre_finite.Gen.facts) m) (c : Dev nD) (t : Fin cfg0.N) (y : Vec Ideal S512x2048 .f32) :
    bodyOut (F := Ideal) m c t y = outG m c t := by
  have hN := lt_N t
  obtain ⟨⟨X0, g0⟩, ⟨X1, g1⟩, ⟨X2, g2⟩, ⟨X3, g3⟩, ⟨X4, g4⟩, ⟨X5, g5⟩, ⟨X6, g6⟩, ⟨X7, g7⟩⟩ :=
    @Cert.Pre_finite.Attn.reals Cert.Pre_finite.Gen.facts _ _ _ _ _ _ _ _ _ (h c)
  obtain ⟨l, hl⟩ := lam_real X4 X5 X6 X7
  have hlam : (V m c main_v12 : Vec Ideal S1 .f32) (ix1 0) = ((l : ℝ) : EReal) := by
    refine (V_lam m c).trans ?_
    rw [show m (c, Proc.tc.devRef main_arg4) = _ from g4, show m (c, Proc.tc.devRef main_arg5) = _ from g5, show m (c, Proc.tc.devRef main_arg6) = _ from g6, show m (c, Proc.tc.devRef main_arg7) = _ from g7]
    exact hl
  funext i
  obtain ⟨r, e, rfl⟩ : ∃ (r : Fin 1024) (e : Fin 128), i = ix2 r e := ⟨i 0, i 1, by
    funext a
    match a with | ⟨0, _⟩ => rfl | ⟨1, _⟩ => rfl⟩
  refine (body_at m c t X0 X1 X2 X3 g0 g1 g2 g3 l hlam y r e).trans ?_
  refine Eq.trans ?_ (blk6 c t (G m c) r e).symm
  unfold G
  rw [show m (c, Proc.tc.devRef main_arg0) = _ from g0, show m (c, Proc.tc.devRef main_arg1) = _ from g1, show m (c, Proc.tc.devRef main_arg2) = _ from g2, show m (c, Proc.tc.devRef main_arg3) = _ from g3,
    show m (c, Proc.tc.devRef main_arg4) = _ from g4, show m (c, Proc.tc.devRef main_arg5) = _ from g5, show m (c, Proc.tc.devRef main_arg6) = _ from g6, show m (c, Proc.tc.devRef main_arg7) = _ from g7]
  have v := Cert.ReferenceIdeal.Attn.v101_at X0 X1 X2 X3 (fun i => ((X4 i : ℝ) : EReal)) (fun i => ((X5 i : ℝ) : EReal)) (fun i => ((X6 i : ℝ) : EReal)) (fun i => ((X7 i : ℝ) : EReal))
    (m (c, Proc.tc.devRef main_arg8)) l (fun i => (Cert.ReferenceIdeal.Attn.v11_at X4 X5 X6 X7 i).trans hl) (pb t) (ph t) ⟨1024 * (t.val % 16) + r.val, by omega⟩ e
  have ei : (ix2 ⟨(t.val / 128 * 16 + t.val % 16) * 1024 + r.val, by omega⟩ ⟨t.val / 16 % 8 * 128 + e.val, by omega⟩ : S32768x1024.Idx)
      = ix2 ⟨(pb t).val * 16384 + (1024 * (t.val % 16) + r.val), by have := (pb t).isLt; omega⟩ ⟨(ph t).val * 128 + e.val, by have := (ph t).isLt; omega⟩ := by
    funext a
    match a with
    | ⟨0, _⟩ => exact Fin.ext (show (t.val / 128 * 16 + t.val % 16) * 1024 + r.val = t.val / 128 * 16384 + (1024 * (t.val % 16) + r.val) by omega)
    | ⟨1, _⟩ => rfl
  rw [ei]
  refine Eq.trans ?_ v.symm
  unfold normed
  rw [← mul_assoc]

theorem flushed_eq (c : Dev nD) (t : Fin cfg0.N) : (dats m (outG m) 0 c).flushed 6 t = ((cfg0.win 6).blk t).view.read (Elt Ideal) (G m c) := by
  show (cfg0.win 6).cut (grid0.coords t) ((dats m (outG m) 0 c).after 6 t) = _
  rw [after_6]
  rfl

theorem arr_eq (c : Dev nD) : (dats m (outG m) 0 c).arrAt 6 cfg0.N = G m c :=
  (dats m (outG m) 0 c).arrAt_eq_of_cover 6 (G m c) (fun t _ => flushed_eq m c t) blk6_cover

/-- The kernel's run: the result is the reference's, the arguments unchanged. -/
theorem value (h : Cert.Pre_KernelIdeal_finite (hPre_finite := Cert.Pre_finite.Gen.facts) m) :
    θ_run defs (onTc (τ := τ) (main (F := Ideal))) ⟨m, fun _ => 0, ρ⟩ (fun r => ∀ c : Dev nD,
      r.2.mem ((c.tc : Thread nD τ).loc main_v257) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 6).trans (arr_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩)
    (launch_exact m ρ (outG m) (body_eq m h))

end Cert.KernelIdeal.Attn
-- ==== Proof.Proj.Setup.lean ====
/-
What the runs of the projection body share: its four conditions, the staging memrefs at a point and the scratch buffer.
-/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel2Ideal.Gen

variable {F : FTy → Type} [FloatOps F]

local notation "𝕄" => MT nD τ sig Unit (Elt F) ℕ (UR sig nD τ) ℕ

/-- The first branch, at column block 0: the rows are cast into the scratch buffer. -/
abbrev cond1 (i : grid0.Coords) : Prop :=
  Scalar.cmpi .ne (Scalar.extui (Scalar.cmpi .eq (BitVec.ofNat 32 (i 1).val) 0#32) : BitVec 32) 0#32 = 1#1
/-- The branch of column block 0. -/
abbrev cond2 (i : grid0.Coords) : Prop := k0_cond2 i = 1#1
/-- The branch of column block 1. -/
abbrev cond3 (i : grid0.Coords) : Prop := k0_cond3 i = 1#1
/-- The branch of column block 2. -/
abbrev cond4 (i : grid0.Coords) : Prop := k0_cond4 i = 1#1
/-- The branch of column block 3. -/
abbrev cond5 (i : grid0.Coords) : Prop := k0_cond5 i = 1#1

theorem cond1_iff : ∀ t : Fin cfg0.N, cond1 (grid0.coords t) ↔ t.val % 4 = 0 :=
  (by decide +kernel : ∀ t : Fin grid0.N, cond1 (grid0.coords t) ↔ t.val % 4 = 0)
theorem cond2_iff : ∀ t : Fin cfg0.N, cond2 (grid0.coords t) ↔ t.val % 4 = 0 :=
  (by decide +kernel : ∀ t : Fin grid0.N, cond2 (grid0.coords t) ↔ t.val % 4 = 0)
theorem cond3_iff : ∀ t : Fin cfg0.N, cond3 (grid0.coords t) ↔ t.val % 4 = 1 :=
  (by decide +kernel : ∀ t : Fin grid0.N, cond3 (grid0.coords t) ↔ t.val % 4 = 1)
theorem cond4_iff : ∀ t : Fin cfg0.N, cond4 (grid0.coords t) ↔ t.val % 4 = 2 :=
  (by decide +kernel : ∀ t : Fin grid0.N, cond4 (grid0.coords t) ↔ t.val % 4 = 2)
theorem cond5_iff : ∀ t : Fin cfg0.N, cond5 (grid0.coords t) ↔ t.val % 4 = 3 :=
  (by decide +kernel : ∀ t : Fin grid0.N, cond5 (grid0.coords t) ↔ t.val % 4 = 3)
/-- Window 0's staging memref at a point. -/
abbrev stg0 (t : Fin cfg0.N) : Memref sig .tc .vmem S512x2048 .f32 := win0_0.stage (cfg0.slots t 0)
/-- It is a whole buffer. -/
abbrev hstg0 (t : Fin cfg0.N) : (stg0 t).IsWhole := hstage0_0 ((cfg0.slots t 0).cast nbuf0_0)
/-- Window 1's staging memref at a point. -/
abbrev stg1 (t : Fin cfg0.N) : Memref sig .tc .vmem S2048x4096 .bf16 := win0_1.stage (cfg0.slots t 1)
/-- It is a whole buffer. -/
abbrev hstg1 (t : Fin cfg0.N) : (stg1 t).IsWhole := hstage0_1 ((cfg0.slots t 1).cast nbuf0_1)
/-- Window 2's staging memref at a point. -/
abbrev stg2 (t : Fin cfg0.N) : Memref sig .tc .vmem S512x1024 .f32 := win0_2.stage (cfg0.slots t 2)
/-- It is a whole buffer. -/
abbrev hstg2 (t : Fin cfg0.N) : (stg2 t).IsWhole := hstage0_2 ((cfg0.slots t 2).cast nbuf0_2)
/-- Window 3's staging memref at a point. -/
abbrev stg3 (t : Fin cfg0.N) : Memref sig .tc .vmem S512x8x128 .f32 := win0_3.stage (cfg0.slots t 3)
/-- It is a whole buffer. -/
abbrev hstg3 (t : Fin cfg0.N) : (stg3 t).IsWhole := hstage0_3 ((cfg0.slots t 3).cast nbuf0_3)
/-- Window 4's staging memref at a point. -/
abbrev stg4 (t : Fin cfg0.N) : Memref sig .tc .vmem S512x8x128 .f32 := win0_4.stage (cfg0.slots t 4)
/-- It is a whole buffer. -/
abbrev hstg4 (t : Fin cfg0.N) : (stg4 t).IsWhole := hstage0_4 ((cfg0.slots t 4).cast nbuf0_4)
/-- Window 5's staging memref at a point. -/
abbrev stg5 (t : Fin cfg0.N) : Memref sig .tc .vmem S512x1024 .bf16 := win0_5.stage (cfg0.slots t 5)
/-- It is a whole buffer. -/
abbrev hstg5 (t : Fin cfg0.N) : (stg5 t).IsWhole := hstage0_5 ((cfg0.slots t 5).cast nbuf0_5)
/-- Window 6's staging memref at a point. -/
abbrev stg6 (t : Fin cfg0.N) : Memref sig .tc .vmem S8x128x512 .bf16 := win0_6.stage (cfg0.slots t 6)
/-- It is a whole buffer. -/
abbrev hstg6 (t : Fin cfg0.N) : (stg6 t).IsWhole := hstage0_6 ((cfg0.slots t 6).cast nbuf0_6)
/-- Window 7's staging memref at a point. -/
abbrev stg7 (t : Fin cfg0.N) : Memref sig .tc .vmem S8x128x512 .bf16 := win0_7.stage (cfg0.slots t 7)
/-- It is a whole buffer. -/
abbrev hstg7 (t : Fin cfg0.N) : (stg7 t).IsWhole := hstage0_7 ((cfg0.slots t 7).cast nbuf0_7)
/-- The scratch buffer. -/
abbrev scr : Memref sig .tc .vmem S512x2048 .bf16 := Memref.whole cc0_scratch0

/-- The region's own state at entry and exit: the scratch buffer at some contents, beside the generator register. -/
theorem PhiA_eq (c : Dev nD) :
    (Pipeline.ΦA spec0 c : sProp 𝕄)
      = iprop((∃ d, owns (c : Thread nD τ) scr fullShare d) ∗ (∃ r, prngReg c r)) := by
  unfold Pipeline.ΦA; rw [scopedRest0_eq]; simp only [scr, owns_whole]; try rfl

end Cert.Kernel2Ideal.Proj

end
-- ==== Proof.Proj.RunA.lean ====
/-
The projection body at one kind of grid point.
-/
module

public import proofs.«01_k».proof.Proof.Proj.Setup

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel2Ideal.Gen

variable {F : FTy → Type} [FloatOps F]

local notation "𝕄" => MT nD τ sig Unit (Elt F) ℕ (UR sig nD τ) ℕ

set_option maxHeartbeats 4000000 in
/-- At column block 0: the body casts its rows into the scratch buffer, and stores the first columns of the product, by the pieces `L`. -/
noncomputable def runA (c : Dev nD) (i : grid0.Coords) (arg2 : Memref sig .tc .vmem S512x2048 .f32) (harg2 : arg2.IsWhole) (arg3 : Memref sig .tc .vmem S2048x4096 .bf16) (harg3 : arg3.IsWhole) (arg4 : Memref sig .tc .vmem S512x1024 .f32) (harg4 : arg4.IsWhole) (arg5 : Memref sig .tc .vmem S512x8x128 .f32) (harg5 : arg5.IsWhole) (arg6 : Memref sig .tc .vmem S512x8x128 .f32) (harg6 : arg6.IsWhole) (arg7 : Memref sig .tc .vmem S512x1024 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S512x2048 .bf16) (harg10 : arg10.IsWhole) (h1 : cond1 i) (h2 : cond2 i) (h3 : ¬cond3 i) (h4 : ¬cond4 i) (h5 : ¬cond5 i)
    (x0 : Vec F S512x2048 .f32) (x1 : Vec F S2048x4096 .bf16) :
    { L : List (View.Piece (Elt F) S512x2048 .bf16) × List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg10 fullShare d) ∗ (∃ d, owns (c : Thread nD τ) arg4 fullShare d)
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f L.1) ∗ (∃ f, arg4.view.loc (c : Thread nD τ) ↦[arg4.view.set]{fullShare} arg4.view.writes (Elt F) f L.2)) -∗ K ⟨⟩))
          ⊢ wp frame (wpE (defs₀ (F := F)) Variants.none c none) E (cc0__in_proj_kernel i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__in_proj_kernel_eq_skeleton]; unfold cc0__in_proj_kernel_skel
    skip
    unfold owns
    iintro ⟨⟨%f2, %hf2, H2⟩, ⟨%f3, %hf3, H3⟩, ⟨%d10, %f10, -, H10⟩, ⟨%d4, %f4, -, H4⟩, Hk⟩
    obtain rfl := harg2.eq_unread hf2; obtain rfl := harg3.eq_unread hf3
    sl_exec (disch := first | sl_exact h1 | sl_exact h2 | sl_exact h3 | sl_exact h4 | sl_exact h5)
    sl_step
    iapply Hk
    isplitl [H2]
    · iexists _; isplitr; · ipureintro; exact harg2.read_unread _
      iexact H2
    isplitl [H3]
    · iexists _; isplitr; · ipureintro; exact harg3.read_unread _
      iexact H3
    isplitl [H10]
    · iexists _; iexact H10
    iexists _; iexact H4

end Cert.Kernel2Ideal.Proj

end
-- ==== Proof.Proj.RunB.lean ====
/-
The projection body at one kind of grid point.
-/
module

public import proofs.«01_k».proof.Proof.Proj.Setup

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel2Ideal.Gen

variable {F : FTy → Type} [FloatOps F]

local notation "𝕄" => MT nD τ sig Unit (Elt F) ℕ (UR sig nD τ) ℕ

set_option maxHeartbeats 4000000 in
/-- At column block 1: the body stores the scaled and transposed columns of the queries, by the pieces `L`. -/
noncomputable def runB (c : Dev nD) (i : grid0.Coords) (arg2 : Memref sig .tc .vmem S512x2048 .f32) (harg2 : arg2.IsWhole) (arg3 : Memref sig .tc .vmem S2048x4096 .bf16) (harg3 : arg3.IsWhole) (arg4 : Memref sig .tc .vmem S512x1024 .f32) (harg4 : arg4.IsWhole) (arg5 : Memref sig .tc .vmem S512x8x128 .f32) (harg5 : arg5.IsWhole) (arg6 : Memref sig .tc .vmem S512x8x128 .f32) (harg6 : arg6.IsWhole) (arg7 : Memref sig .tc .vmem S512x1024 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S512x2048 .bf16) (harg10 : arg10.IsWhole) (h1 : ¬cond1 i) (h2 : ¬cond2 i) (h3 : cond3 i) (h4 : ¬cond4 i) (h5 : ¬cond5 i)
    (x1 : Vec F S2048x4096 .bf16) (xb : Vec F S512x2048 .bf16) :
    { L : List (View.Piece (Elt F) S8x128x512 .bf16) //
      ∀ (E : Set ℕ) (K : PUnit → sProp 𝕄),
        iprop(owns (c : Thread nD τ) arg3 fullShare x1 ∗ owns (c : Thread nD τ) arg10 fullShare xb ∗ (∃ d, owns (c : Thread nD τ) arg8 fullShare d)
            ∗ (iprop(owns (c : Thread nD τ) arg3 fullShare x1 ∗ owns (c : Thread nD τ) arg10 fullShare xb ∗ (∃ f, arg8.view.loc (c : Thread nD τ) ↦[arg8.view.set]{fullShare} arg8.view.writes (Elt F) f L)) -∗ K ⟨⟩))
          ⊢ wp frame (wpE (defs₀ (F := F)) Variants.none c none) E (cc0__in_proj_kernel i arg2 harg2 arg3 harg3 arg4 harg4 arg5 harg5 arg6 harg6 arg7 harg7 arg8 harg8 arg9 harg9 arg10 harg10) K } := by
  refine ⟨?_, fun E K => ?run⟩
  case run =>
    simp only [cc0__in_proj_kernel_eq_skeleton]; unfold cc0__in_proj_kernel_skel
    simp only [k0_part1_eq_skeleton]
    unfold owns
    iintro ⟨⟨%f3, %hf3, H3⟩, ⟨%f10, %hf10, H10⟩, ⟨%d8, %f8, -, H8⟩, Hk⟩
    obtain rfl := harg3.eq_unread hf3; obtain rfl := harg10.eq_unread hf10
    sl_exec (disch := first | sl_exact h1 | sl_exact h2 | sl_exact h3 | sl_exact h4 | sl_exact h5)
    sl_step
    iapply Hk
    isplitl [H3]
    · iexists _; isplitr; · ipureintro; exact harg3.read_unread _
      iexact H3
    isplitl [H10]
    · iexists _; isplitr; · ipureintro; exact harg10.read_unread _
      iexact H10
    iexists _; iexact H8

end Cert.Kernel2Ideal.Proj

end
-- ==== Proof.Proj.RunC.lean ====
/-
The projection body at one kind of grid point.
-/
module

public import proofs.«01_k».proof.Proof.Proj.Setup

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel2Ideal.Gen

variable {F : FTy → Type} [FloatOps F]

local notation "𝕄" => MT nD τ sig Unit (Elt F) ℕ (UR sig nD τ) ℕ

set_option maxHeartbeats 4000000 in
/-- At column block 2: the body stores the keys and their cast, by the pieces `L`. -/
noncomputable def runC (c : Dev nD) (i : grid0.Coords) (arg2 : Memref sig .tc .vmem S512x2048 .f32) (harg2 : arg2.IsWhole) (arg3 : Memref sig .tc .vmem S2048x4096 .bf16) (harg3 : arg3.IsWhole) (arg4 : Memref sig .tc .vmem S512x1024 .f32) (harg4 : arg4.IsWhole) (arg5 : Memref sig .tc .vmem S512x8x128 .f32) (harg5 : arg5.IsWhole) (arg6 : Memref sig .tc .vmem S512x8x128 .f32) (harg6 : arg6.IsWhole) (arg7 : Memref sig .tc .vmem S512x1024 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S512x2048 .bf16) (harg10 : arg10.IsWhole) (h1 : ¬cond1 i) (h2 : ¬cond2 i) (h3 : ¬cond3 i) (h4 : cond4 i) (h5 : ¬cond5 i)
    (x1 : Vec F S2048x4096 .bf16) (xb : Vec F S512x2048 .bf16) :
    { L : List (View.Piece (Elt F) S512x8x128 .f32) × List (View.Piece (Elt F) S512x1024 .bf16) //
      ∀ (E : Set ℕ) (K : PUnit → sProp 𝕄),
        iprop(owns (c : Thread nD τ) arg3 fullShare x1 ∗ owns (c : Thread nD τ) arg10 fullShare xb ∗ (∃ d, owns (c : Thread nD τ) arg5 fullShare d) ∗ (∃ d, owns (c : Thread nD τ) arg7 fullShare d)
            ∗ (iprop(owns (c : Thread nD τ) arg3 fullShare x1 ∗ owns (c : Thread nD τ) arg10 fullShare xb ∗ (∃ f, arg5.view.loc (c : Thread nD τ) ↦[arg5.view.set]{fullShare} arg5.view.writes (Elt F) f L.1) ∗ (∃ f, arg7.view.loc (c : Thread nD τ) ↦[arg7.view.set]{fullShare} arg7.view.writes (Elt F) f L.2)) -∗ K ⟨⟩))
          ⊢ wp frame (wpE (defs₀ (F := F)) Variants.none c none) E (cc0__in_proj_kernel i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__in_proj_kernel_eq_skeleton]; unfold cc0__in_proj_kernel_skel
    simp only [k0_part2_eq_skeleton]
    unfold owns
    iintro ⟨⟨%f3, %hf3, H3⟩, ⟨%f10, %hf10, H10⟩, ⟨%d5, %f5, -, H5⟩, ⟨%d7, %f7, -, H7⟩, Hk⟩
    obtain rfl := harg3.eq_unread hf3; obtain rfl := harg10.eq_unread hf10
    sl_exec (disch := first | sl_exact h1 | sl_exact h2 | sl_exact h3 | sl_exact h4 | sl_exact h5)
    sl_step
    iapply Hk
    isplitl [H3]
    · iexists _; isplitr; · ipureintro; exact harg3.read_unread _
      iexact H3
    isplitl [H10]
    · iexists _; isplitr; · ipureintro; exact harg10.read_unread _
      iexact H10
    isplitl [H5]
    · iexists _; iexact H5
    iexists _; iexact H7

end Cert.Kernel2Ideal.Proj

end
-- ==== Proof.Proj.RunD.lean ====
/-
The projection body at one kind of grid point.
-/
module

public import proofs.«01_k».proof.Proof.Proj.Setup

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel2Ideal.Gen

variable {F : FTy → Type} [FloatOps F]

local notation "𝕄" => MT nD τ sig Unit (Elt F) ℕ (UR sig nD τ) ℕ

set_option maxHeartbeats 4000000 in
/-- At column block 3: the body stores the values and their transposed cast, by the pieces `L`. -/
noncomputable def runD (c : Dev nD) (i : grid0.Coords) (arg2 : Memref sig .tc .vmem S512x2048 .f32) (harg2 : arg2.IsWhole) (arg3 : Memref sig .tc .vmem S2048x4096 .bf16) (harg3 : arg3.IsWhole) (arg4 : Memref sig .tc .vmem S512x1024 .f32) (harg4 : arg4.IsWhole) (arg5 : Memref sig .tc .vmem S512x8x128 .f32) (harg5 : arg5.IsWhole) (arg6 : Memref sig .tc .vmem S512x8x128 .f32) (harg6 : arg6.IsWhole) (arg7 : Memref sig .tc .vmem S512x1024 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S512x2048 .bf16) (harg10 : arg10.IsWhole) (h1 : ¬cond1 i) (h2 : ¬cond2 i) (h3 : ¬cond3 i) (h4 : ¬cond4 i) (h5 : cond5 i)
    (x1 : Vec F S2048x4096 .bf16) (xb : Vec F S512x2048 .bf16) :
    { L : List (View.Piece (Elt F) S512x8x128 .f32) × List (View.Piece (Elt F) S8x128x512 .bf16) //
      ∀ (E : Set ℕ) (K : PUnit → sProp 𝕄),
        iprop(owns (c : Thread nD τ) arg3 fullShare x1 ∗ owns (c : Thread nD τ) arg10 fullShare xb ∗ (∃ d, owns (c : Thread nD τ) arg6 fullShare d) ∗ (∃ d, owns (c : Thread nD τ) arg9 fullShare d)
            ∗ (iprop(owns (c : Thread nD τ) arg3 fullShare x1 ∗ owns (c : Thread nD τ) arg10 fullShare xb ∗ (∃ f, arg6.view.loc (c : Thread nD τ) ↦[arg6.view.set]{fullShare} arg6.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__in_proj_kernel i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__in_proj_kernel_eq_skeleton]; unfold cc0__in_proj_kernel_skel
    simp only [k0_part3_eq_skeleton, k0_part4_eq_skeleton]
    unfold owns
    iintro ⟨⟨%f3, %hf3, H3⟩, ⟨%f10, %hf10, H10⟩, ⟨%d6, %f6, -, H6⟩, ⟨%d9, %f9, -, H9⟩, Hk⟩
    obtain rfl := harg3.eq_unread hf3; obtain rfl := harg10.eq_unread hf10
    sl_exec (disch := first | sl_exact h1 | sl_exact h2 | sl_exact h3 | sl_exact h4 | sl_exact h5)
    sl_step
    iapply Hk
    isplitl [H3]
    · iexists _; isplitr; · ipureintro; exact harg3.read_unread _
      iexact H3
    isplitl [H10]
    · iexists _; isplitr; · ipureintro; exact harg10.read_unread _
      iexact H10
    isplitl [H6]
    · iexists _; iexact H6
    iexists _; iexact H9

end Cert.Kernel2Ideal.Proj

end
-- ==== Proof.Proj.Frame.lean ====
/-
The frame of the projection call: the body at any grid point, the launch, and the argument arrays unchanged.
The body theorem also names what the output blocks hold, for the value proof.
-/
module

public import proofs.«01_k».proof.Proof.Proj.RunA
public import proofs.«01_k».proof.Proof.Proj.RunB
public import proofs.«01_k».proof.Proof.Proj.RunC
public import proofs.«01_k».proof.Proof.Proj.RunD
public import Idealize.ShloMosaic.Lib.VecWindow

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 256 := N_0 ▸ t.isLt

/-- The rows of point `t`, cast: what the scratch buffer holds from the point's first column block on. -/
def castRows (c : Dev nD) (t : Fin cfg0.N) : Vec F S512x2048 .bf16 := k0_pay1 (iblk m c 0 t)

/-- The block of rows does not depend on the column block. -/
theorem castRows_congr (c : Dev nD) (t t' : Fin cfg0.N) (h : t.val / 4 = t'.val / 4) : castRows m c t = castRows m c t' := by
  have hi : ∀ t : Fin cfg0.N, win0_0.index t 0 = t.val / 4 ∧ win0_0.index t 1 = 0 :=
    (by decide +kernel : ∀ t : Fin grid0.N, win0_0.index t 0 = t.val / 4 ∧ win0_0.index t 1 = 0)
  unfold castRows
  refine congrArg k0_pay1 (funext fun i => ?_)
  unfold iblk
  rw [View.read_apply, View.read_apply]
  show V m c main_v0 _ = V m c main_v0 _
  refine congrArg (V m c main_v0) (funext fun a => Fin.ext ?_)
  match a with
  | ⟨0, _⟩ => show win0_0.index t 0 * 512 + 1 * (i 0).val = win0_0.index t' 0 * 512 + 1 * (i 0).val; rw [(hi t).1, (hi t').1, h]
  | ⟨1, _⟩ => show win0_0.index t 1 * 2048 + 1 * (i 1).val = win0_0.index t' 1 * 2048 + 1 * (i 1).val; rw [(hi t).2, (hi t').2]

/-- The pieces the first run stores into the scratch buffer at point `t`. -/
def rowPieces (c : Dev nD) (t : Fin cfg0.N) (h : t.val % 4 = 0) : List (View.Piece (Elt F) S512x2048 .bf16) :=
  (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) ((cond1_iff t).mpr h) ((cond2_iff t).mpr h) (fun h' => absurd ((cond3_iff t).mp h') (by omega)) (fun h' => absurd ((cond4_iff t).mp h') (by omega)) (fun h' => absurd ((cond5_iff t).mp h') (by omega)) (iblk m c 0 t) (iblk m c 1 t)).1.1

/-- They leave the cast rows there. -/
theorem rowPieces_read (c : Dev nD) (t : Fin cfg0.N) (h : t.val % 4 = 0) (f : scr.view.ty.Contents (Elt F)) :
    scr.view.read (Elt F) (scr.view.writes (Elt F) f (rowPieces m c t h)) = castRows m c t := by
  unfold rowPieces
  dsimp only [runA]
  refine (View.read_writes_full _ _ _ _ _).trans ?_
  unfold castRows
  refine congrArg k0_pay1 ?_
  exact (View.readAt_full _ _ _).trans ((hstg0 t).read_unread _)

/-- The pieces the run at column block 0 stores into the window of the state-space inputs at point `t`. -/
def stPieces (c : Dev nD) (t : Fin cfg0.N) (h : t.val % 4 = 0) : List (View.Piece (Elt F) S512x1024 .f32) :=
  (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) ((cond1_iff t).mpr h) ((cond2_iff t).mpr h) (fun h' => absurd ((cond3_iff t).mp h') (by omega)) (fun h' => absurd ((cond4_iff t).mp h') (by omega)) (fun h' => absurd ((cond5_iff t).mp h') (by omega)) (iblk m c 0 t) (iblk m c 1 t)).1.2

/-- They cover the block. -/
theorem stPieces_cover (c : Dev nD) (t : Fin cfg0.N) (h : t.val % 4 = 0) (z : S512x1024.Idx) : ∃ pc ∈ stPieces m c t h, z ∈ pc.1.set :=
  View.cover_of_tiledL (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) ((cond1_iff t).mpr h) ((cond2_iff t).mpr h) (fun h' => absurd ((cond3_iff t).mp h') (by omega)) (fun h' => absurd ((cond4_iff t).mp h') (by omega)) (fun h' => absurd ((cond5_iff t).mp h') (by omega)) (iblk m c 0 t) (iblk m c 1 t)).1.2 ![512, 1024] (by sl_kernel_rfl) z

/-- One staging buffer of the window. -/
abbrev stView : View sig .tc .vmem S512x1024 .f32 := (Memref.whole cc0_stg2_0 : Memref sig .tc .vmem S512x1024 .f32).view

/-- What the body leaves there. -/
def stOut (c : Dev nD) (t : Fin cfg0.N) : Vec F S512x1024 .f32 :=
  if h : t.val % 4 = 0 then stView.read (Elt F) (stView.writes (Elt F) stView.junk (stPieces m c t h))
  else stView.read (Elt F) stView.junk

/-- The pieces the run at column block 2 stores into the window of the keys at point `t`. -/
def keyPieces (c : Dev nD) (t : Fin cfg0.N) (h : t.val % 4 = 2) : List (View.Piece (Elt F) S512x8x128 .f32) :=
  (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).1.1

/-- They cover the block. -/
theorem keyPieces_cover (c : Dev nD) (t : Fin cfg0.N) (h : t.val % 4 = 2) (z : S512x8x128.Idx) : ∃ pc ∈ keyPieces m c t h, z ∈ pc.1.set :=
  View.cover_of_tiledL (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).1.1 ![512, 1, 128] (by sl_kernel_rfl) z

/-- One staging buffer of the window. -/
abbrev keyView : View sig .tc .vmem S512x8x128 .f32 := (Memref.whole cc0_stg3_0 : Memref sig .tc .vmem S512x8x128 .f32).view

/-- What the body leaves there. -/
def keyOut (c : Dev nD) (t : Fin cfg0.N) : Vec F S512x8x128 .f32 :=
  if h : t.val % 4 = 2 then keyView.read (Elt F) (keyView.writes (Elt F) keyView.junk (keyPieces m c t h))
  else keyView.read (Elt F) keyView.junk

/-- The pieces the run at column block 3 stores into the window of the values at point `t`. -/
def valPieces (c : Dev nD) (t : Fin cfg0.N) (h : t.val % 4 = 3) : List (View.Piece (Elt F) S512x8x128 .f32) :=
  (runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).1.1

/-- They cover the block. -/
theorem valPieces_cover (c : Dev nD) (t : Fin cfg0.N) (h : t.val % 4 = 3) (z : S512x8x128.Idx) : ∃ pc ∈ valPieces m c t h, z ∈ pc.1.set :=
  View.cover_of_tiledL (runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).1.1 ![512, 1, 128] (by sl_kernel_rfl) z

/-- One staging buffer of the window. -/
abbrev valView : View sig .tc .vmem S512x8x128 .f32 := (Memref.whole cc0_stg4_0 : Memref sig .tc .vmem S512x8x128 .f32).view

/-- What the body leaves there. -/
def valOut (c : Dev nD) (t : Fin cfg0.N) : Vec F S512x8x128 .f32 :=
  if h : t.val % 4 = 3 then valView.read (Elt F) (valView.writes (Elt F) valView.junk (valPieces m c t h))
  else valView.read (Elt F) valView.junk

/-- The pieces the run at column block 2 stores into the window of the cast keys at point `t`. -/
def kbPieces (c : Dev nD) (t : Fin cfg0.N) (h : t.val % 4 = 2) : List (View.Piece (Elt F) S512x1024 .bf16) :=
  (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).1.2

/-- They cover the block. -/
theorem kbPieces_cover (c : Dev nD) (t : Fin cfg0.N) (h : t.val % 4 = 2) (z : S512x1024.Idx) : ∃ pc ∈ kbPieces m c t h, z ∈ pc.1.set :=
  View.cover_of_tiledL (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).1.2 ![512, 1024] (by sl_kernel_rfl) z

/-- One staging buffer of the window. -/
abbrev kbView : View sig .tc .vmem S512x1024 .bf16 := (Memref.whole cc0_stg5_0 : Memref sig .tc .vmem S512x1024 .bf16).view

/-- What the body leaves there. -/
def kbOut (c : Dev nD) (t : Fin cfg0.N) : Vec F S512x1024 .bf16 :=
  if h : t.val % 4 = 2 then kbView.read (Elt F) (kbView.writes (Elt F) kbView.junk (kbPieces m c t h))
  else kbView.read (Elt F) kbView.junk

/-- The pieces the run at column block 1 stores into the window of the transposed queries at point `t`. -/
def qaPieces (c : Dev nD) (t : Fin cfg0.N) (h : t.val % 4 = 1) : List (View.Piece (Elt F) S8x128x512 .bf16) :=
  (runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) ((cond3_iff t).mpr h) (fun h' => absurd ((cond4_iff t).mp h') (by omega)) (fun h' => absurd ((cond5_iff t).mp h') (by omega)) (iblk m c 1 t) (castRows m c t)).1

/-- They cover the block. -/
theorem qaPieces_cover (c : Dev nD) (t : Fin cfg0.N) (h : t.val % 4 = 1) (z : S8x128x512.Idx) : ∃ pc ∈ qaPieces m c t h, z ∈ pc.1.set :=
  View.cover_of_tiledL (runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) ((cond3_iff t).mpr h) (fun h' => absurd ((cond4_iff t).mp h') (by omega)) (fun h' => absurd ((cond5_iff t).mp h') (by omega)) (iblk m c 1 t) (castRows m c t)).1 ![1, 128, 512] (by sl_kernel_rfl) z

/-- One staging buffer of the window. -/
abbrev qaView : View sig .tc .vmem S8x128x512 .bf16 := (Memref.whole cc0_stg6_0 : Memref sig .tc .vmem S8x128x512 .bf16).view

/-- What the body leaves there. -/
def qaOut (c : Dev nD) (t : Fin cfg0.N) : Vec F S8x128x512 .bf16 :=
  if h : t.val % 4 = 1 then qaView.read (Elt F) (qaView.writes (Elt F) qaView.junk (qaPieces m c t h))
  else qaView.read (Elt F) qaView.junk

/-- The pieces the run at column block 3 stores into the window of the transposed values at point `t`. -/
def vaPieces (c : Dev nD) (t : Fin cfg0.N) (h : t.val % 4 = 3) : List (View.Piece (Elt F) S8x128x512 .bf16) :=
  (runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).1.2

/-- They cover the block. -/
theorem vaPieces_cover (c : Dev nD) (t : Fin cfg0.N) (h : t.val % 4 = 3) (z : S8x128x512.Idx) : ∃ pc ∈ vaPieces m c t h, z ∈ pc.1.set :=
  View.cover_of_tiledL (runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).1.2 ![1, 128, 512] (by sl_kernel_rfl) z

/-- One staging buffer of the window. -/
abbrev vaView : View sig .tc .vmem S8x128x512 .bf16 := (Memref.whole cc0_stg7_0 : Memref sig .tc .vmem S8x128x512 .bf16).view

/-- What the body leaves there. -/
def vaOut (c : Dev nD) (t : Fin cfg0.N) : Vec F S8x128x512 .bf16 :=
  if h : t.val % 4 = 3 then vaView.read (Elt F) (vaView.writes (Elt F) vaView.junk (vaPieces m c t h))
  else vaView.read (Elt F) vaView.junk

/-- The point of column block `j` of point `t`'s rows. -/
def pt (j : ℕ) (t : Fin cfg0.N) : Fin cfg0.N := if hj : j < 4 then ⟨t.val / 4 * 4 + j, by have := lt_N t; exact lt_of_lt_of_eq (by omega : t.val / 4 * 4 + j < 256) N_0.symm⟩ else t

theorem pt_val (j : ℕ) (hj : j < 4) (t : Fin cfg0.N) : (pt j t).val = t.val / 4 * 4 + j := by
  unfold pt; rw [dif_pos hj]

theorem pt_self (j : ℕ) (t : Fin cfg0.N) (h : t.val % 4 = j) : pt j t = t :=
  Fin.ext (by rw [pt_val j (by omega)]; omega)

/-- The pipeline's proof data: the arrays as the region finds them, the inputs' blocks left in place, and between the
    column blocks of one block of rows the scratch buffer at the cast rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨_ + 2, _⟩ => fun _ => Classical.arbitrary _
  Φ n := iprop((∃ d, ⌜∀ h : n.val < cfg0.N, n.val % 4 ≠ 0 → d = castRows m c ⟨n.val, h⟩⌝ ∗ owns (c : Thread nD τ) scr fullShare d) ∗ (∃ r, prngReg c r))
  q _ := fullShare
  owed _ := 0

/-- The output windows. -/
def isOut : Fin cfg0.W → Bool := fun w => match w with
  | ⟨0, _⟩ => false
  | ⟨1, _⟩ => false
  | ⟨_ + 2, _⟩ => true

/-- What is said of them: each block's contents from the column block on at which it is stored. -/
def holds (c : Dev nD) (w : Fin cfg0.W) (t : Fin cfg0.N) (X : (cfg0.win w).block.Idx → Elt F (cfg0.win w).elt) : Prop := match w with
  | ⟨0, _⟩ => True
  | ⟨1, _⟩ => True
  | ⟨2, _⟩ => 0 ≤ t.val % 4 → X = stOut m c (pt 0 t)
  | ⟨3, _⟩ => 2 ≤ t.val % 4 → X = keyOut m c (pt 2 t)
  | ⟨4, _⟩ => 3 ≤ t.val % 4 → X = valOut m c (pt 3 t)
  | ⟨5, _⟩ => 2 ≤ t.val % 4 → X = kbOut m c (pt 2 t)
  | ⟨6, _⟩ => 1 ≤ t.val % 4 → X = qaOut m c (pt 1 t)
  | ⟨7, _⟩ => 3 ≤ t.val % 4 → X = vaOut m c (pt 3 t)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The scratch buffer before point `t`. -/
def scrAt (c : Dev nD) (n : ℕ) : sProp 𝕄 :=
  iprop((∃ d, ⌜∀ h : n < cfg0.N, n % 4 ≠ 0 → d = castRows m c ⟨n, h⟩⌝ ∗ owns (c : Thread nD τ) scr fullShare d) ∗ (∃ r, prngReg c r))

set_option maxHeartbeats 4000000 in
/-- The body at any point. -/
theorem sound_core (c : Dev nD) (t : Fin cfg0.N) (O : sProp 𝕄) :
    iprop(scrAt m c t.val ∗ O ∗ owns (c : Thread nD τ) (stg0 t) fullShare (iblk m c 0 t) ∗ owns (c : Thread nD τ) (stg1 t) fullShare (iblk m c 1 t) ∗ (∃ d, ⌜0 < t.val % 4 → d = stOut m c (pt 0 t)⌝ ∗ owns (c : Thread nD τ) (stg2 t) fullShare d) ∗ (∃ d, ⌜2 < t.val % 4 → d = keyOut m c (pt 2 t)⌝ ∗ owns (c : Thread nD τ) (stg3 t) fullShare d) ∗ (∃ d, ⌜3 < t.val % 4 → d = valOut m c (pt 3 t)⌝ ∗ owns (c : Thread nD τ) (stg4 t) fullShare d) ∗ (∃ d, ⌜2 < t.val % 4 → d = kbOut m c (pt 2 t)⌝ ∗ owns (c : Thread nD τ) (stg5 t) fullShare d) ∗ (∃ d, ⌜1 < t.val % 4 → d = qaOut m c (pt 1 t)⌝ ∗ owns (c : Thread nD τ) (stg6 t) fullShare d) ∗ (∃ d, ⌜3 < t.val % 4 → d = vaOut m c (pt 3 t)⌝ ∗ owns (c : Thread nD τ) (stg7 t) fullShare d))
    ⊢ wp frame (wpE (defs₀ (F := F)) Variants.none c none) Set.univ (bodyAt0 t) (fun _ =>
      iprop(scrAt m c (t.val + 1) ∗ O ∗ owns (c : Thread nD τ) (stg0 t) fullShare (iblk m c 0 t) ∗ owns (c : Thread nD τ) (stg1 t) fullShare (iblk m c 1 t) ∗ (∃ d, ⌜0 ≤ t.val % 4 → d = stOut m c (pt 0 t)⌝ ∗ owns (c : Thread nD τ) (stg2 t) fullShare d) ∗ (∃ d, ⌜2 ≤ t.val % 4 → d = keyOut m c (pt 2 t)⌝ ∗ owns (c : Thread nD τ) (stg3 t) fullShare d) ∗ (∃ d, ⌜3 ≤ t.val % 4 → d = valOut m c (pt 3 t)⌝ ∗ owns (c : Thread nD τ) (stg4 t) fullShare d) ∗ (∃ d, ⌜2 ≤ t.val % 4 → d = kbOut m c (pt 2 t)⌝ ∗ owns (c : Thread nD τ) (stg5 t) fullShare d) ∗ (∃ d, ⌜1 ≤ t.val % 4 → d = qaOut m c (pt 1 t)⌝ ∗ owns (c : Thread nD τ) (stg6 t) fullShare d) ∗ (∃ d, ⌜3 ≤ t.val % 4 → d = vaOut m c (pt 3 t)⌝ ∗ owns (c : Thread nD τ) (stg7 t) fullShare d))) := by
  have hN := lt_N t
  unfold bodyAt0 scrAt
  have hcase : t.val % 4 = 0 ∨ t.val % 4 = 1 ∨ t.val % 4 = 2 ∨ t.val % 4 = 3 := by omega
  rcases hcase with h | h | h | h
  · iintro ⟨⟨⟨%ds, %hs, HS⟩, Hg⟩, Ho, H0, H1, ⟨%d2, %hd2, H2⟩, ⟨%d3, %hd3, H3⟩, ⟨%d4, %hd4, H4⟩, ⟨%d5, %hd5, H5⟩, ⟨%d6, %hd6, H6⟩, ⟨%d7, %hd7, H7⟩⟩
    iapply ((runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) ((cond1_iff t).mpr h) ((cond2_iff t).mpr h) (fun h' => absurd ((cond3_iff t).mp h') (by omega)) (fun h' => absurd ((cond4_iff t).mp h') (by omega)) (fun h' => absurd ((cond5_iff t).mp h') (by omega)) (iblk m c 0 t) (iblk m c 1 t)).2 Set.univ _)
    isplitl [H0]; · iexact H0
    isplitl [H1]; · iexact H1
    isplitl [HS]; · iexists _; iexact HS
    isplitl [H2]; · iexists _; iexact H2
    iintro ⟨H0, H1, ⟨%eHS, HS⟩, ⟨%eH2, H2⟩⟩
    isplitl [HS Hg]
    · isplitl [HS]
      · iexists (castRows m c t); isplitr
        · ipureintro; intro h' _; exact castRows_congr m c t _ (by show t.val / 4 = (t.val + 1) / 4; omega)
        · unfold owns; iexists _; isplitr
          swap; · iexact HS
          ipureintro; exact rowPieces_read m c t h _
      iexact Hg
    isplitl [Ho]; · iexact Ho
    isplitl [H0]; · iexact H0
    isplitl [H1]; · iexact H1
    isplitl [H2]
    · iexists (stOut m c (pt 0 t)); isplitr; · ipureintro; intro _; rfl
      unfold owns; iexists _; isplitr
      swap; · iexact H2
      ipureintro
      rw [pt_self 0 t h, stOut, dif_pos h]
      exact View.read_writes_of_cover _ _ _ _ _ (stPieces_cover m c t h)
    isplitl [H3]
    · iexists d3; isplitr; · ipureintro; intro h'; omega
      iexact H3
    isplitl [H4]
    · iexists d4; isplitr; · ipureintro; intro h'; omega
      iexact H4
    isplitl [H5]
    · iexists d5; isplitr; · ipureintro; intro h'; omega
      iexact H5
    isplitl [H6]
    · iexists d6; isplitr; · ipureintro; intro h'; omega
      iexact H6
    iexists d7; isplitr; · ipureintro; intro h'; omega
    iexact H7
  · iintro ⟨⟨⟨%ds, %hs, HS⟩, Hg⟩, Ho, H0, H1, ⟨%d2, %hd2, H2⟩, ⟨%d3, %hd3, H3⟩, ⟨%d4, %hd4, H4⟩, ⟨%d5, %hd5, H5⟩, ⟨%d6, %hd6, H6⟩, ⟨%d7, %hd7, H7⟩⟩
    obtain rfl := hs t.isLt (by omega)
    iapply ((runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) ((cond3_iff t).mpr h) (fun h' => absurd ((cond4_iff t).mp h') (by omega)) (fun h' => absurd ((cond5_iff t).mp h') (by omega)) (iblk m c 1 t) (castRows m c t)).2 Set.univ _)
    isplitl [H1]; · iexact H1
    isplitl [HS]; · iexact HS
    isplitl [H6]; · iexists _; iexact H6
    iintro ⟨H1, HS, ⟨%eH6, H6⟩⟩
    isplitl [HS Hg]
    · isplitl [HS]
      · iexists (castRows m c t); isplitr
        · ipureintro; intro h' h''; exact castRows_congr m c t _ (by show t.val / 4 = (t.val + 1) / 4; omega)
        · iexact HS
      iexact Hg
    isplitl [Ho]; · iexact Ho
    isplitl [H0]; · iexact H0
    isplitl [H1]; · iexact H1
    isplitl [H2]
    · iexists d2; isplitr; · ipureintro; intro _; exact hd2 (by omega)
      iexact H2
    isplitl [H3]
    · iexists d3; isplitr; · ipureintro; intro h'; omega
      iexact H3
    isplitl [H4]
    · iexists d4; isplitr; · ipureintro; intro h'; omega
      iexact H4
    isplitl [H5]
    · iexists d5; isplitr; · ipureintro; intro h'; omega
      iexact H5
    isplitl [H6]
    · iexists (qaOut m c (pt 1 t)); isplitr; · ipureintro; intro _; rfl
      unfold owns; iexists _; isplitr
      swap; · iexact H6
      ipureintro
      rw [pt_self 1 t h, qaOut, dif_pos h]
      exact View.read_writes_of_cover _ _ _ _ _ (qaPieces_cover m c t h)
    iexists d7; isplitr; · ipureintro; intro h'; omega
    iexact H7
  · iintro ⟨⟨⟨%ds, %hs, HS⟩, Hg⟩, Ho, H0, H1, ⟨%d2, %hd2, H2⟩, ⟨%d3, %hd3, H3⟩, ⟨%d4, %hd4, H4⟩, ⟨%d5, %hd5, H5⟩, ⟨%d6, %hd6, H6⟩, ⟨%d7, %hd7, H7⟩⟩
    obtain rfl := hs t.isLt (by omega)
    iapply ((runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).2 Set.univ _)
    isplitl [H1]; · iexact H1
    isplitl [HS]; · iexact HS
    isplitl [H3]; · iexists _; iexact H3
    isplitl [H5]; · iexists _; iexact H5
    iintro ⟨H1, HS, ⟨%eH3, H3⟩, ⟨%eH5, H5⟩⟩
    isplitl [HS Hg]
    · isplitl [HS]
      · iexists (castRows m c t); isplitr
        · ipureintro; intro h' h''; exact castRows_congr m c t _ (by show t.val / 4 = (t.val + 1) / 4; omega)
        · iexact HS
      iexact Hg
    isplitl [Ho]; · iexact Ho
    isplitl [H0]; · iexact H0
    isplitl [H1]; · iexact H1
    isplitl [H2]
    · iexists d2; isplitr; · ipureintro; intro _; exact hd2 (by omega)
      iexact H2
    isplitl [H3]
    · iexists (keyOut m c (pt 2 t)); isplitr; · ipureintro; intro _; rfl
      unfold owns; iexists _; isplitr
      swap; · iexact H3
      ipureintro
      rw [pt_self 2 t h, keyOut, dif_pos h]
      exact View.read_writes_of_cover _ _ _ _ _ (keyPieces_cover m c t h)
    isplitl [H4]
    · iexists d4; isplitr; · ipureintro; intro h'; omega
      iexact H4
    isplitl [H5]
    · iexists (kbOut m c (pt 2 t)); isplitr; · ipureintro; intro _; rfl
      unfold owns; iexists _; isplitr
      swap; · iexact H5
      ipureintro
      rw [pt_self 2 t h, kbOut, dif_pos h]
      exact View.read_writes_of_cover _ _ _ _ _ (kbPieces_cover m c t h)
    isplitl [H6]
    · iexists d6; isplitr; · ipureintro; intro _; exact hd6 (by omega)
      iexact H6
    iexists d7; isplitr; · ipureintro; intro h'; omega
    iexact H7
  · iintro ⟨⟨⟨%ds, %hs, HS⟩, Hg⟩, Ho, H0, H1, ⟨%d2, %hd2, H2⟩, ⟨%d3, %hd3, H3⟩, ⟨%d4, %hd4, H4⟩, ⟨%d5, %hd5, H5⟩, ⟨%d6, %hd6, H6⟩, ⟨%d7, %hd7, H7⟩⟩
    obtain rfl := hs t.isLt (by omega)
    iapply ((runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).2 Set.univ _)
    isplitl [H1]; · iexact H1
    isplitl [HS]; · iexact HS
    isplitl [H4]; · iexists _; iexact H4
    isplitl [H7]; · iexists _; iexact H7
    iintro ⟨H1, HS, ⟨%eH4, H4⟩, ⟨%eH7, H7⟩⟩
    isplitl [HS Hg]
    · isplitl [HS]
      · iexists (castRows m c t); isplitr
        · ipureintro; intro h' h''; omega
        · iexact HS
      iexact Hg
    isplitl [Ho]; · iexact Ho
    isplitl [H0]; · iexact H0
    isplitl [H1]; · iexact H1
    isplitl [H2]
    · iexists d2; isplitr; · ipureintro; intro _; exact hd2 (by omega)
      iexact H2
    isplitl [H3]
    · iexists d3; isplitr; · ipureintro; intro _; exact hd3 (by omega)
      iexact H3
    isplitl [H4]
    · iexists (valOut m c (pt 3 t)); isplitr; · ipureintro; intro _; rfl
      unfold owns; iexists _; isplitr
      swap; · iexact H4
      ipureintro
      rw [pt_self 3 t h, valOut, dif_pos h]
      exact View.read_writes_of_cover _ _ _ _ _ (valPieces_cover m c t h)
    isplitl [H5]
    · iexists d5; isplitr; · ipureintro; intro _; exact hd5 (by omega)
      iexact H5
    isplitl [H6]
    · iexists d6; isplitr; · ipureintro; intro _; exact hd6 (by omega)
      iexact H6
    iexists (vaOut m c (pt 3 t)); isplitr; · ipureintro; intro _; rfl
    unfold owns; iexists _; isplitr
    swap; · iexact H7
    ipureintro
    rw [pt_self 3 t h, vaOut, dif_pos h]
    exact View.read_writes_of_cover _ _ _ _ _ (vaPieces_cover m c t h)

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The data read with what is said of the output windows. -/
abbrev rdat (c : Dev nD) := (dats m 0 c).toRRel isOut (holds m c)

/-- What was stored at an earlier column block is still there. -/
theorem finds_st (c : Dev nD) (t : Fin cfg0.N) (Y) (h : (rdat m c).Finds 2 t Y) (h3 : 0 < t.val % 4) : Y = stOut m c (pt 0 t) := by
  have hN := lt_N t
  have hf : (cfg0.win 2).fetch t = false := (cfg0.win 2).fetch_out rfl t
  rcases ((rdat m c).finds_of_pos hf (by omega) Y).mp h with h' | h'
  · have := (flush0_2 _).mp h'
    dsimp only at this
    omega
  · have e : holds m c 2 _ Y := (dats m 0 c).toRRel_leaves rfl h'
    refine ((show _ → _ from e) (by show 0 ≤ (t.val - 1) % 4; omega)).trans ?_
    refine congrArg (stOut m c) (Fin.ext ?_)
    rw [pt_val 0 (by omega), pt_val 0 (by omega)]
    show (t.val - 1) / 4 * 4 + 0 = t.val / 4 * 4 + 0
    omega

/-- What was stored at an earlier column block is still there. -/
theorem finds_key (c : Dev nD) (t : Fin cfg0.N) (Y) (h : (rdat m c).Finds 3 t Y) (h3 : 2 < t.val % 4) : Y = keyOut m c (pt 2 t) := by
  have hN := lt_N t
  have hf : (cfg0.win 3).fetch t = false := (cfg0.win 3).fetch_out rfl t
  rcases ((rdat m c).finds_of_pos hf (by omega) Y).mp h with h' | h'
  · have := (flush0_3 _).mp h'
    dsimp only at this
    omega
  · have e : holds m c 3 _ Y := (dats m 0 c).toRRel_leaves rfl h'
    refine ((show _ → _ from e) (by show 2 ≤ (t.val - 1) % 4; omega)).trans ?_
    refine congrArg (keyOut m c) (Fin.ext ?_)
    rw [pt_val 2 (by omega), pt_val 2 (by omega)]
    show (t.val - 1) / 4 * 4 + 2 = t.val / 4 * 4 + 2
    omega

/-- What was stored at an earlier column block is still there. -/
theorem finds_val (c : Dev nD) (t : Fin cfg0.N) (Y) (h : (rdat m c).Finds 4 t Y) (h3 : 3 < t.val % 4) : Y = valOut m c (pt 3 t) := by
  have hN := lt_N t
  have hf : (cfg0.win 4).fetch t = false := (cfg0.win 4).fetch_out rfl t
  rcases ((rdat m c).finds_of_pos hf (by omega) Y).mp h with h' | h'
  · have := (flush0_4 _).mp h'
    dsimp only at this
    omega
  · have e : holds m c 4 _ Y := (dats m 0 c).toRRel_leaves rfl h'
    refine ((show _ → _ from e) (by show 3 ≤ (t.val - 1) % 4; omega)).trans ?_
    refine congrArg (valOut m c) (Fin.ext ?_)
    rw [pt_val 3 (by omega), pt_val 3 (by omega)]
    show (t.val - 1) / 4 * 4 + 3 = t.val / 4 * 4 + 3
    omega

/-- What was stored at an earlier column block is still there. -/
theorem finds_kb (c : Dev nD) (t : Fin cfg0.N) (Y) (h : (rdat m c).Finds 5 t Y) (h3 : 2 < t.val % 4) : Y = kbOut m c (pt 2 t) := by
  have hN := lt_N t
  have hf : (cfg0.win 5).fetch t = false := (cfg0.win 5).fetch_out rfl t
  rcases ((rdat m c).finds_of_pos hf (by omega) Y).mp h with h' | h'
  · have := (flush0_5 _).mp h'
    dsimp only at this
    omega
  · have e : holds m c 5 _ Y := (dats m 0 c).toRRel_leaves rfl h'
    refine ((show _ → _ from e) (by show 2 ≤ (t.val - 1) % 4; omega)).trans ?_
    refine congrArg (kbOut m c) (Fin.ext ?_)
    rw [pt_val 2 (by omega), pt_val 2 (by omega)]
    show (t.val - 1) / 4 * 4 + 2 = t.val / 4 * 4 + 2
    omega

/-- What was stored at an earlier column block is still there. -/
theorem finds_qa (c : Dev nD) (t : Fin cfg0.N) (Y) (h : (rdat m c).Finds 6 t Y) (h3 : 1 < t.val % 4) : Y = qaOut m c (pt 1 t) := by
  have hN := lt_N t
  have hf : (cfg0.win 6).fetch t = false := (cfg0.win 6).fetch_out rfl t
  rcases ((rdat m c).finds_of_pos hf (by omega) Y).mp h with h' | h'
  · have := (flush0_6 _).mp h'
    dsimp only at this
    omega
  · have e : holds m c 6 _ Y := (dats m 0 c).toRRel_leaves rfl h'
    refine ((show _ → _ from e) (by show 1 ≤ (t.val - 1) % 4; omega)).trans ?_
    refine congrArg (qaOut m c) (Fin.ext ?_)
    rw [pt_val 1 (by omega), pt_val 1 (by omega)]
    show (t.val - 1) / 4 * 4 + 1 = t.val / 4 * 4 + 1
    omega

/-- What was stored at an earlier column block is still there. -/
theorem finds_va (c : Dev nD) (t : Fin cfg0.N) (Y) (h : (rdat m c).Finds 7 t Y) (h3 : 3 < t.val % 4) : Y = vaOut m c (pt 3 t) := by
  have hN := lt_N t
  have hf : (cfg0.win 7).fetch t = false := (cfg0.win 7).fetch_out rfl t
  rcases ((rdat m c).finds_of_pos hf (by omega) Y).mp h with h' | h'
  · have := (flush0_7 _).mp h'
    dsimp only at this
    omega
  · have e : holds m c 7 _ Y := (dats m 0 c).toRRel_leaves rfl h'
    refine ((show _ → _ from e) (by show 3 ≤ (t.val - 1) % 4; omega)).trans ?_
    refine congrArg (vaOut m c) (Fin.ext ?_)
    rw [pt_val 3 (by omega), pt_val 3 (by omega)]
    show (t.val - 1) / 4 * 4 + 3 = t.val / 4 * 4 + 3
    omega

/-- The body in the pipeline's terms. -/
theorem sound (c : Dev nD) (t : Fin cfg0.N) :
    iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ Y, ⌜(rdat m c).Finds 2 t Y⌝ ∗ owns (c : Thread nD τ) (stg2 t) fullShare Y) ∗ (∃ Y, ⌜(rdat m c).Finds 3 t Y⌝ ∗ owns (c : Thread nD τ) (stg3 t) fullShare Y) ∗ (∃ Y, ⌜(rdat m c).Finds 4 t Y⌝ ∗ owns (c : Thread nD τ) (stg4 t) fullShare Y) ∗ (∃ Y, ⌜(rdat m c).Finds 5 t Y⌝ ∗ owns (c : Thread nD τ) (stg5 t) fullShare Y) ∗ (∃ Y, ⌜(rdat m c).Finds 6 t Y⌝ ∗ owns (c : Thread nD τ) (stg6 t) fullShare Y) ∗ (∃ Y, ⌜(rdat m c).Finds 7 t Y⌝ ∗ owns (c : Thread nD τ) (stg7 t) fullShare Y))
    ⊢ wp frame (wpE (defs₀ (F := F)) Variants.none c none) Set.univ (bodyAt0 t) (fun _ => iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ (∃ X, ⌜holds m c 2 t X⌝ ∗ owns (c : Thread nD τ) (stg2 t) fullShare X) ∗ (∃ X, ⌜holds m c 3 t X⌝ ∗ owns (c : Thread nD τ) (stg3 t) fullShare X) ∗ (∃ X, ⌜holds m c 4 t X⌝ ∗ owns (c : Thread nD τ) (stg4 t) fullShare X) ∗ (∃ X, ⌜holds m c 5 t X⌝ ∗ owns (c : Thread nD τ) (stg5 t) fullShare X) ∗ (∃ X, ⌜holds m c 6 t X⌝ ∗ owns (c : Thread nD τ) (stg6 t) fullShare X) ∗ (∃ X, ⌜holds m c 7 t X⌝ ∗ owns (c : Thread nD τ) (stg7 t) fullShare X))) := by
  simp only [before_0, before_1]
  rw [show (dats m 0 c).Φ t.succ = scrAt m c (t.val + 1) from rfl,
    show (dats m 0 c).owesAt () t.succ = (dats m 0 c).owesAt () t.castSucc from rfl, after_0, after_1]
  rw [show (dats m 0 c).Φ t.castSucc = scrAt m c t.val from rfl]
  iintro ⟨HP, Ho, ⟨%d0, H0⟩, ⟨%d1, H1⟩, ⟨%d2, %h2, H2⟩, ⟨%d3, %h3, H3⟩, ⟨%d4, %h4, H4⟩, ⟨%d5, %h5, H5⟩, ⟨%d6, %h6, H6⟩, ⟨%d7, %h7, H7⟩⟩
  iapply (wp_wand_r Idealize.ShloMosaic.frame (wpE (defs₀ (F := F)) Variants.none c none) Set.univ)
  isplitl [HP Ho H0 H1 H2 H3 H4 H5 H6 H7]
  · iapply (sound_core m c t ((dats m 0 c).owesAt () t.castSucc))
    isplitl [HP]; · iexact HP
    isplitl [Ho]; · iexact Ho
    isplitl [H0]; · iexact H0
    isplitl [H1]; · iexact H1
    isplitl [H2]
    · iexists d2; isplitr; · ipureintro; exact finds_st m c t d2 h2
      iexact H2
    isplitl [H3]
    · iexists d3; isplitr; · ipureintro; exact finds_key m c t d3 h3
      iexact H3
    isplitl [H4]
    · iexists d4; isplitr; · ipureintro; exact finds_val m c t d4 h4
      iexact H4
    isplitl [H5]
    · iexists d5; isplitr; · ipureintro; exact finds_kb m c t d5 h5
      iexact H5
    isplitl [H6]
    · iexists d6; isplitr; · ipureintro; exact finds_qa m c t d6 h6
      iexact H6
    iexists d7; isplitr; · ipureintro; exact finds_va m c t d7 h7
    iexact H7
  · iintro %_ ⟨HP, Ho, H0, H1, ⟨%e2, %g2, H2⟩, ⟨%e3, %g3, H3⟩, ⟨%e4, %g4, H4⟩, ⟨%e5, %g5, H5⟩, ⟨%e6, %g6, H6⟩, ⟨%e7, %g7, H7⟩⟩
    isplitl [HP]; · iexact HP
    isplitl [Ho]; · iexact Ho
    isplitl [H0]; · iexact H0
    isplitl [H1]; · iexact H1
    isplitl [H2]
    · iexists e2; isplitr; · ipureintro; exact g2
      iexact H2
    isplitl [H3]
    · iexists e3; isplitr; · ipureintro; exact g3
      iexact H3
    isplitl [H4]
    · iexists e4; isplitr; · ipureintro; exact g4
      iexact H4
    isplitl [H5]
    · iexists e5; isplitr; · ipureintro; exact g5
      iexact H5
    isplitl [H6]
    · iexists e6; isplitr; · ipureintro; exact g6
      iexact H6
    iexists e7; isplitr; · ipureintro; exact g7
    iexact H7

/-- The library's body obligation. -/
theorem obligation (c : Dev nD) :
    BodyObligationRel (dats (F := F) m 0 c) (defs₀ (F := F)) Variants.none () Set.univ isOut (holds m c) := fun t => by
  rw [bigSep_W0, bigSep_W0, defs₀_row]
  exact triple_restated (sound m c t) rfl .rfl fun _ => .rfl

theorem enter (c : Dev nD) : (Pipeline.ΦA spec0 c : sProp 𝕄) ⊢ (rdat m c).Φ 0 := by
  rw [PhiA_eq, show (rdat m c).Φ 0 = scrAt m c 0 from rfl]
  unfold scrAt
  iintro ⟨⟨%d, H⟩, Hg⟩
  isplitl [H]
  · iexists d; isplitr; · ipureintro; intro _ h; omega
    iexact H
  iexact Hg

theorem leave (c : Dev nD) : (rdat m c).Φ (Fin.last cfg0.N) ⊢ (Pipeline.ΦA spec0 c : sProp 𝕄) := by
  rw [PhiA_eq, show (rdat m c).Φ (Fin.last cfg0.N) = scrAt m c cfg0.N from rfl]
  unfold scrAt
  iintro ⟨⟨%d, %h, H⟩, Hg⟩
  isplitl [H]
  · iexists d; iexact H
  iexact Hg

-- the launch theorem's implicit arguments are found by unifying its conclusion with this one
set_option backward.isDefEq.respectTransparency.types false in
/-- The launch: what is said of the output windows holds of the arrays, and every other unscoped buffer ends as the
    region found it, every semaphore counter at zero. -/
theorem launch : θ_run defs (onTc (τ := τ) (main (F := F))) (s₀ m ρ)
    (fun r => (Pipeline.RDat.FramePost cfg0 (fun c => rdat m c) (V m)) r ∧ r.2.sem = fun _ => 0) :=
  Pipeline.RDat.θ_run_frame_track (Q' := _) cfgs (0 : Fin 1) launch0 defs₀ Variants.none (fun c => rdat m c) m ρ main
    (hbody := fun c => (obligation m c).toRRel) (hshare := fun c => (rdat m c).share_full fun _ => rfl)
    (howed := fun _ _ => rfl) (V := V m) (hmain := hmain m Variants.none) (hA := A_eq m) (hin := enter m) (hout := leave m)

/-- THE FRAME: the program runs to its end, the argument arrays unchanged, the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)
    (launch m ρ)

end Cert.Kernel2Ideal.Proj

end
-- ==== Proof.Proj.Args.lean ====
/-
The arrays of the projection call, read at an index: the rows of a block, the columns of the weights, their product.
-/
module

public import proofs.«01_k».proof.Proof.Proj.Frame
public import Idealize.ShloMosaic.Lib.StableHlo.ReadAt
public import Idealize.ShloMosaic.Lib.Claim
public import Idealize.ShloMosaic.Lib.Pointwise
public import Idealize.ShloMosaic.Lib.Pipeline.Value
public import Idealize.ShloMosaic.Lib.ValueLayout

@[expose] public section

set_option maxRecDepth 65536

noncomputable section

namespace Cert.Kernel2Ideal.Proj

open Idealize.ShloMosaic Idealize.ShloMosaic.TcCoe Idealize.ShloMosaic.Tactic Idealize.SL.Sem
open Cert.Kernel2Ideal Cert.Kernel2Ideal.Gen

variable (m : (ℓ : Loc nD τ sig) → Buf (Elt Ideal) ℓ) (ρ : Dev nD → PrngReg) (c : Dev nD)

/-- The input row `n`, coordinate `d`. -/
def inp (n : Fin 32768) (d : Fin 2048) : EReal := m (c, Proc.tc.devRef main_arg0) (ix3 ⟨n.val / 16384, by omega⟩ ⟨n.val % 16384, by omega⟩ d)

/-- The weight of coordinate `d` in column `e`. -/
def wgt (d : Fin 2048) (e : Fin 4096) : EReal := m (c, Proc.tc.devRef main_arg1) (ix3 0 d e)

/-- The projection: row `n`, column `e`. -/
def proj (n : Fin 32768) (e : Fin 4096) : EReal := ∑ d : Fin 2048, inp m c n d * wgt m c d e

theorem V_x (n : Fin 32768) (d : Fin 2048) : (V m c main_v0 : Vec Ideal S32768x2048 .f32) (ix2 n d) = inp m c n d := by
  unfold V inp
  after_reads_at

theorem V_w (d : Fin 2048) (e : Fin 4096) : (V m c main_v2 : Vec Ideal S2048x4096 .bf16) (ix2 d e) = wgt m c d e := by
  unfold V wgt
  after_reads_at

variable (t : Fin cfg0.N)

theorem idx0 : win0_0.index t 0 = t.val / 4 ∧ win0_0.index t 1 = 0 :=
  (by decide +kernel : ∀ t : Fin grid0.N, win0_0.index t 0 = t.val / 4 ∧ win0_0.index t 1 = 0) t

theorem idx1 : win0_1.index t 0 = 0 ∧ win0_1.index t 1 = 0 :=
  (by decide +kernel : ∀ t : Fin grid0.N, win0_1.index t 0 = 0 ∧ win0_1.index t 1 = 0) t

theorem idx2 : win0_2.index t 0 = t.val / 4 ∧ win0_2.index t 1 = 0 :=
  (by decide +kernel : ∀ t : Fin grid0.N, win0_2.index t 0 = t.val / 4 ∧ win0_2.index t 1 = 0) t

theorem idx5 : win0_5.index t 0 = t.val / 4 ∧ win0_5.index t 1 = 0 :=
  (by decide +kernel : ∀ t : Fin grid0.N, win0_5.index t 0 = t.val / 4 ∧ win0_5.index t 1 = 0) t

theorem idx3 : win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0) t

theorem idx4 : win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0) t

theorem idx6 : win0_6.index t 0 = 0 ∧ win0_6.index t 1 = 0 ∧ win0_6.index t 2 = t.val / 4 :=
  (by decide +kernel : ∀ t : Fin grid0.N, win0_6.index t 0 = 0 ∧ win0_6.index t 1 = 0 ∧ win0_6.index t 2 = t.val / 4) t

theorem idx7 : win0_7.index t 0 = 0 ∧ win0_7.index t 1 = 0 ∧ win0_7.index t 2 = t.val / 4 :=
  (by decide +kernel : ∀ t : Fin grid0.N, win0_7.index t 0 = 0 ∧ win0_7.index t 1 = 0 ∧ win0_7.index t 2 = t.val / 4) t

theorem off1 : k0_off1 (grid0.coords t) = ![0, 1024 * (t.val % 4)] :=
  (by decide +kernel : ∀ t : Fin grid0.N, k0_off1 (grid0.coords t) = ![0, 1024 * (t.val % 4)]) t

theorem iblk0 (r : Fin 512) (d : Fin 2048) : (iblk m c 0 t : Vec Ideal S512x2048 .f32) (ix2 r d) =
    inp m c ⟨512 * (t.val / 4) + r.val, by have := lt_N t; omega⟩ d := by
  have hi := idx0 t
  rw [← V_x]
  unfold iblk
  rw [View.read_apply]
  show V m c main_v0 _ = V m c main_v0 _
  refine congrArg (V m c main_v0) (funext fun a => Fin.ext ?_)
  match a with
  | ⟨0, _⟩ => show win0_0.index t 0 * 512 + 1 * r.val = 512 * (t.val / 4) + r.val; rw [hi.1]; omega
  | ⟨1, _⟩ => show win0_0.index t 1 * 2048 + 1 * d.val = d.val; rw [hi.2]; omega

theorem iblk1 (d : Fin 2048) (e : Fin 4096) : (iblk m c 1 t : Vec Ideal S2048x4096 .bf16) (ix2 d e) = wgt m c d e := by
  have hi := idx1 t
  rw [← V_w]
  unfold iblk
  rw [View.read_apply]
  show V m c main_v2 _ = V m c main_v2 _
  refine congrArg (V m c main_v2) (funext fun a => Fin.ext ?_)
  match a with
  | ⟨0, _⟩ => show win0_1.index t 0 * 2048 + 1 * d.val = d.val; rw [hi.1]; omega
  | ⟨1, _⟩ => show win0_1.index t 1 * 4096 + 1 * e.val = e.val; rw [hi.2]; omega

theorem castRows_at (r : Fin 512) (d : Fin 2048) : castRows m c t (ix2 r d) = inp m c ⟨512 * (t.val / 4) + r.val, by have := lt_N t; omega⟩ d := by
  rw [← iblk0]
  unfold castRows
  generalize (iblk m c 0 t : Vec Ideal S512x2048 .f32) = x
  pointwise [k0_pay1]

theorem pay2_at (w : Vec Ideal S2048x1024 .bf16) (x : Vec Ideal S512x2048 .bf16) (r : Fin 512) (e : Fin 1024) :
    k0_pay2 w x (ix2 r e) = ∑ d : Fin 2048, x (ix2 r d) * w (ix2 d e) := by
  pointwise [k0_pay2]

/-- The product the body forms at point `t`, from a weight block it has loaded. -/
theorem product_of (arg3 : Memref sig .tc .vmem S2048x4096 .bf16) (harg3 : arg3.IsWhole) (X : Vec Ideal S512x2048 .bf16) (hX : X = castRows m c t)
    (inb : ∀ a, k0_off1 (grid0.coords t) a + (![2048, 1024] : Fin 2 → ℕ) a ≤ S2048x4096.size a)
    (r : Fin 512) (e : Fin 1024) :
    k0_pay2 (F := Ideal) (View.readAt (Elt Ideal) arg3.view (Rect.unit (s := S2048x4096) (k0_off1 (grid0.coords t)) ![2048, 1024] inb).toLoadRect (harg3.unread (iblk m c 1 t))) X (ix2 r e) =
      proj m c ⟨512 * (t.val / 4) + r.val, by have := lt_N t; omega⟩ ⟨1024 * (t.val % 4) + e.val, by omega⟩ := by
  subst hX
  rw [pay2_at]
  unfold proj
  refine Finset.sum_congr rfl fun d _ => congrArg₂ (· * ·) ?_ ?_
  · rw [← castRows_at]
  · rw [← iblk1 m c t]
    rw [View.readAt_eq_ld, View.ld_apply, harg3.read_unread]
    refine congrArg (iblk m c 1 t : Vec Ideal S2048x4096 .bf16) (funext fun a => Fin.ext ?_)
    match a with
    | ⟨0, _⟩ => show k0_off1 (grid0.coords t) 0 + 1 * d.val = d.val; rw [off1]; show 0 + 1 * d.val = d.val; omega
    | ⟨1, _⟩ => show k0_off1 (grid0.coords t) 1 + 1 * e.val = 1024 * (t.val % 4) + e.val; rw [off1]; show 1024 * (t.val % 4) + 1 * e.val = _; omega

/-- The same from the scratch buffer as loaded. -/
theorem product_at (arg3 : Memref sig .tc .vmem S2048x4096 .bf16) (harg3 : arg3.IsWhole) (arg10 : Memref sig .tc .vmem S512x2048 .bf16) (harg10 : arg10.IsWhole)
    (inb : ∀ a, k0_off1 (grid0.coords t) a + (![2048, 1024] : Fin 2 → ℕ) a ≤ S2048x4096.size a) (inb' : ∀ a, (![0, 0] : Fin 2 → ℕ) a + (![512, 2048] : Fin 2 → ℕ) a ≤ S512x2048.size a)
    (r : Fin 512) (e : Fin 1024) :
    k0_pay2 (F := Ideal) (View.readAt (Elt Ideal) arg3.view (Rect.unit (s := S2048x4096) (k0_off1 (grid0.coords t)) ![2048, 1024] inb).toLoadRect (harg3.unread (iblk m c 1 t)))
      (View.readAt (Elt Ideal) arg10.view (Rect.unit (s := S512x2048) ![0, 0] ![512, 2048] inb').toLoadRect (harg10.unread (castRows m c t))) (ix2 r e) =
      proj m c ⟨512 * (t.val / 4) + r.val, by have := lt_N t; omega⟩ ⟨1024 * (t.val % 4) + e.val, by omega⟩ :=
  product_of m c t arg3 harg3 _ ((View.readAt_full _ _ _).trans (harg10.read_unread _)) inb r e

/-- A head's columns of a product, as the body stores them. -/
theorem slice_at (P : FVec Ideal S512x1024 .f32) (q : ℕ) (hq : q < 8) (h : S512x1024.Slices ![0, 128 * q] S512x128) (h' : S512x128.ShapeCasts S512x1x128) (x : S512x1x128.Idx) :
    shapeCast S512x1x128 (extractStridedSlice S512x128 ![0, 128 * q] P h) h' x =
      P (ix2 (⟨(x 0).val, (x 0).isLt⟩ : Fin 512) (⟨128 * q + (x 2).val, by have h2 : (x 2).val < 128 := (x 2).isLt; omega⟩ : Fin 1024)) := by
  have h0 : (x 0).val < 512 := (x 0).isLt
  have h1 : (x 1).val < 1 := (x 1).isLt
  have h2 : (x 2).val < 128 := (x 2).isLt
  refine (shapeCast_apply _ h' x (ix2 (⟨(x 0).val, h0⟩ : Fin 512) (⟨(x 2).val, h2⟩ : Fin 128)) ?_).trans ?_
  · rw [Shape.rowMajor_val_two, Shape.rowMajor_val_three]
    show (x 0).val * 128 + (x 2).val = ((x 0).val * 1 + (x 1).val) * 128 + (x 2).val
    omega
  · refine extractStridedSlice_apply _ _ _ _ _ fun a => ?_
    match a with
    | ⟨0, _⟩ => show (x 0).val = 0 + (x 0).val; omega
    | ⟨1, _⟩ => rfl

/-- The same transposed. -/
theorem slice_tr_at (P : FVec Ideal S512x1024 .f32) (q : ℕ) (hq : q < 8) (h : S512x1024.Slices ![0, 128 * q] S512x128) (hb) (h1) (h' : S128x512.ShapeCasts S1x128x512) (x : S1x128x512.Idx) :
    shapeCast S1x128x512 (truncf (F := Ideal) .bf16 (transpose S128x512 [1, 0] (extractStridedSlice S512x128 ![0, 128 * q] P h) h1) hb) h' x =
      P (ix2 (⟨(x 2).val, (x 2).isLt⟩ : Fin 512) (⟨128 * q + (x 1).val, by have h2 : (x 1).val < 128 := (x 1).isLt; omega⟩ : Fin 1024)) := by
  have h0 : (x 0).val < 1 := (x 0).isLt
  have h1 : (x 1).val < 128 := (x 1).isLt
  have h2 : (x 2).val < 512 := (x 2).isLt
  refine (shapeCast_apply _ h' x (ix2 (⟨(x 1).val, h1⟩ : Fin 128) (⟨(x 2).val, h2⟩ : Fin 512)) ?_).trans ?_
  · rw [Shape.rowMajor_val_two, Shape.rowMajor_val_three]
    show (x 1).val * 512 + (x 2).val = ((x 0).val * 128 + (x 1).val) * 512 + (x 2).val
    omega
  · show transpose S128x512 [1, 0] (extractStridedSlice S512x128 ![0, 128 * q] P h) _ _ = _
    refine (ValueIdx.transpose_ix2_apply _ _ _ _).trans ?_
    refine extractStridedSlice_apply _ _ _ _ _ fun a => ?_
    match a with
    | ⟨0, _⟩ => show (x 2).val = 0 + (x 2).val; omega
    | ⟨1, _⟩ => rfl

/-- The scaled columns of the queries. -/
theorem pay11_at (P : FVec Ideal S512x1024 .f32) (r : Fin 512) (e : Fin 1024) :
    k0_pay11 P (ix2 r e) = P (ix2 r e) * Ideal.ofBits .f32 0x3E000000#32 * Ideal.ofBits .f32 0x3FB8AA3B#32 := by
  pointwise [k0_pay11]

end Cert.Kernel2Ideal.Proj

end
-- ==== Proof.Proj.Whole.lean ====
/-
The blocks the projection call leaves, and its result arrays: the products of rows and weights.
-/
module

public import proofs.«01_k».proof.Proof.Proj.Args

@[expose] public section

set_option maxRecDepth 65536

noncomputable section

namespace Cert.Kernel2Ideal.Proj

open Idealize.ShloMosaic Idealize.ShloMosaic.TcCoe Idealize.ShloMosaic.Tactic Idealize.SL.Sem
open Cert.Kernel2Ideal Cert.Kernel2Ideal.Gen

variable (m : (ℓ : Loc nD τ sig) → Buf (Elt Ideal) ℓ) (ρ : Dev nD → PrngReg) (c : Dev nD)

/-- The product's column at point `t`'s rows, for the queries scaled. -/
def qproj (n : Fin 32768) (e : Fin 4096) : EReal := proj m c n e * Ideal.ofBits .f32 0x3E000000#32 * Ideal.ofBits .f32 0x3FB8AA3B#32

/-- The block of the state-space inputs. -/
def stBlk (t : Fin cfg0.N) : Vec Ideal S512x1024 .f32 := fun z =>
  proj m c ⟨512 * (t.val / 4) + (z 0).val, by have := lt_N t; have h0 : (z 0).val < 512 := (z 0).isLt; omega⟩
    ⟨0 + (z 1).val, by have h1 : (z 1).val < 1024 := (z 1).isLt; omega⟩

/-- The result holding the state-space inputs. -/
def Gst : Vec Ideal S32768x1024 .f32 := fun z =>
  proj m c ⟨(z 0).val, (z 0).isLt⟩ ⟨0 + (z 1).val, by have h1 : (z 1).val < 1024 := (z 1).isLt; omega⟩

theorem stOut_at (t : Fin cfg0.N) (h : t.val % 4 = 0) : stOut m c t = stBlk m c t := by
  funext z
  obtain ⟨r, e, rfl⟩ : ∃ (r : Fin 512) (e : Fin 1024), z = ix2 r e := ⟨z 0, z 1, by
    funext a
    match a with | ⟨0, _⟩ => rfl | ⟨1, _⟩ => rfl⟩
  unfold stOut
  rw [dif_pos h]
  unfold stPieces
  dsimp only [runA]
  refine (congrFun (View.read_writes_full _ _ _ _ _) (ix2 r e)).trans ?_
  refine Eq.trans (?_ : _ = proj m c ⟨512 * (t.val / 4) + r.val, by have := lt_N t; omega⟩ ⟨1024 * (t.val % 4) + e.val, by omega⟩) ?_
  · refine product_of m c t (stg1 t) (hstg1 t) _ ?_ _ _ _
    unfold runA.sl.v8 runA.sl.H10_1
    refine (View.readCov_full _ _ _ _ _).trans ?_
    unfold castRows
    refine congrArg k0_pay1 ?_
    exact (View.readAt_full _ _ _).trans ((hstg0 t).read_unread _)
  · unfold stBlk
    refine congrArg₂ (proj m c) rfl (Fin.ext ?_)
    show 1024 * (t.val % 4) + e.val = 0 + e.val
    omega

theorem blk2 (t : Fin cfg0.N) : (((cfg0.win 2).blk t).view.read (Elt Ideal) (show Buf (Elt Ideal) ((cfg0.win 2).arr.view.loc (c.tc : Thread nD τ)) from Gst m c) : Vec Ideal S512x1024 .f32) = stBlk m c t := by
  have hi := idx2 t
  funext z
  rw [View.read_apply]
  show Gst m c _ = _
  unfold Gst stBlk
  refine congrArg₂ (proj m c) (Fin.ext ?_) (Fin.ext ?_)
  · show win0_2.index t 0 * 512 + 1 * (z 0).val = 512 * (t.val / 4) + (z 0).val
    rw [hi.1]; omega
  · show 0 + (win0_2.index t 1 * 1024 + 1 * (z 1).val) = 0 + (z 1).val
    rw [hi.2]; omega

theorem blk2_cover (i : S32768x1024.Idx) : ∃ t : Fin cfg0.N, (cfg0.win 2).flush t = true ∧ i ∈ ((cfg0.win 2).blk t).view.set := by
  have h0 : (i 0 : Nat) < 32768 := (i 0).isLt
  have h1 : (i 1 : Nat) < 1024 := (i 1).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_2 t).mpr (by omega), ?_⟩
  have hi := idx2 t
  show i ∈ ((View.whole main_v3_0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [hi.1]; omega
  | ⟨1, _⟩ =>
    show win0_2.index t 1 * 1024 ≤ (i 1 : Nat) ∧ (i 1 : Nat) < win0_2.index t 1 * 1024 + 1024
    rw [hi.2]; omega

theorem stBlk_pt (t : Fin cfg0.N) : stBlk m c (pt 0 t) = stBlk m c t := by
  have e : (pt 0 t).val / 4 = t.val / 4 := by rw [pt_val 0 (by omega)]; omega
  funext z
  unfold stBlk
  refine congrArg₂ (proj m c) (Fin.ext ?_) rfl
  show 512 * ((pt 0 t).val / 4) + (z 0).val = 512 * (t.val / 4) + (z 0).val
  rw [e]

/-- The block of the keys. -/
def keyBlk (t : Fin cfg0.N) : Vec Ideal S512x8x128 .f32 := fun z =>
  proj m c ⟨512 * (t.val / 4) + (z 0).val, by have := lt_N t; have h0 : (z 0).val < 512 := (z 0).isLt; omega⟩
    ⟨2048 + 128 * (z 1).val + (z 2).val, by have h1 : (z 1).val < 8 := (z 1).isLt; have h2 : (z 2).val < 128 := (z 2).isLt; omega⟩

/-- The result holding the keys. -/
def Gkey : Vec Ideal S32768x8x128 .f32 := fun z =>
  proj m c ⟨(z 0).val, (z 0).isLt⟩ ⟨2048 + 128 * (z 1).val + (z 2).val, by have h1 : (z 1).val < 8 := (z 1).isLt; have h2 : (z 2).val < 128 := (z 2).isLt; omega⟩

theorem key_piece (t : Fin cfg0.N) (h : t.val % 4 = 2) (P : FVec Ideal S512x1024 .f32)
    (hP : ∀ (r : Fin 512) (e : Fin 1024), P (ix2 r e) = proj m c ⟨512 * (t.val / 4) + r.val, by have := lt_N t; omega⟩ ⟨1024 * (t.val % 4) + e.val, by omega⟩)
    (q : ℕ) (hq : q < 8) (h1 : S512x1024.Slices ![0, 128 * q] S512x128) (h2 : S512x128.ShapeCasts S512x1x128)
    (inb : ∀ a, (![0, q, 0] : Fin 3 → ℕ) a + (![512, 1, 128] : Fin 3 → ℕ) a ≤ S512x8x128.size a) (x : S512x1x128.Idx) :
    shapeCast S512x1x128 (extractStridedSlice S512x128 ![0, 128 * q] P h1) h2 x = keyBlk m c t ((Rect.unit (s := S512x8x128) ![0, q, 0] ![512, 1, 128] inb).emb x) := by
  have x1 : (x 1).val < 1 := (x 1).isLt
  rw [slice_at P q hq h1 h2 x, hP]
  unfold keyBlk
  refine congrArg₂ (proj m c) (Fin.ext ?_) (Fin.ext ?_)
  · show 512 * (t.val / 4) + (x 0).val = 512 * (t.val / 4) + (0 + 1 * (x 0).val)
    omega
  · show 1024 * (t.val % 4) + (128 * q + (x 2).val) = 2048 + 128 * (q + 1 * (x 1).val) + (0 + 1 * (x 2).val)
    omega

theorem keyOut_at (t : Fin cfg0.N) (h : t.val % 4 = 2) : keyOut m c t = keyBlk m c t := by
  funext z
  unfold keyOut
  rw [dif_pos h]
  refine View.read_writes_apply_of_pieces _ _ _ _ ?_ z (keyPieces_cover m c t h z)
  unfold keyPieces
  dsimp only [runC]
  simp only [List.forall_mem_cons]
  refine ⟨?_, ?_, ?_, ?_, ?_, ?_, ?_, ?_, fun _ h => absurd h List.not_mem_nil⟩
  · exact fun x => key_piece m c t h _ (product_at m c t (stg1 t) (hstg1 t) scr (Memref.isWhole_whole _) _ _) 7 (by omega) slices_S512x1024_o0_896_S512x128 _ _ x
  · exact fun x => key_piece m c t h _ (product_at m c t (stg1 t) (hstg1 t) scr (Memref.isWhole_whole _) _ _) 6 (by omega) _ _ _ x
  · exact fun x => key_piece m c t h _ (product_at m c t (stg1 t) (hstg1 t) scr (Memref.isWhole_whole _) _ _) 5 (by omega) _ _ _ x
  · exact fun x => key_piece m c t h _ (product_at m c t (stg1 t) (hstg1 t) scr (Memref.isWhole_whole _) _ _) 4 (by omega) _ _ _ x
  · exact fun x => key_piece m c t h _ (product_at m c t (stg1 t) (hstg1 t) scr (Memref.isWhole_whole _) _ _) 3 (by omega) _ _ _ x
  · exact fun x => key_piece m c t h _ (product_at m c t (stg1 t) (hstg1 t) scr (Memref.isWhole_whole _) _ _) 2 (by omega) _ _ _ x
  · exact fun x => key_piece m c t h _ (product_at m c t (stg1 t) (hstg1 t) scr (Memref.isWhole_whole _) _ _) 1 (by omega) _ _ _ x
  · exact fun x => key_piece m c t h _ (product_at m c t (stg1 t) (hstg1 t) scr (Memref.isWhole_whole _) _ _) 0 (by omega) _ _ _ x

theorem blk3 (t : Fin cfg0.N) : (((cfg0.win 3).blk t).view.read (Elt Ideal) (show Buf (Elt Ideal) ((cfg0.win 3).arr.view.loc (c.tc : Thread nD τ)) from Gkey m c) : Vec Ideal S512x8x128 .f32) = keyBlk m c t := by
  have hi := idx3 t
  funext z
  rw [View.read_apply]
  show Gkey m c _ = _
  unfold Gkey keyBlk
  refine congrArg₂ (proj m c) (Fin.ext ?_) (Fin.ext ?_)
  · show win0_3.index t 0 * 512 + 1 * (z 0).val = 512 * (t.val / 4) + (z 0).val
    rw [hi.1]; omega
  · show 2048 + 128 * (win0_3.index t 1 * 8 + 1 * (z 1).val) + (win0_3.index t 2 * 128 + 1 * (z 2).val) = 2048 + 128 * (z 1).val + (z 2).val
    rw [hi.2.1, hi.2.2]; omega

theorem blk3_cover (i : S32768x8x128.Idx) : ∃ t : Fin cfg0.N, (cfg0.win 3).flush t = true ∧ i ∈ ((cfg0.win 3).blk t).view.set := by
  have h0 : (i 0 : Nat) < 32768 := (i 0).isLt
  have h1 : (i 1 : Nat) < 8 := (i 1).isLt
  have h2 : (i 2 : Nat) < 128 := (i 2).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_3 t).mpr (by omega), ?_⟩
  have hi := idx3 t
  show i ∈ ((View.whole main_v3_1).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [hi.1]; omega
  | ⟨1, _⟩ =>
    show win0_3.index t 1 * 8 ≤ (i 1 : Nat) ∧ (i 1 : Nat) < win0_3.index t 1 * 8 + 8
    rw [hi.2.1]; omega
  | ⟨2, _⟩ =>
    show win0_3.index t 2 * 128 ≤ (i 2 : Nat) ∧ (i 2 : Nat) < win0_3.index t 2 * 128 + 128
    rw [hi.2.2]; omega

theorem keyBlk_pt (t : Fin cfg0.N) : keyBlk m c (pt 2 t) = keyBlk m c t := by
  have e : (pt 2 t).val / 4 = t.val / 4 := by rw [pt_val 2 (by omega)]; omega
  funext z
  unfold keyBlk
  refine congrArg₂ (proj m c) (Fin.ext ?_) rfl
  show 512 * ((pt 2 t).val / 4) + (z 0).val = 512 * (t.val / 4) + (z 0).val
  rw [e]

/-- The block of the values. -/
def valBlk (t : Fin cfg0.N) : Vec Ideal S512x8x128 .f32 := fun z =>
  proj m c ⟨512 * (t.val / 4) + (z 0).val, by have := lt_N t; have h0 : (z 0).val < 512 := (z 0).isLt; omega⟩
    ⟨3072 + 128 * (z 1).val + (z 2).val, by have h1 : (z 1).val < 8 := (z 1).isLt; have h2 : (z 2).val < 128 := (z 2).isLt; omega⟩

/-- The result holding the values. -/
def Gval : Vec Ideal S32768x8x128 .f32 := fun z =>
  proj m c ⟨(z 0).val, (z 0).isLt⟩ ⟨3072 + 128 * (z 1).val + (z 2).val, by have h1 : (z 1).val < 8 := (z 1).isLt; have h2 : (z 2).val < 128 := (z 2).isLt; omega⟩

theorem val_piece (t : Fin cfg0.N) (h : t.val % 4 = 3) (P : FVec Ideal S512x1024 .f32)
    (hP : ∀ (r : Fin 512) (e : Fin 1024), P (ix2 r e) = proj m c ⟨512 * (t.val / 4) + r.val, by have := lt_N t; omega⟩ ⟨1024 * (t.val % 4) + e.val, by omega⟩)
    (q : ℕ) (hq : q < 8) (h1 : S512x1024.Slices ![0, 128 * q] S512x128) (h2 : S512x128.ShapeCasts S512x1x128)
    (inb : ∀ a, (![0, q, 0] : Fin 3 → ℕ) a + (![512, 1, 128] : Fin 3 → ℕ) a ≤ S512x8x128.size a) (x : S512x1x128.Idx) :
    shapeCast S512x1x128 (extractStridedSlice S512x128 ![0, 128 * q] P h1) h2 x = valBlk m c t ((Rect.unit (s := S512x8x128) ![0, q, 0] ![512, 1, 128] inb).emb x) := by
  have x1 : (x 1).val < 1 := (x 1).isLt
  rw [slice_at P q hq h1 h2 x, hP]
  unfold valBlk
  refine congrArg₂ (proj m c) (Fin.ext ?_) (Fin.ext ?_)
  · show 512 * (t.val / 4) + (x 0).val = 512 * (t.val / 4) + (0 + 1 * (x 0).val)
    omega
  · show 1024 * (t.val % 4) + (128 * q + (x 2).val) = 3072 + 128 * (q + 1 * (x 1).val) + (0 + 1 * (x 2).val)
    omega

theorem valOut_at (t : Fin cfg0.N) (h : t.val % 4 = 3) : valOut m c t = valBlk m c t := by
  funext z
  unfold valOut
  rw [dif_pos h]
  refine View.read_writes_apply_of_pieces _ _ _ _ ?_ z (valPieces_cover m c t h z)
  unfold valPieces
  dsimp only [runD]
  simp only [List.forall_mem_cons]
  refine ⟨?_, ?_, ?_, ?_, ?_, ?_, ?_, ?_, fun _ h => absurd h List.not_mem_nil⟩
  · exact fun x => val_piece m c t h _ (product_at m c t (stg1 t) (hstg1 t) scr (Memref.isWhole_whole _) _ _) 7 (by omega) slices_S512x1024_o0_896_S512x128 _ _ x
  · exact fun x => val_piece m c t h _ (product_at m c t (stg1 t) (hstg1 t) scr (Memref.isWhole_whole _) _ _) 6 (by omega) _ _ _ x
  · exact fun x => val_piece m c t h _ (product_at m c t (stg1 t) (hstg1 t) scr (Memref.isWhole_whole _) _ _) 5 (by omega) _ _ _ x
  · exact fun x => val_piece m c t h _ (product_at m c t (stg1 t) (hstg1 t) scr (Memref.isWhole_whole _) _ _) 4 (by omega) _ _ _ x
  · exact fun x => val_piece m c t h _ (product_at m c t (stg1 t) (hstg1 t) scr (Memref.isWhole_whole _) _ _) 3 (by omega) _ _ _ x
  · exact fun x => val_piece m c t h _ (product_at m c t (stg1 t) (hstg1 t) scr (Memref.isWhole_whole _) _ _) 2 (by omega) _ _ _ x
  · exact fun x => val_piece m c t h _ (product_at m c t (stg1 t) (hstg1 t) scr (Memref.isWhole_whole _) _ _) 1 (by omega) _ _ _ x
  · exact fun x => val_piece m c t h _ (product_at m c t (stg1 t) (hstg1 t) scr (Memref.isWhole_whole _) _ _) 0 (by omega) _ _ _ x

theorem blk4 (t : Fin cfg0.N) : (((cfg0.win 4).blk t).view.read (Elt Ideal) (show Buf (Elt Ideal) ((cfg0.win 4).arr.view.loc (c.tc : Thread nD τ)) from Gval m c) : Vec Ideal S512x8x128 .f32) = valBlk m c t := by
  have hi := idx4 t
  funext z
  rw [View.read_apply]
  show Gval m c _ = _
  unfold Gval valBlk
  refine congrArg₂ (proj m c) (Fin.ext ?_) (Fin.ext ?_)
  · show win0_4.index t 0 * 512 + 1 * (z 0).val = 512 * (t.val / 4) + (z 0).val
    rw [hi.1]; omega
  · show 3072 + 128 * (win0_4.index t 1 * 8 + 1 * (z 1).val) + (win0_4.index t 2 * 128 + 1 * (z 2).val) = 3072 + 128 * (z 1).val + (z 2).val
    rw [hi.2.1, hi.2.2]; omega

theorem blk4_cover (i : S32768x8x128.Idx) : ∃ t : Fin cfg0.N, (cfg0.win 4).flush t = true ∧ i ∈ ((cfg0.win 4).blk t).view.set := by
  have h0 : (i 0 : Nat) < 32768 := (i 0).isLt
  have h1 : (i 1 : Nat) < 8 := (i 1).isLt
  have h2 : (i 2 : Nat) < 128 := (i 2).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_4 t).mpr (by omega), ?_⟩
  have hi := idx4 t
  show i ∈ ((View.whole main_v3_2).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [hi.1]; omega
  | ⟨1, _⟩ =>
    show win0_4.index t 1 * 8 ≤ (i 1 : Nat) ∧ (i 1 : Nat) < win0_4.index t 1 * 8 + 8
    rw [hi.2.1]; omega
  | ⟨2, _⟩ =>
    show win0_4.index t 2 * 128 ≤ (i 2 : Nat) ∧ (i 2 : Nat) < win0_4.index t 2 * 128 + 128
    rw [hi.2.2]; omega

theorem valBlk_pt (t : Fin cfg0.N) : valBlk m c (pt 3 t) = valBlk m c t := by
  have e : (pt 3 t).val / 4 = t.val / 4 := by rw [pt_val 3 (by omega)]; omega
  funext z
  unfold valBlk
  refine congrArg₂ (proj m c) (Fin.ext ?_) rfl
  show 512 * ((pt 3 t).val / 4) + (z 0).val = 512 * (t.val / 4) + (z 0).val
  rw [e]

/-- The block of the cast keys. -/
def kbBlk (t : Fin cfg0.N) : Vec Ideal S512x1024 .bf16 := fun z =>
  proj m c ⟨512 * (t.val / 4) + (z 0).val, by have := lt_N t; have h0 : (z 0).val < 512 := (z 0).isLt; omega⟩
    ⟨2048 + (z 1).val, by have h1 : (z 1).val < 1024 := (z 1).isLt; omega⟩

/-- The result holding the cast keys. -/
def Gkb : Vec Ideal S32768x1024 .bf16 := fun z =>
  proj m c ⟨(z 0).val, (z 0).isLt⟩ ⟨2048 + (z 1).val, by have h1 : (z 1).val < 1024 := (z 1).isLt; omega⟩

theorem kbOut_at (t : Fin cfg0.N) (h : t.val % 4 = 2) : kbOut m c t = kbBlk m c t := by
  funext z
  obtain ⟨r, e, rfl⟩ : ∃ (r : Fin 512) (e : Fin 1024), z = ix2 r e := ⟨z 0, z 1, by
    funext a
    match a with | ⟨0, _⟩ => rfl | ⟨1, _⟩ => rfl⟩
  unfold kbOut
  rw [dif_pos h]
  unfold kbPieces
  dsimp only [runC]
  refine (congrFun (View.read_writes_full _ _ _ _ _) (ix2 r e)).trans ?_
  refine Eq.trans (?_ : _ = proj m c ⟨512 * (t.val / 4) + r.val, by have := lt_N t; omega⟩ ⟨1024 * (t.val % 4) + e.val, by omega⟩) ?_
  · exact product_at m c t (stg1 t) (hstg1 t) scr (Memref.isWhole_whole _) _ _ _ _
  · unfold kbBlk
    refine congrArg₂ (proj m c) rfl (Fin.ext ?_)
    show 1024 * (t.val % 4) + e.val = 2048 + e.val
    omega

theorem blk5 (t : Fin cfg0.N) : (((cfg0.win 5).blk t).view.read (Elt Ideal) (show Buf (Elt Ideal) ((cfg0.win 5).arr.view.loc (c.tc : Thread nD τ)) from Gkb m c) : Vec Ideal S512x1024 .bf16) = kbBlk m c t := by
  have hi := idx5 t
  funext z
  rw [View.read_apply]
  show Gkb m c _ = _
  unfold Gkb kbBlk
  refine congrArg₂ (proj m c) (Fin.ext ?_) (Fin.ext ?_)
  · show win0_5.index t 0 * 512 + 1 * (z 0).val = 512 * (t.val / 4) + (z 0).val
    rw [hi.1]; omega
  · show 2048 + (win0_5.index t 1 * 1024 + 1 * (z 1).val) = 2048 + (z 1).val
    rw [hi.2]; omega

theorem blk5_cover (i : S32768x1024.Idx) : ∃ t : Fin cfg0.N, (cfg0.win 5).flush t = true ∧ i ∈ ((cfg0.win 5).blk t).view.set := by
  have h0 : (i 0 : Nat) < 32768 := (i 0).isLt
  have h1 : (i 1 : Nat) < 1024 := (i 1).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_5 t).mpr (by omega), ?_⟩
  have hi := idx5 t
  show i ∈ ((View.whole main_v3_3).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [hi.1]; omega
  | ⟨1, _⟩ =>
    show win0_5.index t 1 * 1024 ≤ (i 1 : Nat) ∧ (i 1 : Nat) < win0_5.index t 1 * 1024 + 1024
    rw [hi.2]; omega

theorem kbBlk_pt (t : Fin cfg0.N) : kbBlk m c (pt 2 t) = kbBlk m c t := by
  have e : (pt 2 t).val / 4 = t.val / 4 := by rw [pt_val 2 (by omega)]; omega
  funext z
  unfold kbBlk
  refine congrArg₂ (proj m c) (Fin.ext ?_) rfl
  show 512 * ((pt 2 t).val / 4) + (z 0).val = 512 * (t.val / 4) + (z 0).val
  rw [e]

/-- The block of the transposed queries. -/
def qaBlk (t : Fin cfg0.N) : Vec Ideal S8x128x512 .bf16 := fun z =>
  qproj m c ⟨512 * (t.val / 4) + (z 2).val, by have := lt_N t; have h0 : (z 2).val < 512 := (z 2).isLt; omega⟩
    ⟨1024 + 128 * (z 0).val + (z 1).val, by have h1 : (z 0).val < 8 := (z 0).isLt; have h2 : (z 1).val < 128 := (z 1).isLt; omega⟩

/-- The result holding the transposed queries. -/
def Gqa : Vec Ideal S8x128x32768 .bf16 := fun z =>
  qproj m c ⟨(z 2).val, (z 2).isLt⟩ ⟨1024 + 128 * (z 0).val + (z 1).val, by have h1 : (z 0).val < 8 := (z 0).isLt; have h2 : (z 1).val < 128 := (z 1).isLt; omega⟩

theorem qa_piece (t : Fin cfg0.N) (h : t.val % 4 = 1) (P : FVec Ideal S512x1024 .f32)
    (hP : ∀ (r : Fin 512) (e : Fin 1024), P (ix2 r e) = qproj m c ⟨512 * (t.val / 4) + r.val, by have := lt_N t; omega⟩ ⟨1024 * (t.val % 4) + e.val, by omega⟩)
    (q : ℕ) (hq : q < 8) (h1 : S512x1024.Slices ![0, 128 * q] S512x128) (hb) (ht) (h2 : S128x512.ShapeCasts S1x128x512)
    (inb : ∀ a, (![q, 0, 0] : Fin 3 → ℕ) a + (![1, 128, 512] : Fin 3 → ℕ) a ≤ S8x128x512.size a) (x : S1x128x512.Idx) :
    shapeCast S1x128x512 (truncf (F := Ideal) .bf16 (transpose S128x512 [1, 0] (extractStridedSlice S512x128 ![0, 128 * q] P h1) ht) hb) h2 x = qaBlk m c t ((Rect.unit (s := S8x128x512) ![q, 0, 0] ![1, 128, 512] inb).emb x) := by
  have x0 : (x 0).val < 1 := (x 0).isLt
  rw [slice_tr_at P q hq h1 hb ht h2 x, hP]
  unfold qaBlk
  refine congrArg₂ (qproj m c) (Fin.ext ?_) (Fin.ext ?_)
  · show 512 * (t.val / 4) + (x 2).val = 512 * (t.val / 4) + (0 + 1 * (x 2).val)
    omega
  · show 1024 * (t.val % 4) + (128 * q + (x 1).val) = 1024 + 128 * (q + 1 * (x 0).val) + (0 + 1 * (x 1).val)
    omega

theorem qaOut_at (t : Fin cfg0.N) (h : t.val % 4 = 1) : qaOut m c t = qaBlk m c t := by
  funext z
  unfold qaOut
  rw [dif_pos h]
  refine View.read_writes_apply_of_pieces _ _ _ _ ?_ z (qaPieces_cover m c t h z)
  unfold qaPieces
  dsimp only [runB]
  simp only [List.forall_mem_cons]
  refine ⟨?_, ?_, ?_, ?_, ?_, ?_, ?_, ?_, fun _ h => absurd h List.not_mem_nil⟩
  · exact fun x => qa_piece m c t h _ (fun r e => (pay11_at _ r e).trans (congrArg (fun y => y * Ideal.ofBits .f32 0x3E000000#32 * Ideal.ofBits .f32 0x3FB8AA3B#32) (product_at m c t (stg1 t) (hstg1 t) scr (Memref.isWhole_whole _) _ _ r e))) 7 (by omega) slices_S512x1024_o0_896_S512x128 bitsLt_bf16_f32 transposes_S512x128_p1_0_S128x512 _ _ x
  · exact fun x => qa_piece m c t h _ (fun r e => (pay11_at _ r e).trans (congrArg (fun y => y * Ideal.ofBits .f32 0x3E000000#32 * Ideal.ofBits .f32 0x3FB8AA3B#32) (product_at m c t (stg1 t) (hstg1 t) scr (Memref.isWhole_whole _) _ _ r e))) 6 (by omega) slices_S512x1024_o0_768_S512x128 bitsLt_bf16_f32 transposes_S512x128_p1_0_S128x512 _ _ x
  · exact fun x => qa_piece m c t h _ (fun r e => (pay11_at _ r e).trans (congrArg (fun y => y * Ideal.ofBits .f32 0x3E000000#32 * Ideal.ofBits .f32 0x3FB8AA3B#32) (product_at m c t (stg1 t) (hstg1 t) scr (Memref.isWhole_whole _) _ _ r e))) 5 (by omega) slices_S512x1024_o0_640_S512x128 bitsLt_bf16_f32 transposes_S512x128_p1_0_S128x512 _ _ x
  · exact fun x => qa_piece m c t h _ (fun r e => (pay11_at _ r e).trans (congrArg (fun y => y * Ideal.ofBits .f32 0x3E000000#32 * Ideal.ofBits .f32 0x3FB8AA3B#32) (product_at m c t (stg1 t) (hstg1 t) scr (Memref.isWhole_whole _) _ _ r e))) 4 (by omega) slices_S512x1024_o0_512_S512x128 bitsLt_bf16_f32 transposes_S512x128_p1_0_S128x512 _ _ x
  · exact fun x => qa_piece m c t h _ (fun r e => (pay11_at _ r e).trans (congrArg (fun y => y * Ideal.ofBits .f32 0x3E000000#32 * Ideal.ofBits .f32 0x3FB8AA3B#32) (product_at m c t (stg1 t) (hstg1 t) scr (Memref.isWhole_whole _) _ _ r e))) 3 (by omega) slices_S512x1024_o0_384_S512x128 bitsLt_bf16_f32 transposes_S512x128_p1_0_S128x512 _ _ x
  · exact fun x => qa_piece m c t h _ (fun r e => (pay11_at _ r e).trans (congrArg (fun y => y * Ideal.ofBits .f32 0x3E000000#32 * Ideal.ofBits .f32 0x3FB8AA3B#32) (product_at m c t (stg1 t) (hstg1 t) scr (Memref.isWhole_whole _) _ _ r e))) 2 (by omega) slices_S512x1024_o0_256_S512x128 bitsLt_bf16_f32 transposes_S512x128_p1_0_S128x512 _ _ x
  · exact fun x => qa_piece m c t h _ (fun r e => (pay11_at _ r e).trans (congrArg (fun y => y * Ideal.ofBits .f32 0x3E000000#32 * Ideal.ofBits .f32 0x3FB8AA3B#32) (product_at m c t (stg1 t) (hstg1 t) scr (Memref.isWhole_whole _) _ _ r e))) 1 (by omega) slices_S512x1024_o0_128_S512x128 bitsLt_bf16_f32 transposes_S512x128_p1_0_S128x512 _ _ x
  · exact fun x => qa_piece m c t h _ (fun r e => (pay11_at _ r e).trans (congrArg (fun y => y * Ideal.ofBits .f32 0x3E000000#32 * Ideal.ofBits .f32 0x3FB8AA3B#32) (product_at m c t (stg1 t) (hstg1 t) scr (Memref.isWhole_whole _) _ _ r e))) 0 (by omega) slices_S512x1024_o0_0_S512x128 bitsLt_bf16_f32 transposes_S512x128_p1_0_S128x512 _ _ x

theorem blk6 (t : Fin cfg0.N) : (((cfg0.win 6).blk t).view.read (Elt Ideal) (show Buf (Elt Ideal) ((cfg0.win 6).arr.view.loc (c.tc : Thread nD τ)) from Gqa m c) : Vec Ideal S8x128x512 .bf16) = qaBlk m c t := by
  have hi := idx6 t
  funext z
  rw [View.read_apply]
  show Gqa m c _ = _
  unfold Gqa qaBlk
  refine congrArg₂ (qproj m c) (Fin.ext ?_) (Fin.ext ?_)
  · show win0_6.index t 2 * 512 + 1 * (z 2).val = 512 * (t.val / 4) + (z 2).val
    rw [hi.2.2]; omega
  · show 1024 + 128 * (win0_6.index t 0 * 8 + 1 * (z 0).val) + (win0_6.index t 1 * 128 + 1 * (z 1).val) = 1024 + 128 * (z 0).val + (z 1).val
    rw [hi.1, hi.2.1]; omega

theorem blk6_cover (i : S8x128x32768.Idx) : ∃ t : Fin cfg0.N, (cfg0.win 6).flush t = true ∧ i ∈ ((cfg0.win 6).blk t).view.set := by
  have h0 : (i 0 : Nat) < 8 := (i 0).isLt
  have h1 : (i 1 : Nat) < 128 := (i 1).isLt
  have h2 : (i 2 : Nat) < 32768 := (i 2).isLt
  obtain ⟨t, ht⟩ : ∃ t : Fin cfg0.N, t.val = (i 2 : Nat) / 512 * 4 + 3 := ⟨⟨(i 2 : Nat) / 512 * 4 + 3, lt_of_lt_of_eq (by omega) N_0.symm⟩, rfl⟩
  refine ⟨t, (flush0_6 t).mpr (by omega), ?_⟩
  have hi := idx6 t
  show i ∈ ((View.whole main_v3_4).slice (win0_6.rect t)).set
  rw [View.set_slice_whole, Rect.mem_set_unit]
  intro a
  match a with
  | ⟨0, _⟩ =>
    show win0_6.index t 0 * 8 ≤ (i 0 : Nat) ∧ (i 0 : Nat) < win0_6.index t 0 * 8 + 8
    rw [hi.1]; omega
  | ⟨1, _⟩ =>
    show win0_6.index t 1 * 128 ≤ (i 1 : Nat) ∧ (i 1 : Nat) < win0_6.index t 1 * 128 + 128
    rw [hi.2.1]; omega
  | ⟨2, _⟩ =>
    show win0_6.index t 2 * 512 ≤ (i 2 : Nat) ∧ (i 2 : Nat) < win0_6.index t 2 * 512 + 512
    rw [hi.2.2]; omega

theorem qaBlk_pt (t : Fin cfg0.N) : qaBlk m c (pt 1 t) = qaBlk m c t := by
  have e : (pt 1 t).val / 4 = t.val / 4 := by rw [pt_val 1 (by omega)]; omega
  funext z
  unfold qaBlk
  refine congrArg₂ (qproj m c) (Fin.ext ?_) rfl
  show 512 * ((pt 1 t).val / 4) + (z 2).val = 512 * (t.val / 4) + (z 2).val
  rw [e]

/-- The block of the transposed values. -/
def vaBlk (t : Fin cfg0.N) : Vec Ideal S8x128x512 .bf16 := fun z =>
  proj m c ⟨512 * (t.val / 4) + (z 2).val, by have := lt_N t; have h0 : (z 2).val < 512 := (z 2).isLt; omega⟩
    ⟨3072 + 128 * (z 0).val + (z 1).val, by have h1 : (z 0).val < 8 := (z 0).isLt; have h2 : (z 1).val < 128 := (z 1).isLt; omega⟩

/-- The result holding the transposed values. -/
def Gva : Vec Ideal S8x128x32768 .bf16 := fun z =>
  proj m c ⟨(z 2).val, (z 2).isLt⟩ ⟨3072 + 128 * (z 0).val + (z 1).val, by have h1 : (z 0).val < 8 := (z 0).isLt; have h2 : (z 1).val < 128 := (z 1).isLt; omega⟩

theorem va_piece (t : Fin cfg0.N) (h : t.val % 4 = 3) (P : FVec Ideal S512x1024 .f32)
    (hP : ∀ (r : Fin 512) (e : Fin 1024), P (ix2 r e) = proj m c ⟨512 * (t.val / 4) + r.val, by have := lt_N t; omega⟩ ⟨1024 * (t.val % 4) + e.val, by omega⟩)
    (q : ℕ) (hq : q < 8) (h1 : S512x1024.Slices ![0, 128 * q] S512x128) (hb) (ht) (h2 : S128x512.ShapeCasts S1x128x512)
    (inb : ∀ a, (![q, 0, 0] : Fin 3 → ℕ) a + (![1, 128, 512] : Fin 3 → ℕ) a ≤ S8x128x512.size a) (x : S1x128x512.Idx) :
    shapeCast S1x128x512 (truncf (F := Ideal) .bf16 (transpose S128x512 [1, 0] (extractStridedSlice S512x128 ![0, 128 * q] P h1) ht) hb) h2 x = vaBlk m c t ((Rect.unit (s := S8x128x512) ![q, 0, 0] ![1, 128, 512] inb).emb x) := by
  have x0 : (x 0).val < 1 := (x 0).isLt
  rw [slice_tr_at P q hq h1 hb ht h2 x, hP]
  unfold vaBlk
  refine congrArg₂ (proj m c) (Fin.ext ?_) (Fin.ext ?_)
  · show 512 * (t.val / 4) + (x 2).val = 512 * (t.val / 4) + (0 + 1 * (x 2).val)
    omega
  · show 1024 * (t.val % 4) + (128 * q + (x 1).val) = 3072 + 128 * (q + 1 * (x 0).val) + (0 + 1 * (x 1).val)
    omega

theorem vaOut_at (t : Fin cfg0.N) (h : t.val % 4 = 3) : vaOut m c t = vaBlk m c t := by
  funext z
  unfold vaOut
  rw [dif_pos h]
  refine View.read_writes_apply_of_pieces _ _ _ _ ?_ z (vaPieces_cover m c t h z)
  unfold vaPieces
  dsimp only [runD]
  simp only [List.forall_mem_cons]
  refine ⟨?_, ?_, ?_, ?_, ?_, ?_, ?_, ?_, fun _ h => absurd h List.not_mem_nil⟩
  · exact fun x => va_piece m c t h _ (product_at m c t (stg1 t) (hstg1 t) scr (Memref.isWhole_whole _) _ _) 7 (by omega) slices_S512x1024_o0_896_S512x128 bitsLt_bf16_f32 transposes_S512x128_p1_0_S128x512 _ _ x
  · exact fun x => va_piece m c t h _ (product_at m c t (stg1 t) (hstg1 t) scr (Memref.isWhole_whole _) _ _) 6 (by omega) slices_S512x1024_o0_768_S512x128 bitsLt_bf16_f32 transposes_S512x128_p1_0_S128x512 _ _ x
  · exact fun x => va_piece m c t h _ (product_at m c t (stg1 t) (hstg1 t) scr (Memref.isWhole_whole _) _ _) 5 (by omega) slices_S512x1024_o0_640_S512x128 bitsLt_bf16_f32 transposes_S512x128_p1_0_S128x512 _ _ x
  · exact fun x => va_piece m c t h _ (product_at m c t (stg1 t) (hstg1 t) scr (Memref.isWhole_whole _) _ _) 4 (by omega) slices_S512x1024_o0_512_S512x128 bitsLt_bf16_f32 transposes_S512x128_p1_0_S128x512 _ _ x
  · exact fun x => va_piece m c t h _ (product_at m c t (stg1 t) (hstg1 t) scr (Memref.isWhole_whole _) _ _) 3 (by omega) slices_S512x1024_o0_384_S512x128 bitsLt_bf16_f32 transposes_S512x128_p1_0_S128x512 _ _ x
  · exact fun x => va_piece m c t h _ (product_at m c t (stg1 t) (hstg1 t) scr (Memref.isWhole_whole _) _ _) 2 (by omega) slices_S512x1024_o0_256_S512x128 bitsLt_bf16_f32 transposes_S512x128_p1_0_S128x512 _ _ x
  · exact fun x => va_piece m c t h _ (product_at m c t (stg1 t) (hstg1 t) scr (Memref.isWhole_whole _) _ _) 1 (by omega) slices_S512x1024_o0_128_S512x128 bitsLt_bf16_f32 transposes_S512x128_p1_0_S128x512 _ _ x
  · exact fun x => va_piece m c t h _ (product_at m c t (stg1 t) (hstg1 t) scr (Memref.isWhole_whole _) _ _) 0 (by omega) slices_S512x1024_o0_0_S512x128 bitsLt_bf16_f32 transposes_S512x128_p1_0_S128x512 _ _ x

theorem blk7 (t : Fin cfg0.N) : (((cfg0.win 7).blk t).view.read (Elt Ideal) (show Buf (Elt Ideal) ((cfg0.win 7).arr.view.loc (c.tc : Thread nD τ)) from Gva m c) : Vec Ideal S8x128x512 .bf16) = vaBlk m c t := by
  have hi := idx7 t
  funext z
  rw [View.read_apply]
  show Gva m c _ = _
  unfold Gva vaBlk
  refine congrArg₂ (proj m c) (Fin.ext ?_) (Fin.ext ?_)
  · show win0_7.index t 2 * 512 + 1 * (z 2).val = 512 * (t.val / 4) + (z 2).val
    rw [hi.2.2]; omega
  · show 3072 + 128 * (win0_7.index t 0 * 8 + 1 * (z 0).val) + (win0_7.index t 1 * 128 + 1 * (z 1).val) = 3072 + 128 * (z 0).val + (z 1).val
    rw [hi.1, hi.2.1]; omega

theorem blk7_cover (i : S8x128x32768.Idx) : ∃ t : Fin cfg0.N, (cfg0.win 7).flush t = true ∧ i ∈ ((cfg0.win 7).blk t).view.set := by
  have h0 : (i 0 : Nat) < 8 := (i 0).isLt
  have h1 : (i 1 : Nat) < 128 := (i 1).isLt
  have h2 : (i 2 : Nat) < 32768 := (i 2).isLt
  obtain ⟨t, ht⟩ : ∃ t : Fin cfg0.N, t.val = (i 2 : Nat) / 512 * 4 + 3 := ⟨⟨(i 2 : Nat) / 512 * 4 + 3, lt_of_lt_of_eq (by omega) N_0.symm⟩, rfl⟩
  refine ⟨t, (flush0_7 t).mpr (by omega), ?_⟩
  have hi := idx7 t
  show i ∈ ((View.whole main_v3_5).slice (win0_7.rect t)).set
  rw [View.set_slice_whole, Rect.mem_set_unit]
  intro a
  match a with
  | ⟨0, _⟩ =>
    show win0_7.index t 0 * 8 ≤ (i 0 : Nat) ∧ (i 0 : Nat) < win0_7.index t 0 * 8 + 8
    rw [hi.1]; omega
  | ⟨1, _⟩ =>
    show win0_7.index t 1 * 128 ≤ (i 1 : Nat) ∧ (i 1 : Nat) < win0_7.index t 1 * 128 + 128
    rw [hi.2.1]; omega
  | ⟨2, _⟩ =>
    show win0_7.index t 2 * 512 ≤ (i 2 : Nat) ∧ (i 2 : Nat) < win0_7.index t 2 * 512 + 512
    rw [hi.2.2]; omega

theorem vaBlk_pt (t : Fin cfg0.N) : vaBlk m c (pt 3 t) = vaBlk m c t := by
  have e : (pt 3 t).val / 4 = t.val / 4 := by rw [pt_val 3 (by omega)]; omega
  funext z
  unfold vaBlk
  refine congrArg₂ (proj m c) (Fin.ext ?_) rfl
  show 512 * ((pt 3 t).val / 4) + (z 2).val = 512 * (t.val / 4) + (z 2).val
  rw [e]

/-- The kernel's run: the results are the products, the arguments unchanged. -/
theorem value : θ_run defs (onTc (τ := τ) (main (F := Ideal))) ⟨m, fun _ => 0, ρ⟩ (fun r => ∀ c : Dev nD,
      r.2.mem ((c.tc : Thread nD τ).loc main_v3_0) = Gst m c
      ∧ r.2.mem ((c.tc : Thread nD τ).loc main_v3_1) = Gkey m c
      ∧ r.2.mem ((c.tc : Thread nD τ).loc main_v3_2) = Gval m c
      ∧ r.2.mem ((c.tc : Thread nD τ).loc main_v3_3) = Gkb m c
      ∧ r.2.mem ((c.tc : Thread nD τ).loc main_v3_4) = Gqa m c
      ∧ r.2.mem ((c.tc : Thread nD τ).loc main_v3_5) = Gva m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨after, hl, ha⟩ := h.1.exists_exact c
    refine ⟨(ha 2).trans (((rdat m c).withAfter after).arrAt_eq_of_cover 2 (Gst m c) (fun t ht => ?_) blk2_cover),
      (ha 3).trans (((rdat m c).withAfter after).arrAt_eq_of_cover 3 (Gkey m c) (fun t ht => ?_) blk3_cover),
      (ha 4).trans (((rdat m c).withAfter after).arrAt_eq_of_cover 4 (Gval m c) (fun t ht => ?_) blk4_cover),
      (ha 5).trans (((rdat m c).withAfter after).arrAt_eq_of_cover 5 (Gkb m c) (fun t ht => ?_) blk5_cover),
      (ha 6).trans (((rdat m c).withAfter after).arrAt_eq_of_cover 6 (Gqa m c) (fun t ht => ?_) blk6_cover),
      (ha 7).trans (((rdat m c).withAfter after).arrAt_eq_of_cover 7 (Gva m c) (fun t ht => ?_) blk7_cover),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩
    · have h3 := (flush0_2 t).mp ht
      have e : holds m c 2 t (after 2 t) := (dats m 0 c).toRRel_leaves rfl (hl 2 t ht)
      have e' : after 2 t = stOut m c (pt 0 t) := (show _ → _ from e) (by omega)
      show (cfg0.win 2).cut (grid0.coords t) (after 2 t) = _
      rw [e', stOut_at m c (pt 0 t) (by rw [pt_val 0 (by omega)]; omega), stBlk_pt]
      exact (blk2 m c t).symm
    · have h3 := (flush0_3 t).mp ht
      have e : holds m c 3 t (after 3 t) := (dats m 0 c).toRRel_leaves rfl (hl 3 t ht)
      have e' : after 3 t = keyOut m c (pt 2 t) := (show _ → _ from e) (by omega)
      show (cfg0.win 3).cut (grid0.coords t) (after 3 t) = _
      rw [e', keyOut_at m c (pt 2 t) (by rw [pt_val 2 (by omega)]; omega), keyBlk_pt]
      exact (blk3 m c t).symm
    · have h3 := (flush0_4 t).mp ht
      have e : holds m c 4 t (after 4 t) := (dats m 0 c).toRRel_leaves rfl (hl 4 t ht)
      have e' : after 4 t = valOut m c (pt 3 t) := (show _ → _ from e) (by omega)
      show (cfg0.win 4).cut (grid0.coords t) (after 4 t) = _
      rw [e', valOut_at m c (pt 3 t) (by rw [pt_val 3 (by omega)]; omega), valBlk_pt]
      exact (blk4 m c t).symm
    · have h3 := (flush0_5 t).mp ht
      have e : holds m c 5 t (after 5 t) := (dats m 0 c).toRRel_leaves rfl (hl 5 t ht)
      have e' : after 5 t = kbOut m c (pt 2 t) := (show _ → _ from e) (by omega)
      show (cfg0.win 5).cut (grid0.coords t) (after 5 t) = _
      rw [e', kbOut_at m c (pt 2 t) (by rw [pt_val 2 (by omega)]; omega), kbBlk_pt]
      exact (blk5 m c t).symm
    · have h3 := (flush0_6 t).mp ht
      have e : holds m c 6 t (after 6 t) := (dats m 0 c).toRRel_leaves rfl (hl 6 t ht)
      have e' : after 6 t = qaOut m c (pt 1 t) := (show _ → _ from e) (by omega)
      show (cfg0.win 6).cut (grid0.coords t) (after 6 t) = _
      rw [e', qaOut_at m c (pt 1 t) (by rw [pt_val 1 (by omega)]; omega), qaBlk_pt]
      exact (blk6 m c t).symm
    · have h3 := (flush0_7 t).mp ht
      have e : holds m c 7 t (after 7 t) := (dats m 0 c).toRRel_leaves rfl (hl 7 t ht)
      have e' : after 7 t = vaOut m c (pt 3 t) := (show _ → _ from e) (by omega)
      show (cfg0.win 7).cut (grid0.coords t) (after 7 t) = _
      rw [e', vaOut_at m c (pt 3 t) (by rw [pt_val 3 (by omega)]; omega), vaBlk_pt]
      exact (blk7 m c t).symm)
    (launch m ρ)

end Cert.Kernel2Ideal.Proj

end
-- ==== Proof.Proj.Ref.lean ====
/-
The reference of the projection call, read at an index: the same products.
-/
module

public import proofs.«01_k».proof.Proof.Proj.Whole
public import proofs.«01_k».proof.Proof.Gen.Reference2Ideal
public import proofs.«01_k».proof.Proof.Gen.Reference2Ideal.Run
public import proofs.«01_k».proof.Proof.Gen.Reference2Ideal.Read

@[expose] public section

set_option maxRecDepth 65536

noncomputable section

namespace Cert.Kernel2Ideal.Proj

open Idealize.ShloMosaic Idealize.ShloMosaic.TcCoe Idealize.ShloMosaic.Tactic Idealize.SL.Sem
open Cert.Kernel2Ideal Cert.Kernel2Ideal.Gen

variable (m : (ℓ : Loc nD τ sig) → Buf (Elt Ideal) ℓ) (ρ : Dev nD → PrngReg) (c : Dev nD)

theorem ref_st : Cert.Reference2Ideal.Read.val_main_v3 (F := Ideal) (m (c, Proc.tc.devRef main_arg0)) (m (c, Proc.tc.devRef main_arg1)) = Gst m c := by
  funext i
  have h0 : (i 0).val < 32768 := (i 0).isLt
  have h1 : (i 1).val < 1024 := (i 1).isLt
  rw [Cert.Reference2Ideal.Read.val_main_v3_apply, Cert.Reference2Ideal.Read.val_main_v2_apply, Cert.Reference2Ideal.Read.val_main_v1_apply]
  unfold Gst proj
  refine Finset.sum_congr rfl fun d _ => congrArg₂ (· * ·) ?_ ?_
  · unfold inp
    refine congrArg (m (c, Proc.tc.devRef main_arg0)) (funext fun a => Fin.ext ?_)
    match a with
    | ⟨0, _⟩ => show ((i 0).val * 1024 + (i 1).val) / 16777216 = (i 0).val / 16384; omega
    | ⟨1, _⟩ => show ((i 0).val * 1024 + (i 1).val) / 1024 % 16384 = (i 0).val % 16384; omega
    | ⟨2, _⟩ => rfl
  · rw [Cert.Reference2Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (((i 0).val * 1024 + (i 1).val) % 1024)) / 4096 % 2048 = d.val; omega
    | ⟨2, _⟩ => show (d.val * 4096 + (((i 0).val * 1024 + (i 1).val) % 1024)) % 4096 = 0 + (i 1).val; omega

theorem ref_key : Cert.Reference2Ideal.Read.val_main_v7 (F := Ideal) (m (c, Proc.tc.devRef main_arg0)) (m (c, Proc.tc.devRef main_arg1)) = Gkey m c := by
  funext i
  have h0 : (i 0).val < 32768 := (i 0).isLt
  have h1 : (i 1).val < 8 := (i 1).isLt
  have h2 : (i 2).val < 128 := (i 2).isLt
  rw [Cert.Reference2Ideal.Read.val_main_v7_apply, Cert.Reference2Ideal.Read.val_main_v6_apply, Cert.Reference2Ideal.Read.val_main_v1_apply]
  unfold Gkey proj
  refine Finset.sum_congr rfl fun d _ => congrArg₂ (· * ·) ?_ ?_
  · unfold inp
    refine congrArg (m (c, Proc.tc.devRef main_arg0)) (funext fun a => Fin.ext ?_)
    match a with
    | ⟨0, _⟩ => show (((i 0).val * 8 + (i 1).val) * 128 + (i 2).val) / 16777216 = (i 0).val / 16384; omega
    | ⟨1, _⟩ => show (((i 0).val * 8 + (i 1).val) * 128 + (i 2).val) / 1024 % 16384 = (i 0).val % 16384; omega
    | ⟨2, _⟩ => rfl
  · rw [Cert.Reference2Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (2048 + (((i 0).val * 8 + (i 1).val) * 128 + (i 2).val) % 1024)) / 4096 % 2048 = d.val; omega
    | ⟨2, _⟩ => show (d.val * 4096 + (2048 + (((i 0).val * 8 + (i 1).val) * 128 + (i 2).val) % 1024)) % 4096 = 2048 + 128 * (i 1).val + (i 2).val; omega

theorem ref_val : Cert.Reference2Ideal.Read.val_main_v9 (F := Ideal) (m (c, Proc.tc.devRef main_arg0)) (m (c, Proc.tc.devRef main_arg1)) = Gval m c := by
  funext i
  have h0 : (i 0).val < 32768 := (i 0).isLt
  have h1 : (i 1).val < 8 := (i 1).isLt
  have h2 : (i 2).val < 128 := (i 2).isLt
  rw [Cert.Reference2Ideal.Read.val_main_v9_apply, Cert.Reference2Ideal.Read.val_main_v8_apply, Cert.Reference2Ideal.Read.val_main_v1_apply]
  unfold Gval proj
  refine Finset.sum_congr rfl fun d _ => congrArg₂ (· * ·) ?_ ?_
  · unfold inp
    refine congrArg (m (c, Proc.tc.devRef main_arg0)) (funext fun a => Fin.ext ?_)
    match a with
    | ⟨0, _⟩ => show (((i 0).val * 8 + (i 1).val) * 128 + (i 2).val) / 16777216 = (i 0).val / 16384; omega
    | ⟨1, _⟩ => show (((i 0).val * 8 + (i 1).val) * 128 + (i 2).val) / 1024 % 16384 = (i 0).val % 16384; omega
    | ⟨2, _⟩ => rfl
  · rw [Cert.Reference2Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (3072 + (((i 0).val * 8 + (i 1).val) * 128 + (i 2).val) % 1024)) / 4096 % 2048 = d.val; omega
    | ⟨2, _⟩ => show (d.val * 4096 + (3072 + (((i 0).val * 8 + (i 1).val) * 128 + (i 2).val) % 1024)) % 4096 = 3072 + 128 * (i 1).val + (i 2).val; omega

theorem ref_kb : Cert.Reference2Ideal.Read.val_main_v12 (F := Ideal) (m (c, Proc.tc.devRef main_arg0)) (m (c, Proc.tc.devRef main_arg1)) = Gkb m c := by
  funext i
  have h0 : (i 0).val < 32768 := (i 0).isLt
  have h1 : (i 1).val < 1024 := (i 1).isLt
  rw [Cert.Reference2Ideal.Read.val_main_v12_apply]
  refine Eq.trans (?_ : _ = Cert.Reference2Ideal.Read.val_main_v11 (F := Ideal) (m (c, Proc.tc.devRef main_arg0)) (m (c, Proc.tc.devRef main_arg1)) i) ?_
  · rfl
  rw [Cert.Reference2Ideal.Read.val_main_v11_apply, Cert.Reference2Ideal.Read.val_main_v10_apply, Cert.Reference2Ideal.Read.val_main_v1_apply]
  unfold Gkb proj
  refine Finset.sum_congr rfl fun d _ => congrArg₂ (· * ·) ?_ ?_
  · unfold inp
    refine congrArg (m (c, Proc.tc.devRef main_arg0)) (funext fun a => Fin.ext ?_)
    match a with
    | ⟨0, _⟩ => show ((i 0).val * 1024 + (i 1).val) / 16777216 = (i 0).val / 16384; omega
    | ⟨1, _⟩ => show ((i 0).val * 1024 + (i 1).val) / 1024 % 16384 = (i 0).val % 16384; omega
    | ⟨2, _⟩ => rfl
  · rw [Cert.Reference2Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (2048 + ((i 0).val * 1024 + (i 1).val) % 1024)) / 4096 % 2048 = d.val; omega
    | ⟨2, _⟩ => show (d.val * 4096 + (2048 + ((i 0).val * 1024 + (i 1).val) % 1024)) % 4096 = 2048 + (i 1).val; omega

/-- The reference's query columns before scaling. -/
theorem ref_query (i : S32768x8x128.Idx) : Cert.Reference2Ideal.Read.val_main_v5 (F := Ideal) (m (c, Proc.tc.devRef main_arg0)) (m (c, Proc.tc.devRef main_arg1)) i =
    proj m c ⟨(i 0).val, (i 0).isLt⟩ ⟨1024 + 128 * (i 1).val + (i 2).val, by have h1 : (i 1).val < 8 := (i 1).isLt; have h2 : (i 2).val < 128 := (i 2).isLt; omega⟩ := by
  have h0 : (i 0).val < 32768 := (i 0).isLt
  have h1 : (i 1).val < 8 := (i 1).isLt
  have h2 : (i 2).val < 128 := (i 2).isLt
  rw [Cert.Reference2Ideal.Read.val_main_v5_apply, Cert.Reference2Ideal.Read.val_main_v4_apply, Cert.Reference2Ideal.Read.val_main_v1_apply]
  unfold proj
  refine Finset.sum_congr rfl fun d _ => congrArg₂ (· * ·) ?_ ?_
  · unfold inp
    refine congrArg (m (c, Proc.tc.devRef main_arg0)) (funext fun a => Fin.ext ?_)
    match a with
    | ⟨0, _⟩ => show (((i 0).val * 8 + (i 1).val) * 128 + (i 2).val) / 16777216 = (i 0).val / 16384; omega
    | ⟨1, _⟩ => show (((i 0).val * 8 + (i 1).val) * 128 + (i 2).val) / 1024 % 16384 = (i 0).val % 16384; omega
    | ⟨2, _⟩ => rfl
  · rw [Cert.Reference2Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (1024 + (((i 0).val * 8 + (i 1).val) * 128 + (i 2).val) % 1024)) / 4096 % 2048 = d.val; omega
    | ⟨2, _⟩ => show (d.val * 4096 + (1024 + (((i 0).val * 8 + (i 1).val) * 128 + (i 2).val) % 1024)) % 4096 = 1024 + 128 * (i 1).val + (i 2).val; omega

theorem ref_qa : Cert.Reference2Ideal.Read.val_main_v18 (F := Ideal) (m (c, Proc.tc.devRef main_arg0)) (m (c, Proc.tc.devRef main_arg1)) = Gqa m c := by
  funext i
  rw [Cert.Reference2Ideal.Read.val_main_v18_apply, Cert.Reference2Ideal.Read.val_main_v17_apply, Cert.Reference2Ideal.Read.val_main_v16_apply, Cert.Reference2Ideal.Read.val_main_v14_apply, Cert.Reference2Ideal.Read.val_main_v13_apply, Cert.Reference2Ideal.Read.val_main_v15_apply, Cert.Reference2Ideal.Read.val_main_cst_apply, Cert.Reference2Ideal.Read.val_main_cst_0_apply, ref_query]
  rfl

theorem ref_va : Cert.Reference2Ideal.Read.val_main_v20 (F := Ideal) (m (c, Proc.tc.devRef main_arg0)) (m (c, Proc.tc.devRef main_arg1)) = Gva m c := by
  funext i
  rw [Cert.Reference2Ideal.Read.val_main_v20_apply, Cert.Reference2Ideal.Read.val_main_v19_apply, ref_val]
  rfl

end Cert.Kernel2Ideal.Proj

end
-- ==== Proof.Proj3.Setup.lean ====
/-
What the runs of the projection body of the sample share: its four conditions, the staging memrefs at a point and the scratch buffer.
-/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel3Ideal.Gen

variable {F : FTy → Type} [FloatOps F]

local notation "𝕄" => MT nD τ sig Unit (Elt F) ℕ (UR sig nD τ) ℕ

/-- The first branch, at column block 0: the rows are cast into the scratch buffer. -/
abbrev cond1 (i : grid0.Coords) : Prop :=
  Scalar.cmpi .ne (Scalar.extui (Scalar.cmpi .eq (BitVec.ofNat 32 (i 1).val) 0#32) : BitVec 32) 0#32 = 1#1
/-- The branch of column block 0. -/
abbrev cond2 (i : grid0.Coords) : Prop := k0_cond2 i = 1#1
/-- The branch of column block 1. -/
abbrev cond3 (i : grid0.Coords) : Prop := k0_cond3 i = 1#1
/-- The branch of column block 2. -/
abbrev cond4 (i : grid0.Coords) : Prop := k0_cond4 i = 1#1
/-- The branch of column block 3. -/
abbrev cond5 (i : grid0.Coords) : Prop := k0_cond5 i = 1#1

theorem cond1_iff : ∀ t : Fin cfg0.N, cond1 (grid0.coords t) ↔ t.val % 4 = 0 :=
  (by decide +kernel : ∀ t : Fin grid0.N, cond1 (grid0.coords t) ↔ t.val % 4 = 0)
theorem cond2_iff : ∀ t : Fin cfg0.N, cond2 (grid0.coords t) ↔ t.val % 4 = 0 :=
  (by decide +kernel : ∀ t : Fin grid0.N, cond2 (grid0.coords t) ↔ t.val % 4 = 0)
theorem cond3_iff : ∀ t : Fin cfg0.N, cond3 (grid0.coords t) ↔ t.val % 4 = 1 :=
  (by decide +kernel : ∀ t : Fin grid0.N, cond3 (grid0.coords t) ↔ t.val % 4 = 1)
theorem cond4_iff : ∀ t : Fin cfg0.N, cond4 (grid0.coords t) ↔ t.val % 4 = 2 :=
  (by decide +kernel : ∀ t : Fin grid0.N, cond4 (grid0.coords t) ↔ t.val % 4 = 2)
theorem cond5_iff : ∀ t : Fin cfg0.N, cond5 (grid0.coords t) ↔ t.val % 4 = 3 :=
  (by decide +kernel : ∀ t : Fin grid0.N, cond5 (grid0.coords t) ↔ t.val % 4 = 3)
/-- Window 0's staging memref at a point. -/
abbrev stg0 (t : Fin cfg0.N) : Memref sig .tc .vmem S512x2048 .f32 := win0_0.stage (cfg0.slots t 0)
/-- It is a whole buffer. -/
abbrev hstg0 (t : Fin cfg0.N) : (stg0 t).IsWhole := hstage0_0 ((cfg0.slots t 0).cast nbuf0_0)
/-- Window 1's staging memref at a point. -/
abbrev stg1 (t : Fin cfg0.N) : Memref sig .tc .vmem S2048x4096 .bf16 := win0_1.stage (cfg0.slots t 1)
/-- It is a whole buffer. -/
abbrev hstg1 (t : Fin cfg0.N) : (stg1 t).IsWhole := hstage0_1 ((cfg0.slots t 1).cast nbuf0_1)
/-- Window 2's staging memref at a point. -/
abbrev stg2 (t : Fin cfg0.N) : Memref sig .tc .vmem S512x1024 .f32 := win0_2.stage (cfg0.slots t 2)
/-- It is a whole buffer. -/
abbrev hstg2 (t : Fin cfg0.N) : (stg2 t).IsWhole := hstage0_2 ((cfg0.slots t 2).cast nbuf0_2)
/-- Window 3's staging memref at a point. -/
abbrev stg3 (t : Fin cfg0.N) : Memref sig .tc .vmem S512x8x128 .f32 := win0_3.stage (cfg0.slots t 3)
/-- It is a whole buffer. -/
abbrev hstg3 (t : Fin cfg0.N) : (stg3 t).IsWhole := hstage0_3 ((cfg0.slots t 3).cast nbuf0_3)
/-- Window 4's staging memref at a point. -/
abbrev stg4 (t : Fin cfg0.N) : Memref sig .tc .vmem S512x8x128 .f32 := win0_4.stage (cfg0.slots t 4)
/-- It is a whole buffer. -/
abbrev hstg4 (t : Fin cfg0.N) : (stg4 t).IsWhole := hstage0_4 ((cfg0.slots t 4).cast nbuf0_4)
/-- Window 5's staging memref at a point. -/
abbrev stg5 (t : Fin cfg0.N) : Memref sig .tc .vmem S512x1024 .bf16 := win0_5.stage (cfg0.slots t 5)
/-- It is a whole buffer. -/
abbrev hstg5 (t : Fin cfg0.N) : (stg5 t).IsWhole := hstage0_5 ((cfg0.slots t 5).cast nbuf0_5)
/-- Window 6's staging memref at a point. -/
abbrev stg6 (t : Fin cfg0.N) : Memref sig .tc .vmem S512x1024 .bf16 := win0_6.stage (cfg0.slots t 6)
/-- It is a whole buffer. -/
abbrev hstg6 (t : Fin cfg0.N) : (stg6 t).IsWhole := hstage0_6 ((cfg0.slots t 6).cast nbuf0_6)
/-- Window 7's staging memref at a point. -/
abbrev stg7 (t : Fin cfg0.N) : Memref sig .tc .vmem S512x1024 .bf16 := win0_7.stage (cfg0.slots t 7)
/-- It is a whole buffer. -/
abbrev hstg7 (t : Fin cfg0.N) : (stg7 t).IsWhole := hstage0_7 ((cfg0.slots t 7).cast nbuf0_7)
/-- The scratch buffer. -/
abbrev scr : Memref sig .tc .vmem S512x2048 .bf16 := Memref.whole cc0_scratch0

/-- The region's own state at entry and exit: the scratch buffer at some contents, beside the generator register. -/
theorem PhiA_eq (c : Dev nD) :
    (Pipeline.ΦA spec0 c : sProp 𝕄)
      = iprop((∃ d, owns (c : Thread nD τ) scr fullShare d) ∗ (∃ r, prngReg c r)) := by
  unfold Pipeline.ΦA; rw [scopedRest0_eq]; simp only [scr, owns_whole]; try rfl

end Cert.Kernel3Ideal.Proj

end
-- ==== Proof.Proj3.RunA.lean ====
/-
The projection body of the sample at one kind of grid point.
-/
module

public import proofs.«01_k».proof.Proof.Proj3.Setup

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel3Ideal.Gen

variable {F : FTy → Type} [FloatOps F]

local notation "𝕄" => MT nD τ sig Unit (Elt F) ℕ (UR sig nD τ) ℕ

set_option maxHeartbeats 4000000 in
/-- At column block 0: the body casts its rows into the scratch buffer, and stores the first columns of the product, by the pieces `L`. -/
noncomputable def runA (c : Dev nD) (i : grid0.Coords) (arg2 : Memref sig .tc .vmem S512x2048 .f32) (harg2 : arg2.IsWhole) (arg3 : Memref sig .tc .vmem S2048x4096 .bf16) (harg3 : arg3.IsWhole) (arg4 : Memref sig .tc .vmem S512x1024 .f32) (harg4 : arg4.IsWhole) (arg5 : Memref sig .tc .vmem S512x8x128 .f32) (harg5 : arg5.IsWhole) (arg6 : Memref sig .tc .vmem S512x8x128 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x2048 .bf16) (harg10 : arg10.IsWhole) (h1 : cond1 i) (h2 : cond2 i) (h3 : ¬cond3 i) (h4 : ¬cond4 i) (h5 : ¬cond5 i)
    (x0 : Vec F S512x2048 .f32) (x1 : Vec F S2048x4096 .bf16) :
    { L : List (View.Piece (Elt F) S512x2048 .bf16) × List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg10 fullShare d) ∗ (∃ d, owns (c : Thread nD τ) arg4 fullShare d)
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f L.1) ∗ (∃ f, arg4.view.loc (c : Thread nD τ) ↦[arg4.view.set]{fullShare} arg4.view.writes (Elt F) f L.2)) -∗ K ⟨⟩))
          ⊢ wp frame (wpE (defs₀ (F := F)) Variants.none c none) E (cc0__in_proj_kernel i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__in_proj_kernel_eq_skeleton]; unfold cc0__in_proj_kernel_skel
    skip
    unfold owns
    iintro ⟨⟨%f2, %hf2, H2⟩, ⟨%f3, %hf3, H3⟩, ⟨%d10, %f10, -, H10⟩, ⟨%d4, %f4, -, H4⟩, Hk⟩
    obtain rfl := harg2.eq_unread hf2; obtain rfl := harg3.eq_unread hf3
    sl_exec (disch := first | sl_exact h1 | sl_exact h2 | sl_exact h3 | sl_exact h4 | sl_exact h5)
    sl_step
    iapply Hk
    isplitl [H2]
    · iexists _; isplitr; · ipureintro; exact harg2.read_unread _
      iexact H2
    isplitl [H3]
    · iexists _; isplitr; · ipureintro; exact harg3.read_unread _
      iexact H3
    isplitl [H10]
    · iexists _; iexact H10
    iexists _; iexact H4

end Cert.Kernel3Ideal.Proj

end
-- ==== Proof.Proj3.RunB.lean ====
/-
The projection body of the sample at one kind of grid point.
-/
module

public import proofs.«01_k».proof.Proof.Proj3.Setup

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel3Ideal.Gen

variable {F : FTy → Type} [FloatOps F]

local notation "𝕄" => MT nD τ sig Unit (Elt F) ℕ (UR sig nD τ) ℕ

set_option maxHeartbeats 4000000 in
/-- At column block 1: the body stores the scaled columns of the queries, by the pieces `L`. -/
noncomputable def runB (c : Dev nD) (i : grid0.Coords) (arg2 : Memref sig .tc .vmem S512x2048 .f32) (harg2 : arg2.IsWhole) (arg3 : Memref sig .tc .vmem S2048x4096 .bf16) (harg3 : arg3.IsWhole) (arg4 : Memref sig .tc .vmem S512x1024 .f32) (harg4 : arg4.IsWhole) (arg5 : Memref sig .tc .vmem S512x8x128 .f32) (harg5 : arg5.IsWhole) (arg6 : Memref sig .tc .vmem S512x8x128 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x2048 .bf16) (harg10 : arg10.IsWhole) (h1 : ¬cond1 i) (h2 : ¬cond2 i) (h3 : cond3 i) (h4 : ¬cond4 i) (h5 : ¬cond5 i)
    (x1 : Vec F S2048x4096 .bf16) (xb : Vec F S512x2048 .bf16) :
    { L : List (View.Piece (Elt F) S512x1024 .bf16) //
      ∀ (E : Set ℕ) (K : PUnit → sProp 𝕄),
        iprop(owns (c : Thread nD τ) arg3 fullShare x1 ∗ owns (c : Thread nD τ) arg10 fullShare xb ∗ (∃ d, owns (c : Thread nD τ) arg8 fullShare d)
            ∗ (iprop(owns (c : Thread nD τ) arg3 fullShare x1 ∗ owns (c : Thread nD τ) arg10 fullShare xb ∗ (∃ f, arg8.view.loc (c : Thread nD τ) ↦[arg8.view.set]{fullShare} arg8.view.writes (Elt F) f L)) -∗ K ⟨⟩))
          ⊢ wp frame (wpE (defs₀ (F := F)) Variants.none c none) E (cc0__in_proj_kernel i arg2 harg2 arg3 harg3 arg4 harg4 arg5 harg5 arg6 harg6 arg7 harg7 arg8 harg8 arg9 harg9 arg10 harg10) K } := by
  refine ⟨?_, fun E K => ?run⟩
  case run =>
    simp only [cc0__in_proj_kernel_eq_skeleton]; unfold cc0__in_proj_kernel_skel
    skip
    unfold owns
    iintro ⟨⟨%f3, %hf3, H3⟩, ⟨%f10, %hf10, H10⟩, ⟨%d8, %f8, -, H8⟩, Hk⟩
    obtain rfl := harg3.eq_unread hf3; obtain rfl := harg10.eq_unread hf10
    sl_exec (disch := first | sl_exact h1 | sl_exact h2 | sl_exact h3 | sl_exact h4 | sl_exact h5)
    sl_step
    iapply Hk
    isplitl [H3]
    · iexists _; isplitr; · ipureintro; exact harg3.read_unread _
      iexact H3
    isplitl [H10]
    · iexists _; isplitr; · ipureintro; exact harg10.read_unread _
      iexact H10
    iexists _; iexact H8

end Cert.Kernel3Ideal.Proj

end
-- ==== Proof.Proj3.RunC.lean ====
/-
The projection body of the sample at one kind of grid point.
-/
module

public import proofs.«01_k».proof.Proof.Proj3.Setup

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel3Ideal.Gen

variable {F : FTy → Type} [FloatOps F]

local notation "𝕄" => MT nD τ sig Unit (Elt F) ℕ (UR sig nD τ) ℕ

set_option maxHeartbeats 4000000 in
/-- At column block 2: the body stores the keys and their cast, by the pieces `L`. -/
noncomputable def runC (c : Dev nD) (i : grid0.Coords) (arg2 : Memref sig .tc .vmem S512x2048 .f32) (harg2 : arg2.IsWhole) (arg3 : Memref sig .tc .vmem S2048x4096 .bf16) (harg3 : arg3.IsWhole) (arg4 : Memref sig .tc .vmem S512x1024 .f32) (harg4 : arg4.IsWhole) (arg5 : Memref sig .tc .vmem S512x8x128 .f32) (harg5 : arg5.IsWhole) (arg6 : Memref sig .tc .vmem S512x8x128 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x2048 .bf16) (harg10 : arg10.IsWhole) (h1 : ¬cond1 i) (h2 : ¬cond2 i) (h3 : ¬cond3 i) (h4 : cond4 i) (h5 : ¬cond5 i)
    (x1 : Vec F S2048x4096 .bf16) (xb : Vec F S512x2048 .bf16) :
    { L : List (View.Piece (Elt F) S512x8x128 .f32) × List (View.Piece (Elt F) S512x1024 .bf16) //
      ∀ (E : Set ℕ) (K : PUnit → sProp 𝕄),
        iprop(owns (c : Thread nD τ) arg3 fullShare x1 ∗ owns (c : Thread nD τ) arg10 fullShare xb ∗ (∃ d, owns (c : Thread nD τ) arg5 fullShare d) ∗ (∃ d, owns (c : Thread nD τ) arg7 fullShare d)
            ∗ (iprop(owns (c : Thread nD τ) arg3 fullShare x1 ∗ owns (c : Thread nD τ) arg10 fullShare xb ∗ (∃ f, arg5.view.loc (c : Thread nD τ) ↦[arg5.view.set]{fullShare} arg5.view.writes (Elt F) f L.1) ∗ (∃ f, arg7.view.loc (c : Thread nD τ) ↦[arg7.view.set]{fullShare} arg7.view.writes (Elt F) f L.2)) -∗ K ⟨⟩))
          ⊢ wp frame (wpE (defs₀ (F := F)) Variants.none c none) E (cc0__in_proj_kernel i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__in_proj_kernel_eq_skeleton]; unfold cc0__in_proj_kernel_skel
    simp only [k0_part1_eq_skeleton]
    unfold owns
    iintro ⟨⟨%f3, %hf3, H3⟩, ⟨%f10, %hf10, H10⟩, ⟨%d5, %f5, -, H5⟩, ⟨%d7, %f7, -, H7⟩, Hk⟩
    obtain rfl := harg3.eq_unread hf3; obtain rfl := harg10.eq_unread hf10
    sl_exec (disch := first | sl_exact h1 | sl_exact h2 | sl_exact h3 | sl_exact h4 | sl_exact h5)
    sl_step
    iapply Hk
    isplitl [H3]
    · iexists _; isplitr; · ipureintro; exact harg3.read_unread _
      iexact H3
    isplitl [H10]
    · iexists _; isplitr; · ipureintro; exact harg10.read_unread _
      iexact H10
    isplitl [H5]
    · iexists _; iexact H5
    iexists _; iexact H7

end Cert.Kernel3Ideal.Proj

end
-- ==== Proof.Proj3.RunD.lean ====
/-
The projection body of the sample at one kind of grid point.
-/
module

public import proofs.«01_k».proof.Proof.Proj3.Setup

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel3Ideal.Gen

variable {F : FTy → Type} [FloatOps F]

local notation "𝕄" => MT nD τ sig Unit (Elt F) ℕ (UR sig nD τ) ℕ

set_option maxHeartbeats 4000000 in
/-- At column block 3: the body stores the values and their cast, by the pieces `L`. -/
noncomputable def runD (c : Dev nD) (i : grid0.Coords) (arg2 : Memref sig .tc .vmem S512x2048 .f32) (harg2 : arg2.IsWhole) (arg3 : Memref sig .tc .vmem S2048x4096 .bf16) (harg3 : arg3.IsWhole) (arg4 : Memref sig .tc .vmem S512x1024 .f32) (harg4 : arg4.IsWhole) (arg5 : Memref sig .tc .vmem S512x8x128 .f32) (harg5 : arg5.IsWhole) (arg6 : Memref sig .tc .vmem S512x8x128 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x2048 .bf16) (harg10 : arg10.IsWhole) (h1 : ¬cond1 i) (h2 : ¬cond2 i) (h3 : ¬cond3 i) (h4 : ¬cond4 i) (h5 : cond5 i)
    (x1 : Vec F S2048x4096 .bf16) (xb : Vec F S512x2048 .bf16) :
    { L : List (View.Piece (Elt F) S512x8x128 .f32) × List (View.Piece (Elt F) S512x1024 .bf16) //
      ∀ (E : Set ℕ) (K : PUnit → sProp 𝕄),
        iprop(owns (c : Thread nD τ) arg3 fullShare x1 ∗ owns (c : Thread nD τ) arg10 fullShare xb ∗ (∃ d, owns (c : Thread nD τ) arg6 fullShare d) ∗ (∃ d, owns (c : Thread nD τ) arg9 fullShare d)
            ∗ (iprop(owns (c : Thread nD τ) arg3 fullShare x1 ∗ owns (c : Thread nD τ) arg10 fullShare xb ∗ (∃ f, arg6.view.loc (c : Thread nD τ) ↦[arg6.view.set]{fullShare} arg6.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0__in_proj_kernel i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__in_proj_kernel_eq_skeleton]; unfold cc0__in_proj_kernel_skel
    simp only [k0_part2_eq_skeleton]
    unfold owns
    iintro ⟨⟨%f3, %hf3, H3⟩, ⟨%f10, %hf10, H10⟩, ⟨%d6, %f6, -, H6⟩, ⟨%d9, %f9, -, H9⟩, Hk⟩
    obtain rfl := harg3.eq_unread hf3; obtain rfl := harg10.eq_unread hf10
    sl_exec (disch := first | sl_exact h1 | sl_exact h2 | sl_exact h3 | sl_exact h4 | sl_exact h5)
    sl_step
    iapply Hk
    isplitl [H3]
    · iexists _; isplitr; · ipureintro; exact harg3.read_unread _
      iexact H3
    isplitl [H10]
    · iexists _; isplitr; · ipureintro; exact harg10.read_unread _
      iexact H10
    isplitl [H6]
    · iexists _; iexact H6
    iexists _; iexact H9

end Cert.Kernel3Ideal.Proj

end
-- ==== Proof.Proj3.Frame.lean ====
/-
The frame of the projection call: the body at any grid point, the launch, and the argument arrays unchanged.
The body theorem also names what the output blocks hold, for the value proof.
-/
module

public import proofs.«01_k».proof.Proof.Proj3.RunA
public import proofs.«01_k».proof.Proof.Proj3.RunB
public import proofs.«01_k».proof.Proof.Proj3.RunC
public import proofs.«01_k».proof.Proof.Proj3.RunD
public import Idealize.ShloMosaic.Lib.VecWindow

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose BodyObligationRel cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 4 := N_0 ▸ t.isLt

/-- The rows of point `t`, cast: what the scratch buffer holds from the point's first column block on. -/
def castRows (c : Dev nD) (t : Fin cfg0.N) : Vec F S512x2048 .bf16 := k0_pay1 (iblk m c 0 t)

/-- The block of rows does not depend on the column block. -/
theorem castRows_congr (c : Dev nD) (t t' : Fin cfg0.N) (h : t.val / 4 = t'.val / 4) : castRows m c t = castRows m c t' := by
  have hi : ∀ t : Fin cfg0.N, win0_0.index t 0 = t.val / 4 ∧ win0_0.index t 1 = 0 :=
    (by decide +kernel : ∀ t : Fin grid0.N, win0_0.index t 0 = t.val / 4 ∧ win0_0.index t 1 = 0)
  unfold castRows
  refine congrArg k0_pay1 (funext fun i => ?_)
  unfold iblk
  rw [View.read_apply, View.read_apply]
  show V m c main_v0 _ = V m c main_v0 _
  refine congrArg (V m c main_v0) (funext fun a => Fin.ext ?_)
  match a with
  | ⟨0, _⟩ => show win0_0.index t 0 * 512 + 1 * (i 0).val = win0_0.index t' 0 * 512 + 1 * (i 0).val; rw [(hi t).1, (hi t').1, h]
  | ⟨1, _⟩ => show win0_0.index t 1 * 2048 + 1 * (i 1).val = win0_0.index t' 1 * 2048 + 1 * (i 1).val; rw [(hi t).2, (hi t').2]

/-- The pieces the first run stores into the scratch buffer at point `t`. -/
def rowPieces (c : Dev nD) (t : Fin cfg0.N) (h : t.val % 4 = 0) : List (View.Piece (Elt F) S512x2048 .bf16) :=
  (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) ((cond1_iff t).mpr h) ((cond2_iff t).mpr h) (fun h' => absurd ((cond3_iff t).mp h') (by omega)) (fun h' => absurd ((cond4_iff t).mp h') (by omega)) (fun h' => absurd ((cond5_iff t).mp h') (by omega)) (iblk m c 0 t) (iblk m c 1 t)).1.1

/-- They leave the cast rows there. -/
theorem rowPieces_read (c : Dev nD) (t : Fin cfg0.N) (h : t.val % 4 = 0) (f : scr.view.ty.Contents (Elt F)) :
    scr.view.read (Elt F) (scr.view.writes (Elt F) f (rowPieces m c t h)) = castRows m c t := by
  unfold rowPieces
  dsimp only [runA]
  refine (View.read_writes_full _ _ _ _ _).trans ?_
  unfold castRows
  refine congrArg k0_pay1 ?_
  exact (View.readAt_full _ _ _).trans ((hstg0 t).read_unread _)

/-- The pieces the run at column block 0 stores into the window of the state-space inputs at point `t`. -/
def stPieces (c : Dev nD) (t : Fin cfg0.N) (h : t.val % 4 = 0) : List (View.Piece (Elt F) S512x1024 .f32) :=
  (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) ((cond1_iff t).mpr h) ((cond2_iff t).mpr h) (fun h' => absurd ((cond3_iff t).mp h') (by omega)) (fun h' => absurd ((cond4_iff t).mp h') (by omega)) (fun h' => absurd ((cond5_iff t).mp h') (by omega)) (iblk m c 0 t) (iblk m c 1 t)).1.2

/-- They cover the block. -/
theorem stPieces_cover (c : Dev nD) (t : Fin cfg0.N) (h : t.val % 4 = 0) (z : S512x1024.Idx) : ∃ pc ∈ stPieces m c t h, z ∈ pc.1.set :=
  View.cover_of_tiledL (runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) ((cond1_iff t).mpr h) ((cond2_iff t).mpr h) (fun h' => absurd ((cond3_iff t).mp h') (by omega)) (fun h' => absurd ((cond4_iff t).mp h') (by omega)) (fun h' => absurd ((cond5_iff t).mp h') (by omega)) (iblk m c 0 t) (iblk m c 1 t)).1.2 ![512, 1024] (by sl_kernel_rfl) z

/-- One staging buffer of the window. -/
abbrev stView : View sig .tc .vmem S512x1024 .f32 := (Memref.whole cc0_stg2_0 : Memref sig .tc .vmem S512x1024 .f32).view

/-- What the body leaves there. -/
def stOut (c : Dev nD) (t : Fin cfg0.N) : Vec F S512x1024 .f32 :=
  if h : t.val % 4 = 0 then stView.read (Elt F) (stView.writes (Elt F) stView.junk (stPieces m c t h))
  else stView.read (Elt F) stView.junk

/-- The pieces the run at column block 2 stores into the window of the keys at point `t`. -/
def keyPieces (c : Dev nD) (t : Fin cfg0.N) (h : t.val % 4 = 2) : List (View.Piece (Elt F) S512x8x128 .f32) :=
  (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).1.1

/-- They cover the block. -/
theorem keyPieces_cover (c : Dev nD) (t : Fin cfg0.N) (h : t.val % 4 = 2) (z : S512x8x128.Idx) : ∃ pc ∈ keyPieces m c t h, z ∈ pc.1.set :=
  View.cover_of_tiledL (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).1.1 ![512, 1, 128] (by sl_kernel_rfl) z

/-- One staging buffer of the window. -/
abbrev keyView : View sig .tc .vmem S512x8x128 .f32 := (Memref.whole cc0_stg3_0 : Memref sig .tc .vmem S512x8x128 .f32).view

/-- What the body leaves there. -/
def keyOut (c : Dev nD) (t : Fin cfg0.N) : Vec F S512x8x128 .f32 :=
  if h : t.val % 4 = 2 then keyView.read (Elt F) (keyView.writes (Elt F) keyView.junk (keyPieces m c t h))
  else keyView.read (Elt F) keyView.junk

/-- The pieces the run at column block 3 stores into the window of the values at point `t`. -/
def valPieces (c : Dev nD) (t : Fin cfg0.N) (h : t.val % 4 = 3) : List (View.Piece (Elt F) S512x8x128 .f32) :=
  (runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).1.1

/-- They cover the block. -/
theorem valPieces_cover (c : Dev nD) (t : Fin cfg0.N) (h : t.val % 4 = 3) (z : S512x8x128.Idx) : ∃ pc ∈ valPieces m c t h, z ∈ pc.1.set :=
  View.cover_of_tiledL (runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).1.1 ![512, 1, 128] (by sl_kernel_rfl) z

/-- One staging buffer of the window. -/
abbrev valView : View sig .tc .vmem S512x8x128 .f32 := (Memref.whole cc0_stg4_0 : Memref sig .tc .vmem S512x8x128 .f32).view

/-- What the body leaves there. -/
def valOut (c : Dev nD) (t : Fin cfg0.N) : Vec F S512x8x128 .f32 :=
  if h : t.val % 4 = 3 then valView.read (Elt F) (valView.writes (Elt F) valView.junk (valPieces m c t h))
  else valView.read (Elt F) valView.junk

/-- The pieces the run at column block 2 stores into the window of the cast keys at point `t`. -/
def kbPieces (c : Dev nD) (t : Fin cfg0.N) (h : t.val % 4 = 2) : List (View.Piece (Elt F) S512x1024 .bf16) :=
  (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).1.2

/-- They cover the block. -/
theorem kbPieces_cover (c : Dev nD) (t : Fin cfg0.N) (h : t.val % 4 = 2) (z : S512x1024.Idx) : ∃ pc ∈ kbPieces m c t h, z ∈ pc.1.set :=
  View.cover_of_tiledL (runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).1.2 ![512, 1024] (by sl_kernel_rfl) z

/-- One staging buffer of the window. -/
abbrev kbView : View sig .tc .vmem S512x1024 .bf16 := (Memref.whole cc0_stg5_0 : Memref sig .tc .vmem S512x1024 .bf16).view

/-- What the body leaves there. -/
def kbOut (c : Dev nD) (t : Fin cfg0.N) : Vec F S512x1024 .bf16 :=
  if h : t.val % 4 = 2 then kbView.read (Elt F) (kbView.writes (Elt F) kbView.junk (kbPieces m c t h))
  else kbView.read (Elt F) kbView.junk

/-- The pieces the run at column block 1 stores into the window of the scaled queries at point `t`. -/
def qaPieces (c : Dev nD) (t : Fin cfg0.N) (h : t.val % 4 = 1) : List (View.Piece (Elt F) S512x1024 .bf16) :=
  (runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) ((cond3_iff t).mpr h) (fun h' => absurd ((cond4_iff t).mp h') (by omega)) (fun h' => absurd ((cond5_iff t).mp h') (by omega)) (iblk m c 1 t) (castRows m c t)).1

/-- They cover the block. -/
theorem qaPieces_cover (c : Dev nD) (t : Fin cfg0.N) (h : t.val % 4 = 1) (z : S512x1024.Idx) : ∃ pc ∈ qaPieces m c t h, z ∈ pc.1.set :=
  View.cover_of_tiledL (runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) ((cond3_iff t).mpr h) (fun h' => absurd ((cond4_iff t).mp h') (by omega)) (fun h' => absurd ((cond5_iff t).mp h') (by omega)) (iblk m c 1 t) (castRows m c t)).1 ![512, 1024] (by sl_kernel_rfl) z

/-- One staging buffer of the window. -/
abbrev qaView : View sig .tc .vmem S512x1024 .bf16 := (Memref.whole cc0_stg6_0 : Memref sig .tc .vmem S512x1024 .bf16).view

/-- What the body leaves there. -/
def qaOut (c : Dev nD) (t : Fin cfg0.N) : Vec F S512x1024 .bf16 :=
  if h : t.val % 4 = 1 then qaView.read (Elt F) (qaView.writes (Elt F) qaView.junk (qaPieces m c t h))
  else qaView.read (Elt F) qaView.junk

/-- The pieces the run at column block 3 stores into the window of the cast values at point `t`. -/
def vaPieces (c : Dev nD) (t : Fin cfg0.N) (h : t.val % 4 = 3) : List (View.Piece (Elt F) S512x1024 .bf16) :=
  (runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).1.2

/-- They cover the block. -/
theorem vaPieces_cover (c : Dev nD) (t : Fin cfg0.N) (h : t.val % 4 = 3) (z : S512x1024.Idx) : ∃ pc ∈ vaPieces m c t h, z ∈ pc.1.set :=
  View.cover_of_tiledL (runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).1.2 ![512, 1024] (by sl_kernel_rfl) z

/-- One staging buffer of the window. -/
abbrev vaView : View sig .tc .vmem S512x1024 .bf16 := (Memref.whole cc0_stg7_0 : Memref sig .tc .vmem S512x1024 .bf16).view

/-- What the body leaves there. -/
def vaOut (c : Dev nD) (t : Fin cfg0.N) : Vec F S512x1024 .bf16 :=
  if h : t.val % 4 = 3 then vaView.read (Elt F) (vaView.writes (Elt F) vaView.junk (vaPieces m c t h))
  else vaView.read (Elt F) vaView.junk

/-- The point of column block `j` of point `t`'s rows. -/
def pt (j : ℕ) (t : Fin cfg0.N) : Fin cfg0.N := if hj : j < 4 then ⟨t.val / 4 * 4 + j, by have := lt_N t; exact lt_of_lt_of_eq (by omega : t.val / 4 * 4 + j < 4) N_0.symm⟩ else t

theorem pt_val (j : ℕ) (hj : j < 4) (t : Fin cfg0.N) : (pt j t).val = t.val / 4 * 4 + j := by
  unfold pt; rw [dif_pos hj]

theorem pt_self (j : ℕ) (t : Fin cfg0.N) (h : t.val % 4 = j) : pt j t = t :=
  Fin.ext (by rw [pt_val j (by omega)]; omega)

/-- The pipeline's proof data: the arrays as the region finds them, the inputs' blocks left in place, and between the
    column blocks of one block of rows the scratch buffer at the cast rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨_ + 2, _⟩ => fun _ => Classical.arbitrary _
  Φ n := iprop((∃ d, ⌜∀ h : n.val < cfg0.N, n.val % 4 ≠ 0 → d = castRows m c ⟨n.val, h⟩⌝ ∗ owns (c : Thread nD τ) scr fullShare d) ∗ (∃ r, prngReg c r))
  q _ := fullShare
  owed _ := 0

/-- The output windows. -/
def isOut : Fin cfg0.W → Bool := fun w => match w with
  | ⟨0, _⟩ => false
  | ⟨1, _⟩ => false
  | ⟨_ + 2, _⟩ => true

/-- What is said of them: each block's contents from the column block on at which it is stored. -/
def holds (c : Dev nD) (w : Fin cfg0.W) (t : Fin cfg0.N) (X : (cfg0.win w).block.Idx → Elt F (cfg0.win w).elt) : Prop := match w with
  | ⟨0, _⟩ => True
  | ⟨1, _⟩ => True
  | ⟨2, _⟩ => 0 ≤ t.val % 4 → X = stOut m c (pt 0 t)
  | ⟨3, _⟩ => 2 ≤ t.val % 4 → X = keyOut m c (pt 2 t)
  | ⟨4, _⟩ => 3 ≤ t.val % 4 → X = valOut m c (pt 3 t)
  | ⟨5, _⟩ => 2 ≤ t.val % 4 → X = kbOut m c (pt 2 t)
  | ⟨6, _⟩ => 1 ≤ t.val % 4 → X = qaOut m c (pt 1 t)
  | ⟨7, _⟩ => 3 ≤ t.val % 4 → X = vaOut m c (pt 3 t)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The scratch buffer before point `t`. -/
def scrAt (c : Dev nD) (n : ℕ) : sProp 𝕄 :=
  iprop((∃ d, ⌜∀ h : n < cfg0.N, n % 4 ≠ 0 → d = castRows m c ⟨n, h⟩⌝ ∗ owns (c : Thread nD τ) scr fullShare d) ∗ (∃ r, prngReg c r))

set_option maxHeartbeats 4000000 in
/-- The body at any point. -/
theorem sound_core (c : Dev nD) (t : Fin cfg0.N) (O : sProp 𝕄) :
    iprop(scrAt m c t.val ∗ O ∗ owns (c : Thread nD τ) (stg0 t) fullShare (iblk m c 0 t) ∗ owns (c : Thread nD τ) (stg1 t) fullShare (iblk m c 1 t) ∗ (∃ d, ⌜0 < t.val % 4 → d = stOut m c (pt 0 t)⌝ ∗ owns (c : Thread nD τ) (stg2 t) fullShare d) ∗ (∃ d, ⌜2 < t.val % 4 → d = keyOut m c (pt 2 t)⌝ ∗ owns (c : Thread nD τ) (stg3 t) fullShare d) ∗ (∃ d, ⌜3 < t.val % 4 → d = valOut m c (pt 3 t)⌝ ∗ owns (c : Thread nD τ) (stg4 t) fullShare d) ∗ (∃ d, ⌜2 < t.val % 4 → d = kbOut m c (pt 2 t)⌝ ∗ owns (c : Thread nD τ) (stg5 t) fullShare d) ∗ (∃ d, ⌜1 < t.val % 4 → d = qaOut m c (pt 1 t)⌝ ∗ owns (c : Thread nD τ) (stg6 t) fullShare d) ∗ (∃ d, ⌜3 < t.val % 4 → d = vaOut m c (pt 3 t)⌝ ∗ owns (c : Thread nD τ) (stg7 t) fullShare d))
    ⊢ wp frame (wpE (defs₀ (F := F)) Variants.none c none) Set.univ (bodyAt0 t) (fun _ =>
      iprop(scrAt m c (t.val + 1) ∗ O ∗ owns (c : Thread nD τ) (stg0 t) fullShare (iblk m c 0 t) ∗ owns (c : Thread nD τ) (stg1 t) fullShare (iblk m c 1 t) ∗ (∃ d, ⌜0 ≤ t.val % 4 → d = stOut m c (pt 0 t)⌝ ∗ owns (c : Thread nD τ) (stg2 t) fullShare d) ∗ (∃ d, ⌜2 ≤ t.val % 4 → d = keyOut m c (pt 2 t)⌝ ∗ owns (c : Thread nD τ) (stg3 t) fullShare d) ∗ (∃ d, ⌜3 ≤ t.val % 4 → d = valOut m c (pt 3 t)⌝ ∗ owns (c : Thread nD τ) (stg4 t) fullShare d) ∗ (∃ d, ⌜2 ≤ t.val % 4 → d = kbOut m c (pt 2 t)⌝ ∗ owns (c : Thread nD τ) (stg5 t) fullShare d) ∗ (∃ d, ⌜1 ≤ t.val % 4 → d = qaOut m c (pt 1 t)⌝ ∗ owns (c : Thread nD τ) (stg6 t) fullShare d) ∗ (∃ d, ⌜3 ≤ t.val % 4 → d = vaOut m c (pt 3 t)⌝ ∗ owns (c : Thread nD τ) (stg7 t) fullShare d))) := by
  have hN := lt_N t
  unfold bodyAt0 scrAt
  have hcase : t.val % 4 = 0 ∨ t.val % 4 = 1 ∨ t.val % 4 = 2 ∨ t.val % 4 = 3 := by omega
  rcases hcase with h | h | h | h
  · iintro ⟨⟨⟨%ds, %hs, HS⟩, Hg⟩, Ho, H0, H1, ⟨%d2, %hd2, H2⟩, ⟨%d3, %hd3, H3⟩, ⟨%d4, %hd4, H4⟩, ⟨%d5, %hd5, H5⟩, ⟨%d6, %hd6, H6⟩, ⟨%d7, %hd7, H7⟩⟩
    iapply ((runA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) ((cond1_iff t).mpr h) ((cond2_iff t).mpr h) (fun h' => absurd ((cond3_iff t).mp h') (by omega)) (fun h' => absurd ((cond4_iff t).mp h') (by omega)) (fun h' => absurd ((cond5_iff t).mp h') (by omega)) (iblk m c 0 t) (iblk m c 1 t)).2 Set.univ _)
    isplitl [H0]; · iexact H0
    isplitl [H1]; · iexact H1
    isplitl [HS]; · iexists _; iexact HS
    isplitl [H2]; · iexists _; iexact H2
    iintro ⟨H0, H1, ⟨%eHS, HS⟩, ⟨%eH2, H2⟩⟩
    isplitl [HS Hg]
    · isplitl [HS]
      · iexists (castRows m c t); isplitr
        · ipureintro; intro h' _; exact castRows_congr m c t _ (by show t.val / 4 = (t.val + 1) / 4; omega)
        · unfold owns; iexists _; isplitr
          swap; · iexact HS
          ipureintro; exact rowPieces_read m c t h _
      iexact Hg
    isplitl [Ho]; · iexact Ho
    isplitl [H0]; · iexact H0
    isplitl [H1]; · iexact H1
    isplitl [H2]
    · iexists (stOut m c (pt 0 t)); isplitr; · ipureintro; intro _; rfl
      unfold owns; iexists _; isplitr
      swap; · iexact H2
      ipureintro
      rw [pt_self 0 t h, stOut, dif_pos h]
      exact View.read_writes_of_cover _ _ _ _ _ (stPieces_cover m c t h)
    isplitl [H3]
    · iexists d3; isplitr; · ipureintro; intro h'; omega
      iexact H3
    isplitl [H4]
    · iexists d4; isplitr; · ipureintro; intro h'; omega
      iexact H4
    isplitl [H5]
    · iexists d5; isplitr; · ipureintro; intro h'; omega
      iexact H5
    isplitl [H6]
    · iexists d6; isplitr; · ipureintro; intro h'; omega
      iexact H6
    iexists d7; isplitr; · ipureintro; intro h'; omega
    iexact H7
  · iintro ⟨⟨⟨%ds, %hs, HS⟩, Hg⟩, Ho, H0, H1, ⟨%d2, %hd2, H2⟩, ⟨%d3, %hd3, H3⟩, ⟨%d4, %hd4, H4⟩, ⟨%d5, %hd5, H5⟩, ⟨%d6, %hd6, H6⟩, ⟨%d7, %hd7, H7⟩⟩
    obtain rfl := hs t.isLt (by omega)
    iapply ((runB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) ((cond3_iff t).mpr h) (fun h' => absurd ((cond4_iff t).mp h') (by omega)) (fun h' => absurd ((cond5_iff t).mp h') (by omega)) (iblk m c 1 t) (castRows m c t)).2 Set.univ _)
    isplitl [H1]; · iexact H1
    isplitl [HS]; · iexact HS
    isplitl [H6]; · iexists _; iexact H6
    iintro ⟨H1, HS, ⟨%eH6, H6⟩⟩
    isplitl [HS Hg]
    · isplitl [HS]
      · iexists (castRows m c t); isplitr
        · ipureintro; intro h' h''; exact castRows_congr m c t _ (by show t.val / 4 = (t.val + 1) / 4; omega)
        · iexact HS
      iexact Hg
    isplitl [Ho]; · iexact Ho
    isplitl [H0]; · iexact H0
    isplitl [H1]; · iexact H1
    isplitl [H2]
    · iexists d2; isplitr; · ipureintro; intro _; exact hd2 (by omega)
      iexact H2
    isplitl [H3]
    · iexists d3; isplitr; · ipureintro; intro h'; omega
      iexact H3
    isplitl [H4]
    · iexists d4; isplitr; · ipureintro; intro h'; omega
      iexact H4
    isplitl [H5]
    · iexists d5; isplitr; · ipureintro; intro h'; omega
      iexact H5
    isplitl [H6]
    · iexists (qaOut m c (pt 1 t)); isplitr; · ipureintro; intro _; rfl
      unfold owns; iexists _; isplitr
      swap; · iexact H6
      ipureintro
      rw [pt_self 1 t h, qaOut, dif_pos h]
      exact View.read_writes_of_cover _ _ _ _ _ (qaPieces_cover m c t h)
    iexists d7; isplitr; · ipureintro; intro h'; omega
    iexact H7
  · iintro ⟨⟨⟨%ds, %hs, HS⟩, Hg⟩, Ho, H0, H1, ⟨%d2, %hd2, H2⟩, ⟨%d3, %hd3, H3⟩, ⟨%d4, %hd4, H4⟩, ⟨%d5, %hd5, H5⟩, ⟨%d6, %hd6, H6⟩, ⟨%d7, %hd7, H7⟩⟩
    obtain rfl := hs t.isLt (by omega)
    iapply ((runC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) ((cond4_iff t).mpr h) (fun h' => absurd ((cond5_iff t).mp h') (by omega)) (iblk m c 1 t) (castRows m c t)).2 Set.univ _)
    isplitl [H1]; · iexact H1
    isplitl [HS]; · iexact HS
    isplitl [H3]; · iexists _; iexact H3
    isplitl [H5]; · iexists _; iexact H5
    iintro ⟨H1, HS, ⟨%eH3, H3⟩, ⟨%eH5, H5⟩⟩
    isplitl [HS Hg]
    · isplitl [HS]
      · iexists (castRows m c t); isplitr
        · ipureintro; intro h' h''; exact castRows_congr m c t _ (by show t.val / 4 = (t.val + 1) / 4; omega)
        · iexact HS
      iexact Hg
    isplitl [Ho]; · iexact Ho
    isplitl [H0]; · iexact H0
    isplitl [H1]; · iexact H1
    isplitl [H2]
    · iexists d2; isplitr; · ipureintro; intro _; exact hd2 (by omega)
      iexact H2
    isplitl [H3]
    · iexists (keyOut m c (pt 2 t)); isplitr; · ipureintro; intro _; rfl
      unfold owns; iexists _; isplitr
      swap; · iexact H3
      ipureintro
      rw [pt_self 2 t h, keyOut, dif_pos h]
      exact View.read_writes_of_cover _ _ _ _ _ (keyPieces_cover m c t h)
    isplitl [H4]
    · iexists d4; isplitr; · ipureintro; intro h'; omega
      iexact H4
    isplitl [H5]
    · iexists (kbOut m c (pt 2 t)); isplitr; · ipureintro; intro _; rfl
      unfold owns; iexists _; isplitr
      swap; · iexact H5
      ipureintro
      rw [pt_self 2 t h, kbOut, dif_pos h]
      exact View.read_writes_of_cover _ _ _ _ _ (kbPieces_cover m c t h)
    isplitl [H6]
    · iexists d6; isplitr; · ipureintro; intro _; exact hd6 (by omega)
      iexact H6
    iexists d7; isplitr; · ipureintro; intro h'; omega
    iexact H7
  · iintro ⟨⟨⟨%ds, %hs, HS⟩, Hg⟩, Ho, H0, H1, ⟨%d2, %hd2, H2⟩, ⟨%d3, %hd3, H3⟩, ⟨%d4, %hd4, H4⟩, ⟨%d5, %hd5, H5⟩, ⟨%d6, %hd6, H6⟩, ⟨%d7, %hd7, H7⟩⟩
    obtain rfl := hs t.isLt (by omega)
    iapply ((runD c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) scr (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr h) (iblk m c 1 t) (castRows m c t)).2 Set.univ _)
    isplitl [H1]; · iexact H1
    isplitl [HS]; · iexact HS
    isplitl [H4]; · iexists _; iexact H4
    isplitl [H7]; · iexists _; iexact H7
    iintro ⟨H1, HS, ⟨%eH4, H4⟩, ⟨%eH7, H7⟩⟩
    isplitl [HS Hg]
    · isplitl [HS]
      · iexists (castRows m c t); isplitr
        · ipureintro; intro h' h''; omega
        · iexact HS
      iexact Hg
    isplitl [Ho]; · iexact Ho
    isplitl [H0]; · iexact H0
    isplitl [H1]; · iexact H1
    isplitl [H2]
    · iexists d2; isplitr; · ipureintro; intro _; exact hd2 (by omega)
      iexact H2
    isplitl [H3]
    · iexists d3; isplitr; · ipureintro; intro _; exact hd3 (by omega)
      iexact H3
    isplitl [H4]
    · iexists (valOut m c (pt 3 t)); isplitr; · ipureintro; intro _; rfl
      unfold owns; iexists _; isplitr
      swap; · iexact H4
      ipureintro
      rw [pt_self 3 t h, valOut, dif_pos h]
      exact View.read_writes_of_cover _ _ _ _ _ (valPieces_cover m c t h)
    isplitl [H5]
    · iexists d5; isplitr; · ipureintro; intro _; exact hd5 (by omega)
      iexact H5
    isplitl [H6]
    · iexists d6; isplitr; · ipureintro; intro _; exact hd6 (by omega)
      iexact H6
    iexists (vaOut m c (pt 3 t)); isplitr; · ipureintro; intro _; rfl
    unfold owns; iexists _; isplitr
    swap; · iexact H7
    ipureintro
    rw [pt_self 3 t h, vaOut, dif_pos h]
    exact View.read_writes_of_cover _ _ _ _ _ (vaPieces_cover m c t h)

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The data read with what is said of the output windows. -/
abbrev rdat (c : Dev nD) := (dats m 0 c).toRRel isOut (holds m c)

/-- What was stored at an earlier column block is still there. -/
theorem finds_st (c : Dev nD) (t : Fin cfg0.N) (Y) (h : (rdat m c).Finds 2 t Y) (h3 : 0 < t.val % 4) : Y = stOut m c (pt 0 t) := by
  have hN := lt_N t
  have hf : (cfg0.win 2).fetch t = false := (cfg0.win 2).fetch_out rfl t
  rcases ((rdat m c).finds_of_pos hf (by omega) Y).mp h with h' | h'
  · have := (flush0_2 _).mp h'
    dsimp only at this
    omega
  · have e : holds m c 2 _ Y := (dats m 0 c).toRRel_leaves rfl h'
    refine ((show _ → _ from e) (by show 0 ≤ (t.val - 1) % 4; omega)).trans ?_
    refine congrArg (stOut m c) (Fin.ext ?_)
    rw [pt_val 0 (by omega), pt_val 0 (by omega)]
    show (t.val - 1) / 4 * 4 + 0 = t.val / 4 * 4 + 0
    omega

/-- What was stored at an earlier column block is still there. -/
theorem finds_key (c : Dev nD) (t : Fin cfg0.N) (Y) (h : (rdat m c).Finds 3 t Y) (h3 : 2 < t.val % 4) : Y = keyOut m c (pt 2 t) := by
  have hN := lt_N t
  have hf : (cfg0.win 3).fetch t = false := (cfg0.win 3).fetch_out rfl t
  rcases ((rdat m c).finds_of_pos hf (by omega) Y).mp h with h' | h'
  · have := (flush0_3 _).mp h'
    dsimp only at this
    omega
  · have e : holds m c 3 _ Y := (dats m 0 c).toRRel_leaves rfl h'
    refine ((show _ → _ from e) (by show 2 ≤ (t.val - 1) % 4; omega)).trans ?_
    refine congrArg (keyOut m c) (Fin.ext ?_)
    rw [pt_val 2 (by omega), pt_val 2 (by omega)]
    show (t.val - 1) / 4 * 4 + 2 = t.val / 4 * 4 + 2
    omega

/-- What was stored at an earlier column block is still there. -/
theorem finds_val (c : Dev nD) (t : Fin cfg0.N) (Y) (h : (rdat m c).Finds 4 t Y) (h3 : 3 < t.val % 4) : Y = valOut m c (pt 3 t) := by
  have hN := lt_N t
  have hf : (cfg0.win 4).fetch t = false := (cfg0.win 4).fetch_out rfl t
  rcases ((rdat m c).finds_of_pos hf (by omega) Y).mp h with h' | h'
  · have := (flush0_4 _).mp h'
    dsimp only at this
    omega
  · have e : holds m c 4 _ Y := (dats m 0 c).toRRel_leaves rfl h'
    refine ((show _ → _ from e) (by show 3 ≤ (t.val - 1) % 4; omega)).trans ?_
    refine congrArg (valOut m c) (Fin.ext ?_)
    rw [pt_val 3 (by omega), pt_val 3 (by omega)]
    show (t.val - 1) / 4 * 4 + 3 = t.val / 4 * 4 + 3
    omega

/-- What was stored at an earlier column block is still there. -/
theorem finds_kb (c : Dev nD) (t : Fin cfg0.N) (Y) (h : (rdat m c).Finds 5 t Y) (h3 : 2 < t.val % 4) : Y = kbOut m c (pt 2 t) := by
  have hN := lt_N t
  have hf : (cfg0.win 5).fetch t = false := (cfg0.win 5).fetch_out rfl t
  rcases ((rdat m c).finds_of_pos hf (by omega) Y).mp h with h' | h'
  · have := (flush0_5 _).mp h'
    dsimp only at this
    omega
  · have e : holds m c 5 _ Y := (dats m 0 c).toRRel_leaves rfl h'
    refine ((show _ → _ from e) (by show 2 ≤ (t.val - 1) % 4; omega)).trans ?_
    refine congrArg (kbOut m c) (Fin.ext ?_)
    rw [pt_val 2 (by omega), pt_val 2 (by omega)]
    show (t.val - 1) / 4 * 4 + 2 = t.val / 4 * 4 + 2
    omega

/-- What was stored at an earlier column block is still there. -/
theorem finds_qa (c : Dev nD) (t : Fin cfg0.N) (Y) (h : (rdat m c).Finds 6 t Y) (h3 : 1 < t.val % 4) : Y = qaOut m c (pt 1 t) := by
  have hN := lt_N t
  have hf : (cfg0.win 6).fetch t = false := (cfg0.win 6).fetch_out rfl t
  rcases ((rdat m c).finds_of_pos hf (by omega) Y).mp h with h' | h'
  · have := (flush0_6 _).mp h'
    dsimp only at this
    omega
  · have e : holds m c 6 _ Y := (dats m 0 c).toRRel_leaves rfl h'
    refine ((show _ → _ from e) (by show 1 ≤ (t.val - 1) % 4; omega)).trans ?_
    refine congrArg (qaOut m c) (Fin.ext ?_)
    rw [pt_val 1 (by omega), pt_val 1 (by omega)]
    show (t.val - 1) / 4 * 4 + 1 = t.val / 4 * 4 + 1
    omega

/-- What was stored at an earlier column block is still there. -/
theorem finds_va (c : Dev nD) (t : Fin cfg0.N) (Y) (h : (rdat m c).Finds 7 t Y) (h3 : 3 < t.val % 4) : Y = vaOut m c (pt 3 t) := by
  have hN := lt_N t
  have hf : (cfg0.win 7).fetch t = false := (cfg0.win 7).fetch_out rfl t
  rcases ((rdat m c).finds_of_pos hf (by omega) Y).mp h with h' | h'
  · have := (flush0_7 _).mp h'
    dsimp only at this
    omega
  · have e : holds m c 7 _ Y := (dats m 0 c).toRRel_leaves rfl h'
    refine ((show _ → _ from e) (by show 3 ≤ (t.val - 1) % 4; omega)).trans ?_
    refine congrArg (vaOut m c) (Fin.ext ?_)
    rw [pt_val 3 (by omega), pt_val 3 (by omega)]
    show (t.val - 1) / 4 * 4 + 3 = t.val / 4 * 4 + 3
    omega

/-- The body in the pipeline's terms. -/
theorem sound (c : Dev nD) (t : Fin cfg0.N) :
    iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ Y, ⌜(rdat m c).Finds 2 t Y⌝ ∗ owns (c : Thread nD τ) (stg2 t) fullShare Y) ∗ (∃ Y, ⌜(rdat m c).Finds 3 t Y⌝ ∗ owns (c : Thread nD τ) (stg3 t) fullShare Y) ∗ (∃ Y, ⌜(rdat m c).Finds 4 t Y⌝ ∗ owns (c : Thread nD τ) (stg4 t) fullShare Y) ∗ (∃ Y, ⌜(rdat m c).Finds 5 t Y⌝ ∗ owns (c : Thread nD τ) (stg5 t) fullShare Y) ∗ (∃ Y, ⌜(rdat m c).Finds 6 t Y⌝ ∗ owns (c : Thread nD τ) (stg6 t) fullShare Y) ∗ (∃ Y, ⌜(rdat m c).Finds 7 t Y⌝ ∗ owns (c : Thread nD τ) (stg7 t) fullShare Y))
    ⊢ wp frame (wpE (defs₀ (F := F)) Variants.none c none) Set.univ (bodyAt0 t) (fun _ => iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ (∃ X, ⌜holds m c 2 t X⌝ ∗ owns (c : Thread nD τ) (stg2 t) fullShare X) ∗ (∃ X, ⌜holds m c 3 t X⌝ ∗ owns (c : Thread nD τ) (stg3 t) fullShare X) ∗ (∃ X, ⌜holds m c 4 t X⌝ ∗ owns (c : Thread nD τ) (stg4 t) fullShare X) ∗ (∃ X, ⌜holds m c 5 t X⌝ ∗ owns (c : Thread nD τ) (stg5 t) fullShare X) ∗ (∃ X, ⌜holds m c 6 t X⌝ ∗ owns (c : Thread nD τ) (stg6 t) fullShare X) ∗ (∃ X, ⌜holds m c 7 t X⌝ ∗ owns (c : Thread nD τ) (stg7 t) fullShare X))) := by
  simp only [before_0, before_1]
  rw [show (dats m 0 c).Φ t.succ = scrAt m c (t.val + 1) from rfl,
    show (dats m 0 c).owesAt () t.succ = (dats m 0 c).owesAt () t.castSucc from rfl, after_0, after_1]
  rw [show (dats m 0 c).Φ t.castSucc = scrAt m c t.val from rfl]
  iintro ⟨HP, Ho, ⟨%d0, H0⟩, ⟨%d1, H1⟩, ⟨%d2, %h2, H2⟩, ⟨%d3, %h3, H3⟩, ⟨%d4, %h4, H4⟩, ⟨%d5, %h5, H5⟩, ⟨%d6, %h6, H6⟩, ⟨%d7, %h7, H7⟩⟩
  iapply (wp_wand_r Idealize.ShloMosaic.frame (wpE (defs₀ (F := F)) Variants.none c none) Set.univ)
  isplitl [HP Ho H0 H1 H2 H3 H4 H5 H6 H7]
  · iapply (sound_core m c t ((dats m 0 c).owesAt () t.castSucc))
    isplitl [HP]; · iexact HP
    isplitl [Ho]; · iexact Ho
    isplitl [H0]; · iexact H0
    isplitl [H1]; · iexact H1
    isplitl [H2]
    · iexists d2; isplitr; · ipureintro; exact finds_st m c t d2 h2
      iexact H2
    isplitl [H3]
    · iexists d3; isplitr; · ipureintro; exact finds_key m c t d3 h3
      iexact H3
    isplitl [H4]
    · iexists d4; isplitr; · ipureintro; exact finds_val m c t d4 h4
      iexact H4
    isplitl [H5]
    · iexists d5; isplitr; · ipureintro; exact finds_kb m c t d5 h5
      iexact H5
    isplitl [H6]
    · iexists d6; isplitr; · ipureintro; exact finds_qa m c t d6 h6
      iexact H6
    iexists d7; isplitr; · ipureintro; exact finds_va m c t d7 h7
    iexact H7
  · iintro %_ ⟨HP, Ho, H0, H1, ⟨%e2, %g2, H2⟩, ⟨%e3, %g3, H3⟩, ⟨%e4, %g4, H4⟩, ⟨%e5, %g5, H5⟩, ⟨%e6, %g6, H6⟩, ⟨%e7, %g7, H7⟩⟩
    isplitl [HP]; · iexact HP
    isplitl [Ho]; · iexact Ho
    isplitl [H0]; · iexact H0
    isplitl [H1]; · iexact H1
    isplitl [H2]
    · iexists e2; isplitr; · ipureintro; exact g2
      iexact H2
    isplitl [H3]
    · iexists e3; isplitr; · ipureintro; exact g3
      iexact H3
    isplitl [H4]
    · iexists e4; isplitr; · ipureintro; exact g4
      iexact H4
    isplitl [H5]
    · iexists e5; isplitr; · ipureintro; exact g5
      iexact H5
    isplitl [H6]
    · iexists e6; isplitr; · ipureintro; exact g6
      iexact H6
    iexists e7; isplitr; · ipureintro; exact g7
    iexact H7

/-- The library's body obligation. -/
theorem obligation (c : Dev nD) :
    BodyObligationRel (dats (F := F) m 0 c) (defs₀ (F := F)) Variants.none () Set.univ isOut (holds m c) := fun t => by
  rw [bigSep_W0, bigSep_W0, defs₀_row]
  exact triple_restated (sound m c t) rfl .rfl fun _ => .rfl

theorem enter (c : Dev nD) : (Pipeline.ΦA spec0 c : sProp 𝕄) ⊢ (rdat m c).Φ 0 := by
  rw [PhiA_eq, show (rdat m c).Φ 0 = scrAt m c 0 from rfl]
  unfold scrAt
  iintro ⟨⟨%d, H⟩, Hg⟩
  isplitl [H]
  · iexists d; isplitr; · ipureintro; intro _ h; omega
    iexact H
  iexact Hg

theorem leave (c : Dev nD) : (rdat m c).Φ (Fin.last cfg0.N) ⊢ (Pipeline.ΦA spec0 c : sProp 𝕄) := by
  rw [PhiA_eq, show (rdat m c).Φ (Fin.last cfg0.N) = scrAt m c cfg0.N from rfl]
  unfold scrAt
  iintro ⟨⟨%d, %h, H⟩, Hg⟩
  isplitl [H]
  · iexists d; iexact H
  iexact Hg

-- the launch theorem's implicit arguments are found by unifying its conclusion with this one
set_option backward.isDefEq.respectTransparency.types false in
/-- The launch: what is said of the output windows holds of the arrays, and every other unscoped buffer ends as the
    region found it, every semaphore counter at zero. -/
theorem launch : θ_run defs (onTc (τ := τ) (main (F := F))) (s₀ m ρ)
    (fun r => (Pipeline.RDat.FramePost cfg0 (fun c => rdat m c) (V m)) r ∧ r.2.sem = fun _ => 0) :=
  Pipeline.RDat.θ_run_frame_track (Q' := _) cfgs (0 : Fin 1) launch0 defs₀ Variants.none (fun c => rdat m c) m ρ main
    (hbody := fun c => (obligation m c).toRRel) (hshare := fun c => (rdat m c).share_full fun _ => rfl)
    (howed := fun _ _ => rfl) (V := V m) (hmain := hmain m Variants.none) (hA := A_eq m) (hin := enter m) (hout := leave m)

/-- THE FRAME: the program runs to its end, the argument arrays unchanged, the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)
    (launch m ρ)

end Cert.Kernel3Ideal.Proj

end
-- ==== Proof.Proj3.Args.lean ====
/-
The arrays of the projection call, read at an index: the rows of a block, the columns of the weights, their product.
-/
module

public import proofs.«01_k».proof.Proof.Proj3.Frame
public import Idealize.ShloMosaic.Lib.StableHlo.ReadAt
public import Idealize.ShloMosaic.Lib.Claim
public import Idealize.ShloMosaic.Lib.Pointwise
public import Idealize.ShloMosaic.Lib.Pipeline.Value
public import Idealize.ShloMosaic.Lib.ValueLayout

@[expose] public section

set_option maxRecDepth 65536

noncomputable section

namespace Cert.Kernel3Ideal.Proj

open Idealize.ShloMosaic Idealize.ShloMosaic.TcCoe Idealize.ShloMosaic.Tactic Idealize.SL.Sem
open Cert.Kernel3Ideal Cert.Kernel3Ideal.Gen

variable (m : (ℓ : Loc nD τ sig) → Buf (Elt Ideal) ℓ) (ρ : Dev nD → PrngReg) (c : Dev nD)

/-- The input row `n`, coordinate `d`. -/
def inp (n : Fin 512) (d : Fin 2048) : EReal := m (c, Proc.tc.devRef main_arg0) (ix3 ⟨n.val / 64, by omega⟩ ⟨n.val % 64, by omega⟩ d)

/-- The weight of coordinate `d` in column `e`. -/
def wgt (d : Fin 2048) (e : Fin 4096) : EReal := m (c, Proc.tc.devRef main_arg1) (ix3 0 d e)

/-- The projection: row `n`, column `e`. -/
def proj (n : Fin 512) (e : Fin 4096) : EReal := ∑ d : Fin 2048, inp m c n d * wgt m c d e

theorem V_x (n : Fin 512) (d : Fin 2048) : (V m c main_v0 : Vec Ideal S512x2048 .f32) (ix2 n d) = inp m c n d := by
  unfold V inp
  after_reads_at

theorem V_w (d : Fin 2048) (e : Fin 4096) : (V m c main_v2 : Vec Ideal S2048x4096 .bf16) (ix2 d e) = wgt m c d e := by
  unfold V wgt
  after_reads_at

variable (t : Fin cfg0.N)

theorem idx0 : win0_0.index t 0 = t.val / 4 ∧ win0_0.index t 1 = 0 :=
  (by decide +kernel : ∀ t : Fin grid0.N, win0_0.index t 0 = t.val / 4 ∧ win0_0.index t 1 = 0) t

theorem idx1 : win0_1.index t 0 = 0 ∧ win0_1.index t 1 = 0 :=
  (by decide +kernel : ∀ t : Fin grid0.N, win0_1.index t 0 = 0 ∧ win0_1.index t 1 = 0) t

theorem idx2 : win0_2.index t 0 = t.val / 4 ∧ win0_2.index t 1 = 0 :=
  (by decide +kernel : ∀ t : Fin grid0.N, win0_2.index t 0 = t.val / 4 ∧ win0_2.index t 1 = 0) t

theorem idx5 : win0_5.index t 0 = t.val / 4 ∧ win0_5.index t 1 = 0 :=
  (by decide +kernel : ∀ t : Fin grid0.N, win0_5.index t 0 = t.val / 4 ∧ win0_5.index t 1 = 0) t

theorem idx6 : win0_6.index t 0 = t.val / 4 ∧ win0_6.index t 1 = 0 :=
  (by decide +kernel : ∀ t : Fin grid0.N, win0_6.index t 0 = t.val / 4 ∧ win0_6.index t 1 = 0) t

theorem idx7 : win0_7.index t 0 = t.val / 4 ∧ win0_7.index t 1 = 0 :=
  (by decide +kernel : ∀ t : Fin grid0.N, win0_7.index t 0 = t.val / 4 ∧ win0_7.index t 1 = 0) t

theorem idx3 : win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0) t

theorem idx4 : win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0) t

theorem off1 : k0_off1 (grid0.coords t) = ![0, 1024 * (t.val % 4)] :=
  (by decide +kernel : ∀ t : Fin grid0.N, k0_off1 (grid0.coords t) = ![0, 1024 * (t.val % 4)]) t

theorem iblk0 (r : Fin 512) (d : Fin 2048) : (iblk m c 0 t : Vec Ideal S512x2048 .f32) (ix2 r d) =
    inp m c ⟨512 * (t.val / 4) + r.val, by have := lt_N t; omega⟩ d := by
  have hi := idx0 t
  rw [← V_x]
  unfold iblk
  rw [View.read_apply]
  show V m c main_v0 _ = V m c main_v0 _
  refine congrArg (V m c main_v0) (funext fun a => Fin.ext ?_)
  match a with
  | ⟨0, _⟩ => show win0_0.index t 0 * 512 + 1 * r.val = 512 * (t.val / 4) + r.val; rw [hi.1]; omega
  | ⟨1, _⟩ => show win0_0.index t 1 * 2048 + 1 * d.val = d.val; rw [hi.2]; omega

theorem iblk1 (d : Fin 2048) (e : Fin 4096) : (iblk m c 1 t : Vec Ideal S2048x4096 .bf16) (ix2 d e) = wgt m c d e := by
  have hi := idx1 t
  rw [← V_w]
  unfold iblk
  rw [View.read_apply]
  show V m c main_v2 _ = V m c main_v2 _
  refine congrArg (V m c main_v2) (funext fun a => Fin.ext ?_)
  match a with
  | ⟨0, _⟩ => show win0_1.index t 0 * 2048 + 1 * d.val = d.val; rw [hi.1]; omega
  | ⟨1, _⟩ => show win0_1.index t 1 * 4096 + 1 * e.val = e.val; rw [hi.2]; omega

theorem castRows_at (r : Fin 512) (d : Fin 2048) : castRows m c t (ix2 r d) = inp m c ⟨512 * (t.val / 4) + r.val, by have := lt_N t; omega⟩ d := by
  rw [← iblk0]
  unfold castRows
  generalize (iblk m c 0 t : Vec Ideal S512x2048 .f32) = x
  pointwise [k0_pay1]

theorem pay2_at (w : Vec Ideal S2048x1024 .bf16) (x : Vec Ideal S512x2048 .bf16) (r : Fin 512) (e : Fin 1024) :
    k0_pay2 w x (ix2 r e) = ∑ d : Fin 2048, x (ix2 r d) * w (ix2 d e) := by
  pointwise [k0_pay2]

/-- The product the body forms at point `t`, from a weight block it has loaded. -/
theorem product_of (arg3 : Memref sig .tc .vmem S2048x4096 .bf16) (harg3 : arg3.IsWhole) (X : Vec Ideal S512x2048 .bf16) (hX : X = castRows m c t)
    (inb : ∀ a, k0_off1 (grid0.coords t) a + (![2048, 1024] : Fin 2 → ℕ) a ≤ S2048x4096.size a)
    (r : Fin 512) (e : Fin 1024) :
    k0_pay2 (F := Ideal) (View.readAt (Elt Ideal) arg3.view (Rect.unit (s := S2048x4096) (k0_off1 (grid0.coords t)) ![2048, 1024] inb).toLoadRect (harg3.unread (iblk m c 1 t))) X (ix2 r e) =
      proj m c ⟨512 * (t.val / 4) + r.val, by have := lt_N t; omega⟩ ⟨1024 * (t.val % 4) + e.val, by omega⟩ := by
  subst hX
  rw [pay2_at]
  unfold proj
  refine Finset.sum_congr rfl fun d _ => congrArg₂ (· * ·) ?_ ?_
  · rw [← castRows_at]
  · rw [← iblk1 m c t]
    rw [View.readAt_eq_ld, View.ld_apply, harg3.read_unread]
    refine congrArg (iblk m c 1 t : Vec Ideal S2048x4096 .bf16) (funext fun a => Fin.ext ?_)
    match a with
    | ⟨0, _⟩ => show k0_off1 (grid0.coords t) 0 + 1 * d.val = d.val; rw [off1]; show 0 + 1 * d.val = d.val; omega
    | ⟨1, _⟩ => show k0_off1 (grid0.coords t) 1 + 1 * e.val = 1024 * (t.val % 4) + e.val; rw [off1]; show 1024 * (t.val % 4) + 1 * e.val = _; omega

/-- The same from the scratch buffer as loaded. -/
theorem product_at (arg3 : Memref sig .tc .vmem S2048x4096 .bf16) (harg3 : arg3.IsWhole) (arg10 : Memref sig .tc .vmem S512x2048 .bf16) (harg10 : arg10.IsWhole)
    (inb : ∀ a, k0_off1 (grid0.coords t) a + (![2048, 1024] : Fin 2 → ℕ) a ≤ S2048x4096.size a) (inb' : ∀ a, (![0, 0] : Fin 2 → ℕ) a + (![512, 2048] : Fin 2 → ℕ) a ≤ S512x2048.size a)
    (r : Fin 512) (e : Fin 1024) :
    k0_pay2 (F := Ideal) (View.readAt (Elt Ideal) arg3.view (Rect.unit (s := S2048x4096) (k0_off1 (grid0.coords t)) ![2048, 1024] inb).toLoadRect (harg3.unread (iblk m c 1 t)))
      (View.readAt (Elt Ideal) arg10.view (Rect.unit (s := S512x2048) ![0, 0] ![512, 2048] inb').toLoadRect (harg10.unread (castRows m c t))) (ix2 r e) =
      proj m c ⟨512 * (t.val / 4) + r.val, by have := lt_N t; omega⟩ ⟨1024 * (t.val % 4) + e.val, by omega⟩ :=
  product_of m c t arg3 harg3 _ ((View.readAt_full _ _ _).trans (harg10.read_unread _)) inb r e

/-- A head's columns of a product, as the body stores them. -/
theorem slice_at (P : FVec Ideal S512x1024 .f32) (q : ℕ) (hq : q < 8) (h : S512x1024.Slices ![0, 128 * q] S512x128) (h' : S512x128.ShapeCasts S512x1x128) (x : S512x1x128.Idx) :
    shapeCast S512x1x128 (extractStridedSlice S512x128 ![0, 128 * q] P h) h' x =
      P (ix2 (⟨(x 0).val, (x 0).isLt⟩ : Fin 512) (⟨128 * q + (x 2).val, by have h2 : (x 2).val < 128 := (x 2).isLt; omega⟩ : Fin 1024)) := by
  have h0 : (x 0).val < 512 := (x 0).isLt
  have h1 : (x 1).val < 1 := (x 1).isLt
  have h2 : (x 2).val < 128 := (x 2).isLt
  refine (shapeCast_apply _ h' x (ix2 (⟨(x 0).val, h0⟩ : Fin 512) (⟨(x 2).val, h2⟩ : Fin 128)) ?_).trans ?_
  · rw [Shape.rowMajor_val_two, Shape.rowMajor_val_three]
    show (x 0).val * 128 + (x 2).val = ((x 0).val * 1 + (x 1).val) * 128 + (x 2).val
    omega
  · refine extractStridedSlice_apply _ _ _ _ _ fun a => ?_
    match a with
    | ⟨0, _⟩ => show (x 0).val = 0 + (x 0).val; omega
    | ⟨1, _⟩ => rfl

/-- The scaled columns of the queries. -/
theorem pay3_at (w : Vec Ideal S2048x1024 .bf16) (x : Vec Ideal S512x2048 .bf16) (r : Fin 512) (e : Fin 1024) :
    k0_pay3 w x (ix2 r e) = k0_pay2 w x (ix2 r e) * Ideal.ofBits .f32 0x3E000000#32 := by
  pointwise [k0_pay3]

end Cert.Kernel3Ideal.Proj

end
-- ==== Proof.Proj3.Whole.lean ====
/-
The blocks the projection call leaves, and its result arrays: the products of rows and weights.
-/
module

public import proofs.«01_k».proof.Proof.Proj3.Args

@[expose] public section

set_option maxRecDepth 65536

noncomputable section

namespace Cert.Kernel3Ideal.Proj

open Idealize.ShloMosaic Idealize.ShloMosaic.TcCoe Idealize.ShloMosaic.Tactic Idealize.SL.Sem
open Cert.Kernel3Ideal Cert.Kernel3Ideal.Gen

variable (m : (ℓ : Loc nD τ sig) → Buf (Elt Ideal) ℓ) (ρ : Dev nD → PrngReg) (c : Dev nD)

/-- The product's column at point `t`'s rows, for the queries scaled. -/
def qproj (n : Fin 512) (e : Fin 4096) : EReal := proj m c n e * Ideal.ofBits .f32 0x3E000000#32

/-- The block of the state-space inputs. -/
def stBlk (t : Fin cfg0.N) : Vec Ideal S512x1024 .f32 := fun z =>
  proj m c ⟨512 * (t.val / 4) + (z 0).val, by have := lt_N t; have h0 : (z 0).val < 512 := (z 0).isLt; omega⟩
    ⟨0 + (z 1).val, by have h1 : (z 1).val < 1024 := (z 1).isLt; omega⟩

/-- The result holding the state-space inputs. -/
def Gst : Vec Ideal S512x1024 .f32 := fun z =>
  proj m c ⟨(z 0).val, (z 0).isLt⟩ ⟨0 + (z 1).val, by have h1 : (z 1).val < 1024 := (z 1).isLt; omega⟩

theorem stOut_at (t : Fin cfg0.N) (h : t.val % 4 = 0) : stOut m c t = stBlk m c t := by
  funext z
  obtain ⟨r, e, rfl⟩ : ∃ (r : Fin 512) (e : Fin 1024), z = ix2 r e := ⟨z 0, z 1, by
    funext a
    match a with | ⟨0, _⟩ => rfl | ⟨1, _⟩ => rfl⟩
  unfold stOut
  rw [dif_pos h]
  unfold stPieces
  dsimp only [runA]
  refine (congrFun (View.read_writes_full _ _ _ _ _) (ix2 r e)).trans ?_
  refine Eq.trans (?_ : _ = proj m c ⟨512 * (t.val / 4) + r.val, by have := lt_N t; omega⟩ ⟨1024 * (t.val % 4) + e.val, by omega⟩) ?_
  · refine product_of m c t (stg1 t) (hstg1 t) _ ?_ _ _ _
    unfold runA.sl.v8 runA.sl.H10_1
    refine (View.readCov_full _ _ _ _ _).trans ?_
    unfold castRows
    refine congrArg k0_pay1 ?_
    exact (View.readAt_full _ _ _).trans ((hstg0 t).read_unread _)
  · unfold stBlk
    refine congrArg₂ (proj m c) rfl (Fin.ext ?_)
    show 1024 * (t.val % 4) + e.val = 0 + e.val
    omega

theorem blk2 (t : Fin cfg0.N) : (((cfg0.win 2).blk t).view.read (Elt Ideal) (show Buf (Elt Ideal) ((cfg0.win 2).arr.view.loc (c.tc : Thread nD τ)) from Gst m c) : Vec Ideal S512x1024 .f32) = stBlk m c t := by
  have hi := idx2 t
  funext z
  rw [View.read_apply]
  show Gst m c _ = _
  unfold Gst stBlk
  refine congrArg₂ (proj m c) (Fin.ext ?_) (Fin.ext ?_)
  · show win0_2.index t 0 * 512 + 1 * (z 0).val = 512 * (t.val / 4) + (z 0).val
    rw [hi.1]; omega
  · show 0 + (win0_2.index t 1 * 1024 + 1 * (z 1).val) = 0 + (z 1).val
    rw [hi.2]; omega

theorem blk2_cover (i : S512x1024.Idx) : ∃ t : Fin cfg0.N, (cfg0.win 2).flush t = true ∧ i ∈ ((cfg0.win 2).blk t).view.set := by
  have h0 : (i 0 : Nat) < 512 := (i 0).isLt
  have h1 : (i 1 : Nat) < 1024 := (i 1).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_2 t).mpr (by omega), ?_⟩
  have hi := idx2 t
  show i ∈ ((View.whole main_v3_0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [hi.1]; omega
  | ⟨1, _⟩ =>
    show win0_2.index t 1 * 1024 ≤ (i 1 : Nat) ∧ (i 1 : Nat) < win0_2.index t 1 * 1024 + 1024
    rw [hi.2]; omega

theorem stBlk_pt (t : Fin cfg0.N) : stBlk m c (pt 0 t) = stBlk m c t := by
  have e : (pt 0 t).val / 4 = t.val / 4 := by rw [pt_val 0 (by omega)]; omega
  funext z
  unfold stBlk
  refine congrArg₂ (proj m c) (Fin.ext ?_) rfl
  show 512 * ((pt 0 t).val / 4) + (z 0).val = 512 * (t.val / 4) + (z 0).val
  rw [e]

/-- The block of the keys. -/
def keyBlk (t : Fin cfg0.N) : Vec Ideal S512x8x128 .f32 := fun z =>
  proj m c ⟨512 * (t.val / 4) + (z 0).val, by have := lt_N t; have h0 : (z 0).val < 512 := (z 0).isLt; omega⟩
    ⟨2048 + 128 * (z 1).val + (z 2).val, by have h1 : (z 1).val < 8 := (z 1).isLt; have h2 : (z 2).val < 128 := (z 2).isLt; omega⟩

/-- The result holding the keys. -/
def Gkey : Vec Ideal S512x8x128 .f32 := fun z =>
  proj m c ⟨(z 0).val, (z 0).isLt⟩ ⟨2048 + 128 * (z 1).val + (z 2).val, by have h1 : (z 1).val < 8 := (z 1).isLt; have h2 : (z 2).val < 128 := (z 2).isLt; omega⟩

theorem key_piece (t : Fin cfg0.N) (h : t.val % 4 = 2) (P : FVec Ideal S512x1024 .f32)
    (hP : ∀ (r : Fin 512) (e : Fin 1024), P (ix2 r e) = proj m c ⟨512 * (t.val / 4) + r.val, by have := lt_N t; omega⟩ ⟨1024 * (t.val % 4) + e.val, by omega⟩)
    (q : ℕ) (hq : q < 8) (h1 : S512x1024.Slices ![0, 128 * q] S512x128) (h2 : S512x128.ShapeCasts S512x1x128)
    (inb : ∀ a, (![0, q, 0] : Fin 3 → ℕ) a + (![512, 1, 128] : Fin 3 → ℕ) a ≤ S512x8x128.size a) (x : S512x1x128.Idx) :
    shapeCast S512x1x128 (extractStridedSlice S512x128 ![0, 128 * q] P h1) h2 x = keyBlk m c t ((Rect.unit (s := S512x8x128) ![0, q, 0] ![512, 1, 128] inb).emb x) := by
  have x1 : (x 1).val < 1 := (x 1).isLt
  rw [slice_at P q hq h1 h2 x, hP]
  unfold keyBlk
  refine congrArg₂ (proj m c) (Fin.ext ?_) (Fin.ext ?_)
  · show 512 * (t.val / 4) + (x 0).val = 512 * (t.val / 4) + (0 + 1 * (x 0).val)
    omega
  · show 1024 * (t.val % 4) + (128 * q + (x 2).val) = 2048 + 128 * (q + 1 * (x 1).val) + (0 + 1 * (x 2).val)
    omega

theorem keyOut_at (t : Fin cfg0.N) (h : t.val % 4 = 2) : keyOut m c t = keyBlk m c t := by
  funext z
  unfold keyOut
  rw [dif_pos h]
  refine View.read_writes_apply_of_pieces _ _ _ _ ?_ z (keyPieces_cover m c t h z)
  unfold keyPieces
  dsimp only [runC]
  simp only [List.forall_mem_cons]
  refine ⟨?_, ?_, ?_, ?_, ?_, ?_, ?_, ?_, fun _ h => absurd h List.not_mem_nil⟩
  · exact fun x => key_piece m c t h _ (product_at m c t (stg1 t) (hstg1 t) scr (Memref.isWhole_whole _) _ _) 7 (by omega) slices_S512x1024_o0_896_S512x128 _ _ x
  · exact fun x => key_piece m c t h _ (product_at m c t (stg1 t) (hstg1 t) scr (Memref.isWhole_whole _) _ _) 6 (by omega) _ _ _ x
  · exact fun x => key_piece m c t h _ (product_at m c t (stg1 t) (hstg1 t) scr (Memref.isWhole_whole _) _ _) 5 (by omega) _ _ _ x
  · exact fun x => key_piece m c t h _ (product_at m c t (stg1 t) (hstg1 t) scr (Memref.isWhole_whole _) _ _) 4 (by omega) _ _ _ x
  · exact fun x => key_piece m c t h _ (product_at m c t (stg1 t) (hstg1 t) scr (Memref.isWhole_whole _) _ _) 3 (by omega) _ _ _ x
  · exact fun x => key_piece m c t h _ (product_at m c t (stg1 t) (hstg1 t) scr (Memref.isWhole_whole _) _ _) 2 (by omega) _ _ _ x
  · exact fun x => key_piece m c t h _ (product_at m c t (stg1 t) (hstg1 t) scr (Memref.isWhole_whole _) _ _) 1 (by omega) _ _ _ x
  · exact fun x => key_piece m c t h _ (product_at m c t (stg1 t) (hstg1 t) scr (Memref.isWhole_whole _) _ _) 0 (by omega) _ _ _ x

theorem blk3 (t : Fin cfg0.N) : (((cfg0.win 3).blk t).view.read (Elt Ideal) (show Buf (Elt Ideal) ((cfg0.win 3).arr.view.loc (c.tc : Thread nD τ)) from Gkey m c) : Vec Ideal S512x8x128 .f32) = keyBlk m c t := by
  have hi := idx3 t
  funext z
  rw [View.read_apply]
  show Gkey m c _ = _
  unfold Gkey keyBlk
  refine congrArg₂ (proj m c) (Fin.ext ?_) (Fin.ext ?_)
  · show win0_3.index t 0 * 512 + 1 * (z 0).val = 512 * (t.val / 4) + (z 0).val
    rw [hi.1]; omega
  · show 2048 + 128 * (win0_3.index t 1 * 8 + 1 * (z 1).val) + (win0_3.index t 2 * 128 + 1 * (z 2).val) = 2048 + 128 * (z 1).val + (z 2).val
    rw [hi.2.1, hi.2.2]; omega

theorem blk3_cover (i : S512x8x128.Idx) : ∃ t : Fin cfg0.N, (cfg0.win 3).flush t = true ∧ i ∈ ((cfg0.win 3).blk t).view.set := by
  have h0 : (i 0 : Nat) < 512 := (i 0).isLt
  have h1 : (i 1 : Nat) < 8 := (i 1).isLt
  have h2 : (i 2 : Nat) < 128 := (i 2).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_3 t).mpr (by omega), ?_⟩
  have hi := idx3 t
  show i ∈ ((View.whole main_v3_1).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [hi.1]; omega
  | ⟨1, _⟩ =>
    show win0_3.index t 1 * 8 ≤ (i 1 : Nat) ∧ (i 1 : Nat) < win0_3.index t 1 * 8 + 8
    rw [hi.2.1]; omega
  | ⟨2, _⟩ =>
    show win0_3.index t 2 * 128 ≤ (i 2 : Nat) ∧ (i 2 : Nat) < win0_3.index t 2 * 128 + 128
    rw [hi.2.2]; omega

theorem keyBlk_pt (t : Fin cfg0.N) : keyBlk m c (pt 2 t) = keyBlk m c t := by
  have e : (pt 2 t).val / 4 = t.val / 4 := by rw [pt_val 2 (by omega)]; omega
  funext z
  unfold keyBlk
  refine congrArg₂ (proj m c) (Fin.ext ?_) rfl
  show 512 * ((pt 2 t).val / 4) + (z 0).val = 512 * (t.val / 4) + (z 0).val
  rw [e]

/-- The block of the values. -/
def valBlk (t : Fin cfg0.N) : Vec Ideal S512x8x128 .f32 := fun z =>
  proj m c ⟨512 * (t.val / 4) + (z 0).val, by have := lt_N t; have h0 : (z 0).val < 512 := (z 0).isLt; omega⟩
    ⟨3072 + 128 * (z 1).val + (z 2).val, by have h1 : (z 1).val < 8 := (z 1).isLt; have h2 : (z 2).val < 128 := (z 2).isLt; omega⟩

/-- The result holding the values. -/
def Gval : Vec Ideal S512x8x128 .f32 := fun z =>
  proj m c ⟨(z 0).val, (z 0).isLt⟩ ⟨3072 + 128 * (z 1).val + (z 2).val, by have h1 : (z 1).val < 8 := (z 1).isLt; have h2 : (z 2).val < 128 := (z 2).isLt; omega⟩

theorem val_piece (t : Fin cfg0.N) (h : t.val % 4 = 3) (P : FVec Ideal S512x1024 .f32)
    (hP : ∀ (r : Fin 512) (e : Fin 1024), P (ix2 r e) = proj m c ⟨512 * (t.val / 4) + r.val, by have := lt_N t; omega⟩ ⟨1024 * (t.val % 4) + e.val, by omega⟩)
    (q : ℕ) (hq : q < 8) (h1 : S512x1024.Slices ![0, 128 * q] S512x128) (h2 : S512x128.ShapeCasts S512x1x128)
    (inb : ∀ a, (![0, q, 0] : Fin 3 → ℕ) a + (![512, 1, 128] : Fin 3 → ℕ) a ≤ S512x8x128.size a) (x : S512x1x128.Idx) :
    shapeCast S512x1x128 (extractStridedSlice S512x128 ![0, 128 * q] P h1) h2 x = valBlk m c t ((Rect.unit (s := S512x8x128) ![0, q, 0] ![512, 1, 128] inb).emb x) := by
  have x1 : (x 1).val < 1 := (x 1).isLt
  rw [slice_at P q hq h1 h2 x, hP]
  unfold valBlk
  refine congrArg₂ (proj m c) (Fin.ext ?_) (Fin.ext ?_)
  · show 512 * (t.val / 4) + (x 0).val = 512 * (t.val / 4) + (0 + 1 * (x 0).val)
    omega
  · show 1024 * (t.val % 4) + (128 * q + (x 2).val) = 3072 + 128 * (q + 1 * (x 1).val) + (0 + 1 * (x 2).val)
    omega

theorem valOut_at (t : Fin cfg0.N) (h : t.val % 4 = 3) : valOut m c t = valBlk m c t := by
  funext z
  unfold valOut
  rw [dif_pos h]
  refine View.read_writes_apply_of_pieces _ _ _ _ ?_ z (valPieces_cover m c t h z)
  unfold valPieces
  dsimp only [runD]
  simp only [List.forall_mem_cons]
  refine ⟨?_, ?_, ?_, ?_, ?_, ?_, ?_, ?_, fun _ h => absurd h List.not_mem_nil⟩
  · exact fun x => val_piece m c t h _ (product_at m c t (stg1 t) (hstg1 t) scr (Memref.isWhole_whole _) _ _) 7 (by omega) slices_S512x1024_o0_896_S512x128 _ _ x
  · exact fun x => val_piece m c t h _ (product_at m c t (stg1 t) (hstg1 t) scr (Memref.isWhole_whole _) _ _) 6 (by omega) _ _ _ x
  · exact fun x => val_piece m c t h _ (product_at m c t (stg1 t) (hstg1 t) scr (Memref.isWhole_whole _) _ _) 5 (by omega) _ _ _ x
  · exact fun x => val_piece m c t h _ (product_at m c t (stg1 t) (hstg1 t) scr (Memref.isWhole_whole _) _ _) 4 (by omega) _ _ _ x
  · exact fun x => val_piece m c t h _ (product_at m c t (stg1 t) (hstg1 t) scr (Memref.isWhole_whole _) _ _) 3 (by omega) _ _ _ x
  · exact fun x => val_piece m c t h _ (product_at m c t (stg1 t) (hstg1 t) scr (Memref.isWhole_whole _) _ _) 2 (by omega) _ _ _ x
  · exact fun x => val_piece m c t h _ (product_at m c t (stg1 t) (hstg1 t) scr (Memref.isWhole_whole _) _ _) 1 (by omega) _ _ _ x
  · exact fun x => val_piece m c t h _ (product_at m c t (stg1 t) (hstg1 t) scr (Memref.isWhole_whole _) _ _) 0 (by omega) _ _ _ x

theorem blk4 (t : Fin cfg0.N) : (((cfg0.win 4).blk t).view.read (Elt Ideal) (show Buf (Elt Ideal) ((cfg0.win 4).arr.view.loc (c.tc : Thread nD τ)) from Gval m c) : Vec Ideal S512x8x128 .f32) = valBlk m c t := by
  have hi := idx4 t
  funext z
  rw [View.read_apply]
  show Gval m c _ = _
  unfold Gval valBlk
  refine congrArg₂ (proj m c) (Fin.ext ?_) (Fin.ext ?_)
  · show win0_4.index t 0 * 512 + 1 * (z 0).val = 512 * (t.val / 4) + (z 0).val
    rw [hi.1]; omega
  · show 3072 + 128 * (win0_4.index t 1 * 8 + 1 * (z 1).val) + (win0_4.index t 2 * 128 + 1 * (z 2).val) = 3072 + 128 * (z 1).val + (z 2).val
    rw [hi.2.1, hi.2.2]; omega

theorem blk4_cover (i : S512x8x128.Idx) : ∃ t : Fin cfg0.N, (cfg0.win 4).flush t = true ∧ i ∈ ((cfg0.win 4).blk t).view.set := by
  have h0 : (i 0 : Nat) < 512 := (i 0).isLt
  have h1 : (i 1 : Nat) < 8 := (i 1).isLt
  have h2 : (i 2 : Nat) < 128 := (i 2).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_4 t).mpr (by omega), ?_⟩
  have hi := idx4 t
  show i ∈ ((View.whole main_v3_2).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [hi.1]; omega
  | ⟨1, _⟩ =>
    show win0_4.index t 1 * 8 ≤ (i 1 : Nat) ∧ (i 1 : Nat) < win0_4.index t 1 * 8 + 8
    rw [hi.2.1]; omega
  | ⟨2, _⟩ =>
    show win0_4.index t 2 * 128 ≤ (i 2 : Nat) ∧ (i 2 : Nat) < win0_4.index t 2 * 128 + 128
    rw [hi.2.2]; omega

theorem valBlk_pt (t : Fin cfg0.N) : valBlk m c (pt 3 t) = valBlk m c t := by
  have e : (pt 3 t).val / 4 = t.val / 4 := by rw [pt_val 3 (by omega)]; omega
  funext z
  unfold valBlk
  refine congrArg₂ (proj m c) (Fin.ext ?_) rfl
  show 512 * ((pt 3 t).val / 4) + (z 0).val = 512 * (t.val / 4) + (z 0).val
  rw [e]

/-- The block of the cast keys. -/
def kbBlk (t : Fin cfg0.N) : Vec Ideal S512x1024 .bf16 := fun z =>
  proj m c ⟨512 * (t.val / 4) + (z 0).val, by have := lt_N t; have h0 : (z 0).val < 512 := (z 0).isLt; omega⟩
    ⟨2048 + (z 1).val, by have h1 : (z 1).val < 1024 := (z 1).isLt; omega⟩

/-- The result holding the cast keys. -/
def Gkb : Vec Ideal S512x1024 .bf16 := fun z =>
  proj m c ⟨(z 0).val, (z 0).isLt⟩ ⟨2048 + (z 1).val, by have h1 : (z 1).val < 1024 := (z 1).isLt; omega⟩

theorem kbOut_at (t : Fin cfg0.N) (h : t.val % 4 = 2) : kbOut m c t = kbBlk m c t := by
  funext z
  obtain ⟨r, e, rfl⟩ : ∃ (r : Fin 512) (e : Fin 1024), z = ix2 r e := ⟨z 0, z 1, by
    funext a
    match a with | ⟨0, _⟩ => rfl | ⟨1, _⟩ => rfl⟩
  unfold kbOut
  rw [dif_pos h]
  unfold kbPieces
  dsimp only [runC]
  refine (congrFun (View.read_writes_full _ _ _ _ _) (ix2 r e)).trans ?_
  refine Eq.trans (?_ : _ = proj m c ⟨512 * (t.val / 4) + r.val, by have := lt_N t; omega⟩ ⟨1024 * (t.val % 4) + e.val, by omega⟩) ?_
  · exact product_at m c t (stg1 t) (hstg1 t) scr (Memref.isWhole_whole _) _ _ _ _
  · unfold kbBlk
    refine congrArg₂ (proj m c) rfl (Fin.ext ?_)
    show 1024 * (t.val % 4) + e.val = 2048 + e.val
    omega

theorem blk5 (t : Fin cfg0.N) : (((cfg0.win 5).blk t).view.read (Elt Ideal) (show Buf (Elt Ideal) ((cfg0.win 5).arr.view.loc (c.tc : Thread nD τ)) from Gkb m c) : Vec Ideal S512x1024 .bf16) = kbBlk m c t := by
  have hi := idx5 t
  funext z
  rw [View.read_apply]
  show Gkb m c _ = _
  unfold Gkb kbBlk
  refine congrArg₂ (proj m c) (Fin.ext ?_) (Fin.ext ?_)
  · show win0_5.index t 0 * 512 + 1 * (z 0).val = 512 * (t.val / 4) + (z 0).val
    rw [hi.1]; omega
  · show 2048 + (win0_5.index t 1 * 1024 + 1 * (z 1).val) = 2048 + (z 1).val
    rw [hi.2]; omega

theorem blk5_cover (i : S512x1024.Idx) : ∃ t : Fin cfg0.N, (cfg0.win 5).flush t = true ∧ i ∈ ((cfg0.win 5).blk t).view.set := by
  have h0 : (i 0 : Nat) < 512 := (i 0).isLt
  have h1 : (i 1 : Nat) < 1024 := (i 1).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_5 t).mpr (by omega), ?_⟩
  have hi := idx5 t
  show i ∈ ((View.whole main_v3_3).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [hi.1]; omega
  | ⟨1, _⟩ =>
    show win0_5.index t 1 * 1024 ≤ (i 1 : Nat) ∧ (i 1 : Nat) < win0_5.index t 1 * 1024 + 1024
    rw [hi.2]; omega

theorem kbBlk_pt (t : Fin cfg0.N) : kbBlk m c (pt 2 t) = kbBlk m c t := by
  have e : (pt 2 t).val / 4 = t.val / 4 := by rw [pt_val 2 (by omega)]; omega
  funext z
  unfold kbBlk
  refine congrArg₂ (proj m c) (Fin.ext ?_) rfl
  show 512 * ((pt 2 t).val / 4) + (z 0).val = 512 * (t.val / 4) + (z 0).val
  rw [e]

/-- The block of the scaled queries. -/
def qaBlk (t : Fin cfg0.N) : Vec Ideal S512x1024 .bf16 := fun z =>
  qproj m c ⟨512 * (t.val / 4) + (z 0).val, by have := lt_N t; have h0 : (z 0).val < 512 := (z 0).isLt; omega⟩
    ⟨1024 + (z 1).val, by have h1 : (z 1).val < 1024 := (z 1).isLt; omega⟩

/-- The result holding the scaled queries. -/
def Gqa : Vec Ideal S512x1024 .bf16 := fun z =>
  qproj m c ⟨(z 0).val, (z 0).isLt⟩ ⟨1024 + (z 1).val, by have h1 : (z 1).val < 1024 := (z 1).isLt; omega⟩

theorem qaOut_at (t : Fin cfg0.N) (h : t.val % 4 = 1) : qaOut m c t = qaBlk m c t := by
  funext z
  obtain ⟨r, e, rfl⟩ : ∃ (r : Fin 512) (e : Fin 1024), z = ix2 r e := ⟨z 0, z 1, by
    funext a
    match a with | ⟨0, _⟩ => rfl | ⟨1, _⟩ => rfl⟩
  unfold qaOut
  rw [dif_pos h]
  unfold qaPieces
  dsimp only [runB]
  refine (congrFun (View.read_writes_full _ _ _ _ _) (ix2 r e)).trans ?_
  refine Eq.trans (?_ : _ = qproj m c ⟨512 * (t.val / 4) + r.val, by have := lt_N t; omega⟩ ⟨1024 * (t.val % 4) + e.val, by omega⟩) ?_
  · exact (pay3_at _ _ r e).trans (congrArg (fun y => y * Ideal.ofBits .f32 0x3E000000#32) (product_at m c t (stg1 t) (hstg1 t) scr (Memref.isWhole_whole _) _ _ r e))
  · unfold qaBlk
    refine congrArg₂ (qproj m c) rfl (Fin.ext ?_)
    show 1024 * (t.val % 4) + e.val = 1024 + e.val
    omega

theorem blk6 (t : Fin cfg0.N) : (((cfg0.win 6).blk t).view.read (Elt Ideal) (show Buf (Elt Ideal) ((cfg0.win 6).arr.view.loc (c.tc : Thread nD τ)) from Gqa m c) : Vec Ideal S512x1024 .bf16) = qaBlk m c t := by
  have hi := idx6 t
  funext z
  rw [View.read_apply]
  show Gqa m c _ = _
  unfold Gqa qaBlk
  refine congrArg₂ (qproj m c) (Fin.ext ?_) (Fin.ext ?_)
  · show win0_6.index t 0 * 512 + 1 * (z 0).val = 512 * (t.val / 4) + (z 0).val
    rw [hi.1]; omega
  · show 1024 + (win0_6.index t 1 * 1024 + 1 * (z 1).val) = 1024 + (z 1).val
    rw [hi.2]; omega

theorem blk6_cover (i : S512x1024.Idx) : ∃ t : Fin cfg0.N, (cfg0.win 6).flush t = true ∧ i ∈ ((cfg0.win 6).blk t).view.set := by
  have h0 : (i 0 : Nat) < 512 := (i 0).isLt
  have h1 : (i 1 : Nat) < 1024 := (i 1).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_6 t).mpr (by omega), ?_⟩
  have hi := idx6 t
  show i ∈ ((View.whole main_v3_4).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [hi.1]; omega
  | ⟨1, _⟩ =>
    show win0_6.index t 1 * 1024 ≤ (i 1 : Nat) ∧ (i 1 : Nat) < win0_6.index t 1 * 1024 + 1024
    rw [hi.2]; omega

theorem qaBlk_pt (t : Fin cfg0.N) : qaBlk m c (pt 1 t) = qaBlk m c t := by
  have e : (pt 1 t).val / 4 = t.val / 4 := by rw [pt_val 1 (by omega)]; omega
  funext z
  unfold qaBlk
  refine congrArg₂ (qproj m c) (Fin.ext ?_) rfl
  show 512 * ((pt 1 t).val / 4) + (z 0).val = 512 * (t.val / 4) + (z 0).val
  rw [e]

/-- The block of the cast values. -/
def vaBlk (t : Fin cfg0.N) : Vec Ideal S512x1024 .bf16 := fun z =>
  proj m c ⟨512 * (t.val / 4) + (z 0).val, by have := lt_N t; have h0 : (z 0).val < 512 := (z 0).isLt; omega⟩
    ⟨3072 + (z 1).val, by have h1 : (z 1).val < 1024 := (z 1).isLt; omega⟩

/-- The result holding the cast values. -/
def Gva : Vec Ideal S512x1024 .bf16 := fun z =>
  proj m c ⟨(z 0).val, (z 0).isLt⟩ ⟨3072 + (z 1).val, by have h1 : (z 1).val < 1024 := (z 1).isLt; omega⟩

theorem vaOut_at (t : Fin cfg0.N) (h : t.val % 4 = 3) : vaOut m c t = vaBlk m c t := by
  funext z
  obtain ⟨r, e, rfl⟩ : ∃ (r : Fin 512) (e : Fin 1024), z = ix2 r e := ⟨z 0, z 1, by
    funext a
    match a with | ⟨0, _⟩ => rfl | ⟨1, _⟩ => rfl⟩
  unfold vaOut
  rw [dif_pos h]
  unfold vaPieces
  dsimp only [runD]
  refine (congrFun (View.read_writes_full _ _ _ _ _) (ix2 r e)).trans ?_
  refine Eq.trans (?_ : _ = proj m c ⟨512 * (t.val / 4) + r.val, by have := lt_N t; omega⟩ ⟨1024 * (t.val % 4) + e.val, by omega⟩) ?_
  · exact product_at m c t (stg1 t) (hstg1 t) scr (Memref.isWhole_whole _) _ _ _ _
  · unfold vaBlk
    refine congrArg₂ (proj m c) rfl (Fin.ext ?_)
    show 1024 * (t.val % 4) + e.val = 3072 + e.val
    omega

theorem blk7 (t : Fin cfg0.N) : (((cfg0.win 7).blk t).view.read (Elt Ideal) (show Buf (Elt Ideal) ((cfg0.win 7).arr.view.loc (c.tc : Thread nD τ)) from Gva m c) : Vec Ideal S512x1024 .bf16) = vaBlk m c t := by
  have hi := idx7 t
  funext z
  rw [View.read_apply]
  show Gva m c _ = _
  unfold Gva vaBlk
  refine congrArg₂ (proj m c) (Fin.ext ?_) (Fin.ext ?_)
  · show win0_7.index t 0 * 512 + 1 * (z 0).val = 512 * (t.val / 4) + (z 0).val
    rw [hi.1]; omega
  · show 3072 + (win0_7.index t 1 * 1024 + 1 * (z 1).val) = 3072 + (z 1).val
    rw [hi.2]; omega

theorem blk7_cover (i : S512x1024.Idx) : ∃ t : Fin cfg0.N, (cfg0.win 7).flush t = true ∧ i ∈ ((cfg0.win 7).blk t).view.set := by
  have h0 : (i 0 : Nat) < 512 := (i 0).isLt
  have h1 : (i 1 : Nat) < 1024 := (i 1).isLt
  obtain ⟨t, ht⟩ : ∃ t : Fin cfg0.N, t.val = (i 0 : Nat) / 512 * 4 + 3 := ⟨⟨(i 0 : Nat) / 512 * 4 + 3, lt_of_lt_of_eq (by omega) N_0.symm⟩, rfl⟩
  refine ⟨t, (flush0_7 t).mpr (by omega), ?_⟩
  have hi := idx7 t
  show i ∈ ((View.whole main_v3_5).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + 512
    rw [hi.1]; omega
  | ⟨1, _⟩ =>
    show win0_7.index t 1 * 1024 ≤ (i 1 : Nat) ∧ (i 1 : Nat) < win0_7.index t 1 * 1024 + 1024
    rw [hi.2]; omega

theorem vaBlk_pt (t : Fin cfg0.N) : vaBlk m c (pt 3 t) = vaBlk m c t := by
  have e : (pt 3 t).val / 4 = t.val / 4 := by rw [pt_val 3 (by omega)]; omega
  funext z
  unfold vaBlk
  refine congrArg₂ (proj m c) (Fin.ext ?_) rfl
  show 512 * ((pt 3 t).val / 4) + (z 0).val = 512 * (t.val / 4) + (z 0).val
  rw [e]

/-- The kernel's run: the results are the products, the arguments unchanged. -/
theorem value : θ_run defs (onTc (τ := τ) (main (F := Ideal))) ⟨m, fun _ => 0, ρ⟩ (fun r => ∀ c : Dev nD,
      r.2.mem ((c.tc : Thread nD τ).loc main_v3_0) = Gst m c
      ∧ r.2.mem ((c.tc : Thread nD τ).loc main_v3_1) = Gkey m c
      ∧ r.2.mem ((c.tc : Thread nD τ).loc main_v3_2) = Gval m c
      ∧ r.2.mem ((c.tc : Thread nD τ).loc main_v3_3) = Gkb m c
      ∧ r.2.mem ((c.tc : Thread nD τ).loc main_v3_4) = Gqa m c
      ∧ r.2.mem ((c.tc : Thread nD τ).loc main_v3_5) = Gva m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨after, hl, ha⟩ := h.1.exists_exact c
    refine ⟨(ha 2).trans (((rdat m c).withAfter after).arrAt_eq_of_cover 2 (Gst m c) (fun t ht => ?_) blk2_cover),
      (ha 3).trans (((rdat m c).withAfter after).arrAt_eq_of_cover 3 (Gkey m c) (fun t ht => ?_) blk3_cover),
      (ha 4).trans (((rdat m c).withAfter after).arrAt_eq_of_cover 4 (Gval m c) (fun t ht => ?_) blk4_cover),
      (ha 5).trans (((rdat m c).withAfter after).arrAt_eq_of_cover 5 (Gkb m c) (fun t ht => ?_) blk5_cover),
      (ha 6).trans (((rdat m c).withAfter after).arrAt_eq_of_cover 6 (Gqa m c) (fun t ht => ?_) blk6_cover),
      (ha 7).trans (((rdat m c).withAfter after).arrAt_eq_of_cover 7 (Gva m c) (fun t ht => ?_) blk7_cover),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩
    · have h3 := (flush0_2 t).mp ht
      have e : holds m c 2 t (after 2 t) := (dats m 0 c).toRRel_leaves rfl (hl 2 t ht)
      have e' : after 2 t = stOut m c (pt 0 t) := (show _ → _ from e) (by omega)
      show (cfg0.win 2).cut (grid0.coords t) (after 2 t) = _
      rw [e', stOut_at m c (pt 0 t) (by rw [pt_val 0 (by omega)]; omega), stBlk_pt]
      exact (blk2 m c t).symm
    · have h3 := (flush0_3 t).mp ht
      have e : holds m c 3 t (after 3 t) := (dats m 0 c).toRRel_leaves rfl (hl 3 t ht)
      have e' : after 3 t = keyOut m c (pt 2 t) := (show _ → _ from e) (by omega)
      show (cfg0.win 3).cut (grid0.coords t) (after 3 t) = _
      rw [e', keyOut_at m c (pt 2 t) (by rw [pt_val 2 (by omega)]; omega), keyBlk_pt]
      exact (blk3 m c t).symm
    · have h3 := (flush0_4 t).mp ht
      have e : holds m c 4 t (after 4 t) := (dats m 0 c).toRRel_leaves rfl (hl 4 t ht)
      have e' : after 4 t = valOut m c (pt 3 t) := (show _ → _ from e) (by omega)
      show (cfg0.win 4).cut (grid0.coords t) (after 4 t) = _
      rw [e', valOut_at m c (pt 3 t) (by rw [pt_val 3 (by omega)]; omega), valBlk_pt]
      exact (blk4 m c t).symm
    · have h3 := (flush0_5 t).mp ht
      have e : holds m c 5 t (after 5 t) := (dats m 0 c).toRRel_leaves rfl (hl 5 t ht)
      have e' : after 5 t = kbOut m c (pt 2 t) := (show _ → _ from e) (by omega)
      show (cfg0.win 5).cut (grid0.coords t) (after 5 t) = _
      rw [e', kbOut_at m c (pt 2 t) (by rw [pt_val 2 (by omega)]; omega), kbBlk_pt]
      exact (blk5 m c t).symm
    · have h3 := (flush0_6 t).mp ht
      have e : holds m c 6 t (after 6 t) := (dats m 0 c).toRRel_leaves rfl (hl 6 t ht)
      have e' : after 6 t = qaOut m c (pt 1 t) := (show _ → _ from e) (by omega)
      show (cfg0.win 6).cut (grid0.coords t) (after 6 t) = _
      rw [e', qaOut_at m c (pt 1 t) (by rw [pt_val 1 (by omega)]; omega), qaBlk_pt]
      exact (blk6 m c t).symm
    · have h3 := (flush0_7 t).mp ht
      have e : holds m c 7 t (after 7 t) := (dats m 0 c).toRRel_leaves rfl (hl 7 t ht)
      have e' : after 7 t = vaOut m c (pt 3 t) := (show _ → _ from e) (by omega)
      show (cfg0.win 7).cut (grid0.coords t) (after 7 t) = _
      rw [e', vaOut_at m c (pt 3 t) (by rw [pt_val 3 (by omega)]; omega), vaBlk_pt]
      exact (blk7 m c t).symm)
    (launch m ρ)

end Cert.Kernel3Ideal.Proj

end
-- ==== Proof.Proj3.Ref.lean ====
/-
The reference of the projection call, read at an index: the same products.
-/
module

public import proofs.«01_k».proof.Proof.Proj3.Whole
public import proofs.«01_k».proof.Proof.Gen.Reference3Ideal
public import proofs.«01_k».proof.Proof.Gen.Reference3Ideal.Run
public import proofs.«01_k».proof.Proof.Gen.Reference3Ideal.Read

@[expose] public section

set_option maxRecDepth 65536

noncomputable section

namespace Cert.Kernel3Ideal.Proj

open Idealize.ShloMosaic Idealize.ShloMosaic.TcCoe Idealize.ShloMosaic.Tactic Idealize.SL.Sem
open Cert.Kernel3Ideal Cert.Kernel3Ideal.Gen

variable (m : (ℓ : Loc nD τ sig) → Buf (Elt Ideal) ℓ) (ρ : Dev nD → PrngReg) (c : Dev nD)

theorem ref_st : Cert.Reference3Ideal.Read.val_main_v3 (F := Ideal) (m (c, Proc.tc.devRef main_arg0)) (m (c, Proc.tc.devRef main_arg1)) = Gst m c := by
  funext i
  have h0 : (i 0).val < 512 := (i 0).isLt
  have h1 : (i 1).val < 1024 := (i 1).isLt
  rw [Cert.Reference3Ideal.Read.val_main_v3_apply, Cert.Reference3Ideal.Read.val_main_v2_apply, Cert.Reference3Ideal.Read.val_main_v1_apply]
  unfold Gst proj
  refine Finset.sum_congr rfl fun d _ => congrArg₂ (· * ·) ?_ ?_
  · unfold inp
    refine congrArg (m (c, Proc.tc.devRef main_arg0)) (funext fun a => Fin.ext ?_)
    match a with
    | ⟨0, _⟩ => show ((i 0).val * 1024 + (i 1).val) / 65536 = (i 0).val / 64; omega
    | ⟨1, _⟩ => show ((i 0).val * 1024 + (i 1).val) / 1024 % 64 = (i 0).val % 64; omega
    | ⟨2, _⟩ => rfl
  · rw [Cert.Reference3Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (((i 0).val * 1024 + (i 1).val) % 1024)) / 4096 % 2048 = d.val; omega
    | ⟨2, _⟩ => show (d.val * 4096 + (((i 0).val * 1024 + (i 1).val) % 1024)) % 4096 = 0 + (i 1).val; omega

theorem ref_key : Cert.Reference3Ideal.Read.val_main_v7 (F := Ideal) (m (c, Proc.tc.devRef main_arg0)) (m (c, Proc.tc.devRef main_arg1)) = Gkey m c := by
  funext i
  have h0 : (i 0).val < 512 := (i 0).isLt
  have h1 : (i 1).val < 8 := (i 1).isLt
  have h2 : (i 2).val < 128 := (i 2).isLt
  rw [Cert.Reference3Ideal.Read.val_main_v7_apply, Cert.Reference3Ideal.Read.val_main_v6_apply, Cert.Reference3Ideal.Read.val_main_v1_apply]
  unfold Gkey proj
  refine Finset.sum_congr rfl fun d _ => congrArg₂ (· * ·) ?_ ?_
  · unfold inp
    refine congrArg (m (c, Proc.tc.devRef main_arg0)) (funext fun a => Fin.ext ?_)
    match a with
    | ⟨0, _⟩ => show (((i 0).val * 8 + (i 1).val) * 128 + (i 2).val) / 65536 = (i 0).val / 64; omega
    | ⟨1, _⟩ => show (((i 0).val * 8 + (i 1).val) * 128 + (i 2).val) / 1024 % 64 = (i 0).val % 64; omega
    | ⟨2, _⟩ => rfl
  · rw [Cert.Reference3Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (2048 + (((i 0).val * 8 + (i 1).val) * 128 + (i 2).val) % 1024)) / 4096 % 2048 = d.val; omega
    | ⟨2, _⟩ => show (d.val * 4096 + (2048 + (((i 0).val * 8 + (i 1).val) * 128 + (i 2).val) % 1024)) % 4096 = 2048 + 128 * (i 1).val + (i 2).val; omega

theorem ref_val : Cert.Reference3Ideal.Read.val_main_v9 (F := Ideal) (m (c, Proc.tc.devRef main_arg0)) (m (c, Proc.tc.devRef main_arg1)) = Gval m c := by
  funext i
  have h0 : (i 0).val < 512 := (i 0).isLt
  have h1 : (i 1).val < 8 := (i 1).isLt
  have h2 : (i 2).val < 128 := (i 2).isLt
  rw [Cert.Reference3Ideal.Read.val_main_v9_apply, Cert.Reference3Ideal.Read.val_main_v8_apply, Cert.Reference3Ideal.Read.val_main_v1_apply]
  unfold Gval proj
  refine Finset.sum_congr rfl fun d _ => congrArg₂ (· * ·) ?_ ?_
  · unfold inp
    refine congrArg (m (c, Proc.tc.devRef main_arg0)) (funext fun a => Fin.ext ?_)
    match a with
    | ⟨0, _⟩ => show (((i 0).val * 8 + (i 1).val) * 128 + (i 2).val) / 65536 = (i 0).val / 64; omega
    | ⟨1, _⟩ => show (((i 0).val * 8 + (i 1).val) * 128 + (i 2).val) / 1024 % 64 = (i 0).val % 64; omega
    | ⟨2, _⟩ => rfl
  · rw [Cert.Reference3Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (3072 + (((i 0).val * 8 + (i 1).val) * 128 + (i 2).val) % 1024)) / 4096 % 2048 = d.val; omega
    | ⟨2, _⟩ => show (d.val * 4096 + (3072 + (((i 0).val * 8 + (i 1).val) * 128 + (i 2).val) % 1024)) % 4096 = 3072 + 128 * (i 1).val + (i 2).val; omega

theorem ref_kb : Cert.Reference3Ideal.Read.val_main_v12 (F := Ideal) (m (c, Proc.tc.devRef main_arg0)) (m (c, Proc.tc.devRef main_arg1)) = Gkb m c := by
  funext i
  have h0 : (i 0).val < 512 := (i 0).isLt
  have h1 : (i 1).val < 1024 := (i 1).isLt
  rw [Cert.Reference3Ideal.Read.val_main_v12_apply]
  refine Eq.trans (?_ : _ = Cert.Reference3Ideal.Read.val_main_v11 (F := Ideal) (m (c, Proc.tc.devRef main_arg0)) (m (c, Proc.tc.devRef main_arg1)) i) ?_
  · rfl
  rw [Cert.Reference3Ideal.Read.val_main_v11_apply, Cert.Reference3Ideal.Read.val_main_v10_apply, Cert.Reference3Ideal.Read.val_main_v1_apply]
  unfold Gkb proj
  refine Finset.sum_congr rfl fun d _ => congrArg₂ (· * ·) ?_ ?_
  · unfold inp
    refine congrArg (m (c, Proc.tc.devRef main_arg0)) (funext fun a => Fin.ext ?_)
    match a with
    | ⟨0, _⟩ => show ((i 0).val * 1024 + (i 1).val) / 65536 = (i 0).val / 64; omega
    | ⟨1, _⟩ => show ((i 0).val * 1024 + (i 1).val) / 1024 % 64 = (i 0).val % 64; omega
    | ⟨2, _⟩ => rfl
  · rw [Cert.Reference3Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (2048 + ((i 0).val * 1024 + (i 1).val) % 1024)) / 4096 % 2048 = d.val; omega
    | ⟨2, _⟩ => show (d.val * 4096 + (2048 + ((i 0).val * 1024 + (i 1).val) % 1024)) % 4096 = 2048 + (i 1).val; omega

theorem ref_va : Cert.Reference3Ideal.Read.val_main_v18 (F := Ideal) (m (c, Proc.tc.devRef main_arg0)) (m (c, Proc.tc.devRef main_arg1)) = Gva m c := by
  funext i
  have h0 : (i 0).val < 512 := (i 0).isLt
  have h1 : (i 1).val < 1024 := (i 1).isLt
  rw [Cert.Reference3Ideal.Read.val_main_v18_apply]
  refine Eq.trans (?_ : _ = Cert.Reference3Ideal.Read.val_main_v17 (F := Ideal) (m (c, Proc.tc.devRef main_arg0)) (m (c, Proc.tc.devRef main_arg1)) i) ?_
  · rfl
  rw [Cert.Reference3Ideal.Read.val_main_v17_apply, Cert.Reference3Ideal.Read.val_main_v16_apply, Cert.Reference3Ideal.Read.val_main_v1_apply]
  unfold Gva proj
  refine Finset.sum_congr rfl fun d _ => congrArg₂ (· * ·) ?_ ?_
  · unfold inp
    refine congrArg (m (c, Proc.tc.devRef main_arg0)) (funext fun a => Fin.ext ?_)
    match a with
    | ⟨0, _⟩ => show ((i 0).val * 1024 + (i 1).val) / 65536 = (i 0).val / 64; omega
    | ⟨1, _⟩ => show ((i 0).val * 1024 + (i 1).val) / 1024 % 64 = (i 0).val % 64; omega
    | ⟨2, _⟩ => rfl
  · rw [Cert.Reference3Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (3072 + ((i 0).val * 1024 + (i 1).val) % 1024)) / 4096 % 2048 = d.val; omega
    | ⟨2, _⟩ => show (d.val * 4096 + (3072 + ((i 0).val * 1024 + (i 1).val) % 1024)) % 4096 = 3072 + (i 1).val; omega

/-- The reference's query columns before scaling. -/
theorem ref_query : Cert.Reference3Ideal.Read.val_main_v5 (F := Ideal) (m (c, Proc.tc.devRef main_arg0)) (m (c, Proc.tc.devRef main_arg1)) = fun i => proj m c ⟨(i 0).val, (i 0).isLt⟩ ⟨1024 + (i 1).val, by have h1 : (i 1).val < 1024 := (i 1).isLt; omega⟩ := by
  funext i
  have h0 : (i 0).val < 512 := (i 0).isLt
  have h1 : (i 1).val < 1024 := (i 1).isLt
  rw [Cert.Reference3Ideal.Read.val_main_v5_apply, Cert.Reference3Ideal.Read.val_main_v4_apply, Cert.Reference3Ideal.Read.val_main_v1_apply]
  unfold proj
  refine Finset.sum_congr rfl fun d _ => congrArg₂ (· * ·) ?_ ?_
  · unfold inp
    refine congrArg (m (c, Proc.tc.devRef main_arg0)) (funext fun a => Fin.ext ?_)
    match a with
    | ⟨0, _⟩ => show ((i 0).val * 1024 + (i 1).val) / 65536 = (i 0).val / 64; omega
    | ⟨1, _⟩ => show ((i 0).val * 1024 + (i 1).val) / 1024 % 64 = (i 0).val % 64; omega
    | ⟨2, _⟩ => rfl
  · rw [Cert.Reference3Ideal.Read.val_main_v0_apply]
    unfold wgt
    have hd := d.isLt
    refine congrArg (m (c, Proc.tc.devRef main_arg1)) (funext fun a => Fin.ext ?_)
    match a with
    | ⟨0, _⟩ => rfl
    | ⟨1, _⟩ => show (d.val * 4096 + (1024 + ((i 0).val * 1024 + (i 1).val) % 1024)) / 4096 % 2048 = d.val; omega
    | ⟨2, _⟩ => show (d.val * 4096 + (1024 + ((i 0).val * 1024 + (i 1).val) % 1024)) % 4096 = 1024 + (i 1).val; omega

theorem ref_qa : Cert.Reference3Ideal.Read.val_main_v15 (F := Ideal) (m (c, Proc.tc.devRef main_arg0)) (m (c, Proc.tc.devRef main_arg1)) = Gqa m c := by
  funext i
  rw [Cert.Reference3Ideal.Read.val_main_v15_apply, Cert.Reference3Ideal.Read.val_main_v14_apply, Cert.Reference3Ideal.Read.val_main_v13_apply, Cert.Reference3Ideal.Read.val_main_cst_apply, ref_query]
  rfl

end Cert.Kernel3Ideal.Proj

end
-- ==== Proof.lean ====
module

public import Idealize.ShloMosaic.Lib.Quiescent
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.ReferenceIdeal.Run
public import proofs.«01_k».proof.Proof.Gen.ReferenceIdeal.Read
public import proofs.«01_k».proof.Proof.Attn.Frame
public import proofs.«01_k».proof.Proof.Attn.Whole
public import proofs.«01_k».proof.Proof.AttnBits.Frame
public import proofs.«01_k».proof.Proof.Proj.Frame
public import proofs.«01_k».proof.Proof.Proj.Ref
public import proofs.«01_k».proof.Proof.ProjBits.Frame
public import proofs.«01_k».proof.Proof.Proj3.Frame
public import proofs.«01_k».proof.Proof.Proj3.Ref
public import proofs.«01_k».proof.Proof.ProjBits3.Frame
public import Idealize.ShloMosaic.Adequacy
public import Idealize.ShloMosaic.Init

@[expose] public section

noncomputable section

namespace Cert.Proof

open Idealize.ShloMosaic Idealize.SL.Sem Cert.Kernel

/-- The two programs' results, over finite arguments. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  refine ⟨Cert.KernelIdeal.Attn.G m, Cert.KernelIdeal.Attn.value m g hpre, ?_⟩
  refine (θ_run _ _ _).mono (fun r h c => ⟨?_, (h c).2⟩) (Cert.ReferenceIdeal.Value.run m' g')
  obtain ⟨a0, a1, a2, a3, a4, a5, a6, a7, a8⟩ := hargs c
  refine (h c).1.trans ((Cert.ReferenceIdeal.Read.val_main_v101_eq (StableHlo.launchContents m' c)).trans ?_)
  unfold Cert.KernelIdeal.Attn.G
  rw [StableHlo.launchContents_devRef, StableHlo.launchContents_devRef, StableHlo.launchContents_devRef, StableHlo.launchContents_devRef, StableHlo.launchContents_devRef,
    StableHlo.launchContents_devRef, StableHlo.launchContents_devRef, StableHlo.launchContents_devRef, StableHlo.launchContents_devRef, a0, a1, a2, a3, a4, a5, a6, a7, a8]

/-- The projection call's results are the reference's. -/
theorem algebraic2 : Cert.algebraic_Kernel2Ideal_Reference2Ideal (hKernel2Ideal := Cert.Kernel2Ideal.Gen.facts) (hReference2Ideal := Cert.Reference2Ideal.Gen.facts) := by
  intro m g m' g' _ hargs
  refine ⟨Cert.Kernel2Ideal.Proj.Gst m, Cert.Kernel2Ideal.Proj.Gkey m, Cert.Kernel2Ideal.Proj.Gval m, Cert.Kernel2Ideal.Proj.Gkb m, Cert.Kernel2Ideal.Proj.Gqa m, Cert.Kernel2Ideal.Proj.Gva m, Cert.Kernel2Ideal.Proj.value m g, ?_⟩
  refine (θ_run _ _ _).mono (fun r h c => ⟨?_, ?_, ?_, ?_, ?_, ?_, (h c).2.2.2.2.2.2⟩) (Cert.Reference2Ideal.Value.run m' g')
  · obtain ⟨a0, a1⟩ := hargs c
    refine (h c).1.trans ((Cert.Reference2Ideal.Read.val_main_v3_eq _ _).trans ?_)
    rw [a0, a1]
    exact Cert.Kernel2Ideal.Proj.ref_st m c
  · obtain ⟨a0, a1⟩ := hargs c
    refine (h c).2.1.trans ((Cert.Reference2Ideal.Read.val_main_v7_eq _ _).trans ?_)
    rw [a0, a1]
    exact Cert.Kernel2Ideal.Proj.ref_key m c
  · obtain ⟨a0, a1⟩ := hargs c
    refine (h c).2.2.1.trans ((Cert.Reference2Ideal.Read.val_main_v9_eq _ _).trans ?_)
    rw [a0, a1]
    exact Cert.Kernel2Ideal.Proj.ref_val m c
  · obtain ⟨a0, a1⟩ := hargs c
    refine (h c).2.2.2.1.trans ((Cert.Reference2Ideal.Read.val_main_v12_eq _ _).trans ?_)
    rw [a0, a1]
    exact Cert.Kernel2Ideal.Proj.ref_kb m c
  · obtain ⟨a0, a1⟩ := hargs c
    refine (h c).2.2.2.2.1.trans ((Cert.Reference2Ideal.Read.val_main_v18_eq _ _).trans ?_)
    rw [a0, a1]
    exact Cert.Kernel2Ideal.Proj.ref_qa m c
  · obtain ⟨a0, a1⟩ := hargs c
    refine (h c).2.2.2.2.2.1.trans ((Cert.Reference2Ideal.Read.val_main_v20_eq _ _).trans ?_)
    rw [a0, a1]
    exact Cert.Kernel2Ideal.Proj.ref_va m c

/-- The results of the sample's projection are the reference's. -/
theorem algebraic3 : Cert.algebraic_Kernel3Ideal_Reference3Ideal (hKernel3Ideal := Cert.Kernel3Ideal.Gen.facts) (hReference3Ideal := Cert.Reference3Ideal.Gen.facts) := by
  intro m g m' g' _ hargs
  refine ⟨Cert.Kernel3Ideal.Proj.Gst m, Cert.Kernel3Ideal.Proj.Gkey m, Cert.Kernel3Ideal.Proj.Gval m, Cert.Kernel3Ideal.Proj.Gkb m, Cert.Kernel3Ideal.Proj.Gqa m, Cert.Kernel3Ideal.Proj.Gva m, Cert.Kernel3Ideal.Proj.value m g, ?_⟩
  refine (θ_run _ _ _).mono (fun r h c => ⟨?_, ?_, ?_, ?_, ?_, ?_, (h c).2.2.2.2.2.2⟩) (Cert.Reference3Ideal.Value.run m' g')
  · obtain ⟨a0, a1⟩ := hargs c
    refine (h c).1.trans ((Cert.Reference3Ideal.Read.val_main_v3_eq _ _).trans ?_)
    rw [a0, a1]
    exact Cert.Kernel3Ideal.Proj.ref_st m c
  · obtain ⟨a0, a1⟩ := hargs c
    refine (h c).2.1.trans ((Cert.Reference3Ideal.Read.val_main_v7_eq _ _).trans ?_)
    rw [a0, a1]
    exact Cert.Kernel3Ideal.Proj.ref_key m c
  · obtain ⟨a0, a1⟩ := hargs c
    refine (h c).2.2.1.trans ((Cert.Reference3Ideal.Read.val_main_v9_eq _ _).trans ?_)
    rw [a0, a1]
    exact Cert.Kernel3Ideal.Proj.ref_val m c
  · obtain ⟨a0, a1⟩ := hargs c
    refine (h c).2.2.2.1.trans ((Cert.Reference3Ideal.Read.val_main_v12_eq _ _).trans ?_)
    rw [a0, a1]
    exact Cert.Kernel3Ideal.Proj.ref_kb m c
  · obtain ⟨a0, a1⟩ := hargs c
    refine (h c).2.2.2.2.1.trans ((Cert.Reference3Ideal.Read.val_main_v15_eq _ _).trans ?_)
    rw [a0, a1]
    exact Cert.Kernel3Ideal.Proj.ref_qa m c
  · obtain ⟨a0, a1⟩ := hargs c
    refine (h c).2.2.2.2.2.1.trans ((Cert.Reference3Ideal.Read.val_main_v18_eq _ _).trans ?_)
    rw [a0, a1]
    exact Cert.Kernel3Ideal.Proj.ref_va m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite.Gen.facts,
  fun m ρ _ => Cert.Kernel.Attn.frame m ρ,
  fun m ρ _ => Cert.KernelIdeal.Attn.frame m ρ,
  fun m ρ _ => Cert.KernelIdeal.Attn.frame m ρ,
  fun m ρ _ => (θ_run _ _ _).mono (fun r h => ⟨fun c => (h c).2, sem_eq_zero_of_no_sems rfl r.2⟩) (Cert.ReferenceIdeal.Value.run m ρ),
  fun m ρ _ => (θ_run _ _ _).mono (fun r h => ⟨fun c => (h c).2, sem_eq_zero_of_no_sems rfl r.2⟩) (Cert.ReferenceIdeal.Value.run m ρ),
  fun m ρ _ => Cert.Kernel2.Proj.frame m ρ,
  fun m ρ _ => Cert.Kernel2Ideal.Proj.frame m ρ,
  fun m ρ _ => (θ_run _ _ _).mono (fun r h => ⟨fun c => (h c).2.2.2.2.2.2, sem_eq_zero_of_no_sems rfl r.2⟩) (Cert.Reference2Ideal.Value.run m ρ),
  fun m ρ _ => Cert.Kernel3.Proj.frame m ρ,
  fun m ρ _ => Cert.Kernel3Ideal.Proj.frame m ρ,
  fun m ρ _ => (θ_run _ _ _).mono (fun r h => ⟨fun c => (h c).2.2.2.2.2.2, sem_eq_zero_of_no_sems rfl r.2⟩) (Cert.Reference3Ideal.Value.run m ρ),
  IdealRules.named_const.statement Cert.KernelIdeal.κ "mask" .f32 0xF149F2CA#32 ⊥ rfl,
  algebraic,
  trivial,
  algebraic2,
  trivial,
  algebraic3⟩

end Cert.Proof

end
